-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5Ideal_finite [hPre_finite : Cert.Pre_finite.Facts] (m : (ℓ : Loc Cert.S5Ideal.nD Cert.S5Ideal.τ Cert.S5Ideal.sig) → Buf (Elt Ideal) ℓ) : Prop :=
  ∀ c : Dev Cert.S5Ideal.nD,
    (Cert.Pre_finite.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10))).1 = (fun _ => 1#1)
    ∧ (Cert.Pre_finite.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10))).2.1 = (fun _ => 1#1)
    ∧ (Cert.Pre_finite.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10))).2.2.1 = (fun _ => 1#1)
    ∧ (Cert.Pre_finite.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10))).2.2.2.1 = (fun _ => 1#1)
    ∧ (Cert.Pre_finite.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7)) (m ((c.tc : Thread Cert.S5Ideal.nD Cert.S5Ideal.τ).loc Cert.S5Ideal.main_arg8)) (m ((c.tc : Thread Cert.S5Ideal.nD Cert.S5Ideal.τ).loc Cert.S5Ideal.main_arg9)) (m ((c.tc : Thread Cert.S5Ideal.nD Cert.S5Ideal.τ).loc Cert.S5Ideal.main_arg10))).2.2.2.2 = (fun _ => 1#1)

def Pre_S5RefIdeal (m : (ℓ : Loc Cert.S5RefIdeal.nD Cert.S5RefIdeal.τ Cert.S5RefIdeal.sig) → Buf (Elt Ideal) ℓ) : Prop :=
  True

def Pre_S5RefIdeal_finite [hPre_finite : Cert.Pre_finite.Facts] (m : (ℓ : Loc Cert.S5RefIdeal.nD Cert.S5RefIdeal.τ Cert.S5RefIdeal.sig) → Buf (Elt Ideal) ℓ) : Prop :=
  ∀ c : Dev Cert.S5RefIdeal.nD,
    (Cert.Pre_finite.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7)) (m ((c.tc : Thread Cert.S5RefIdeal.nD Cert.S5RefIdeal.τ).loc Cert.S5RefIdeal.main_arg8)) (m ((c.tc : Thread Cert.S5RefIdeal.nD Cert.S5RefIdeal.τ).loc Cert.S5RefIdeal.main_arg9)) (m ((c.tc : Thread Cert.S5RefIdeal.nD Cert.S5RefIdeal.τ).loc Cert.S5RefIdeal.main_arg10))).1 = (fun _ => 1#1)
    ∧ (Cert.Pre_finite.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7)) (m ((c.tc : Thread Cert.S5RefIdeal.nD Cert.S5RefIdeal.τ).loc Cert.S5RefIdeal.main_arg8)) (m ((c.tc : Thread Cert.S5RefIdeal.nD Cert.S5RefIdeal.τ).loc Cert.S5RefIdeal.main_arg9)) (m ((c.tc : Thread Cert.S5RefIdeal.nD Cert.S5RefIdeal.τ).loc Cert.S5RefIdeal.main_arg10))).2.1 = (fun _ => 1#1)
    ∧ (Cert.Pre_finite.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7)) (m ((c.tc : Thread Cert.S5RefIdeal.nD Cert.S5RefIdeal.τ).loc Cert.S5RefIdeal.main_arg8)) (m ((c.tc : Thread Cert.S5RefIdeal.nD Cert.S5RefIdeal.τ).loc Cert.S5RefIdeal.main_arg9)) (m ((c.tc : Thread Cert.S5RefIdeal.nD Cert.S5RefIdeal.τ).loc Cert.S5RefIdeal.main_arg10))).2.2.1 = (fun _ => 1#1)
    ∧ (Cert.Pre_finite.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7)) (m ((c.tc : Thread Cert.S5RefIdeal.nD Cert.S5RefIdeal.τ).loc Cert.S5RefIdeal.main_arg8)) (m ((c.tc : Thread Cert.S5RefIdeal.nD Cert.S5RefIdeal.τ).loc Cert.S5RefIdeal.main_arg9)) (m ((c.tc : Thread Cert.S5RefIdeal.nD Cert.S5RefIdeal.τ).loc Cert.S5RefIdeal.main_arg10))).2.2.2.1 = (fun _ => 1#1)
    ∧ (Cert.Pre_finite.fn (F := Ideal) (m ((c.tc : Thread Cert.S5RefIdeal.nD Cert.S5RefIdeal.τ).loc Cert.S5RefIdeal.main_arg0)) (m ((c.tc : Thread Cert.S5RefIdeal.nD Cert.S5RefIdeal.τ).loc Cert.S5RefIdeal.main_arg1)) (m ((c.tc : Thread Cert.S5RefIdeal.nD Cert.S5RefIdeal.τ).loc Cert.S5RefIdeal.main_arg2)) (m ((c.tc : Thread Cert.S5RefIdeal.nD Cert.S5RefIdeal.τ).loc Cert.S5RefIdeal.main_arg3)) (m ((c.tc : Thread Cert.S5RefIdeal.nD Cert.S5RefIdeal.τ).loc Cert.S5RefIdeal.main_arg4)) (m ((c.tc : Thread Cert.S5RefIdeal.nD Cert.S5RefIdeal.τ).loc Cert.S5RefIdeal.main_arg5)) (m ((c.tc : Thread Cert.S5RefIdeal.nD Cert.S5RefIdeal.τ).loc Cert.S5RefIdeal.main_arg6)) (m ((c.tc : Thread Cert.S5RefIdeal.nD Cert.S5RefIdeal.τ).loc Cert.S5RefIdeal.main_arg7)) (m ((c.tc : Thread Cert.S5RefIdeal.nD Cert.S5RefIdeal.τ).loc Cert.S5RefIdeal.main_arg8)) (m ((c.tc : Thread Cert.S5RefIdeal.nD Cert.S5RefIdeal.τ).loc Cert.S5RefIdeal.main_arg9)) (m ((c.tc : Thread Cert.S5RefIdeal.nD Cert.S5RefIdeal.τ).loc Cert.S5RefIdeal.main_arg10))).2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DDown (m : (ℓ : Loc Cert.DDown.nD Cert.DDown.τ Cert.DDown.sig) → Buf (Elt Bits) ℓ) : Prop :=
  True

def Pre_DDownIdeal (m : (ℓ : Loc Cert.DDownIdeal.nD Cert.DDownIdeal.τ Cert.DDownIdeal.sig) → Buf (Elt Ideal) ℓ) : Prop :=
  True

def Pre_DDownRefIdeal (m : (ℓ : Loc Cert.DDownRefIdeal.nD Cert.DDownRefIdeal.τ Cert.DDownRefIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpRefIdeal (m : (ℓ : Loc Cert.DUpRefIdeal.nD Cert.DUpRefIdeal.τ Cert.DUpRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InT (m : (ℓ : Loc Cert.InT.nD Cert.InT.τ Cert.InT.sig) → Buf (Elt Bits) ℓ) : Prop :=
  True

def Pre_InTIdeal (m : (ℓ : Loc Cert.InTIdeal.nD Cert.InTIdeal.τ Cert.InTIdeal.sig) → Buf (Elt Ideal) ℓ) : Prop :=
  True

def Pre_InTRefIdeal (m : (ℓ : Loc Cert.InTRefIdeal.nD Cert.InTRefIdeal.τ Cert.InTRefIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInRefIdeal (m : (ℓ : Loc Cert.DInRefIdeal.nD Cert.DInRefIdeal.τ Cert.DInRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_DownL (m : (ℓ : Loc Cert.DownL.nD Cert.DownL.τ Cert.DownL.sig) → Buf (Elt Bits) ℓ) : Prop :=
  True

def Pre_DownLIdeal (m : (ℓ : Loc Cert.DownLIdeal.nD Cert.DownLIdeal.τ Cert.DownLIdeal.sig) → Buf (Elt Ideal) ℓ) : Prop :=
  True

def Pre_DownLRefIdeal (m : (ℓ : Loc Cert.DownLRefIdeal.nD Cert.DownLRefIdeal.τ Cert.DownLRefIdeal.sig) → Buf (Elt Ideal) ℓ) : Prop :=
  True

def Pre_DDownL (m : (ℓ : Loc Cert.DDownL.nD Cert.DDownL.τ Cert.DDownL.sig) → Buf (Elt Bits) ℓ) : Prop :=
  True

def Pre_DDownLIdeal (m : (ℓ : Loc Cert.DDownLIdeal.nD Cert.DDownLIdeal.τ Cert.DDownLIdeal.sig) → Buf (Elt Ideal) ℓ) : Prop :=
  True

def Pre_DDownLRefIdeal (m : (ℓ : Loc Cert.DDownLRefIdeal.nD Cert.DDownLRefIdeal.τ Cert.DDownLRefIdeal.sig) → Buf (Elt Ideal) ℓ) : Prop :=
  True

def Pre_DUpL (m : (ℓ : Loc Cert.DUpL.nD Cert.DUpL.τ Cert.DUpL.sig) → Buf (Elt Bits) ℓ) : Prop :=
  True

def Pre_DUpLIdeal (m : (ℓ : Loc Cert.DUpLIdeal.nD Cert.DUpLIdeal.τ Cert.DUpLIdeal.sig) → Buf (Elt Ideal) ℓ) : Prop :=
  True

def Pre_DUpLRefIdeal (m : (ℓ : Loc Cert.DUpLRefIdeal.nD Cert.DUpLRefIdeal.τ Cert.DUpLRefIdeal.sig) → Buf (Elt Ideal) ℓ) : Prop :=
  True

def Pre_UpL (m : (ℓ : Loc Cert.UpL.nD Cert.UpL.τ Cert.UpL.sig) → Buf (Elt Bits) ℓ) : Prop :=
  True

def Pre_UpLIdeal (m : (ℓ : Loc Cert.UpLIdeal.nD Cert.UpLIdeal.τ Cert.UpLIdeal.sig) → Buf (Elt Ideal) ℓ) : Prop :=
  True

def Pre_UpLRefIdeal (m : (ℓ : Loc Cert.UpLRefIdeal.nD Cert.UpLRefIdeal.τ Cert.UpLRefIdeal.sig) → Buf (Elt Ideal) ℓ) : Prop :=
  True

def Pre_UpFL (m : (ℓ : Loc Cert.UpFL.nD Cert.UpFL.τ Cert.UpFL.sig) → Buf (Elt Bits) ℓ) : Prop :=
  True

def Pre_UpFLIdeal (m : (ℓ : Loc Cert.UpFLIdeal.nD Cert.UpFLIdeal.τ Cert.UpFLIdeal.sig) → Buf (Elt Ideal) ℓ) : Prop :=
  True

def Pre_UpFLRefIdeal (m : (ℓ : Loc Cert.UpFLRefIdeal.nD Cert.UpFLRefIdeal.τ Cert.UpFLRefIdeal.sig) → Buf (Elt Ideal) ℓ) : Prop :=
  True

def Pre_DownFL (m : (ℓ : Loc Cert.DownFL.nD Cert.DownFL.τ Cert.DownFL.sig) → Buf (Elt Bits) ℓ) : Prop :=
  True

def Pre_DownFLIdeal (m : (ℓ : Loc Cert.DownFLIdeal.nD Cert.DownFLIdeal.τ Cert.DownFLIdeal.sig) → Buf (Elt Ideal) ℓ) : Prop :=
  True

def Pre_DownFLRefIdeal (m : (ℓ : Loc Cert.DownFLRefIdeal.nD Cert.DownFLRefIdeal.τ Cert.DownFLRefIdeal.sig) → Buf (Elt Ideal) ℓ) : Prop :=
  True

def Pre_OutE (m : (ℓ : Loc Cert.OutE.nD Cert.OutE.τ Cert.OutE.sig) → Buf (Elt Bits) ℓ) : Prop :=
  True

def Pre_OutEIdeal (m : (ℓ : Loc Cert.OutEIdeal.nD Cert.OutEIdeal.τ Cert.OutEIdeal.sig) → Buf (Elt Ideal) ℓ) : Prop :=
  True

def Pre_OutERefIdeal (m : (ℓ : Loc Cert.OutERefIdeal.nD Cert.OutERefIdeal.τ Cert.OutERefIdeal.sig) → Buf (Elt Ideal) ℓ) : Prop :=
  True

def Pre_OutO (m : (ℓ : Loc Cert.OutO.nD Cert.OutO.τ Cert.OutO.sig) → Buf (Elt Bits) ℓ) : Prop :=
  True

def Pre_OutOIdeal (m : (ℓ : Loc Cert.OutOIdeal.nD Cert.OutOIdeal.τ Cert.OutOIdeal.sig) → Buf (Elt Ideal) ℓ) : Prop :=
  True

def Pre_OutORefIdeal (m : (ℓ : Loc Cert.OutORefIdeal.nD Cert.OutORefIdeal.τ Cert.OutORefIdeal.sig) → Buf (Elt Ideal) ℓ) : Prop :=
  True

def Pre_OutET (m : (ℓ : Loc Cert.OutET.nD Cert.OutET.τ Cert.OutET.sig) → Buf (Elt Bits) ℓ) : Prop :=
  True

def Pre_OutETIdeal (m : (ℓ : Loc Cert.OutETIdeal.nD Cert.OutETIdeal.τ Cert.OutETIdeal.sig) → Buf (Elt Ideal) ℓ) : Prop :=
  True

def Pre_OutETRefIdeal (m : (ℓ : Loc Cert.OutETRefIdeal.nD Cert.OutETRefIdeal.τ Cert.OutETRefIdeal.sig) → Buf (Elt Ideal) ℓ) : Prop :=
  True

def Pre_OutOT (m : (ℓ : Loc Cert.OutOT.nD Cert.OutOT.τ Cert.OutOT.sig) → Buf (Elt Bits) ℓ) : Prop :=
  True

def Pre_OutOTIdeal (m : (ℓ : Loc Cert.OutOTIdeal.nD Cert.OutOTIdeal.τ Cert.OutOTIdeal.sig) → Buf (Elt Ideal) ℓ) : Prop :=
  True

def Pre_OutOTRefIdeal (m : (ℓ : Loc Cert.OutOTRefIdeal.nD Cert.OutOTRefIdeal.τ Cert.OutOTRefIdeal.sig) → Buf (Elt Ideal) ℓ) : Prop :=
  True

def Pre_GateT (m : (ℓ : Loc Cert.GateT.nD Cert.GateT.τ Cert.GateT.sig) → Buf (Elt Bits) ℓ) : Prop :=
  True

def Pre_GateTIdeal (m : (ℓ : Loc Cert.GateTIdeal.nD Cert.GateTIdeal.τ Cert.GateTIdeal.sig) → Buf (Elt Ideal) ℓ) : Prop :=
  True

def Pre_GateTRefIdeal (m : (ℓ : Loc Cert.GateTRefIdeal.nD Cert.GateTRefIdeal.τ Cert.GateTRefIdeal.sig) → Buf (Elt Ideal) ℓ) : Prop :=
  True

def Pre_GateLT (m : (ℓ : Loc Cert.GateLT.nD Cert.GateLT.τ Cert.GateLT.sig) → Buf (Elt Bits) ℓ) : Prop :=
  True

def Pre_GateLTIdeal (m : (ℓ : Loc Cert.GateLTIdeal.nD Cert.GateLTIdeal.τ Cert.GateLTIdeal.sig) → Buf (Elt Ideal) ℓ) : Prop :=
  True

def Pre_GateLTRefIdeal (m : (ℓ : Loc Cert.GateLTRefIdeal.nD Cert.GateLTRefIdeal.τ Cert.GateLTRefIdeal.sig) → Buf (Elt Ideal) ℓ) : Prop :=
  True

def Pre_DOutE (m : (ℓ : Loc Cert.DOutE.nD Cert.DOutE.τ Cert.DOutE.sig) → Buf (Elt Bits) ℓ) : Prop :=
  True

def Pre_DOutEIdeal (m : (ℓ : Loc Cert.DOutEIdeal.nD Cert.DOutEIdeal.τ Cert.DOutEIdeal.sig) → Buf (Elt Ideal) ℓ) : Prop :=
  True

def Pre_DOutERefIdeal (m : (ℓ : Loc Cert.DOutERefIdeal.nD Cert.DOutERefIdeal.τ Cert.DOutERefIdeal.sig) → Buf (Elt Ideal) ℓ) : Prop :=
  True

def Pre_DOutO (m : (ℓ : Loc Cert.DOutO.nD Cert.DOutO.τ Cert.DOutO.sig) → Buf (Elt Bits) ℓ) : Prop :=
  True

def Pre_DOutOIdeal (m : (ℓ : Loc Cert.DOutOIdeal.nD Cert.DOutOIdeal.τ Cert.DOutOIdeal.sig) → Buf (Elt Ideal) ℓ) : Prop :=
  True

def Pre_DOutORefIdeal (m : (ℓ : Loc Cert.DOutORefIdeal.nD Cert.DOutORefIdeal.τ Cert.DOutORefIdeal.sig) → Buf (Elt Ideal) ℓ) : Prop :=
  True

def Pre_DGlu (m : (ℓ : Loc Cert.DGlu.nD Cert.DGlu.τ Cert.DGlu.sig) → Buf (Elt Bits) ℓ) : Prop :=
  True

def Pre_DGluIdeal (m : (ℓ : Loc Cert.DGluIdeal.nD Cert.DGluIdeal.τ Cert.DGluIdeal.sig) → Buf (Elt Ideal) ℓ) : Prop :=
  True

def Pre_DGluRefIdeal (m : (ℓ : Loc Cert.DGluRefIdeal.nD Cert.DGluRefIdeal.τ Cert.DGluRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_DGateL (m : (ℓ : Loc Cert.DGateL.nD Cert.DGateL.τ Cert.DGateL.sig) → Buf (Elt Bits) ℓ) : Prop :=
  True

def Pre_DGateLIdeal (m : (ℓ : Loc Cert.DGateLIdeal.nD Cert.DGateLIdeal.τ Cert.DGateLIdeal.sig) → Buf (Elt Ideal) ℓ) : Prop :=
  True

def Pre_DGateLRefIdeal (m : (ℓ : Loc Cert.DGateLRefIdeal.nD Cert.DGateLRefIdeal.τ Cert.DGateLRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateL (m : (ℓ : Loc Cert.GateL.nD Cert.GateL.τ Cert.GateL.sig) → Buf (Elt Bits) ℓ) : Prop :=
  True

def Pre_GateLIdeal (m : (ℓ : Loc Cert.GateLIdeal.nD Cert.GateLIdeal.τ Cert.GateLIdeal.sig) → Buf (Elt Ideal) ℓ) : Prop :=
  True

def Pre_GateLRefIdeal (m : (ℓ : Loc Cert.GateLRefIdeal.nD Cert.GateLRefIdeal.τ Cert.GateLRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluT (m : (ℓ : Loc Cert.GluT.nD Cert.GluT.τ Cert.GluT.sig) → Buf (Elt Bits) ℓ) : Prop :=
  True

def Pre_GluTIdeal (m : (ℓ : Loc Cert.GluTIdeal.nD Cert.GluTIdeal.τ Cert.GluTIdeal.sig) → Buf (Elt Ideal) ℓ) : Prop :=
  True

def Pre_GluTRefIdeal (m : (ℓ : Loc Cert.GluTRefIdeal.nD Cert.GluTRefIdeal.τ Cert.GluTRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def quiescent_S5Ideal_pre_finite [hS5Ideal : Cert.S5Ideal.Facts] [hPre_finite : Cert.Pre_finite.Facts] : Prop :=
  ∀ (m : (ℓ : Loc Cert.S5Ideal.nD Cert.S5Ideal.τ Cert.S5Ideal.sig) → Buf (Elt Ideal) ℓ) (g : Dev Cert.S5Ideal.nD → PrngReg), Pre_S5Ideal_finite m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8)
      ∧ r.2.mem ((c.tc : Thread Cert.S5RefIdeal.nD Cert.S5RefIdeal.τ).loc Cert.S5RefIdeal.main_arg9) = m ((c.tc : Thread Cert.S5RefIdeal.nD Cert.S5RefIdeal.τ).loc Cert.S5RefIdeal.main_arg9)
      ∧ r.2.mem ((c.tc : Thread Cert.S5RefIdeal.nD Cert.S5RefIdeal.τ).loc Cert.S5RefIdeal.main_arg10) = m ((c.tc : Thread Cert.S5RefIdeal.nD Cert.S5RefIdeal.τ).loc Cert.S5RefIdeal.main_arg10))
      ∧ r.2.sem = fun _ => 0)

def quiescent_S5RefIdeal_pre_finite [hS5RefIdeal : Cert.S5RefIdeal.Facts] [hPre_finite : Cert.Pre_finite.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal_finite m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8)
      ∧ r.2.mem ((c.tc : Thread Cert.S5RefIdeal.nD Cert.S5RefIdeal.τ).loc Cert.S5RefIdeal.main_arg9) = m ((c.tc : Thread Cert.S5RefIdeal.nD Cert.S5RefIdeal.τ).loc Cert.S5RefIdeal.main_arg9)
      ∧ r.2.mem ((c.tc : Thread Cert.S5RefIdeal.nD Cert.S5RefIdeal.τ).loc Cert.S5RefIdeal.main_arg10) = m ((c.tc : Thread Cert.S5RefIdeal.nD Cert.S5RefIdeal.τ).loc Cert.S5RefIdeal.main_arg10))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DDown [hDDown : Cert.DDown.Facts] : Prop :=
  ∀ (m : (ℓ : Loc Cert.DDown.nD Cert.DDown.τ Cert.DDown.sig) → Buf (Elt Bits) ℓ) (g : Dev Cert.DDown.nD → PrngReg), Pre_DDown m →
    θ_run (Cert.DDown.defs (F := Bits)) (onTc (τ := Cert.DDown.τ) (Cert.DDown.main (F := Bits))) ⟨m, fun _ => 0, g⟩ (fun r => (∀ c : Dev Cert.DDown.nD,
      r.2.mem ((c.tc : Thread Cert.DDown.nD Cert.DDown.τ).loc Cert.DDown.main_arg0) = m ((c.tc : Thread Cert.DDown.nD Cert.DDown.τ).loc Cert.DDown.main_arg0)
      ∧ r.2.mem ((c.tc : Thread Cert.DDown.nD Cert.DDown.τ).loc Cert.DDown.main_arg1) = m ((c.tc : Thread Cert.DDown.nD Cert.DDown.τ).loc Cert.DDown.main_arg1)
      ∧ r.2.mem ((c.tc : Thread Cert.DDown.nD Cert.DDown.τ).loc Cert.DDown.main_arg2) = m ((c.tc : Thread Cert.DDown.nD Cert.DDown.τ).loc Cert.DDown.main_arg2))
      ∧ r.2.sem = fun _ => 0)

def quiescent_DDownIdeal [hDDownIdeal : Cert.DDownIdeal.Facts] : Prop :=
  ∀ (m : (ℓ : Loc Cert.DDownIdeal.nD Cert.DDownIdeal.τ Cert.DDownIdeal.sig) → Buf (Elt Ideal) ℓ) (g : Dev Cert.DDownIdeal.nD → PrngReg), Pre_DDownIdeal m →
    θ_run (Cert.DDownIdeal.defs (F := Ideal)) (onTc (τ := Cert.DDownIdeal.τ) (Cert.DDownIdeal.main (F := Ideal))) ⟨m, fun _ => 0, g⟩ (fun r => (∀ c : Dev Cert.DDownIdeal.nD,
      r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
      ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
      ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2))
      ∧ r.2.sem = fun _ => 0)

def quiescent_DDownRefIdeal [hDDownRefIdeal : Cert.DDownRefIdeal.Facts] : Prop :=
  ∀ (m : (ℓ : Loc Cert.DDownRefIdeal.nD Cert.DDownRefIdeal.τ Cert.DDownRefIdeal.sig) → Buf (Elt Ideal) ℓ) (g : Dev Cert.DDownRefIdeal.nD → PrngReg), Pre_DDownRefIdeal m →
    θ_run (Cert.DDownRefIdeal.defs (F := Ideal)) (onTc (τ := Cert.DDownRefIdeal.τ) (Cert.DDownRefIdeal.main (F := Ideal))) ⟨m, fun _ => 0, g⟩ (fun r => (∀ c : Dev Cert.DDownRefIdeal.nD,
      r.2.mem ((c.tc : Thread Cert.DDownRefIdeal.nD Cert.DDownRefIdeal.τ).loc Cert.DDownRefIdeal.main_arg0) = m ((c.tc : Thread Cert.DDownRefIdeal.nD Cert.DDownRefIdeal.τ).loc Cert.DDownRefIdeal.main_arg0)
      ∧ r.2.mem ((c.tc : Thread Cert.DDownRefIdeal.nD Cert.DDownRefIdeal.τ).loc Cert.DDownRefIdeal.main_arg1) = m ((c.tc : Thread Cert.DDownRefIdeal.nD Cert.DDownRefIdeal.τ).loc Cert.DDownRefIdeal.main_arg1)
      ∧ r.2.mem ((c.tc : Thread Cert.DDownRefIdeal.nD Cert.DDownRefIdeal.τ).loc Cert.DDownRefIdeal.main_arg2) = m ((c.tc : Thread Cert.DDownRefIdeal.nD Cert.DDownRefIdeal.τ).loc Cert.DDownRefIdeal.main_arg2))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ r.2.sem = fun _ => 0)

def quiescent_DUpRefIdeal [hDUpRefIdeal : Cert.DUpRefIdeal.Facts] : Prop :=
  ∀ (m : (ℓ : Loc Cert.DUpRefIdeal.nD Cert.DUpRefIdeal.τ Cert.DUpRefIdeal.sig) → Buf (Elt Ideal) ℓ) (g : Dev Cert.DUpRefIdeal.nD → PrngReg), Pre_DUpRefIdeal m →
    θ_run (Cert.DUpRefIdeal.defs (F := Ideal)) (onTc (τ := Cert.DUpRefIdeal.τ) (Cert.DUpRefIdeal.main (F := Ideal))) ⟨m, fun _ => 0, g⟩ (fun r => (∀ c : Dev Cert.DUpRefIdeal.nD,
      r.2.mem ((c.tc : Thread Cert.DUpRefIdeal.nD Cert.DUpRefIdeal.τ).loc Cert.DUpRefIdeal.main_arg0) = m ((c.tc : Thread Cert.DUpRefIdeal.nD Cert.DUpRefIdeal.τ).loc Cert.DUpRefIdeal.main_arg0)
      ∧ r.2.mem ((c.tc : Thread Cert.DUpRefIdeal.nD Cert.DUpRefIdeal.τ).loc Cert.DUpRefIdeal.main_arg1) = m ((c.tc : Thread Cert.DUpRefIdeal.nD Cert.DUpRefIdeal.τ).loc Cert.DUpRefIdeal.main_arg1)
      ∧ r.2.mem ((c.tc : Thread Cert.DUpRefIdeal.nD Cert.DUpRefIdeal.τ).loc Cert.DUpRefIdeal.main_arg2) = m ((c.tc : Thread Cert.DUpRefIdeal.nD Cert.DUpRefIdeal.τ).loc Cert.DUpRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_InT [hInT : Cert.InT.Facts] : Prop :=
  ∀ (m : (ℓ : Loc Cert.InT.nD Cert.InT.τ Cert.InT.sig) → Buf (Elt Bits) ℓ) (g : Dev Cert.InT.nD → PrngReg), Pre_InT m →
    θ_run (Cert.InT.defs (F := Bits)) (onTc (τ := Cert.InT.τ) (Cert.InT.main (F := Bits))) ⟨m, fun _ => 0, g⟩ (fun r => (∀ c : Dev Cert.InT.nD,
      r.2.mem ((c.tc : Thread Cert.InT.nD Cert.InT.τ).loc Cert.InT.main_arg0) = m ((c.tc : Thread Cert.InT.nD Cert.InT.τ).loc Cert.InT.main_arg0)
      ∧ r.2.mem ((c.tc : Thread Cert.InT.nD Cert.InT.τ).loc Cert.InT.main_arg1) = m ((c.tc : Thread Cert.InT.nD Cert.InT.τ).loc Cert.InT.main_arg1))
      ∧ r.2.sem = fun _ => 0)

def quiescent_InTIdeal [hInTIdeal : Cert.InTIdeal.Facts] : Prop :=
  ∀ (m : (ℓ : Loc Cert.InTIdeal.nD Cert.InTIdeal.τ Cert.InTIdeal.sig) → Buf (Elt Ideal) ℓ) (g : Dev Cert.InTIdeal.nD → PrngReg), Pre_InTIdeal m →
    θ_run (Cert.InTIdeal.defs (F := Ideal)) (onTc (τ := Cert.InTIdeal.τ) (Cert.InTIdeal.main (F := Ideal))) ⟨m, fun _ => 0, g⟩ (fun r => (∀ c : Dev Cert.InTIdeal.nD,
      r.2.mem ((c.tc : Thread Cert.InTIdeal.nD Cert.InTIdeal.τ).loc Cert.InTIdeal.main_arg0) = m ((c.tc : Thread Cert.InTIdeal.nD Cert.InTIdeal.τ).loc Cert.InTIdeal.main_arg0)
      ∧ r.2.mem ((c.tc : Thread Cert.InTIdeal.nD Cert.InTIdeal.τ).loc Cert.InTIdeal.main_arg1) = m ((c.tc : Thread Cert.InTIdeal.nD Cert.InTIdeal.τ).loc Cert.InTIdeal.main_arg1))
      ∧ r.2.sem = fun _ => 0)

def quiescent_InTRefIdeal [hInTRefIdeal : Cert.InTRefIdeal.Facts] : Prop :=
  ∀ (m : (ℓ : Loc Cert.InTRefIdeal.nD Cert.InTRefIdeal.τ Cert.InTRefIdeal.sig) → Buf (Elt Ideal) ℓ) (g : Dev Cert.InTRefIdeal.nD → PrngReg), Pre_InTRefIdeal m →
    θ_run (Cert.InTRefIdeal.defs (F := Ideal)) (onTc (τ := Cert.InTRefIdeal.τ) (Cert.InTRefIdeal.main (F := Ideal))) ⟨m, fun _ => 0, g⟩ (fun r => (∀ c : Dev Cert.InTRefIdeal.nD,
      r.2.mem ((c.tc : Thread Cert.InTRefIdeal.nD Cert.InTRefIdeal.τ).loc Cert.InTRefIdeal.main_arg0) = m ((c.tc : Thread Cert.InTRefIdeal.nD Cert.InTRefIdeal.τ).loc Cert.InTRefIdeal.main_arg0)
      ∧ r.2.mem ((c.tc : Thread Cert.InTRefIdeal.nD Cert.InTRefIdeal.τ).loc Cert.InTRefIdeal.main_arg1) = m ((c.tc : Thread Cert.InTRefIdeal.nD Cert.InTRefIdeal.τ).loc Cert.InTRefIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInRefIdeal [hDInRefIdeal : Cert.DInRefIdeal.Facts] : Prop :=
  ∀ (m : (ℓ : Loc Cert.DInRefIdeal.nD Cert.DInRefIdeal.τ Cert.DInRefIdeal.sig) → Buf (Elt Ideal) ℓ) (g : Dev Cert.DInRefIdeal.nD → PrngReg), Pre_DInRefIdeal m →
    θ_run (Cert.DInRefIdeal.defs (F := Ideal)) (onTc (τ := Cert.DInRefIdeal.τ) (Cert.DInRefIdeal.main (F := Ideal))) ⟨m, fun _ => 0, g⟩ (fun r => (∀ c : Dev Cert.DInRefIdeal.nD,
      r.2.mem ((c.tc : Thread Cert.DInRefIdeal.nD Cert.DInRefIdeal.τ).loc Cert.DInRefIdeal.main_arg0) = m ((c.tc : Thread Cert.DInRefIdeal.nD Cert.DInRefIdeal.τ).loc Cert.DInRefIdeal.main_arg0)
      ∧ r.2.mem ((c.tc : Thread Cert.DInRefIdeal.nD Cert.DInRefIdeal.τ).loc Cert.DInRefIdeal.main_arg1) = m ((c.tc : Thread Cert.DInRefIdeal.nD Cert.DInRefIdeal.τ).loc Cert.DInRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1))
      ∧ r.2.sem = fun _ => 0)

def quiescent_DownL [hDownL : Cert.DownL.Facts] : Prop :=
  ∀ (m : (ℓ : Loc Cert.DownL.nD Cert.DownL.τ Cert.DownL.sig) → Buf (Elt Bits) ℓ) (g : Dev Cert.DownL.nD → PrngReg), Pre_DownL m →
    θ_run (Cert.DownL.defs (F := Bits)) (onTc (τ := Cert.DownL.τ) (Cert.DownL.main (F := Bits))) ⟨m, fun _ => 0, g⟩ (fun r => (∀ c : Dev Cert.DownL.nD,
      r.2.mem ((c.tc : Thread Cert.DownL.nD Cert.DownL.τ).loc Cert.DownL.main_arg0) = m ((c.tc : Thread Cert.DownL.nD Cert.DownL.τ).loc Cert.DownL.main_arg0)
      ∧ r.2.mem ((c.tc : Thread Cert.DownL.nD Cert.DownL.τ).loc Cert.DownL.main_arg1) = m ((c.tc : Thread Cert.DownL.nD Cert.DownL.τ).loc Cert.DownL.main_arg1)
      ∧ r.2.mem ((c.tc : Thread Cert.DownL.nD Cert.DownL.τ).loc Cert.DownL.main_arg2) = m ((c.tc : Thread Cert.DownL.nD Cert.DownL.τ).loc Cert.DownL.main_arg2))
      ∧ r.2.sem = fun _ => 0)

def quiescent_DownLIdeal [hDownLIdeal : Cert.DownLIdeal.Facts] : Prop :=
  ∀ (m : (ℓ : Loc Cert.DownLIdeal.nD Cert.DownLIdeal.τ Cert.DownLIdeal.sig) → Buf (Elt Ideal) ℓ) (g : Dev Cert.DownLIdeal.nD → PrngReg), Pre_DownLIdeal m →
    θ_run (Cert.DownLIdeal.defs (F := Ideal)) (onTc (τ := Cert.DownLIdeal.τ) (Cert.DownLIdeal.main (F := Ideal))) ⟨m, fun _ => 0, g⟩ (fun r => (∀ c : Dev Cert.DownLIdeal.nD,
      r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
      ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
      ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ r.2.sem = fun _ => 0)

def quiescent_DownLRefIdeal [hDownLRefIdeal : Cert.DownLRefIdeal.Facts] : Prop :=
  ∀ (m : (ℓ : Loc Cert.DownLRefIdeal.nD Cert.DownLRefIdeal.τ Cert.DownLRefIdeal.sig) → Buf (Elt Ideal) ℓ) (g : Dev Cert.DownLRefIdeal.nD → PrngReg), Pre_DownLRefIdeal m →
    θ_run (Cert.DownLRefIdeal.defs (F := Ideal)) (onTc (τ := Cert.DownLRefIdeal.τ) (Cert.DownLRefIdeal.main (F := Ideal))) ⟨m, fun _ => 0, g⟩ (fun r => (∀ c : Dev Cert.DownLRefIdeal.nD,
      r.2.mem ((c.tc : Thread Cert.DownLRefIdeal.nD Cert.DownLRefIdeal.τ).loc Cert.DownLRefIdeal.main_arg0) = m ((c.tc : Thread Cert.DownLRefIdeal.nD Cert.DownLRefIdeal.τ).loc Cert.DownLRefIdeal.main_arg0)
      ∧ r.2.mem ((c.tc : Thread Cert.DownLRefIdeal.nD Cert.DownLRefIdeal.τ).loc Cert.DownLRefIdeal.main_arg1) = m ((c.tc : Thread Cert.DownLRefIdeal.nD Cert.DownLRefIdeal.τ).loc Cert.DownLRefIdeal.main_arg1)
      ∧ r.2.mem ((c.tc : Thread Cert.DownLRefIdeal.nD Cert.DownLRefIdeal.τ).loc Cert.DownLRefIdeal.main_arg2) = m ((c.tc : Thread Cert.DownLRefIdeal.nD Cert.DownLRefIdeal.τ).loc Cert.DownLRefIdeal.main_arg2))
      ∧ r.2.sem = fun _ => 0)

def quiescent_DDownL [hDDownL : Cert.DDownL.Facts] : Prop :=
  ∀ (m : (ℓ : Loc Cert.DDownL.nD Cert.DDownL.τ Cert.DDownL.sig) → Buf (Elt Bits) ℓ) (g : Dev Cert.DDownL.nD → PrngReg), Pre_DDownL m →
    θ_run (Cert.DDownL.defs (F := Bits)) (onTc (τ := Cert.DDownL.τ) (Cert.DDownL.main (F := Bits))) ⟨m, fun _ => 0, g⟩ (fun r => (∀ c : Dev Cert.DDownL.nD,
      r.2.mem ((c.tc : Thread Cert.DDownL.nD Cert.DDownL.τ).loc Cert.DDownL.main_arg0) = m ((c.tc : Thread Cert.DDownL.nD Cert.DDownL.τ).loc Cert.DDownL.main_arg0)
      ∧ r.2.mem ((c.tc : Thread Cert.DDownL.nD Cert.DDownL.τ).loc Cert.DDownL.main_arg1) = m ((c.tc : Thread Cert.DDownL.nD Cert.DDownL.τ).loc Cert.DDownL.main_arg1)
      ∧ r.2.mem ((c.tc : Thread Cert.DDownL.nD Cert.DDownL.τ).loc Cert.DDownL.main_arg2) = m ((c.tc : Thread Cert.DDownL.nD Cert.DDownL.τ).loc Cert.DDownL.main_arg2))
      ∧ r.2.sem = fun _ => 0)

def quiescent_DDownLIdeal [hDDownLIdeal : Cert.DDownLIdeal.Facts] : Prop :=
  ∀ (m : (ℓ : Loc Cert.DDownLIdeal.nD Cert.DDownLIdeal.τ Cert.DDownLIdeal.sig) → Buf (Elt Ideal) ℓ) (g : Dev Cert.DDownLIdeal.nD → PrngReg), Pre_DDownLIdeal m →
    θ_run (Cert.DDownLIdeal.defs (F := Ideal)) (onTc (τ := Cert.DDownLIdeal.τ) (Cert.DDownLIdeal.main (F := Ideal))) ⟨m, fun _ => 0, g⟩ (fun r => (∀ c : Dev Cert.DDownLIdeal.nD,
      r.2.mem ((c.tc : Thread Cert.DDownLIdeal.nD Cert.DDownLIdeal.τ).loc Cert.DDownLIdeal.main_arg0) = m ((c.tc : Thread Cert.DDownLIdeal.nD Cert.DDownLIdeal.τ).loc Cert.DDownLIdeal.main_arg0)
      ∧ r.2.mem ((c.tc : Thread Cert.DDownLIdeal.nD Cert.DDownLIdeal.τ).loc Cert.DDownLIdeal.main_arg1) = m ((c.tc : Thread Cert.DDownLIdeal.nD Cert.DDownLIdeal.τ).loc Cert.DDownLIdeal.main_arg1)
      ∧ r.2.mem ((c.tc : Thread Cert.DDownLIdeal.nD Cert.DDownLIdeal.τ).loc Cert.DDownLIdeal.main_arg2) = m ((c.tc : Thread Cert.DDownLIdeal.nD Cert.DDownLIdeal.τ).loc Cert.DDownLIdeal.main_arg2))
      ∧ r.2.sem = fun _ => 0)

def quiescent_DDownLRefIdeal [hDDownLRefIdeal : Cert.DDownLRefIdeal.Facts] : Prop :=
  ∀ (m : (ℓ : Loc Cert.DDownLRefIdeal.nD Cert.DDownLRefIdeal.τ Cert.DDownLRefIdeal.sig) → Buf (Elt Ideal) ℓ) (g : Dev Cert.DDownLRefIdeal.nD → PrngReg), Pre_DDownLRefIdeal m →
    θ_run (Cert.DDownLRefIdeal.defs (F := Ideal)) (onTc (τ := Cert.DDownLRefIdeal.τ) (Cert.DDownLRefIdeal.main (F := Ideal))) ⟨m, fun _ => 0, g⟩ (fun r => (∀ c : Dev Cert.DDownLRefIdeal.nD,
      r.2.mem ((c.tc : Thread Cert.DDownLRefIdeal.nD Cert.DDownLRefIdeal.τ).loc Cert.DDownLRefIdeal.main_arg0) = m ((c.tc : Thread Cert.DDownLRefIdeal.nD Cert.DDownLRefIdeal.τ).loc Cert.DDownLRefIdeal.main_arg0)
      ∧ r.2.mem ((c.tc : Thread Cert.DDownLRefIdeal.nD Cert.DDownLRefIdeal.τ).loc Cert.DDownLRefIdeal.main_arg1) = m ((c.tc : Thread Cert.DDownLRefIdeal.nD Cert.DDownLRefIdeal.τ).loc Cert.DDownLRefIdeal.main_arg1)
      ∧ r.2.mem ((c.tc : Thread Cert.DDownLRefIdeal.nD Cert.DDownLRefIdeal.τ).loc Cert.DDownLRefIdeal.main_arg2) = m ((c.tc : Thread Cert.DDownLRefIdeal.nD Cert.DDownLRefIdeal.τ).loc Cert.DDownLRefIdeal.main_arg2))
      ∧ r.2.sem = fun _ => 0)

def quiescent_DUpL [hDUpL : Cert.DUpL.Facts] : Prop :=
  ∀ (m : (ℓ : Loc Cert.DUpL.nD Cert.DUpL.τ Cert.DUpL.sig) → Buf (Elt Bits) ℓ) (g : Dev Cert.DUpL.nD → PrngReg), Pre_DUpL m →
    θ_run (Cert.DUpL.defs (F := Bits)) (onTc (τ := Cert.DUpL.τ) (Cert.DUpL.main (F := Bits))) ⟨m, fun _ => 0, g⟩ (fun r => (∀ c : Dev Cert.DUpL.nD,
      r.2.mem ((c.tc : Thread Cert.DUpL.nD Cert.DUpL.τ).loc Cert.DUpL.main_arg0) = m ((c.tc : Thread Cert.DUpL.nD Cert.DUpL.τ).loc Cert.DUpL.main_arg0)
      ∧ r.2.mem ((c.tc : Thread Cert.DUpL.nD Cert.DUpL.τ).loc Cert.DUpL.main_arg1) = m ((c.tc : Thread Cert.DUpL.nD Cert.DUpL.τ).loc Cert.DUpL.main_arg1)
      ∧ r.2.mem ((c.tc : Thread Cert.DUpL.nD Cert.DUpL.τ).loc Cert.DUpL.main_arg2) = m ((c.tc : Thread Cert.DUpL.nD Cert.DUpL.τ).loc Cert.DUpL.main_arg2))
      ∧ r.2.sem = fun _ => 0)

def quiescent_DUpLIdeal [hDUpLIdeal : Cert.DUpLIdeal.Facts] : Prop :=
  ∀ (m : (ℓ : Loc Cert.DUpLIdeal.nD Cert.DUpLIdeal.τ Cert.DUpLIdeal.sig) → Buf (Elt Ideal) ℓ) (g : Dev Cert.DUpLIdeal.nD → PrngReg), Pre_DUpLIdeal m →
    θ_run (Cert.DUpLIdeal.defs (F := Ideal)) (onTc (τ := Cert.DUpLIdeal.τ) (Cert.DUpLIdeal.main (F := Ideal))) ⟨m, fun _ => 0, g⟩ (fun r => (∀ c : Dev Cert.DUpLIdeal.nD,
      r.2.mem ((c.tc : Thread Cert.DUpLIdeal.nD Cert.DUpLIdeal.τ).loc Cert.DUpLIdeal.main_arg0) = m ((c.tc : Thread Cert.DUpLIdeal.nD Cert.DUpLIdeal.τ).loc Cert.DUpLIdeal.main_arg0)
      ∧ r.2.mem ((c.tc : Thread Cert.DUpLIdeal.nD Cert.DUpLIdeal.τ).loc Cert.DUpLIdeal.main_arg1) = m ((c.tc : Thread Cert.DUpLIdeal.nD Cert.DUpLIdeal.τ).loc Cert.DUpLIdeal.main_arg1)
      ∧ r.2.mem ((c.tc : Thread Cert.DUpLIdeal.nD Cert.DUpLIdeal.τ).loc Cert.DUpLIdeal.main_arg2) = m ((c.tc : Thread Cert.DUpLIdeal.nD Cert.DUpLIdeal.τ).loc Cert.DUpLIdeal.main_arg2))
      ∧ r.2.sem = fun _ => 0)

def quiescent_DUpLRefIdeal [hDUpLRefIdeal : Cert.DUpLRefIdeal.Facts] : Prop :=
  ∀ (m : (ℓ : Loc Cert.DUpLRefIdeal.nD Cert.DUpLRefIdeal.τ Cert.DUpLRefIdeal.sig) → Buf (Elt Ideal) ℓ) (g : Dev Cert.DUpLRefIdeal.nD → PrngReg), Pre_DUpLRefIdeal m →
    θ_run (Cert.DUpLRefIdeal.defs (F := Ideal)) (onTc (τ := Cert.DUpLRefIdeal.τ) (Cert.DUpLRefIdeal.main (F := Ideal))) ⟨m, fun _ => 0, g⟩ (fun r => (∀ c : Dev Cert.DUpLRefIdeal.nD,
      r.2.mem ((c.tc : Thread Cert.DUpLRefIdeal.nD Cert.DUpLRefIdeal.τ).loc Cert.DUpLRefIdeal.main_arg0) = m ((c.tc : Thread Cert.DUpLRefIdeal.nD Cert.DUpLRefIdeal.τ).loc Cert.DUpLRefIdeal.main_arg0)
      ∧ r.2.mem ((c.tc : Thread Cert.DUpLRefIdeal.nD Cert.DUpLRefIdeal.τ).loc Cert.DUpLRefIdeal.main_arg1) = m ((c.tc : Thread Cert.DUpLRefIdeal.nD Cert.DUpLRefIdeal.τ).loc Cert.DUpLRefIdeal.main_arg1)
      ∧ r.2.mem ((c.tc : Thread Cert.DUpLRefIdeal.nD Cert.DUpLRefIdeal.τ).loc Cert.DUpLRefIdeal.main_arg2) = m ((c.tc : Thread Cert.DUpLRefIdeal.nD Cert.DUpLRefIdeal.τ).loc Cert.DUpLRefIdeal.main_arg2))
      ∧ r.2.sem = fun _ => 0)

def quiescent_UpL [hUpL : Cert.UpL.Facts] : Prop :=
  ∀ (m : (ℓ : Loc Cert.UpL.nD Cert.UpL.τ Cert.UpL.sig) → Buf (Elt Bits) ℓ) (g : Dev Cert.UpL.nD → PrngReg), Pre_UpL m →
    θ_run (Cert.UpL.defs (F := Bits)) (onTc (τ := Cert.UpL.τ) (Cert.UpL.main (F := Bits))) ⟨m, fun _ => 0, g⟩ (fun r => (∀ c : Dev Cert.UpL.nD,
      r.2.mem ((c.tc : Thread Cert.UpL.nD Cert.UpL.τ).loc Cert.UpL.main_arg0) = m ((c.tc : Thread Cert.UpL.nD Cert.UpL.τ).loc Cert.UpL.main_arg0)
      ∧ r.2.mem ((c.tc : Thread Cert.UpL.nD Cert.UpL.τ).loc Cert.UpL.main_arg1) = m ((c.tc : Thread Cert.UpL.nD Cert.UpL.τ).loc Cert.UpL.main_arg1))
      ∧ r.2.sem = fun _ => 0)

def quiescent_UpLIdeal [hUpLIdeal : Cert.UpLIdeal.Facts] : Prop :=
  ∀ (m : (ℓ : Loc Cert.UpLIdeal.nD Cert.UpLIdeal.τ Cert.UpLIdeal.sig) → Buf (Elt Ideal) ℓ) (g : Dev Cert.UpLIdeal.nD → PrngReg), Pre_UpLIdeal m →
    θ_run (Cert.UpLIdeal.defs (F := Ideal)) (onTc (τ := Cert.UpLIdeal.τ) (Cert.UpLIdeal.main (F := Ideal))) ⟨m, fun _ => 0, g⟩ (fun r => (∀ c : Dev Cert.UpLIdeal.nD,
      r.2.mem ((c.tc : Thread Cert.UpLIdeal.nD Cert.UpLIdeal.τ).loc Cert.UpLIdeal.main_arg0) = m ((c.tc : Thread Cert.UpLIdeal.nD Cert.UpLIdeal.τ).loc Cert.UpLIdeal.main_arg0)
      ∧ r.2.mem ((c.tc : Thread Cert.UpLIdeal.nD Cert.UpLIdeal.τ).loc Cert.UpLIdeal.main_arg1) = m ((c.tc : Thread Cert.UpLIdeal.nD Cert.UpLIdeal.τ).loc Cert.UpLIdeal.main_arg1))
      ∧ r.2.sem = fun _ => 0)

def quiescent_UpLRefIdeal [hUpLRefIdeal : Cert.UpLRefIdeal.Facts] : Prop :=
  ∀ (m : (ℓ : Loc Cert.UpLRefIdeal.nD Cert.UpLRefIdeal.τ Cert.UpLRefIdeal.sig) → Buf (Elt Ideal) ℓ) (g : Dev Cert.UpLRefIdeal.nD → PrngReg), Pre_UpLRefIdeal m →
    θ_run (Cert.UpLRefIdeal.defs (F := Ideal)) (onTc (τ := Cert.UpLRefIdeal.τ) (Cert.UpLRefIdeal.main (F := Ideal))) ⟨m, fun _ => 0, g⟩ (fun r => (∀ c : Dev Cert.UpLRefIdeal.nD,
      r.2.mem ((c.tc : Thread Cert.UpLRefIdeal.nD Cert.UpLRefIdeal.τ).loc Cert.UpLRefIdeal.main_arg0) = m ((c.tc : Thread Cert.UpLRefIdeal.nD Cert.UpLRefIdeal.τ).loc Cert.UpLRefIdeal.main_arg0)
      ∧ r.2.mem ((c.tc : Thread Cert.UpLRefIdeal.nD Cert.UpLRefIdeal.τ).loc Cert.UpLRefIdeal.main_arg1) = m ((c.tc : Thread Cert.UpLRefIdeal.nD Cert.UpLRefIdeal.τ).loc Cert.UpLRefIdeal.main_arg1))
      ∧ r.2.sem = fun _ => 0)

def quiescent_UpFL [hUpFL : Cert.UpFL.Facts] : Prop :=
  ∀ (m : (ℓ : Loc Cert.UpFL.nD Cert.UpFL.τ Cert.UpFL.sig) → Buf (Elt Bits) ℓ) (g : Dev Cert.UpFL.nD → PrngReg), Pre_UpFL m →
    θ_run (Cert.UpFL.defs (F := Bits)) (onTc (τ := Cert.UpFL.τ) (Cert.UpFL.main (F := Bits))) ⟨m, fun _ => 0, g⟩ (fun r => (∀ c : Dev Cert.UpFL.nD,
      r.2.mem ((c.tc : Thread Cert.UpFL.nD Cert.UpFL.τ).loc Cert.UpFL.main_arg0) = m ((c.tc : Thread Cert.UpFL.nD Cert.UpFL.τ).loc Cert.UpFL.main_arg0)
      ∧ r.2.mem ((c.tc : Thread Cert.UpFL.nD Cert.UpFL.τ).loc Cert.UpFL.main_arg1) = m ((c.tc : Thread Cert.UpFL.nD Cert.UpFL.τ).loc Cert.UpFL.main_arg1))
      ∧ r.2.sem = fun _ => 0)

def quiescent_UpFLIdeal [hUpFLIdeal : Cert.UpFLIdeal.Facts] : Prop :=
  ∀ (m : (ℓ : Loc Cert.UpFLIdeal.nD Cert.UpFLIdeal.τ Cert.UpFLIdeal.sig) → Buf (Elt Ideal) ℓ) (g : Dev Cert.UpFLIdeal.nD → PrngReg), Pre_UpFLIdeal m →
    θ_run (Cert.UpFLIdeal.defs (F := Ideal)) (onTc (τ := Cert.UpFLIdeal.τ) (Cert.UpFLIdeal.main (F := Ideal))) ⟨m, fun _ => 0, g⟩ (fun r => (∀ c : Dev Cert.UpFLIdeal.nD,
      r.2.mem ((c.tc : Thread Cert.UpFLIdeal.nD Cert.UpFLIdeal.τ).loc Cert.UpFLIdeal.main_arg0) = m ((c.tc : Thread Cert.UpFLIdeal.nD Cert.UpFLIdeal.τ).loc Cert.UpFLIdeal.main_arg0)
      ∧ r.2.mem ((c.tc : Thread Cert.UpFLIdeal.nD Cert.UpFLIdeal.τ).loc Cert.UpFLIdeal.main_arg1) = m ((c.tc : Thread Cert.UpFLIdeal.nD Cert.UpFLIdeal.τ).loc Cert.UpFLIdeal.main_arg1))
      ∧ r.2.sem = fun _ => 0)

def quiescent_UpFLRefIdeal [hUpFLRefIdeal : Cert.UpFLRefIdeal.Facts] : Prop :=
  ∀ (m : (ℓ : Loc Cert.UpFLRefIdeal.nD Cert.UpFLRefIdeal.τ Cert.UpFLRefIdeal.sig) → Buf (Elt Ideal) ℓ) (g : Dev Cert.UpFLRefIdeal.nD → PrngReg), Pre_UpFLRefIdeal m →
    θ_run (Cert.UpFLRefIdeal.defs (F := Ideal)) (onTc (τ := Cert.UpFLRefIdeal.τ) (Cert.UpFLRefIdeal.main (F := Ideal))) ⟨m, fun _ => 0, g⟩ (fun r => (∀ c : Dev Cert.UpFLRefIdeal.nD,
      r.2.mem ((c.tc : Thread Cert.UpFLRefIdeal.nD Cert.UpFLRefIdeal.τ).loc Cert.UpFLRefIdeal.main_arg0) = m ((c.tc : Thread Cert.UpFLRefIdeal.nD Cert.UpFLRefIdeal.τ).loc Cert.UpFLRefIdeal.main_arg0)
      ∧ r.2.mem ((c.tc : Thread Cert.UpFLRefIdeal.nD Cert.UpFLRefIdeal.τ).loc Cert.UpFLRefIdeal.main_arg1) = m ((c.tc : Thread Cert.UpFLRefIdeal.nD Cert.UpFLRefIdeal.τ).loc Cert.UpFLRefIdeal.main_arg1))
      ∧ r.2.sem = fun _ => 0)

def quiescent_DownFL [hDownFL : Cert.DownFL.Facts] : Prop :=
  ∀ (m : (ℓ : Loc Cert.DownFL.nD Cert.DownFL.τ Cert.DownFL.sig) → Buf (Elt Bits) ℓ) (g : Dev Cert.DownFL.nD → PrngReg), Pre_DownFL m →
    θ_run (Cert.DownFL.defs (F := Bits)) (onTc (τ := Cert.DownFL.τ) (Cert.DownFL.main (F := Bits))) ⟨m, fun _ => 0, g⟩ (fun r => (∀ c : Dev Cert.DownFL.nD,
      r.2.mem ((c.tc : Thread Cert.DownFL.nD Cert.DownFL.τ).loc Cert.DownFL.main_arg0) = m ((c.tc : Thread Cert.DownFL.nD Cert.DownFL.τ).loc Cert.DownFL.main_arg0)
      ∧ r.2.mem ((c.tc : Thread Cert.DownFL.nD Cert.DownFL.τ).loc Cert.DownFL.main_arg1) = m ((c.tc : Thread Cert.DownFL.nD Cert.DownFL.τ).loc Cert.DownFL.main_arg1)
      ∧ r.2.mem ((c.tc : Thread Cert.DownFL.nD Cert.DownFL.τ).loc Cert.DownFL.main_arg2) = m ((c.tc : Thread Cert.DownFL.nD Cert.DownFL.τ).loc Cert.DownFL.main_arg2))
      ∧ r.2.sem = fun _ => 0)

def quiescent_DownFLIdeal [hDownFLIdeal : Cert.DownFLIdeal.Facts] : Prop :=
  ∀ (m : (ℓ : Loc Cert.DownFLIdeal.nD Cert.DownFLIdeal.τ Cert.DownFLIdeal.sig) → Buf (Elt Ideal) ℓ) (g : Dev Cert.DownFLIdeal.nD → PrngReg), Pre_DownFLIdeal m →
    θ_run (Cert.DownFLIdeal.defs (F := Ideal)) (onTc (τ := Cert.DownFLIdeal.τ) (Cert.DownFLIdeal.main (F := Ideal))) ⟨m, fun _ => 0, g⟩ (fun r => (∀ c : Dev Cert.DownFLIdeal.nD,
      r.2.mem ((c.tc : Thread Cert.DownFLIdeal.nD Cert.DownFLIdeal.τ).loc Cert.DownFLIdeal.main_arg0) = m ((c.tc : Thread Cert.DownFLIdeal.nD Cert.DownFLIdeal.τ).loc Cert.DownFLIdeal.main_arg0)
      ∧ r.2.mem ((c.tc : Thread Cert.DownFLIdeal.nD Cert.DownFLIdeal.τ).loc Cert.DownFLIdeal.main_arg1) = m ((c.tc : Thread Cert.DownFLIdeal.nD Cert.DownFLIdeal.τ).loc Cert.DownFLIdeal.main_arg1)
      ∧ r.2.mem ((c.tc : Thread Cert.DownFLIdeal.nD Cert.DownFLIdeal.τ).loc Cert.DownFLIdeal.main_arg2) = m ((c.tc : Thread Cert.DownFLIdeal.nD Cert.DownFLIdeal.τ).loc Cert.DownFLIdeal.main_arg2))
      ∧ r.2.sem = fun _ => 0)

def quiescent_DownFLRefIdeal [hDownFLRefIdeal : Cert.DownFLRefIdeal.Facts] : Prop :=
  ∀ (m : (ℓ : Loc Cert.DownFLRefIdeal.nD Cert.DownFLRefIdeal.τ Cert.DownFLRefIdeal.sig) → Buf (Elt Ideal) ℓ) (g : Dev Cert.DownFLRefIdeal.nD → PrngReg), Pre_DownFLRefIdeal m →
    θ_run (Cert.DownFLRefIdeal.defs (F := Ideal)) (onTc (τ := Cert.DownFLRefIdeal.τ) (Cert.DownFLRefIdeal.main (F := Ideal))) ⟨m, fun _ => 0, g⟩ (fun r => (∀ c : Dev Cert.DownFLRefIdeal.nD,
      r.2.mem ((c.tc : Thread Cert.DownFLRefIdeal.nD Cert.DownFLRefIdeal.τ).loc Cert.DownFLRefIdeal.main_arg0) = m ((c.tc : Thread Cert.DownFLRefIdeal.nD Cert.DownFLRefIdeal.τ).loc Cert.DownFLRefIdeal.main_arg0)
      ∧ r.2.mem ((c.tc : Thread Cert.DownFLRefIdeal.nD Cert.DownFLRefIdeal.τ).loc Cert.DownFLRefIdeal.main_arg1) = m ((c.tc : Thread Cert.DownFLRefIdeal.nD Cert.DownFLRefIdeal.τ).loc Cert.DownFLRefIdeal.main_arg1)
      ∧ r.2.mem ((c.tc : Thread Cert.DownFLRefIdeal.nD Cert.DownFLRefIdeal.τ).loc Cert.DownFLRefIdeal.main_arg2) = m ((c.tc : Thread Cert.DownFLRefIdeal.nD Cert.DownFLRefIdeal.τ).loc Cert.DownFLRefIdeal.main_arg2))
      ∧ r.2.sem = fun _ => 0)

def quiescent_OutE [hOutE : Cert.OutE.Facts] : Prop :=
  ∀ (m : (ℓ : Loc Cert.OutE.nD Cert.OutE.τ Cert.OutE.sig) → Buf (Elt Bits) ℓ) (g : Dev Cert.OutE.nD → PrngReg), Pre_OutE m →
    θ_run (Cert.OutE.defs (F := Bits)) (onTc (τ := Cert.OutE.τ) (Cert.OutE.main (F := Bits))) ⟨m, fun _ => 0, g⟩ (fun r => (∀ c : Dev Cert.OutE.nD,
      r.2.mem ((c.tc : Thread Cert.OutE.nD Cert.OutE.τ).loc Cert.OutE.main_arg0) = m ((c.tc : Thread Cert.OutE.nD Cert.OutE.τ).loc Cert.OutE.main_arg0)
      ∧ r.2.mem ((c.tc : Thread Cert.OutE.nD Cert.OutE.τ).loc Cert.OutE.main_arg1) = m ((c.tc : Thread Cert.OutE.nD Cert.OutE.τ).loc Cert.OutE.main_arg1)
      ∧ r.2.mem ((c.tc : Thread Cert.OutE.nD Cert.OutE.τ).loc Cert.OutE.main_arg2) = m ((c.tc : Thread Cert.OutE.nD Cert.OutE.τ).loc Cert.OutE.main_arg2))
      ∧ r.2.sem = fun _ => 0)

def quiescent_OutEIdeal [hOutEIdeal : Cert.OutEIdeal.Facts] : Prop :=
  ∀ (m : (ℓ : Loc Cert.OutEIdeal.nD Cert.OutEIdeal.τ Cert.OutEIdeal.sig) → Buf (Elt Ideal) ℓ) (g : Dev Cert.OutEIdeal.nD → PrngReg), Pre_OutEIdeal m →
    θ_run (Cert.OutEIdeal.defs (F := Ideal)) (onTc (τ := Cert.OutEIdeal.τ) (Cert.OutEIdeal.main (F := Ideal))) ⟨m, fun _ => 0, g⟩ (fun r => (∀ c : Dev Cert.OutEIdeal.nD,
      r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
      ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
      ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2))
      ∧ r.2.sem = fun _ => 0)

def quiescent_OutERefIdeal [hOutERefIdeal : Cert.OutERefIdeal.Facts] : Prop :=
  ∀ (m : (ℓ : Loc Cert.OutERefIdeal.nD Cert.OutERefIdeal.τ Cert.OutERefIdeal.sig) → Buf (Elt Ideal) ℓ) (g : Dev Cert.OutERefIdeal.nD → PrngReg), Pre_OutERefIdeal m →
    θ_run (Cert.OutERefIdeal.defs (F := Ideal)) (onTc (τ := Cert.OutERefIdeal.τ) (Cert.OutERefIdeal.main (F := Ideal))) ⟨m, fun _ => 0, g⟩ (fun r => (∀ c : Dev Cert.OutERefIdeal.nD,
      r.2.mem ((c.tc : Thread Cert.OutERefIdeal.nD Cert.OutERefIdeal.τ).loc Cert.OutERefIdeal.main_arg0) = m ((c.tc : Thread Cert.OutERefIdeal.nD Cert.OutERefIdeal.τ).loc Cert.OutERefIdeal.main_arg0)
      ∧ r.2.mem ((c.tc : Thread Cert.OutERefIdeal.nD Cert.OutERefIdeal.τ).loc Cert.OutERefIdeal.main_arg1) = m ((c.tc : Thread Cert.OutERefIdeal.nD Cert.OutERefIdeal.τ).loc Cert.OutERefIdeal.main_arg1)
      ∧ r.2.mem ((c.tc : Thread Cert.OutERefIdeal.nD Cert.OutERefIdeal.τ).loc Cert.OutERefIdeal.main_arg2) = m ((c.tc : Thread Cert.OutERefIdeal.nD Cert.OutERefIdeal.τ).loc Cert.OutERefIdeal.main_arg2))
      ∧ r.2.sem = fun _ => 0)

def quiescent_OutO [hOutO : Cert.OutO.Facts] : Prop :=
  ∀ (m : (ℓ : Loc Cert.OutO.nD Cert.OutO.τ Cert.OutO.sig) → Buf (Elt Bits) ℓ) (g : Dev Cert.OutO.nD → PrngReg), Pre_OutO m →
    θ_run (Cert.OutO.defs (F := Bits)) (onTc (τ := Cert.OutO.τ) (Cert.OutO.main (F := Bits))) ⟨m, fun _ => 0, g⟩ (fun r => (∀ c : Dev Cert.OutO.nD,
      r.2.mem ((c.tc : Thread Cert.OutO.nD Cert.OutO.τ).loc Cert.OutO.main_arg0) = m ((c.tc : Thread Cert.OutO.nD Cert.OutO.τ).loc Cert.OutO.main_arg0)
      ∧ r.2.mem ((c.tc : Thread Cert.OutO.nD Cert.OutO.τ).loc Cert.OutO.main_arg1) = m ((c.tc : Thread Cert.OutO.nD Cert.OutO.τ).loc Cert.OutO.main_arg1)
      ∧ r.2.mem ((c.tc : Thread Cert.OutO.nD Cert.OutO.τ).loc Cert.OutO.main_arg2) = m ((c.tc : Thread Cert.OutO.nD Cert.OutO.τ).loc Cert.OutO.main_arg2))
      ∧ r.2.sem = fun _ => 0)

def quiescent_OutOIdeal [hOutOIdeal : Cert.OutOIdeal.Facts] : Prop :=
  ∀ (m : (ℓ : Loc Cert.OutOIdeal.nD Cert.OutOIdeal.τ Cert.OutOIdeal.sig) → Buf (Elt Ideal) ℓ) (g : Dev Cert.OutOIdeal.nD → PrngReg), Pre_OutOIdeal m →
    θ_run (Cert.OutOIdeal.defs (F := Ideal)) (onTc (τ := Cert.OutOIdeal.τ) (Cert.OutOIdeal.main (F := Ideal))) ⟨m, fun _ => 0, g⟩ (fun r => (∀ c : Dev Cert.OutOIdeal.nD,
      r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
      ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
      ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2))
      ∧ r.2.sem = fun _ => 0)

def quiescent_OutORefIdeal [hOutORefIdeal : Cert.OutORefIdeal.Facts] : Prop :=
  ∀ (m : (ℓ : Loc Cert.OutORefIdeal.nD Cert.OutORefIdeal.τ Cert.OutORefIdeal.sig) → Buf (Elt Ideal) ℓ) (g : Dev Cert.OutORefIdeal.nD → PrngReg), Pre_OutORefIdeal m →
    θ_run (Cert.OutORefIdeal.defs (F := Ideal)) (onTc (τ := Cert.OutORefIdeal.τ) (Cert.OutORefIdeal.main (F := Ideal))) ⟨m, fun _ => 0, g⟩ (fun r => (∀ c : Dev Cert.OutORefIdeal.nD,
      r.2.mem ((c.tc : Thread Cert.OutORefIdeal.nD Cert.OutORefIdeal.τ).loc Cert.OutORefIdeal.main_arg0) = m ((c.tc : Thread Cert.OutORefIdeal.nD Cert.OutORefIdeal.τ).loc Cert.OutORefIdeal.main_arg0)
      ∧ r.2.mem ((c.tc : Thread Cert.OutORefIdeal.nD Cert.OutORefIdeal.τ).loc Cert.OutORefIdeal.main_arg1) = m ((c.tc : Thread Cert.OutORefIdeal.nD Cert.OutORefIdeal.τ).loc Cert.OutORefIdeal.main_arg1)
      ∧ r.2.mem ((c.tc : Thread Cert.OutORefIdeal.nD Cert.OutORefIdeal.τ).loc Cert.OutORefIdeal.main_arg2) = m ((c.tc : Thread Cert.OutORefIdeal.nD Cert.OutORefIdeal.τ).loc Cert.OutORefIdeal.main_arg2))
      ∧ r.2.sem = fun _ => 0)

def quiescent_OutET [hOutET : Cert.OutET.Facts] : Prop :=
  ∀ (m : (ℓ : Loc Cert.OutET.nD Cert.OutET.τ Cert.OutET.sig) → Buf (Elt Bits) ℓ) (g : Dev Cert.OutET.nD → PrngReg), Pre_OutET m →
    θ_run (Cert.OutET.defs (F := Bits)) (onTc (τ := Cert.OutET.τ) (Cert.OutET.main (F := Bits))) ⟨m, fun _ => 0, g⟩ (fun r => (∀ c : Dev Cert.OutET.nD,
      r.2.mem ((c.tc : Thread Cert.OutET.nD Cert.OutET.τ).loc Cert.OutET.main_arg0) = m ((c.tc : Thread Cert.OutET.nD Cert.OutET.τ).loc Cert.OutET.main_arg0)
      ∧ r.2.mem ((c.tc : Thread Cert.OutET.nD Cert.OutET.τ).loc Cert.OutET.main_arg1) = m ((c.tc : Thread Cert.OutET.nD Cert.OutET.τ).loc Cert.OutET.main_arg1))
      ∧ r.2.sem = fun _ => 0)

def quiescent_OutETIdeal [hOutETIdeal : Cert.OutETIdeal.Facts] : Prop :=
  ∀ (m : (ℓ : Loc Cert.OutETIdeal.nD Cert.OutETIdeal.τ Cert.OutETIdeal.sig) → Buf (Elt Ideal) ℓ) (g : Dev Cert.OutETIdeal.nD → PrngReg), Pre_OutETIdeal m →
    θ_run (Cert.OutETIdeal.defs (F := Ideal)) (onTc (τ := Cert.OutETIdeal.τ) (Cert.OutETIdeal.main (F := Ideal))) ⟨m, fun _ => 0, g⟩ (fun r => (∀ c : Dev Cert.OutETIdeal.nD,
      r.2.mem ((c.tc : Thread Cert.OutETIdeal.nD Cert.OutETIdeal.τ).loc Cert.OutETIdeal.main_arg0) = m ((c.tc : Thread Cert.OutETIdeal.nD Cert.OutETIdeal.τ).loc Cert.OutETIdeal.main_arg0)
      ∧ r.2.mem ((c.tc : Thread Cert.OutETIdeal.nD Cert.OutETIdeal.τ).loc Cert.OutETIdeal.main_arg1) = m ((c.tc : Thread Cert.OutETIdeal.nD Cert.OutETIdeal.τ).loc Cert.OutETIdeal.main_arg1))
      ∧ r.2.sem = fun _ => 0)

def quiescent_OutETRefIdeal [hOutETRefIdeal : Cert.OutETRefIdeal.Facts] : Prop :=
  ∀ (m : (ℓ : Loc Cert.OutETRefIdeal.nD Cert.OutETRefIdeal.τ Cert.OutETRefIdeal.sig) → Buf (Elt Ideal) ℓ) (g : Dev Cert.OutETRefIdeal.nD → PrngReg), Pre_OutETRefIdeal m →
    θ_run (Cert.OutETRefIdeal.defs (F := Ideal)) (onTc (τ := Cert.OutETRefIdeal.τ) (Cert.OutETRefIdeal.main (F := Ideal))) ⟨m, fun _ => 0, g⟩ (fun r => (∀ c : Dev Cert.OutETRefIdeal.nD,
      r.2.mem ((c.tc : Thread Cert.OutETRefIdeal.nD Cert.OutETRefIdeal.τ).loc Cert.OutETRefIdeal.main_arg0) = m ((c.tc : Thread Cert.OutETRefIdeal.nD Cert.OutETRefIdeal.τ).loc Cert.OutETRefIdeal.main_arg0)
      ∧ r.2.mem ((c.tc : Thread Cert.OutETRefIdeal.nD Cert.OutETRefIdeal.τ).loc Cert.OutETRefIdeal.main_arg1) = m ((c.tc : Thread Cert.OutETRefIdeal.nD Cert.OutETRefIdeal.τ).loc Cert.OutETRefIdeal.main_arg1))
      ∧ r.2.sem = fun _ => 0)

def quiescent_OutOT [hOutOT : Cert.OutOT.Facts] : Prop :=
  ∀ (m : (ℓ : Loc Cert.OutOT.nD Cert.OutOT.τ Cert.OutOT.sig) → Buf (Elt Bits) ℓ) (g : Dev Cert.OutOT.nD → PrngReg), Pre_OutOT m →
    θ_run (Cert.OutOT.defs (F := Bits)) (onTc (τ := Cert.OutOT.τ) (Cert.OutOT.main (F := Bits))) ⟨m, fun _ => 0, g⟩ (fun r => (∀ c : Dev Cert.OutOT.nD,
      r.2.mem ((c.tc : Thread Cert.OutOT.nD Cert.OutOT.τ).loc Cert.OutOT.main_arg0) = m ((c.tc : Thread Cert.OutOT.nD Cert.OutOT.τ).loc Cert.OutOT.main_arg0)
      ∧ r.2.mem ((c.tc : Thread Cert.OutOT.nD Cert.OutOT.τ).loc Cert.OutOT.main_arg1) = m ((c.tc : Thread Cert.OutOT.nD Cert.OutOT.τ).loc Cert.OutOT.main_arg1))
      ∧ r.2.sem = fun _ => 0)

def quiescent_OutOTIdeal [hOutOTIdeal : Cert.OutOTIdeal.Facts] : Prop :=
  ∀ (m : (ℓ : Loc Cert.OutOTIdeal.nD Cert.OutOTIdeal.τ Cert.OutOTIdeal.sig) → Buf (Elt Ideal) ℓ) (g : Dev Cert.OutOTIdeal.nD → PrngReg), Pre_OutOTIdeal m →
    θ_run (Cert.OutOTIdeal.defs (F := Ideal)) (onTc (τ := Cert.OutOTIdeal.τ) (Cert.OutOTIdeal.main (F := Ideal))) ⟨m, fun _ => 0, g⟩ (fun r => (∀ c : Dev Cert.OutOTIdeal.nD,
      r.2.mem ((c.tc : Thread Cert.OutOTIdeal.nD Cert.OutOTIdeal.τ).loc Cert.OutOTIdeal.main_arg0) = m ((c.tc : Thread Cert.OutOTIdeal.nD Cert.OutOTIdeal.τ).loc Cert.OutOTIdeal.main_arg0)
      ∧ r.2.mem ((c.tc : Thread Cert.OutOTIdeal.nD Cert.OutOTIdeal.τ).loc Cert.OutOTIdeal.main_arg1) = m ((c.tc : Thread Cert.OutOTIdeal.nD Cert.OutOTIdeal.τ).loc Cert.OutOTIdeal.main_arg1))
      ∧ r.2.sem = fun _ => 0)

def quiescent_OutOTRefIdeal [hOutOTRefIdeal : Cert.OutOTRefIdeal.Facts] : Prop :=
  ∀ (m : (ℓ : Loc Cert.OutOTRefIdeal.nD Cert.OutOTRefIdeal.τ Cert.OutOTRefIdeal.sig) → Buf (Elt Ideal) ℓ) (g : Dev Cert.OutOTRefIdeal.nD → PrngReg), Pre_OutOTRefIdeal m →
    θ_run (Cert.OutOTRefIdeal.defs (F := Ideal)) (onTc (τ := Cert.OutOTRefIdeal.τ) (Cert.OutOTRefIdeal.main (F := Ideal))) ⟨m, fun _ => 0, g⟩ (fun r => (∀ c : Dev Cert.OutOTRefIdeal.nD,
      r.2.mem ((c.tc : Thread Cert.OutOTRefIdeal.nD Cert.OutOTRefIdeal.τ).loc Cert.OutOTRefIdeal.main_arg0) = m ((c.tc : Thread Cert.OutOTRefIdeal.nD Cert.OutOTRefIdeal.τ).loc Cert.OutOTRefIdeal.main_arg0)
      ∧ r.2.mem ((c.tc : Thread Cert.OutOTRefIdeal.nD Cert.OutOTRefIdeal.τ).loc Cert.OutOTRefIdeal.main_arg1) = m ((c.tc : Thread Cert.OutOTRefIdeal.nD Cert.OutOTRefIdeal.τ).loc Cert.OutOTRefIdeal.main_arg1))
      ∧ r.2.sem = fun _ => 0)

def quiescent_GateT [hGateT : Cert.GateT.Facts] : Prop :=
  ∀ (m : (ℓ : Loc Cert.GateT.nD Cert.GateT.τ Cert.GateT.sig) → Buf (Elt Bits) ℓ) (g : Dev Cert.GateT.nD → PrngReg), Pre_GateT m →
    θ_run (Cert.GateT.defs (F := Bits)) (onTc (τ := Cert.GateT.τ) (Cert.GateT.main (F := Bits))) ⟨m, fun _ => 0, g⟩ (fun r => (∀ c : Dev Cert.GateT.nD,
      r.2.mem ((c.tc : Thread Cert.GateT.nD Cert.GateT.τ).loc Cert.GateT.main_arg0) = m ((c.tc : Thread Cert.GateT.nD Cert.GateT.τ).loc Cert.GateT.main_arg0)
      ∧ r.2.mem ((c.tc : Thread Cert.GateT.nD Cert.GateT.τ).loc Cert.GateT.main_arg1) = m ((c.tc : Thread Cert.GateT.nD Cert.GateT.τ).loc Cert.GateT.main_arg1))
      ∧ r.2.sem = fun _ => 0)

def quiescent_GateTIdeal [hGateTIdeal : Cert.GateTIdeal.Facts] : Prop :=
  ∀ (m : (ℓ : Loc Cert.GateTIdeal.nD Cert.GateTIdeal.τ Cert.GateTIdeal.sig) → Buf (Elt Ideal) ℓ) (g : Dev Cert.GateTIdeal.nD → PrngReg), Pre_GateTIdeal m →
    θ_run (Cert.GateTIdeal.defs (F := Ideal)) (onTc (τ := Cert.GateTIdeal.τ) (Cert.GateTIdeal.main (F := Ideal))) ⟨m, fun _ => 0, g⟩ (fun r => (∀ c : Dev Cert.GateTIdeal.nD,
      r.2.mem ((c.tc : Thread Cert.GateTIdeal.nD Cert.GateTIdeal.τ).loc Cert.GateTIdeal.main_arg0) = m ((c.tc : Thread Cert.GateTIdeal.nD Cert.GateTIdeal.τ).loc Cert.GateTIdeal.main_arg0)
      ∧ r.2.mem ((c.tc : Thread Cert.GateTIdeal.nD Cert.GateTIdeal.τ).loc Cert.GateTIdeal.main_arg1) = m ((c.tc : Thread Cert.GateTIdeal.nD Cert.GateTIdeal.τ).loc Cert.GateTIdeal.main_arg1))
      ∧ r.2.sem = fun _ => 0)

def quiescent_GateTRefIdeal [hGateTRefIdeal : Cert.GateTRefIdeal.Facts] : Prop :=
  ∀ (m : (ℓ : Loc Cert.GateTRefIdeal.nD Cert.GateTRefIdeal.τ Cert.GateTRefIdeal.sig) → Buf (Elt Ideal) ℓ) (g : Dev Cert.GateTRefIdeal.nD → PrngReg), Pre_GateTRefIdeal m →
    θ_run (Cert.GateTRefIdeal.defs (F := Ideal)) (onTc (τ := Cert.GateTRefIdeal.τ) (Cert.GateTRefIdeal.main (F := Ideal))) ⟨m, fun _ => 0, g⟩ (fun r => (∀ c : Dev Cert.GateTRefIdeal.nD,
      r.2.mem ((c.tc : Thread Cert.GateTRefIdeal.nD Cert.GateTRefIdeal.τ).loc Cert.GateTRefIdeal.main_arg0) = m ((c.tc : Thread Cert.GateTRefIdeal.nD Cert.GateTRefIdeal.τ).loc Cert.GateTRefIdeal.main_arg0)
      ∧ r.2.mem ((c.tc : Thread Cert.GateTRefIdeal.nD Cert.GateTRefIdeal.τ).loc Cert.GateTRefIdeal.main_arg1) = m ((c.tc : Thread Cert.GateTRefIdeal.nD Cert.GateTRefIdeal.τ).loc Cert.GateTRefIdeal.main_arg1))
      ∧ r.2.sem = fun _ => 0)

def quiescent_GateLT [hGateLT : Cert.GateLT.Facts] : Prop :=
  ∀ (m : (ℓ : Loc Cert.GateLT.nD Cert.GateLT.τ Cert.GateLT.sig) → Buf (Elt Bits) ℓ) (g : Dev Cert.GateLT.nD → PrngReg), Pre_GateLT m →
    θ_run (Cert.GateLT.defs (F := Bits)) (onTc (τ := Cert.GateLT.τ) (Cert.GateLT.main (F := Bits))) ⟨m, fun _ => 0, g⟩ (fun r => (∀ c : Dev Cert.GateLT.nD,
      r.2.mem ((c.tc : Thread Cert.GateLT.nD Cert.GateLT.τ).loc Cert.GateLT.main_arg0) = m ((c.tc : Thread Cert.GateLT.nD Cert.GateLT.τ).loc Cert.GateLT.main_arg0)
      ∧ r.2.mem ((c.tc : Thread Cert.GateLT.nD Cert.GateLT.τ).loc Cert.GateLT.main_arg1) = m ((c.tc : Thread Cert.GateLT.nD Cert.GateLT.τ).loc Cert.GateLT.main_arg1))
      ∧ r.2.sem = fun _ => 0)

def quiescent_GateLTIdeal [hGateLTIdeal : Cert.GateLTIdeal.Facts] : Prop :=
  ∀ (m : (ℓ : Loc Cert.GateLTIdeal.nD Cert.GateLTIdeal.τ Cert.GateLTIdeal.sig) → Buf (Elt Ideal) ℓ) (g : Dev Cert.GateLTIdeal.nD → PrngReg), Pre_GateLTIdeal m →
    θ_run (Cert.GateLTIdeal.defs (F := Ideal)) (onTc (τ := Cert.GateLTIdeal.τ) (Cert.GateLTIdeal.main (F := Ideal))) ⟨m, fun _ => 0, g⟩ (fun r => (∀ c : Dev Cert.GateLTIdeal.nD,
      r.2.mem ((c.tc : Thread Cert.GateLTIdeal.nD Cert.GateLTIdeal.τ).loc Cert.GateLTIdeal.main_arg0) = m ((c.tc : Thread Cert.GateLTIdeal.nD Cert.GateLTIdeal.τ).loc Cert.GateLTIdeal.main_arg0)
      ∧ r.2.mem ((c.tc : Thread Cert.GateLTIdeal.nD Cert.GateLTIdeal.τ).loc Cert.GateLTIdeal.main_arg1) = m ((c.tc : Thread Cert.GateLTIdeal.nD Cert.GateLTIdeal.τ).loc Cert.GateLTIdeal.main_arg1))
      ∧ r.2.sem = fun _ => 0)

def quiescent_GateLTRefIdeal [hGateLTRefIdeal : Cert.GateLTRefIdeal.Facts] : Prop :=
  ∀ (m : (ℓ : Loc Cert.GateLTRefIdeal.nD Cert.GateLTRefIdeal.τ Cert.GateLTRefIdeal.sig) → Buf (Elt Ideal) ℓ) (g : Dev Cert.GateLTRefIdeal.nD → PrngReg), Pre_GateLTRefIdeal m →
    θ_run (Cert.GateLTRefIdeal.defs (F := Ideal)) (onTc (τ := Cert.GateLTRefIdeal.τ) (Cert.GateLTRefIdeal.main (F := Ideal))) ⟨m, fun _ => 0, g⟩ (fun r => (∀ c : Dev Cert.GateLTRefIdeal.nD,
      r.2.mem ((c.tc : Thread Cert.GateLTRefIdeal.nD Cert.GateLTRefIdeal.τ).loc Cert.GateLTRefIdeal.main_arg0) = m ((c.tc : Thread Cert.GateLTRefIdeal.nD Cert.GateLTRefIdeal.τ).loc Cert.GateLTRefIdeal.main_arg0)
      ∧ r.2.mem ((c.tc : Thread Cert.GateLTRefIdeal.nD Cert.GateLTRefIdeal.τ).loc Cert.GateLTRefIdeal.main_arg1) = m ((c.tc : Thread Cert.GateLTRefIdeal.nD Cert.GateLTRefIdeal.τ).loc Cert.GateLTRefIdeal.main_arg1))
      ∧ r.2.sem = fun _ => 0)

def quiescent_DOutE [hDOutE : Cert.DOutE.Facts] : Prop :=
  ∀ (m : (ℓ : Loc Cert.DOutE.nD Cert.DOutE.τ Cert.DOutE.sig) → Buf (Elt Bits) ℓ) (g : Dev Cert.DOutE.nD → PrngReg), Pre_DOutE m →
    θ_run (Cert.DOutE.defs (F := Bits)) (onTc (τ := Cert.DOutE.τ) (Cert.DOutE.main (F := Bits))) ⟨m, fun _ => 0, g⟩ (fun r => (∀ c : Dev Cert.DOutE.nD,
      r.2.mem ((c.tc : Thread Cert.DOutE.nD Cert.DOutE.τ).loc Cert.DOutE.main_arg0) = m ((c.tc : Thread Cert.DOutE.nD Cert.DOutE.τ).loc Cert.DOutE.main_arg0)
      ∧ r.2.mem ((c.tc : Thread Cert.DOutE.nD Cert.DOutE.τ).loc Cert.DOutE.main_arg1) = m ((c.tc : Thread Cert.DOutE.nD Cert.DOutE.τ).loc Cert.DOutE.main_arg1)
      ∧ r.2.mem ((c.tc : Thread Cert.DOutE.nD Cert.DOutE.τ).loc Cert.DOutE.main_arg2) = m ((c.tc : Thread Cert.DOutE.nD Cert.DOutE.τ).loc Cert.DOutE.main_arg2))
      ∧ r.2.sem = fun _ => 0)

def quiescent_DOutEIdeal [hDOutEIdeal : Cert.DOutEIdeal.Facts] : Prop :=
  ∀ (m : (ℓ : Loc Cert.DOutEIdeal.nD Cert.DOutEIdeal.τ Cert.DOutEIdeal.sig) → Buf (Elt Ideal) ℓ) (g : Dev Cert.DOutEIdeal.nD → PrngReg), Pre_DOutEIdeal m →
    θ_run (Cert.DOutEIdeal.defs (F := Ideal)) (onTc (τ := Cert.DOutEIdeal.τ) (Cert.DOutEIdeal.main (F := Ideal))) ⟨m, fun _ => 0, g⟩ (fun r => (∀ c : Dev Cert.DOutEIdeal.nD,
      r.2.mem ((c.tc : Thread Cert.DOutEIdeal.nD Cert.DOutEIdeal.τ).loc Cert.DOutEIdeal.main_arg0) = m ((c.tc : Thread Cert.DOutEIdeal.nD Cert.DOutEIdeal.τ).loc Cert.DOutEIdeal.main_arg0)
      ∧ r.2.mem ((c.tc : Thread Cert.DOutEIdeal.nD Cert.DOutEIdeal.τ).loc Cert.DOutEIdeal.main_arg1) = m ((c.tc : Thread Cert.DOutEIdeal.nD Cert.DOutEIdeal.τ).loc Cert.DOutEIdeal.main_arg1)
      ∧ r.2.mem ((c.tc : Thread Cert.DOutEIdeal.nD Cert.DOutEIdeal.τ).loc Cert.DOutEIdeal.main_arg2) = m ((c.tc : Thread Cert.DOutEIdeal.nD Cert.DOutEIdeal.τ).loc Cert.DOutEIdeal.main_arg2))
      ∧ r.2.sem = fun _ => 0)

def quiescent_DOutERefIdeal [hDOutERefIdeal : Cert.DOutERefIdeal.Facts] : Prop :=
  ∀ (m : (ℓ : Loc Cert.DOutERefIdeal.nD Cert.DOutERefIdeal.τ Cert.DOutERefIdeal.sig) → Buf (Elt Ideal) ℓ) (g : Dev Cert.DOutERefIdeal.nD → PrngReg), Pre_DOutERefIdeal m →
    θ_run (Cert.DOutERefIdeal.defs (F := Ideal)) (onTc (τ := Cert.DOutERefIdeal.τ) (Cert.DOutERefIdeal.main (F := Ideal))) ⟨m, fun _ => 0, g⟩ (fun r => (∀ c : Dev Cert.DOutERefIdeal.nD,
      r.2.mem ((c.tc : Thread Cert.DOutERefIdeal.nD Cert.DOutERefIdeal.τ).loc Cert.DOutERefIdeal.main_arg0) = m ((c.tc : Thread Cert.DOutERefIdeal.nD Cert.DOutERefIdeal.τ).loc Cert.DOutERefIdeal.main_arg0)
      ∧ r.2.mem ((c.tc : Thread Cert.DOutERefIdeal.nD Cert.DOutERefIdeal.τ).loc Cert.DOutERefIdeal.main_arg1) = m ((c.tc : Thread Cert.DOutERefIdeal.nD Cert.DOutERefIdeal.τ).loc Cert.DOutERefIdeal.main_arg1)
      ∧ r.2.mem ((c.tc : Thread Cert.DOutERefIdeal.nD Cert.DOutERefIdeal.τ).loc Cert.DOutERefIdeal.main_arg2) = m ((c.tc : Thread Cert.DOutERefIdeal.nD Cert.DOutERefIdeal.τ).loc Cert.DOutERefIdeal.main_arg2))
      ∧ r.2.sem = fun _ => 0)

def quiescent_DOutO [hDOutO : Cert.DOutO.Facts] : Prop :=
  ∀ (m : (ℓ : Loc Cert.DOutO.nD Cert.DOutO.τ Cert.DOutO.sig) → Buf (Elt Bits) ℓ) (g : Dev Cert.DOutO.nD → PrngReg), Pre_DOutO m →
    θ_run (Cert.DOutO.defs (F := Bits)) (onTc (τ := Cert.DOutO.τ) (Cert.DOutO.main (F := Bits))) ⟨m, fun _ => 0, g⟩ (fun r => (∀ c : Dev Cert.DOutO.nD,
      r.2.mem ((c.tc : Thread Cert.DOutO.nD Cert.DOutO.τ).loc Cert.DOutO.main_arg0) = m ((c.tc : Thread Cert.DOutO.nD Cert.DOutO.τ).loc Cert.DOutO.main_arg0)
      ∧ r.2.mem ((c.tc : Thread Cert.DOutO.nD Cert.DOutO.τ).loc Cert.DOutO.main_arg1) = m ((c.tc : Thread Cert.DOutO.nD Cert.DOutO.τ).loc Cert.DOutO.main_arg1)
      ∧ r.2.mem ((c.tc : Thread Cert.DOutO.nD Cert.DOutO.τ).loc Cert.DOutO.main_arg2) = m ((c.tc : Thread Cert.DOutO.nD Cert.DOutO.τ).loc Cert.DOutO.main_arg2))
      ∧ r.2.sem = fun _ => 0)

def quiescent_DOutOIdeal [hDOutOIdeal : Cert.DOutOIdeal.Facts] : Prop :=
  ∀ (m : (ℓ : Loc Cert.DOutOIdeal.nD Cert.DOutOIdeal.τ Cert.DOutOIdeal.sig) → Buf (Elt Ideal) ℓ) (g : Dev Cert.DOutOIdeal.nD → PrngReg), Pre_DOutOIdeal m →
    θ_run (Cert.DOutOIdeal.defs (F := Ideal)) (onTc (τ := Cert.DOutOIdeal.τ) (Cert.DOutOIdeal.main (F := Ideal))) ⟨m, fun _ => 0, g⟩ (fun r => (∀ c : Dev Cert.DOutOIdeal.nD,
      r.2.mem ((c.tc : Thread Cert.DOutOIdeal.nD Cert.DOutOIdeal.τ).loc Cert.DOutOIdeal.main_arg0) = m ((c.tc : Thread Cert.DOutOIdeal.nD Cert.DOutOIdeal.τ).loc Cert.DOutOIdeal.main_arg0)
      ∧ r.2.mem ((c.tc : Thread Cert.DOutOIdeal.nD Cert.DOutOIdeal.τ).loc Cert.DOutOIdeal.main_arg1) = m ((c.tc : Thread Cert.DOutOIdeal.nD Cert.DOutOIdeal.τ).loc Cert.DOutOIdeal.main_arg1)
      ∧ r.2.mem ((c.tc : Thread Cert.DOutOIdeal.nD Cert.DOutOIdeal.τ).loc Cert.DOutOIdeal.main_arg2) = m ((c.tc : Thread Cert.DOutOIdeal.nD Cert.DOutOIdeal.τ).loc Cert.DOutOIdeal.main_arg2))
      ∧ r.2.sem = fun _ => 0)

def quiescent_DOutORefIdeal [hDOutORefIdeal : Cert.DOutORefIdeal.Facts] : Prop :=
  ∀ (m : (ℓ : Loc Cert.DOutORefIdeal.nD Cert.DOutORefIdeal.τ Cert.DOutORefIdeal.sig) → Buf (Elt Ideal) ℓ) (g : Dev Cert.DOutORefIdeal.nD → PrngReg), Pre_DOutORefIdeal m →
    θ_run (Cert.DOutORefIdeal.defs (F := Ideal)) (onTc (τ := Cert.DOutORefIdeal.τ) (Cert.DOutORefIdeal.main (F := Ideal))) ⟨m, fun _ => 0, g⟩ (fun r => (∀ c : Dev Cert.DOutORefIdeal.nD,
      r.2.mem ((c.tc : Thread Cert.DOutORefIdeal.nD Cert.DOutORefIdeal.τ).loc Cert.DOutORefIdeal.main_arg0) = m ((c.tc : Thread Cert.DOutORefIdeal.nD Cert.DOutORefIdeal.τ).loc Cert.DOutORefIdeal.main_arg0)
      ∧ r.2.mem ((c.tc : Thread Cert.DOutORefIdeal.nD Cert.DOutORefIdeal.τ).loc Cert.DOutORefIdeal.main_arg1) = m ((c.tc : Thread Cert.DOutORefIdeal.nD Cert.DOutORefIdeal.τ).loc Cert.DOutORefIdeal.main_arg1)
      ∧ r.2.mem ((c.tc : Thread Cert.DOutORefIdeal.nD Cert.DOutORefIdeal.τ).loc Cert.DOutORefIdeal.main_arg2) = m ((c.tc : Thread Cert.DOutORefIdeal.nD Cert.DOutORefIdeal.τ).loc Cert.DOutORefIdeal.main_arg2))
      ∧ r.2.sem = fun _ => 0)

def quiescent_DGlu [hDGlu : Cert.DGlu.Facts] : Prop :=
  ∀ (m : (ℓ : Loc Cert.DGlu.nD Cert.DGlu.τ Cert.DGlu.sig) → Buf (Elt Bits) ℓ) (g : Dev Cert.DGlu.nD → PrngReg), Pre_DGlu m →
    θ_run (Cert.DGlu.defs (F := Bits)) (onTc (τ := Cert.DGlu.τ) (Cert.DGlu.main (F := Bits))) ⟨m, fun _ => 0, g⟩ (fun r => (∀ c : Dev Cert.DGlu.nD,
      r.2.mem ((c.tc : Thread Cert.DGlu.nD Cert.DGlu.τ).loc Cert.DGlu.main_arg0) = m ((c.tc : Thread Cert.DGlu.nD Cert.DGlu.τ).loc Cert.DGlu.main_arg0)
      ∧ r.2.mem ((c.tc : Thread Cert.DGlu.nD Cert.DGlu.τ).loc Cert.DGlu.main_arg1) = m ((c.tc : Thread Cert.DGlu.nD Cert.DGlu.τ).loc Cert.DGlu.main_arg1)
      ∧ r.2.mem ((c.tc : Thread Cert.DGlu.nD Cert.DGlu.τ).loc Cert.DGlu.main_arg2) = m ((c.tc : Thread Cert.DGlu.nD Cert.DGlu.τ).loc Cert.DGlu.main_arg2))
      ∧ r.2.sem = fun _ => 0)

def quiescent_DGluIdeal [hDGluIdeal : Cert.DGluIdeal.Facts] : Prop :=
  ∀ (m : (ℓ : Loc Cert.DGluIdeal.nD Cert.DGluIdeal.τ Cert.DGluIdeal.sig) → Buf (Elt Ideal) ℓ) (g : Dev Cert.DGluIdeal.nD → PrngReg), Pre_DGluIdeal m →
    θ_run (Cert.DGluIdeal.defs (F := Ideal)) (onTc (τ := Cert.DGluIdeal.τ) (Cert.DGluIdeal.main (F := Ideal))) ⟨m, fun _ => 0, g⟩ (fun r => (∀ c : Dev Cert.DGluIdeal.nD,
      r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
      ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1)
      ∧ r.2.mem ((c.tc : Thread Cert.DGluIdeal.nD Cert.DGluIdeal.τ).loc Cert.DGluIdeal.main_arg2) = m ((c.tc : Thread Cert.DGluIdeal.nD Cert.DGluIdeal.τ).loc Cert.DGluIdeal.main_arg2))
      ∧ r.2.sem = fun _ => 0)

def quiescent_DGluRefIdeal [hDGluRefIdeal : Cert.DGluRefIdeal.Facts] : Prop :=
  ∀ (m : (ℓ : Loc Cert.DGluRefIdeal.nD Cert.DGluRefIdeal.τ Cert.DGluRefIdeal.sig) → Buf (Elt Ideal) ℓ) (g : Dev Cert.DGluRefIdeal.nD → PrngReg), Pre_DGluRefIdeal m →
    θ_run (Cert.DGluRefIdeal.defs (F := Ideal)) (onTc (τ := Cert.DGluRefIdeal.τ) (Cert.DGluRefIdeal.main (F := Ideal))) ⟨m, fun _ => 0, g⟩ (fun r => (∀ c : Dev Cert.DGluRefIdeal.nD,
      r.2.mem ((c.tc : Thread Cert.DGluRefIdeal.nD Cert.DGluRefIdeal.τ).loc Cert.DGluRefIdeal.main_arg0) = m ((c.tc : Thread Cert.DGluRefIdeal.nD Cert.DGluRefIdeal.τ).loc Cert.DGluRefIdeal.main_arg0)
      ∧ r.2.mem ((c.tc : Thread Cert.DGluRefIdeal.nD Cert.DGluRefIdeal.τ).loc Cert.DGluRefIdeal.main_arg1) = m ((c.tc : Thread Cert.DGluRefIdeal.nD Cert.DGluRefIdeal.τ).loc Cert.DGluRefIdeal.main_arg1)
      ∧ r.2.mem ((c.tc : Thread Cert.DGluRefIdeal.nD Cert.DGluRefIdeal.τ).loc Cert.DGluRefIdeal.main_arg2) = m ((c.tc : Thread Cert.DGluRefIdeal.nD Cert.DGluRefIdeal.τ).loc Cert.DGluRefIdeal.main_arg2))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2))
      ∧ r.2.sem = fun _ => 0)

def quiescent_DGateL [hDGateL : Cert.DGateL.Facts] : Prop :=
  ∀ (m : (ℓ : Loc Cert.DGateL.nD Cert.DGateL.τ Cert.DGateL.sig) → Buf (Elt Bits) ℓ) (g : Dev Cert.DGateL.nD → PrngReg), Pre_DGateL m →
    θ_run (Cert.DGateL.defs (F := Bits)) (onTc (τ := Cert.DGateL.τ) (Cert.DGateL.main (F := Bits))) ⟨m, fun _ => 0, g⟩ (fun r => (∀ c : Dev Cert.DGateL.nD,
      r.2.mem ((c.tc : Thread Cert.DGateL.nD Cert.DGateL.τ).loc Cert.DGateL.main_arg0) = m ((c.tc : Thread Cert.DGateL.nD Cert.DGateL.τ).loc Cert.DGateL.main_arg0)
      ∧ r.2.mem ((c.tc : Thread Cert.DGateL.nD Cert.DGateL.τ).loc Cert.DGateL.main_arg1) = m ((c.tc : Thread Cert.DGateL.nD Cert.DGateL.τ).loc Cert.DGateL.main_arg1)
      ∧ r.2.mem ((c.tc : Thread Cert.DGateL.nD Cert.DGateL.τ).loc Cert.DGateL.main_arg2) = m ((c.tc : Thread Cert.DGateL.nD Cert.DGateL.τ).loc Cert.DGateL.main_arg2))
      ∧ r.2.sem = fun _ => 0)

def quiescent_DGateLIdeal [hDGateLIdeal : Cert.DGateLIdeal.Facts] : Prop :=
  ∀ (m : (ℓ : Loc Cert.DGateLIdeal.nD Cert.DGateLIdeal.τ Cert.DGateLIdeal.sig) → Buf (Elt Ideal) ℓ) (g : Dev Cert.DGateLIdeal.nD → PrngReg), Pre_DGateLIdeal m →
    θ_run (Cert.DGateLIdeal.defs (F := Ideal)) (onTc (τ := Cert.DGateLIdeal.τ) (Cert.DGateLIdeal.main (F := Ideal))) ⟨m, fun _ => 0, g⟩ (fun r => (∀ c : Dev Cert.DGateLIdeal.nD,
      r.2.mem ((c.tc : Thread Cert.DGateLIdeal.nD Cert.DGateLIdeal.τ).loc Cert.DGateLIdeal.main_arg0) = m ((c.tc : Thread Cert.DGateLIdeal.nD Cert.DGateLIdeal.τ).loc Cert.DGateLIdeal.main_arg0)
      ∧ r.2.mem ((c.tc : Thread Cert.DGateLIdeal.nD Cert.DGateLIdeal.τ).loc Cert.DGateLIdeal.main_arg1) = m ((c.tc : Thread Cert.DGateLIdeal.nD Cert.DGateLIdeal.τ).loc Cert.DGateLIdeal.main_arg1)
      ∧ r.2.mem ((c.tc : Thread Cert.DGateLIdeal.nD Cert.DGateLIdeal.τ).loc Cert.DGateLIdeal.main_arg2) = m ((c.tc : Thread Cert.DGateLIdeal.nD Cert.DGateLIdeal.τ).loc Cert.DGateLIdeal.main_arg2))
      ∧ r.2.sem = fun _ => 0)

def quiescent_DGateLRefIdeal [hDGateLRefIdeal : Cert.DGateLRefIdeal.Facts] : Prop :=
  ∀ (m : (ℓ : Loc Cert.DGateLRefIdeal.nD Cert.DGateLRefIdeal.τ Cert.DGateLRefIdeal.sig) → Buf (Elt Ideal) ℓ) (g : Dev Cert.DGateLRefIdeal.nD → PrngReg), Pre_DGateLRefIdeal m →
    θ_run (Cert.DGateLRefIdeal.defs (F := Ideal)) (onTc (τ := Cert.DGateLRefIdeal.τ) (Cert.DGateLRefIdeal.main (F := Ideal))) ⟨m, fun _ => 0, g⟩ (fun r => (∀ c : Dev Cert.DGateLRefIdeal.nD,
      r.2.mem ((c.tc : Thread Cert.DGateLRefIdeal.nD Cert.DGateLRefIdeal.τ).loc Cert.DGateLRefIdeal.main_arg0) = m ((c.tc : Thread Cert.DGateLRefIdeal.nD Cert.DGateLRefIdeal.τ).loc Cert.DGateLRefIdeal.main_arg0)
      ∧ r.2.mem ((c.tc : Thread Cert.DGateLRefIdeal.nD Cert.DGateLRefIdeal.τ).loc Cert.DGateLRefIdeal.main_arg1) = m ((c.tc : Thread Cert.DGateLRefIdeal.nD Cert.DGateLRefIdeal.τ).loc Cert.DGateLRefIdeal.main_arg1)
      ∧ r.2.mem ((c.tc : Thread Cert.DGateLRefIdeal.nD Cert.DGateLRefIdeal.τ).loc Cert.DGateLRefIdeal.main_arg2) = m ((c.tc : Thread Cert.DGateLRefIdeal.nD Cert.DGateLRefIdeal.τ).loc Cert.DGateLRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateL [hGateL : Cert.GateL.Facts] : Prop :=
  ∀ (m : (ℓ : Loc Cert.GateL.nD Cert.GateL.τ Cert.GateL.sig) → Buf (Elt Bits) ℓ) (g : Dev Cert.GateL.nD → PrngReg), Pre_GateL m →
    θ_run (Cert.GateL.defs (F := Bits)) (onTc (τ := Cert.GateL.τ) (Cert.GateL.main (F := Bits))) ⟨m, fun _ => 0, g⟩ (fun r => (∀ c : Dev Cert.GateL.nD,
      r.2.mem ((c.tc : Thread Cert.GateL.nD Cert.GateL.τ).loc Cert.GateL.main_arg0) = m ((c.tc : Thread Cert.GateL.nD Cert.GateL.τ).loc Cert.GateL.main_arg0)
      ∧ r.2.mem ((c.tc : Thread Cert.GateL.nD Cert.GateL.τ).loc Cert.GateL.main_arg1) = m ((c.tc : Thread Cert.GateL.nD Cert.GateL.τ).loc Cert.GateL.main_arg1)
      ∧ r.2.mem ((c.tc : Thread Cert.GateL.nD Cert.GateL.τ).loc Cert.GateL.main_arg2) = m ((c.tc : Thread Cert.GateL.nD Cert.GateL.τ).loc Cert.GateL.main_arg2)
      ∧ r.2.mem ((c.tc : Thread Cert.GateL.nD Cert.GateL.τ).loc Cert.GateL.main_arg3) = m ((c.tc : Thread Cert.GateL.nD Cert.GateL.τ).loc Cert.GateL.main_arg3))
      ∧ r.2.sem = fun _ => 0)

def quiescent_GateLIdeal [hGateLIdeal : Cert.GateLIdeal.Facts] : Prop :=
  ∀ (m : (ℓ : Loc Cert.GateLIdeal.nD Cert.GateLIdeal.τ Cert.GateLIdeal.sig) → Buf (Elt Ideal) ℓ) (g : Dev Cert.GateLIdeal.nD → PrngReg), Pre_GateLIdeal m →
    θ_run (Cert.GateLIdeal.defs (F := Ideal)) (onTc (τ := Cert.GateLIdeal.τ) (Cert.GateLIdeal.main (F := Ideal))) ⟨m, fun _ => 0, g⟩ (fun r => (∀ c : Dev Cert.GateLIdeal.nD,
      r.2.mem ((c.tc : Thread Cert.GateLIdeal.nD Cert.GateLIdeal.τ).loc Cert.GateLIdeal.main_arg0) = m ((c.tc : Thread Cert.GateLIdeal.nD Cert.GateLIdeal.τ).loc Cert.GateLIdeal.main_arg0)
      ∧ r.2.mem ((c.tc : Thread Cert.GateLIdeal.nD Cert.GateLIdeal.τ).loc Cert.GateLIdeal.main_arg1) = m ((c.tc : Thread Cert.GateLIdeal.nD Cert.GateLIdeal.τ).loc Cert.GateLIdeal.main_arg1)
      ∧ r.2.mem ((c.tc : Thread Cert.GateLIdeal.nD Cert.GateLIdeal.τ).loc Cert.GateLIdeal.main_arg2) = m ((c.tc : Thread Cert.GateLIdeal.nD Cert.GateLIdeal.τ).loc Cert.GateLIdeal.main_arg2)
      ∧ r.2.mem ((c.tc : Thread Cert.GateLIdeal.nD Cert.GateLIdeal.τ).loc Cert.GateLIdeal.main_arg3) = m ((c.tc : Thread Cert.GateLIdeal.nD Cert.GateLIdeal.τ).loc Cert.GateLIdeal.main_arg3))
      ∧ r.2.sem = fun _ => 0)

def quiescent_GateLRefIdeal [hGateLRefIdeal : Cert.GateLRefIdeal.Facts] : Prop :=
  ∀ (m : (ℓ : Loc Cert.GateLRefIdeal.nD Cert.GateLRefIdeal.τ Cert.GateLRefIdeal.sig) → Buf (Elt Ideal) ℓ) (g : Dev Cert.GateLRefIdeal.nD → PrngReg), Pre_GateLRefIdeal m →
    θ_run (Cert.GateLRefIdeal.defs (F := Ideal)) (onTc (τ := Cert.GateLRefIdeal.τ) (Cert.GateLRefIdeal.main (F := Ideal))) ⟨m, fun _ => 0, g⟩ (fun r => (∀ c : Dev Cert.GateLRefIdeal.nD,
      r.2.mem ((c.tc : Thread Cert.GateLRefIdeal.nD Cert.GateLRefIdeal.τ).loc Cert.GateLRefIdeal.main_arg0) = m ((c.tc : Thread Cert.GateLRefIdeal.nD Cert.GateLRefIdeal.τ).loc Cert.GateLRefIdeal.main_arg0)
      ∧ r.2.mem ((c.tc : Thread Cert.GateLRefIdeal.nD Cert.GateLRefIdeal.τ).loc Cert.GateLRefIdeal.main_arg1) = m ((c.tc : Thread Cert.GateLRefIdeal.nD Cert.GateLRefIdeal.τ).loc Cert.GateLRefIdeal.main_arg1)
      ∧ r.2.mem ((c.tc : Thread Cert.GateLRefIdeal.nD Cert.GateLRefIdeal.τ).loc Cert.GateLRefIdeal.main_arg2) = m ((c.tc : Thread Cert.GateLRefIdeal.nD Cert.GateLRefIdeal.τ).loc Cert.GateLRefIdeal.main_arg2)
      ∧ r.2.mem ((c.tc : Thread Cert.GateLRefIdeal.nD Cert.GateLRefIdeal.τ).loc Cert.GateLRefIdeal.main_arg3) = m ((c.tc : Thread Cert.GateLRefIdeal.nD Cert.GateLRefIdeal.τ).loc Cert.GateLRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluT [hGluT : Cert.GluT.Facts] : Prop :=
  ∀ (m : (ℓ : Loc Cert.GluT.nD Cert.GluT.τ Cert.GluT.sig) → Buf (Elt Bits) ℓ) (g : Dev Cert.GluT.nD → PrngReg), Pre_GluT m →
    θ_run (Cert.GluT.defs (F := Bits)) (onTc (τ := Cert.GluT.τ) (Cert.GluT.main (F := Bits))) ⟨m, fun _ => 0, g⟩ (fun r => (∀ c : Dev Cert.GluT.nD,
      r.2.mem ((c.tc : Thread Cert.GluT.nD Cert.GluT.τ).loc Cert.GluT.main_arg0) = m ((c.tc : Thread Cert.GluT.nD Cert.GluT.τ).loc Cert.GluT.main_arg0)
      ∧ r.2.mem ((c.tc : Thread Cert.GluT.nD Cert.GluT.τ).loc Cert.GluT.main_arg1) = m ((c.tc : Thread Cert.GluT.nD Cert.GluT.τ).loc Cert.GluT.main_arg1)
      ∧ r.2.mem ((c.tc : Thread Cert.GluT.nD Cert.GluT.τ).loc Cert.GluT.main_arg2) = m ((c.tc : Thread Cert.GluT.nD Cert.GluT.τ).loc Cert.GluT.main_arg2)
      ∧ r.2.mem ((c.tc : Thread Cert.GluT.nD Cert.GluT.τ).loc Cert.GluT.main_arg3) = m ((c.tc : Thread Cert.GluT.nD Cert.GluT.τ).loc Cert.GluT.main_arg3))
      ∧ r.2.sem = fun _ => 0)

def quiescent_GluTIdeal [hGluTIdeal : Cert.GluTIdeal.Facts] : Prop :=
  ∀ (m : (ℓ : Loc Cert.GluTIdeal.nD Cert.GluTIdeal.τ Cert.GluTIdeal.sig) → Buf (Elt Ideal) ℓ) (g : Dev Cert.GluTIdeal.nD → PrngReg), Pre_GluTIdeal m →
    θ_run (Cert.GluTIdeal.defs (F := Ideal)) (onTc (τ := Cert.GluTIdeal.τ) (Cert.GluTIdeal.main (F := Ideal))) ⟨m, fun _ => 0, g⟩ (fun r => (∀ c : Dev Cert.GluTIdeal.nD,
      r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
      ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1)
      ∧ r.2.mem ((c.tc : Thread Cert.GluTIdeal.nD Cert.GluTIdeal.τ).loc Cert.GluTIdeal.main_arg2) = m ((c.tc : Thread Cert.GluTIdeal.nD Cert.GluTIdeal.τ).loc Cert.GluTIdeal.main_arg2)
      ∧ r.2.mem ((c.tc : Thread Cert.GluTIdeal.nD Cert.GluTIdeal.τ).loc Cert.GluTIdeal.main_arg3) = m ((c.tc : Thread Cert.GluTIdeal.nD Cert.GluTIdeal.τ).loc Cert.GluTIdeal.main_arg3))
      ∧ r.2.sem = fun _ => 0)

def quiescent_GluTRefIdeal [hGluTRefIdeal : Cert.GluTRefIdeal.Facts] : Prop :=
  ∀ (m : (ℓ : Loc Cert.GluTRefIdeal.nD Cert.GluTRefIdeal.τ Cert.GluTRefIdeal.sig) → Buf (Elt Ideal) ℓ) (g : Dev Cert.GluTRefIdeal.nD → PrngReg), Pre_GluTRefIdeal m →
    θ_run (Cert.GluTRefIdeal.defs (F := Ideal)) (onTc (τ := Cert.GluTRefIdeal.τ) (Cert.GluTRefIdeal.main (F := Ideal))) ⟨m, fun _ => 0, g⟩ (fun r => (∀ c : Dev Cert.GluTRefIdeal.nD,
      r.2.mem ((c.tc : Thread Cert.GluTRefIdeal.nD Cert.GluTRefIdeal.τ).loc Cert.GluTRefIdeal.main_arg0) = m ((c.tc : Thread Cert.GluTRefIdeal.nD Cert.GluTRefIdeal.τ).loc Cert.GluTRefIdeal.main_arg0)
      ∧ r.2.mem ((c.tc : Thread Cert.GluTRefIdeal.nD Cert.GluTRefIdeal.τ).loc Cert.GluTRefIdeal.main_arg1) = m ((c.tc : Thread Cert.GluTRefIdeal.nD Cert.GluTRefIdeal.τ).loc Cert.GluTRefIdeal.main_arg1)
      ∧ r.2.mem ((c.tc : Thread Cert.GluTRefIdeal.nD Cert.GluTRefIdeal.τ).loc Cert.GluTRefIdeal.main_arg2) = m ((c.tc : Thread Cert.GluTRefIdeal.nD Cert.GluTRefIdeal.τ).loc Cert.GluTRefIdeal.main_arg2)
      ∧ r.2.mem ((c.tc : Thread Cert.GluTRefIdeal.nD Cert.GluTRefIdeal.τ).loc Cert.GluTRefIdeal.main_arg3) = m ((c.tc : Thread Cert.GluTRefIdeal.nD Cert.GluTRefIdeal.τ).loc Cert.GluTRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v75) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_S5_S5Ideal : Prop :=
  True

def algebraic_S5Ideal_S5RefIdeal_pre_finite [hS5Ideal : Cert.S5Ideal.Facts] [hS5RefIdeal : Cert.S5RefIdeal.Facts] [hPre_finite : Cert.Pre_finite.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal_finite m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)
      ∧ m' ((c.tc : Thread Cert.S5RefIdeal.nD Cert.S5RefIdeal.τ).loc Cert.S5RefIdeal.main_arg8) = m ((c.tc : Thread Cert.S5Ideal.nD Cert.S5Ideal.τ).loc Cert.S5Ideal.main_arg8)
      ∧ m' ((c.tc : Thread Cert.S5RefIdeal.nD Cert.S5RefIdeal.τ).loc Cert.S5RefIdeal.main_arg9) = m ((c.tc : Thread Cert.S5Ideal.nD Cert.S5Ideal.τ).loc Cert.S5Ideal.main_arg9)
      ∧ m' ((c.tc : Thread Cert.S5RefIdeal.nD Cert.S5RefIdeal.τ).loc Cert.S5RefIdeal.main_arg10) = m ((c.tc : Thread Cert.S5Ideal.nD Cert.S5Ideal.τ).loc Cert.S5Ideal.main_arg10)) →
    ∃ (v0 : (c : Dev Cert.S5Ideal.nD) → Buf (Elt Ideal) ((c.tc : Thread Cert.S5Ideal.nD Cert.S5Ideal.τ).loc Cert.S5Ideal.main_v125_0)) (v1 : (c : Dev Cert.S5Ideal.nD) → Buf (Elt Ideal) ((c.tc : Thread Cert.S5Ideal.nD Cert.S5Ideal.τ).loc Cert.S5Ideal.main_v125_7)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v125_0) = v0 c
          ∧ r.2.mem ((c.tc : Thread Cert.S5Ideal.nD Cert.S5Ideal.τ).loc Cert.S5Ideal.main_v125_7) = v1 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
          ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
          ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
          ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v30) = v0 c
          ∧ r.2.mem ((c.tc : Thread Cert.S5RefIdeal.nD Cert.S5RefIdeal.τ).loc Cert.S5RefIdeal.main_v29) = v1 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7)
          ∧ r.2.mem ((c.tc : Thread Cert.S5RefIdeal.nD Cert.S5RefIdeal.τ).loc Cert.S5RefIdeal.main_arg8) = m' ((c.tc : Thread Cert.S5RefIdeal.nD Cert.S5RefIdeal.τ).loc Cert.S5RefIdeal.main_arg8)
          ∧ r.2.mem ((c.tc : Thread Cert.S5RefIdeal.nD Cert.S5RefIdeal.τ).loc Cert.S5RefIdeal.main_arg9) = m' ((c.tc : Thread Cert.S5RefIdeal.nD Cert.S5RefIdeal.τ).loc Cert.S5RefIdeal.main_arg9)
          ∧ r.2.mem ((c.tc : Thread Cert.S5RefIdeal.nD Cert.S5RefIdeal.τ).loc Cert.S5RefIdeal.main_arg10) = m' ((c.tc : Thread Cert.S5RefIdeal.nD Cert.S5RefIdeal.τ).loc Cert.S5RefIdeal.main_arg10))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v17) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DDown_DDownIdeal : Prop :=
  True

def algebraic_DDownIdeal_DDownRefIdeal [hDDownIdeal : Cert.DDownIdeal.Facts] [hDDownRefIdeal : Cert.DDownRefIdeal.Facts] : Prop :=
  ∀ (m : (ℓ : Loc Cert.DDownIdeal.nD Cert.DDownIdeal.τ Cert.DDownIdeal.sig) → Buf (Elt Ideal) ℓ) (g : Dev Cert.DDownIdeal.nD → PrngReg)
    (m' : (ℓ : Loc Cert.DDownRefIdeal.nD Cert.DDownRefIdeal.τ Cert.DDownRefIdeal.sig) → Buf (Elt Ideal) ℓ) (g' : Dev Cert.DDownRefIdeal.nD → PrngReg), Pre_DDownIdeal m →
    (∀ c : Dev Cert.DDownIdeal.nD,
      m' ((c.tc : Thread Cert.DDownRefIdeal.nD Cert.DDownRefIdeal.τ).loc Cert.DDownRefIdeal.main_arg0) = m ((c.tc : Thread Cert.DDownIdeal.nD Cert.DDownIdeal.τ).loc Cert.DDownIdeal.main_arg0)
      ∧ m' ((c.tc : Thread Cert.DDownRefIdeal.nD Cert.DDownRefIdeal.τ).loc Cert.DDownRefIdeal.main_arg1) = m ((c.tc : Thread Cert.DDownIdeal.nD Cert.DDownIdeal.τ).loc Cert.DDownIdeal.main_arg1)
      ∧ m' ((c.tc : Thread Cert.DDownRefIdeal.nD Cert.DDownRefIdeal.τ).loc Cert.DDownRefIdeal.main_arg2) = m ((c.tc : Thread Cert.DDownIdeal.nD Cert.DDownIdeal.τ).loc Cert.DDownIdeal.main_arg2)) →
    ∃ (v0 : (c : Dev Cert.DDownIdeal.nD) → Buf (Elt Ideal) ((c.tc : Thread Cert.DDownIdeal.nD Cert.DDownIdeal.τ).loc Cert.DDownIdeal.main_v0)),
      θ_run (Cert.DDownIdeal.defs (F := Ideal)) (onTc (τ := Cert.DDownIdeal.τ) (Cert.DDownIdeal.main (F := Ideal))) ⟨m, fun _ => 0, g⟩ (fun r => ∀ c : Dev Cert.DDownIdeal.nD,
          r.2.mem ((c.tc : Thread Cert.DDownIdeal.nD Cert.DDownIdeal.τ).loc Cert.DDownIdeal.main_v0) = v0 c
          ∧ r.2.mem ((c.tc : Thread Cert.DDownIdeal.nD Cert.DDownIdeal.τ).loc Cert.DDownIdeal.main_arg0) = m ((c.tc : Thread Cert.DDownIdeal.nD Cert.DDownIdeal.τ).loc Cert.DDownIdeal.main_arg0)
          ∧ r.2.mem ((c.tc : Thread Cert.DDownIdeal.nD Cert.DDownIdeal.τ).loc Cert.DDownIdeal.main_arg1) = m ((c.tc : Thread Cert.DDownIdeal.nD Cert.DDownIdeal.τ).loc Cert.DDownIdeal.main_arg1)
          ∧ r.2.mem ((c.tc : Thread Cert.DDownIdeal.nD Cert.DDownIdeal.τ).loc Cert.DDownIdeal.main_arg2) = m ((c.tc : Thread Cert.DDownIdeal.nD Cert.DDownIdeal.τ).loc Cert.DDownIdeal.main_arg2))
      ∧ θ_run (Cert.DDownRefIdeal.defs (F := Ideal)) (onTc (τ := Cert.DDownRefIdeal.τ) (Cert.DDownRefIdeal.main (F := Ideal))) ⟨m', fun _ => 0, g'⟩ (fun r => ∀ c : Dev Cert.DDownRefIdeal.nD,
          r.2.mem ((c.tc : Thread Cert.DDownRefIdeal.nD Cert.DDownRefIdeal.τ).loc Cert.DDownRefIdeal.main_v10) = v0 c
          ∧ r.2.mem ((c.tc : Thread Cert.DDownRefIdeal.nD Cert.DDownRefIdeal.τ).loc Cert.DDownRefIdeal.main_arg0) = m' ((c.tc : Thread Cert.DDownRefIdeal.nD Cert.DDownRefIdeal.τ).loc Cert.DDownRefIdeal.main_arg0)
          ∧ r.2.mem ((c.tc : Thread Cert.DDownRefIdeal.nD Cert.DDownRefIdeal.τ).loc Cert.DDownRefIdeal.main_arg1) = m' ((c.tc : Thread Cert.DDownRefIdeal.nD Cert.DDownRefIdeal.τ).loc Cert.DDownRefIdeal.main_arg1)
          ∧ r.2.mem ((c.tc : Thread Cert.DDownRefIdeal.nD Cert.DDownRefIdeal.τ).loc Cert.DDownRefIdeal.main_arg2) = m' ((c.tc : Thread Cert.DDownRefIdeal.nD Cert.DDownRefIdeal.τ).loc Cert.DDownRefIdeal.main_arg2))

def preserves_DUp_DUpIdeal : Prop :=
  True

def algebraic_DUpIdeal_DUpRefIdeal [hDUpIdeal : Cert.DUpIdeal.Facts] [hDUpRefIdeal : Cert.DUpRefIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpRefIdeal.nD Cert.DUpRefIdeal.τ Cert.DUpRefIdeal.sig) → Buf (Elt Ideal) ℓ) (g' : Dev Cert.DUpRefIdeal.nD → PrngReg), Pre_DUpIdeal m →
    (∀ c : Dev Cert.DUpIdeal.nD,
      m' ((c.tc : Thread Cert.DUpRefIdeal.nD Cert.DUpRefIdeal.τ).loc Cert.DUpRefIdeal.main_arg0) = m ((c.tc : Thread Cert.DUpIdeal.nD Cert.DUpIdeal.τ).loc Cert.DUpIdeal.main_arg0)
      ∧ m' ((c.tc : Thread Cert.DUpRefIdeal.nD Cert.DUpRefIdeal.τ).loc Cert.DUpRefIdeal.main_arg1) = m ((c.tc : Thread Cert.DUpIdeal.nD Cert.DUpIdeal.τ).loc Cert.DUpIdeal.main_arg1)
      ∧ m' ((c.tc : Thread Cert.DUpRefIdeal.nD Cert.DUpRefIdeal.τ).loc Cert.DUpRefIdeal.main_arg2) = m ((c.tc : Thread Cert.DUpIdeal.nD Cert.DUpIdeal.τ).loc Cert.DUpIdeal.main_arg2)) →
    ∃ (v0 : (c : Dev Cert.DUpIdeal.nD) → Buf (Elt Ideal) ((c.tc : Thread Cert.DUpIdeal.nD Cert.DUpIdeal.τ).loc Cert.DUpIdeal.main_v0)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v0) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ θ_run (Cert.DUpRefIdeal.defs (F := Ideal)) (onTc (τ := Cert.DUpRefIdeal.τ) (Cert.DUpRefIdeal.main (F := Ideal))) ⟨m', fun _ => 0, g'⟩ (fun r => ∀ c : Dev Cert.DUpRefIdeal.nD,
          r.2.mem ((c.tc : Thread Cert.DUpRefIdeal.nD Cert.DUpRefIdeal.τ).loc Cert.DUpRefIdeal.main_v10) = v0 c
          ∧ r.2.mem ((c.tc : Thread Cert.DUpRefIdeal.nD Cert.DUpRefIdeal.τ).loc Cert.DUpRefIdeal.main_arg0) = m' ((c.tc : Thread Cert.DUpRefIdeal.nD Cert.DUpRefIdeal.τ).loc Cert.DUpRefIdeal.main_arg0)
          ∧ r.2.mem ((c.tc : Thread Cert.DUpRefIdeal.nD Cert.DUpRefIdeal.τ).loc Cert.DUpRefIdeal.main_arg1) = m' ((c.tc : Thread Cert.DUpRefIdeal.nD Cert.DUpRefIdeal.τ).loc Cert.DUpRefIdeal.main_arg1)
          ∧ r.2.mem ((c.tc : Thread Cert.DUpRefIdeal.nD Cert.DUpRefIdeal.τ).loc Cert.DUpRefIdeal.main_arg2) = m' ((c.tc : Thread Cert.DUpRefIdeal.nD Cert.DUpRefIdeal.τ).loc Cert.DUpRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_InT_InTIdeal : Prop :=
  True

def algebraic_InTIdeal_InTRefIdeal [hInTIdeal : Cert.InTIdeal.Facts] [hInTRefIdeal : Cert.InTRefIdeal.Facts] : Prop :=
  ∀ (m : (ℓ : Loc Cert.InTIdeal.nD Cert.InTIdeal.τ Cert.InTIdeal.sig) → Buf (Elt Ideal) ℓ) (g : Dev Cert.InTIdeal.nD → PrngReg)
    (m' : (ℓ : Loc Cert.InTRefIdeal.nD Cert.InTRefIdeal.τ Cert.InTRefIdeal.sig) → Buf (Elt Ideal) ℓ) (g' : Dev Cert.InTRefIdeal.nD → PrngReg), Pre_InTIdeal m →
    (∀ c : Dev Cert.InTIdeal.nD,
      m' ((c.tc : Thread Cert.InTRefIdeal.nD Cert.InTRefIdeal.τ).loc Cert.InTRefIdeal.main_arg0) = m ((c.tc : Thread Cert.InTIdeal.nD Cert.InTIdeal.τ).loc Cert.InTIdeal.main_arg0)
      ∧ m' ((c.tc : Thread Cert.InTRefIdeal.nD Cert.InTRefIdeal.τ).loc Cert.InTRefIdeal.main_arg1) = m ((c.tc : Thread Cert.InTIdeal.nD Cert.InTIdeal.τ).loc Cert.InTIdeal.main_arg1)) →
    ∃ (v0 : (c : Dev Cert.InTIdeal.nD) → Buf (Elt Ideal) ((c.tc : Thread Cert.InTIdeal.nD Cert.InTIdeal.τ).loc Cert.InTIdeal.main_v1)),
      θ_run (Cert.InTIdeal.defs (F := Ideal)) (onTc (τ := Cert.InTIdeal.τ) (Cert.InTIdeal.main (F := Ideal))) ⟨m, fun _ => 0, g⟩ (fun r => ∀ c : Dev Cert.InTIdeal.nD,
          r.2.mem ((c.tc : Thread Cert.InTIdeal.nD Cert.InTIdeal.τ).loc Cert.InTIdeal.main_v1) = v0 c
          ∧ r.2.mem ((c.tc : Thread Cert.InTIdeal.nD Cert.InTIdeal.τ).loc Cert.InTIdeal.main_arg0) = m ((c.tc : Thread Cert.InTIdeal.nD Cert.InTIdeal.τ).loc Cert.InTIdeal.main_arg0)
          ∧ r.2.mem ((c.tc : Thread Cert.InTIdeal.nD Cert.InTIdeal.τ).loc Cert.InTIdeal.main_arg1) = m ((c.tc : Thread Cert.InTIdeal.nD Cert.InTIdeal.τ).loc Cert.InTIdeal.main_arg1))
      ∧ θ_run (Cert.InTRefIdeal.defs (F := Ideal)) (onTc (τ := Cert.InTRefIdeal.τ) (Cert.InTRefIdeal.main (F := Ideal))) ⟨m', fun _ => 0, g'⟩ (fun r => ∀ c : Dev Cert.InTRefIdeal.nD,
          r.2.mem ((c.tc : Thread Cert.InTRefIdeal.nD Cert.InTRefIdeal.τ).loc Cert.InTRefIdeal.main_v6) = v0 c
          ∧ r.2.mem ((c.tc : Thread Cert.InTRefIdeal.nD Cert.InTRefIdeal.τ).loc Cert.InTRefIdeal.main_arg0) = m' ((c.tc : Thread Cert.InTRefIdeal.nD Cert.InTRefIdeal.τ).loc Cert.InTRefIdeal.main_arg0)
          ∧ r.2.mem ((c.tc : Thread Cert.InTRefIdeal.nD Cert.InTRefIdeal.τ).loc Cert.InTRefIdeal.main_arg1) = m' ((c.tc : Thread Cert.InTRefIdeal.nD Cert.InTRefIdeal.τ).loc Cert.InTRefIdeal.main_arg1))

def preserves_DIn_DInIdeal : Prop :=
  True

def algebraic_DInIdeal_DInRefIdeal [hDInIdeal : Cert.DInIdeal.Facts] [hDInRefIdeal : Cert.DInRefIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInRefIdeal.nD Cert.DInRefIdeal.τ Cert.DInRefIdeal.sig) → Buf (Elt Ideal) ℓ) (g' : Dev Cert.DInRefIdeal.nD → PrngReg), Pre_DInIdeal m →
    (∀ c : Dev Cert.DInIdeal.nD,
      m' ((c.tc : Thread Cert.DInRefIdeal.nD Cert.DInRefIdeal.τ).loc Cert.DInRefIdeal.main_arg0) = m ((c.tc : Thread Cert.DInIdeal.nD Cert.DInIdeal.τ).loc Cert.DInIdeal.main_arg0)
      ∧ m' ((c.tc : Thread Cert.DInRefIdeal.nD Cert.DInRefIdeal.τ).loc Cert.DInRefIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v0)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v0) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v7) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v0_0)) (v1 : (c : Dev Cert.UpFIdeal.nD) → Buf (Elt Ideal) ((c.tc : Thread Cert.UpFIdeal.nD Cert.UpFIdeal.τ).loc Cert.UpFIdeal.main_v0_1)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v0_0) = v0 c
          ∧ r.2.mem ((c.tc : Thread Cert.UpFIdeal.nD Cert.UpFIdeal.τ).loc Cert.UpFIdeal.main_v0_1) = v1 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v6) = v0 c
          ∧ r.2.mem ((c.tc : Thread Cert.UpFRefIdeal.nD Cert.UpFRefIdeal.τ).loc Cert.UpFRefIdeal.main_v9) = v1 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)) →
    ∃ (v0 : (c : Dev Cert.DownFIdeal.nD) → Buf (Elt Ideal) ((c.tc : Thread Cert.DownFIdeal.nD Cert.DownFIdeal.τ).loc Cert.DownFIdeal.main_v0)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v0) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v5) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)) →
    ∃ (v0 : (c : Dev Cert.InPIdeal.nD) → Buf (Elt Ideal) ((c.tc : Thread Cert.InPIdeal.nD Cert.InPIdeal.τ).loc Cert.InPIdeal.main_v1)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v1) = v0 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v5) = v0 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1))

def preserves_DownL_DownLIdeal : Prop :=
  True

def algebraic_DownLIdeal_DownLRefIdeal [hDownLIdeal : Cert.DownLIdeal.Facts] [hDownLRefIdeal : Cert.DownLRefIdeal.Facts] : Prop :=
  ∀ (m : (ℓ : Loc Cert.DownLIdeal.nD Cert.DownLIdeal.τ Cert.DownLIdeal.sig) → Buf (Elt Ideal) ℓ) (g : Dev Cert.DownLIdeal.nD → PrngReg)
    (m' : (ℓ : Loc Cert.DownLRefIdeal.nD Cert.DownLRefIdeal.τ Cert.DownLRefIdeal.sig) → Buf (Elt Ideal) ℓ) (g' : Dev Cert.DownLRefIdeal.nD → PrngReg), Pre_DownLIdeal m →
    (∀ c : Dev Cert.DownLIdeal.nD,
      m' ((c.tc : Thread Cert.DownLRefIdeal.nD Cert.DownLRefIdeal.τ).loc Cert.DownLRefIdeal.main_arg0) = m ((c.tc : Thread Cert.DownLIdeal.nD Cert.DownLIdeal.τ).loc Cert.DownLIdeal.main_arg0)
      ∧ m' ((c.tc : Thread Cert.DownLRefIdeal.nD Cert.DownLRefIdeal.τ).loc Cert.DownLRefIdeal.main_arg1) = m ((c.tc : Thread Cert.DownLIdeal.nD Cert.DownLIdeal.τ).loc Cert.DownLIdeal.main_arg1)
      ∧ m' ((c.tc : Thread Cert.DownLRefIdeal.nD Cert.DownLRefIdeal.τ).loc Cert.DownLRefIdeal.main_arg2) = m ((c.tc : Thread Cert.DownLIdeal.nD Cert.DownLIdeal.τ).loc Cert.DownLIdeal.main_arg2)) →
    ∃ (v0 : (c : Dev Cert.DownLIdeal.nD) → Buf (Elt Ideal) ((c.tc : Thread Cert.DownLIdeal.nD Cert.DownLIdeal.τ).loc Cert.DownLIdeal.main_v0)),
      θ_run (Cert.DownLIdeal.defs (F := Ideal)) (onTc (τ := Cert.DownLIdeal.τ) (Cert.DownLIdeal.main (F := Ideal))) ⟨m, fun _ => 0, g⟩ (fun r => ∀ c : Dev Cert.DownLIdeal.nD,
          r.2.mem ((c.tc : Thread Cert.DownLIdeal.nD Cert.DownLIdeal.τ).loc Cert.DownLIdeal.main_v0) = v0 c
          ∧ r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
          ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
          ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ θ_run (Cert.DownLRefIdeal.defs (F := Ideal)) (onTc (τ := Cert.DownLRefIdeal.τ) (Cert.DownLRefIdeal.main (F := Ideal))) ⟨m', fun _ => 0, g'⟩ (fun r => ∀ c : Dev Cert.DownLRefIdeal.nD,
          r.2.mem ((c.tc : Thread Cert.DownLRefIdeal.nD Cert.DownLRefIdeal.τ).loc Cert.DownLRefIdeal.main_v17) = v0 c
          ∧ r.2.mem ((c.tc : Thread Cert.DownLRefIdeal.nD Cert.DownLRefIdeal.τ).loc Cert.DownLRefIdeal.main_arg0) = m' ((c.tc : Thread Cert.DownLRefIdeal.nD Cert.DownLRefIdeal.τ).loc Cert.DownLRefIdeal.main_arg0)
          ∧ r.2.mem ((c.tc : Thread Cert.DownLRefIdeal.nD Cert.DownLRefIdeal.τ).loc Cert.DownLRefIdeal.main_arg1) = m' ((c.tc : Thread Cert.DownLRefIdeal.nD Cert.DownLRefIdeal.τ).loc Cert.DownLRefIdeal.main_arg1)
          ∧ r.2.mem ((c.tc : Thread Cert.DownLRefIdeal.nD Cert.DownLRefIdeal.τ).loc Cert.DownLRefIdeal.main_arg2) = m' ((c.tc : Thread Cert.DownLRefIdeal.nD Cert.DownLRefIdeal.τ).loc Cert.DownLRefIdeal.main_arg2))

def preserves_DDownL_DDownLIdeal : Prop :=
  True

def algebraic_DDownLIdeal_DDownLRefIdeal [hDDownLIdeal : Cert.DDownLIdeal.Facts] [hDDownLRefIdeal : Cert.DDownLRefIdeal.Facts] : Prop :=
  ∀ (m : (ℓ : Loc Cert.DDownLIdeal.nD Cert.DDownLIdeal.τ Cert.DDownLIdeal.sig) → Buf (Elt Ideal) ℓ) (g : Dev Cert.DDownLIdeal.nD → PrngReg)
    (m' : (ℓ : Loc Cert.DDownLRefIdeal.nD Cert.DDownLRefIdeal.τ Cert.DDownLRefIdeal.sig) → Buf (Elt Ideal) ℓ) (g' : Dev Cert.DDownLRefIdeal.nD → PrngReg), Pre_DDownLIdeal m →
    (∀ c : Dev Cert.DDownLIdeal.nD,
      m' ((c.tc : Thread Cert.DDownLRefIdeal.nD Cert.DDownLRefIdeal.τ).loc Cert.DDownLRefIdeal.main_arg0) = m ((c.tc : Thread Cert.DDownLIdeal.nD Cert.DDownLIdeal.τ).loc Cert.DDownLIdeal.main_arg0)
      ∧ m' ((c.tc : Thread Cert.DDownLRefIdeal.nD Cert.DDownLRefIdeal.τ).loc Cert.DDownLRefIdeal.main_arg1) = m ((c.tc : Thread Cert.DDownLIdeal.nD Cert.DDownLIdeal.τ).loc Cert.DDownLIdeal.main_arg1)
      ∧ m' ((c.tc : Thread Cert.DDownLRefIdeal.nD Cert.DDownLRefIdeal.τ).loc Cert.DDownLRefIdeal.main_arg2) = m ((c.tc : Thread Cert.DDownLIdeal.nD Cert.DDownLIdeal.τ).loc Cert.DDownLIdeal.main_arg2)) →
    ∃ (v0 : (c : Dev Cert.DDownLIdeal.nD) → Buf (Elt Ideal) ((c.tc : Thread Cert.DDownLIdeal.nD Cert.DDownLIdeal.τ).loc Cert.DDownLIdeal.main_v0)),
      θ_run (Cert.DDownLIdeal.defs (F := Ideal)) (onTc (τ := Cert.DDownLIdeal.τ) (Cert.DDownLIdeal.main (F := Ideal))) ⟨m, fun _ => 0, g⟩ (fun r => ∀ c : Dev Cert.DDownLIdeal.nD,
          r.2.mem ((c.tc : Thread Cert.DDownLIdeal.nD Cert.DDownLIdeal.τ).loc Cert.DDownLIdeal.main_v0) = v0 c
          ∧ r.2.mem ((c.tc : Thread Cert.DDownLIdeal.nD Cert.DDownLIdeal.τ).loc Cert.DDownLIdeal.main_arg0) = m ((c.tc : Thread Cert.DDownLIdeal.nD Cert.DDownLIdeal.τ).loc Cert.DDownLIdeal.main_arg0)
          ∧ r.2.mem ((c.tc : Thread Cert.DDownLIdeal.nD Cert.DDownLIdeal.τ).loc Cert.DDownLIdeal.main_arg1) = m ((c.tc : Thread Cert.DDownLIdeal.nD Cert.DDownLIdeal.τ).loc Cert.DDownLIdeal.main_arg1)
          ∧ r.2.mem ((c.tc : Thread Cert.DDownLIdeal.nD Cert.DDownLIdeal.τ).loc Cert.DDownLIdeal.main_arg2) = m ((c.tc : Thread Cert.DDownLIdeal.nD Cert.DDownLIdeal.τ).loc Cert.DDownLIdeal.main_arg2))
      ∧ θ_run (Cert.DDownLRefIdeal.defs (F := Ideal)) (onTc (τ := Cert.DDownLRefIdeal.τ) (Cert.DDownLRefIdeal.main (F := Ideal))) ⟨m', fun _ => 0, g'⟩ (fun r => ∀ c : Dev Cert.DDownLRefIdeal.nD,
          r.2.mem ((c.tc : Thread Cert.DDownLRefIdeal.nD Cert.DDownLRefIdeal.τ).loc Cert.DDownLRefIdeal.main_v10) = v0 c
          ∧ r.2.mem ((c.tc : Thread Cert.DDownLRefIdeal.nD Cert.DDownLRefIdeal.τ).loc Cert.DDownLRefIdeal.main_arg0) = m' ((c.tc : Thread Cert.DDownLRefIdeal.nD Cert.DDownLRefIdeal.τ).loc Cert.DDownLRefIdeal.main_arg0)
          ∧ r.2.mem ((c.tc : Thread Cert.DDownLRefIdeal.nD Cert.DDownLRefIdeal.τ).loc Cert.DDownLRefIdeal.main_arg1) = m' ((c.tc : Thread Cert.DDownLRefIdeal.nD Cert.DDownLRefIdeal.τ).loc Cert.DDownLRefIdeal.main_arg1)
          ∧ r.2.mem ((c.tc : Thread Cert.DDownLRefIdeal.nD Cert.DDownLRefIdeal.τ).loc Cert.DDownLRefIdeal.main_arg2) = m' ((c.tc : Thread Cert.DDownLRefIdeal.nD Cert.DDownLRefIdeal.τ).loc Cert.DDownLRefIdeal.main_arg2))

def preserves_DUpL_DUpLIdeal : Prop :=
  True

def algebraic_DUpLIdeal_DUpLRefIdeal [hDUpLIdeal : Cert.DUpLIdeal.Facts] [hDUpLRefIdeal : Cert.DUpLRefIdeal.Facts] : Prop :=
  ∀ (m : (ℓ : Loc Cert.DUpLIdeal.nD Cert.DUpLIdeal.τ Cert.DUpLIdeal.sig) → Buf (Elt Ideal) ℓ) (g : Dev Cert.DUpLIdeal.nD → PrngReg)
    (m' : (ℓ : Loc Cert.DUpLRefIdeal.nD Cert.DUpLRefIdeal.τ Cert.DUpLRefIdeal.sig) → Buf (Elt Ideal) ℓ) (g' : Dev Cert.DUpLRefIdeal.nD → PrngReg), Pre_DUpLIdeal m →
    (∀ c : Dev Cert.DUpLIdeal.nD,
      m' ((c.tc : Thread Cert.DUpLRefIdeal.nD Cert.DUpLRefIdeal.τ).loc Cert.DUpLRefIdeal.main_arg0) = m ((c.tc : Thread Cert.DUpLIdeal.nD Cert.DUpLIdeal.τ).loc Cert.DUpLIdeal.main_arg0)
      ∧ m' ((c.tc : Thread Cert.DUpLRefIdeal.nD Cert.DUpLRefIdeal.τ).loc Cert.DUpLRefIdeal.main_arg1) = m ((c.tc : Thread Cert.DUpLIdeal.nD Cert.DUpLIdeal.τ).loc Cert.DUpLIdeal.main_arg1)
      ∧ m' ((c.tc : Thread Cert.DUpLRefIdeal.nD Cert.DUpLRefIdeal.τ).loc Cert.DUpLRefIdeal.main_arg2) = m ((c.tc : Thread Cert.DUpLIdeal.nD Cert.DUpLIdeal.τ).loc Cert.DUpLIdeal.main_arg2)) →
    ∃ (v0 : (c : Dev Cert.DUpLIdeal.nD) → Buf (Elt Ideal) ((c.tc : Thread Cert.DUpLIdeal.nD Cert.DUpLIdeal.τ).loc Cert.DUpLIdeal.main_v0)),
      θ_run (Cert.DUpLIdeal.defs (F := Ideal)) (onTc (τ := Cert.DUpLIdeal.τ) (Cert.DUpLIdeal.main (F := Ideal))) ⟨m, fun _ => 0, g⟩ (fun r => ∀ c : Dev Cert.DUpLIdeal.nD,
          r.2.mem ((c.tc : Thread Cert.DUpLIdeal.nD Cert.DUpLIdeal.τ).loc Cert.DUpLIdeal.main_v0) = v0 c
          ∧ r.2.mem ((c.tc : Thread Cert.DUpLIdeal.nD Cert.DUpLIdeal.τ).loc Cert.DUpLIdeal.main_arg0) = m ((c.tc : Thread Cert.DUpLIdeal.nD Cert.DUpLIdeal.τ).loc Cert.DUpLIdeal.main_arg0)
          ∧ r.2.mem ((c.tc : Thread Cert.DUpLIdeal.nD Cert.DUpLIdeal.τ).loc Cert.DUpLIdeal.main_arg1) = m ((c.tc : Thread Cert.DUpLIdeal.nD Cert.DUpLIdeal.τ).loc Cert.DUpLIdeal.main_arg1)
          ∧ r.2.mem ((c.tc : Thread Cert.DUpLIdeal.nD Cert.DUpLIdeal.τ).loc Cert.DUpLIdeal.main_arg2) = m ((c.tc : Thread Cert.DUpLIdeal.nD Cert.DUpLIdeal.τ).loc Cert.DUpLIdeal.main_arg2))
      ∧ θ_run (Cert.DUpLRefIdeal.defs (F := Ideal)) (onTc (τ := Cert.DUpLRefIdeal.τ) (Cert.DUpLRefIdeal.main (F := Ideal))) ⟨m', fun _ => 0, g'⟩ (fun r => ∀ c : Dev Cert.DUpLRefIdeal.nD,
          r.2.mem ((c.tc : Thread Cert.DUpLRefIdeal.nD Cert.DUpLRefIdeal.τ).loc Cert.DUpLRefIdeal.main_v10) = v0 c
          ∧ r.2.mem ((c.tc : Thread Cert.DUpLRefIdeal.nD Cert.DUpLRefIdeal.τ).loc Cert.DUpLRefIdeal.main_arg0) = m' ((c.tc : Thread Cert.DUpLRefIdeal.nD Cert.DUpLRefIdeal.τ).loc Cert.DUpLRefIdeal.main_arg0)
          ∧ r.2.mem ((c.tc : Thread Cert.DUpLRefIdeal.nD Cert.DUpLRefIdeal.τ).loc Cert.DUpLRefIdeal.main_arg1) = m' ((c.tc : Thread Cert.DUpLRefIdeal.nD Cert.DUpLRefIdeal.τ).loc Cert.DUpLRefIdeal.main_arg1)
          ∧ r.2.mem ((c.tc : Thread Cert.DUpLRefIdeal.nD Cert.DUpLRefIdeal.τ).loc Cert.DUpLRefIdeal.main_arg2) = m' ((c.tc : Thread Cert.DUpLRefIdeal.nD Cert.DUpLRefIdeal.τ).loc Cert.DUpLRefIdeal.main_arg2))

def preserves_UpL_UpLIdeal : Prop :=
  True

def algebraic_UpLIdeal_UpLRefIdeal [hUpLIdeal : Cert.UpLIdeal.Facts] [hUpLRefIdeal : Cert.UpLRefIdeal.Facts] : Prop :=
  ∀ (m : (ℓ : Loc Cert.UpLIdeal.nD Cert.UpLIdeal.τ Cert.UpLIdeal.sig) → Buf (Elt Ideal) ℓ) (g : Dev Cert.UpLIdeal.nD → PrngReg)
    (m' : (ℓ : Loc Cert.UpLRefIdeal.nD Cert.UpLRefIdeal.τ Cert.UpLRefIdeal.sig) → Buf (Elt Ideal) ℓ) (g' : Dev Cert.UpLRefIdeal.nD → PrngReg), Pre_UpLIdeal m →
    (∀ c : Dev Cert.UpLIdeal.nD,
      m' ((c.tc : Thread Cert.UpLRefIdeal.nD Cert.UpLRefIdeal.τ).loc Cert.UpLRefIdeal.main_arg0) = m ((c.tc : Thread Cert.UpLIdeal.nD Cert.UpLIdeal.τ).loc Cert.UpLIdeal.main_arg0)
      ∧ m' ((c.tc : Thread Cert.UpLRefIdeal.nD Cert.UpLRefIdeal.τ).loc Cert.UpLRefIdeal.main_arg1) = m ((c.tc : Thread Cert.UpLIdeal.nD Cert.UpLIdeal.τ).loc Cert.UpLIdeal.main_arg1)) →
    ∃ (v0 : (c : Dev Cert.UpLIdeal.nD) → Buf (Elt Ideal) ((c.tc : Thread Cert.UpLIdeal.nD Cert.UpLIdeal.τ).loc Cert.UpLIdeal.main_v0)),
      θ_run (Cert.UpLIdeal.defs (F := Ideal)) (onTc (τ := Cert.UpLIdeal.τ) (Cert.UpLIdeal.main (F := Ideal))) ⟨m, fun _ => 0, g⟩ (fun r => ∀ c : Dev Cert.UpLIdeal.nD,
          r.2.mem ((c.tc : Thread Cert.UpLIdeal.nD Cert.UpLIdeal.τ).loc Cert.UpLIdeal.main_v0) = v0 c
          ∧ r.2.mem ((c.tc : Thread Cert.UpLIdeal.nD Cert.UpLIdeal.τ).loc Cert.UpLIdeal.main_arg0) = m ((c.tc : Thread Cert.UpLIdeal.nD Cert.UpLIdeal.τ).loc Cert.UpLIdeal.main_arg0)
          ∧ r.2.mem ((c.tc : Thread Cert.UpLIdeal.nD Cert.UpLIdeal.τ).loc Cert.UpLIdeal.main_arg1) = m ((c.tc : Thread Cert.UpLIdeal.nD Cert.UpLIdeal.τ).loc Cert.UpLIdeal.main_arg1))
      ∧ θ_run (Cert.UpLRefIdeal.defs (F := Ideal)) (onTc (τ := Cert.UpLRefIdeal.τ) (Cert.UpLRefIdeal.main (F := Ideal))) ⟨m', fun _ => 0, g'⟩ (fun r => ∀ c : Dev Cert.UpLRefIdeal.nD,
          r.2.mem ((c.tc : Thread Cert.UpLRefIdeal.nD Cert.UpLRefIdeal.τ).loc Cert.UpLRefIdeal.main_v7) = v0 c
          ∧ r.2.mem ((c.tc : Thread Cert.UpLRefIdeal.nD Cert.UpLRefIdeal.τ).loc Cert.UpLRefIdeal.main_arg0) = m' ((c.tc : Thread Cert.UpLRefIdeal.nD Cert.UpLRefIdeal.τ).loc Cert.UpLRefIdeal.main_arg0)
          ∧ r.2.mem ((c.tc : Thread Cert.UpLRefIdeal.nD Cert.UpLRefIdeal.τ).loc Cert.UpLRefIdeal.main_arg1) = m' ((c.tc : Thread Cert.UpLRefIdeal.nD Cert.UpLRefIdeal.τ).loc Cert.UpLRefIdeal.main_arg1))

def preserves_UpFL_UpFLIdeal : Prop :=
  True

def algebraic_UpFLIdeal_UpFLRefIdeal [hUpFLIdeal : Cert.UpFLIdeal.Facts] [hUpFLRefIdeal : Cert.UpFLRefIdeal.Facts] : Prop :=
  ∀ (m : (ℓ : Loc Cert.UpFLIdeal.nD Cert.UpFLIdeal.τ Cert.UpFLIdeal.sig) → Buf (Elt Ideal) ℓ) (g : Dev Cert.UpFLIdeal.nD → PrngReg)
    (m' : (ℓ : Loc Cert.UpFLRefIdeal.nD Cert.UpFLRefIdeal.τ Cert.UpFLRefIdeal.sig) → Buf (Elt Ideal) ℓ) (g' : Dev Cert.UpFLRefIdeal.nD → PrngReg), Pre_UpFLIdeal m →
    (∀ c : Dev Cert.UpFLIdeal.nD,
      m' ((c.tc : Thread Cert.UpFLRefIdeal.nD Cert.UpFLRefIdeal.τ).loc Cert.UpFLRefIdeal.main_arg0) = m ((c.tc : Thread Cert.UpFLIdeal.nD Cert.UpFLIdeal.τ).loc Cert.UpFLIdeal.main_arg0)
      ∧ m' ((c.tc : Thread Cert.UpFLRefIdeal.nD Cert.UpFLRefIdeal.τ).loc Cert.UpFLRefIdeal.main_arg1) = m ((c.tc : Thread Cert.UpFLIdeal.nD Cert.UpFLIdeal.τ).loc Cert.UpFLIdeal.main_arg1)) →
    ∃ (v0 : (c : Dev Cert.UpFLIdeal.nD) → Buf (Elt Ideal) ((c.tc : Thread Cert.UpFLIdeal.nD Cert.UpFLIdeal.τ).loc Cert.UpFLIdeal.main_v0_0)) (v1 : (c : Dev Cert.UpFLIdeal.nD) → Buf (Elt Ideal) ((c.tc : Thread Cert.UpFLIdeal.nD Cert.UpFLIdeal.τ).loc Cert.UpFLIdeal.main_v0_1)),
      θ_run (Cert.UpFLIdeal.defs (F := Ideal)) (onTc (τ := Cert.UpFLIdeal.τ) (Cert.UpFLIdeal.main (F := Ideal))) ⟨m, fun _ => 0, g⟩ (fun r => ∀ c : Dev Cert.UpFLIdeal.nD,
          r.2.mem ((c.tc : Thread Cert.UpFLIdeal.nD Cert.UpFLIdeal.τ).loc Cert.UpFLIdeal.main_v0_0) = v0 c
          ∧ r.2.mem ((c.tc : Thread Cert.UpFLIdeal.nD Cert.UpFLIdeal.τ).loc Cert.UpFLIdeal.main_v0_1) = v1 c
          ∧ r.2.mem ((c.tc : Thread Cert.UpFLIdeal.nD Cert.UpFLIdeal.τ).loc Cert.UpFLIdeal.main_arg0) = m ((c.tc : Thread Cert.UpFLIdeal.nD Cert.UpFLIdeal.τ).loc Cert.UpFLIdeal.main_arg0)
          ∧ r.2.mem ((c.tc : Thread Cert.UpFLIdeal.nD Cert.UpFLIdeal.τ).loc Cert.UpFLIdeal.main_arg1) = m ((c.tc : Thread Cert.UpFLIdeal.nD Cert.UpFLIdeal.τ).loc Cert.UpFLIdeal.main_arg1))
      ∧ θ_run (Cert.UpFLRefIdeal.defs (F := Ideal)) (onTc (τ := Cert.UpFLRefIdeal.τ) (Cert.UpFLRefIdeal.main (F := Ideal))) ⟨m', fun _ => 0, g'⟩ (fun r => ∀ c : Dev Cert.UpFLRefIdeal.nD,
          r.2.mem ((c.tc : Thread Cert.UpFLRefIdeal.nD Cert.UpFLRefIdeal.τ).loc Cert.UpFLRefIdeal.main_v6) = v0 c
          ∧ r.2.mem ((c.tc : Thread Cert.UpFLRefIdeal.nD Cert.UpFLRefIdeal.τ).loc Cert.UpFLRefIdeal.main_v9) = v1 c
          ∧ r.2.mem ((c.tc : Thread Cert.UpFLRefIdeal.nD Cert.UpFLRefIdeal.τ).loc Cert.UpFLRefIdeal.main_arg0) = m' ((c.tc : Thread Cert.UpFLRefIdeal.nD Cert.UpFLRefIdeal.τ).loc Cert.UpFLRefIdeal.main_arg0)
          ∧ r.2.mem ((c.tc : Thread Cert.UpFLRefIdeal.nD Cert.UpFLRefIdeal.τ).loc Cert.UpFLRefIdeal.main_arg1) = m' ((c.tc : Thread Cert.UpFLRefIdeal.nD Cert.UpFLRefIdeal.τ).loc Cert.UpFLRefIdeal.main_arg1))

def preserves_DownFL_DownFLIdeal : Prop :=
  True

def algebraic_DownFLIdeal_DownFLRefIdeal [hDownFLIdeal : Cert.DownFLIdeal.Facts] [hDownFLRefIdeal : Cert.DownFLRefIdeal.Facts] : Prop :=
  ∀ (m : (ℓ : Loc Cert.DownFLIdeal.nD Cert.DownFLIdeal.τ Cert.DownFLIdeal.sig) → Buf (Elt Ideal) ℓ) (g : Dev Cert.DownFLIdeal.nD → PrngReg)
    (m' : (ℓ : Loc Cert.DownFLRefIdeal.nD Cert.DownFLRefIdeal.τ Cert.DownFLRefIdeal.sig) → Buf (Elt Ideal) ℓ) (g' : Dev Cert.DownFLRefIdeal.nD → PrngReg), Pre_DownFLIdeal m →
    (∀ c : Dev Cert.DownFLIdeal.nD,
      m' ((c.tc : Thread Cert.DownFLRefIdeal.nD Cert.DownFLRefIdeal.τ).loc Cert.DownFLRefIdeal.main_arg0) = m ((c.tc : Thread Cert.DownFLIdeal.nD Cert.DownFLIdeal.τ).loc Cert.DownFLIdeal.main_arg0)
      ∧ m' ((c.tc : Thread Cert.DownFLRefIdeal.nD Cert.DownFLRefIdeal.τ).loc Cert.DownFLRefIdeal.main_arg1) = m ((c.tc : Thread Cert.DownFLIdeal.nD Cert.DownFLIdeal.τ).loc Cert.DownFLIdeal.main_arg1)
      ∧ m' ((c.tc : Thread Cert.DownFLRefIdeal.nD Cert.DownFLRefIdeal.τ).loc Cert.DownFLRefIdeal.main_arg2) = m ((c.tc : Thread Cert.DownFLIdeal.nD Cert.DownFLIdeal.τ).loc Cert.DownFLIdeal.main_arg2)) →
    ∃ (v0 : (c : Dev Cert.DownFLIdeal.nD) → Buf (Elt Ideal) ((c.tc : Thread Cert.DownFLIdeal.nD Cert.DownFLIdeal.τ).loc Cert.DownFLIdeal.main_v0)),
      θ_run (Cert.DownFLIdeal.defs (F := Ideal)) (onTc (τ := Cert.DownFLIdeal.τ) (Cert.DownFLIdeal.main (F := Ideal))) ⟨m, fun _ => 0, g⟩ (fun r => ∀ c : Dev Cert.DownFLIdeal.nD,
          r.2.mem ((c.tc : Thread Cert.DownFLIdeal.nD Cert.DownFLIdeal.τ).loc Cert.DownFLIdeal.main_v0) = v0 c
          ∧ r.2.mem ((c.tc : Thread Cert.DownFLIdeal.nD Cert.DownFLIdeal.τ).loc Cert.DownFLIdeal.main_arg0) = m ((c.tc : Thread Cert.DownFLIdeal.nD Cert.DownFLIdeal.τ).loc Cert.DownFLIdeal.main_arg0)
          ∧ r.2.mem ((c.tc : Thread Cert.DownFLIdeal.nD Cert.DownFLIdeal.τ).loc Cert.DownFLIdeal.main_arg1) = m ((c.tc : Thread Cert.DownFLIdeal.nD Cert.DownFLIdeal.τ).loc Cert.DownFLIdeal.main_arg1)
          ∧ r.2.mem ((c.tc : Thread Cert.DownFLIdeal.nD Cert.DownFLIdeal.τ).loc Cert.DownFLIdeal.main_arg2) = m ((c.tc : Thread Cert.DownFLIdeal.nD Cert.DownFLIdeal.τ).loc Cert.DownFLIdeal.main_arg2))
      ∧ θ_run (Cert.DownFLRefIdeal.defs (F := Ideal)) (onTc (τ := Cert.DownFLRefIdeal.τ) (Cert.DownFLRefIdeal.main (F := Ideal))) ⟨m', fun _ => 0, g'⟩ (fun r => ∀ c : Dev Cert.DownFLRefIdeal.nD,
          r.2.mem ((c.tc : Thread Cert.DownFLRefIdeal.nD Cert.DownFLRefIdeal.τ).loc Cert.DownFLRefIdeal.main_v5) = v0 c
          ∧ r.2.mem ((c.tc : Thread Cert.DownFLRefIdeal.nD Cert.DownFLRefIdeal.τ).loc Cert.DownFLRefIdeal.main_arg0) = m' ((c.tc : Thread Cert.DownFLRefIdeal.nD Cert.DownFLRefIdeal.τ).loc Cert.DownFLRefIdeal.main_arg0)
          ∧ r.2.mem ((c.tc : Thread Cert.DownFLRefIdeal.nD Cert.DownFLRefIdeal.τ).loc Cert.DownFLRefIdeal.main_arg1) = m' ((c.tc : Thread Cert.DownFLRefIdeal.nD Cert.DownFLRefIdeal.τ).loc Cert.DownFLRefIdeal.main_arg1)
          ∧ r.2.mem ((c.tc : Thread Cert.DownFLRefIdeal.nD Cert.DownFLRefIdeal.τ).loc Cert.DownFLRefIdeal.main_arg2) = m' ((c.tc : Thread Cert.DownFLRefIdeal.nD Cert.DownFLRefIdeal.τ).loc Cert.DownFLRefIdeal.main_arg2))

def preserves_OutE_OutEIdeal : Prop :=
  True

def algebraic_OutEIdeal_OutERefIdeal [hOutEIdeal : Cert.OutEIdeal.Facts] [hOutERefIdeal : Cert.OutERefIdeal.Facts] : Prop :=
  ∀ (m : (ℓ : Loc Cert.OutEIdeal.nD Cert.OutEIdeal.τ Cert.OutEIdeal.sig) → Buf (Elt Ideal) ℓ) (g : Dev Cert.OutEIdeal.nD → PrngReg)
    (m' : (ℓ : Loc Cert.OutERefIdeal.nD Cert.OutERefIdeal.τ Cert.OutERefIdeal.sig) → Buf (Elt Ideal) ℓ) (g' : Dev Cert.OutERefIdeal.nD → PrngReg), Pre_OutEIdeal m →
    (∀ c : Dev Cert.OutEIdeal.nD,
      m' ((c.tc : Thread Cert.OutERefIdeal.nD Cert.OutERefIdeal.τ).loc Cert.OutERefIdeal.main_arg0) = m ((c.tc : Thread Cert.OutEIdeal.nD Cert.OutEIdeal.τ).loc Cert.OutEIdeal.main_arg0)
      ∧ m' ((c.tc : Thread Cert.OutERefIdeal.nD Cert.OutERefIdeal.τ).loc Cert.OutERefIdeal.main_arg1) = m ((c.tc : Thread Cert.OutEIdeal.nD Cert.OutEIdeal.τ).loc Cert.OutEIdeal.main_arg1)
      ∧ m' ((c.tc : Thread Cert.OutERefIdeal.nD Cert.OutERefIdeal.τ).loc Cert.OutERefIdeal.main_arg2) = m ((c.tc : Thread Cert.OutEIdeal.nD Cert.OutEIdeal.τ).loc Cert.OutEIdeal.main_arg2)) →
    ∃ (v0 : (c : Dev Cert.OutEIdeal.nD) → Buf (Elt Ideal) ((c.tc : Thread Cert.OutEIdeal.nD Cert.OutEIdeal.τ).loc Cert.OutEIdeal.main_v0)),
      θ_run (Cert.OutEIdeal.defs (F := Ideal)) (onTc (τ := Cert.OutEIdeal.τ) (Cert.OutEIdeal.main (F := Ideal))) ⟨m, fun _ => 0, g⟩ (fun r => ∀ c : Dev Cert.OutEIdeal.nD,
          r.2.mem ((c.tc : Thread Cert.OutEIdeal.nD Cert.OutEIdeal.τ).loc Cert.OutEIdeal.main_v0) = v0 c
          ∧ r.2.mem ((c.tc : Thread Cert.OutEIdeal.nD Cert.OutEIdeal.τ).loc Cert.OutEIdeal.main_arg0) = m ((c.tc : Thread Cert.OutEIdeal.nD Cert.OutEIdeal.τ).loc Cert.OutEIdeal.main_arg0)
          ∧ r.2.mem ((c.tc : Thread Cert.OutEIdeal.nD Cert.OutEIdeal.τ).loc Cert.OutEIdeal.main_arg1) = m ((c.tc : Thread Cert.OutEIdeal.nD Cert.OutEIdeal.τ).loc Cert.OutEIdeal.main_arg1)
          ∧ r.2.mem ((c.tc : Thread Cert.OutEIdeal.nD Cert.OutEIdeal.τ).loc Cert.OutEIdeal.main_arg2) = m ((c.tc : Thread Cert.OutEIdeal.nD Cert.OutEIdeal.τ).loc Cert.OutEIdeal.main_arg2))
      ∧ θ_run (Cert.OutERefIdeal.defs (F := Ideal)) (onTc (τ := Cert.OutERefIdeal.τ) (Cert.OutERefIdeal.main (F := Ideal))) ⟨m', fun _ => 0, g'⟩ (fun r => ∀ c : Dev Cert.OutERefIdeal.nD,
          r.2.mem ((c.tc : Thread Cert.OutERefIdeal.nD Cert.OutERefIdeal.τ).loc Cert.OutERefIdeal.main_v5) = v0 c
          ∧ r.2.mem ((c.tc : Thread Cert.OutERefIdeal.nD Cert.OutERefIdeal.τ).loc Cert.OutERefIdeal.main_arg0) = m' ((c.tc : Thread Cert.OutERefIdeal.nD Cert.OutERefIdeal.τ).loc Cert.OutERefIdeal.main_arg0)
          ∧ r.2.mem ((c.tc : Thread Cert.OutERefIdeal.nD Cert.OutERefIdeal.τ).loc Cert.OutERefIdeal.main_arg1) = m' ((c.tc : Thread Cert.OutERefIdeal.nD Cert.OutERefIdeal.τ).loc Cert.OutERefIdeal.main_arg1)
          ∧ r.2.mem ((c.tc : Thread Cert.OutERefIdeal.nD Cert.OutERefIdeal.τ).loc Cert.OutERefIdeal.main_arg2) = m' ((c.tc : Thread Cert.OutERefIdeal.nD Cert.OutERefIdeal.τ).loc Cert.OutERefIdeal.main_arg2))

def preserves_OutO_OutOIdeal : Prop :=
  True

def algebraic_OutOIdeal_OutORefIdeal [hOutOIdeal : Cert.OutOIdeal.Facts] [hOutORefIdeal : Cert.OutORefIdeal.Facts] : Prop :=
  ∀ (m : (ℓ : Loc Cert.OutOIdeal.nD Cert.OutOIdeal.τ Cert.OutOIdeal.sig) → Buf (Elt Ideal) ℓ) (g : Dev Cert.OutOIdeal.nD → PrngReg)
    (m' : (ℓ : Loc Cert.OutORefIdeal.nD Cert.OutORefIdeal.τ Cert.OutORefIdeal.sig) → Buf (Elt Ideal) ℓ) (g' : Dev Cert.OutORefIdeal.nD → PrngReg), Pre_OutOIdeal m →
    (∀ c : Dev Cert.OutOIdeal.nD,
      m' ((c.tc : Thread Cert.OutORefIdeal.nD Cert.OutORefIdeal.τ).loc Cert.OutORefIdeal.main_arg0) = m ((c.tc : Thread Cert.OutOIdeal.nD Cert.OutOIdeal.τ).loc Cert.OutOIdeal.main_arg0)
      ∧ m' ((c.tc : Thread Cert.OutORefIdeal.nD Cert.OutORefIdeal.τ).loc Cert.OutORefIdeal.main_arg1) = m ((c.tc : Thread Cert.OutOIdeal.nD Cert.OutOIdeal.τ).loc Cert.OutOIdeal.main_arg1)
      ∧ m' ((c.tc : Thread Cert.OutORefIdeal.nD Cert.OutORefIdeal.τ).loc Cert.OutORefIdeal.main_arg2) = m ((c.tc : Thread Cert.OutOIdeal.nD Cert.OutOIdeal.τ).loc Cert.OutOIdeal.main_arg2)) →
    ∃ (v0 : (c : Dev Cert.OutOIdeal.nD) → Buf (Elt Ideal) ((c.tc : Thread Cert.OutOIdeal.nD Cert.OutOIdeal.τ).loc Cert.OutOIdeal.main_v0)),
      θ_run (Cert.OutOIdeal.defs (F := Ideal)) (onTc (τ := Cert.OutOIdeal.τ) (Cert.OutOIdeal.main (F := Ideal))) ⟨m, fun _ => 0, g⟩ (fun r => ∀ c : Dev Cert.OutOIdeal.nD,
          r.2.mem ((c.tc : Thread Cert.OutOIdeal.nD Cert.OutOIdeal.τ).loc Cert.OutOIdeal.main_v0) = v0 c
          ∧ r.2.mem ((c.tc : Thread Cert.OutOIdeal.nD Cert.OutOIdeal.τ).loc Cert.OutOIdeal.main_arg0) = m ((c.tc : Thread Cert.OutOIdeal.nD Cert.OutOIdeal.τ).loc Cert.OutOIdeal.main_arg0)
          ∧ r.2.mem ((c.tc : Thread Cert.OutOIdeal.nD Cert.OutOIdeal.τ).loc Cert.OutOIdeal.main_arg1) = m ((c.tc : Thread Cert.OutOIdeal.nD Cert.OutOIdeal.τ).loc Cert.OutOIdeal.main_arg1)
          ∧ r.2.mem ((c.tc : Thread Cert.OutOIdeal.nD Cert.OutOIdeal.τ).loc Cert.OutOIdeal.main_arg2) = m ((c.tc : Thread Cert.OutOIdeal.nD Cert.OutOIdeal.τ).loc Cert.OutOIdeal.main_arg2))
      ∧ θ_run (Cert.OutORefIdeal.defs (F := Ideal)) (onTc (τ := Cert.OutORefIdeal.τ) (Cert.OutORefIdeal.main (F := Ideal))) ⟨m', fun _ => 0, g'⟩ (fun r => ∀ c : Dev Cert.OutORefIdeal.nD,
          r.2.mem ((c.tc : Thread Cert.OutORefIdeal.nD Cert.OutORefIdeal.τ).loc Cert.OutORefIdeal.main_v5) = v0 c
          ∧ r.2.mem ((c.tc : Thread Cert.OutORefIdeal.nD Cert.OutORefIdeal.τ).loc Cert.OutORefIdeal.main_arg0) = m' ((c.tc : Thread Cert.OutORefIdeal.nD Cert.OutORefIdeal.τ).loc Cert.OutORefIdeal.main_arg0)
          ∧ r.2.mem ((c.tc : Thread Cert.OutORefIdeal.nD Cert.OutORefIdeal.τ).loc Cert.OutORefIdeal.main_arg1) = m' ((c.tc : Thread Cert.OutORefIdeal.nD Cert.OutORefIdeal.τ).loc Cert.OutORefIdeal.main_arg1)
          ∧ r.2.mem ((c.tc : Thread Cert.OutORefIdeal.nD Cert.OutORefIdeal.τ).loc Cert.OutORefIdeal.main_arg2) = m' ((c.tc : Thread Cert.OutORefIdeal.nD Cert.OutORefIdeal.τ).loc Cert.OutORefIdeal.main_arg2))

def preserves_OutET_OutETIdeal : Prop :=
  True

def algebraic_OutETIdeal_OutETRefIdeal [hOutETIdeal : Cert.OutETIdeal.Facts] [hOutETRefIdeal : Cert.OutETRefIdeal.Facts] : Prop :=
  ∀ (m : (ℓ : Loc Cert.OutETIdeal.nD Cert.OutETIdeal.τ Cert.OutETIdeal.sig) → Buf (Elt Ideal) ℓ) (g : Dev Cert.OutETIdeal.nD → PrngReg)
    (m' : (ℓ : Loc Cert.OutETRefIdeal.nD Cert.OutETRefIdeal.τ Cert.OutETRefIdeal.sig) → Buf (Elt Ideal) ℓ) (g' : Dev Cert.OutETRefIdeal.nD → PrngReg), Pre_OutETIdeal m →
    (∀ c : Dev Cert.OutETIdeal.nD,
      m' ((c.tc : Thread Cert.OutETRefIdeal.nD Cert.OutETRefIdeal.τ).loc Cert.OutETRefIdeal.main_arg0) = m ((c.tc : Thread Cert.OutETIdeal.nD Cert.OutETIdeal.τ).loc Cert.OutETIdeal.main_arg0)
      ∧ m' ((c.tc : Thread Cert.OutETRefIdeal.nD Cert.OutETRefIdeal.τ).loc Cert.OutETRefIdeal.main_arg1) = m ((c.tc : Thread Cert.OutETIdeal.nD Cert.OutETIdeal.τ).loc Cert.OutETIdeal.main_arg1)) →
    ∃ (v0 : (c : Dev Cert.OutETIdeal.nD) → Buf (Elt Ideal) ((c.tc : Thread Cert.OutETIdeal.nD Cert.OutETIdeal.τ).loc Cert.OutETIdeal.main_v0)),
      θ_run (Cert.OutETIdeal.defs (F := Ideal)) (onTc (τ := Cert.OutETIdeal.τ) (Cert.OutETIdeal.main (F := Ideal))) ⟨m, fun _ => 0, g⟩ (fun r => ∀ c : Dev Cert.OutETIdeal.nD,
          r.2.mem ((c.tc : Thread Cert.OutETIdeal.nD Cert.OutETIdeal.τ).loc Cert.OutETIdeal.main_v0) = v0 c
          ∧ r.2.mem ((c.tc : Thread Cert.OutETIdeal.nD Cert.OutETIdeal.τ).loc Cert.OutETIdeal.main_arg0) = m ((c.tc : Thread Cert.OutETIdeal.nD Cert.OutETIdeal.τ).loc Cert.OutETIdeal.main_arg0)
          ∧ r.2.mem ((c.tc : Thread Cert.OutETIdeal.nD Cert.OutETIdeal.τ).loc Cert.OutETIdeal.main_arg1) = m ((c.tc : Thread Cert.OutETIdeal.nD Cert.OutETIdeal.τ).loc Cert.OutETIdeal.main_arg1))
      ∧ θ_run (Cert.OutETRefIdeal.defs (F := Ideal)) (onTc (τ := Cert.OutETRefIdeal.τ) (Cert.OutETRefIdeal.main (F := Ideal))) ⟨m', fun _ => 0, g'⟩ (fun r => ∀ c : Dev Cert.OutETRefIdeal.nD,
          r.2.mem ((c.tc : Thread Cert.OutETRefIdeal.nD Cert.OutETRefIdeal.τ).loc Cert.OutETRefIdeal.main_v6) = v0 c
          ∧ r.2.mem ((c.tc : Thread Cert.OutETRefIdeal.nD Cert.OutETRefIdeal.τ).loc Cert.OutETRefIdeal.main_arg0) = m' ((c.tc : Thread Cert.OutETRefIdeal.nD Cert.OutETRefIdeal.τ).loc Cert.OutETRefIdeal.main_arg0)
          ∧ r.2.mem ((c.tc : Thread Cert.OutETRefIdeal.nD Cert.OutETRefIdeal.τ).loc Cert.OutETRefIdeal.main_arg1) = m' ((c.tc : Thread Cert.OutETRefIdeal.nD Cert.OutETRefIdeal.τ).loc Cert.OutETRefIdeal.main_arg1))

def preserves_OutOT_OutOTIdeal : Prop :=
  True

def algebraic_OutOTIdeal_OutOTRefIdeal [hOutOTIdeal : Cert.OutOTIdeal.Facts] [hOutOTRefIdeal : Cert.OutOTRefIdeal.Facts] : Prop :=
  ∀ (m : (ℓ : Loc Cert.OutOTIdeal.nD Cert.OutOTIdeal.τ Cert.OutOTIdeal.sig) → Buf (Elt Ideal) ℓ) (g : Dev Cert.OutOTIdeal.nD → PrngReg)
    (m' : (ℓ : Loc Cert.OutOTRefIdeal.nD Cert.OutOTRefIdeal.τ Cert.OutOTRefIdeal.sig) → Buf (Elt Ideal) ℓ) (g' : Dev Cert.OutOTRefIdeal.nD → PrngReg), Pre_OutOTIdeal m →
    (∀ c : Dev Cert.OutOTIdeal.nD,
      m' ((c.tc : Thread Cert.OutOTRefIdeal.nD Cert.OutOTRefIdeal.τ).loc Cert.OutOTRefIdeal.main_arg0) = m ((c.tc : Thread Cert.OutOTIdeal.nD Cert.OutOTIdeal.τ).loc Cert.OutOTIdeal.main_arg0)
      ∧ m' ((c.tc : Thread Cert.OutOTRefIdeal.nD Cert.OutOTRefIdeal.τ).loc Cert.OutOTRefIdeal.main_arg1) = m ((c.tc : Thread Cert.OutOTIdeal.nD Cert.OutOTIdeal.τ).loc Cert.OutOTIdeal.main_arg1)) →
    ∃ (v0 : (c : Dev Cert.OutOTIdeal.nD) → Buf (Elt Ideal) ((c.tc : Thread Cert.OutOTIdeal.nD Cert.OutOTIdeal.τ).loc Cert.OutOTIdeal.main_v0)),
      θ_run (Cert.OutOTIdeal.defs (F := Ideal)) (onTc (τ := Cert.OutOTIdeal.τ) (Cert.OutOTIdeal.main (F := Ideal))) ⟨m, fun _ => 0, g⟩ (fun r => ∀ c : Dev Cert.OutOTIdeal.nD,
          r.2.mem ((c.tc : Thread Cert.OutOTIdeal.nD Cert.OutOTIdeal.τ).loc Cert.OutOTIdeal.main_v0) = v0 c
          ∧ r.2.mem ((c.tc : Thread Cert.OutOTIdeal.nD Cert.OutOTIdeal.τ).loc Cert.OutOTIdeal.main_arg0) = m ((c.tc : Thread Cert.OutOTIdeal.nD Cert.OutOTIdeal.τ).loc Cert.OutOTIdeal.main_arg0)
          ∧ r.2.mem ((c.tc : Thread Cert.OutOTIdeal.nD Cert.OutOTIdeal.τ).loc Cert.OutOTIdeal.main_arg1) = m ((c.tc : Thread Cert.OutOTIdeal.nD Cert.OutOTIdeal.τ).loc Cert.OutOTIdeal.main_arg1))
      ∧ θ_run (Cert.OutOTRefIdeal.defs (F := Ideal)) (onTc (τ := Cert.OutOTRefIdeal.τ) (Cert.OutOTRefIdeal.main (F := Ideal))) ⟨m', fun _ => 0, g'⟩ (fun r => ∀ c : Dev Cert.OutOTRefIdeal.nD,
          r.2.mem ((c.tc : Thread Cert.OutOTRefIdeal.nD Cert.OutOTRefIdeal.τ).loc Cert.OutOTRefIdeal.main_v6) = v0 c
          ∧ r.2.mem ((c.tc : Thread Cert.OutOTRefIdeal.nD Cert.OutOTRefIdeal.τ).loc Cert.OutOTRefIdeal.main_arg0) = m' ((c.tc : Thread Cert.OutOTRefIdeal.nD Cert.OutOTRefIdeal.τ).loc Cert.OutOTRefIdeal.main_arg0)
          ∧ r.2.mem ((c.tc : Thread Cert.OutOTRefIdeal.nD Cert.OutOTRefIdeal.τ).loc Cert.OutOTRefIdeal.main_arg1) = m' ((c.tc : Thread Cert.OutOTRefIdeal.nD Cert.OutOTRefIdeal.τ).loc Cert.OutOTRefIdeal.main_arg1))

def preserves_GateT_GateTIdeal : Prop :=
  True

def algebraic_GateTIdeal_GateTRefIdeal [hGateTIdeal : Cert.GateTIdeal.Facts] [hGateTRefIdeal : Cert.GateTRefIdeal.Facts] : Prop :=
  ∀ (m : (ℓ : Loc Cert.GateTIdeal.nD Cert.GateTIdeal.τ Cert.GateTIdeal.sig) → Buf (Elt Ideal) ℓ) (g : Dev Cert.GateTIdeal.nD → PrngReg)
    (m' : (ℓ : Loc Cert.GateTRefIdeal.nD Cert.GateTRefIdeal.τ Cert.GateTRefIdeal.sig) → Buf (Elt Ideal) ℓ) (g' : Dev Cert.GateTRefIdeal.nD → PrngReg), Pre_GateTIdeal m →
    (∀ c : Dev Cert.GateTIdeal.nD,
      m' ((c.tc : Thread Cert.GateTRefIdeal.nD Cert.GateTRefIdeal.τ).loc Cert.GateTRefIdeal.main_arg0) = m ((c.tc : Thread Cert.GateTIdeal.nD Cert.GateTIdeal.τ).loc Cert.GateTIdeal.main_arg0)
      ∧ m' ((c.tc : Thread Cert.GateTRefIdeal.nD Cert.GateTRefIdeal.τ).loc Cert.GateTRefIdeal.main_arg1) = m ((c.tc : Thread Cert.GateTIdeal.nD Cert.GateTIdeal.τ).loc Cert.GateTIdeal.main_arg1)) →
    ∃ (v0 : (c : Dev Cert.GateTIdeal.nD) → Buf (Elt Ideal) ((c.tc : Thread Cert.GateTIdeal.nD Cert.GateTIdeal.τ).loc Cert.GateTIdeal.main_v0)),
      θ_run (Cert.GateTIdeal.defs (F := Ideal)) (onTc (τ := Cert.GateTIdeal.τ) (Cert.GateTIdeal.main (F := Ideal))) ⟨m, fun _ => 0, g⟩ (fun r => ∀ c : Dev Cert.GateTIdeal.nD,
          r.2.mem ((c.tc : Thread Cert.GateTIdeal.nD Cert.GateTIdeal.τ).loc Cert.GateTIdeal.main_v0) = v0 c
          ∧ r.2.mem ((c.tc : Thread Cert.GateTIdeal.nD Cert.GateTIdeal.τ).loc Cert.GateTIdeal.main_arg0) = m ((c.tc : Thread Cert.GateTIdeal.nD Cert.GateTIdeal.τ).loc Cert.GateTIdeal.main_arg0)
          ∧ r.2.mem ((c.tc : Thread Cert.GateTIdeal.nD Cert.GateTIdeal.τ).loc Cert.GateTIdeal.main_arg1) = m ((c.tc : Thread Cert.GateTIdeal.nD Cert.GateTIdeal.τ).loc Cert.GateTIdeal.main_arg1))
      ∧ θ_run (Cert.GateTRefIdeal.defs (F := Ideal)) (onTc (τ := Cert.GateTRefIdeal.τ) (Cert.GateTRefIdeal.main (F := Ideal))) ⟨m', fun _ => 0, g'⟩ (fun r => ∀ c : Dev Cert.GateTRefIdeal.nD,
          r.2.mem ((c.tc : Thread Cert.GateTRefIdeal.nD Cert.GateTRefIdeal.τ).loc Cert.GateTRefIdeal.main_v6) = v0 c
          ∧ r.2.mem ((c.tc : Thread Cert.GateTRefIdeal.nD Cert.GateTRefIdeal.τ).loc Cert.GateTRefIdeal.main_arg0) = m' ((c.tc : Thread Cert.GateTRefIdeal.nD Cert.GateTRefIdeal.τ).loc Cert.GateTRefIdeal.main_arg0)
          ∧ r.2.mem ((c.tc : Thread Cert.GateTRefIdeal.nD Cert.GateTRefIdeal.τ).loc Cert.GateTRefIdeal.main_arg1) = m' ((c.tc : Thread Cert.GateTRefIdeal.nD Cert.GateTRefIdeal.τ).loc Cert.GateTRefIdeal.main_arg1))

def preserves_GateLT_GateLTIdeal : Prop :=
  True

def algebraic_GateLTIdeal_GateLTRefIdeal [hGateLTIdeal : Cert.GateLTIdeal.Facts] [hGateLTRefIdeal : Cert.GateLTRefIdeal.Facts] : Prop :=
  ∀ (m : (ℓ : Loc Cert.GateLTIdeal.nD Cert.GateLTIdeal.τ Cert.GateLTIdeal.sig) → Buf (Elt Ideal) ℓ) (g : Dev Cert.GateLTIdeal.nD → PrngReg)
    (m' : (ℓ : Loc Cert.GateLTRefIdeal.nD Cert.GateLTRefIdeal.τ Cert.GateLTRefIdeal.sig) → Buf (Elt Ideal) ℓ) (g' : Dev Cert.GateLTRefIdeal.nD → PrngReg), Pre_GateLTIdeal m →
    (∀ c : Dev Cert.GateLTIdeal.nD,
      m' ((c.tc : Thread Cert.GateLTRefIdeal.nD Cert.GateLTRefIdeal.τ).loc Cert.GateLTRefIdeal.main_arg0) = m ((c.tc : Thread Cert.GateLTIdeal.nD Cert.GateLTIdeal.τ).loc Cert.GateLTIdeal.main_arg0)
      ∧ m' ((c.tc : Thread Cert.GateLTRefIdeal.nD Cert.GateLTRefIdeal.τ).loc Cert.GateLTRefIdeal.main_arg1) = m ((c.tc : Thread Cert.GateLTIdeal.nD Cert.GateLTIdeal.τ).loc Cert.GateLTIdeal.main_arg1)) →
    ∃ (v0 : (c : Dev Cert.GateLTIdeal.nD) → Buf (Elt Ideal) ((c.tc : Thread Cert.GateLTIdeal.nD Cert.GateLTIdeal.τ).loc Cert.GateLTIdeal.main_v0)),
      θ_run (Cert.GateLTIdeal.defs (F := Ideal)) (onTc (τ := Cert.GateLTIdeal.τ) (Cert.GateLTIdeal.main (F := Ideal))) ⟨m, fun _ => 0, g⟩ (fun r => ∀ c : Dev Cert.GateLTIdeal.nD,
          r.2.mem ((c.tc : Thread Cert.GateLTIdeal.nD Cert.GateLTIdeal.τ).loc Cert.GateLTIdeal.main_v0) = v0 c
          ∧ r.2.mem ((c.tc : Thread Cert.GateLTIdeal.nD Cert.GateLTIdeal.τ).loc Cert.GateLTIdeal.main_arg0) = m ((c.tc : Thread Cert.GateLTIdeal.nD Cert.GateLTIdeal.τ).loc Cert.GateLTIdeal.main_arg0)
          ∧ r.2.mem ((c.tc : Thread Cert.GateLTIdeal.nD Cert.GateLTIdeal.τ).loc Cert.GateLTIdeal.main_arg1) = m ((c.tc : Thread Cert.GateLTIdeal.nD Cert.GateLTIdeal.τ).loc Cert.GateLTIdeal.main_arg1))
      ∧ θ_run (Cert.GateLTRefIdeal.defs (F := Ideal)) (onTc (τ := Cert.GateLTRefIdeal.τ) (Cert.GateLTRefIdeal.main (F := Ideal))) ⟨m', fun _ => 0, g'⟩ (fun r => ∀ c : Dev Cert.GateLTRefIdeal.nD,
          r.2.mem ((c.tc : Thread Cert.GateLTRefIdeal.nD Cert.GateLTRefIdeal.τ).loc Cert.GateLTRefIdeal.main_v6) = v0 c
          ∧ r.2.mem ((c.tc : Thread Cert.GateLTRefIdeal.nD Cert.GateLTRefIdeal.τ).loc Cert.GateLTRefIdeal.main_arg0) = m' ((c.tc : Thread Cert.GateLTRefIdeal.nD Cert.GateLTRefIdeal.τ).loc Cert.GateLTRefIdeal.main_arg0)
          ∧ r.2.mem ((c.tc : Thread Cert.GateLTRefIdeal.nD Cert.GateLTRefIdeal.τ).loc Cert.GateLTRefIdeal.main_arg1) = m' ((c.tc : Thread Cert.GateLTRefIdeal.nD Cert.GateLTRefIdeal.τ).loc Cert.GateLTRefIdeal.main_arg1))

def preserves_DOutE_DOutEIdeal : Prop :=
  True

def algebraic_DOutEIdeal_DOutERefIdeal [hDOutEIdeal : Cert.DOutEIdeal.Facts] [hDOutERefIdeal : Cert.DOutERefIdeal.Facts] : Prop :=
  ∀ (m : (ℓ : Loc Cert.DOutEIdeal.nD Cert.DOutEIdeal.τ Cert.DOutEIdeal.sig) → Buf (Elt Ideal) ℓ) (g : Dev Cert.DOutEIdeal.nD → PrngReg)
    (m' : (ℓ : Loc Cert.DOutERefIdeal.nD Cert.DOutERefIdeal.τ Cert.DOutERefIdeal.sig) → Buf (Elt Ideal) ℓ) (g' : Dev Cert.DOutERefIdeal.nD → PrngReg), Pre_DOutEIdeal m →
    (∀ c : Dev Cert.DOutEIdeal.nD,
      m' ((c.tc : Thread Cert.DOutERefIdeal.nD Cert.DOutERefIdeal.τ).loc Cert.DOutERefIdeal.main_arg0) = m ((c.tc : Thread Cert.DOutEIdeal.nD Cert.DOutEIdeal.τ).loc Cert.DOutEIdeal.main_arg0)
      ∧ m' ((c.tc : Thread Cert.DOutERefIdeal.nD Cert.DOutERefIdeal.τ).loc Cert.DOutERefIdeal.main_arg1) = m ((c.tc : Thread Cert.DOutEIdeal.nD Cert.DOutEIdeal.τ).loc Cert.DOutEIdeal.main_arg1)
      ∧ m' ((c.tc : Thread Cert.DOutERefIdeal.nD Cert.DOutERefIdeal.τ).loc Cert.DOutERefIdeal.main_arg2) = m ((c.tc : Thread Cert.DOutEIdeal.nD Cert.DOutEIdeal.τ).loc Cert.DOutEIdeal.main_arg2)) →
    ∃ (v0 : (c : Dev Cert.DOutEIdeal.nD) → Buf (Elt Ideal) ((c.tc : Thread Cert.DOutEIdeal.nD Cert.DOutEIdeal.τ).loc Cert.DOutEIdeal.main_v0)),
      θ_run (Cert.DOutEIdeal.defs (F := Ideal)) (onTc (τ := Cert.DOutEIdeal.τ) (Cert.DOutEIdeal.main (F := Ideal))) ⟨m, fun _ => 0, g⟩ (fun r => ∀ c : Dev Cert.DOutEIdeal.nD,
          r.2.mem ((c.tc : Thread Cert.DOutEIdeal.nD Cert.DOutEIdeal.τ).loc Cert.DOutEIdeal.main_v0) = v0 c
          ∧ r.2.mem ((c.tc : Thread Cert.DOutEIdeal.nD Cert.DOutEIdeal.τ).loc Cert.DOutEIdeal.main_arg0) = m ((c.tc : Thread Cert.DOutEIdeal.nD Cert.DOutEIdeal.τ).loc Cert.DOutEIdeal.main_arg0)
          ∧ r.2.mem ((c.tc : Thread Cert.DOutEIdeal.nD Cert.DOutEIdeal.τ).loc Cert.DOutEIdeal.main_arg1) = m ((c.tc : Thread Cert.DOutEIdeal.nD Cert.DOutEIdeal.τ).loc Cert.DOutEIdeal.main_arg1)
          ∧ r.2.mem ((c.tc : Thread Cert.DOutEIdeal.nD Cert.DOutEIdeal.τ).loc Cert.DOutEIdeal.main_arg2) = m ((c.tc : Thread Cert.DOutEIdeal.nD Cert.DOutEIdeal.τ).loc Cert.DOutEIdeal.main_arg2))
      ∧ θ_run (Cert.DOutERefIdeal.defs (F := Ideal)) (onTc (τ := Cert.DOutERefIdeal.τ) (Cert.DOutERefIdeal.main (F := Ideal))) ⟨m', fun _ => 0, g'⟩ (fun r => ∀ c : Dev Cert.DOutERefIdeal.nD,
          r.2.mem ((c.tc : Thread Cert.DOutERefIdeal.nD Cert.DOutERefIdeal.τ).loc Cert.DOutERefIdeal.main_v9) = v0 c
          ∧ r.2.mem ((c.tc : Thread Cert.DOutERefIdeal.nD Cert.DOutERefIdeal.τ).loc Cert.DOutERefIdeal.main_arg0) = m' ((c.tc : Thread Cert.DOutERefIdeal.nD Cert.DOutERefIdeal.τ).loc Cert.DOutERefIdeal.main_arg0)
          ∧ r.2.mem ((c.tc : Thread Cert.DOutERefIdeal.nD Cert.DOutERefIdeal.τ).loc Cert.DOutERefIdeal.main_arg1) = m' ((c.tc : Thread Cert.DOutERefIdeal.nD Cert.DOutERefIdeal.τ).loc Cert.DOutERefIdeal.main_arg1)
          ∧ r.2.mem ((c.tc : Thread Cert.DOutERefIdeal.nD Cert.DOutERefIdeal.τ).loc Cert.DOutERefIdeal.main_arg2) = m' ((c.tc : Thread Cert.DOutERefIdeal.nD Cert.DOutERefIdeal.τ).loc Cert.DOutERefIdeal.main_arg2))

def preserves_DOutO_DOutOIdeal : Prop :=
  True

def algebraic_DOutOIdeal_DOutORefIdeal [hDOutOIdeal : Cert.DOutOIdeal.Facts] [hDOutORefIdeal : Cert.DOutORefIdeal.Facts] : Prop :=
  ∀ (m : (ℓ : Loc Cert.DOutOIdeal.nD Cert.DOutOIdeal.τ Cert.DOutOIdeal.sig) → Buf (Elt Ideal) ℓ) (g : Dev Cert.DOutOIdeal.nD → PrngReg)
    (m' : (ℓ : Loc Cert.DOutORefIdeal.nD Cert.DOutORefIdeal.τ Cert.DOutORefIdeal.sig) → Buf (Elt Ideal) ℓ) (g' : Dev Cert.DOutORefIdeal.nD → PrngReg), Pre_DOutOIdeal m →
    (∀ c : Dev Cert.DOutOIdeal.nD,
      m' ((c.tc : Thread Cert.DOutORefIdeal.nD Cert.DOutORefIdeal.τ).loc Cert.DOutORefIdeal.main_arg0) = m ((c.tc : Thread Cert.DOutOIdeal.nD Cert.DOutOIdeal.τ).loc Cert.DOutOIdeal.main_arg0)
      ∧ m' ((c.tc : Thread Cert.DOutORefIdeal.nD Cert.DOutORefIdeal.τ).loc Cert.DOutORefIdeal.main_arg1) = m ((c.tc : Thread Cert.DOutOIdeal.nD Cert.DOutOIdeal.τ).loc Cert.DOutOIdeal.main_arg1)
      ∧ m' ((c.tc : Thread Cert.DOutORefIdeal.nD Cert.DOutORefIdeal.τ).loc Cert.DOutORefIdeal.main_arg2) = m ((c.tc : Thread Cert.DOutOIdeal.nD Cert.DOutOIdeal.τ).loc Cert.DOutOIdeal.main_arg2)) →
    ∃ (v0 : (c : Dev Cert.DOutOIdeal.nD) → Buf (Elt Ideal) ((c.tc : Thread Cert.DOutOIdeal.nD Cert.DOutOIdeal.τ).loc Cert.DOutOIdeal.main_v0)),
      θ_run (Cert.DOutOIdeal.defs (F := Ideal)) (onTc (τ := Cert.DOutOIdeal.τ) (Cert.DOutOIdeal.main (F := Ideal))) ⟨m, fun _ => 0, g⟩ (fun r => ∀ c : Dev Cert.DOutOIdeal.nD,
          r.2.mem ((c.tc : Thread Cert.DOutOIdeal.nD Cert.DOutOIdeal.τ).loc Cert.DOutOIdeal.main_v0) = v0 c
          ∧ r.2.mem ((c.tc : Thread Cert.DOutOIdeal.nD Cert.DOutOIdeal.τ).loc Cert.DOutOIdeal.main_arg0) = m ((c.tc : Thread Cert.DOutOIdeal.nD Cert.DOutOIdeal.τ).loc Cert.DOutOIdeal.main_arg0)
          ∧ r.2.mem ((c.tc : Thread Cert.DOutOIdeal.nD Cert.DOutOIdeal.τ).loc Cert.DOutOIdeal.main_arg1) = m ((c.tc : Thread Cert.DOutOIdeal.nD Cert.DOutOIdeal.τ).loc Cert.DOutOIdeal.main_arg1)
          ∧ r.2.mem ((c.tc : Thread Cert.DOutOIdeal.nD Cert.DOutOIdeal.τ).loc Cert.DOutOIdeal.main_arg2) = m ((c.tc : Thread Cert.DOutOIdeal.nD Cert.DOutOIdeal.τ).loc Cert.DOutOIdeal.main_arg2))
      ∧ θ_run (Cert.DOutORefIdeal.defs (F := Ideal)) (onTc (τ := Cert.DOutORefIdeal.τ) (Cert.DOutORefIdeal.main (F := Ideal))) ⟨m', fun _ => 0, g'⟩ (fun r => ∀ c : Dev Cert.DOutORefIdeal.nD,
          r.2.mem ((c.tc : Thread Cert.DOutORefIdeal.nD Cert.DOutORefIdeal.τ).loc Cert.DOutORefIdeal.main_v9) = v0 c
          ∧ r.2.mem ((c.tc : Thread Cert.DOutORefIdeal.nD Cert.DOutORefIdeal.τ).loc Cert.DOutORefIdeal.main_arg0) = m' ((c.tc : Thread Cert.DOutORefIdeal.nD Cert.DOutORefIdeal.τ).loc Cert.DOutORefIdeal.main_arg0)
          ∧ r.2.mem ((c.tc : Thread Cert.DOutORefIdeal.nD Cert.DOutORefIdeal.τ).loc Cert.DOutORefIdeal.main_arg1) = m' ((c.tc : Thread Cert.DOutORefIdeal.nD Cert.DOutORefIdeal.τ).loc Cert.DOutORefIdeal.main_arg1)
          ∧ r.2.mem ((c.tc : Thread Cert.DOutORefIdeal.nD Cert.DOutORefIdeal.τ).loc Cert.DOutORefIdeal.main_arg2) = m' ((c.tc : Thread Cert.DOutORefIdeal.nD Cert.DOutORefIdeal.τ).loc Cert.DOutORefIdeal.main_arg2))

def preserves_DGlu_DGluIdeal : Prop :=
  True

def algebraic_DGluIdeal_DGluRefIdeal [hDGluIdeal : Cert.DGluIdeal.Facts] [hDGluRefIdeal : Cert.DGluRefIdeal.Facts] : Prop :=
  ∀ (m : (ℓ : Loc Cert.DGluIdeal.nD Cert.DGluIdeal.τ Cert.DGluIdeal.sig) → Buf (Elt Ideal) ℓ) (g : Dev Cert.DGluIdeal.nD → PrngReg)
    (m' : (ℓ : Loc Cert.DGluRefIdeal.nD Cert.DGluRefIdeal.τ Cert.DGluRefIdeal.sig) → Buf (Elt Ideal) ℓ) (g' : Dev Cert.DGluRefIdeal.nD → PrngReg), Pre_DGluIdeal m →
    (∀ c : Dev Cert.DGluIdeal.nD,
      m' ((c.tc : Thread Cert.DGluRefIdeal.nD Cert.DGluRefIdeal.τ).loc Cert.DGluRefIdeal.main_arg0) = m ((c.tc : Thread Cert.DGluIdeal.nD Cert.DGluIdeal.τ).loc Cert.DGluIdeal.main_arg0)
      ∧ m' ((c.tc : Thread Cert.DGluRefIdeal.nD Cert.DGluRefIdeal.τ).loc Cert.DGluRefIdeal.main_arg1) = m ((c.tc : Thread Cert.DGluIdeal.nD Cert.DGluIdeal.τ).loc Cert.DGluIdeal.main_arg1)
      ∧ m' ((c.tc : Thread Cert.DGluRefIdeal.nD Cert.DGluRefIdeal.τ).loc Cert.DGluRefIdeal.main_arg2) = m ((c.tc : Thread Cert.DGluIdeal.nD Cert.DGluIdeal.τ).loc Cert.DGluIdeal.main_arg2)) →
    ∃ (v0 : (c : Dev Cert.DGluIdeal.nD) → Buf (Elt Ideal) ((c.tc : Thread Cert.DGluIdeal.nD Cert.DGluIdeal.τ).loc Cert.DGluIdeal.main_v0)),
      θ_run (Cert.DGluIdeal.defs (F := Ideal)) (onTc (τ := Cert.DGluIdeal.τ) (Cert.DGluIdeal.main (F := Ideal))) ⟨m, fun _ => 0, g⟩ (fun r => ∀ c : Dev Cert.DGluIdeal.nD,
          r.2.mem ((c.tc : Thread Cert.DGluIdeal.nD Cert.DGluIdeal.τ).loc Cert.DGluIdeal.main_v0) = v0 c
          ∧ r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
          ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1)
          ∧ r.2.mem ((c.tc : Thread Cert.DGluIdeal.nD Cert.DGluIdeal.τ).loc Cert.DGluIdeal.main_arg2) = m ((c.tc : Thread Cert.DGluIdeal.nD Cert.DGluIdeal.τ).loc Cert.DGluIdeal.main_arg2))
      ∧ θ_run (Cert.DGluRefIdeal.defs (F := Ideal)) (onTc (τ := Cert.DGluRefIdeal.τ) (Cert.DGluRefIdeal.main (F := Ideal))) ⟨m', fun _ => 0, g'⟩ (fun r => ∀ c : Dev Cert.DGluRefIdeal.nD,
          r.2.mem ((c.tc : Thread Cert.DGluRefIdeal.nD Cert.DGluRefIdeal.τ).loc Cert.DGluRefIdeal.main_v10) = v0 c
          ∧ r.2.mem ((c.tc : Thread Cert.DGluRefIdeal.nD Cert.DGluRefIdeal.τ).loc Cert.DGluRefIdeal.main_arg0) = m' ((c.tc : Thread Cert.DGluRefIdeal.nD Cert.DGluRefIdeal.τ).loc Cert.DGluRefIdeal.main_arg0)
          ∧ r.2.mem ((c.tc : Thread Cert.DGluRefIdeal.nD Cert.DGluRefIdeal.τ).loc Cert.DGluRefIdeal.main_arg1) = m' ((c.tc : Thread Cert.DGluRefIdeal.nD Cert.DGluRefIdeal.τ).loc Cert.DGluRefIdeal.main_arg1)
          ∧ r.2.mem ((c.tc : Thread Cert.DGluRefIdeal.nD Cert.DGluRefIdeal.τ).loc Cert.DGluRefIdeal.main_arg2) = m' ((c.tc : Thread Cert.DGluRefIdeal.nD Cert.DGluRefIdeal.τ).loc Cert.DGluRefIdeal.main_arg2))

def preserves_DGate_DGateIdeal : Prop :=
  True

def algebraic_DGateIdeal_DGateRefIdeal [hDGateIdeal : Cert.DGateIdeal.Facts] [hDGateRefIdeal : Cert.DGateRefIdeal.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)) →
    ∃ (v0 : (c : Dev Cert.DGateIdeal.nD) → Buf (Elt Ideal) ((c.tc : Thread Cert.DGateIdeal.nD Cert.DGateIdeal.τ).loc Cert.DGateIdeal.main_v0)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0) = v0 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v10) = v0 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2))

def preserves_DGateL_DGateLIdeal : Prop :=
  True

def algebraic_DGateLIdeal_DGateLRefIdeal [hDGateLIdeal : Cert.DGateLIdeal.Facts] [hDGateLRefIdeal : Cert.DGateLRefIdeal.Facts] : Prop :=
  ∀ (m : (ℓ : Loc Cert.DGateLIdeal.nD Cert.DGateLIdeal.τ Cert.DGateLIdeal.sig) → Buf (Elt Ideal) ℓ) (g : Dev Cert.DGateLIdeal.nD → PrngReg)
    (m' : (ℓ : Loc Cert.DGateLRefIdeal.nD Cert.DGateLRefIdeal.τ Cert.DGateLRefIdeal.sig) → Buf (Elt Ideal) ℓ) (g' : Dev Cert.DGateLRefIdeal.nD → PrngReg), Pre_DGateLIdeal m →
    (∀ c : Dev Cert.DGateLIdeal.nD,
      m' ((c.tc : Thread Cert.DGateLRefIdeal.nD Cert.DGateLRefIdeal.τ).loc Cert.DGateLRefIdeal.main_arg0) = m ((c.tc : Thread Cert.DGateLIdeal.nD Cert.DGateLIdeal.τ).loc Cert.DGateLIdeal.main_arg0)
      ∧ m' ((c.tc : Thread Cert.DGateLRefIdeal.nD Cert.DGateLRefIdeal.τ).loc Cert.DGateLRefIdeal.main_arg1) = m ((c.tc : Thread Cert.DGateLIdeal.nD Cert.DGateLIdeal.τ).loc Cert.DGateLIdeal.main_arg1)
      ∧ m' ((c.tc : Thread Cert.DGateLRefIdeal.nD Cert.DGateLRefIdeal.τ).loc Cert.DGateLRefIdeal.main_arg2) = m ((c.tc : Thread Cert.DGateLIdeal.nD Cert.DGateLIdeal.τ).loc Cert.DGateLIdeal.main_arg2)) →
    ∃ (v0 : (c : Dev Cert.DGateLIdeal.nD) → Buf (Elt Ideal) ((c.tc : Thread Cert.DGateLIdeal.nD Cert.DGateLIdeal.τ).loc Cert.DGateLIdeal.main_v0)),
      θ_run (Cert.DGateLIdeal.defs (F := Ideal)) (onTc (τ := Cert.DGateLIdeal.τ) (Cert.DGateLIdeal.main (F := Ideal))) ⟨m, fun _ => 0, g⟩ (fun r => ∀ c : Dev Cert.DGateLIdeal.nD,
          r.2.mem ((c.tc : Thread Cert.DGateLIdeal.nD Cert.DGateLIdeal.τ).loc Cert.DGateLIdeal.main_v0) = v0 c
          ∧ r.2.mem ((c.tc : Thread Cert.DGateLIdeal.nD Cert.DGateLIdeal.τ).loc Cert.DGateLIdeal.main_arg0) = m ((c.tc : Thread Cert.DGateLIdeal.nD Cert.DGateLIdeal.τ).loc Cert.DGateLIdeal.main_arg0)
          ∧ r.2.mem ((c.tc : Thread Cert.DGateLIdeal.nD Cert.DGateLIdeal.τ).loc Cert.DGateLIdeal.main_arg1) = m ((c.tc : Thread Cert.DGateLIdeal.nD Cert.DGateLIdeal.τ).loc Cert.DGateLIdeal.main_arg1)
          ∧ r.2.mem ((c.tc : Thread Cert.DGateLIdeal.nD Cert.DGateLIdeal.τ).loc Cert.DGateLIdeal.main_arg2) = m ((c.tc : Thread Cert.DGateLIdeal.nD Cert.DGateLIdeal.τ).loc Cert.DGateLIdeal.main_arg2))
      ∧ θ_run (Cert.DGateLRefIdeal.defs (F := Ideal)) (onTc (τ := Cert.DGateLRefIdeal.τ) (Cert.DGateLRefIdeal.main (F := Ideal))) ⟨m', fun _ => 0, g'⟩ (fun r => ∀ c : Dev Cert.DGateLRefIdeal.nD,
          r.2.mem ((c.tc : Thread Cert.DGateLRefIdeal.nD Cert.DGateLRefIdeal.τ).loc Cert.DGateLRefIdeal.main_v10) = v0 c
          ∧ r.2.mem ((c.tc : Thread Cert.DGateLRefIdeal.nD Cert.DGateLRefIdeal.τ).loc Cert.DGateLRefIdeal.main_arg0) = m' ((c.tc : Thread Cert.DGateLRefIdeal.nD Cert.DGateLRefIdeal.τ).loc Cert.DGateLRefIdeal.main_arg0)
          ∧ r.2.mem ((c.tc : Thread Cert.DGateLRefIdeal.nD Cert.DGateLRefIdeal.τ).loc Cert.DGateLRefIdeal.main_arg1) = m' ((c.tc : Thread Cert.DGateLRefIdeal.nD Cert.DGateLRefIdeal.τ).loc Cert.DGateLRefIdeal.main_arg1)
          ∧ r.2.mem ((c.tc : Thread Cert.DGateLRefIdeal.nD Cert.DGateLRefIdeal.τ).loc Cert.DGateLRefIdeal.main_arg2) = m' ((c.tc : Thread Cert.DGateLRefIdeal.nD Cert.DGateLRefIdeal.τ).loc Cert.DGateLRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v4) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_GateL_GateLIdeal : Prop :=
  True

def algebraic_GateLIdeal_GateLRefIdeal [hGateLIdeal : Cert.GateLIdeal.Facts] [hGateLRefIdeal : Cert.GateLRefIdeal.Facts] : Prop :=
  ∀ (m : (ℓ : Loc Cert.GateLIdeal.nD Cert.GateLIdeal.τ Cert.GateLIdeal.sig) → Buf (Elt Ideal) ℓ) (g : Dev Cert.GateLIdeal.nD → PrngReg)
    (m' : (ℓ : Loc Cert.GateLRefIdeal.nD Cert.GateLRefIdeal.τ Cert.GateLRefIdeal.sig) → Buf (Elt Ideal) ℓ) (g' : Dev Cert.GateLRefIdeal.nD → PrngReg), Pre_GateLIdeal m →
    (∀ c : Dev Cert.GateLIdeal.nD,
      m' ((c.tc : Thread Cert.GateLRefIdeal.nD Cert.GateLRefIdeal.τ).loc Cert.GateLRefIdeal.main_arg0) = m ((c.tc : Thread Cert.GateLIdeal.nD Cert.GateLIdeal.τ).loc Cert.GateLIdeal.main_arg0)
      ∧ m' ((c.tc : Thread Cert.GateLRefIdeal.nD Cert.GateLRefIdeal.τ).loc Cert.GateLRefIdeal.main_arg1) = m ((c.tc : Thread Cert.GateLIdeal.nD Cert.GateLIdeal.τ).loc Cert.GateLIdeal.main_arg1)
      ∧ m' ((c.tc : Thread Cert.GateLRefIdeal.nD Cert.GateLRefIdeal.τ).loc Cert.GateLRefIdeal.main_arg2) = m ((c.tc : Thread Cert.GateLIdeal.nD Cert.GateLIdeal.τ).loc Cert.GateLIdeal.main_arg2)
      ∧ m' ((c.tc : Thread Cert.GateLRefIdeal.nD Cert.GateLRefIdeal.τ).loc Cert.GateLRefIdeal.main_arg3) = m ((c.tc : Thread Cert.GateLIdeal.nD Cert.GateLIdeal.τ).loc Cert.GateLIdeal.main_arg3)) →
    ∃ (v0 : (c : Dev Cert.GateLIdeal.nD) → Buf (Elt Ideal) ((c.tc : Thread Cert.GateLIdeal.nD Cert.GateLIdeal.τ).loc Cert.GateLIdeal.main_v0_0)) (v1 : (c : Dev Cert.GateLIdeal.nD) → Buf (Elt Ideal) ((c.tc : Thread Cert.GateLIdeal.nD Cert.GateLIdeal.τ).loc Cert.GateLIdeal.main_v0_1)),
      θ_run (Cert.GateLIdeal.defs (F := Ideal)) (onTc (τ := Cert.GateLIdeal.τ) (Cert.GateLIdeal.main (F := Ideal))) ⟨m, fun _ => 0, g⟩ (fun r => ∀ c : Dev Cert.GateLIdeal.nD,
          r.2.mem ((c.tc : Thread Cert.GateLIdeal.nD Cert.GateLIdeal.τ).loc Cert.GateLIdeal.main_v0_0) = v0 c
          ∧ r.2.mem ((c.tc : Thread Cert.GateLIdeal.nD Cert.GateLIdeal.τ).loc Cert.GateLIdeal.main_v0_1) = v1 c
          ∧ r.2.mem ((c.tc : Thread Cert.GateLIdeal.nD Cert.GateLIdeal.τ).loc Cert.GateLIdeal.main_arg0) = m ((c.tc : Thread Cert.GateLIdeal.nD Cert.GateLIdeal.τ).loc Cert.GateLIdeal.main_arg0)
          ∧ r.2.mem ((c.tc : Thread Cert.GateLIdeal.nD Cert.GateLIdeal.τ).loc Cert.GateLIdeal.main_arg1) = m ((c.tc : Thread Cert.GateLIdeal.nD Cert.GateLIdeal.τ).loc Cert.GateLIdeal.main_arg1)
          ∧ r.2.mem ((c.tc : Thread Cert.GateLIdeal.nD Cert.GateLIdeal.τ).loc Cert.GateLIdeal.main_arg2) = m ((c.tc : Thread Cert.GateLIdeal.nD Cert.GateLIdeal.τ).loc Cert.GateLIdeal.main_arg2)
          ∧ r.2.mem ((c.tc : Thread Cert.GateLIdeal.nD Cert.GateLIdeal.τ).loc Cert.GateLIdeal.main_arg3) = m ((c.tc : Thread Cert.GateLIdeal.nD Cert.GateLIdeal.τ).loc Cert.GateLIdeal.main_arg3))
      ∧ θ_run (Cert.GateLRefIdeal.defs (F := Ideal)) (onTc (τ := Cert.GateLRefIdeal.τ) (Cert.GateLRefIdeal.main (F := Ideal))) ⟨m', fun _ => 0, g'⟩ (fun r => ∀ c : Dev Cert.GateLRefIdeal.nD,
          r.2.mem ((c.tc : Thread Cert.GateLRefIdeal.nD Cert.GateLRefIdeal.τ).loc Cert.GateLRefIdeal.main_v12) = v0 c
          ∧ r.2.mem ((c.tc : Thread Cert.GateLRefIdeal.nD Cert.GateLRefIdeal.τ).loc Cert.GateLRefIdeal.main_v4) = v1 c
          ∧ r.2.mem ((c.tc : Thread Cert.GateLRefIdeal.nD Cert.GateLRefIdeal.τ).loc Cert.GateLRefIdeal.main_arg0) = m' ((c.tc : Thread Cert.GateLRefIdeal.nD Cert.GateLRefIdeal.τ).loc Cert.GateLRefIdeal.main_arg0)
          ∧ r.2.mem ((c.tc : Thread Cert.GateLRefIdeal.nD Cert.GateLRefIdeal.τ).loc Cert.GateLRefIdeal.main_arg1) = m' ((c.tc : Thread Cert.GateLRefIdeal.nD Cert.GateLRefIdeal.τ).loc Cert.GateLRefIdeal.main_arg1)
          ∧ r.2.mem ((c.tc : Thread Cert.GateLRefIdeal.nD Cert.GateLRefIdeal.τ).loc Cert.GateLRefIdeal.main_arg2) = m' ((c.tc : Thread Cert.GateLRefIdeal.nD Cert.GateLRefIdeal.τ).loc Cert.GateLRefIdeal.main_arg2)
          ∧ r.2.mem ((c.tc : Thread Cert.GateLRefIdeal.nD Cert.GateLRefIdeal.τ).loc Cert.GateLRefIdeal.main_arg3) = m' ((c.tc : Thread Cert.GateLRefIdeal.nD Cert.GateLRefIdeal.τ).loc Cert.GateLRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_v6) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluT_GluTIdeal : Prop :=
  True

def algebraic_GluTIdeal_GluTRefIdeal [hGluTIdeal : Cert.GluTIdeal.Facts] [hGluTRefIdeal : Cert.GluTRefIdeal.Facts] : Prop :=
  ∀ (m : (ℓ : Loc Cert.GluTIdeal.nD Cert.GluTIdeal.τ Cert.GluTIdeal.sig) → Buf (Elt Ideal) ℓ) (g : Dev Cert.GluTIdeal.nD → PrngReg)
    (m' : (ℓ : Loc Cert.GluTRefIdeal.nD Cert.GluTRefIdeal.τ Cert.GluTRefIdeal.sig) → Buf (Elt Ideal) ℓ) (g' : Dev Cert.GluTRefIdeal.nD → PrngReg), Pre_GluTIdeal m →
    (∀ c : Dev Cert.GluTIdeal.nD,
      m' ((c.tc : Thread Cert.GluTRefIdeal.nD Cert.GluTRefIdeal.τ).loc Cert.GluTRefIdeal.main_arg0) = m ((c.tc : Thread Cert.GluTIdeal.nD Cert.GluTIdeal.τ).loc Cert.GluTIdeal.main_arg0)
      ∧ m' ((c.tc : Thread Cert.GluTRefIdeal.nD Cert.GluTRefIdeal.τ).loc Cert.GluTRefIdeal.main_arg1) = m ((c.tc : Thread Cert.GluTIdeal.nD Cert.GluTIdeal.τ).loc Cert.GluTIdeal.main_arg1)
      ∧ m' ((c.tc : Thread Cert.GluTRefIdeal.nD Cert.GluTRefIdeal.τ).loc Cert.GluTRefIdeal.main_arg2) = m ((c.tc : Thread Cert.GluTIdeal.nD Cert.GluTIdeal.τ).loc Cert.GluTIdeal.main_arg2)
      ∧ m' ((c.tc : Thread Cert.GluTRefIdeal.nD Cert.GluTRefIdeal.τ).loc Cert.GluTRefIdeal.main_arg3) = m ((c.tc : Thread Cert.GluTIdeal.nD Cert.GluTIdeal.τ).loc Cert.GluTIdeal.main_arg3)) →
    ∃ (v0 : (c : Dev Cert.GluTIdeal.nD) → Buf (Elt Ideal) ((c.tc : Thread Cert.GluTIdeal.nD Cert.GluTIdeal.τ).loc Cert.GluTIdeal.main_v0)),
      θ_run (Cert.GluTIdeal.defs (F := Ideal)) (onTc (τ := Cert.GluTIdeal.τ) (Cert.GluTIdeal.main (F := Ideal))) ⟨m, fun _ => 0, g⟩ (fun r => ∀ c : Dev Cert.GluTIdeal.nD,
          r.2.mem ((c.tc : Thread Cert.GluTIdeal.nD Cert.GluTIdeal.τ).loc Cert.GluTIdeal.main_v0) = v0 c
          ∧ r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
          ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1)
          ∧ r.2.mem ((c.tc : Thread Cert.GluTIdeal.nD Cert.GluTIdeal.τ).loc Cert.GluTIdeal.main_arg2) = m ((c.tc : Thread Cert.GluTIdeal.nD Cert.GluTIdeal.τ).loc Cert.GluTIdeal.main_arg2)
          ∧ r.2.mem ((c.tc : Thread Cert.GluTIdeal.nD Cert.GluTIdeal.τ).loc Cert.GluTIdeal.main_arg3) = m ((c.tc : Thread Cert.GluTIdeal.nD Cert.GluTIdeal.τ).loc Cert.GluTIdeal.main_arg3))
      ∧ θ_run (Cert.GluTRefIdeal.defs (F := Ideal)) (onTc (τ := Cert.GluTRefIdeal.τ) (Cert.GluTRefIdeal.main (F := Ideal))) ⟨m', fun _ => 0, g'⟩ (fun r => ∀ c : Dev Cert.GluTRefIdeal.nD,
          r.2.mem ((c.tc : Thread Cert.GluTRefIdeal.nD Cert.GluTRefIdeal.τ).loc Cert.GluTRefIdeal.main_v39) = v0 c
          ∧ r.2.mem ((c.tc : Thread Cert.GluTRefIdeal.nD Cert.GluTRefIdeal.τ).loc Cert.GluTRefIdeal.main_arg0) = m' ((c.tc : Thread Cert.GluTRefIdeal.nD Cert.GluTRefIdeal.τ).loc Cert.GluTRefIdeal.main_arg0)
          ∧ r.2.mem ((c.tc : Thread Cert.GluTRefIdeal.nD Cert.GluTRefIdeal.τ).loc Cert.GluTRefIdeal.main_arg1) = m' ((c.tc : Thread Cert.GluTRefIdeal.nD Cert.GluTRefIdeal.τ).loc Cert.GluTRefIdeal.main_arg1)
          ∧ r.2.mem ((c.tc : Thread Cert.GluTRefIdeal.nD Cert.GluTRefIdeal.τ).loc Cert.GluTRefIdeal.main_arg2) = m' ((c.tc : Thread Cert.GluTRefIdeal.nD Cert.GluTRefIdeal.τ).loc Cert.GluTRefIdeal.main_arg2)
          ∧ r.2.mem ((c.tc : Thread Cert.GluTRefIdeal.nD Cert.GluTRefIdeal.τ).loc Cert.GluTRefIdeal.main_arg3) = m' ((c.tc : Thread Cert.GluTRefIdeal.nD Cert.GluTRefIdeal.τ).loc Cert.GluTRefIdeal.main_arg3))

def Claim : Prop :=
  ∃ (hConv : Cert.Conv.Facts) (hConvIdeal : Cert.ConvIdeal.Facts) (hConvRefIdeal : Cert.ConvRefIdeal.Facts) (hS5 : Cert.S5.Facts) (hS5Ideal : Cert.S5Ideal.Facts) (hS5RefIdeal : Cert.S5RefIdeal.Facts) (hDown : Cert.Down.Facts) (hDownIdeal : Cert.DownIdeal.Facts) (hDownRefIdeal : Cert.DownRefIdeal.Facts) (hDDown : Cert.DDown.Facts) (hDDownIdeal : Cert.DDownIdeal.Facts) (hDDownRefIdeal : Cert.DDownRefIdeal.Facts) (hDUp : Cert.DUp.Facts) (hDUpIdeal : Cert.DUpIdeal.Facts) (hDUpRefIdeal : Cert.DUpRefIdeal.Facts) (hUp : Cert.Up.Facts) (hUpIdeal : Cert.UpIdeal.Facts) (hUpRefIdeal : Cert.UpRefIdeal.Facts) (hInT : Cert.InT.Facts) (hInTIdeal : Cert.InTIdeal.Facts) (hInTRefIdeal : Cert.InTRefIdeal.Facts) (hDIn : Cert.DIn.Facts) (hDInIdeal : Cert.DInIdeal.Facts) (hDInRefIdeal : Cert.DInRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hInP : Cert.InP.Facts) (hInPIdeal : Cert.InPIdeal.Facts) (hInPRefIdeal : Cert.InPRefIdeal.Facts) (hDownL : Cert.DownL.Facts) (hDownLIdeal : Cert.DownLIdeal.Facts) (hDownLRefIdeal : Cert.DownLRefIdeal.Facts) (hDDownL : Cert.DDownL.Facts) (hDDownLIdeal : Cert.DDownLIdeal.Facts) (hDDownLRefIdeal : Cert.DDownLRefIdeal.Facts) (hDUpL : Cert.DUpL.Facts) (hDUpLIdeal : Cert.DUpLIdeal.Facts) (hDUpLRefIdeal : Cert.DUpLRefIdeal.Facts) (hUpL : Cert.UpL.Facts) (hUpLIdeal : Cert.UpLIdeal.Facts) (hUpLRefIdeal : Cert.UpLRefIdeal.Facts) (hUpFL : Cert.UpFL.Facts) (hUpFLIdeal : Cert.UpFLIdeal.Facts) (hUpFLRefIdeal : Cert.UpFLRefIdeal.Facts) (hDownFL : Cert.DownFL.Facts) (hDownFLIdeal : Cert.DownFLIdeal.Facts) (hDownFLRefIdeal : Cert.DownFLRefIdeal.Facts) (hOutE : Cert.OutE.Facts) (hOutEIdeal : Cert.OutEIdeal.Facts) (hOutERefIdeal : Cert.OutERefIdeal.Facts) (hOutO : Cert.OutO.Facts) (hOutOIdeal : Cert.OutOIdeal.Facts) (hOutORefIdeal : Cert.OutORefIdeal.Facts) (hOutET : Cert.OutET.Facts) (hOutETIdeal : Cert.OutETIdeal.Facts) (hOutETRefIdeal : Cert.OutETRefIdeal.Facts) (hOutOT : Cert.OutOT.Facts) (hOutOTIdeal : Cert.OutOTIdeal.Facts) (hOutOTRefIdeal : Cert.OutOTRefIdeal.Facts) (hGateT : Cert.GateT.Facts) (hGateTIdeal : Cert.GateTIdeal.Facts) (hGateTRefIdeal : Cert.GateTRefIdeal.Facts) (hGateLT : Cert.GateLT.Facts) (hGateLTIdeal : Cert.GateLTIdeal.Facts) (hGateLTRefIdeal : Cert.GateLTRefIdeal.Facts) (hDOutE : Cert.DOutE.Facts) (hDOutEIdeal : Cert.DOutEIdeal.Facts) (hDOutERefIdeal : Cert.DOutERefIdeal.Facts) (hDOutO : Cert.DOutO.Facts) (hDOutOIdeal : Cert.DOutOIdeal.Facts) (hDOutORefIdeal : Cert.DOutORefIdeal.Facts) (hDGlu : Cert.DGlu.Facts) (hDGluIdeal : Cert.DGluIdeal.Facts) (hDGluRefIdeal : Cert.DGluRefIdeal.Facts) (hDGate : Cert.DGate.Facts) (hDGateIdeal : Cert.DGateIdeal.Facts) (hDGateRefIdeal : Cert.DGateRefIdeal.Facts) (hDGateL : Cert.DGateL.Facts) (hDGateLIdeal : Cert.DGateLIdeal.Facts) (hDGateLRefIdeal : Cert.DGateLRefIdeal.Facts) (hGate : Cert.Gate.Facts) (hGateIdeal : Cert.GateIdeal.Facts) (hGateRefIdeal : Cert.GateRefIdeal.Facts) (hGateL : Cert.GateL.Facts) (hGateLIdeal : Cert.GateLIdeal.Facts) (hGateLRefIdeal : Cert.GateLRefIdeal.Facts) (hGlu : Cert.Glu.Facts) (hGluIdeal : Cert.GluIdeal.Facts) (hGluRefIdeal : Cert.GluRefIdeal.Facts) (hGluT : Cert.GluT.Facts) (hGluTIdeal : Cert.GluTIdeal.Facts) (hGluTRefIdeal : Cert.GluTRefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_S5 (hS5 := hS5)
    ∧ quiescent_S5Ideal (hS5Ideal := hS5Ideal)
    ∧ quiescent_S5Ideal_pre_finite (hS5Ideal := hS5Ideal) (hPre_finite := hPre_finite)
    ∧ quiescent_S5RefIdeal (hS5RefIdeal := hS5RefIdeal)
    ∧ quiescent_S5RefIdeal_pre_finite (hS5RefIdeal := hS5RefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_DDown (hDDown := hDDown)
    ∧ quiescent_DDownIdeal (hDDownIdeal := hDDownIdeal)
    ∧ quiescent_DDownRefIdeal (hDDownRefIdeal := hDDownRefIdeal)
    ∧ quiescent_DUp (hDUp := hDUp)
    ∧ quiescent_DUpIdeal (hDUpIdeal := hDUpIdeal)
    ∧ quiescent_DUpRefIdeal (hDUpRefIdeal := hDUpRefIdeal)
    ∧ quiescent_Up (hUp := hUp)
    ∧ quiescent_UpIdeal (hUpIdeal := hUpIdeal)
    ∧ quiescent_UpRefIdeal (hUpRefIdeal := hUpRefIdeal)
    ∧ quiescent_InT (hInT := hInT)
    ∧ quiescent_InTIdeal (hInTIdeal := hInTIdeal)
    ∧ quiescent_InTRefIdeal (hInTRefIdeal := hInTRefIdeal)
    ∧ quiescent_DIn (hDIn := hDIn)
    ∧ quiescent_DInIdeal (hDInIdeal := hDInIdeal)
    ∧ quiescent_DInRefIdeal (hDInRefIdeal := hDInRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_InP (hInP := hInP)
    ∧ quiescent_InPIdeal (hInPIdeal := hInPIdeal)
    ∧ quiescent_InPRefIdeal (hInPRefIdeal := hInPRefIdeal)
    ∧ quiescent_DownL (hDownL := hDownL)
    ∧ quiescent_DownLIdeal (hDownLIdeal := hDownLIdeal)
    ∧ quiescent_DownLRefIdeal (hDownLRefIdeal := hDownLRefIdeal)
    ∧ quiescent_DDownL (hDDownL := hDDownL)
    ∧ quiescent_DDownLIdeal (hDDownLIdeal := hDDownLIdeal)
    ∧ quiescent_DDownLRefIdeal (hDDownLRefIdeal := hDDownLRefIdeal)
    ∧ quiescent_DUpL (hDUpL := hDUpL)
    ∧ quiescent_DUpLIdeal (hDUpLIdeal := hDUpLIdeal)
    ∧ quiescent_DUpLRefIdeal (hDUpLRefIdeal := hDUpLRefIdeal)
    ∧ quiescent_UpL (hUpL := hUpL)
    ∧ quiescent_UpLIdeal (hUpLIdeal := hUpLIdeal)
    ∧ quiescent_UpLRefIdeal (hUpLRefIdeal := hUpLRefIdeal)
    ∧ quiescent_UpFL (hUpFL := hUpFL)
    ∧ quiescent_UpFLIdeal (hUpFLIdeal := hUpFLIdeal)
    ∧ quiescent_UpFLRefIdeal (hUpFLRefIdeal := hUpFLRefIdeal)
    ∧ quiescent_DownFL (hDownFL := hDownFL)
    ∧ quiescent_DownFLIdeal (hDownFLIdeal := hDownFLIdeal)
    ∧ quiescent_DownFLRefIdeal (hDownFLRefIdeal := hDownFLRefIdeal)
    ∧ quiescent_OutE (hOutE := hOutE)
    ∧ quiescent_OutEIdeal (hOutEIdeal := hOutEIdeal)
    ∧ quiescent_OutERefIdeal (hOutERefIdeal := hOutERefIdeal)
    ∧ quiescent_OutO (hOutO := hOutO)
    ∧ quiescent_OutOIdeal (hOutOIdeal := hOutOIdeal)
    ∧ quiescent_OutORefIdeal (hOutORefIdeal := hOutORefIdeal)
    ∧ quiescent_OutET (hOutET := hOutET)
    ∧ quiescent_OutETIdeal (hOutETIdeal := hOutETIdeal)
    ∧ quiescent_OutETRefIdeal (hOutETRefIdeal := hOutETRefIdeal)
    ∧ quiescent_OutOT (hOutOT := hOutOT)
    ∧ quiescent_OutOTIdeal (hOutOTIdeal := hOutOTIdeal)
    ∧ quiescent_OutOTRefIdeal (hOutOTRefIdeal := hOutOTRefIdeal)
    ∧ quiescent_GateT (hGateT := hGateT)
    ∧ quiescent_GateTIdeal (hGateTIdeal := hGateTIdeal)
    ∧ quiescent_GateTRefIdeal (hGateTRefIdeal := hGateTRefIdeal)
    ∧ quiescent_GateLT (hGateLT := hGateLT)
    ∧ quiescent_GateLTIdeal (hGateLTIdeal := hGateLTIdeal)
    ∧ quiescent_GateLTRefIdeal (hGateLTRefIdeal := hGateLTRefIdeal)
    ∧ quiescent_DOutE (hDOutE := hDOutE)
    ∧ quiescent_DOutEIdeal (hDOutEIdeal := hDOutEIdeal)
    ∧ quiescent_DOutERefIdeal (hDOutERefIdeal := hDOutERefIdeal)
    ∧ quiescent_DOutO (hDOutO := hDOutO)
    ∧ quiescent_DOutOIdeal (hDOutOIdeal := hDOutOIdeal)
    ∧ quiescent_DOutORefIdeal (hDOutORefIdeal := hDOutORefIdeal)
    ∧ quiescent_DGlu (hDGlu := hDGlu)
    ∧ quiescent_DGluIdeal (hDGluIdeal := hDGluIdeal)
    ∧ quiescent_DGluRefIdeal (hDGluRefIdeal := hDGluRefIdeal)
    ∧ quiescent_DGate (hDGate := hDGate)
    ∧ quiescent_DGateIdeal (hDGateIdeal := hDGateIdeal)
    ∧ quiescent_DGateRefIdeal (hDGateRefIdeal := hDGateRefIdeal)
    ∧ quiescent_DGateL (hDGateL := hDGateL)
    ∧ quiescent_DGateLIdeal (hDGateLIdeal := hDGateLIdeal)
    ∧ quiescent_DGateLRefIdeal (hDGateLRefIdeal := hDGateLRefIdeal)
    ∧ quiescent_Gate (hGate := hGate)
    ∧ quiescent_GateIdeal (hGateIdeal := hGateIdeal)
    ∧ quiescent_GateRefIdeal (hGateRefIdeal := hGateRefIdeal)
    ∧ quiescent_GateL (hGateL := hGateL)
    ∧ quiescent_GateLIdeal (hGateLIdeal := hGateLIdeal)
    ∧ quiescent_GateLRefIdeal (hGateLRefIdeal := hGateLRefIdeal)
    ∧ quiescent_Glu (hGlu := hGlu)
    ∧ quiescent_GluIdeal (hGluIdeal := hGluIdeal)
    ∧ quiescent_GluRefIdeal (hGluRefIdeal := hGluRefIdeal)
    ∧ quiescent_GluT (hGluT := hGluT)
    ∧ quiescent_GluTIdeal (hGluTIdeal := hGluTIdeal)
    ∧ quiescent_GluTRefIdeal (hGluTRefIdeal := hGluTRefIdeal)
    ∧ preserves_Conv_ConvIdeal
    ∧ algebraic_ConvIdeal_ConvRefIdeal (hConvIdeal := hConvIdeal) (hConvRefIdeal := hConvRefIdeal)
    ∧ preserves_S5_S5Ideal
    ∧ algebraic_S5Ideal_S5RefIdeal_pre_finite (hS5Ideal := hS5Ideal) (hS5RefIdeal := hS5RefIdeal) (hPre_finite := hPre_finite)
    ∧ preserves_Down_DownIdeal
    ∧ algebraic_DownIdeal_DownRefIdeal (hDownIdeal := hDownIdeal) (hDownRefIdeal := hDownRefIdeal)
    ∧ preserves_DDown_DDownIdeal
    ∧ algebraic_DDownIdeal_DDownRefIdeal (hDDownIdeal := hDDownIdeal) (hDDownRefIdeal := hDDownRefIdeal)
    ∧ preserves_DUp_DUpIdeal
    ∧ algebraic_DUpIdeal_DUpRefIdeal (hDUpIdeal := hDUpIdeal) (hDUpRefIdeal := hDUpRefIdeal)
    ∧ preserves_Up_UpIdeal
    ∧ algebraic_UpIdeal_UpRefIdeal (hUpIdeal := hUpIdeal) (hUpRefIdeal := hUpRefIdeal)
    ∧ preserves_InT_InTIdeal
    ∧ algebraic_InTIdeal_InTRefIdeal (hInTIdeal := hInTIdeal) (hInTRefIdeal := hInTRefIdeal)
    ∧ preserves_DIn_DInIdeal
    ∧ algebraic_DInIdeal_DInRefIdeal (hDInIdeal := hDInIdeal) (hDInRefIdeal := hDInRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_InP_InPIdeal
    ∧ algebraic_InPIdeal_InPRefIdeal (hInPIdeal := hInPIdeal) (hInPRefIdeal := hInPRefIdeal)
    ∧ preserves_DownL_DownLIdeal
    ∧ algebraic_DownLIdeal_DownLRefIdeal (hDownLIdeal := hDownLIdeal) (hDownLRefIdeal := hDownLRefIdeal)
    ∧ preserves_DDownL_DDownLIdeal
    ∧ algebraic_DDownLIdeal_DDownLRefIdeal (hDDownLIdeal := hDDownLIdeal) (hDDownLRefIdeal := hDDownLRefIdeal)
    ∧ preserves_DUpL_DUpLIdeal
    ∧ algebraic_DUpLIdeal_DUpLRefIdeal (hDUpLIdeal := hDUpLIdeal) (hDUpLRefIdeal := hDUpLRefIdeal)
    ∧ preserves_UpL_UpLIdeal
    ∧ algebraic_UpLIdeal_UpLRefIdeal (hUpLIdeal := hUpLIdeal) (hUpLRefIdeal := hUpLRefIdeal)
    ∧ preserves_UpFL_UpFLIdeal
    ∧ algebraic_UpFLIdeal_UpFLRefIdeal (hUpFLIdeal := hUpFLIdeal) (hUpFLRefIdeal := hUpFLRefIdeal)
    ∧ preserves_DownFL_DownFLIdeal
    ∧ algebraic_DownFLIdeal_DownFLRefIdeal (hDownFLIdeal := hDownFLIdeal) (hDownFLRefIdeal := hDownFLRefIdeal)
    ∧ preserves_OutE_OutEIdeal
    ∧ algebraic_OutEIdeal_OutERefIdeal (hOutEIdeal := hOutEIdeal) (hOutERefIdeal := hOutERefIdeal)
    ∧ preserves_OutO_OutOIdeal
    ∧ algebraic_OutOIdeal_OutORefIdeal (hOutOIdeal := hOutOIdeal) (hOutORefIdeal := hOutORefIdeal)
    ∧ preserves_OutET_OutETIdeal
    ∧ algebraic_OutETIdeal_OutETRefIdeal (hOutETIdeal := hOutETIdeal) (hOutETRefIdeal := hOutETRefIdeal)
    ∧ preserves_OutOT_OutOTIdeal
    ∧ algebraic_OutOTIdeal_OutOTRefIdeal (hOutOTIdeal := hOutOTIdeal) (hOutOTRefIdeal := hOutOTRefIdeal)
    ∧ preserves_GateT_GateTIdeal
    ∧ algebraic_GateTIdeal_GateTRefIdeal (hGateTIdeal := hGateTIdeal) (hGateTRefIdeal := hGateTRefIdeal)
    ∧ preserves_GateLT_GateLTIdeal
    ∧ algebraic_GateLTIdeal_GateLTRefIdeal (hGateLTIdeal := hGateLTIdeal) (hGateLTRefIdeal := hGateLTRefIdeal)
    ∧ preserves_DOutE_DOutEIdeal
    ∧ algebraic_DOutEIdeal_DOutERefIdeal (hDOutEIdeal := hDOutEIdeal) (hDOutERefIdeal := hDOutERefIdeal)
    ∧ preserves_DOutO_DOutOIdeal
    ∧ algebraic_DOutOIdeal_DOutORefIdeal (hDOutOIdeal := hDOutOIdeal) (hDOutORefIdeal := hDOutORefIdeal)
    ∧ preserves_DGlu_DGluIdeal
    ∧ algebraic_DGluIdeal_DGluRefIdeal (hDGluIdeal := hDGluIdeal) (hDGluRefIdeal := hDGluRefIdeal)
    ∧ preserves_DGate_DGateIdeal
    ∧ algebraic_DGateIdeal_DGateRefIdeal (hDGateIdeal := hDGateIdeal) (hDGateRefIdeal := hDGateRefIdeal)
    ∧ preserves_DGateL_DGateLIdeal
    ∧ algebraic_DGateLIdeal_DGateLRefIdeal (hDGateLIdeal := hDGateLIdeal) (hDGateLRefIdeal := hDGateLRefIdeal)
    ∧ preserves_Gate_GateIdeal
    ∧ algebraic_GateIdeal_GateRefIdeal (hGateIdeal := hGateIdeal) (hGateRefIdeal := hGateRefIdeal)
    ∧ preserves_GateL_GateLIdeal
    ∧ algebraic_GateLIdeal_GateLRefIdeal (hGateLIdeal := hGateLIdeal) (hGateLRefIdeal := hGateLRefIdeal)
    ∧ preserves_Glu_GluIdeal
    ∧ algebraic_GluIdeal_GluRefIdeal (hGluIdeal := hGluIdeal) (hGluRefIdeal := hGluRefIdeal)
    ∧ preserves_GluT_GluTIdeal
    ∧ algebraic_GluTIdeal_GluTRefIdeal (hGluTIdeal := hGluTIdeal) (hGluTRefIdeal := hGluTRefIdeal)
-- ==== Pre_finite.lean ====
abbrev S4096x2048 : Shape := ⟨2, ![4096, 2048]⟩
abbrev S4096x8192 : Shape := ⟨2, ![4096, 8192]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S128x64 : S_.BroadcastsInDim S128x64 (![] : Fin 0 → Fin S128x64.rank)
  bcast_S_S128x16x64 : S_.BroadcastsInDim S128x16x64 (![] : Fin 0 → Fin S128x16x64.rank)

variable [Facts]

def fn {F : FTy → Type} [FloatOps F] (main_arg0 : FVec F S4096x2048 .f32) (main_arg1 : FVec F S4096x2048 .f32) (main_arg2 : FVec F S4096x8192 .f32) (main_arg3 : FVec F S4096x8192 .f32) (main_arg4 : FVec F S128x64 .f32) (main_arg5 : FVec F S128x64 .f32) (main_arg6 : FVec F S128x64x16 .f32) (main_arg7 : FVec F S128x64x16 .f32) (main_arg8 : FVec F S128x16x64 .f32) (main_arg9 : FVec F S128x16x64 .f32) (main_arg10 : FVec F S1x2048 .f32) : IVec S4096x2048 1 × IVec S128x64 1 × IVec S128x64 1 × IVec S128x16x64 1 × IVec S128x16x64 1 :=
  let main_v0 : FVec F S4096x2048 .f32 := subf main_arg0 main_arg0
  let main_cst : FVec F S_ .f32 := constant S_ .f32 0x00000000#32
  let main_v1 : FVec F S4096x2048 .f32 := broadcastInDim S4096x2048 ![] bcast_S_S4096x2048 main_cst
  let main_v2 : IVec S4096x2048 1 := cmpf .oeq main_v0 main_v1
  let main_v3 : FVec F S128x64 .f32 := subf main_arg4 main_arg4
  let main_cst_0 : FVec F S_ .f32 := constant S_ .f32 0x00000000#32
  let main_v4 : FVec F S128x64 .f32 := broadcastInDim S128x64 ![] bcast_S_S128x64 main_cst_0
  let main_v5 : IVec S128x64 1 := cmpf .oeq main_v3 main_v4
  let main_v6 : FVec F S128x64 .f32 := subf main_arg5 main_arg5
  let main_cst_1 : FVec F S_ .f32 := constant S_ .f32 0x00000000#32
  let main_v7 : FVec F S128x64 .f32 := broadcastInDim S128x64 ![] bcast_S_S128x64 main_cst_1
  let main_v8 : IVec S128x64 1 := cmpf .oeq main_v6 main_v7
  let main_v9 : FVec F S128x16x64 .f32 := subf main_arg8 main_arg8
  let main_cst_2 : FVec F S_ .f32 := constant S_ .f32 0x00000000#32
  let main_v10 : FVec F S128x16x64 .f32 := broadcastInDim S128x16x64 ![] bcast_S_S128x16x64 main_cst_2
  let main_v11 : IVec S128x16x64 1 := cmpf .oeq main_v9 main_v10
  let main_v12 : FVec F S128x16x64 .f32 := subf main_arg9 main_arg9
  let main_cst_3 : FVec F S_ .f32 := constant S_ .f32 0x00000000#32
  let main_v13 : FVec F S128x16x64 .f32 := broadcastInDim S128x16x64 ![] bcast_S_S128x16x64 main_cst_3
  let main_v14 : IVec S128x16x64 1 := cmpf .oeq main_v12 main_v13
  (main_v2, main_v5, main_v8, main_v11, main_v14)
-- ==== Conv.lean ====
abbrev S4096x8448 : Shape := ⟨2, ![4096, 8448]⟩
abbrev S4x3072 : Shape := ⟨2, ![4, 3072]⟩
abbrev S4096x1024 : Shape := ⟨2, ![4096, 1024]⟩
abbrev S4096x3072 : Shape := ⟨2, ![4096, 3072]⟩
abbrev S4096x128 : Shape := ⟨2, ![4096, 128]⟩
abbrev S4x128 : Shape := ⟨2, ![4, 128]⟩
abbrev S4096x1 : Shape := ⟨2, ![4096, 1]⟩
abbrev S128 : Shape := ⟨1, ![128]⟩
abbrev S1x128 : Shape := ⟨2, ![1, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x8448, .f32⟩
  | .hbm, ⟨1, _⟩ => ⟨S4x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .bf16⟩
  | .hbm, ⟨6, _⟩ => ⟨S4x3072, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4x128, .f32⟩
  | .local _ .vmem, ⟨13, _⟩ => ⟨S4x128, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S4096x8448 : Shape := ⟨2, ![4096, 8448]⟩
abbrev S4x3072 : Shape := ⟨2, ![4, 3072]⟩
abbrev S4096x1024 : Shape := ⟨2, ![4096, 1024]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩

abbrev nBuf : Space → Nat
  | .hbm => 120
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S4x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S3x3072, .f32⟩
  | .hbm, ⟨9, _⟩ => ⟨S4099x3072, .f32⟩
  | .hbm, ⟨10, _⟩ => ⟨S_, .f32⟩
  | .hbm, ⟨11, _⟩ => ⟨S3x3072, .f32⟩
  | .hbm, ⟨12, _⟩ => ⟨S4096x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S3072, .f32⟩
  | .hbm, ⟨62, _⟩ => ⟨S1x3072, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S4x3072, .f32⟩
  | .hbm, ⟨70, _⟩ => ⟨S_, .f32⟩
  | .hbm, ⟨71, _⟩ => ⟨S4099x3072, .f32⟩
  | .hbm, ⟨72, _⟩ => ⟨S4096x3072, .f32⟩
  | .hbm, ⟨73, _⟩ => ⟨S_, .f32⟩
  | .hbm, ⟨74, _⟩ => ⟨S3072, .f32⟩
  | .hbm, ⟨75, _⟩ => ⟨S1x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S4x3072, .f32⟩
  | .hbm, ⟨83, _⟩ => ⟨S4x3072, .f32⟩
  | .hbm, ⟨84, _⟩ => ⟨S_, .f32⟩
  | .hbm, ⟨85, _⟩ => ⟨S4099x3072, .f32⟩
  | .hbm, ⟨86, _⟩ => ⟨S4099x3072, .f32⟩
  | .hbm, ⟨87, _⟩ => ⟨S4096x3072, .f32⟩
  | .hbm, ⟨88, _⟩ => ⟨S_, .f32⟩
  | .hbm, ⟨89, _⟩ => ⟨S3072, .f32⟩
  | .hbm, ⟨90, _⟩ => ⟨S1x3072, .f32⟩
  | .hbm, ⟨91, _⟩ => ⟨S4096x3072, .f32⟩
  | .hbm, ⟨92, _⟩ => ⟨S4096x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S4x3072, .f32⟩
  | .hbm, ⟨98, _⟩ => ⟨S4x3072, .f32⟩
  | .hbm, ⟨99, _⟩ => ⟨S_, .f32⟩
  | .hbm, ⟨100, _⟩ => ⟨S4099x3072, .f32⟩
  | .hbm, ⟨101, _⟩ => ⟨S4099x3072, .f32⟩
  | .hbm, ⟨102, _⟩ => ⟨S4096x3072, .f32⟩
  | .hbm, ⟨103, _⟩ => ⟨S_, .f32⟩
  | .hbm, ⟨104, _⟩ => ⟨S3072, .f32⟩
  | .hbm, ⟨105, _⟩ => ⟨S1x3072, .f32⟩
  | .hbm, ⟨106, _⟩ => ⟨S4096x3072, .f32⟩
  | .hbm, ⟨107, _⟩ => ⟨S4096x3072, .f32⟩
  | .hbm, ⟨108, _⟩ => ⟨S_, .f32⟩
  | .hbm, ⟨109, _⟩ => ⟨S3072, .f32⟩
  | .hbm, ⟨110, _⟩ => ⟨S1x3072, .f32⟩
  | .hbm, ⟨111, _⟩ => ⟨S_, .f32⟩
  | .hbm, ⟨112, _⟩ => ⟨S4x3072, .f32⟩
  | .hbm, ⟨113, _⟩ => ⟨S4x3072, .f32⟩
  | .hbm, ⟨114, _⟩ => ⟨S_, .f32⟩
  | .hbm, ⟨115, _⟩ => ⟨S4099x3072, .f32⟩
  | .hbm, ⟨116, _⟩ => ⟨S4099x3072, .f32⟩
  | .hbm, ⟨117, _⟩ => ⟨S3x3072, .f32⟩
  | .hbm, ⟨118, _⟩ => ⟨S4096x3072, .f32⟩
  | .hbm, ⟨119, _⟩ => ⟨S4096x3072, .bf16⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== S5.lean ====
abbrev S4096x2048 : Shape := ⟨2, ![4096, 2048]⟩
abbrev S4096x8192 : Shape := ⟨2, ![4096, 8192]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S8x8 : Shape := ⟨2, ![8, 8]⟩
abbrev S_ : Shape := ⟨0, ![]⟩
abbrev S16x8x64x16 : Shape := ⟨4, ![16, 8, 64, 16]⟩
abbrev S16x8x16x64 : Shape := ⟨4, ![16, 8, 16, 64]⟩
abbrev S16x8x16x1x64 : Shape := ⟨5, ![16, 8, 16, 1, 64]⟩
abbrev S1x8x1x8x1 : Shape := ⟨5, ![1, 8, 1, 8, 1]⟩
abbrev S16x8x16x8x64 : Shape := ⟨5, ![16, 8, 16, 8, 64]⟩
abbrev S16x128x512 : Shape := ⟨3, ![16, 128, 512]⟩
abbrev S16x8x64x1x16 : Shape := ⟨5, ![16, 8, 64, 1, 16]⟩
abbrev S16x8x64x8x16 : Shape := ⟨5, ![16, 8, 64, 8, 16]⟩
abbrev S16x512x128 : Shape := ⟨3, ![16, 512, 128]⟩
abbrev S16x512 : Shape := ⟨2, ![16, 512]⟩
abbrev S16x1x512 : Shape := ⟨3, ![16, 1, 512]⟩
abbrev S16x8x512 : Shape := ⟨3, ![16, 8, 512]⟩
abbrev S512x128 : Shape := ⟨2, ![512, 128]⟩
abbrev S512x512 : Shape := ⟨2, ![512, 512]⟩
abbrev S8x512 : Shape := ⟨2, ![8, 512]⟩
abbrev S1x128x512 : Shape := ⟨3, ![1, 128, 512]⟩
abbrev S1x512x128 : Shape := ⟨3, ![1, 512, 128]⟩
abbrev S1x8x512 : Shape := ⟨3, ![1, 8, 512]⟩
abbrev S1x128 : Shape := ⟨2, ![1, 128]⟩
abbrev S1x512 : Shape := ⟨2, ![1, 512]⟩
abbrev S128x512 : Shape := ⟨2, ![128, 512]⟩
abbrev S8x1 : Shape := ⟨2, ![8, 1]⟩
abbrev S128 : Shape := ⟨1, ![128]⟩

abbrev nBuf : Space → Nat
  | .hbm => 148
  | .vmem => 46
  | .smem => 0
  | _ => 0

abbrev hbmTy0_0 (i : Nat) : BufTy := match i % 128 with
  | 0 => ⟨S4096x2048, .f32⟩
  | 1 => ⟨S4096x2048, .f32⟩
  | 2 => ⟨S4096x8192, .f32⟩
  | 3 => ⟨S4096x8192, .f32⟩
  | 4 => ⟨S128x64, .f32⟩
  | 5 => ⟨S128x64, .f32⟩
  | 6 => ⟨S128x64x16, .f32⟩
  | 7 => ⟨S128x64x16, .f32⟩
  | 8 => ⟨S128x16x64, .f32⟩
  | 9 => ⟨S128x16x64, .f32⟩
  | 10 => ⟨S1x2048, .f32⟩
  | 11 => ⟨S8x8, .i32⟩
  | 12 => ⟨S8x8, .i32⟩
  | 13 => ⟨S_, .i32⟩
  | 14 => ⟨S8x8, .i32⟩
  | 15 => ⟨S8x8, .i32⟩
  | 16 => ⟨S8x8, .i1⟩
  | 17 => ⟨S8x8, .f32⟩
  | 18 => ⟨S16x8x64x16, .f32⟩
  | 19 => ⟨S16x8x16x64, .f32⟩
  | 20 => ⟨S16x8x16x1x64, .f32⟩
  | 21 => ⟨S1x8x1x8x1, .f32⟩
  | 22 => ⟨S16x8x16x8x64, .f32⟩
  | 23 => ⟨S16x8x16x8x64, .f32⟩
  | 24 => ⟨S16x8x16x8x64, .f32⟩
  | 25 => ⟨S16x128x512, .f32⟩
  | 26 => ⟨S8x8, .i32⟩
  | 27 => ⟨S8x8, .i32⟩
  | 28 => ⟨S_, .i32⟩
  | 29 => ⟨S8x8, .i32⟩
  | 30 => ⟨S8x8, .i32⟩
  | 31 => ⟨S8x8, .i1⟩
  | 32 => ⟨S8x8, .f32⟩
  | 33 => ⟨S16x8x64x16, .f32⟩
  | 34 => ⟨S16x8x16x64, .f32⟩
  | 35 => ⟨S16x8x16x1x64, .f32⟩
  | 36 => ⟨S1x8x1x8x1, .f32⟩
  | 37 => ⟨S16x8x16x8x64, .f32⟩
  | 38 => ⟨S16x8x16x8x64, .f32⟩
  | 39 => ⟨S16x8x16x8x64, .f32⟩
  | 40 => ⟨S16x128x512, .f32⟩
  | 41 => ⟨S8x8, .i32⟩
  | 42 => ⟨S8x8, .i32⟩
  | 43 => ⟨S_, .i32⟩
  | 44 => ⟨S8x8, .i32⟩
  | 45 => ⟨S8x8, .i32⟩
  | 46 => ⟨S8x8, .i1⟩
  | 47 => ⟨S8x8, .f32⟩
  | 48 => ⟨S16x8x16x64, .f32⟩
  | 49 => ⟨S16x8x64x16, .f32⟩
  | 50 => ⟨S16x8x64x1x16, .f32⟩
  | 51 => ⟨S1x8x1x8x1, .f32⟩
  | 52 => ⟨S16x8x64x8x16, .f32⟩
  | 53 => ⟨S16x8x64x8x16, .f32⟩
  | 54 => ⟨S16x8x64x8x16, .f32⟩
  | 55 => ⟨S16x512x128, .f32⟩
  | 56 => ⟨S8x8, .i32⟩
  | 57 => ⟨S8x8, .i32⟩
  | 58 => ⟨S_, .i32⟩
  | 59 => ⟨S8x8, .i32⟩
  | 60 => ⟨S8x8, .i32⟩
  | 61 => ⟨S8x8, .i1⟩
  | 62 => ⟨S8x8, .f32⟩
  | 63 => ⟨S16x8x16x64, .f32⟩
  | 64 => ⟨S16x8x64x16, .f32⟩
  | 65 => ⟨S16x8x64x1x16, .f32⟩
  | 66 => ⟨S1x8x1x8x1, .f32⟩
  | 67 => ⟨S16x8x64x8x16, .f32⟩
  | 68 => ⟨S16x8x64x8x16, .f32⟩
  | 69 => ⟨S16x8x64x8x16, .f32⟩
  | 70 => ⟨S16x512x128, .f32⟩
  | 71 => ⟨S16x128x512, .bf16⟩
  | 72 => ⟨S16x128x512, .bf16⟩
  | 73 => ⟨S16x512x128, .bf16⟩
  | 74 => ⟨S16x512x128, .bf16⟩
  | 75 => ⟨S16x512, .f32⟩
  | 76 => ⟨S16x512, .f32⟩
  | 77 => ⟨S16x512, .f32⟩
  | 78 => ⟨S16x512, .f32⟩
  | 79 => ⟨S16x512, .f32⟩
  | 80 => ⟨S16x512, .f32⟩
  | 81 => ⟨S16x512, .f32⟩
  | 82 => ⟨S16x512, .f32⟩
  | 83 => ⟨S16x512, .f32⟩
  | 84 => ⟨S16x512, .f32⟩
  | 85 => ⟨S16x512, .f32⟩
  | 86 => ⟨S16x512, .f32⟩
  | 87 => ⟨S16x512, .f32⟩
  | 88 => ⟨S16x512, .f32⟩
  | 89 => ⟨S16x512, .f32⟩
  | 90 => ⟨S16x512, .f32⟩
  | 91 => ⟨S16x512, .f32⟩
  | 92 => ⟨S16x512, .f32⟩
  | 93 => ⟨S16x512, .f32⟩
  | 94 => ⟨S16x512, .f32⟩
  | 95 => ⟨S16x512, .f32⟩
  | 96 => ⟨S16x512, .f32⟩
  | 97 => ⟨S16x512, .f32⟩
  | 98 => ⟨S16x512, .f32⟩
  | 99 => ⟨S16x512, .f32⟩
  | 100 => ⟨S16x512, .f32⟩
  | 101 => ⟨S16x512, .f32⟩
  | 102 => ⟨S16x512, .f32⟩
  | 103 => ⟨S16x512, .f32⟩
  | 104 => ⟨S16x512, .f32⟩
  | 105 => ⟨S16x512, .f32⟩
  | 106 => ⟨S16x512, .f32⟩
  | 107 => ⟨S16x512, .f32⟩
  | 108 => ⟨S16x512, .f32⟩
  | 109 => ⟨S16x512, .f32⟩
  | 110 => ⟨S16x512, .f32⟩
  | 111 => ⟨S16x512, .f32⟩
  | 112 => ⟨S16x512, .f32⟩
  | 113 => ⟨S16x512, .f32⟩
  | 114 => ⟨S16x512, .f32⟩
  | 115 => ⟨S16x512, .f32⟩
  | 116 => ⟨S16x512, .f32⟩
  | 117 => ⟨S16x512, .f32⟩
  | 118 => ⟨S16x512, .f32⟩
  | 119 => ⟨S16x1x512, .f32⟩
  | 120 => ⟨S16x1x512, .f32⟩
  | 121 => ⟨S16x1x512, .f32⟩
  | 122 => ⟨S16x1x512, .f32⟩
  | 123 => ⟨S16x1x512, .f32⟩
  | 124 => ⟨S16x1x512, .f32⟩
  | 125 => ⟨S16x1x512, .f32⟩
  | 126 => ⟨S16x1x512, .f32⟩
  | 127 => ⟨S16x8x512, .f32⟩
  | _ => ⟨S4096x2048, .f32⟩

abbrev hbmTy0_1 (i : Nat) : BufTy := match i % 128 with
  | 0 => ⟨S16x1x512, .f32⟩
  | 1 => ⟨S16x1x512, .f32⟩
  | 2 => ⟨S16x1x512, .f32⟩
  | 3 => ⟨S16x1x512, .f32⟩
  | 4 => ⟨S16x1x512, .f32⟩
  | 5 => ⟨S16x1x512, .f32⟩
  | 6 => ⟨S16x1x512, .f32⟩
  | 7 => ⟨S16x1x512, .f32⟩
  | 8 => ⟨S16x8x512, .f32⟩
  | 9 => ⟨S16x8x512, .f32⟩
  | 10 => ⟨S16x8x512, .f32⟩
  | 11 => ⟨S16x8x512, .f32⟩
  | 12 => ⟨S4096x2048, .f32⟩
  | 13 => ⟨S16x128x512, .f32⟩
  | 14 => ⟨S16x128x512, .f32⟩
  | 15 => ⟨S16x512x128, .f32⟩
  | 16 => ⟨S16x512x128, .f32⟩
  | 17 => ⟨S16x8x512, .f32⟩
  | 18 => ⟨S16x8x512, .f32⟩
  | 19 => ⟨S1x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x128, .bf16⟩
  | .local _ .vmem, ⟨19, _⟩ => ⟨S1x512x128, .bf16⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S1x128, .f32⟩
  | .local _ .vmem, ⟨25, _⟩ => ⟨S1x128, .f32⟩
  | .local _ .vmem, ⟨26, _⟩ => ⟨S512x128, .f32⟩
  | .local _ .vmem, ⟨27, _⟩ => ⟨S512x128, .f32⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x8x512, .f32⟩
  | .local _ .vmem, ⟨37, _⟩ => ⟨S1x8x512, .f32⟩
  | .local _ .vmem, ⟨38, _⟩ => ⟨S1x8x512, .f32⟩
  | .local _ .vmem, ⟨39, _⟩ => ⟨S1x8x512, .f32⟩
  | .local _ .vmem, ⟨40, _⟩ => ⟨S1x128, .f32⟩
  | .local _ .vmem, ⟨41, _⟩ => ⟨S1x128, .f32⟩
  | .local _ .vmem, ⟨42, _⟩ => ⟨S512x512, .f32⟩
  | .local _ .vmem, ⟨43, _⟩ => ⟨S512x512, .f32⟩
  | .local _ .vmem, ⟨44, _⟩ => ⟨S1x512, .f32⟩
  | .local _ .vmem, ⟨45, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125_0 : Ref sig .tc := ⟨.hbm, 140, rfl⟩
abbrev main_v125_1 : Ref sig .tc := ⟨.hbm, 141, rfl⟩
abbrev main_v125_2 : Ref sig .tc := ⟨.hbm, 142, rfl⟩
abbrev main_v125_3 : Ref sig .tc := ⟨.hbm, 143, rfl⟩
abbrev main_v125_4 : Ref sig .tc := ⟨.hbm, 144, rfl⟩
abbrev main_v125_5 : Ref sig .tc := ⟨.hbm, 145, rfl⟩
abbrev main_v125_6 : Ref sig .tc := ⟨.hbm, 146, rfl⟩
abbrev main_v125_7 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_27 : BitVec 32 := 0#32
  let c21_i32 : BitVec 32 := 21#32
  let v30 : BitVec 32 := Scalar.addi c0_i32_27 c21_i32
  let c1_i32 : BitVec 32 := 1#32
  ⟨c0_i32_27, v30, c1_i32⟩
def k0_mult1 (k0_t1 : Fin k0_t1_loop.trips) : BitVec 32 :=
  let c63_i32 : BitVec 32 := 63#32
  let c0_i32_27 : BitVec 32 := 0#32
  let c1_i32 : BitVec 32 := 1#32
  let arg27 : BitVec 32 := Scf.iv c0_i32_27 c1_i32 k0_t1
  let c3_i32 : BitVec 32 := 3#32
  let v246 : BitVec 32 := Scalar.muli arg27 c3_i32
  let c0_i32_133 : BitVec 32 := 0#32
  let v247 : BitVec 32 := Scalar.addi v246 c0_i32_133
  let v248 : BitVec 32 := Scalar.subi c63_i32 v247
  let c8_i32 : BitVec 32 := 8#32
  let v249 : BitVec 32 := Scalar.muli v248 c8_i32
  v249
def k0_mult2 (k0_t1 : Fin k0_t1_loop.trips) : BitVec 32 :=
  let c63_i32 : BitVec 32 := 63#32
  let c0_i32_27 : BitVec 32 := 0#32
  let c1_i32 : BitVec 32 := 1#32
  let arg27 : BitVec 32 := Scf.iv c0_i32_27 c1_i32 k0_t1
  let c3_i32 : BitVec 32 := 3#32
  let v246 : BitVec 32 := Scalar.muli arg27 c3_i32
  let c0_i32_133 : BitVec 32 := 0#32
  let v247 : BitVec 32 := Scalar.addi v246 c0_i32_133
  let v248 : BitVec 32 := Scalar.subi c63_i32 v247
  let c1_i32_134 : BitVec 32 := 1#32
  let v251 : BitVec 32 := Scalar.subi v248 c1_i32_134
  let c8_i32_135 : BitVec 32 := 8#32
  let v252 : BitVec 32 := Scalar.muli v251 c8_i32_135
  v252
def k0_off1 (k0_t1 : Fin k0_t1_loop.trips) (c0_i32_133 : BitVec 32) : Fin 2 → Nat :=
  let c63_i32 : BitVec 32 := 63#32
  let c0_i32_27 : BitVec 32 := 0#32
  let c1_i32 : BitVec 32 := 1#32
  let arg27 : BitVec 32 := Scf.iv c0_i32_27 c1_i32 k0_t1
  let c3_i32 : BitVec 32 := 3#32
  let v246 : BitVec 32 := Scalar.muli arg27 c3_i32
  let v247 : BitVec 32 := Scalar.addi v246 c0_i32_133
  let v248 : BitVec 32 := Scalar.subi c63_i32 v247
  let c1_i32_134 : BitVec 32 := 1#32
  let v251 : BitVec 32 := Scalar.subi v248 c1_i32_134
  let c8_i32_135 : BitVec 32 := 8#32
  let v252 : BitVec 32 := Scalar.muli v251 c8_i32_135
  let v253 : BitVec 32 := v252
  let v254 : Index := Scalar.indexCast v253
  let c0_136 : Index := 0#32
  ![v254.toNat, 0]
def k0_off2 (k0_t1 : Fin k0_t1_loop.trips) (c0_i32_133 : BitVec 32) : Fin 2 → Nat :=
  let c63_i32 : BitVec 32 := 63#32
  let c0_i32_27 : BitVec 32 := 0#32
  let c1_i32 : BitVec 32 := 1#32
  let arg27 : BitVec 32 := Scf.iv c0_i32_27 c1_i32 k0_t1
  let c3_i32 : BitVec 32 := 3#32
  let v246 : BitVec 32 := Scalar.muli arg27 c3_i32
  let v247 : BitVec 32 := Scalar.addi v246 c0_i32_133
  let v248 : BitVec 32 := Scalar.subi c63_i32 v247
  let c8_i32 : BitVec 32 := 8#32
  let v249 : BitVec 32 := Scalar.muli v248 c8_i32
  let v250 : BitVec 32 := v249
  let v260 : Index := Scalar.indexCast v250
  let c0_138 : Index := 0#32
  ![v260.toNat, 0]
def k0_mult3 (k0_t1 : Fin k0_t1_loop.trips) : BitVec 32 :=
  let c63_i32_144 : BitVec 32 := 63#32
  let c0_i32_27 : BitVec 32 := 0#32
  let c1_i32 : BitVec 32 := 1#32
  let arg27 : BitVec 32 := Scf.iv c0_i32_27 c1_i32 k0_t1
  let c3_i32_142 : BitVec 32 := 3#32
  let v268 : BitVec 32 := Scalar.muli arg27 c3_i32_142
  let c1_i32_143 : BitVec 32 := 1#32
  let v269 : BitVec 32 := Scalar.addi v268 c1_i32_143
  let v270 : BitVec 32 := Scalar.subi c63_i32_144 v269
  let c8_i32_145 : BitVec 32 := 8#32
  let v271 : BitVec 32 := Scalar.muli v270 c8_i32_145
  v271
def k0_mult4 (k0_t1 : Fin k0_t1_loop.trips) : BitVec 32 :=
  let c63_i32_144 : BitVec 32 := 63#32
  let c0_i32_27 : BitVec 32 := 0#32
  let c1_i32 : BitVec 32 := 1#32
  let arg27 : BitVec 32 := Scf.iv c0_i32_27 c1_i32 k0_t1
  let c3_i32_142 : BitVec 32 := 3#32
  let v268 : BitVec 32 := Scalar.muli arg27 c3_i32_142
  let c1_i32_143 : BitVec 32 := 1#32
  let v269 : BitVec 32 := Scalar.addi v268 c1_i32_143
  let v270 : BitVec 32 := Scalar.subi c63_i32_144 v269
  let c1_i32_146 : BitVec 32 := 1#32
  let v273 : BitVec 32 := Scalar.subi v270 c1_i32_146
  let c8_i32_147 : BitVec 32 := 8#32
  let v274 : BitVec 32 := Scalar.muli v273 c8_i32_147
  v274
def k0_mult5 (k0_t1 : Fin k0_t1_loop.trips) : BitVec 32 :=
  let c63_i32_155 : BitVec 32 := 63#32
  let c0_i32_27 : BitVec 32 := 0#32
  let c1_i32 : BitVec 32 := 1#32
  let arg27 : BitVec 32 := Scf.iv c0_i32_27 c1_i32 k0_t1
  let c3_i32_154 : BitVec 32 := 3#32
  let v290 : BitVec 32 := Scalar.muli arg27 c3_i32_154
  let c2_i32 : BitVec 32 := 2#32
  let v291 : BitVec 32 := Scalar.addi v290 c2_i32
  let v292 : BitVec 32 := Scalar.subi c63_i32_155 v291
  let c8_i32_156 : BitVec 32 := 8#32
  let v293 : BitVec 32 := Scalar.muli v292 c8_i32_156
  v293
def k0_mult6 (k0_t1 : Fin k0_t1_loop.trips) : BitVec 32 :=
  let c63_i32_155 : BitVec 32 := 63#32
  let c0_i32_27 : BitVec 32 := 0#32
  let c1_i32 : BitVec 32 := 1#32
  let arg27 : BitVec 32 := Scf.iv c0_i32_27 c1_i32 k0_t1
  let c3_i32_154 : BitVec 32 := 3#32
  let v290 : BitVec 32 := Scalar.muli arg27 c3_i32_154
  let c2_i32 : BitVec 32 := 2#32
  let v291 : BitVec 32 := Scalar.addi v290 c2_i32
  let v292 : BitVec 32 := Scalar.subi c63_i32_155 v291
  let c1_i32_157 : BitVec 32 := 1#32
  let v295 : BitVec 32 := Scalar.subi v292 c1_i32_157
  let c8_i32_158 : BitVec 32 := 8#32
  let v296 : BitVec 32 := Scalar.muli v295 c8_i32_158
  v296
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== S5RefIdeal.lean ====
abbrev S4096x2048 : Shape := ⟨2, ![4096, 2048]⟩
abbrev S4096x8192 : Shape := ⟨2, ![4096, 8192]⟩
abbrev S128x64 : Shape := ⟨2, ![128, 64]⟩
abbrev S128x64x16 : Shape := ⟨3, ![128, 64, 16]⟩
abbrev S128x16x64 : Shape := ⟨3, ![128, 16, 64]⟩
abbrev S1x2048 : Shape := ⟨2, ![1, 2048]⟩
abbrev S_ : Shape := ⟨0, ![]⟩
abbrev S4096x128x16 : Shape := ⟨3, ![4096, 128, 16]⟩
abbrev S128x4096x16 : Shape := ⟨3, ![128, 4096, 16]⟩
abbrev S128x4096x64 : Shape := ⟨3, ![128, 4096, 64]⟩
abbrev S4096x128x64 : Shape := ⟨3, ![4096, 128, 64]⟩
abbrev S1x128x64 : Shape := ⟨3, ![1, 128, 64]⟩
abbrev S2048 : Shape := ⟨1, ![2048]⟩

abbrev nBuf : Space → Nat
  | .hbm => 91
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x8192, .f32⟩
  | .hbm, ⟨3, _⟩ => ⟨S4096x8192, .f32⟩
  | .hbm, ⟨4, _⟩ => ⟨S128x64, .f32⟩
  | .hbm, ⟨5, _⟩ => ⟨S128x64, .f32⟩
  | .hbm, ⟨6, _⟩ => ⟨S128x64x16, .f32⟩
  | .hbm, ⟨7, _⟩ => ⟨S128x64x16, .f32⟩
  | .hbm, ⟨8, _⟩ => ⟨S128x16x64, .f32⟩
  | .hbm, ⟨9, _⟩ => ⟨S128x16x64, .f32⟩
  | .hbm, ⟨10, _⟩ => ⟨S1x2048, .f32⟩
  | .hbm, ⟨11, _⟩ => ⟨S_, .f32⟩
  | .hbm, ⟨12, _⟩ => ⟨S128x64, .f32⟩
  | .hbm, ⟨13, _⟩ => ⟨S_, .f32⟩
  | .hbm, ⟨14, _⟩ => ⟨S128x64, .f32⟩
  | .hbm, ⟨15, _⟩ => ⟨S4096x128x16, .f32⟩
  | .hbm, ⟨16, _⟩ => ⟨S4096x128x16, .f32⟩
  | .hbm, ⟨17, _⟩ => ⟨S128x4096x16, .f32⟩
  | .hbm, ⟨18, _⟩ => ⟨S128x4096x64, .f32⟩
  | .hbm, ⟨19, _⟩ => ⟨S4096x128x64, .f32⟩
  | .hbm, ⟨20, _⟩ => ⟨S128x4096x16, .f32⟩
  | .hbm, ⟨21, _⟩ => ⟨S128x4096x64, .f32⟩
  | .hbm, ⟨22, _⟩ => ⟨S4096x128x64, .f32⟩
  | .hbm, ⟨23, _⟩ => ⟨S_, .f32⟩
  | .hbm, ⟨24, _⟩ => ⟨S128x64, .f32⟩
  | .hbm, ⟨25, _⟩ => ⟨S_, .f32⟩
  | .hbm, ⟨26, _⟩ => ⟨S128x64, .f32⟩
  | .hbm, ⟨27, _⟩ => ⟨S_, .f32⟩
  | .hbm, ⟨28, _⟩ => ⟨S4096x128x64, .f32⟩
  | .hbm, ⟨29, _⟩ => ⟨S_, .f32⟩
  | .hbm, ⟨30, _⟩ => ⟨S4096x128x64, .f32⟩
  | .hbm, ⟨31, _⟩ => ⟨S_, .i32⟩
  | .hbm, ⟨32, _⟩ => ⟨S4096x128x64, .f32⟩
  | .hbm, ⟨33, _⟩ => ⟨S4096x128x64, .f32⟩
  | .hbm, ⟨34, _⟩ => ⟨S128x64, .f32⟩
  | .hbm, ⟨35, _⟩ => ⟨S128x64, .f32⟩
  | .hbm, ⟨36, _⟩ => ⟨S_, .i32⟩
  | .hbm, ⟨37, _⟩ => ⟨S128x64, .f32⟩
  | .hbm, ⟨38, _⟩ => ⟨S128x64, .f32⟩
  | .hbm, ⟨39, _⟩ => ⟨S4096x128x64, .f32⟩
  | .hbm, ⟨40, _⟩ => ⟨S4096x128x64, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x128x64, .f32⟩
  | .hbm, ⟨50, _⟩ => ⟨S128x64, .f32⟩
  | .hbm, ⟨51, _⟩ => ⟨S_, .i32⟩
  | .hbm, ⟨52, _⟩ => ⟨S_, .i32⟩
  | .hbm, ⟨53, _⟩ => ⟨S1x128x64, .f32⟩
  | .hbm, ⟨54, _⟩ => ⟨S128x64, .f32⟩
  | .hbm, ⟨55, _⟩ => ⟨S128x64, .f32⟩
  | .hbm, ⟨56, _⟩ => ⟨S128x64, .f32⟩
  | .hbm, ⟨57, _⟩ => ⟨S128x64, .f32⟩
  | .hbm, ⟨58, _⟩ => ⟨S128x64, .f32⟩
  | .hbm, ⟨59, _⟩ => ⟨S128x64, .f32⟩
  | .hbm, ⟨60, _⟩ => ⟨S128x64, .f32⟩
  | .hbm, ⟨61, _⟩ => ⟨S128x64, .f32⟩
  | .hbm, ⟨62, _⟩ => ⟨S128x64, .f32⟩
  | .hbm, ⟨63, _⟩ => ⟨S128x64, .f32⟩
  | .hbm, ⟨64, _⟩ => ⟨S1x128x64, .f32⟩
  | .hbm, ⟨65, _⟩ => ⟨S_, .i32⟩
  | .hbm, ⟨66, _⟩ => ⟨S_, .i32⟩
  | .hbm, ⟨67, _⟩ => ⟨S4096x128x64, .f32⟩
  | .hbm, ⟨68, _⟩ => ⟨S1x128x64, .f32⟩
  | .hbm, ⟨69, _⟩ => ⟨S_, .i32⟩
  | .hbm, ⟨70, _⟩ => ⟨S_, .i32⟩
  | .hbm, ⟨71, _⟩ => ⟨S4096x128x64, .f32⟩
  | .hbm, ⟨72, _⟩ => ⟨S_, .i32⟩
  | .hbm, ⟨73, _⟩ => ⟨S_, .i32⟩
  | .hbm, ⟨74, _⟩ => ⟨S128x4096x64, .f32⟩
  | .hbm, ⟨75, _⟩ => ⟨S128x4096x16, .f32⟩
  | .hbm, ⟨76, _⟩ => ⟨S4096x128x16, .f32⟩
  | .hbm, ⟨77, _⟩ => ⟨S128x4096x64, .f32⟩
  | .hbm, ⟨78, _⟩ => ⟨S128x4096x16, .f32⟩
  | .hbm, ⟨79, _⟩ => ⟨S4096x128x16, .f32⟩
  | .hbm, ⟨80, _⟩ => ⟨S4096x128x16, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_c : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev main_v14_5 : Ref sig .tc := ⟨.hbm, 37, rfl⟩
abbrev main_v14_6 : Ref sig .tc := ⟨.hbm, 38, rfl⟩
abbrev main_v14_7 : Ref sig .tc := ⟨.hbm, 39, rfl⟩
abbrev main_v14_8 : Ref sig .tc := ⟨.hbm, 40, rfl⟩
abbrev main_while0c_c_14 : Ref sig .tc := ⟨.hbm, 41, rfl⟩
abbrev main_while0c_v31 : Ref sig .tc := ⟨.hbm, 42, rfl⟩
abbrev main_while0b_c_14 : Ref sig .tc := ⟨.hbm, 43, rfl⟩
abbrev main_while0b_v31 : Ref sig .tc := ⟨.hbm, 44, rfl⟩
abbrev main_while0b_c_15 : Ref sig .tc := ⟨.hbm, 45, rfl⟩
abbrev main_while0b_v32 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_v0 : Ref sig .tc := ⟨.hbm, 49, rfl⟩
abbrev main_while0b_v33 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_v0 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_call2_v0 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_v44 : Ref sig .tc := ⟨.hbm, 67, rfl⟩
abbrev main_while0b_call3_v0 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_v45 : Ref sig .tc := ⟨.hbm, 71, rfl⟩
abbrev main_while0b_c_16 : Ref sig .tc := ⟨.hbm, 72, rfl⟩
abbrev main_while0b_v46 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_5 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩

abbrev nD : Nat := 1
abbrev τ : Topo := Topo.v7x

variable {F : FTy → Type} [FloatOps F]

abbrev main_while0_count : Scf.Loop 32 := ⟨0#32, 4096#32, 1#32⟩
-- ==== Down.lean ====
abbrev S4096x2048 : Shape := ⟨2, ![4096, 2048]⟩
abbrev S4x5120x2048 : Shape := ⟨3, ![4, 5120, 2048]⟩
abbrev S4096x8192 : Shape := ⟨2, ![4096, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2048 : Shape := ⟨2, ![4096, 2048]⟩
abbrev S4x5120x2048 : Shape := ⟨3, ![4, 5120, 2048]⟩
abbrev S4096x8192 : Shape := ⟨2, ![4096, 8192]⟩
abbrev S4x2048x2048 : Shape := ⟨3, ![4, 2048, 2048]⟩
abbrev S8192x2048 : Shape := ⟨2, ![8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x8192, .bf16⟩
  | .hbm, ⟨3, _⟩ => ⟨S4x2048x2048, .bf16⟩
  | .hbm, ⟨4, _⟩ => ⟨S8192x2048, .bf16⟩
  | .hbm, ⟨5, _⟩ => ⟨S8192x2048, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== DDown.lean ====
abbrev S4096x8192 : Shape := ⟨2, ![4096, 8192]⟩
abbrev S4096x2048 : Shape := ⟨2, ![4096, 2048]⟩
abbrev S4x5120x2048 : Shape := ⟨3, ![4, 5120, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x5120x2048, .bf16⟩
  | .hbm, ⟨3, _⟩ => ⟨S4x5120x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DDownRefIdeal.lean ====
abbrev S4096x8192 : Shape := ⟨2, ![4096, 8192]⟩
abbrev S4096x2048 : Shape := ⟨2, ![4096, 2048]⟩
abbrev S4x5120x2048 : Shape := ⟨3, ![4, 5120, 2048]⟩
abbrev S_ : Shape := ⟨0, ![]⟩
abbrev S8192x2048 : Shape := ⟨2, ![8192, 2048]⟩
abbrev S2048x8192 : Shape := ⟨2, ![2048, 8192]⟩
abbrev S4x2048x2048 : Shape := ⟨3, ![4, 2048, 2048]⟩
abbrev S4x1024x2048 : Shape := ⟨3, ![4, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x5120x2048, .bf16⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S4x2048x2048, .bf16⟩
  | .hbm, ⟨11, _⟩ => ⟨S8192x2048, .bf16⟩
  | .hbm, ⟨12, _⟩ => ⟨S4x2048x2048, .bf16⟩
  | .hbm, ⟨13, _⟩ => ⟨S4x1024x2048, .bf16⟩
  | .hbm, ⟨14, _⟩ => ⟨S4x5120x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DUp.lean ====
abbrev S4096x2048 : Shape := ⟨2, ![4096, 2048]⟩
abbrev S4096x8192 : Shape := ⟨2, ![4096, 8192]⟩
abbrev S4x5120x2048 : Shape := ⟨3, ![4, 5120, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x5120x2048, .bf16⟩
  | .hbm, ⟨3, _⟩ => ⟨S4x5120x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpRefIdeal.lean ====
abbrev S4096x2048 : Shape := ⟨2, ![4096, 2048]⟩
abbrev S4096x8192 : Shape := ⟨2, ![4096, 8192]⟩
abbrev S4x5120x2048 : Shape := ⟨3, ![4, 5120, 2048]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4x3072x2048 : Shape := ⟨3, ![4, 3072, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x5120x2048, .bf16⟩
  | .hbm, ⟨3, _⟩ => ⟨S_, .f32⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2048x8192, .bf16⟩
  | .hbm, ⟨11, _⟩ => ⟨S2048x4x2048, .bf16⟩
  | .hbm, ⟨12, _⟩ => ⟨S4x2048x2048, .bf16⟩
  | .hbm, ⟨13, _⟩ => ⟨S4x3072x2048, .bf16⟩
  | .hbm, ⟨14, _⟩ => ⟨S4x5120x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Up.lean ====
abbrev S4096x8192 : Shape := ⟨2, ![4096, 8192]⟩
abbrev S4x5120x2048 : Shape := ⟨3, ![4, 5120, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x5120x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x8192 : Shape := ⟨2, ![4096, 8192]⟩
abbrev S4x5120x2048 : Shape := ⟨3, ![4, 5120, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x5120x2048, .bf16⟩
  | .hbm, ⟨2, _⟩ => ⟨S4x2048x2048, .bf16⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S_, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InT.lean ====
abbrev S4096x8320 : Shape := ⟨2, ![4096, 8320]⟩
abbrev S8208x2048 : Shape := ⟨2, ![8208, 2048]⟩
abbrev S_ : Shape := ⟨0, ![]⟩
abbrev S8320x2048 : Shape := ⟨2, ![8320, 2048]⟩
abbrev S4096x2048 : Shape := ⟨2, ![4096, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8320, .bf16⟩
  | .hbm, ⟨1, _⟩ => ⟨S8208x2048, .bf16⟩
  | .hbm, ⟨2, _⟩ => ⟨S_, .i32⟩
  | .hbm, ⟨3, _⟩ => ⟨S_, .bf16⟩
  | .hbm, ⟨4, _⟩ => ⟨S8320x2048, .bf16⟩
  | .hbm, ⟨5, _⟩ => ⟨S4096x2048, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32_6 : BitVec 32 := 4#32
  let v12 : BitVec 1 := Scalar.cmpi .eq arg2 c4_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InTRefIdeal.lean ====
abbrev S4096x8320 : Shape := ⟨2, ![4096, 8320]⟩
abbrev S8208x2048 : Shape := ⟨2, ![8208, 2048]⟩
abbrev S2048x8208 : Shape := ⟨2, ![2048, 8208]⟩
abbrev S_ : Shape := ⟨0, ![]⟩
abbrev S4096x2048 : Shape := ⟨2, ![4096, 2048]⟩
abbrev S4096x8208 : Shape := ⟨2, ![4096, 8208]⟩

abbrev nBuf : Space → Nat
  | .hbm => 10
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S8208x2048, .bf16⟩
  | .hbm, ⟨2, _⟩ => ⟨S8208x2048, .f32⟩
  | .hbm, ⟨3, _⟩ => ⟨S2048x8208, .f32⟩
  | .hbm, ⟨4, _⟩ => ⟨S_, .f32⟩
  | .hbm, ⟨5, _⟩ => ⟨S4096x2048, .f32⟩
  | .hbm, ⟨6, _⟩ => ⟨S4096x8208, .f32⟩
  | .hbm, ⟨7, _⟩ => ⟨S4096x8208, .bf16⟩
  | .hbm, ⟨8, _⟩ => ⟨S4096x8208, .f32⟩
  | .hbm, ⟨9, _⟩ => ⟨S4096x2048, .f32⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DIn.lean ====
abbrev S4096x8320 : Shape := ⟨2, ![4096, 8320]⟩
abbrev S4096x2048 : Shape := ⟨2, ![4096, 2048]⟩
abbrev S8320x2048 : Shape := ⟨2, ![8320, 2048]⟩
abbrev S2048x1664 : Shape := ⟨2, ![2048, 1664]⟩
abbrev S2048x1024 : Shape := ⟨2, ![2048, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8320, .bf16⟩
  | .hbm, ⟨1, _⟩ => ⟨S4096x2048, .bf16⟩
  | .hbm, ⟨2, _⟩ => ⟨S8320x2048, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRefIdeal.lean ====
abbrev S4096x8320 : Shape := ⟨2, ![4096, 8320]⟩
abbrev S4096x2048 : Shape := ⟨2, ![4096, 2048]⟩
abbrev S_ : Shape := ⟨0, ![]⟩
abbrev S2048x8320 : Shape := ⟨2, ![2048, 8320]⟩
abbrev S8320x2048 : Shape := ⟨2, ![8320, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8320, .bf16⟩
  | .hbm, ⟨1, _⟩ => ⟨S4096x2048, .bf16⟩
  | .hbm, ⟨2, _⟩ => ⟨S_, .f32⟩
  | .hbm, ⟨3, _⟩ => ⟨S2048x8320, .f32⟩
  | .hbm, ⟨4, _⟩ => ⟨S4096x2048, .f32⟩
  | .hbm, ⟨5, _⟩ => ⟨S4096x8320, .f32⟩
  | .hbm, ⟨6, _⟩ => ⟨S4096x8320, .f32⟩
  | .hbm, ⟨7, _⟩ => ⟨S8320x2048, .f32⟩
  | .hbm, ⟨8, _⟩ => ⟨S2048x8320, .f32⟩
  | .hbm, ⟨9, _⟩ => ⟨S8320x2048, .f32⟩
  | .hbm, ⟨10, _⟩ => ⟨S8320x2048, .bf16⟩
  | _, _ => ⟨S4096x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpF.lean ====
abbrev S4096x2048 : Shape := ⟨2, ![4096, 2048]⟩
abbrev S4x5120x2048 : Shape := ⟨3, ![4, 5120, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg2
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFRefIdeal.lean ====
abbrev S4096x2048 : Shape := ⟨2, ![4096, 2048]⟩
abbrev S4x5120x2048 : Shape := ⟨3, ![4, 5120, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4x2048x2048, .bf16⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S4096x2048, .f32⟩
  | .hbm, ⟨7, _⟩ => ⟨S4096x8192, .f32⟩
  | .hbm, ⟨8, _⟩ => ⟨S4096x8192, .bf16⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownF.lean ====
abbrev S4096x8192 : Shape := ⟨2, ![4096, 8192]⟩
abbrev S4x5120x2048 : Shape := ⟨3, ![4, 5120, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x5120x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFRefIdeal.lean ====
abbrev S4096x8192 : Shape := ⟨2, ![4096, 8192]⟩
abbrev S4x5120x2048 : Shape := ⟨3, ![4, 5120, 2048]⟩
abbrev S4096x2048 : Shape := ⟨2, ![4096, 2048]⟩
abbrev S4x2048x2048 : Shape := ⟨3, ![4, 2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x5120x2048, .bf16⟩
  | .hbm, ⟨2, _⟩ => ⟨S4096x2048, .f32⟩
  | .hbm, ⟨3, _⟩ => ⟨S4x2048x2048, .bf16⟩
  | .hbm, ⟨4, _⟩ => ⟨S8192x2048, .bf16⟩
  | .hbm, ⟨5, _⟩ => ⟨S8192x2048, .f32⟩
  | .hbm, ⟨6, _⟩ => ⟨S4096x8192, .f32⟩
  | .hbm, ⟨7, _⟩ => ⟨S4096x2048, .f32⟩
  | .hbm, ⟨8, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InP.lean ====
abbrev S4096x2048 : Shape := ⟨2, ![4096, 2048]⟩
abbrev S8208x2048 : Shape := ⟨2, ![8208, 2048]⟩
abbrev S_ : Shape := ⟨0, ![]⟩
abbrev S8320x2048 : Shape := ⟨2, ![8320, 2048]⟩
abbrev S4096x8320 : Shape := ⟨2, ![4096, 8320]⟩
abbrev S1024x2048 : Shape := ⟨2, ![1024, 2048]⟩
abbrev S1664x2048 : Shape := ⟨2, ![1664, 2048]⟩
abbrev S1024x1664 : Shape := ⟨2, ![1024, 1664]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8208x2048, .bf16⟩
  | .hbm, ⟨2, _⟩ => ⟨S_, .i32⟩
  | .hbm, ⟨3, _⟩ => ⟨S_, .bf16⟩
  | .hbm, ⟨4, _⟩ => ⟨S8320x2048, .bf16⟩
  | .hbm, ⟨5, _⟩ => ⟨S4096x8320, .f32⟩
  | .local _ .vmem, ⟨0, _⟩ => ⟨S1024x2048, .bf16⟩
  | .local _ .vmem, ⟨1, _⟩ => ⟨S1024x2048, .bf16⟩
  | .local _ .vmem, ⟨2, _⟩ => ⟨S1664x2048, .bf16⟩
  | .local _ .vmem, ⟨3, _⟩ => ⟨S1664x2048, .bf16⟩
  | .local _ .vmem, ⟨4, _⟩ => ⟨S1024x1664, .f32⟩
  | .local _ .vmem, ⟨5, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InPRefIdeal.lean ====
abbrev S4096x2048 : Shape := ⟨2, ![4096, 2048]⟩
abbrev S8208x2048 : Shape := ⟨2, ![8208, 2048]⟩
abbrev S2048x8208 : Shape := ⟨2, ![2048, 8208]⟩
abbrev S4096x8208 : Shape := ⟨2, ![4096, 8208]⟩
abbrev S_ : Shape := ⟨0, ![]⟩
abbrev S4096x112 : Shape := ⟨2, ![4096, 112]⟩
abbrev S4096x8320 : Shape := ⟨2, ![4096, 8320]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8208x2048, .bf16⟩
  | .hbm, ⟨2, _⟩ => ⟨S4096x2048, .f32⟩
  | .hbm, ⟨3, _⟩ => ⟨S8208x2048, .f32⟩
  | .hbm, ⟨4, _⟩ => ⟨S2048x8208, .f32⟩
  | .hbm, ⟨5, _⟩ => ⟨S4096x8208, .f32⟩
  | .hbm, ⟨6, _⟩ => ⟨S_, .f32⟩
  | .hbm, ⟨7, _⟩ => ⟨S4096x112, .f32⟩
  | .hbm, ⟨8, _⟩ => ⟨S4096x8320, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownL.lean ====
abbrev S4096x2048 : Shape := ⟨2, ![4096, 2048]⟩
abbrev S4x5632x2048 : Shape := ⟨3, ![4, 5632, 2048]⟩
abbrev S4096x8192 : Shape := ⟨2, ![4096, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownLRefIdeal.lean ====
abbrev S4096x2048 : Shape := ⟨2, ![4096, 2048]⟩
abbrev S4x5632x2048 : Shape := ⟨3, ![4, 5632, 2048]⟩
abbrev S4096x8192 : Shape := ⟨2, ![4096, 8192]⟩
abbrev S4x2048x2048 : Shape := ⟨3, ![4, 2048, 2048]⟩
abbrev S8192x2048 : Shape := ⟨2, ![8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x8192, .bf16⟩
  | .hbm, ⟨3, _⟩ => ⟨S4x2048x2048, .bf16⟩
  | .hbm, ⟨4, _⟩ => ⟨S8192x2048, .bf16⟩
  | .hbm, ⟨5, _⟩ => ⟨S8192x2048, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== DDownL.lean ====
abbrev S4096x8192 : Shape := ⟨2, ![4096, 8192]⟩
abbrev S4096x2048 : Shape := ⟨2, ![4096, 2048]⟩
abbrev S4x5632x2048 : Shape := ⟨3, ![4, 5632, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x5632x2048, .bf16⟩
  | .hbm, ⟨3, _⟩ => ⟨S4x5632x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DDownLRefIdeal.lean ====
abbrev S4096x8192 : Shape := ⟨2, ![4096, 8192]⟩
abbrev S4096x2048 : Shape := ⟨2, ![4096, 2048]⟩
abbrev S4x5632x2048 : Shape := ⟨3, ![4, 5632, 2048]⟩
abbrev S_ : Shape := ⟨0, ![]⟩
abbrev S8192x2048 : Shape := ⟨2, ![8192, 2048]⟩
abbrev S2048x8192 : Shape := ⟨2, ![2048, 8192]⟩
abbrev S4x2048x2048 : Shape := ⟨3, ![4, 2048, 2048]⟩
abbrev S4x1536x2048 : Shape := ⟨3, ![4, 1536, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x5632x2048, .bf16⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S4x2048x2048, .bf16⟩
  | .hbm, ⟨11, _⟩ => ⟨S8192x2048, .bf16⟩
  | .hbm, ⟨12, _⟩ => ⟨S4x2048x2048, .bf16⟩
  | .hbm, ⟨13, _⟩ => ⟨S4x1536x2048, .bf16⟩
  | .hbm, ⟨14, _⟩ => ⟨S4x5632x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DUpL.lean ====
abbrev S4096x2048 : Shape := ⟨2, ![4096, 2048]⟩
abbrev S4096x8192 : Shape := ⟨2, ![4096, 8192]⟩
abbrev S4x5632x2048 : Shape := ⟨3, ![4, 5632, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x5632x2048, .bf16⟩
  | .hbm, ⟨3, _⟩ => ⟨S4x5632x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg0
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpLRefIdeal.lean ====
abbrev S4096x2048 : Shape := ⟨2, ![4096, 2048]⟩
abbrev S4096x8192 : Shape := ⟨2, ![4096, 8192]⟩
abbrev S4x5632x2048 : Shape := ⟨3, ![4, 5632, 2048]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩
abbrev S4x3584x2048 : Shape := ⟨3, ![4, 3584, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x5632x2048, .bf16⟩
  | .hbm, ⟨3, _⟩ => ⟨S_, .f32⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2048x8192, .bf16⟩
  | .hbm, ⟨11, _⟩ => ⟨S2048x4x2048, .bf16⟩
  | .hbm, ⟨12, _⟩ => ⟨S4x2048x2048, .bf16⟩
  | .hbm, ⟨13, _⟩ => ⟨S4x3584x2048, .bf16⟩
  | .hbm, ⟨14, _⟩ => ⟨S4x5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpL.lean ====
abbrev S4096x8192 : Shape := ⟨2, ![4096, 8192]⟩
abbrev S4x5632x2048 : Shape := ⟨3, ![4, 5632, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x5632x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpLRefIdeal.lean ====
abbrev S4096x8192 : Shape := ⟨2, ![4096, 8192]⟩
abbrev S4x5632x2048 : Shape := ⟨3, ![4, 5632, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x5632x2048, .bf16⟩
  | .hbm, ⟨2, _⟩ => ⟨S4x2048x2048, .bf16⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S_, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpFL.lean ====
abbrev S4096x2048 : Shape := ⟨2, ![4096, 2048]⟩
abbrev S4x5632x2048 : Shape := ⟨3, ![4, 5632, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg2
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFLRefIdeal.lean ====
abbrev S4096x2048 : Shape := ⟨2, ![4096, 2048]⟩
abbrev S4x5632x2048 : Shape := ⟨3, ![4, 5632, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4x2048x2048, .bf16⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S4096x2048, .f32⟩
  | .hbm, ⟨7, _⟩ => ⟨S4096x8192, .f32⟩
  | .hbm, ⟨8, _⟩ => ⟨S4096x8192, .bf16⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownFL.lean ====
abbrev S4096x8192 : Shape := ⟨2, ![4096, 8192]⟩
abbrev S4x5632x2048 : Shape := ⟨3, ![4, 5632, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFLRefIdeal.lean ====
abbrev S4096x8192 : Shape := ⟨2, ![4096, 8192]⟩
abbrev S4x5632x2048 : Shape := ⟨3, ![4, 5632, 2048]⟩
abbrev S4096x2048 : Shape := ⟨2, ![4096, 2048]⟩
abbrev S4x2048x2048 : Shape := ⟨3, ![4, 2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x5632x2048, .bf16⟩
  | .hbm, ⟨2, _⟩ => ⟨S4096x2048, .f32⟩
  | .hbm, ⟨3, _⟩ => ⟨S4x2048x2048, .bf16⟩
  | .hbm, ⟨4, _⟩ => ⟨S8192x2048, .bf16⟩
  | .hbm, ⟨5, _⟩ => ⟨S8192x2048, .f32⟩
  | .hbm, ⟨6, _⟩ => ⟨S4096x8192, .f32⟩
  | .hbm, ⟨7, _⟩ => ⟨S4096x2048, .f32⟩
  | .hbm, ⟨8, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutE.lean ====
abbrev S4096x2048 : Shape := ⟨2, ![4096, 2048]⟩
abbrev S4x5120x2048 : Shape := ⟨3, ![4, 5120, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutERefIdeal.lean ====
abbrev S4096x2048 : Shape := ⟨2, ![4096, 2048]⟩
abbrev S4x5120x2048 : Shape := ⟨3, ![4, 5120, 2048]⟩
abbrev S4x512x2048 : Shape := ⟨3, ![4, 512, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutO.lean ====
abbrev S4096x2048 : Shape := ⟨2, ![4096, 2048]⟩
abbrev S4x5632x2048 : Shape := ⟨3, ![4, 5632, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c10_i32 : BitVec 32 := 10#32
  let v27 : BitVec 32 := Scalar.addi c10_i32 v26
  let c0_i32_11 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutORefIdeal.lean ====
abbrev S4096x2048 : Shape := ⟨2, ![4096, 2048]⟩
abbrev S4x5632x2048 : Shape := ⟨3, ![4, 5632, 2048]⟩
abbrev S4x512x2048 : Shape := ⟨3, ![4, 512, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutET.lean ====
abbrev S4096x2048 : Shape := ⟨2, ![4096, 2048]⟩
abbrev S4x5120x2048 : Shape := ⟨3, ![4, 5120, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutETRefIdeal.lean ====
abbrev S4096x2048 : Shape := ⟨2, ![4096, 2048]⟩
abbrev S4x5120x2048 : Shape := ⟨3, ![4, 5120, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4x512x2048, .bf16⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutOT.lean ====
abbrev S4096x2048 : Shape := ⟨2, ![4096, 2048]⟩
abbrev S4x5632x2048 : Shape := ⟨3, ![4, 5632, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c10_i32 : BitVec 32 := 10#32
  let v27 : BitVec 32 := Scalar.addi c10_i32 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutOTRefIdeal.lean ====
abbrev S4096x2048 : Shape := ⟨2, ![4096, 2048]⟩
abbrev S4x5632x2048 : Shape := ⟨3, ![4, 5632, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4x512x2048, .bf16⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateT.lean ====
abbrev S4096x2048 : Shape := ⟨2, ![4096, 2048]⟩
abbrev S4x5120x2048 : Shape := ⟨3, ![4, 5120, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateTRefIdeal.lean ====
abbrev S4096x2048 : Shape := ⟨2, ![4096, 2048]⟩
abbrev S4x5120x2048 : Shape := ⟨3, ![4, 5120, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4x512x2048, .bf16⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateLT.lean ====
abbrev S4096x2048 : Shape := ⟨2, ![4096, 2048]⟩
abbrev S4x5632x2048 : Shape := ⟨3, ![4, 5632, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateLTRefIdeal.lean ====
abbrev S4096x2048 : Shape := ⟨2, ![4096, 2048]⟩
abbrev S4x5632x2048 : Shape := ⟨3, ![4, 5632, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4x512x2048, .bf16⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DOutE.lean ====
abbrev S4096x2048 : Shape := ⟨2, ![4096, 2048]⟩
abbrev S4x5120x2048 : Shape := ⟨3, ![4, 5120, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5120x2048, .bf16⟩
  | .hbm, ⟨3, _⟩ => ⟨S4x5120x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutERefIdeal.lean ====
abbrev S4096x2048 : Shape := ⟨2, ![4096, 2048]⟩
abbrev S4x5120x2048 : Shape := ⟨3, ![4, 5120, 2048]⟩
abbrev S_ : Shape := ⟨0, ![]⟩
abbrev S2048x2048 : Shape := ⟨2, ![2048, 2048]⟩
abbrev S4x4608x2048 : Shape := ⟨3, ![4, 4608, 2048]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5120x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x4608x2048, .bf16⟩
  | .hbm, ⟨11, _⟩ => ⟨S2048x2048, .bf16⟩
  | .hbm, ⟨12, _⟩ => ⟨S4x512x2048, .bf16⟩
  | .hbm, ⟨13, _⟩ => ⟨S4x5120x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DOutO.lean ====
abbrev S4096x2048 : Shape := ⟨2, ![4096, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S4x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c10_i32 : BitVec 32 := 10#32
  let v27 : BitVec 32 := Scalar.addi c10_i32 v26
  let c0_i32_11 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOutORefIdeal.lean ====
abbrev S4096x2048 : Shape := ⟨2, ![4096, 2048]⟩
abbrev S4x5632x2048 : Shape := ⟨3, ![4, 5632, 2048]⟩
abbrev S_ : Shape := ⟨0, ![]⟩
abbrev S2048x2048 : Shape := ⟨2, ![2048, 2048]⟩
abbrev S4x5120x2048 : Shape := ⟨3, ![4, 5120, 2048]⟩
abbrev S4x512x2048 : Shape := ⟨3, ![4, 512, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x5120x2048, .bf16⟩
  | .hbm, ⟨11, _⟩ => ⟨S2048x2048, .bf16⟩
  | .hbm, ⟨12, _⟩ => ⟨S4x512x2048, .bf16⟩
  | .hbm, ⟨13, _⟩ => ⟨S4x5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DGlu.lean ====
abbrev S4096x2048 : Shape := ⟨2, ![4096, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S4x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGluRefIdeal.lean ====
abbrev S4096x2048 : Shape := ⟨2, ![4096, 2048]⟩
abbrev S4x5632x2048 : Shape := ⟨3, ![4, 5632, 2048]⟩
abbrev S_ : Shape := ⟨0, ![]⟩
abbrev S2048x2048 : Shape := ⟨2, ![2048, 2048]⟩
abbrev S4x4608x2048 : Shape := ⟨3, ![4, 4608, 2048]⟩
abbrev S4x512x2048 : Shape := ⟨3, ![4, 512, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x4608x2048, .bf16⟩
  | .hbm, ⟨11, _⟩ => ⟨S2048x2048, .bf16⟩
  | .hbm, ⟨12, _⟩ => ⟨S4x512x2048, .bf16⟩
  | .hbm, ⟨13, _⟩ => ⟨S4x512x2048, .bf16⟩
  | .hbm, ⟨14, _⟩ => ⟨S4x5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DGate.lean ====
abbrev S4096x2048 : Shape := ⟨2, ![4096, 2048]⟩
abbrev S4x5120x2048 : Shape := ⟨3, ![4, 5120, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5120x2048, .bf16⟩
  | .hbm, ⟨3, _⟩ => ⟨S4x5120x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGateRefIdeal.lean ====
abbrev S4096x2048 : Shape := ⟨2, ![4096, 2048]⟩
abbrev S4x5120x2048 : Shape := ⟨3, ![4, 5120, 2048]⟩
abbrev S_ : Shape := ⟨0, ![]⟩
abbrev S2048x2048 : Shape := ⟨2, ![2048, 2048]⟩
abbrev S4x4096x2048 : Shape := ⟨3, ![4, 4096, 2048]⟩
abbrev S4x512x2048 : Shape := ⟨3, ![4, 512, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5120x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x4096x2048, .bf16⟩
  | .hbm, ⟨11, _⟩ => ⟨S2048x2048, .bf16⟩
  | .hbm, ⟨12, _⟩ => ⟨S4x512x2048, .bf16⟩
  | .hbm, ⟨13, _⟩ => ⟨S4x512x2048, .bf16⟩
  | .hbm, ⟨14, _⟩ => ⟨S4x5120x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DGateL.lean ====
abbrev S4096x2048 : Shape := ⟨2, ![4096, 2048]⟩
abbrev S4x5632x2048 : Shape := ⟨3, ![4, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S4x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGateLRefIdeal.lean ====
abbrev S4096x2048 : Shape := ⟨2, ![4096, 2048]⟩
abbrev S4x5632x2048 : Shape := ⟨3, ![4, 5632, 2048]⟩
abbrev S_ : Shape := ⟨0, ![]⟩
abbrev S2048x2048 : Shape := ⟨2, ![2048, 2048]⟩
abbrev S4x4096x2048 : Shape := ⟨3, ![4, 4096, 2048]⟩
abbrev S4x512x2048 : Shape := ⟨3, ![4, 512, 2048]⟩
abbrev S4x1024x2048 : Shape := ⟨3, ![4, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x5632x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x4096x2048, .bf16⟩
  | .hbm, ⟨11, _⟩ => ⟨S2048x2048, .bf16⟩
  | .hbm, ⟨12, _⟩ => ⟨S4x512x2048, .bf16⟩
  | .hbm, ⟨13, _⟩ => ⟨S4x1024x2048, .bf16⟩
  | .hbm, ⟨14, _⟩ => ⟨S4x5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Gate.lean ====
abbrev S4096x2048 : Shape := ⟨2, ![4096, 2048]⟩
abbrev S4x5120x2048 : Shape := ⟨3, ![4, 5120, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S4096x2048 : Shape := ⟨2, ![4096, 2048]⟩
abbrev S4x5120x2048 : Shape := ⟨3, ![4, 5120, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5120x2048, .bf16⟩
  | .hbm, ⟨2, _⟩ => ⟨S4096x2048, .f32⟩
  | .hbm, ⟨3, _⟩ => ⟨S4096x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GateL.lean ====
abbrev S4096x2048 : Shape := ⟨2, ![4096, 2048]⟩
abbrev S4x5632x2048 : Shape := ⟨3, ![4, 5632, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateLRefIdeal.lean ====
abbrev S4096x2048 : Shape := ⟨2, ![4096, 2048]⟩
abbrev S4x5632x2048 : Shape := ⟨3, ![4, 5632, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Glu.lean ====
abbrev S4096x2048 : Shape := ⟨2, ![4096, 2048]⟩
abbrev S4x5632x2048 : Shape := ⟨3, ![4, 5632, 2048]⟩
abbrev S1x2048 : Shape := ⟨2, ![1, 2048]⟩
abbrev S1024x512 : Shape := ⟨2, ![1024, 512]⟩
abbrev S1x512x1024 : Shape := ⟨3, ![1, 512, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S1x2048, .f32⟩
  | .hbm, ⟨3, _⟩ => ⟨S4096x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluRefIdeal.lean ====
abbrev S4096x2048 : Shape := ⟨2, ![4096, 2048]⟩
abbrev S4x5632x2048 : Shape := ⟨3, ![4, 5632, 2048]⟩
abbrev S1x2048 : Shape := ⟨2, ![1, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S1x2048, .f32⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== GluT.lean ====
abbrev S4096x2048 : Shape := ⟨2, ![4096, 2048]⟩
abbrev S4x5632x2048 : Shape := ⟨3, ![4, 5632, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluTRefIdeal.lean ====
abbrev S4096x2048 : Shape := ⟨2, ![4096, 2048]⟩
abbrev S4x5632x2048 : Shape := ⟨3, ![4, 5632, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x5632x2048, .bf16⟩
  | .hbm, ⟨2, _⟩ => ⟨S4096x2048, .f32⟩
  | .hbm, ⟨3, _⟩ => ⟨S4096x2048, .f32⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.ConvVal.lean ====
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.ConvIdeal.Val

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ)
variable (m' : (ℓ : Loc Cert.ConvRefIdeal.nD Cert.ConvRefIdeal.τ Cert.ConvRefIdeal.sig) → Buf (Elt Ideal) ℓ)

/-- The block index of every window at every grid point. -/
theorem idx : ∀ t : Fin cfg0.N, win0_0.index t = ![0, 32 + t.val] ∧ win0_1.index t = ![0, t.val] ∧ win0_5.index t = ![0, t.val] ∧ win0_6.index t = ![0, t.val]
   ∧ win0_2.index t = ![0, min t.val 7] ∧ win0_3.index t = ![0, min (t.val - 8) 7] ∧ win0_4.index t = ![0, min (t.val - 16) 7] :=
  (by decide +kernel : ∀ t : Fin grid0.N, _)

/-- The column `x` read `s` rows earlier, zero above the first row. -/
def tap (x : Fin 4096 → EReal) (s : ℕ) (p : Fin 4096) : EReal := if h : s ≤ p.val then x ⟨p.val - s, by omega⟩ else 0

/-- The column `y` read `s` rows later, zero below the last row. -/
def untap (y : Fin 4096 → EReal) (s : ℕ) (p : Fin 4096) : EReal := if h : p.val + s < 4096 then y ⟨p.val + s, h⟩ else 0

/-- One column of the causal convolution of length four. -/
def acc (x : Fin 4096 → EReal) (w : Fin 4 → EReal) (p : Fin 4096) : EReal :=
  x p * w 3 + tap x 1 p * w 2 + tap x 2 p * w 1 + tap x 3 p * w 0

/-- The logistic function. -/
def sg (a : EReal) : EReal := Ideal.logistic a

/-- The cotangent at the convolution's output: `d` times the derivative of `a · sg a`. -/
def dacc (x : Fin 4096 → EReal) (w : Fin 4 → EReal) (d : Fin 4096 → EReal) (p : Fin 4096) : EReal :=
  d p * sg (acc x w p) + acc x w p * d p * (sg (acc x w p) * (1 - sg (acc x w p)))

/-- One column of the gradient with respect to the input. -/
def dx (x : Fin 4096 → EReal) (w : Fin 4 → EReal) (d : Fin 4096 → EReal) (p : Fin 4096) : EReal :=
  dacc x w d p * w 3 + untap (fun k => dacc x w d k * w 2) 1 p + untap (fun k => dacc x w d k * w 1) 2 p + untap (fun k => dacc x w d k * w 0) 3 p

/-- One column of the gradient with respect to the filter. -/
def dw (x : Fin 4096 → EReal) (w : Fin 4 → EReal) (d : Fin 4096 → EReal) (r : Fin 4) : EReal :=
  ∑ p, tap x (3 - r.val) p * dacc x w d p

/-- A rotation along the rows read at a row and a column. -/
theorem roll (n : BitVec 32) (v : FVec Ideal S4096x128 .f32) (p : Fin 4096) (q : Fin 128) (r : Fin 4096)
    (hr : r.val = (p.val + 4096 - n.toNat % 4096) % 4096) :
    dynamicRotate 0 n none v rotates_S4096x128_d0 (ix2 p q) = v (ix2 r q) := by
  unfold dynamicRotate
  dsimp only
  congr 1
  funext b
  refine Fin.cases ?_ (fun b => Fin.cases ?_ (fun b => b.elim0) b) b
  · exact Fin.ext hr.symm
  · rfl

/-- A select on `s ≤ row`, as a conditional. -/
theorem sel_ge (p : Fin 4096) (n : BitVec 32) (hn : n.toNat < 4096) (a b : EReal) :
    Scalar.select (IntOp.cmpi CmpIPredicate.sge (BitVec.ofNat 32 p.val) n) a b = if n.toNat ≤ p.val then a else b := by
  have hp := p.isLt
  have h1 : (BitVec.ofNat 32 p.val).toInt = p.val := by
    rw [BitVec.toInt_eq_toNat_cond, BitVec.toNat_ofNat]; omega
  have h2 : n.toInt = n.toNat := by rw [BitVec.toInt_eq_toNat_cond]; omega
  by_cases h : n.toNat ≤ p.val
  · simp [Scalar.select, IntOp.cmpi, BitVec.sle, h1, h2, h]
  · simp [Scalar.select, IntOp.cmpi, BitVec.sle, h1, h2, h]

/-- The input block read one row earlier. -/
theorem tap1 (x0 : FVec Ideal S4096x128 .f32) (p : Fin 4096) (q : Fin 128) :
    k0_pay8 (F := Ideal) x0 (ix2 p q) = tap (fun k => x0 (ix2 k q)) 1 p := by
  unfold k0_pay8 k0_pay7 tap
  pointwise
  rw [sel_ge _ _ (by decide)]
  simp only [show (1#32).toNat = 1 from rfl]
  split
  · congr 2; ext; dsimp; omega
  · rfl

/-- The input block read two rows earlier. -/
theorem tap2 (x0 : FVec Ideal S4096x128 .f32) (p : Fin 4096) (q : Fin 128) :
    k0_pay15 (F := Ideal) k0_pay12 (k0_pay13 x0) 0 (ix2 p q) = tap (fun k => x0 (ix2 k q)) 2 p := by
  unfold k0_pay15 k0_pay14 k0_pay13 k0_pay12 tap
  pointwise
  rw [sel_ge _ _ (by decide)]
  simp only [show (2#32).toNat = 2 from rfl]
  split
  · congr 2; ext; dsimp; omega
  · rfl

/-- The input block read three rows earlier. -/
theorem tap3 (x0 : FVec Ideal S4096x128 .f32) (p : Fin 4096) (q : Fin 128) :
    k0_pay19 (F := Ideal) x0 (iota .tc S4096x1 32 [0] iota_S4096x1_d0_w32) (ix2 p q) = tap (fun k => x0 (ix2 k q)) 3 p := by
  unfold k0_pay19 k0_pay18 tap
  pointwise
  rw [sel_ge _ _ (by decide)]
  simp only [show (3#32).toNat = 3 from rfl]
  split
  · congr 2; ext; dsimp; omega
  · rfl

/-- The filter's last row. -/
theorem wk3 (x1 : FVec Ideal S4x128 .f32) (p : Fin 1) (q : Fin 128) : k0_pay4 (F := Ideal) x1 (ix2 p q) = x1 (ix2 3 q) := by
  unfold k0_pay4 k0_pay3
  pointwise
  simp [Fin.sum_univ_succ, Scalar.select, IntOp.cmpi]

/-- The filter's row two. -/
theorem wk2 (x1 : FVec Ideal S4x128 .f32) (p : Fin 1) (q : Fin 128) : k0_pay6 (F := Ideal) x1 (ix2 p q) = x1 (ix2 2 q) := by
  unfold k0_pay6 k0_pay5
  pointwise
  simp [Fin.sum_univ_succ, Scalar.select, IntOp.cmpi]

/-- The filter's row one. -/
theorem wk1 (x1 : FVec Ideal S4x128 .f32) (p : Fin 1) (q : Fin 128) : k0_pay11 (F := Ideal) x1 (ix2 p q) = x1 (ix2 1 q) := by
  unfold k0_pay11 k0_pay10
  pointwise
  simp [Fin.sum_univ_succ, Scalar.select, IntOp.cmpi]

/-- The filter's first row. -/
theorem wk0 (x1 : FVec Ideal S4x128 .f32) (p : Fin 1) (q : Fin 128) :
    k0_pay17 (F := Ideal) x1 (iota .tc S4x128 32 [0] iota_S4x128_d0_w32) (ix2 p q) = x1 (ix2 0 q) := by
  unfold k0_pay17 k0_pay16
  pointwise
  simp [Fin.sum_univ_succ, Scalar.select, IntOp.cmpi]

/-- The block of the cotangent that the grid point `i` takes. -/
def dsel (i : BitVec 32) (x2 x3 x4 : FVec Ideal S4096x128 .f32) : FVec Ideal S4096x128 .f32 :=
  Scalar.select (Scalar.cmpi .slt i 8#32) x2 (Scalar.select (Scalar.cmpi .slt i 16#32) x3 x4)

/-- `dsel` at one index. -/
theorem dsel_apply (i : BitVec 32) (x2 x3 x4 : FVec Ideal S4096x128 .f32) (y : S4096x128.Idx) :
    dsel i x2 x3 x4 y = Scalar.select (Scalar.cmpi .slt i 8#32) (x2 y) (Scalar.select (Scalar.cmpi .slt i 16#32) (x3 y) (x4 y)) := by
  unfold dsel Scalar.select
  split
  · rfl
  · split <;> rfl

/-- The kernel's cotangent of the convolution's output. -/
theorem pay20 (i : BitVec 32) (x0 : FVec Ideal S4096x128 .f32) (x1 : FVec Ideal S4x128 .f32) (x2 x3 x4 : FVec Ideal S4096x128 .f32) (p : Fin 4096) (q : Fin 128) :
    k0_pay20 (F := Ideal) i x0 x1 (iota .tc S4096x1 32 [0] iota_S4096x1_d0_w32) (iota .tc S4x128 32 [0] iota_S4x128_d0_w32) (k0_pay9 x0 x1) (k0_pay11 x1) k0_pay12 (k0_pay13 x0) 0 x2 x3 x4 (ix2 p q)
      = dacc (fun k => x0 (ix2 k q)) (fun k => x1 (ix2 k q)) (fun k => dsel i x2 x3 x4 (ix2 k q)) p := by
  unfold k0_pay20 k0_pay9
  pointwise [tap1, wk1, wk2, wk3]
  rw [tap2, tap3, wk0]
  unfold dacc
  simp only [dsel_apply]
  rfl

/-- The mask that is true from row one on. -/
theorem mask1 (p : Fin 4096) (q : Fin 128) (a b : EReal) : Scalar.select (k0_pay7 (ix2 p q)) a b = if 1 ≤ p.val then a else b := by
  unfold k0_pay7; pointwise; rw [sel_ge _ _ (by decide)]; rfl
/-- The mask that is true from row two on. -/
theorem mask2 (p : Fin 4096) (q : Fin 128) (a b : EReal) : Scalar.select (k0_pay14 k0_pay12 (ix2 p q)) a b = if 2 ≤ p.val then a else b := by
  unfold k0_pay14 k0_pay12; pointwise; rw [sel_ge _ _ (by decide)]; rfl
/-- The mask that is true from row three on. -/
theorem mask3 (p : Fin 4096) (q : Fin 128) (a b : EReal) :
    Scalar.select (k0_pay18 (iota .tc S4096x1 32 [0] iota_S4096x1_d0_w32) (ix2 p q)) a b = if 3 ≤ p.val then a else b := by
  unfold k0_pay18; pointwise; rw [sel_ge _ _ (by decide)]; rfl

/-- A masked array rotated back by `s` rows is the array read `s` rows later. -/
theorem unroll (s : ℕ) (hs : 0 < s ∧ s < 4) (n : BitVec 32) (hn : n.toNat = 4096 - s) (M : IVec S4096x128 1)
    (hM : ∀ (p : Fin 4096) (q : Fin 128) (a b : EReal), Scalar.select (M (ix2 p q)) a b = if s ≤ p.val then a else b)
    (v z : FVec Ideal S4096x128 .f32) (hz : ∀ j, z j = 0) (p : Fin 4096) (q : Fin 128) :
    dynamicRotate 0 n none (select M v z) rotates_S4096x128_d0 (ix2 p q) = untap (fun k => v (ix2 k q)) s p := by
  have hp := p.isLt
  rw [roll n _ p q ⟨(p.val + s) % 4096, by omega⟩ (by rw [hn]; show (p.val + s) % 4096 = _; omega)]
  refine (hM _ _ _ _).trans ?_
  unfold untap
  by_cases h : p.val + s < 4096
  · have e : (p.val + s) % 4096 = p.val + s := Nat.mod_eq_of_lt h
    rw [dif_pos h, if_pos (show s ≤ (p.val + s) % 4096 by omega)]
    simp only [e]
  · rw [dif_neg h, if_neg (show ¬ s ≤ (p.val + s) % 4096 by omega), hz]

/-- The kernel's gradient with respect to its input block, from the cotangent `g` of the convolution's output. -/
theorem pay24 (x1 : FVec Ideal S4x128 .f32) (g : FVec Ideal S4096x128 .f32) (p : Fin 4096) (q : Fin 128) :
    k0_pay24 (F := Ideal) (k0_pay4 x1) (k0_pay6 x1) k0_pay7 (k0_pay11 x1) (k0_pay14 k0_pay12) (k0_pay18 (iota .tc S4096x1 32 [0] iota_S4096x1_d0_w32)) g
        (mulf g (broadcastTo S4096x128 (k0_pay17 x1 (iota .tc S4x128 32 [0] iota_S4x128_d0_w32)) broadcasts_S1x128_S4096x128)) 0 (ix2 p q)
      = g (ix2 p q) * x1 (ix2 3 q) + untap (fun k => g (ix2 k q) * x1 (ix2 2 q)) 1 p + untap (fun k => g (ix2 k q) * x1 (ix2 1 q)) 2 p + untap (fun k => g (ix2 k q) * x1 (ix2 0 q)) 3 p := by
  have hz0 : ∀ j : S4096x128.Idx, broadcast (α := EReal) S4096x128 0 j = 0 := fun j => rfl
  have hz : ∀ j : S4096x128.Idx, broadcast (α := EReal) S4096x128 (Scalar.ofBits (F := Ideal) .f32 0x00000000#32) j = 0 := fun j => by pointwise
  have w0 : ∀ k : Fin 4096, mulf g (broadcastTo S4096x128 (k0_pay17 x1 (iota .tc S4x128 32 [0] iota_S4x128_d0_w32)) broadcasts_S1x128_S4096x128) (ix2 k q) = g (ix2 k q) * x1 (ix2 0 q) := fun k => by
    pointwise; rw [wk0]
  have w1 : ∀ k : Fin 4096, mulf g (broadcastTo S4096x128 (k0_pay11 x1) broadcasts_S1x128_S4096x128) (ix2 k q) = g (ix2 k q) * x1 (ix2 1 q) := fun k => by
    pointwise [wk1]
  have w2 : ∀ k : Fin 4096, mulf g (broadcastTo S4096x128 (k0_pay6 x1) broadcasts_S1x128_S4096x128) (ix2 k q) = g (ix2 k q) * x1 (ix2 2 q) := fun k => by
    pointwise [wk2]
  have w3 : mulf g (broadcastTo S4096x128 (k0_pay4 x1) broadcasts_S1x128_S4096x128) (ix2 p q) = g (ix2 p q) * x1 (ix2 3 q) := by
    pointwise [wk3]
  have e3 := unroll 3 (by decide) 4093#32 rfl _ mask3 (mulf g (broadcastTo S4096x128 (k0_pay17 x1 (iota .tc S4x128 32 [0] iota_S4x128_d0_w32)) broadcasts_S1x128_S4096x128)) _ hz0 p q
  have e2 := unroll 2 (by decide) 4094#32 rfl _ mask2 (mulf g (broadcastTo S4096x128 (k0_pay11 x1) broadcasts_S1x128_S4096x128)) _ hz p q
  have e1 := unroll 1 (by decide) 4095#32 rfl _ mask1 (mulf g (broadcastTo S4096x128 (k0_pay6 x1) broadcasts_S1x128_S4096x128)) _ hz p q
  simp only [w0] at e3
  simp only [w1] at e2
  simp only [w2] at e1
  refine (congrArg₂ (· + ·) (congrArg₂ (· + ·) (congrArg₂ (· + ·) e3 e2) e1) w3).trans ?_
  ac_rfl

/-- `pay24` where the cotangent's column is known. -/
theorem pay24' (x1 : FVec Ideal S4x128 .f32) (g : FVec Ideal S4096x128 .f32) (f : Fin 4096 → EReal) (q : Fin 128) (hg : ∀ k, g (ix2 k q) = f k) (p : Fin 4096) :
    k0_pay24 (F := Ideal) (k0_pay4 x1) (k0_pay6 x1) k0_pay7 (k0_pay11 x1) (k0_pay14 k0_pay12) (k0_pay18 (iota .tc S4096x1 32 [0] iota_S4096x1_d0_w32)) g
        (mulf g (broadcastTo S4096x128 (k0_pay17 x1 (iota .tc S4x128 32 [0] iota_S4x128_d0_w32)) broadcasts_S1x128_S4096x128)) 0 (ix2 p q)
      = f p * x1 (ix2 3 q) + untap (fun k => f k * x1 (ix2 2 q)) 1 p + untap (fun k => f k * x1 (ix2 1 q)) 2 p + untap (fun k => f k * x1 (ix2 0 q)) 3 p := by
  rw [pay24]
  simp only [hg]

/-- A column read zero rows earlier is the column. -/
theorem tap0 (x : Fin 4096 → EReal) (p : Fin 4096) : tap x 0 p = x p := by simp [tap]

/-- The output block of the input's gradient, at a grid point. -/
theorem point5 (i : grid0.Coords) (x0 : FVec Ideal S4096x128 .f32) (x1 : FVec Ideal S4x128 .f32) (x2 x3 x4 : FVec Ideal S4096x128 .f32) (p : Fin 4096) (q : Fin 128) :
    out0_5 (F := Ideal) i x0 x1 x2 x3 x4 (ix2 p q)
      = dx (fun k => x0 (ix2 k q)) (fun k => x1 (ix2 k q)) (fun k => dsel (BitVec.ofNat 32 (i 0).val) x2 x3 x4 (ix2 k q)) p := by
  unfold_out out0_5
  frame_out
  unfold k0_pay2 k0_pay22
  pointwise
  exact pay24' x1 _ _ q (fun k => pay20 _ x0 x1 x2 x3 x4 k q) p

/-- The output block of the filter's gradient, at a grid point. -/
theorem point6 (i : grid0.Coords) (x0 : FVec Ideal S4096x128 .f32) (x1 : FVec Ideal S4x128 .f32) (x2 x3 x4 : FVec Ideal S4096x128 .f32) (p : Fin 4) (q : Fin 128) :
    out0_6 (F := Ideal) i x0 x1 x2 x3 x4 (ix2 p q)
      = dw (fun k => x0 (ix2 k q)) (fun k => x1 (ix2 k q)) (fun k => dsel (BitVec.ofNat 32 (i 0).val) x2 x3 x4 (ix2 k q)) p := by
  unfold_out out0_6
  frame_out
  unfold k0_pay1 k0_pay3 k0_pay23 k0_pay5 k0_pay10 k0_pay16 k0_pay21 k0_pay25
  pointwise [tap1]
  unfold dw
  fin_cases p <;> simp [Scalar.select, IntOp.cmpi, tap0]
  · exact Finset.sum_congr rfl fun k _ => congrArg₂ (· * ·) (tap3 x0 k q) (pay20 _ x0 x1 x2 x3 x4 k q)
  · exact Finset.sum_congr rfl fun k _ => congrArg₂ (· * ·) (tap2 x0 k q) (pay20 _ x0 x1 x2 x3 x4 k q)
  · exact Finset.sum_congr rfl fun k _ => congrArg₂ (· * ·) rfl (pay20 _ x0 x1 x2 x3 x4 k q)
  · exact Finset.sum_congr rfl fun k _ => congrArg₂ (· * ·) rfl (pay20 _ x0 x1 x2 x3 x4 k q)

/-- Which cotangent a grid point takes, and which block of it. -/
theorem who : ∀ t : Fin cfg0.N,
    (t.val < 8 → Scalar.cmpi .slt (BitVec.ofNat 32 (grid0.coords t 0).val) 8#32 = 1 ∧ win0_2.index t = ![0, t.val])
    ∧ (8 ≤ t.val → Scalar.cmpi .slt (BitVec.ofNat 32 (grid0.coords t 0).val) 8#32 = 0)
    ∧ (8 ≤ t.val ∧ t.val < 16 → Scalar.cmpi .slt (BitVec.ofNat 32 (grid0.coords t 0).val) 16#32 = 1 ∧ win0_3.index t = ![0, t.val - 8])
    ∧ (16 ≤ t.val → Scalar.cmpi .slt (BitVec.ofNat 32 (grid0.coords t 0).val) 16#32 = 0 ∧ win0_4.index t = ![0, t.val - 16]) :=
  (by decide +kernel : ∀ t : Fin grid0.N, _)

/-- The three cotangents side by side, column `j`. -/
def dcat (d2 d3 d4 : FVec Ideal S4096x1024 .f32) (k : Fin 4096) (j : Fin 3072) : EReal :=
  if h1 : j.val < 1024 then d2 (ix2 k ⟨j.val, h1⟩)
  else if h2 : j.val < 2048 then d3 (ix2 k ⟨j.val - 1024, by omega⟩)
  else d4 (ix2 k ⟨j.val - 2048, by omega⟩)

/-- The cotangent block that a grid point takes, as columns of the three cotangents. -/
theorem dcol (t : Fin cfg0.N) (c : Dev nD) (k : Fin 4096) (q : Fin 128) (j : Fin 3072) (h : j.val = 128 * t.val + q.val) :
    dsel (BitVec.ofNat 32 (grid0.coords t 0).val) (iblk m c 2 t) (iblk m c 3 t) (iblk m c 4 t) (ix2 k q) =
     dcat (m ((c : Thread nD τ).loc main_arg2)) (m ((c : Thread nD τ).loc main_arg3)) (m ((c : Thread nD τ).loc main_arg4)) k j := by
  have hq := q.isLt
  obtain ⟨w1, w2, w3, w4⟩ := who t
  rw [dsel_apply]
  unfold dcat
  by_cases h8 : t.val < 8
  · rw [(w1 h8).1, dif_pos (by omega)]
    have e := (w1 h8).2
    show iblk m c 2 t (ix2 k q) = _
    blk_point [iblk, V, e, h]
  · by_cases h16 : t.val < 16
    · rw [w2 (by omega), (w3 (by omega)).1, dif_neg (by omega), dif_pos (by omega)]
      have e := (w3 ⟨by omega, h16⟩).2
      show iblk m c 3 t (ix2 k q) = _
      blk_point [iblk, V, e, h]
    · rw [w2 (by omega), (w4 (by omega)).1, dif_neg (by omega), dif_neg (by omega)]
      have e := (w4 (by omega)).2
      show iblk m c 4 t (ix2 k q) = _
      blk_point [iblk, V, e, h]

/-- The input block at a grid point, as columns of the argument. -/
theorem xcol (t : Fin cfg0.N) (c : Dev nD) (k : Fin 4096) (q : Fin 128) (j : Fin 3072) (h : j.val = 128 * t.val + q.val) :
    iblk m c 0 t (ix2 k q) = m ((c : Thread nD τ).loc main_arg0) (ix2 k (⟨4096 + j.val, by omega⟩ : Fin 8448)) := by
  blk_point [iblk, V, idx t, h]

/-- The filter block at a grid point, as columns of the argument. -/
theorem wcol (t : Fin cfg0.N) (c : Dev nD) (k : Fin 4) (q : Fin 128) (j : Fin 3072) (h : j.val = 128 * t.val + q.val) :
    iblk m c 1 t (ix2 k q) = m ((c : Thread nD τ).loc main_arg1) (ix2 k j) := by
  blk_point [iblk, V, idx t, h]

/-- The gradient with respect to the input, from the argument arrays. -/
def DX (a : FVec Ideal S4096x8448 .f32) (w : FVec Ideal S4x3072 .f32) (d2 d3 d4 : FVec Ideal S4096x1024 .f32) (p : Fin 4096) (j : Fin 3072) : EReal :=
  dx (fun k => a (ix2 k ⟨4096 + j.val, by omega⟩)) (fun k => w (ix2 k j)) (fun k => dcat d2 d3 d4 k j) p

/-- The gradient with respect to the filter, from the argument arrays. -/
def DW (a : FVec Ideal S4096x8448 .f32) (w : FVec Ideal S4x3072 .f32) (d2 d3 d4 : FVec Ideal S4096x1024 .f32) (p : Fin 4) (j : Fin 3072) : EReal :=
  dw (fun k => a (ix2 k ⟨4096 + j.val, by omega⟩)) (fun k => w (ix2 k j)) (fun k => dcat d2 d3 d4 k j) p

/-- After the last grid point the first result holds the input's gradient. -/
theorem final5 (c : Dev nD) : (dats m 0 c).arrAt 5 cfg0.N
    = fun y => DX (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 5 _ (by decide +kernel) fun t _ y => ?_
  blk_simp
  rw [after0_5]
  idx_vars y
  have ht : t.val < 24 := t.isLt
  have e : ((View.whole main_v0_0).slice (win0_5.rect t)).emb (ix2 y0 y1) = ix2 y0 (⟨128 * t.val + y1.val, by omega⟩ : Fin 3072) := by
    blk_ext [idx t]
  rw [point5 (grid0.coords t) (iblk m c 0 t) (iblk m c 1 t) (iblk m c 2 t) (iblk m c 3 t) (iblk m c 4 t), e]
  simp only [DX, dcol m t c _ y1 ⟨128 * t.val + y1.val, by omega⟩ rfl, xcol m t c _ y1 ⟨128 * t.val + y1.val, by omega⟩ rfl, wcol m t c _ y1 ⟨128 * t.val + y1.val, by omega⟩ rfl]
  rfl

/-- After the last grid point the second result holds the filter's gradient. -/
theorem final6 (c : Dev nD) : (dats m 0 c).arrAt 6 cfg0.N
    = fun y => DW (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t _ y => ?_
  blk_simp
  rw [after0_6]
  idx_vars y
  have ht : t.val < 24 := t.isLt
  have e : ((View.whole main_v0_1).slice (win0_6.rect t)).emb (ix2 y0 y1) = ix2 y0 (⟨128 * t.val + y1.val, by omega⟩ : Fin 3072) := by
    blk_ext [idx t]
  rw [point6 (grid0.coords t) (iblk m c 0 t) (iblk m c 1 t) (iblk m c 2 t) (iblk m c 3 t) (iblk m c 4 t), e]
  simp only [DW, dcol m t c _ y1 ⟨128 * t.val + y1.val, by omega⟩ rfl, xcol m t c _ y1 ⟨128 * t.val + y1.val, by omega⟩ rfl, wcol m t c _ y1 ⟨128 * t.val + y1.val, by omega⟩ rfl]
  rfl

end Cert.ConvIdeal.Val

end
-- ==== Proof.ConvRefVal.lean ====
module

public import proofs.«01_k».proof.Proof.ConvVal
public import proofs.«01_k».proof.Proof.Gen.ConvRefIdeal.Run

@[expose] public section

set_option maxRecDepth 16384

noncomputable section

namespace Cert.ConvRefIdeal.Val

open Cert.ConvRefIdeal Cert.ConvRefIdeal.Gen Idealize.ShloMosaic Idealize.ShloMosaic.TcCoe Idealize.SL.Sem
open Cert.ConvIdeal.Val (tap untap acc sg dacc dx dw dcat DX DW)

/-- The input's columns with three zero rows put in front, from row `i` on. -/
def shifted (a : FVec Ideal S4096x8448 .f32) (i : ℕ) (h : S4099x3072.Slices ![i, 0] S4096x3072) : FVec Ideal S4096x3072 .f32 :=
  extractStridedSlice S4096x3072 ![i, 0] (concatenate S4099x3072 0 [⟨S3x3072, (broadcastInDim S3x3072 ![] bcast_S_S3x3072 (constant S_ .f32 0x00000000#32))⟩, ⟨S4096x3072, (extractStridedSlice S4096x3072 ![0, 4096] a slices_S4096x8448_S4096x3072_0_4096)⟩] concatenates_S3x3072_S4096x3072_S4099x3072_d0) h

/-- Row `i` of the filter at every row of the input. -/
def filt (w : FVec Ideal S4x3072 .f32) (i : ℕ) (h : S4x3072.Slices ![i, 0] S1x3072) : FVec Ideal S4096x3072 .f32 :=
  broadcastInDim S4096x3072 ![0, 1] bcast_S1x3072_S4096x3072_0_1 (broadcastInDim S1x3072 ![1] bcast_S3072_S1x3072_1 (shapeCast _ (extractStridedSlice S1x3072 ![i, 0] w h) shapeCasts_S1x3072_S3072))

/-- The convolution as the reference adds it. -/
def accR (a : FVec Ideal S4096x8448 .f32) (w : FVec Ideal S4x3072 .f32) : FVec Ideal S4096x3072 .f32 :=
  addf (addf (addf (addf (broadcastInDim S4096x3072 ![] bcast_S_S4096x3072 (constant S_ .f32 0x00000000#32))
    (mulf (shifted a 0 slices_S4099x3072_S4096x3072_0_0) (filt w 0 slices_S4x3072_S1x3072_0_0)))
    (mulf (shifted a 1 slices_S4099x3072_S4096x3072_1_0) (filt w 1 slices_S4x3072_S1x3072_1_0)))
    (mulf (shifted a 2 slices_S4099x3072_S4096x3072_2_0) (filt w 2 slices_S4x3072_S1x3072_2_0)))
    (mulf (shifted a 3 slices_S4099x3072_S4096x3072_3_0) (filt w 3 slices_S4x3072_S1x3072_3_0))

/-- The number one everywhere. -/
def ones : FVec Ideal S4096x3072 .f32 := broadcastInDim S4096x3072 ![] bcast_S_S4096x3072 (constant S_ .f32 0x3F800000#32)

/-- The logistic function of the convolution. -/
def sgR (a : FVec Ideal S4096x8448 .f32) (w : FVec Ideal S4x3072 .f32) : FVec Ideal S4096x3072 .f32 :=
  Host.divf ones (addf ones (Host.exp (Host.negf (accR a w))))

/-- The three cotangents side by side. -/
def catR (d2 d3 d4 : FVec Ideal S4096x1024 .f32) : FVec Ideal S4096x3072 .f32 :=
  concatenate S4096x3072 1 [⟨S4096x1024, d2⟩, ⟨S4096x1024, d3⟩, ⟨S4096x1024, d4⟩] concatenates_S4096x1024_S4096x1024_S4096x1024_S4096x3072_d1

/-- The cotangent at the convolution's output. -/
def daccR (a : FVec Ideal S4096x8448 .f32) (w : FVec Ideal S4x3072 .f32) (d2 d3 d4 : FVec Ideal S4096x1024 .f32) : FVec Ideal S4096x3072 .f32 :=
  addf (mulf (catR d2 d3 d4) (sgR a w)) (mulf (mulf (accR a w) (catR d2 d3 d4)) (mulf (sgR a w) (subf ones (sgR a w))))

/-- An index into the padded column, as the column read some rows earlier. -/
theorem tap_eq (x : Fin 4096 → EReal) (p : Fin 4096) (s A : ℕ) (hA : A + s = p.val + 3) (hp : ¬ A < 3 → A - 3 < 4096) :
    (if h : A < 3 then 0 else x ⟨A - 3, hp h⟩) = tap x s p := by
  unfold tap
  by_cases h : A < 3
  · rw [dif_pos h, dif_neg (by omega)]
  · rw [dif_neg h, dif_pos (by omega)]; congr 2; omega

/-- The reference's convolution at one index. -/
theorem accR_apply (a : FVec Ideal S4096x8448 .f32) (w : FVec Ideal S4x3072 .f32) (p : Fin 4096) (j : Fin 3072) :
    accR a w (ix2 p j) = acc (fun k => a (ix2 k ⟨4096 + j.val, by omega⟩)) (fun k => w (ix2 k j)) p := by
  unfold accR shifted filt acc
  clean_types
  pointwise
  have hp := p.isLt
  refine (congrArg₂ (· + ·) (congrArg₂ (· + ·) (congrArg₂ (· + ·)
    (congrArg (· * w (ix2 0 j)) (tap_eq (fun k => a (ix2 k ⟨4096 + j.val, by omega⟩)) p 3 _ (by omega) _))
    (congrArg (· * w (ix2 1 j)) (tap_eq (fun k => a (ix2 k ⟨4096 + j.val, by omega⟩)) p 2 _ (by omega) _)))
    (congrArg (· * w (ix2 2 j)) (tap_eq (fun k => a (ix2 k ⟨4096 + j.val, by omega⟩)) p 1 _ (by omega) _))) rfl).trans ?_
  ac_rfl

/-- The cotangents side by side at one index. -/
theorem catR_apply (d2 d3 d4 : FVec Ideal S4096x1024 .f32) (p : Fin 4096) (j : Fin 3072) : catR d2 d3 d4 (ix2 p j) = dcat d2 d3 d4 p j := by
  unfold catR dcat
  clean_types
  pointwise
  split
  · rfl
  · by_cases h : j.val < 2048
    · rw [dif_pos (show j.val - 1024 < 1024 by omega), dif_pos h]
    · rw [dif_neg (show ¬ j.val - 1024 < 1024 by omega), dif_neg h]
      congr 2

/-- The reference's cotangent of the convolution at one index. -/
theorem daccR_apply (a : FVec Ideal S4096x8448 .f32) (w : FVec Ideal S4x3072 .f32) (d2 d3 d4 : FVec Ideal S4096x1024 .f32) (p : Fin 4096) (j : Fin 3072) :
    daccR a w d2 d3 d4 (ix2 p j) = dacc (fun k => a (ix2 k ⟨4096 + j.val, by omega⟩)) (fun k => w (ix2 k j)) (fun k => dcat d2 d3 d4 k j) p := by
  unfold daccR dacc sgR ones sg Ideal.logistic
  pointwise [accR_apply, catR_apply]

variable (m : (ℓ : Loc nD τ sig) → Buf (Elt Ideal) ℓ)

/-- The input's gradient as the reference adds it: four shifted products. -/
def DXR (w : FVec Ideal S4x3072 .f32) (g : FVec Ideal S4096x3072 .f32) : FVec Ideal S4096x3072 .bf16 :=
  truncf .bf16 (extractStridedSlice S4096x3072 ![3, 0] (addf (addf (addf
    (pad S4099x3072 ![3, 0] ![0, 0] ![0, 0] (mulf g (filt w 3 slices_S4x3072_S1x3072_3_0)) (constant S_ .f32 0x00000000#32) pads_S4096x3072_S4099x3072_300_000 h_S_)
    (pad S4099x3072 ![2, 0] ![1, 0] ![0, 0] (mulf g (filt w 2 slices_S4x3072_S1x3072_2_0)) (constant S_ .f32 0x00000000#32) pads_S4096x3072_S4099x3072_210_000 h_S_))
    (pad S4099x3072 ![1, 0] ![2, 0] ![0, 0] (mulf g (filt w 1 slices_S4x3072_S1x3072_1_0)) (constant S_ .f32 0x00000000#32) pads_S4096x3072_S4099x3072_120_000 h_S_))
    (pad S4099x3072 ![0, 0] ![3, 0] ![0, 0] (mulf g (filt w 0 slices_S4x3072_S1x3072_0_0)) (constant S_ .f32 0x00000000#32) pads_S4096x3072_S4099x3072_030_000 h_S_)) slices_S4099x3072_S4096x3072_3_0) bitsLt_bf16_f32

set_option maxHeartbeats 2000000 in
/-- The reference's first result, folded. -/
theorem v80 (c : Dev nD) : Value.res_main_v80 m c = DXR (m ((c.tc : Thread nD τ).loc main_arg1)) (daccR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Value.res_main_v80 DXR daccR sgR accR catR shifted filt ones
  rfl

/-- The reference's gradient of the input at one index. -/
theorem DXR_apply (w : FVec Ideal S4x3072 .f32) (g : FVec Ideal S4096x3072 .f32) (p : Fin 4096) (j : Fin 3072) :
    DXR w g (ix2 p j) = g (ix2 p j) * w (ix2 3 j) + untap (fun k => g (ix2 k j) * w (ix2 2 j)) 1 p + untap (fun k => g (ix2 k j) * w (ix2 1 j)) 2 p + untap (fun k => g (ix2 k j) * w (ix2 0 j)) 3 p := by
  unfold DXR filt untap
  clean_types
  pointwise
  have hp := p.isLt
  congr 1
  · congr 1
    · congr 1
      by_cases h : p.val + 1 < 4096
      · rw [dif_pos (by omega), dif_pos h]; congr 3; ext; dsimp; omega
      · rw [dif_neg (by omega), dif_neg h]
    · by_cases h : p.val + 2 < 4096
      · rw [dif_pos (by omega), dif_pos h]; congr 3; ext; dsimp; omega
      · rw [dif_neg (by omega), dif_neg h]
  · by_cases h : p.val + 3 < 4096
    · rw [dif_pos (by omega), dif_pos h]; congr 3; ext; dsimp; omega
    · rw [dif_neg (by omega), dif_neg h]

/-- The reference's first result, as the gradient with respect to the input. -/
theorem out0 (c : Dev nD) (y) : Value.res_main_v80 m c y
    = DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) := by
  rw [v80]
  idx_vars y
  refine (DXR_apply _ _ _ _).trans ?_
  simp only [daccR_apply]
  rfl

/-- The sum over the rows as the reference places it in one row of the filter's gradient. -/
def rowR (y : FVec Ideal S4096x3072 .f32) : FVec Ideal S1x3072 .f32 :=
  broadcastInDim S1x3072 ![1] bcast_S3072_S1x3072_1 (Host.reduceAdd (shapeCast S1x3072 (Host.reduceAdd y (constant S_ .f32 0x00000000#32) reducesTo_S4096x3072_S3072_d0 h_S_) shapeCasts_S3072_S1x3072) (constant S_ .f32 0x00000000#32) reducesTo_S1x3072_S3072_d0 h_S_)

/-- The filter's gradient as the reference adds it. -/
def DWR (a : FVec Ideal S4096x8448 .f32) (g : FVec Ideal S4096x3072 .f32) : FVec Ideal S4x3072 .f32 :=
  addf (addf (addf
    (pad S4x3072 ![3, 0] ![0, 0] ![0, 0] (rowR (mulf (shifted a 3 slices_S4099x3072_S4096x3072_3_0) g)) (constant S_ .f32 0x00000000#32) pads_S1x3072_S4x3072_300_000 h_S_)
    (pad S4x3072 ![2, 0] ![1, 0] ![0, 0] (rowR (mulf (shifted a 2 slices_S4099x3072_S4096x3072_2_0) g)) (constant S_ .f32 0x00000000#32) pads_S1x3072_S4x3072_210_000 h_S_))
    (pad S4x3072 ![1, 0] ![2, 0] ![0, 0] (rowR (mulf (shifted a 1 slices_S4099x3072_S4096x3072_1_0) g)) (constant S_ .f32 0x00000000#32) pads_S1x3072_S4x3072_120_000 h_S_))
    (pad S4x3072 ![0, 0] ![3, 0] ![0, 0] (rowR (mulf (shifted a 0 slices_S4099x3072_S4096x3072_0_0) g)) (constant S_ .f32 0x00000000#32) pads_S1x3072_S4x3072_030_000 h_S_)

set_option maxHeartbeats 2000000 in
/-- The reference's second result, folded. -/
theorem v75 (c : Dev nD) : Value.res_main_v75 m c = DWR (m ((c.tc : Thread nD τ).loc main_arg0)) (daccR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold Value.res_main_v75 DWR rowR daccR sgR accR catR shifted filt ones
  rfl

/-- The padded input from a row on, at one index. -/
theorem sh_apply (a : FVec Ideal S4096x8448 .f32) (i : ℕ) (hi : i ≤ 3) (h) (p : Fin 4096) (j : Fin 3072) :
    shifted a i h (ix2 p j) = tap (fun k => a (ix2 k ⟨4096 + j.val, by omega⟩)) (3 - i) p := by
  have hp := p.isLt
  unfold shifted
  interval_cases i
  · clean_types
    pointwise
    exact tap_eq (fun k => a (ix2 k ⟨4096 + j.val, by omega⟩)) p 3 _ (by omega) _
  · clean_types
    pointwise
    exact tap_eq (fun k => a (ix2 k ⟨4096 + j.val, by omega⟩)) p 2 _ (by omega) _
  · clean_types
    pointwise
    exact tap_eq (fun k => a (ix2 k ⟨4096 + j.val, by omega⟩)) p 1 _ (by omega) _
  · clean_types
    pointwise
    simp [tap]

/-- One row of the filter's gradient is a sum over the rows. -/
theorem rowR_apply (y : FVec Ideal S4096x3072 .f32) (i : Fin 1) (j : Fin 3072) : rowR y (ix2 i j) = ∑ p, y (ix2 p j) := by
  unfold rowR
  pointwise
  simp

/-- The reference's gradient of the filter at one index. -/
theorem DWR_apply (a : FVec Ideal S4096x8448 .f32) (g : FVec Ideal S4096x3072 .f32) (r : Fin 4) (j : Fin 3072) :
    DWR a g (ix2 r j) = ∑ p, tap (fun k => a (ix2 k ⟨4096 + j.val, by omega⟩)) (3 - r.val) p * g (ix2 p j) := by
  unfold DWR
  pointwise [rowR_apply]
  simp only [sh_apply a 0 (by decide), sh_apply a 1 (by decide), sh_apply a 2 (by decide), sh_apply a 3 (by decide)]
  fin_cases r <;> simp

/-- The reference's second result, as the gradient with respect to the filter. -/
theorem out1 (c : Dev nD) (y) : Value.res_main_v75 m c y
    = DW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) := by
  rw [v75]
  idx_vars y
  refine (DWR_apply _ _ _ _).trans ?_
  simp only [daccR_apply]
  rfl

end Cert.ConvRefIdeal.Val

end
-- ==== Proof.S5Math.lean ====
module

public import Idealize.ShloMosaic.Lib.Pipeline.ValueKit
public import Idealize.ShloMosaic.Lib.Pointwise
public import Idealize.ShloMosaic.Lib.Tactic.CleanTypes
public import Idealize.ShloMosaic.Lib.Claim

@[expose] public section

noncomputable section

namespace Cert.S5Math

/-- The carry of the adjoint recurrence after `k` rows, counted from the last row: the conjugate of `a + ib` times the row before. -/
def carry (a b : EReal) (dr di : ℕ → EReal) : ℕ → EReal × EReal
  | 0 => (0, 0)
  | k + 1 => (b * ((carry a b dr di k).2 + di k) + a * ((carry a b dr di k).1 + dr k),
      a * ((carry a b dr di k).2 + di k) + b * -((carry a b dr di k).1 + dr k))

/-- The real part of the adjoint state at row `k` from the last. -/
def gre (a b : EReal) (dr di : ℕ → EReal) (k : ℕ) : EReal := (carry a b dr di k).1 + dr k

/-- The imaginary part of the adjoint state at row `k` from the last. -/
def gim (a b : EReal) (dr di : ℕ → EReal) (k : ℕ) : EReal := (carry a b dr di k).2 + di k

/-- The adjoint state at row `k` from the last, over the real numbers. -/
def st (a b : ℝ) (dr di : ℕ → ℝ) : ℕ → ℝ × ℝ
  | 0 => (dr 0, di 0)
  | k + 1 => (a * (st a b dr di k).1 + b * (st a b dr di k).2 + dr (k + 1), a * (st a b dr di k).2 - b * (st a b dr di k).1 + di (k + 1))

/-- At real numbers the recurrence is the real one. -/
theorem g_real (a b : ℝ) (dr di : ℕ → ℝ) (k : ℕ) :
    gre (a : EReal) b (fun k => (dr k : EReal)) (fun k => (di k : EReal)) k = ((st a b dr di k).1 : EReal)
    ∧ gim (a : EReal) b (fun k => (dr k : EReal)) (fun k => (di k : EReal)) k = ((st a b dr di k).2 : EReal) := by
  induction k with
  | zero => simp [gre, gim, carry, st]
  | succ k ih =>
    obtain ⟨h1, h2⟩ := ih
    simp only [gre, gim] at h1 h2 ⊢
    rw [carry, h1, h2, st]
    constructor <;> simp only [← EReal.coe_neg, ← EReal.coe_mul, ← EReal.coe_add, EReal.coe_eq_coe_iff] <;> ring

end Cert.S5Math

end
-- ==== Proof.S5Tile.lean ====
module

public import proofs.«01_k».proof.Proof.Gen.S5Ideal.Loops
public import proofs.«01_k».proof.Proof.S5Math
public import Idealize.ShloMosaic.Lib.Pipeline.ValueKit
public import Idealize.ShloMosaic.Lib.Pointwise

@[expose] public section

set_option maxRecDepth 16384

noncomputable section

namespace Cert.S5Ideal.Tile

open Cert.S5Math
open Cert.S5Ideal Cert.S5Ideal.Gen Idealize.ShloMosaic Idealize.ShloMosaic.TcCoe Idealize.SL.Sem

/-- Eight rows of the state. -/
abbrev Til := FVec Ideal S8x512 .f32

/-- One row of the state. -/
abbrev Row := FVec Ideal S1x512 .f32

/-- Ones on the rows before row `b`. -/
def msk (b : BitVec 32) : IVec S8x512 1 :=
  broadcastTo S8x512 (shapeCast S8x1 (cmpi .slt (iota .tc S8x1 32 [0] iota_S8x1_d0_w32) (broadcast S8x1 b)) shapeCasts_S8x1_S8x1) broadcasts_S8x1_S8x512

/-- The rows moved up by `8 - b`, zeros moving in. -/
def sel (b : BitVec 32) (x : Til) : Til :=
  select (msk b) (dynamicRotate 0 b none x rotates_S8x512_d0) (broadcast S8x512 (Scalar.ofBits .f32 0x00000000#32))

/-- A row repeated on eight rows. -/
def bc (a : Row) : Til := broadcastTo S8x512 a broadcasts_S1x512_S8x512

/-- One level of the scan over eight rows, real part. -/
def upR (b : BitVec 32) (a a' : Row) (x y : Til) : Til := subf (addf x (mulf (bc a) (sel b x))) (mulf (bc a') (sel b y))

/-- One level of the scan over eight rows, imaginary part. -/
def upI (b : BitVec 32) (a a' : Row) (x y : Til) : Til := addf (addf y (mulf (bc a) (sel b y))) (mulf (bc a') (sel b x))

/-- Row 7 of the powers. -/
def row7 (q : Til) : Row := extractStridedSlice S1x512 ![7, 0] q slices_S8x512_o7_0_S1x512

/-- Row 6 of the powers. -/
def row6 (q : Til) : Row := extractStridedSlice S1x512 ![6, 0] q slices_S8x512_o6_0_S1x512

/-- Row 4 of the powers. -/
def row4 (q : Til) : Row := extractStridedSlice S1x512 ![4, 0] q slices_S8x512_o4_0_S1x512

/-- Row 0 of a tile. -/
def row0 (q : Til) : Row := extractStridedSlice S1x512 ![0, 0] q slices_S8x512_o0_0_S1x512

/-- The scan of eight rows by three levels, real part. -/
def scanR (q q' x y : Til) : Til :=
  upR 4#32 (row4 q) (row4 q') (upR 6#32 (row6 q) (row6 q') (upR 7#32 (row7 q) (row7 q') x y) (upI 7#32 (row7 q) (row7 q') x y))
    (upI 6#32 (row6 q) (row6 q') (upR 7#32 (row7 q) (row7 q') x y) (upI 7#32 (row7 q) (row7 q') x y))

/-- The scan of eight rows by three levels, imaginary part. -/
def scanI (q q' x y : Til) : Til :=
  upI 4#32 (row4 q) (row4 q') (upR 6#32 (row6 q) (row6 q') (upR 7#32 (row7 q) (row7 q') x y) (upI 7#32 (row7 q) (row7 q') x y))
    (upI 6#32 (row6 q) (row6 q') (upR 7#32 (row7 q) (row7 q') x y) (upI 7#32 (row7 q) (row7 q') x y))

/-- A tile of the adjoint state from its inputs and the row carried in, real part. -/
def tileR (q q' : Til) (cr ci : Row) (x y : Til) : Til := subf (addf (scanR q q' x y) (mulf q (bc cr))) (mulf q' (bc ci))

/-- A tile of the adjoint state from its inputs and the row carried in, imaginary part. -/
def tileI (q q' : Til) (cr ci : Row) (x y : Til) : Til := addf (addf (scanI q q' x y) (mulf q (bc ci))) (mulf q' (bc cr))

/-- A sequence moved down by `h`, within eight rows. -/
def mv (h : ℕ) (X : ℕ → ℝ) (s : ℕ) : ℝ := if s + h < 8 then X (s + h) else 0

/-- One level over the real numbers, real part. -/
def uR (h : ℕ) (α β : ℝ) (X Y : ℕ → ℝ) (s : ℕ) : ℝ := X s + α * mv h X s - β * mv h Y s

/-- One level over the real numbers, imaginary part. -/
def uI (h : ℕ) (α β : ℝ) (X Y : ℕ → ℝ) (s : ℕ) : ℝ := Y s + α * mv h Y s + β * mv h X s

/-- The column `n` of the tile `x` holds the real numbers `X`. -/
def Is (x : Til) (n : Fin 512) (X : ℕ → ℝ) : Prop := ∀ s : Fin 8, x (ix2 s n) = ((X s.val : ℝ) : EReal)

/-- The mask's comparison of small numbers. -/
theorem slt_iff : ∀ (b : Fin 9) (s : Fin 8), (IntOp.cmpi .slt (BitVec.ofNat 32 s.val) (BitVec.ofNat 32 b.val) = 1#1) = (s.val < b.val) := by decide

/-- The moved rows at real numbers. -/
theorem sel_is (b : ℕ) (h : ℕ) (hb : b + h = 8) (h0 : 0 < h) (x : Til) (n : Fin 512) (X : ℕ → ℝ) (hx : Is x n X) : Is (sel (BitVec.ofNat 32 b) x) n (mv h X) := by
  intro s
  have hm := slt_iff ⟨b, by omega⟩ s
  have hn : (BitVec.ofNat 32 b).toNat = b := by rw [BitVec.toNat_ofNat]; omega
  unfold sel msk
  pointwise []
  unfold mv
  by_cases hs : s.val < b
  · refine (if_pos (cast hm.symm hs)).trans ?_
    rw [if_pos (by omega : s.val + h < 8)]
    refine (hx _).trans ?_
    congr 2
    show (s.val + 8 - (BitVec.ofNat 32 b).toNat % 8) % 8 = _
    rw [hn]
    omega
  · refine (if_neg fun h => hs (cast hm h)).trans ?_
    rw [if_neg (by omega : ¬ s.val + h < 8)]; rfl

/-- The rows of a repeated row. -/
theorem bc_is (a : Row) (n : Fin 512) (α : ℝ) (ha : a (ix2 (0 : Fin 1) n) = (α : EReal)) : Is (bc a) n (fun _ => α) := by
  intro s
  unfold bc
  pointwise []
  exact ha

/-- One level at real numbers, real part. -/
theorem upR_is (b h : ℕ) (hb : b + h = 8) (h0 : 0 < h) (a a' : Row) (x y : Til) (n : Fin 512) (α β : ℝ) (X Y : ℕ → ℝ)
    (ha : a (ix2 (0 : Fin 1) n) = (α : EReal)) (ha' : a' (ix2 (0 : Fin 1) n) = (β : EReal)) (hx : Is x n X) (hy : Is y n Y) :
    Is (upR (BitVec.ofNat 32 b) a a' x y) n (uR h α β X Y) := by
  intro s
  show (x (ix2 s n) + bc a (ix2 s n) * sel (BitVec.ofNat 32 b) x (ix2 s n) - bc a' (ix2 s n) * sel (BitVec.ofNat 32 b) y (ix2 s n) : EReal) = _
  rw [hx s, bc_is a n α ha s, bc_is a' n β ha' s, sel_is b h hb h0 x n X hx s, sel_is b h hb h0 y n Y hy s]
  simp only [← EReal.coe_mul, ← EReal.coe_add, ← EReal.coe_sub]
  rfl

/-- One level at real numbers, imaginary part. -/
theorem upI_is (b h : ℕ) (hb : b + h = 8) (h0 : 0 < h) (a a' : Row) (x y : Til) (n : Fin 512) (α β : ℝ) (X Y : ℕ → ℝ)
    (ha : a (ix2 (0 : Fin 1) n) = (α : EReal)) (ha' : a' (ix2 (0 : Fin 1) n) = (β : EReal)) (hx : Is x n X) (hy : Is y n Y) :
    Is (upI (BitVec.ofNat 32 b) a a' x y) n (uI h α β X Y) := by
  intro s
  show (y (ix2 s n) + bc a (ix2 s n) * sel (BitVec.ofNat 32 b) y (ix2 s n) + bc a' (ix2 s n) * sel (BitVec.ofNat 32 b) x (ix2 s n) : EReal) = _
  rw [hy s, bc_is a n α ha s, bc_is a' n β ha' s, sel_is b h hb h0 x n X hx s, sel_is b h hb h0 y n Y hy s]
  simp only [← EReal.coe_mul, ← EReal.coe_add, ← EReal.coe_sub]
  rfl

/-- Rows 7, 6, 4 and 0 of a tile. -/
theorem rows_is (q : Til) (n : Fin 512) (Q : ℕ → ℝ) (hq : Is q n Q) :
    row7 q (ix2 (0 : Fin 1) n) = ((Q 7 : ℝ) : EReal) ∧ row6 q (ix2 (0 : Fin 1) n) = ((Q 6 : ℝ) : EReal)
    ∧ row4 q (ix2 (0 : Fin 1) n) = ((Q 4 : ℝ) : EReal) ∧ row0 q (ix2 (0 : Fin 1) n) = ((Q 0 : ℝ) : EReal) := by
  refine ⟨?_, ?_, ?_, ?_⟩
  · unfold row7; pointwise []; exact hq 7
  · unfold row6; pointwise []; exact hq 6
  · unfold row4; pointwise []; exact hq 4
  · unfold row0; pointwise []; exact hq 0

/-- The adjoint state over the real numbers, after `k` rows from the last. -/
def W (a b : ℝ) (dr di : ℕ → ℝ) : ℕ → ℝ × ℝ
  | 0 => (0, 0)
  | k + 1 => (a * (W a b dr di k).1 + b * (W a b dr di k).2 + dr k, a * (W a b dr di k).2 - b * (W a b dr di k).1 + di k)

/-- It is the recurrence of the plain definition. -/
theorem W_succ (a b : ℝ) (dr di : ℕ → ℝ) (k : ℕ) : W a b dr di (k + 1) = st a b dr di k := by
  induction k with
  | zero => simp [W, st]
  | succ k ih => rw [W, ih, st]

/-- The powers of `a + ib`, from the first. -/
def pw (a b : ℝ) : ℕ → ℝ × ℝ
  | 0 => (a, b)
  | k + 1 => ((pw a b k).1 * a - (pw a b k).2 * b, (pw a b k).1 * b + (pw a b k).2 * a)

/-- The tile over the real numbers: the scan's two results. -/
def lv (Q Q' X Y : ℕ → ℝ) : (ℕ → ℝ) × (ℕ → ℝ) :=
  (uR 4 (Q 4) (Q' 4) (uR 2 (Q 6) (Q' 6) (uR 1 (Q 7) (Q' 7) X Y) (uI 1 (Q 7) (Q' 7) X Y)) (uI 2 (Q 6) (Q' 6) (uR 1 (Q 7) (Q' 7) X Y) (uI 1 (Q 7) (Q' 7) X Y)),
   uI 4 (Q 4) (Q' 4) (uR 2 (Q 6) (Q' 6) (uR 1 (Q 7) (Q' 7) X Y) (uI 1 (Q 7) (Q' 7) X Y)) (uI 2 (Q 6) (Q' 6) (uR 1 (Q 7) (Q' 7) X Y) (uI 1 (Q 7) (Q' 7) X Y)))

/-- The tile at real numbers. -/
theorem tile_is (q q' x y : Til) (cr ci : Row) (n : Fin 512) (Q Q' X Y : ℕ → ℝ) (α β : ℝ)
    (hq : Is q n Q) (hq' : Is q' n Q') (hx : Is x n X) (hy : Is y n Y)
    (hr : cr (ix2 (0 : Fin 1) n) = (α : EReal)) (hi : ci (ix2 (0 : Fin 1) n) = (β : EReal)) :
    Is (tileR q q' cr ci x y) n (fun s => (lv Q Q' X Y).1 s + Q s * α - Q' s * β)
    ∧ Is (tileI q q' cr ci x y) n (fun s => (lv Q Q' X Y).2 s + Q s * β + Q' s * α) := by
  obtain ⟨h7, h6, h4, -⟩ := rows_is q n Q hq
  obtain ⟨k7, k6, k4, -⟩ := rows_is q' n Q' hq'
  have x1 := upR_is 7 1 rfl (by decide) _ _ x y n _ _ X Y h7 k7 hx hy
  have y1 := upI_is 7 1 rfl (by decide) _ _ x y n _ _ X Y h7 k7 hx hy
  have x2 := upR_is 6 2 rfl (by decide) _ _ _ _ n _ _ _ _ h6 k6 x1 y1
  have y2 := upI_is 6 2 rfl (by decide) _ _ _ _ n _ _ _ _ h6 k6 x1 y1
  have x3 := upR_is 4 4 rfl (by decide) _ _ _ _ n _ _ _ _ h4 k4 x2 y2
  have y3 := upI_is 4 4 rfl (by decide) _ _ _ _ n _ _ _ _ h4 k4 x2 y2
  constructor
  · intro s
    show (scanR q q' x y (ix2 s n) + q (ix2 s n) * bc cr (ix2 s n) - q' (ix2 s n) * bc ci (ix2 s n) : EReal) = _
    rw [show scanR q q' x y (ix2 s n) = _ from x3 s, hq s, hq' s, bc_is cr n α hr s, bc_is ci n β hi s]
    simp only [← EReal.coe_mul, ← EReal.coe_add, ← EReal.coe_sub]
    rfl
  · intro s
    show (scanI q q' x y (ix2 s n) + q (ix2 s n) * bc ci (ix2 s n) + q' (ix2 s n) * bc cr (ix2 s n) : EReal) = _
    rw [show scanI q q' x y (ix2 s n) = _ from y3 s, hq s, hq' s, bc_is cr n α hr s, bc_is ci n β hi s]
    simp only [← EReal.coe_mul, ← EReal.coe_add, ← EReal.coe_sub]
    rfl

set_option maxHeartbeats 1600000 in
/-- Over the real numbers the tile is eight steps of the recurrence. -/
theorem lv_eq (a b : ℝ) (dr di : ℕ → ℝ) (p : ℕ) (Q Q' X Y : ℕ → ℝ) (hQ : ∀ s < 8, Q s = (pw a b (7 - s)).1) (hQ' : ∀ s < 8, Q' s = -(pw a b (7 - s)).2)
    (hX : ∀ s < 8, X s = dr (p + (7 - s))) (hY : ∀ s < 8, Y s = di (p + (7 - s))) (s : ℕ) (hs : s < 8) :
    (lv Q Q' X Y).1 s + Q s * (W a b dr di p).1 - Q' s * (W a b dr di p).2 = (W a b dr di (p + (8 - s))).1
    ∧ (lv Q Q' X Y).2 s + Q s * (W a b dr di p).2 + Q' s * (W a b dr di p).1 = (W a b dr di (p + (8 - s))).2 := by
  have w : ∀ k, W a b dr di (p + (k + 1)) = (a * (W a b dr di (p + k)).1 + b * (W a b dr di (p + k)).2 + dr (p + k), a * (W a b dr di (p + k)).2 - b * (W a b dr di (p + k)).1 + di (p + k)) := fun k => rfl
  have e0 : Q 0 = _ := hQ 0 (by decide)
  have e1 : Q 1 = _ := hQ 1 (by decide)
  have e2 : Q 2 = _ := hQ 2 (by decide)
  have e3 : Q 3 = _ := hQ 3 (by decide)
  have e4 : Q 4 = _ := hQ 4 (by decide)
  have e5 : Q 5 = _ := hQ 5 (by decide)
  have e6 : Q 6 = _ := hQ 6 (by decide)
  have e7 : Q 7 = _ := hQ 7 (by decide)
  have f0 : Q' 0 = _ := hQ' 0 (by decide)
  have f1 : Q' 1 = _ := hQ' 1 (by decide)
  have f2 : Q' 2 = _ := hQ' 2 (by decide)
  have f3 : Q' 3 = _ := hQ' 3 (by decide)
  have f4 : Q' 4 = _ := hQ' 4 (by decide)
  have f5 : Q' 5 = _ := hQ' 5 (by decide)
  have f6 : Q' 6 = _ := hQ' 6 (by decide)
  have f7 : Q' 7 = _ := hQ' 7 (by decide)
  interval_cases s <;>
    (simp only [lv, uR, uI, mv, Nat.reduceAdd, Nat.reduceLT, Nat.reduceSub, if_true, if_false, e0, e1, e2, e3, e4, e5, e6, e7, f0, f1, f2, f3, f4, f5, f6, f7,
      hX, hY, Nat.reduceLeDiff, w 0, w 1, w 2, w 3, w 4, w 5, w 6, w 7, pw]
     constructor <;> ring_nf)

end Cert.S5Ideal.Tile

end
-- ==== Proof.S5Loop.lean ====
module

public import proofs.«01_k».proof.Proof.S5Tile
public import Idealize.ShloMosaic.Lib.WritesUnit
public import Idealize.ShloMosaic.Lib.Pipeline.FrameBody

@[expose] public section

set_option maxRecDepth 16384

noncomputable section

namespace Cert.S5Ideal.Tile

open Cert.S5Math
open Cert.S5Ideal Cert.S5Ideal.Gen Idealize.ShloMosaic Idealize.ShloMosaic.TcCoe Idealize.SL.Sem

/-! ## The eight-row tiles of the block, from the last -/

/-- Column `n` of a 512-row buffer after `q` tiles of the scan, from the last: the adjoint state `w` below, the inputs `d` above. -/
def Inv (v : View sig .tc .vmem S512x512 .f32) (n : Fin 512) (p : ℕ) (w d : ℕ → ℝ) (q : ℕ) (f : v.ty.Contents (Elt Ideal)) : Prop :=
  ∀ r : Fin 512, v.read (Elt Ideal) f (ix2 r n) = if 512 - 8 * q ≤ r.val then ((w (p + (512 - r.val)) : ℝ) : EReal) else ((d (p + (511 - r.val)) : ℝ) : EReal)

/-- The first row of tile `k`, `j` of the loop. -/
theorem off2_eq : ∀ (k : Fin k0_t1_loop.trips) (j : Fin 3), k0_off2 k (BitVec.ofNat 32 j.val) = ![8 * (63 - (3 * k.val + j.val)), 0] := by decide +kernel

/-- A tile read off the buffer holds the inputs, where the scan has not come. -/
theorem Inv.load {v : View sig .tc .vmem S512x512 .f32} {n : Fin 512} {p : ℕ} {w d : ℕ → ℝ} {q : ℕ} {f : v.ty.Contents (Elt Ideal)} (h : Inv v n p w d q f)
    (u : ℕ) (hu : q ≤ u) (hu' : u < 64) (off : Fin 2 → ℕ) (ho : off = ![8 * (63 - u), 0]) (inb : ∀ a, off a + S8x512.size a ≤ S512x512.size a) :
    Is (View.readAt (Elt Ideal) v (Rect.unit (s := S512x512) off S8x512.size inb).toLoadRect f) n (fun s => d (p + 8 * u + (7 - s))) := by
  subst ho
  intro s
  have e := h ⟨8 * (63 - u) + s.val, by omega⟩
  rw [if_neg (by show ¬ _ ≤ 8 * (63 - u) + s.val; omega)] at e
  refine Eq.trans ?_ (e.trans ?_)
  · show v.read (Elt Ideal) f _ = _
    congr 1
    funext a
    refine Fin.ext ?_
    fin_cases a
    · show 8 * (63 - u) + 1 * s.val = 8 * (63 - u) + s.val; omega
    · show 0 + 1 * n.val = n.val; omega
  · congr 2
    show p + (511 - (8 * (63 - u) + s.val)) = _
    omega

/-- A tile stored moves the scan on by eight rows. -/
theorem Inv.store {v : View sig .tc .vmem S512x512 .f32} {n : Fin 512} {p : ℕ} {w d : ℕ → ℝ} {q : ℕ} {G : v.ty.Contents (Elt Ideal)} {L : List (View.Piece (Elt Ideal) S512x512 .f32)}
    (h : Inv v n p w d q (v.writes (Elt Ideal) G L)) (hq : q < 64) (off : Fin 2 → ℕ) (ho : off = ![8 * (63 - q), 0]) (inb : ∀ a, off a + S8x512.size a ≤ S512x512.size a)
    (x : Til) (hx : Is x n (fun s => w (p + 8 * q + (8 - s)))) :
    Inv v n p w d (q + 1) (v.writes (Elt Ideal) G (⟨Rect.unit (s := S512x512) off S8x512.size inb, x⟩ :: L)) := by
  intro r
  by_cases hr : 8 * (63 - q) ≤ r.val ∧ r.val < 8 * (63 - q) + 8
  · rw [if_pos (by omega)]
    refine (View.read_writes_cons_rows_of_mem (d := S512x512.size) v G (o := 8 * (63 - q)) inb x L (ix2 r n) (ix2 (⟨r.val - 8 * (63 - q), by omega⟩ : Fin 8) n) ho ?_ rfl).trans ?_
    · show r.val = 8 * (63 - q) + (r.val - 8 * (63 - q)); omega
    · refine (hx _).trans (congrArg _ ?_)
      refine congrArg w ?_
      show p + 8 * q + (8 - (r.val - 8 * (63 - q))) = _
      omega
  · refine (View.read_writes_cons_rows_of_not_mem (d := S512x512.size) v G (o := 8 * (63 - q)) (W := 8) inb x L (ix2 r n) ho rfl ?_).trans ((h r).trans ?_)
    · show r.val < _ ∨ _ ≤ r.val; omega
    · by_cases h2 : 512 - 8 * q ≤ r.val
      · rw [if_pos h2, if_pos (by omega)]
      · rw [if_neg h2, if_neg (by omega)]

/-- The two powers of the multiplier at column `n`, in the order of the rows. -/
structure Pows (a b : ℝ) (n : Fin 512) (q q' : Til) : Prop where
  re : Is q n (fun s => (pw a b (7 - s)).1)
  im : Is q' n (fun s => -(pw a b (7 - s)).2)

/-- A tile of the kernel is eight rows of the recurrence. -/
theorem tile_step {a b : ℝ} {n : Fin 512} {q q' : Til} (hq : Pows a b n q q') (dr di : ℕ → ℝ) (p : ℕ) (cr ci : Row) (x y : Til)
    (hx : Is x n (fun s => dr (p + (7 - s)))) (hy : Is y n (fun s => di (p + (7 - s))))
    (hr : cr (ix2 (0 : Fin 1) n) = (((W a b dr di p).1 : ℝ) : EReal)) (hi : ci (ix2 (0 : Fin 1) n) = (((W a b dr di p).2 : ℝ) : EReal)) :
    Is (tileR q q' cr ci x y) n (fun s => (W a b dr di (p + (8 - s))).1) ∧ Is (tileI q q' cr ci x y) n (fun s => (W a b dr di (p + (8 - s))).2) := by
  obtain ⟨h1, h2⟩ := tile_is q q' x y cr ci n _ _ _ _ _ _ hq.re hq.im hx hy hr hi
  have e := fun s : Fin 8 => lv_eq a b dr di p _ _ _ _ (fun _ _ => rfl) (fun _ _ => rfl) (fun _ _ => rfl) (fun _ _ => rfl) s.val s.isLt
  exact ⟨fun s => (h1 s).trans (congrArg _ (e s).1), fun s => (h2 s).trans (congrArg _ (e s).2)⟩

/-- The first row of a tile is the carry of the next. -/
theorem row0_is {x : Til} {n : Fin 512} {X : ℕ → ℝ} (h : Is x n X) : row0 x (ix2 (0 : Fin 1) n) = ((X 0 : ℝ) : EReal) := (rows_is x n X h).2.2.2

/-- A tile stored as it is. -/
theorem cast_is {x : Til} {n : Fin 512} {X : ℕ → ℝ} (h : Is x n X) (hc : S8x512.ShapeCasts S8x512) : Is (shapeCast S8x512 x hc) n X := by
  intro s; pointwise []; exact h s

/-! ## One trip of the loop, and all of them -/

section Loop

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x128 .f32) (harg14 : arg14.IsWhole) (arg15 : Memref sig .tc .vmem S512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x8x512 .f32) (harg20 : arg20.IsWhole) (arg21 : Memref sig .tc .vmem S1x8x512 .f32) (harg21 : arg21.IsWhole) (arg22 : Memref sig .tc .vmem S1x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole)
variable (v22 v24 : FVec Ideal S8x512 .f32) (v25 : IVec S8x1 32) (v26 : BitVec 1) (v27 : FVec Ideal S8x512 .f32)
  (X4 : BufTy.Contents (Elt Ideal) arg4.view.ty) (X5 : BufTy.Contents (Elt Ideal) arg5.view.ty)

/-- The three tiles of trip `k` from the contents it finds: their real and imaginary parts, in order. -/
def tiles (acc : Row × Row × Til × Til) (x y : Fin 3 → Til) : Fin 3 → Til × Til
  | 0 => (tileR v22 v24 acc.1 acc.2.1 (x 0) (y 0), tileI v22 v24 acc.1 acc.2.1 (x 0) (y 0))
  | 1 => (tileR v22 v24 (row0 (tileR v22 v24 acc.1 acc.2.1 (x 0) (y 0))) (row0 (tileI v22 v24 acc.1 acc.2.1 (x 0) (y 0))) (x 1) (y 1),
      tileI v22 v24 (row0 (tileR v22 v24 acc.1 acc.2.1 (x 0) (y 0))) (row0 (tileI v22 v24 acc.1 acc.2.1 (x 0) (y 0))) (x 1) (y 1))
  | 2 => (tileR v22 v24 (row0 (tileR v22 v24 (row0 (tileR v22 v24 acc.1 acc.2.1 (x 0) (y 0))) (row0 (tileI v22 v24 acc.1 acc.2.1 (x 0) (y 0))) (x 1) (y 1)))
        (row0 (tileI v22 v24 (row0 (tileR v22 v24 acc.1 acc.2.1 (x 0) (y 0))) (row0 (tileI v22 v24 acc.1 acc.2.1 (x 0) (y 0))) (x 1) (y 1))) (x 2) (y 2),
      tileI v22 v24 (row0 (tileR v22 v24 (row0 (tileR v22 v24 acc.1 acc.2.1 (x 0) (y 0))) (row0 (tileI v22 v24 acc.1 acc.2.1 (x 0) (y 0))) (x 1) (y 1)))
        (row0 (tileI v22 v24 (row0 (tileR v22 v24 acc.1 acc.2.1 (x 0) (y 0))) (row0 (tileI v22 v24 acc.1 acc.2.1 (x 0) (y 0))) (x 1) (y 1))) (x 2) (y 2))

/-- The rows of tile `j` of trip `k` lie in the block. -/
theorem inb2 (k : Fin k0_t1_loop.trips) (j : Fin 3) (a : Fin 2) : k0_off2 k (BitVec.ofNat 32 j.val) a + S8x512.size a ≤ S512x512.size a := by
  rw [off2_eq k j]
  have := j.isLt
  fin_cases a
  · show 8 * (63 - (3 * k.val + j.val)) + 8 ≤ 512; omega
  · show 0 + 512 ≤ 512; omega

/-- Tile `j` of trip `k`, read off the buffer. -/
def ldT (v : View sig .tc .vmem S512x512 .f32) (f : v.ty.Contents (Elt Ideal)) (k : Fin k0_t1_loop.trips) (j : Fin 3) : Til :=
  View.readAt (Elt Ideal) v (Rect.unit (s := S512x512) (k0_off2 k (BitVec.ofNat 32 j.val)) S8x512.size (inb2 k j)).toLoadRect f

/-- Tile `j` of trip `k`, as a piece written to the buffer. -/
def pc (k : Fin k0_t1_loop.trips) (j : Fin 3) (x : Til) : View.Piece (Elt Ideal) S512x512 .f32 :=
  ⟨Rect.unit (s := S512x512) (k0_off2 k (BitVec.ofNat 32 j.val)) S8x512.size (inb2 k j), shapeCast S8x512 x shapeCasts_S8x512_S8x512⟩

set_option maxHeartbeats 1000000 in
/-- What a trip carries on. -/
theorem tripR_eq (k : Fin k0_t1_loop.trips) (acc : Row × Row × Til × Til) (f : arg23.view.ty.Contents (Elt Ideal)) (g : arg24.view.ty.Contents (Elt Ideal)) :
    (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 k acc f g).1 = row0 (tiles v22 v24 acc (ldT arg23.view f k) (ldT arg24.view g k) 2).1
    ∧ (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 k acc f g).2.1 = row0 (tiles v22 v24 acc (ldT arg23.view f k) (ldT arg24.view g k) 2).2 := by
  unfold tripR_k0_t1 trip_k0_t1
  exact ⟨rfl, rfl⟩

set_option maxHeartbeats 1000000 in
/-- What a trip stores. -/
theorem tripL_eq (k : Fin k0_t1_loop.trips) (acc : Row × Row × Til × Til) (f : arg23.view.ty.Contents (Elt Ideal)) (g : arg24.view.ty.Contents (Elt Ideal)) :
    (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 k acc f g)
      = ([pc k 2 (tiles v22 v24 acc (ldT arg23.view f k) (ldT arg24.view g k) 2).1, pc k 1 (tiles v22 v24 acc (ldT arg23.view f k) (ldT arg24.view g k) 1).1, pc k 0 (tiles v22 v24 acc (ldT arg23.view f k) (ldT arg24.view g k) 0).1],
        [pc k 2 (tiles v22 v24 acc (ldT arg23.view f k) (ldT arg24.view g k) 2).2, pc k 1 (tiles v22 v24 acc (ldT arg23.view f k) (ldT arg24.view g k) 1).2, pc k 0 (tiles v22 v24 acc (ldT arg23.view f k) (ldT arg24.view g k) 0).2]) := by
  unfold tripL_k0_t1 trip_k0_t1
  rfl

/-- The three tiles of a trip are twenty-four rows of the recurrence. -/
theorem tiles_is {a b : ℝ} {n : Fin 512} (hq : Pows a b n v22 v24) (dr di : ℕ → ℝ) (p : ℕ) (acc : Row × Row × Til × Til) (x y : Fin 3 → Til)
    (hx : ∀ j : Fin 3, Is (x j) n (fun s => dr (p + 8 * j.val + (7 - s)))) (hy : ∀ j : Fin 3, Is (y j) n (fun s => di (p + 8 * j.val + (7 - s))))
    (hr : acc.1 (ix2 (0 : Fin 1) n) = (((W a b dr di p).1 : ℝ) : EReal)) (hi : acc.2.1 (ix2 (0 : Fin 1) n) = (((W a b dr di p).2 : ℝ) : EReal)) (j : Fin 3) :
    Is (tiles v22 v24 acc x y j).1 n (fun s => (W a b dr di (p + 8 * j.val + (8 - s))).1) ∧ Is (tiles v22 v24 acc x y j).2 n (fun s => (W a b dr di (p + 8 * j.val + (8 - s))).2) := by
  have t0 := tile_step hq dr di p acc.1 acc.2.1 (x 0) (y 0) (hx 0) (hy 0) hr hi
  have t1 := tile_step hq dr di (p + 8) _ _ (x 1) (y 1) (hx 1) (hy 1) (row0_is t0.1) (row0_is t0.2)
  have t2 := tile_step hq dr di (p + 16) _ _ (x 2) (y 2) (hx 2) (hy 2) (row0_is t1.1) (row0_is t1.2)
  match j with
  | 0 => exact t0
  | 1 => exact t1
  | 2 => exact t2

/-- The state of the loop before trip `K`, at column `n`. -/
structure At (a b : ℝ) (n : Fin 512) (dr di : ℕ → ℝ) (p : ℕ) (va vb : View sig .tc .vmem S512x512 .f32) (fa : va.ty.Contents (Elt Ideal)) (fb : vb.ty.Contents (Elt Ideal))
    (acc : Row × Row × Til × Til) (K : ℕ) : Prop where
  cr : acc.1 (ix2 (0 : Fin 1) n) = (((W a b dr di (p + 8 * (3 * K))).1 : ℝ) : EReal)
  ci : acc.2.1 (ix2 (0 : Fin 1) n) = (((W a b dr di (p + 8 * (3 * K))).2 : ℝ) : EReal)
  gr : Inv va n p (fun k => (W a b dr di k).1) dr (3 * K) fa
  gi : Inv vb n p (fun k => (W a b dr di k).2) di (3 * K) fb

/-- Three tiles stored, from the last. -/
theorem Inv.store3 {v : View sig .tc .vmem S512x512 .f32} {n : Fin 512} {p : ℕ} {w d : ℕ → ℝ} {G : v.ty.Contents (Elt Ideal)} {L : List (View.Piece (Elt Ideal) S512x512 .f32)}
    (k : Fin k0_t1_loop.trips) (hk : k.val < 21) (h : Inv v n p w d (3 * k.val) (v.writes (Elt Ideal) G L)) (x : Fin 3 → Til)
    (hx : ∀ j : Fin 3, Is (x j) n (fun s => w (p + 8 * (3 * k.val) + 8 * j.val + (8 - s)))) :
    Inv v n p w d (3 * (k.val + 1)) (v.writes (Elt Ideal) G ([pc k 2 (x 2), pc k 1 (x 1), pc k 0 (x 0)] ++ L)) := by
  have e : ∀ j : Fin 3, Is (shapeCast S8x512 (x j) shapeCasts_S8x512_S8x512) n (fun s => w (p + 8 * (3 * k.val + j.val) + (8 - s))) := fun j =>
    cast_is (fun s => (hx j s).trans (by beta_reduce; congr 2; omega)) _
  have h0 := h.store (by omega) _ (off2_eq k 0) (inb2 k 0) _ (e 0)
  have h1 := h0.store (by omega) _ (off2_eq k 1) (inb2 k 1) _ (e 1)
  exact h1.store (by omega) _ (off2_eq k 2) (inb2 k 2) _ (e 2)

set_option maxHeartbeats 1000000 in
/-- After `K` trips of the loop, the scan has come `24 K` rows. -/
theorem loop_at {a b : ℝ} {n : Fin 512} (hq : Pows a b n v22 v24) (dr di : ℕ → ℝ) (p : ℕ) (G23 : arg23.view.ty.Contents (Elt Ideal)) (G24 : arg24.view.ty.Contents (Elt Ideal)) (init : Row × Row × Til × Til)
    (h : At a b n dr di p arg23.view arg24.view G23 G24 init 0) (K : ℕ) (hK : K ≤ 21) :
    At a b n dr di p arg23.view arg24.view
      (arg23.view.writes (Elt Ideal) G23 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 G23 G24 init K).2.1)
      (arg24.view.writes (Elt Ideal) G24 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 G23 G24 init K).2.2)
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 G23 G24 init K).1 K := by
  induction K with
  | zero => exact h
  | succ K ih =>
    have hk : K < k0_t1_loop.trips := lt_of_lt_of_le (Nat.lt_of_succ_le hK) (by decide +kernel)
    obtain ⟨hr, hi, gr, gi⟩ := ih (by omega)
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 G23 G24 init ⟨K, hk⟩]
    dsimp only at hr hi gr gi ⊢
    generalize st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 G23 G24 init K = S at hr hi gr gi ⊢
    obtain ⟨e1, e2⟩ := tripR_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 ⟨K, hk⟩ S.1 (arg23.view.writes (Elt Ideal) G23 S.2.1) (arg24.view.writes (Elt Ideal) G24 S.2.2)
    have e3 := tripL_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 ⟨K, hk⟩ S.1 (arg23.view.writes (Elt Ideal) G23 S.2.1) (arg24.view.writes (Elt Ideal) G24 S.2.2)
    have T := tiles_is v22 v24 hq dr di (p + 8 * (3 * K)) S.1 (ldT arg23.view (arg23.view.writes (Elt Ideal) G23 S.2.1) ⟨K, hk⟩) (ldT arg24.view (arg24.view.writes (Elt Ideal) G24 S.2.2) ⟨K, hk⟩)
      (fun j s => (gr.load (3 * K + j.val) (by omega) (by omega) _ (off2_eq ⟨K, hk⟩ j) (inb2 ⟨K, hk⟩ j) s).trans (by beta_reduce; congr 2; omega))
      (fun j s => (gi.load (3 * K + j.val) (by omega) (by omega) _ (off2_eq ⟨K, hk⟩ j) (inb2 ⟨K, hk⟩ j) s).trans (by beta_reduce; congr 2; omega)) hr hi
    refine ⟨?_, ?_, ?_, ?_⟩
    · rw [e1]; exact (row0_is (T 2).1).trans (by congr 3)
    · rw [e2]; exact (row0_is (T 2).2).trans (by congr 3)
    · exact (congrArg (fun L => Inv arg23.view n p (fun k => (W a b dr di k).1) dr (3 * (K + 1)) (arg23.view.writes (Elt Ideal) G23 (L ++ S.2.1))) (congrArg Prod.fst e3)).mpr
        (gr.store3 ⟨K, hk⟩ (by show K < 21; omega) (fun j => (tiles v22 v24 S.1 _ _ j).1) (fun j => (T j).1))
    · exact (congrArg (fun L => Inv arg24.view n p (fun k => (W a b dr di k).2) di (3 * (K + 1)) (arg24.view.writes (Elt Ideal) G24 (L ++ S.2.2))) (congrArg Prod.snd e3)).mpr
        (gi.store3 ⟨K, hk⟩ (by show K < 21; omega) (fun j => (tiles v22 v24 S.1 _ _ j).2) (fun j => (T j).2))

end Loop

end Cert.S5Ideal.Tile

end
-- ==== Proof.S5Pre.lean ====
module

public import proofs.«01_k».proof.Proof.Gen.S5Ideal.Launch
public import proofs.«01_k».proof.Proof.Gen.S5Ideal.Skeleton
public import proofs.«01_k».proof.Proof.Gen.S5Ideal.Points
public import proofs.«01_k».proof.Proof.Gen.S5Ideal.Loops
public import proofs.«01_k».proof.Proof.Gen.S5Ideal.Frame
public import Idealize.ShloMosaic.Lib.WordCmp

@[expose] public section

set_option maxRecDepth 16384

noncomputable section

namespace Cert.S5Ideal.Body

open Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body's one condition: the point is the first of its group's scan, at which the carried rows and the
    accumulated outputs are set to zero. -/
abbrev startsScan (i : grid0.Coords) : Prop := (Scalar.cmpi .ne (Scalar.extui (Scalar.cmpi .eq (BitVec.ofNat 32 (i 1).val) 0#32)) 0#32) = 1#1

/-- The scan's first point of a group comes every eighth point. -/
theorem startsScan_iff : ∀ t : Fin cfg0.N, startsScan (grid0.coords t) ↔ t.val % 8 = 0 :=
  (by decide +kernel : ∀ t : Fin grid0.N, startsScan (grid0.coords t) ↔ t.val % 8 = 0)

end Cert.S5Ideal.Body

end
-- ==== Proof.S5RunA.lean ====
module

public import proofs.«01_k».proof.Proof.Gen.S5Ideal.Launch
public import proofs.«01_k».proof.Proof.Gen.S5Ideal.Skeleton
public import proofs.«01_k».proof.Proof.Gen.S5Ideal.Points
public import proofs.«01_k».proof.Proof.Gen.S5Ideal.Loops
public import proofs.«01_k».proof.Proof.Gen.S5Ideal.Frame
public import Idealize.ShloMosaic.Lib.WordCmp
public import proofs.«01_k».proof.Proof.S5Pre

@[expose] public section

set_option maxRecDepth 16384

noncomputable section

namespace Cert.S5Ideal.Body

open Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of the backward scan at a point that opens a group's scan (the last rows of the sequence):
    from whole buffers, the thirteen inputs at contents `x2 … x14`, everything else at any contents,
    it runs to its end with the inputs unchanged and every output and both carried rows holding the pieces
    that its stores wrote; the pieces are the ones that the run itself finds. -/
noncomputable def runA (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x128 .f32) (harg14 : arg14.IsWhole) (arg15 : Memref sig .tc .vmem S512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x8x512 .f32) (harg20 : arg20.IsWhole) (arg21 : Memref sig .tc .vmem S1x8x512 .f32) (harg21 : arg21.IsWhole) (arg22 : Memref sig .tc .vmem S1x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole) (hc : startsScan i)
    (x2 : Vec F S512x128 .f32) (x3 : Vec F S512x128 .f32) (x4 : Vec F S512x512 .f32) (x5 : Vec F S512x512 .f32) (x6 : Vec F S8x512 .f32) (x7 : Vec F S8x512 .f32) (x8 : Vec F S1x128x512 .bf16) (x9 : Vec F S1x128x512 .bf16) (x10 : Vec F S1x512x128 .bf16) (x11 : Vec F S1x512x128 .bf16) (x12 : Vec F S1x8x512 .f32) (x13 : Vec F S1x8x512 .f32) (x14 : Vec F S1x128 .f32) :
    Σ' (L15 : List (View.Piece (Elt F) S512x128 .f32)), Σ' (L16 : List (View.Piece (Elt F) S1x128x512 .f32)), Σ' (L17 : List (View.Piece (Elt F) S1x128x512 .f32)), Σ' (L18 : List (View.Piece (Elt F) S1x512x128 .f32)), Σ' (L19 : List (View.Piece (Elt F) S1x512x128 .f32)), Σ' (L20 : List (View.Piece (Elt F) S1x8x512 .f32)), Σ' (L21 : List (View.Piece (Elt F) S1x8x512 .f32)), Σ' (L22 : List (View.Piece (Elt F) S1x128 .f32)), Σ' (L25 : List (View.Piece (Elt F) S1x512 .f32)), { L26 : List (View.Piece (Elt F) S1x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26)) -∗ K ⟨⟩))
          ⊢ wp frame (wpE (defs₀ (F := F)) Variants.none c none) E (cc0_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, fun E K => ?run⟩
  case run =>
    simp only [cc0_s5_bwd_eq_skeleton]; unfold cc0_s5_bwd_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]
    · iexists _; iexists _; isplitr; swap; · iexact H23
      ipureintro; rfl
    isplitl [H24]
    · iexists _; iexists _; isplitr; swap; · iexact H24
      ipureintro; rfl
    isplitl [H25]; · iexists _; iexact H25
    iexists _; iexact H26

end Cert.S5Ideal.Body

end
-- ==== Proof.S5Point.lean ====
module

public import proofs.«01_k».proof.Proof.S5Loop
public import proofs.«01_k».proof.Proof.S5RunA
public import proofs.«01_k».proof.Proof.S5RunB
public import Idealize.ShloMosaic.Lib.WholeRead

@[expose] public section

set_option maxRecDepth 16384

noncomputable section

namespace Cert.S5Ideal.Tile

open Cert.S5Math
open Cert.S5Ideal Cert.S5Ideal.Gen Cert.S5Ideal.Body Idealize.ShloMosaic Idealize.ShloMosaic.TcCoe Idealize.SL.Sem

/-- Zero offsets in two axes. -/
theorem off2z : (![0, 0] : Fin 2 → ℕ) = fun _ => 0 := by funext a; fin_cases a <;> rfl

/-- Zero offsets in three axes. -/
theorem off3z : (![0, 0, 0] : Fin 3 → ℕ) = fun _ => 0 := by funext a; fin_cases a <;> rfl

/-- A load of a whole buffer is the buffer read. -/
theorem ld_whole {S : Shape} {e : EltTy} (v : View sig .tc .vmem S e) (f : v.ty.Contents (Elt Ideal)) {off : Fin S.rank → ℕ} (h : off = fun _ => 0) (inb : ∀ a, off a + S.size a ≤ S.size a) :
    View.readAt (Elt Ideal) v (Rect.unit off S.size inb).toLoadRect f = v.read (Elt Ideal) f :=
  View.ld_unit_zero h inb (v.read (Elt Ideal) f)

/-- A load of a whole buffer that holds `X` is `X`. -/
theorem ld_held {S : Shape} {e : EltTy} {a : Memref sig .tc .vmem S e} (ha : a.IsWhole) (X : Vec Ideal S e) {off : Fin S.rank → ℕ} (h : off = fun _ => 0) (inb : ∀ a, off a + S.size a ≤ S.size a) :
    View.readAt (Elt Ideal) a.view (Rect.unit off S.size inb).toLoadRect (ha.unread X) = X :=
  (ld_whole a.view _ h inb).trans (ha.read_unread X)

/-- A buffer stored whole, then read. -/
theorem rd_whole {S : Shape} {e : EltTy} (v : View sig .tc .vmem S e) {off : Fin S.rank → ℕ} (h : off = fun _ => 0) (inb : ∀ a, off a + S.size a ≤ S.size a) (w : S.Idx → Elt Ideal e) (L : List (View.Piece (Elt Ideal) S e)) :
    v.read (Elt Ideal) (v.writes (Elt Ideal) v.junk ((⟨Rect.unit off S.size inb, w⟩ : View.Piece (Elt Ideal) S e) :: L)) = w :=
  (funext fun y => View.read_writes_junk_apply_eq_canon v y _).trans (View.canon_cons_unit_zero h inb w L)

/-- A buffer stored whole holds the inputs of the scan at the start. -/
theorem Inv.start {v : View sig .tc .vmem S512x512 .f32} {n : Fin 512} {p : ℕ} {w d : ℕ → ℝ} (x : FVec Ideal S512x512 .f32) {inb : ∀ a, (![0, 0] : Fin 2 → ℕ) a + S512x512.size a ≤ S512x512.size a}
    (hx : ∀ r : Fin 512, x (ix2 r n) = ((d (p + (511 - r.val)) : ℝ) : EReal)) :
    Inv v n p w d (3 * 0) (v.writes (Elt Ideal) v.junk [⟨Rect.unit (s := S512x512) ![0, 0] S512x512.size inb, x⟩]) := by
  intro r
  rw [if_neg (by have := r.isLt; omega)]
  exact (congrFun (rd_whole v off2z inb x []) _).trans (hx r)

attribute [local irreducible] st_k0_t1

section Point

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x128 .f32) (harg14 : arg14.IsWhole) (arg15 : Memref sig .tc .vmem S512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x8x512 .f32) (harg20 : arg20.IsWhole) (arg21 : Memref sig .tc .vmem S1x8x512 .f32) (harg21 : arg21.IsWhole) (arg22 : Memref sig .tc .vmem S1x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole)
variable (v22 v24 : FVec Ideal S8x512 .f32) (v25 : IVec S8x1 32) (v26 : BitVec 1) (v27 : FVec Ideal S8x512 .f32)
  (X4 : BufTy.Contents (Elt Ideal) arg4.view.ty) (X5 : BufTy.Contents (Elt Ideal) arg5.view.ty)
  (D E : FVec Ideal S512x512 .f32) (init : Row × Row × Til × Til)

/-- A whole block as the one piece stored. -/
def one (x : FVec Ideal S512x512 .f32) : List (View.Piece (Elt Ideal) S512x512 .f32) :=
  [⟨Rect.unit (s := S512x512) ![0, 0] S512x512.size inb_S512x512_S512x512_0_0, x⟩]

/-- The real carry of a scan that opens: the zero row stored, read back. -/
def open25 (a : Memref sig .tc .vmem S1x512 .f32) : Row :=
  a.view.readCov ([⟨Rect.unit (s := S1x512) ![0, 0] S1x512.size inb_S1x512_S1x512_0_0, k0_pay4 (F := Ideal)⟩] : List (View.Piece (Elt Ideal) S1x512 .f32)) (Rect.unit (s := S1x512) ![0, 0] S1x512.size inb_S1x512_S1x512_0_0).toLoadRect

/-- The imaginary carry of a scan that opens. -/
def open26 (a : Memref sig .tc .vmem S1x512 .f32) : Row :=
  a.view.readCov ([⟨Rect.unit (s := S1x512) ![0, 0] S1x512.size inb_S1x512_S1x512_0_0, k0_pay5 (F := Ideal)⟩] : List (View.Piece (Elt Ideal) S1x512 .f32)) (Rect.unit (s := S1x512) ![0, 0] S1x512.size inb_S1x512_S1x512_0_0).toLoadRect

/-- It is the zero row. -/
theorem open25_eq (a : Memref sig .tc .vmem S1x512 .f32) : open25 a = k0_pay4 (F := Ideal) := View.readCov_unit_zero a.view off2z _ _

/-- It is the zero row. -/
theorem open26_eq (a : Memref sig .tc .vmem S1x512 .f32) : open26 a = k0_pay5 (F := Ideal) := View.readCov_unit_zero a.view off2z _ _

/-- What the loop leaves. -/
def fin : (Row × Row × Til × Til) × List (View.Piece (Elt Ideal) S512x512 .f32) × List (View.Piece (Elt Ideal) S512x512 .f32) :=
  st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 (arg23.view.writes (Elt Ideal) arg23.view.junk (one D)) (arg24.view.writes (Elt Ideal) arg24.view.junk (one E)) init
    (Scf.trips k0_t1_loop.lb k0_t1_loop.ub k0_t1_loop.st)

/-- The first eight rows after the loop, -/
def lastX : Til := arg23.view.readCov ((fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).2.1 ++ one D) (Rect.unit (s := S512x512) ![0, 0] S8x512.size inb_S512x512_S8x512_0_0).toLoadRect

/-- their imaginary parts, -/
def lastY : Til := arg24.view.readCov ((fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).2.2 ++ one E) (Rect.unit (s := S512x512) ![0, 0] S8x512.size inb_S512x512_S8x512_0_0).toLoadRect

/-- and their tile of the scan. -/
def lastR : Til := tileR v22 v24 (fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).1.1 (fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).1.2.1
  (lastX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) (lastY c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init)

/-- Its imaginary part. -/
def lastI : Til := tileI v22 v24 (fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).1.1 (fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).1.2.1
  (lastX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) (lastY c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init)

/-- The block of adjoint states, -/
def blkR : FVec Ideal S512x512 .f32 := arg23.view.readCov
  (⟨Rect.unit (s := S512x512) ![0, 0] S8x512.size inb_S512x512_S8x512_0_0, shapeCast S8x512 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) shapeCasts_S8x512_S8x512⟩ :: ((fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).2.1 ++ one D))
  (Rect.unit (s := S512x512) ![0, 0] S512x512.size inb_S512x512_S512x512_0_0).toLoadRect

/-- and its imaginary part. -/
def blkI : FVec Ideal S512x512 .f32 := arg24.view.readCov
  (⟨Rect.unit (s := S512x512) ![0, 0] S8x512.size inb_S512x512_S8x512_0_0, shapeCast S8x512 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) shapeCasts_S8x512_S8x512⟩ :: ((fin c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init).2.2 ++ one E))
  (Rect.unit (s := S512x512) ![0, 0] S512x512.size inb_S512x512_S512x512_0_0).toLoadRect

/-- The scan of a block, from the carry `w p`: 512 rows of the recurrence, and the next carry. -/
theorem blk_is {a b : ℝ} {n : Fin 512} (hq : Pows a b n v22 v24) (dr di : ℕ → ℝ) (p : ℕ)
    (hr : init.1 (ix2 (0 : Fin 1) n) = (((W a b dr di p).1 : ℝ) : EReal)) (hi : init.2.1 (ix2 (0 : Fin 1) n) = (((W a b dr di p).2 : ℝ) : EReal))
    (hD : ∀ r : Fin 512, D (ix2 r n) = ((dr (p + (511 - r.val)) : ℝ) : EReal)) (hE : ∀ r : Fin 512, E (ix2 r n) = ((di (p + (511 - r.val)) : ℝ) : EReal)) :
    (∀ r : Fin 512, blkR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init (ix2 r n) = (((W a b dr di (p + (512 - r.val))).1 : ℝ) : EReal))
    ∧ (∀ r : Fin 512, blkI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init (ix2 r n) = (((W a b dr di (p + (512 - r.val))).2 : ℝ) : EReal))
    ∧ row0 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) (ix2 (0 : Fin 1) n) = (((W a b dr di (p + 512)).1 : ℝ) : EReal)
    ∧ row0 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) (ix2 (0 : Fin 1) n) = (((W a b dr di (p + 512)).2 : ℝ) : EReal) := by
  have ht : Scf.trips k0_t1_loop.lb k0_t1_loop.ub k0_t1_loop.st = 21 := by decide +kernel
  obtain ⟨er, ei, gr, gi⟩ := loop_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 hq dr di p
    (arg23.view.writes (Elt Ideal) arg23.view.junk (one D)) (arg24.view.writes (Elt Ideal) arg24.view.junk (one E)) init
    ⟨hr, hi, Inv.start D hD, Inv.start E hE⟩ (Scf.trips k0_t1_loop.lb k0_t1_loop.ub k0_t1_loop.st) (le_of_eq ht)
  rw [← View.writes_append] at gr gi
  rw [ht] at er ei gr gi
  have lx : Is (lastX c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) n (fun s => dr (p + 8 * 63 + (7 - s))) :=
    gr.load 63 (by omega) (by omega) _ rfl inb_S512x512_S8x512_0_0
  have ly : Is (lastY c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v22 v24 v25 v26 v27 X4 X5 D E init) n (fun s => di (p + 8 * 63 + (7 - s))) :=
    gi.load 63 (by omega) (by omega) _ rfl inb_S512x512_S8x512_0_0
  have T := tile_step hq dr di (p + 8 * 63) _ _ _ _ lx ly er ei
  have fr := gr.store (by omega) _ rfl inb_S512x512_S8x512_0_0 _ (cast_is T.1 shapeCasts_S8x512_S8x512)
  have fi := gi.store (by omega) _ rfl inb_S512x512_S8x512_0_0 _ (cast_is T.2 shapeCasts_S8x512_S8x512)
  refine ⟨fun r => ?_, fun r => ?_, row0_is T.1, row0_is T.2⟩
  · refine (congrFun (ld_whole arg23.view _ off2z inb_S512x512_S512x512_0_0) _).trans ((fr r).trans (if_pos ?_))
    have := r.isLt; omega
  · refine (congrFun (ld_whole arg24.view _ off2z inb_S512x512_S512x512_0_0) _).trans ((fi r).trans (if_pos ?_))
    have := r.isLt; omega

set_option maxHeartbeats 1000000 in
/-- What a point that opens a scan stores of the gradient of the input. -/
theorem runA_du (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).1 = [⟨Rect.unit (s := S512x128) ![0, 0] S512x128.size inb_S512x128_S512x128_0_0, k0_pay156 x2 (blkI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117)) (k0_pay155 (blkR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117)) x8) x9 x14⟩] := by
  have e : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).1 = [⟨Rect.unit (s := S512x128) ![0, 0] S512x128.size inb_S512x128_S512x128_0_0, k0_pay156 (View.readAt (Elt Ideal) arg2.view (Rect.unit (s := S512x128) ![0, 0] S512x128.size inb_S512x128_S512x128_0_0).toLoadRect (harg2.unread x2)) (blkI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((open25 arg25), (open26 arg26), k0_pay117, k0_pay117)) (k0_pay155 (blkR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((open25 arg25), (open26 arg26), k0_pay117, k0_pay117)) (View.readAt (Elt Ideal) arg8.view (Rect.unit (s := S1x128x512) ![0, 0, 0] S1x128x512.size inb_S1x128x512_S1x128x512_0_0_0).toLoadRect (harg8.unread x8))) (View.readAt (Elt Ideal) arg9.view (Rect.unit (s := S1x128x512) ![0, 0, 0] S1x128x512.size inb_S1x128x512_S1x128x512_0_0_0).toLoadRect (harg9.unread x9)) (View.readAt (Elt Ideal) arg14.view (Rect.unit (s := S1x128) ![0, 0] S1x128.size inb_S1x128_S1x128_0_0).toLoadRect (harg14.unread x14))⟩] := rfl
  rw [e]
  rw [ld_held harg2 x2 off2z, ld_held harg8 x8 off3z, ld_held harg9 x9 off3z, ld_held harg14 x14 off2z, ld_held harg10 x10 off3z, ld_held harg11 x11 off3z, ld_held harg12 x12 off3z, ld_held harg13 x13 off3z, open25_eq, open26_eq]

set_option maxHeartbeats 1000000 in
/-- What a point that opens a scan stores of the real carry. -/
theorem runA_cr (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.1 = [⟨Rect.unit (s := S1x512) ![0, 0] S1x512.size inb_S1x512_S1x512_0_0, k0_pay151 (row0 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117)))⟩, ⟨Rect.unit (s := S1x512) ![0, 0] S1x512.size inb_S1x512_S1x512_0_0, k0_pay4 (F := Ideal)⟩] := by
  have e : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.1 = [⟨Rect.unit (s := S1x512) ![0, 0] S1x512.size inb_S1x512_S1x512_0_0, k0_pay151 (row0 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((open25 arg25), (open26 arg26), k0_pay117, k0_pay117)))⟩, ⟨Rect.unit (s := S1x512) ![0, 0] S1x512.size inb_S1x512_S1x512_0_0, k0_pay4 (F := Ideal)⟩] := rfl
  rw [e]
  rw [ld_held harg2 x2 off2z, ld_held harg10 x10 off3z, ld_held harg11 x11 off3z, ld_held harg12 x12 off3z, ld_held harg13 x13 off3z, open25_eq, open26_eq]

set_option maxHeartbeats 1000000 in
/-- What a point that opens a scan stores of the imaginary carry. -/
theorem runA_ci (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.2.1 = [⟨Rect.unit (s := S1x512) ![0, 0] S1x512.size inb_S1x512_S1x512_0_0, k0_pay152 (row0 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117)))⟩, ⟨Rect.unit (s := S1x512) ![0, 0] S1x512.size inb_S1x512_S1x512_0_0, k0_pay5 (F := Ideal)⟩] := by
  have e : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.2.1 = [⟨Rect.unit (s := S1x512) ![0, 0] S1x512.size inb_S1x512_S1x512_0_0, k0_pay152 (row0 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((open25 arg25), (open26 arg26), k0_pay117, k0_pay117)))⟩, ⟨Rect.unit (s := S1x512) ![0, 0] S1x512.size inb_S1x512_S1x512_0_0, k0_pay5 (F := Ideal)⟩] := rfl
  rw [e]
  rw [ld_held harg2 x2 off2z, ld_held harg10 x10 off3z, ld_held harg11 x11 off3z, ld_held harg12 x12 off3z, ld_held harg13 x13 off3z, open25_eq, open26_eq]

set_option maxHeartbeats 1000000 in
/-- What a point that opens a scan stores of the gradient of the skip row. -/
theorem runA_dd (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i) :
    (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.1 = [⟨Rect.unit (s := S1x128) ![0, 0] S1x128.size inb_S1x128_S1x128_0_0, k0_pay3 x2 x3 (k0_pay112 (F := Ideal))⟩, ⟨Rect.unit (s := S1x128) ![0, 0] S1x128.size inb_S1x128_S1x128_0_0, k0_pay112 (F := Ideal)⟩] := by
  have e : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.1 = [⟨Rect.unit (s := S1x128) ![0, 0] S1x128.size inb_S1x128_S1x128_0_0, k0_pay3 (View.readAt (Elt Ideal) arg2.view (Rect.unit (s := S512x128) ![0, 0] S512x128.size inb_S512x128_S512x128_0_0).toLoadRect (harg2.unread x2)) (View.readAt (Elt Ideal) arg3.view (Rect.unit (s := S512x128) ![0, 0] S512x128.size inb_S512x128_S512x128_0_0).toLoadRect (harg3.unread x3)) (arg22.view.readCov [⟨Rect.unit (s := S1x128) ![0, 0] S1x128.size inb_S1x128_S1x128_0_0, k0_pay112 (F := Ideal)⟩] (Rect.unit (s := S1x128) ![0, 0] S1x128.size inb_S1x128_S1x128_0_0).toLoadRect)⟩, ⟨Rect.unit (s := S1x128) ![0, 0] S1x128.size inb_S1x128_S1x128_0_0, k0_pay112 (F := Ideal)⟩] := rfl
  rw [e]
  rw [ld_held harg2 x2 off2z, ld_held harg3 x3 off2z, View.readCov_unit_zero arg22.view off2z]

set_option maxHeartbeats 1000000 in
/-- What a point inside a scan stores of the gradient of the input. -/
theorem runB_du (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).1 = [⟨Rect.unit (s := S512x128) ![0, 0] S512x128.size inb_S512x128_S512x128_0_0, k0_pay156 x2 (blkI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117)) (k0_pay155 (blkR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117)) x8) x9 x14⟩] := by
  have e : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).1 = [⟨Rect.unit (s := S512x128) ![0, 0] S512x128.size inb_S512x128_S512x128_0_0, k0_pay156 (View.readAt (Elt Ideal) arg2.view (Rect.unit (s := S512x128) ![0, 0] S512x128.size inb_S512x128_S512x128_0_0).toLoadRect (harg2.unread x2)) (blkI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((View.readAt (Elt Ideal) arg25.view (Rect.unit (s := S1x512) ![0, 0] S1x512.size inb_S1x512_S1x512_0_0).toLoadRect (harg25.unread xs25)), (View.readAt (Elt Ideal) arg26.view (Rect.unit (s := S1x512) ![0, 0] S1x512.size inb_S1x512_S1x512_0_0).toLoadRect (harg26.unread xs26)), k0_pay117, k0_pay117)) (k0_pay155 (blkR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((View.readAt (Elt Ideal) arg25.view (Rect.unit (s := S1x512) ![0, 0] S1x512.size inb_S1x512_S1x512_0_0).toLoadRect (harg25.unread xs25)), (View.readAt (Elt Ideal) arg26.view (Rect.unit (s := S1x512) ![0, 0] S1x512.size inb_S1x512_S1x512_0_0).toLoadRect (harg26.unread xs26)), k0_pay117, k0_pay117)) (View.readAt (Elt Ideal) arg8.view (Rect.unit (s := S1x128x512) ![0, 0, 0] S1x128x512.size inb_S1x128x512_S1x128x512_0_0_0).toLoadRect (harg8.unread x8))) (View.readAt (Elt Ideal) arg9.view (Rect.unit (s := S1x128x512) ![0, 0, 0] S1x128x512.size inb_S1x128x512_S1x128x512_0_0_0).toLoadRect (harg9.unread x9)) (View.readAt (Elt Ideal) arg14.view (Rect.unit (s := S1x128) ![0, 0] S1x128.size inb_S1x128_S1x128_0_0).toLoadRect (harg14.unread x14))⟩] := rfl
  rw [e]
  rw [ld_held harg2 x2 off2z, ld_held harg8 x8 off3z, ld_held harg9 x9 off3z, ld_held harg14 x14 off2z, ld_held harg10 x10 off3z, ld_held harg11 x11 off3z, ld_held harg12 x12 off3z, ld_held harg13 x13 off3z, ld_held harg25 xs25 off2z, ld_held harg26 xs26 off2z]

set_option maxHeartbeats 1000000 in
/-- What a point inside a scan stores of the real carry. -/
theorem runB_cr (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.1 = [⟨Rect.unit (s := S1x512) ![0, 0] S1x512.size inb_S1x512_S1x512_0_0, k0_pay151 (row0 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117)))⟩] := by
  have e : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.1 = [⟨Rect.unit (s := S1x512) ![0, 0] S1x512.size inb_S1x512_S1x512_0_0, k0_pay151 (row0 (lastR c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((View.readAt (Elt Ideal) arg25.view (Rect.unit (s := S1x512) ![0, 0] S1x512.size inb_S1x512_S1x512_0_0).toLoadRect (harg25.unread xs25)), (View.readAt (Elt Ideal) arg26.view (Rect.unit (s := S1x512) ![0, 0] S1x512.size inb_S1x512_S1x512_0_0).toLoadRect (harg26.unread xs26)), k0_pay117, k0_pay117)))⟩] := rfl
  rw [e]
  rw [ld_held harg2 x2 off2z, ld_held harg10 x10 off3z, ld_held harg11 x11 off3z, ld_held harg12 x12 off3z, ld_held harg13 x13 off3z, ld_held harg25 xs25 off2z, ld_held harg26 xs26 off2z]

set_option maxHeartbeats 1000000 in
/-- What a point inside a scan stores of the imaginary carry. -/
theorem runB_ci (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.2.1 = [⟨Rect.unit (s := S1x512) ![0, 0] S1x512.size inb_S1x512_S1x512_0_0, k0_pay152 (row0 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117)))⟩] := by
  have e : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.2.1 = [⟨Rect.unit (s := S1x512) ![0, 0] S1x512.size inb_S1x512_S1x512_0_0, k0_pay152 (row0 (lastI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 (View.readAt (Elt Ideal) arg12.view (Rect.unit (s := S1x8x512) ![0, 0, 0] S1x8x512.size inb_S1x8x512_S1x8x512_0_0_0).toLoadRect (harg12.unread x12))) (k0_pay116 (View.readAt (Elt Ideal) arg13.view (Rect.unit (s := S1x8x512) ![0, 0, 0] S1x8x512.size inb_S1x8x512_S1x8x512_0_0_0).toLoadRect (harg13.unread x13))) (iota .tc S8x1 32 [0] iota_S8x1_d0_w32) (Scalar.cmpi .eq (BitVec.ofNat 32 (i 1).val) 7#32) k0_pay117 (harg4.unread x4) (harg5.unread x5) (k0_pay113 (View.readAt (Elt Ideal) arg2.view (Rect.unit (s := S512x128) ![0, 0] S512x128.size inb_S512x128_S512x128_0_0).toLoadRect (harg2.unread x2)) (View.readAt (Elt Ideal) arg10.view (Rect.unit (s := S1x512x128) ![0, 0, 0] S1x512x128.size inb_S1x512x128_S1x512x128_0_0_0).toLoadRect (harg10.unread x10))) (k0_pay114 (View.readAt (Elt Ideal) arg2.view (Rect.unit (s := S512x128) ![0, 0] S512x128.size inb_S512x128_S512x128_0_0).toLoadRect (harg2.unread x2)) (View.readAt (Elt Ideal) arg11.view (Rect.unit (s := S1x512x128) ![0, 0, 0] S1x512x128.size inb_S1x512x128_S1x512x128_0_0_0).toLoadRect (harg11.unread x11))) ((View.readAt (Elt Ideal) arg25.view (Rect.unit (s := S1x512) ![0, 0] S1x512.size inb_S1x512_S1x512_0_0).toLoadRect (harg25.unread xs25)), (View.readAt (Elt Ideal) arg26.view (Rect.unit (s := S1x512) ![0, 0] S1x512.size inb_S1x512_S1x512_0_0).toLoadRect (harg26.unread xs26)), k0_pay117, k0_pay117)))⟩] := rfl
  rw [e]
  rw [ld_held harg2 x2 off2z, ld_held harg10 x10 off3z, ld_held harg11 x11 off3z, ld_held harg12 x12 off3z, ld_held harg13 x13 off3z, ld_held harg25 xs25 off2z, ld_held harg26 xs26 off2z]

set_option maxHeartbeats 1000000 in
/-- What a point inside a scan stores of the gradient of the skip row. -/
theorem runB_dd (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i) :
    (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.1 = [⟨Rect.unit (s := S1x128) ![0, 0] S1x128.size inb_S1x128_S1x128_0_0, k0_pay3 x2 x3 x22⟩] := by
  have e : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.1 = [⟨Rect.unit (s := S1x128) ![0, 0] S1x128.size inb_S1x128_S1x128_0_0, k0_pay3 (View.readAt (Elt Ideal) arg2.view (Rect.unit (s := S512x128) ![0, 0] S512x128.size inb_S512x128_S512x128_0_0).toLoadRect (harg2.unread x2)) (View.readAt (Elt Ideal) arg3.view (Rect.unit (s := S512x128) ![0, 0] S512x128.size inb_S512x128_S512x128_0_0).toLoadRect (harg3.unread x3)) (View.readAt (Elt Ideal) arg22.view (Rect.unit (s := S1x128) ![0, 0] S1x128.size inb_S1x128_S1x128_0_0).toLoadRect (harg22.unread x22))⟩] := rfl
  rw [e]
  rw [ld_held harg2 x2 off2z, ld_held harg3 x3 off2z, ld_held harg22 x22 off2z]

end Point

end Cert.S5Ideal.Tile

end
-- ==== Proof.S5Pay.lean ====
module

public import proofs.«01_k».proof.Proof.Gen.S5Ideal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.S5Ideal.Tile

open Cert.S5Ideal Cert.S5Ideal.Gen Idealize.ShloMosaic Idealize.ShloMosaic.TcCoe Idealize.SL.Sem

/-- The real cotangents of a block of rows: the output cotangent times the real block matrix. -/
theorem pay113_at (x : FVec Ideal S512x128 .f32) (w : FVec Ideal S1x512x128 .bf16) (r : Fin 512) (n : Fin 512) :
    k0_pay113 (F := Ideal) x w (ix2 r n) = ∑ k : Fin 128, (x (ix2 r k) : EReal) * w (ix3 0 n k) := by
  unfold k0_pay113
  pointwise

/-- The imaginary cotangents of a block of rows. -/
theorem pay114_at (x : FVec Ideal S512x128 .f32) (w : FVec Ideal S1x512x128 .bf16) (r : Fin 512) (n : Fin 512) :
    k0_pay114 (F := Ideal) x w (ix2 r n) = 0 - ∑ k : Fin 128, (x (ix2 r k) : EReal) * w (ix3 0 n k) := by
  unfold k0_pay114
  pointwise

/-- The powers' real parts. -/
theorem pay115_at (x : FVec Ideal S1x8x512 .f32) (s : Fin 8) (n : Fin 512) : k0_pay115 (F := Ideal) x (ix2 s n) = x (ix3 0 s n) := by
  unfold k0_pay115
  pointwise

/-- The powers' imaginary parts. -/
theorem pay116_at (x : FVec Ideal S1x8x512 .f32) (s : Fin 8) (n : Fin 512) : k0_pay116 (F := Ideal) x (ix2 s n) = x (ix3 0 s n) := by
  unfold k0_pay116
  pointwise

/-- The real carry is stored as it is. -/
theorem pay151_at (x : FVec Ideal S1x512 .f32) (n : Fin 512) : k0_pay151 (F := Ideal) x (ix2 0 n) = x (ix2 0 n) := by
  unfold k0_pay151
  pointwise

/-- The imaginary carry is stored as it is. -/
theorem pay152_at (x : FVec Ideal S1x512 .f32) (n : Fin 512) : k0_pay152 (F := Ideal) x (ix2 0 n) = x (ix2 0 n) := by
  unfold k0_pay152
  pointwise

/-- The real carry starts at zero. -/
theorem pay4_at (n : Fin 512) : k0_pay4 (F := Ideal) (ix2 0 n) = (0 : EReal) := by
  unfold k0_pay4
  pointwise

/-- The imaginary carry starts at zero. -/
theorem pay5_at (n : Fin 512) : k0_pay5 (F := Ideal) (ix2 0 n) = (0 : EReal) := by
  unfold k0_pay5
  pointwise

/-- The skip's gradient starts at zero. -/
theorem pay112_at (l : Fin 128) : k0_pay112 (F := Ideal) (ix2 0 l) = (0 : EReal) := by
  unfold k0_pay112
  pointwise

/-- The skip's gradient grows by the block's rows. -/
theorem pay3_at (x y : FVec Ideal S512x128 .f32) (a : FVec Ideal S1x128 .f32) (l : Fin 128) :
    k0_pay3 (F := Ideal) x y a (ix2 0 l) = a (ix2 0 l) + ∑ r : Fin 512, (x (ix2 r l) : EReal) * y (ix2 r l) := by
  unfold k0_pay3
  pointwise

/-- The real part's share of the input gradient. -/
theorem pay155_at (g : FVec Ideal S512x512 .f32) (w : FVec Ideal S1x128x512 .bf16) (r : Fin 512) (l : Fin 128) :
    k0_pay155 (F := Ideal) g w (ix2 r l) = ∑ n : Fin 512, (g (ix2 r n) : EReal) * w (ix3 0 l n) := by
  unfold k0_pay155
  pointwise

/-- The block of the input gradient. -/
theorem pay156_at (x : FVec Ideal S512x128 .f32) (g : FVec Ideal S512x512 .f32) (a : FVec Ideal S512x128 .f32) (w : FVec Ideal S1x128x512 .bf16) (d : FVec Ideal S1x128 .f32)
    (r : Fin 512) (l : Fin 128) :
    k0_pay156 (F := Ideal) x g a w d (ix2 r l) = (a (ix2 r l) + ∑ n : Fin 512, (g (ix2 r n) : EReal) * w (ix3 0 l n)) + d (ix2 0 l) * x (ix2 r l) := by
  unfold k0_pay156
  pointwise

end Cert.S5Ideal.Tile

end
-- ==== Proof.S5Step.lean ====
module

public import proofs.«01_k».proof.Proof.S5Point
public import proofs.«01_k».proof.Proof.S5Pay

@[expose] public section

set_option maxRecDepth 16384

noncomputable section

namespace Cert.S5Ideal.Tile

open Cert.S5Math
open Cert.S5Ideal Cert.S5Ideal.Gen Cert.S5Ideal.Body Idealize.ShloMosaic Idealize.ShloMosaic.TcCoe Idealize.SL.Sem

/-- One entry of a block of the input gradient: the scan's row times the two matrices, and the skip. -/
def duAt (x : FVec Ideal S512x128 .f32) (w w' : FVec Ideal S1x128x512 .bf16) (d : FVec Ideal S1x128 .f32) (gr gi : Fin 512 → ℝ) (r : Fin 512) (l : Fin 128) : EReal :=
  ((∑ n : Fin 512, ((gr n : ℝ) : EReal) * (w (ix3 0 l n) : EReal)) + ∑ n : Fin 512, ((gi n : ℝ) : EReal) * (w' (ix3 0 l n) : EReal)) + (d (ix2 0 l) : EReal) * (x (ix2 r l) : EReal)

attribute [local irreducible] st_k0_t1

section Step

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x128x512 .bf16) (harg8 : arg8.IsWhole) (arg9 : Memref sig .tc .vmem S1x128x512 .bf16) (harg9 : arg9.IsWhole) (arg10 : Memref sig .tc .vmem S1x512x128 .bf16) (harg10 : arg10.IsWhole) (arg11 : Memref sig .tc .vmem S1x512x128 .bf16) (harg11 : arg11.IsWhole) (arg12 : Memref sig .tc .vmem S1x8x512 .f32) (harg12 : arg12.IsWhole) (arg13 : Memref sig .tc .vmem S1x8x512 .f32) (harg13 : arg13.IsWhole) (arg14 : Memref sig .tc .vmem S1x128 .f32) (harg14 : arg14.IsWhole) (arg15 : Memref sig .tc .vmem S512x128 .f32) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x8x512 .f32) (harg20 : arg20.IsWhole) (arg21 : Memref sig .tc .vmem S1x8x512 .f32) (harg21 : arg21.IsWhole) (arg22 : Memref sig .tc .vmem S1x128 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x512 .f32) (harg25 : arg25.IsWhole) (arg26 : Memref sig .tc .vmem S1x512 .f32) (harg26 : arg26.IsWhole)

set_option maxHeartbeats 1000000 in
/-- The input gradient at a point that opens a scan. -/
theorem duA (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i)
    (a b : Fin 512 → ℝ) (dr di : Fin 512 → ℕ → ℝ) (hq : ∀ n : Fin 512, Pows (a n) (b n) n (k0_pay115 x12) (k0_pay116 x13))
    (hD : ∀ r n : Fin 512, k0_pay113 (F := Ideal) x2 x10 (ix2 r n) = ((dr n (0 + (511 - r.val)) : ℝ) : EReal)) (hE : ∀ r n : Fin 512, k0_pay114 (F := Ideal) x2 x11 (ix2 r n) = ((di n (0 + (511 - r.val)) : ℝ) : EReal)) (v : View sig .tc .vmem S512x128 .f32) (r : Fin 512) (l : Fin 128) :
    v.read (Elt Ideal) (v.writes (Elt Ideal) v.junk (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).1) (ix2 r l)
      = duAt x2 x8 x9 x14 (fun n => (W (a n) (b n) (dr n) (di n) (0 + (512 - r.val))).1) (fun n => (W (a n) (b n) (dr n) (di n) (0 + (512 - r.val))).2) r l := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117) (hq n) (dr n) (di n) 0 (pay4_at n) (pay5_at n) (fun r => hD r n) (fun r => hE r n)
  rw [runA_du c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 hc, rd_whole v off2z, pay156_at, pay155_at]
  unfold duAt
  exact congrArg₂ (· + ·) (congrArg₂ (· + ·) (Finset.sum_congr rfl fun n _ => congrArg (· * _) ((B n).1 r)) (Finset.sum_congr rfl fun n _ => congrArg (· * _) ((B n).2.1 r))) rfl

set_option maxHeartbeats 1000000 in
/-- The real carry after a point that opens a scan. -/
theorem crA (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i)
    (a b : Fin 512 → ℝ) (dr di : Fin 512 → ℕ → ℝ) (hq : ∀ n : Fin 512, Pows (a n) (b n) n (k0_pay115 x12) (k0_pay116 x13))
    (hD : ∀ r n : Fin 512, k0_pay113 (F := Ideal) x2 x10 (ix2 r n) = ((dr n (0 + (511 - r.val)) : ℝ) : EReal)) (hE : ∀ r n : Fin 512, k0_pay114 (F := Ideal) x2 x11 (ix2 r n) = ((di n (0 + (511 - r.val)) : ℝ) : EReal)) (v : View sig .tc .vmem S1x512 .f32) (n : Fin 512) :
    v.read (Elt Ideal) (v.writes (Elt Ideal) v.junk (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.1) (ix2 0 n) = (((W (a n) (b n) (dr n) (di n) (0 + 512)).1 : ℝ) : EReal) := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117) (hq n) (dr n) (di n) 0 (pay4_at n) (pay5_at n) (fun r => hD r n) (fun r => hE r n)
  rw [runA_cr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 hc, rd_whole v off2z, pay151_at]
  exact (B n).2.2.1

set_option maxHeartbeats 1000000 in
/-- The imaginary carry after a point that opens a scan. -/
theorem ciA (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i)
    (a b : Fin 512 → ℝ) (dr di : Fin 512 → ℕ → ℝ) (hq : ∀ n : Fin 512, Pows (a n) (b n) n (k0_pay115 x12) (k0_pay116 x13))
    (hD : ∀ r n : Fin 512, k0_pay113 (F := Ideal) x2 x10 (ix2 r n) = ((dr n (0 + (511 - r.val)) : ℝ) : EReal)) (hE : ∀ r n : Fin 512, k0_pay114 (F := Ideal) x2 x11 (ix2 r n) = ((di n (0 + (511 - r.val)) : ℝ) : EReal)) (v : View sig .tc .vmem S1x512 .f32) (n : Fin 512) :
    v.read (Elt Ideal) (v.writes (Elt Ideal) v.junk (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.2.2.1) (ix2 0 n) = (((W (a n) (b n) (dr n) (di n) (0 + 512)).2 : ℝ) : EReal) := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) ((k0_pay4 (F := Ideal)), (k0_pay5 (F := Ideal)), k0_pay117, k0_pay117) (hq n) (dr n) (di n) 0 (pay4_at n) (pay5_at n) (fun r => hD r n) (fun r => hE r n)
  rw [runA_ci c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 hc, rd_whole v off2z, pay152_at]
  exact (B n).2.2.2

/-- The skip's gradient after a point that opens a scan. -/
theorem ddA (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (hc : startsScan i) (v : View sig .tc .vmem S1x128 .f32) (l : Fin 128) :
    v.read (Elt Ideal) (v.writes (Elt Ideal) v.junk (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14).2.2.2.2.2.2.2.1) (ix2 0 l) = (0 : EReal) + ∑ r : Fin 512, (x2 (ix2 r l) : EReal) * (x3 (ix2 r l) : EReal) := by
  rw [runA_dd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 hc, rd_whole v off2z, pay3_at]
  rw [pay112_at]

set_option maxHeartbeats 1000000 in
/-- The input gradient at a point inside a scan. -/
theorem duB (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i)
    (a b : Fin 512 → ℝ) (dr di : Fin 512 → ℕ → ℝ) (hq : ∀ n : Fin 512, Pows (a n) (b n) n (k0_pay115 x12) (k0_pay116 x13)) (p : ℕ) (hr : ∀ n : Fin 512, xs25 (ix2 (0 : Fin 1) n) = (((W (a n) (b n) (dr n) (di n) p).1 : ℝ) : EReal)) (hi : ∀ n : Fin 512, xs26 (ix2 (0 : Fin 1) n) = (((W (a n) (b n) (dr n) (di n) p).2 : ℝ) : EReal))
    (hD : ∀ r n : Fin 512, k0_pay113 (F := Ideal) x2 x10 (ix2 r n) = ((dr n (p + (511 - r.val)) : ℝ) : EReal)) (hE : ∀ r n : Fin 512, k0_pay114 (F := Ideal) x2 x11 (ix2 r n) = ((di n (p + (511 - r.val)) : ℝ) : EReal)) (v : View sig .tc .vmem S512x128 .f32) (r : Fin 512) (l : Fin 128) :
    v.read (Elt Ideal) (v.writes (Elt Ideal) v.junk (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).1) (ix2 r l)
      = duAt x2 x8 x9 x14 (fun n => (W (a n) (b n) (dr n) (di n) (p + (512 - r.val))).1) (fun n => (W (a n) (b n) (dr n) (di n) (p + (512 - r.val))).2) r l := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117) (hq n) (dr n) (di n) p (hr n) (hi n) (fun r => hD r n) (fun r => hE r n)
  rw [runB_du c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x16 x17 x18 x19 x20 x21 x22 xs25 xs26 hc, rd_whole v off2z, pay156_at, pay155_at]
  unfold duAt
  exact congrArg₂ (· + ·) (congrArg₂ (· + ·) (Finset.sum_congr rfl fun n _ => congrArg (· * _) ((B n).1 r)) (Finset.sum_congr rfl fun n _ => congrArg (· * _) ((B n).2.1 r))) rfl

set_option maxHeartbeats 1000000 in
/-- The real carry after a point inside a scan. -/
theorem crB (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i)
    (a b : Fin 512 → ℝ) (dr di : Fin 512 → ℕ → ℝ) (hq : ∀ n : Fin 512, Pows (a n) (b n) n (k0_pay115 x12) (k0_pay116 x13)) (p : ℕ) (hr : ∀ n : Fin 512, xs25 (ix2 (0 : Fin 1) n) = (((W (a n) (b n) (dr n) (di n) p).1 : ℝ) : EReal)) (hi : ∀ n : Fin 512, xs26 (ix2 (0 : Fin 1) n) = (((W (a n) (b n) (dr n) (di n) p).2 : ℝ) : EReal))
    (hD : ∀ r n : Fin 512, k0_pay113 (F := Ideal) x2 x10 (ix2 r n) = ((dr n (p + (511 - r.val)) : ℝ) : EReal)) (hE : ∀ r n : Fin 512, k0_pay114 (F := Ideal) x2 x11 (ix2 r n) = ((di n (p + (511 - r.val)) : ℝ) : EReal)) (v : View sig .tc .vmem S1x512 .f32) (n : Fin 512) :
    v.read (Elt Ideal) (v.writes (Elt Ideal) v.junk (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.1) (ix2 0 n) = (((W (a n) (b n) (dr n) (di n) (p + 512)).1 : ℝ) : EReal) := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117) (hq n) (dr n) (di n) p (hr n) (hi n) (fun r => hD r n) (fun r => hE r n)
  rw [runB_cr c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x16 x17 x18 x19 x20 x21 x22 xs25 xs26 hc, rd_whole v off2z, pay151_at]
  exact (B n).2.2.1

set_option maxHeartbeats 1000000 in
/-- The imaginary carry after a point inside a scan. -/
theorem ciB (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i)
    (a b : Fin 512 → ℝ) (dr di : Fin 512 → ℕ → ℝ) (hq : ∀ n : Fin 512, Pows (a n) (b n) n (k0_pay115 x12) (k0_pay116 x13)) (p : ℕ) (hr : ∀ n : Fin 512, xs25 (ix2 (0 : Fin 1) n) = (((W (a n) (b n) (dr n) (di n) p).1 : ℝ) : EReal)) (hi : ∀ n : Fin 512, xs26 (ix2 (0 : Fin 1) n) = (((W (a n) (b n) (dr n) (di n) p).2 : ℝ) : EReal))
    (hD : ∀ r n : Fin 512, k0_pay113 (F := Ideal) x2 x10 (ix2 r n) = ((dr n (p + (511 - r.val)) : ℝ) : EReal)) (hE : ∀ r n : Fin 512, k0_pay114 (F := Ideal) x2 x11 (ix2 r n) = ((di n (p + (511 - r.val)) : ℝ) : EReal)) (v : View sig .tc .vmem S1x512 .f32) (n : Fin 512) :
    v.read (Elt Ideal) (v.writes (Elt Ideal) v.junk (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.2.2.1) (ix2 0 n) = (((W (a n) (b n) (dr n) (di n) (p + 512)).2 : ℝ) : EReal) := by
  have B := fun n : Fin 512 => blk_is c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay115 x12) (k0_pay116 x13) (iota .tc S8x1 32 [0] iota_S8x1_d0_w32) (Scalar.cmpi .eq (BitVec.ofNat 32 (i 1).val) 7#32) k0_pay117 (harg4.unread x4) (harg5.unread x5) (k0_pay113 x2 x10) (k0_pay114 x2 x11) (xs25, xs26, k0_pay117, k0_pay117) (hq n) (dr n) (di n) p (hr n) (hi n) (fun r => hD r n) (fun r => hE r n)
  rw [runB_ci c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x16 x17 x18 x19 x20 x21 x22 xs25 xs26 hc, rd_whole v off2z, pay152_at]
  exact (B n).2.2.2

/-- The skip's gradient after a point inside a scan. -/
theorem ddB (x2 : Vec Ideal S512x128 .f32) (x3 : Vec Ideal S512x128 .f32) (x4 : Vec Ideal S512x512 .f32) (x5 : Vec Ideal S512x512 .f32) (x6 : Vec Ideal S8x512 .f32) (x7 : Vec Ideal S8x512 .f32) (x8 : Vec Ideal S1x128x512 .bf16) (x9 : Vec Ideal S1x128x512 .bf16) (x10 : Vec Ideal S1x512x128 .bf16) (x11 : Vec Ideal S1x512x128 .bf16) (x12 : Vec Ideal S1x8x512 .f32) (x13 : Vec Ideal S1x8x512 .f32) (x14 : Vec Ideal S1x128 .f32) (x16 : Vec Ideal S1x128x512 .f32) (x17 : Vec Ideal S1x128x512 .f32) (x18 : Vec Ideal S1x512x128 .f32) (x19 : Vec Ideal S1x512x128 .f32) (x20 : Vec Ideal S1x8x512 .f32) (x21 : Vec Ideal S1x8x512 .f32) (x22 : Vec Ideal S1x128 .f32) (xs25 xs26 : Vec Ideal S1x512 .f32) (hc : ¬startsScan i) (v : View sig .tc .vmem S1x128 .f32) (l : Fin 128) :
    v.read (Elt Ideal) (v.writes (Elt Ideal) v.junk (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x2 x3 x4 x5 x6 x7 x8 x9 x10 x11 x12 x13 x14 x16 x17 x18 x19 x20 x21 x22 xs25 xs26).2.2.2.2.2.2.2.1) (ix2 0 l) = (x22 (ix2 0 l) : EReal) + ∑ r : Fin 512, (x2 (ix2 r l) : EReal) * (x3 (ix2 r l) : EReal) := by
  rw [runB_dd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x2 x3 x4 x5 x6 x7 x8 x9 x10 x11 x12 x13 x14 x16 x17 x18 x19 x20 x21 x22 xs25 xs26 hc, rd_whole v off2z, pay3_at]

end Step

end Cert.S5Ideal.Tile

end
-- ==== Proof.S5Host.lean ====
module

public import proofs.«01_k».proof.Proof.Gen.S5Ideal.Frame
public import Idealize.ShloMosaic.Lib.StableHlo.RunRead
public import Idealize.ShloMosaic.Lib.Pipeline.ValueKit
public import Idealize.ShloMosaic.Lib.Pointwise
public import Idealize.ShloMosaic.Lib.Tactic.CleanTypes

@[expose] public section

set_option maxRecDepth 16384

noncomputable section

namespace Cert.S5Ideal.Host

open Cert.S5Ideal Cert.S5Ideal.Gen Idealize.ShloMosaic Idealize.ShloMosaic.TcCoe Idealize.SL.Sem Idealize.ShloMosaic.StableHlo

variable (m : (ℓ : Loc nD τ sig) → Buf (Elt Ideal) ℓ)

/-- The eight by eight unit matrix. -/
def eye : FVec Ideal S8x8 .f32 := uitofp .f32 (cmpi .eq (addi (iotaInDim S8x8 32 0) (broadcastInDim S8x8 ![] bcast_S_S8x8 (constantI S_ 32 0#32))) (iotaInDim S8x8 32 1))

/-- The blocks of `b` on the diagonals of their groups' matrices. -/
def diagB (b : FVec Ideal S128x64x16 .f32) : FVec Ideal S16x128x512 .bf16 :=
  truncf .bf16 (shapeCast S16x128x512 (mulf
    (broadcastInDim S16x8x16x8x64 ![0, 1, 2, 3, 4] bcast_S16x8x16x1x64_S16x8x16x8x64_0_1_2_3_4
      (broadcastInDim S16x8x16x1x64 ![0, 1, 2, 4] bcast_S16x8x16x64_S16x8x16x1x64_0_1_2_4
        (transpose S16x8x16x64 [0, 1, 3, 2] (shapeCast S16x8x64x16 b shapeCasts_S128x64x16_S16x8x64x16) transposes_S16x8x64x16_S16x8x16x64_0_1_3_2)))
    (broadcastInDim S16x8x16x8x64 ![0, 1, 2, 3, 4] bcast_S1x8x1x8x1_S16x8x16x8x64_0_1_2_3_4
      (broadcastInDim S1x8x1x8x1 ![1, 3] bcast_S8x8_S1x8x1x8x1_1_3 eye))) shapeCasts_S16x8x16x8x64_S16x128x512) bitsLt_bf16_f32

/-- The blocks of `b` on the diagonals of their groups' matrices, the other way round. -/
def diagC (b : FVec Ideal S128x16x64 .f32) : FVec Ideal S16x512x128 .bf16 :=
  truncf .bf16 (shapeCast S16x512x128 (mulf
    (broadcastInDim S16x8x64x8x16 ![0, 1, 2, 3, 4] bcast_S16x8x64x1x16_S16x8x64x8x16_0_1_2_3_4
      (broadcastInDim S16x8x64x1x16 ![0, 1, 2, 4] bcast_S16x8x64x16_S16x8x64x1x16_0_1_2_4
        (transpose S16x8x64x16 [0, 1, 3, 2] (shapeCast S16x8x16x64 b shapeCasts_S128x16x64_S16x8x16x64) transposes_S16x8x16x64_S16x8x64x16_0_1_3_2)))
    (broadcastInDim S16x8x64x8x16 ![0, 1, 2, 3, 4] bcast_S1x8x1x8x1_S16x8x64x8x16_0_1_2_3_4
      (broadcastInDim S1x8x1x8x1 ![1, 3] bcast_S8x8_S1x8x1x8x1_1_3 eye))) shapeCasts_S16x8x64x8x16_S16x512x128) bitsLt_bf16_f32

/-- The powers of the multiplier, the first power at index zero. -/
def pows (r i : FVec Ideal S16x512 .f32) : ℕ → FVec Ideal S16x512 .f32 × FVec Ideal S16x512 .f32
  | 0 => (r, i)
  | k + 1 => (subf (mulf (pows r i k).1 r) (mulf (pows r i k).2 i), addf (mulf (pows r i k).1 i) (mulf (pows r i k).2 r))

/-- One power as a row of its group. -/
def row1 (x : FVec Ideal S16x512 .f32) : FVec Ideal S16x1x512 .f32 := broadcastInDim S16x1x512 ![0, 2] bcast_S16x512_S16x1x512_0_2 x

/-- Eight rows one after the other, then read from the last to the first. -/
def rev8 (x : ℕ → FVec Ideal S16x512 .f32) : FVec Ideal S16x8x512 .f32 :=
  Host.reverse [1] (concatenate S16x8x512 1 [⟨S16x1x512, row1 (x 0)⟩, ⟨S16x1x512, row1 (x 1)⟩, ⟨S16x1x512, row1 (x 2)⟩, ⟨S16x1x512, row1 (x 3)⟩,
    ⟨S16x1x512, row1 (x 4)⟩, ⟨S16x1x512, row1 (x 5)⟩, ⟨S16x1x512, row1 (x 6)⟩, ⟨S16x1x512, row1 (x 7)⟩] concatenates_S16x1x512_S16x1x512_S16x1x512_S16x1x512_S16x1x512_S16x1x512_S16x1x512_S16x1x512_S16x8x512_d1)

/-- The multipliers' real parts, by groups. -/
def zr (c : Dev nD) : FVec Ideal S16x512 .f32 := shapeCast S16x512 (m ((c : Thread nD τ).loc main_arg4)) shapeCasts_S128x64_S16x512

/-- The multipliers' imaginary parts, by groups. -/
def zi (c : Dev nD) : FVec Ideal S16x512 .f32 := shapeCast S16x512 (m ((c : Thread nD τ).loc main_arg5)) shapeCasts_S128x64_S16x512

/-- The first operand of the input gradient's products. -/
theorem v56 (c : Dev nD) : V m c main_v56 = diagB (m ((c : Thread nD τ).loc main_arg6)) := by
  after_reads_simp
  rfl

/-- The second operand of the input gradient's products. -/
theorem v57 (c : Dev nD) : V m c main_v57 = diagB (m ((c : Thread nD τ).loc main_arg7)) := by
  after_reads_simp
  rfl

/-- The operand of the states' real cotangents. -/
theorem v58 (c : Dev nD) : V m c main_v58 = diagC (m ((c : Thread nD τ).loc main_arg8)) := by
  after_reads_simp
  rfl

/-- The operand of the states' imaginary cotangents. -/
theorem v59 (c : Dev nD) : V m c main_v59 = diagC (m ((c : Thread nD τ).loc main_arg9)) := by
  after_reads_simp
  rfl

set_option maxHeartbeats 2000000 in
/-- The real parts of the powers, the eighth first. -/
theorem v122 (c : Dev nD) : V m c main_v122 = rev8 (fun k => (pows (zr m c) (zi m c) k).1) := by
  after_reads_simp
  simp only [rev8, row1, pows]
  rfl

set_option maxHeartbeats 2000000 in
/-- The negated imaginary parts of the powers, the eighth first. -/
theorem v124 (c : Dev nD) : V m c main_v124 = Host.negf (rev8 (fun k => (pows (zr m c) (zi m c) k).2)) := by
  after_reads_simp
  simp only [rev8, row1, pows]
  rfl

/-- The unit matrix at one index. -/
theorem eye_at (i j : Fin 8) : eye (ix2 i j) = if i = j then (1 : EReal) else 0 := by
  unfold eye
  pointwise
  fin_cases i <;> fin_cases j <;> simp [IntOp.cmpi, IntOp.addi, FloatOps.uitofp]

/-- The diagonal blocks at one index. -/
theorem diagB_at (b : FVec Ideal S128x64x16 .f32) (j : Fin 16) (h h' : Fin 8) (l : Fin 16) (n : Fin 64) :
    diagB b (ix3 j ⟨h.val * 16 + l.val, by omega⟩ ⟨h'.val * 64 + n.val, by omega⟩) = if h = h' then (b (ix3 ⟨j.val * 8 + h.val, by omega⟩ n l) : EReal) else 0 := by
  unfold diagB
  pointwise
  rw [eye_at]
  split
  · exact mul_one _
  · exact mul_zero _

/-- The diagonal blocks at one index, the other way round. -/
theorem diagC_at (b : FVec Ideal S128x16x64 .f32) (j : Fin 16) (h h' : Fin 8) (l : Fin 16) (n : Fin 64) :
    diagC b (ix3 j ⟨h.val * 64 + n.val, by omega⟩ ⟨h'.val * 16 + l.val, by omega⟩) = if h = h' then (b (ix3 ⟨j.val * 8 + h.val, by omega⟩ l n) : EReal) else 0 := by
  unfold diagC
  pointwise
  rw [eye_at]
  split
  · exact mul_one _
  · exact mul_zero _

/-- An array read from its last row to its first. -/
theorem reverse_at (y : FVec Ideal S16x8x512 .f32) (j : Fin 16) (s : Fin 8) (n : Fin 512) : Host.reverse [1] y (ix3 j s n) = y (ix3 j s.rev n) := by
  unfold Host.reverse
  congr 1
  funext a
  refine Fin.cases ?_ (fun a => Fin.cases ?_ (fun a => Fin.cases ?_ (fun a => a.elim0) a) a) a <;> rfl

/-- Eight rows one after the other. -/
def cat8 (x : ℕ → FVec Ideal S16x512 .f32) : FVec Ideal S16x8x512 .f32 :=
  concatenate S16x8x512 1 [⟨S16x1x512, row1 (x 0)⟩, ⟨S16x1x512, row1 (x 1)⟩, ⟨S16x1x512, row1 (x 2)⟩, ⟨S16x1x512, row1 (x 3)⟩,
    ⟨S16x1x512, row1 (x 4)⟩, ⟨S16x1x512, row1 (x 5)⟩, ⟨S16x1x512, row1 (x 6)⟩, ⟨S16x1x512, row1 (x 7)⟩] concatenates_S16x1x512_S16x1x512_S16x1x512_S16x1x512_S16x1x512_S16x1x512_S16x1x512_S16x1x512_S16x8x512_d1

/-- The rows at one index. -/
theorem cat8_at (x : ℕ → FVec Ideal S16x512 .f32) (j : Fin 16) (s : Fin 8) (n : Fin 512) : cat8 x (ix3 j s n) = x s.val (ix2 j n) := by
  unfold cat8 row1
  pointwise
  fin_vals s with hk
  all_goals simp only [hk, Nat.reduceSub, Nat.reduceLT, ↓reduceDIte]

/-- The reversed rows at one index. -/
theorem rev8_at (x : ℕ → FVec Ideal S16x512 .f32) (j : Fin 16) (s : Fin 8) (n : Fin 512) : rev8 x (ix3 j s n) = x (7 - s.val) (ix2 j n) := by
  refine (reverse_at (cat8 x) j s n).trans ((cat8_at x j s.rev n).trans ?_)
  rw [Fin.val_rev, show 8 - (s.val + 1) = 7 - s.val by omega]

set_option maxHeartbeats 1000000 in
/-- A row of the multipliers, by groups. -/
theorem zr_at (x : FVec Ideal S128x64 .f32) (j : Fin 16) (h : Fin 8) (n : Fin 64) : shapeCast S16x512 x shapeCasts_S128x64_S16x512 (ix2 j ⟨h.val * 64 + n.val, by omega⟩) = x (ix2 ⟨j.val * 8 + h.val, by omega⟩ n) := by
  pointwise
  congr 2
  exact Fin.ext (by dsimp only; omega)

end Cert.S5Ideal.Host

end
-- ==== Proof.S5Blk.lean ====
module

public import proofs.«01_k».proof.Proof.S5Host

@[expose] public section

set_option maxRecDepth 16384

noncomputable section

namespace Cert.S5Ideal.Host

open Cert.S5Ideal Cert.S5Ideal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The block index of the windows at every grid point: eight points to a group, the row blocks from the last to the first. -/
theorem idx : ∀ t : Fin cfg0.N, win0_0.index t = ![7 - t.val % 8, t.val / 8] ∧ win0_1.index t = ![7 - t.val % 8, t.val / 8]
   ∧ win0_6.index t = ![t.val / 8, 0, 0] ∧ win0_7.index t = ![t.val / 8, 0, 0] ∧ win0_8.index t = ![t.val / 8, 0, 0] ∧ win0_9.index t = ![t.val / 8, 0, 0]
   ∧ win0_10.index t = ![t.val / 8, 0, 0] ∧ win0_11.index t = ![t.val / 8, 0, 0] ∧ win0_12.index t = ![0, t.val / 8]
   ∧ win0_13.index t = ![7 - t.val % 8, t.val / 8] ∧ win0_20.index t = ![0, t.val / 8] :=
  (by decide +kernel : ∀ t : Fin grid0.N, _)

/-- The output cotangent's block. -/
theorem blk0 (c : Dev nD) (t : Fin cfg0.N) (r : Fin 512) (k : Fin 128) (ρ : Fin 4096) (κ : Fin 2048) (hρ : ρ.val = 512 * (7 - t.val % 8) + r.val) (hκ : κ.val = 128 * (t.val / 8) + k.val) :
    iblk m c 0 t (ix2 r k) = m ((c : Thread nD τ).loc main_arg0) (ix2 ρ κ) := by
  rw [← V_main_arg0 m c]
  blk_point [iblk, idx t, hρ, hκ]

/-- The input's block. -/
theorem blk1 (c : Dev nD) (t : Fin cfg0.N) (r : Fin 512) (k : Fin 128) (ρ : Fin 4096) (κ : Fin 2048) (hρ : ρ.val = 512 * (7 - t.val % 8) + r.val) (hκ : κ.val = 128 * (t.val / 8) + k.val) :
    iblk m c 1 t (ix2 r k) = m ((c : Thread nD τ).loc main_arg1) (ix2 ρ κ) := by
  rw [← V_main_arg1 m c]
  blk_point [iblk, idx t, hρ, hκ]

/-- The block of the real matrices of `B`. -/
theorem blk6 (c : Dev nD) (t : Fin cfg0.N) (j : Fin 16) (hj : j.val = t.val / 8) (l : Fin 128) (n : Fin 512) :
    iblk m c 6 t (ix3 0 l n) = diagB (m ((c : Thread nD τ).loc main_arg6)) (ix3 j l n) := by
  rw [← v56 m c]
  blk_point [iblk, idx t, hj]

/-- The block of the imaginary matrices of `B`. -/
theorem blk7 (c : Dev nD) (t : Fin cfg0.N) (j : Fin 16) (hj : j.val = t.val / 8) (l : Fin 128) (n : Fin 512) :
    iblk m c 7 t (ix3 0 l n) = diagB (m ((c : Thread nD τ).loc main_arg7)) (ix3 j l n) := by
  rw [← v57 m c]
  blk_point [iblk, idx t, hj]

/-- The block of the real matrices of `C`. -/
theorem blk8 (c : Dev nD) (t : Fin cfg0.N) (j : Fin 16) (hj : j.val = t.val / 8) (n : Fin 512) (l : Fin 128) :
    iblk m c 8 t (ix3 0 n l) = diagC (m ((c : Thread nD τ).loc main_arg8)) (ix3 j n l) := by
  rw [← v58 m c]
  blk_point [iblk, idx t, hj]

/-- The block of the imaginary matrices of `C`. -/
theorem blk9 (c : Dev nD) (t : Fin cfg0.N) (j : Fin 16) (hj : j.val = t.val / 8) (n : Fin 512) (l : Fin 128) :
    iblk m c 9 t (ix3 0 n l) = diagC (m ((c : Thread nD τ).loc main_arg9)) (ix3 j n l) := by
  rw [← v59 m c]
  blk_point [iblk, idx t, hj]

/-- The block of the powers' real parts. -/
theorem blk10 (c : Dev nD) (t : Fin cfg0.N) (j : Fin 16) (hj : j.val = t.val / 8) (s : Fin 8) (n : Fin 512) :
    iblk m c 10 t (ix3 0 s n) = rev8 (fun k => (pows (zr m c) (zi m c) k).1) (ix3 j s n) := by
  rw [← v122 m c]
  blk_point [iblk, idx t, hj]

/-- The block of the powers' negated imaginary parts. -/
theorem blk11 (c : Dev nD) (t : Fin cfg0.N) (j : Fin 16) (hj : j.val = t.val / 8) (s : Fin 8) (n : Fin 512) :
    iblk m c 11 t (ix3 0 s n) = Host.negf (F := Ideal) (rev8 (fun k => (pows (zr m c) (zi m c) k).2)) (ix3 j s n) := by
  rw [← v124 m c]
  blk_point [iblk, idx t, hj]

/-- The skip's block. -/
theorem blk12 (c : Dev nD) (t : Fin cfg0.N) (k : Fin 128) (κ : Fin 2048) (hκ : κ.val = 128 * (t.val / 8) + k.val) :
    iblk m c 12 t (ix2 0 k) = m ((c : Thread nD τ).loc main_arg10) (ix2 0 κ) := by
  rw [← V_main_arg10 m c]
  blk_point [iblk, idx t, hκ]

end Cert.S5Ideal.Host

end
-- ==== Proof.S5Sum.lean ====
module

public import proofs.«01_k».proof.Proof.S5Step
public import proofs.«01_k».proof.Proof.S5Blk

@[expose] public section

set_option maxRecDepth 16384

noncomputable section

namespace Cert.S5Ideal.Sums

open Cert.S5Math Cert.S5Ideal.Host Cert.S5Ideal.Tile
open Cert.S5Ideal Cert.S5Ideal.Gen Idealize.ShloMosaic Idealize.ShloMosaic.TcCoe Idealize.SL.Sem Idealize.ShloMosaic.StableHlo

/-- A finite sum of real numbers, taken over the extended ones. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over a group's columns, block by block. -/
theorem sum128 (f : Fin 128 → EReal) : ∑ k : Fin 128, f k = ∑ h : Fin 8, ∑ l : Fin 16, f ⟨h.val * 16 + l.val, by omega⟩ := by
  rw [← Equiv.sum_comp (finProdFinEquiv : Fin 8 × Fin 16 ≃ Fin 128) f, Fintype.sum_prod_type]
  refine Finset.sum_congr rfl fun h _ => Finset.sum_congr rfl fun l _ => congrArg f (Fin.ext ?_)
  show l.val + 16 * h.val = h.val * 16 + l.val
  omega

/-- A sum over a group's states, block by block. -/
theorem sum512 (f : Fin 512 → EReal) : ∑ k : Fin 512, f k = ∑ h : Fin 8, ∑ l : Fin 64, f ⟨h.val * 64 + l.val, by omega⟩ := by
  rw [← Equiv.sum_comp (finProdFinEquiv : Fin 8 × Fin 64 ≃ Fin 512) f, Fintype.sum_prod_type]
  refine Finset.sum_congr rfl fun h _ => Finset.sum_congr rfl fun l _ => congrArg f (Fin.ext ?_)
  show l.val + 64 * h.val = h.val * 64 + l.val
  omega

/-- A sum over all rows, row block by row block, the last block first. -/
theorem sum4096 (f : ℕ → EReal) : ∑ T ∈ Finset.range 8, ∑ r : Fin 512, f (512 * (7 - T) + r.val) = ∑ r : Fin 4096, f r.val := by
  rw [Finset.sum_range_reflect (fun T => ∑ r : Fin 512, f (512 * T + r.val)) 8 |>.symm.symm]
  rw [Finset.sum_range, ← Equiv.sum_comp (finProdFinEquiv : Fin 8 × Fin 512 ≃ Fin 4096), Fintype.sum_prod_type]
  refine Finset.sum_congr rfl fun h _ => Finset.sum_congr rfl fun l _ => congrArg f ?_
  show 512 * h.val + l.val = l.val + 512 * h.val
  omega

/-- A state of a group is a block and a state of the block. -/
theorem ex512 (n : Fin 512) : ∃ (h : Fin 8) (k : Fin 64), n = ⟨h.val * 64 + k.val, by omega⟩ :=
  ⟨⟨n.val / 64, by omega⟩, ⟨n.val % 64, by omega⟩, Fin.ext (by show n.val = n.val / 64 * 64 + n.val % 64; omega)⟩

/-- A column of a group is a block and a column of the block. -/
theorem ex128 (n : Fin 128) : ∃ (h : Fin 8) (k : Fin 16), n = ⟨h.val * 16 + k.val, by omega⟩ :=
  ⟨⟨n.val / 16, by omega⟩, ⟨n.val % 16, by omega⟩, Fin.ext (by show n.val = n.val / 16 * 16 + n.val % 16; omega)⟩

/-- The block of a group's state. -/
def HH (j : Fin 16) (n : Fin 512) : Fin 128 := ⟨j.val * 8 + n.val / 64, by omega⟩

/-- The state inside its block. -/
def NN (n : Fin 512) : Fin 64 := ⟨n.val % 64, by omega⟩

/-- The block, from its number in the group. -/
theorem HH_mk (j : Fin 16) (h : Fin 8) (k : Fin 64) (hn : h.val * 64 + k.val < 512) (hH : j.val * 8 + h.val < 128) : HH j ⟨h.val * 64 + k.val, hn⟩ = ⟨j.val * 8 + h.val, hH⟩ :=
  Fin.ext (by show j.val * 8 + (h.val * 64 + k.val) / 64 = j.val * 8 + h.val; omega)

/-- The state, from its number in the block. -/
theorem NN_mk (h : Fin 8) (k : Fin 64) (hn : h.val * 64 + k.val < 512) : NN ⟨h.val * 64 + k.val, hn⟩ = k :=
  Fin.ext (by show (h.val * 64 + k.val) % 64 = k.val; omega)

/-- The array holds real numbers. -/
def Reals {s : Shape} {e : FTy} (x : FVec Ideal s e) : Prop := ∀ i, (((x i : EReal).toReal : ℝ) : EReal) = x i

/-- The real cotangent by distance from the last row, as a real number. -/
def dR (dy : FVec Ideal S4096x2048 .f32) (cre : FVec Ideal S128x16x64 .f32) (H : Fin 128) (N : Fin 64) (k : ℕ) : ℝ :=
  ∑ j : Fin 16, (dy (ix2 ⟨4095 - k, by omega⟩ ⟨H.val * 16 + j.val, by omega⟩) : EReal).toReal * (cre (ix3 H j N) : EReal).toReal

/-- The imaginary cotangent by distance from the last row, as a real number. -/
def dI (dy : FVec Ideal S4096x2048 .f32) (cim : FVec Ideal S128x16x64 .f32) (H : Fin 128) (N : Fin 64) (k : ℕ) : ℝ :=
  ∑ j : Fin 16, -(dy (ix2 ⟨4095 - k, by omega⟩ ⟨H.val * 16 + j.val, by omega⟩) : EReal).toReal * (cim (ix3 H j N) : EReal).toReal

/-- The real cotangent at extended numbers. -/
theorem dR_coe (dy : FVec Ideal S4096x2048 .f32) (cre : FVec Ideal S128x16x64 .f32) (hdy : Reals dy) (hc : Reals cre) (H : Fin 128) (N : Fin 64) (k : ℕ) :
    ((dR dy cre H N k : ℝ) : EReal) = ∑ j : Fin 16, (dy (ix2 ⟨4095 - k, by omega⟩ ⟨H.val * 16 + j.val, by omega⟩) : EReal) * (cre (ix3 H j N) : EReal) := by
  unfold dR
  rw [coe_sum]
  exact Finset.sum_congr rfl fun j _ => by rw [EReal.coe_mul, hdy, hc]

/-- The imaginary cotangent at extended numbers. -/
theorem dI_coe (dy : FVec Ideal S4096x2048 .f32) (cim : FVec Ideal S128x16x64 .f32) (hdy : Reals dy) (hc : Reals cim) (H : Fin 128) (N : Fin 64) (k : ℕ) :
    ((dI dy cim H N k : ℝ) : EReal) = ∑ j : Fin 16, -(dy (ix2 ⟨4095 - k, by omega⟩ ⟨H.val * 16 + j.val, by omega⟩) : EReal) * (cim (ix3 H j N) : EReal) := by
  unfold dI
  rw [coe_sum]
  exact Finset.sum_congr rfl fun j _ => by rw [EReal.coe_mul, EReal.coe_neg, hdy, hc]

/-- The negated sum is the sum of the negated terms. -/
theorem dI_neg (dy : FVec Ideal S4096x2048 .f32) (cim : FVec Ideal S128x16x64 .f32) (H : Fin 128) (N : Fin 64) (k : ℕ) : dI dy cim H N k = 0 - dR dy cim H N k := by
  unfold dI dR
  rw [zero_sub, ← Finset.sum_neg_distrib]
  exact Finset.sum_congr rfl fun j _ => neg_mul _ _

/-- One row of a cotangent block times one column of a group's matrix of `C`. -/
theorem row_sum (tv : ℕ) (j : Fin 16) (hj : j.val = tv / 8) (dy : FVec Ideal S4096x2048 .f32) (w : FVec Ideal S128x16x64 .f32) (X : FVec Ideal S512x128 .f32) (Y : FVec Ideal S1x512x128 .bf16)
    (hX : ∀ (r : Fin 512) (k : Fin 128) (ρ : Fin 4096) (κ : Fin 2048), ρ.val = 512 * (7 - tv % 8) + r.val → κ.val = 128 * (tv / 8) + k.val → X (ix2 r k) = dy (ix2 ρ κ))
    (hY : ∀ (n : Fin 512) (l : Fin 128), Y (ix3 0 n l) = diagC w (ix3 j n l)) (hdy : Reals dy) (hw : Reals w) (r n : Fin 512) :
    ∑ k : Fin 128, (X (ix2 r k) : EReal) * (Y (ix3 0 n k) : EReal) = ((dR dy w (HH j n) (NN n) (512 * (tv % 8) + (511 - r.val)) : ℝ) : EReal) := by
  obtain ⟨h, k, rfl⟩ := ex512 n
  have hh := h.isLt
  have hr := r.isLt
  have hjj := j.isLt
  rw [sum128, dR_coe _ _ hdy hw, HH_mk j h k _ (by omega), NN_mk]
  rw [Finset.sum_eq_single h]
  · refine Finset.sum_congr rfl fun l _ => ?_
    have hl := l.isLt
    rw [hY, diagC_at, if_pos rfl]
    rw [hX r _ ⟨4095 - (512 * (tv % 8) + (511 - r.val)), by omega⟩ ⟨(j.val * 8 + h.val) * 16 + l.val, by omega⟩ (by dsimp only; omega) (by dsimp only; omega)]
  · intro h' _ hne
    refine Finset.sum_eq_zero fun l _ => ?_
    rw [hY, diagC_at, if_neg (Ne.symm hne), mul_zero]
  · exact fun hn => absurd (Finset.mem_univ _) hn

/-- The real cotangents of the states of a group, from the blocks. -/
theorem D_at (tv : ℕ) (j : Fin 16) (hj : j.val = tv / 8) (dy : FVec Ideal S4096x2048 .f32) (w : FVec Ideal S128x16x64 .f32) (X : FVec Ideal S512x128 .f32) (Y : FVec Ideal S1x512x128 .bf16)
    (hX : ∀ (r : Fin 512) (k : Fin 128) (ρ : Fin 4096) (κ : Fin 2048), ρ.val = 512 * (7 - tv % 8) + r.val → κ.val = 128 * (tv / 8) + k.val → X (ix2 r k) = dy (ix2 ρ κ))
    (hY : ∀ (n : Fin 512) (l : Fin 128), Y (ix3 0 n l) = diagC w (ix3 j n l)) (hdy : Reals dy) (hw : Reals w) (r n : Fin 512) :
    k0_pay113 (F := Ideal) X Y (ix2 r n) = ((dR dy w (HH j n) (NN n) (512 * (tv % 8) + (511 - r.val)) : ℝ) : EReal) :=
  (pay113_at X Y r n).trans (row_sum tv j hj dy w X Y hX hY hdy hw r n)

/-- The imaginary cotangents of the states of a group, from the blocks. -/
theorem E_at (tv : ℕ) (j : Fin 16) (hj : j.val = tv / 8) (dy : FVec Ideal S4096x2048 .f32) (w : FVec Ideal S128x16x64 .f32) (X : FVec Ideal S512x128 .f32) (Y : FVec Ideal S1x512x128 .bf16)
    (hX : ∀ (r : Fin 512) (k : Fin 128) (ρ : Fin 4096) (κ : Fin 2048), ρ.val = 512 * (7 - tv % 8) + r.val → κ.val = 128 * (tv / 8) + k.val → X (ix2 r k) = dy (ix2 ρ κ))
    (hY : ∀ (n : Fin 512) (l : Fin 128), Y (ix3 0 n l) = diagC w (ix3 j n l)) (hdy : Reals dy) (hw : Reals w) (r n : Fin 512) :
    k0_pay114 (F := Ideal) X Y (ix2 r n) = ((dI dy w (HH j n) (NN n) (512 * (tv % 8) + (511 - r.val)) : ℝ) : EReal) := by
  refine (pay114_at X Y r n).trans ?_
  rw [dI_neg, EReal.coe_sub, EReal.coe_zero]
  exact congrArg (fun z : EReal => 0 - z) (row_sum tv j hj dy w X Y hX hY hdy hw r n)

/-- The powers' recurrence at one state, over the real numbers. -/
theorem pows_at (r i : FVec Ideal S16x512 .f32) (j : Fin 16) (n : Fin 512) (a b : ℝ) (ha : r (ix2 j n) = (a : EReal)) (hb : i (ix2 j n) = (b : EReal)) (k : ℕ) :
    (pows r i k).1 (ix2 j n) = (((pw a b k).1 : ℝ) : EReal) ∧ (pows r i k).2 (ix2 j n) = (((pw a b k).2 : ℝ) : EReal) := by
  induction k with
  | zero => exact ⟨ha, hb⟩
  | succ k ih =>
    obtain ⟨h1, h2⟩ := ih
    constructor
    · show ((pows r i k).1 (ix2 j n) : EReal) * (r (ix2 j n) : EReal) - ((pows r i k).2 (ix2 j n) : EReal) * (i (ix2 j n) : EReal) = _
      rw [h1, h2, ha, hb, ← EReal.coe_mul, ← EReal.coe_mul, ← EReal.coe_sub]
      rfl
    · show ((pows r i k).1 (ix2 j n) : EReal) * (i (ix2 j n) : EReal) + ((pows r i k).2 (ix2 j n) : EReal) * (r (ix2 j n) : EReal) = _
      rw [h1, h2, ha, hb, ← EReal.coe_mul, ← EReal.coe_mul, ← EReal.coe_add]
      rfl

/-- One state's entry of the eigenvalues as a real number. -/
def lam (x : FVec Ideal S128x64 .f32) (j : Fin 16) (n : Fin 512) : ℝ := (x (ix2 (HH j n) (NN n)) : EReal).toReal

/-- One state's entry of the eigenvalues, at a group and a column. -/
theorem lam_at (x : FVec Ideal S128x64 .f32) (hx : Reals x) (j : Fin 16) (n : Fin 512) : shapeCast S16x512 x shapeCasts_S128x64_S16x512 (ix2 j n) = ((lam x j n : ℝ) : EReal) := by
  obtain ⟨h, k, rfl⟩ := ex512 n
  unfold lam
  rw [zr_at, hx, HH_mk j h k _ (by omega), NN_mk]

/-- The kernel's tables are the powers of the eigenvalues. -/
theorem hq (lr li : FVec Ideal S128x64 .f32) (hr : Reals lr) (hi : Reals li) (j : Fin 16) (X Y : FVec Ideal S1x8x512 .f32)
    (hX : ∀ (s : Fin 8) (n : Fin 512), X (ix3 0 s n) = rev8 (fun k => (pows (shapeCast S16x512 lr shapeCasts_S128x64_S16x512) (shapeCast S16x512 li shapeCasts_S128x64_S16x512) k).1) (ix3 j s n))
    (hY : ∀ (s : Fin 8) (n : Fin 512), Y (ix3 0 s n) = Host.negf (F := Ideal) (rev8 (fun k => (pows (shapeCast S16x512 lr shapeCasts_S128x64_S16x512) (shapeCast S16x512 li shapeCasts_S128x64_S16x512) k).2)) (ix3 j s n)) (n : Fin 512) :
    Pows (lam lr j n) (lam li j n) n (k0_pay115 (F := Ideal) X) (k0_pay116 (F := Ideal) Y) where
  re := fun s => by
    rw [pay115_at, hX, rev8_at]
    exact (pows_at _ _ j n _ _ (lam_at _ hr j n) (lam_at _ hi j n) (7 - s.val)).1
  im := fun s => by
    rw [pay116_at, hY]
    show -(rev8 (fun k => (pows (shapeCast S16x512 lr shapeCasts_S128x64_S16x512) (shapeCast S16x512 li shapeCasts_S128x64_S16x512) k).2) (ix3 j s n) : EReal) = _
    rw [rev8_at, EReal.coe_neg]
    exact congrArg (fun z : EReal => -z) (pows_at _ _ j n _ _ (lam_at _ hr j n) (lam_at _ hi j n) (7 - s.val)).2

/-- A group's block of the input gradient is its sum over the states of the block. -/
theorem duAt_at (tv : ℕ) (j : Fin 16) (hj : j.val = tv / 8) (dy : FVec Ideal S4096x2048 .f32) (br bi : FVec Ideal S128x64x16 .f32) (dd : FVec Ideal S1x2048 .f32) (X : FVec Ideal S512x128 .f32) (Y Z : FVec Ideal S1x128x512 .bf16) (D : FVec Ideal S1x128 .f32)
    (hX : ∀ (r : Fin 512) (k : Fin 128) (ρ : Fin 4096) (κ : Fin 2048), ρ.val = 512 * (7 - tv % 8) + r.val → κ.val = 128 * (tv / 8) + k.val → X (ix2 r k) = dy (ix2 ρ κ))
    (hY : ∀ (l : Fin 128) (n : Fin 512), Y (ix3 0 l n) = diagB br (ix3 j l n)) (hZ : ∀ (l : Fin 128) (n : Fin 512), Z (ix3 0 l n) = diagB bi (ix3 j l n))
    (hD : ∀ (k : Fin 128) (κ : Fin 2048), κ.val = 128 * (tv / 8) + k.val → D (ix2 0 k) = dd (ix2 0 κ))
    (gr gi : Fin 512 → ℝ) (r : Fin 512) (h : Fin 8) (l : Fin 16) (ρ : Fin 4096) (H : Fin 128) (hρ : ρ.val = 512 * (7 - tv % 8) + r.val) (hH : H.val = j.val * 8 + h.val) :
    duAt X Y Z D gr gi r ⟨h.val * 16 + l.val, by omega⟩
      = ((∑ n : Fin 64, ((gr ⟨h.val * 64 + n.val, by omega⟩ : ℝ) : EReal) * (br (ix3 H n l) : EReal)) + ∑ n : Fin 64, ((gi ⟨h.val * 64 + n.val, by omega⟩ : ℝ) : EReal) * (bi (ix3 H n l) : EReal))
        + (dd (ix2 0 ⟨H.val * 16 + l.val, by omega⟩) : EReal) * (dy (ix2 ρ ⟨H.val * 16 + l.val, by omega⟩) : EReal) := by
  have hh := h.isLt
  have hl := l.isLt
  have K : ∀ (b : FVec Ideal S128x64x16 .f32) (V : FVec Ideal S1x128x512 .bf16) (g : Fin 512 → ℝ), (∀ (l : Fin 128) (n : Fin 512), V (ix3 0 l n) = diagB b (ix3 j l n)) →
      ∑ n : Fin 512, ((g n : ℝ) : EReal) * (V (ix3 0 ⟨h.val * 16 + l.val, by omega⟩ n) : EReal) = ∑ n : Fin 64, ((g ⟨h.val * 64 + n.val, by omega⟩ : ℝ) : EReal) * (b (ix3 H n l) : EReal) := by
    intro b V g hV
    rw [sum512, Finset.sum_eq_single h]
    · refine Finset.sum_congr rfl fun n _ => ?_
      rw [hV, diagB_at, if_pos rfl, show (⟨j.val * 8 + h.val, by omega⟩ : Fin 128) = H from Fin.ext hH.symm]
    · intro h' _ hne
      refine Finset.sum_eq_zero fun n _ => ?_
      rw [hV, diagB_at, if_neg (Ne.symm hne), mul_zero]
    · exact fun hn => absurd (Finset.mem_univ _) hn
  unfold duAt
  rw [K br Y gr hY, K bi Z gi hZ, hD _ ⟨H.val * 16 + l.val, by omega⟩ (by dsimp only; omega), hX r _ ρ ⟨H.val * 16 + l.val, by omega⟩ hρ (by dsimp only; omega)]

end Cert.S5Ideal.Sums

end
-- ==== Proof.S5Left.lean ====
module

public import proofs.«01_k».proof.Proof.S5RunA
public import proofs.«01_k».proof.Proof.S5RunB
public import Idealize.ShloMosaic.Lib.Ring
public import Idealize.ShloMosaic.Lib.Pipeline.FrameBody

@[expose] public section

set_option maxRecDepth 16384

noncomputable section

namespace Cert.S5Ideal.Body

open Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called on -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128x512 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128x512 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x512x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x512x128 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x8x512 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x8x512 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x128 .f32 := win0_20.stage (cfg0.slots t 20)
abbrev hs20 (t : Fin cfg0.N) : (ms20 t).IsWhole := hstage0_20 ((cfg0.slots t 20).cast nbuf0_20)
abbrev sc0 : Memref sig .tc .vmem S512x512 .f32 := Memref.whole cc0_scratch0
abbrev sc1 : Memref sig .tc .vmem S512x512 .f32 := Memref.whole cc0_scratch1
abbrev sc2 : Memref sig .tc .vmem S1x512 .f32 := Memref.whole cc0_scratch2
abbrev sc3 : Memref sig .tc .vmem S1x512 .f32 := Memref.whole cc0_scratch3

/-- What the launch hands the body besides the windows: the four scratch buffers at some contents, and the generator. -/
theorem PhiA_eq (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What a point leaves: the eight output blocks and the two carried rows of the scan. -/
structure Left (F : FTy → Type) where
  o15 : Vec F S512x128 .f32
  o16 : Vec F S1x128x512 .f32
  o17 : Vec F S1x128x512 .f32
  o18 : Vec F S1x512x128 .f32
  o19 : Vec F S1x512x128 .f32
  o20 : Vec F S1x8x512 .f32
  o21 : Vec F S1x8x512 .f32
  o22 : Vec F S1x128 .f32
  c25 : Vec F S1x512 .f32
  c26 : Vec F S1x512 .f32

/-- The body's run at a point that opens a group's scan, on that point's buffers and blocks. -/
noncomputable abbrev atA (c : Dev nD) (t : Fin cfg0.N) (h : startsScan (grid0.coords t)) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) sc0 (Memref.isWhole_whole _) sc1 (Memref.isWhole_whole _) sc2 (Memref.isWhole_whole _) sc3 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at any other point, over what the point before left. -/
noncomputable abbrev atB (c : Dev nD) (t : Fin cfg0.N) (h : ¬startsScan (grid0.coords t)) (p : Left F) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) sc0 (Memref.isWhole_whole _) sc1 (Memref.isWhole_whole _) sc2 (Memref.isWhole_whole _) sc3 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.o16 p.o17 p.o18 p.o19 p.o20 p.o21 p.o22 p.c25 p.c26

/-- The run at a point that opens a scan writes the whole input gradient block. -/
theorem coverA15 (c : Dev nD) (t : Fin cfg0.N) (h : startsScan (grid0.coords t)) (y : S512x128.Idx) : ∃ pc ∈ (atA m c t h).1, y ∈ pc.1.set :=
  View.cover_of_tiledL (atA m c t h).1 S512x128.size (by sl_kernel_rfl) y
/-- The run at a point that opens a scan writes the whole first B-gradient block. -/
theorem coverA16 (c : Dev nD) (t : Fin cfg0.N) (h : startsScan (grid0.coords t)) (y : S1x128x512.Idx) : ∃ pc ∈ (atA m c t h).2.1, y ∈ pc.1.set :=
  View.cover_of_tiledL (atA m c t h).2.1 S1x128x512.size (by sl_kernel_rfl) y
/-- The run at a point that opens a scan writes the whole second B-gradient block. -/
theorem coverA17 (c : Dev nD) (t : Fin cfg0.N) (h : startsScan (grid0.coords t)) (y : S1x128x512.Idx) : ∃ pc ∈ (atA m c t h).2.2.1, y ∈ pc.1.set :=
  View.cover_of_tiledL (atA m c t h).2.2.1 S1x128x512.size (by sl_kernel_rfl) y
/-- The run at a point that opens a scan writes the whole first C-gradient block. -/
theorem coverA18 (c : Dev nD) (t : Fin cfg0.N) (h : startsScan (grid0.coords t)) (y : S1x512x128.Idx) : ∃ pc ∈ (atA m c t h).2.2.2.1, y ∈ pc.1.set :=
  View.cover_of_tiledL (atA m c t h).2.2.2.1 S1x512x128.size (by sl_kernel_rfl) y
/-- The run at a point that opens a scan writes the whole second C-gradient block. -/
theorem coverA19 (c : Dev nD) (t : Fin cfg0.N) (h : startsScan (grid0.coords t)) (y : S1x512x128.Idx) : ∃ pc ∈ (atA m c t h).2.2.2.2.1, y ∈ pc.1.set :=
  View.cover_of_tiledL (atA m c t h).2.2.2.2.1 S1x512x128.size (by sl_kernel_rfl) y
/-- The run at a point that opens a scan writes the whole first multiplier gradient block. -/
theorem coverA20 (c : Dev nD) (t : Fin cfg0.N) (h : startsScan (grid0.coords t)) (y : S1x8x512.Idx) : ∃ pc ∈ (atA m c t h).2.2.2.2.2.1, y ∈ pc.1.set :=
  View.cover_of_tiledL (atA m c t h).2.2.2.2.2.1 S1x8x512.size (by sl_kernel_rfl) y
/-- The run at a point that opens a scan writes the whole second multiplier gradient block. -/
theorem coverA21 (c : Dev nD) (t : Fin cfg0.N) (h : startsScan (grid0.coords t)) (y : S1x8x512.Idx) : ∃ pc ∈ (atA m c t h).2.2.2.2.2.2.1, y ∈ pc.1.set :=
  View.cover_of_tiledL (atA m c t h).2.2.2.2.2.2.1 S1x8x512.size (by sl_kernel_rfl) y
/-- The run at a point that opens a scan writes the whole skip gradient block. -/
theorem coverA22 (c : Dev nD) (t : Fin cfg0.N) (h : startsScan (grid0.coords t)) (y : S1x128.Idx) : ∃ pc ∈ (atA m c t h).2.2.2.2.2.2.2.1, y ∈ pc.1.set :=
  View.cover_of_tiledL (atA m c t h).2.2.2.2.2.2.2.1 S1x128.size (by sl_kernel_rfl) y
/-- The run at a point that opens a scan writes the whole carried real row block. -/
theorem coverA25 (c : Dev nD) (t : Fin cfg0.N) (h : startsScan (grid0.coords t)) (y : S1x512.Idx) : ∃ pc ∈ (atA m c t h).2.2.2.2.2.2.2.2.1, y ∈ pc.1.set :=
  View.cover_of_tiledL (atA m c t h).2.2.2.2.2.2.2.2.1 S1x512.size (by sl_kernel_rfl) y
/-- The run at a point that opens a scan writes the whole carried imaginary row block. -/
theorem coverA26 (c : Dev nD) (t : Fin cfg0.N) (h : startsScan (grid0.coords t)) (y : S1x512.Idx) : ∃ pc ∈ (atA m c t h).2.2.2.2.2.2.2.2.2.1, y ∈ pc.1.set :=
  View.cover_of_tiledL (atA m c t h).2.2.2.2.2.2.2.2.2.1 S1x512.size (by sl_kernel_rfl) y

/-- What the body leaves at such a point: the pieces its run wrote, read back. -/
noncomputable def leftA (c : Dev nD) (t : Fin cfg0.N) (h : startsScan (grid0.coords t)) : Left F where
  o15 := View.read (Elt F) (Memref.whole cc0_stg13_0 : Memref sig .tc .vmem S512x128 .f32).view (View.writes (Memref.whole cc0_stg13_0 : Memref sig .tc .vmem S512x128 .f32).view (Elt F) (View.junk (Memref.whole cc0_stg13_0 : Memref sig .tc .vmem S512x128 .f32).view) (atA m c t h).1)
  o16 := View.read (Elt F) (Memref.whole cc0_stg14_0 : Memref sig .tc .vmem S1x128x512 .f32).view (View.writes (Memref.whole cc0_stg14_0 : Memref sig .tc .vmem S1x128x512 .f32).view (Elt F) (View.junk (Memref.whole cc0_stg14_0 : Memref sig .tc .vmem S1x128x512 .f32).view) (atA m c t h).2.1)
  o17 := View.read (Elt F) (Memref.whole cc0_stg15_0 : Memref sig .tc .vmem S1x128x512 .f32).view (View.writes (Memref.whole cc0_stg15_0 : Memref sig .tc .vmem S1x128x512 .f32).view (Elt F) (View.junk (Memref.whole cc0_stg15_0 : Memref sig .tc .vmem S1x128x512 .f32).view) (atA m c t h).2.2.1)
  o18 := View.read (Elt F) (Memref.whole cc0_stg16_0 : Memref sig .tc .vmem S1x512x128 .f32).view (View.writes (Memref.whole cc0_stg16_0 : Memref sig .tc .vmem S1x512x128 .f32).view (Elt F) (View.junk (Memref.whole cc0_stg16_0 : Memref sig .tc .vmem S1x512x128 .f32).view) (atA m c t h).2.2.2.1)
  o19 := View.read (Elt F) (Memref.whole cc0_stg17_0 : Memref sig .tc .vmem S1x512x128 .f32).view (View.writes (Memref.whole cc0_stg17_0 : Memref sig .tc .vmem S1x512x128 .f32).view (Elt F) (View.junk (Memref.whole cc0_stg17_0 : Memref sig .tc .vmem S1x512x128 .f32).view) (atA m c t h).2.2.2.2.1)
  o20 := View.read (Elt F) (Memref.whole cc0_stg18_0 : Memref sig .tc .vmem S1x8x512 .f32).view (View.writes (Memref.whole cc0_stg18_0 : Memref sig .tc .vmem S1x8x512 .f32).view (Elt F) (View.junk (Memref.whole cc0_stg18_0 : Memref sig .tc .vmem S1x8x512 .f32).view) (atA m c t h).2.2.2.2.2.1)
  o21 := View.read (Elt F) (Memref.whole cc0_stg19_0 : Memref sig .tc .vmem S1x8x512 .f32).view (View.writes (Memref.whole cc0_stg19_0 : Memref sig .tc .vmem S1x8x512 .f32).view (Elt F) (View.junk (Memref.whole cc0_stg19_0 : Memref sig .tc .vmem S1x8x512 .f32).view) (atA m c t h).2.2.2.2.2.2.1)
  o22 := View.read (Elt F) (Memref.whole cc0_stg20_0 : Memref sig .tc .vmem S1x128 .f32).view (View.writes (Memref.whole cc0_stg20_0 : Memref sig .tc .vmem S1x128 .f32).view (Elt F) (View.junk (Memref.whole cc0_stg20_0 : Memref sig .tc .vmem S1x128 .f32).view) (atA m c t h).2.2.2.2.2.2.2.1)
  c25 := View.read (Elt F) sc2.view (View.writes sc2.view (Elt F) (View.junk sc2.view) (atA m c t h).2.2.2.2.2.2.2.2.1)
  c26 := View.read (Elt F) sc3.view (View.writes sc3.view (Elt F) (View.junk sc3.view) (atA m c t h).2.2.2.2.2.2.2.2.2.1)

/-- The run at a point inside a scan writes the whole input gradient block. -/
theorem coverB15 (c : Dev nD) (t : Fin cfg0.N) (h : ¬startsScan (grid0.coords t)) (p : Left F) (y : S512x128.Idx) : ∃ pc ∈ (atB m c t h p).1, y ∈ pc.1.set :=
  View.cover_of_tiledL (atB m c t h p).1 S512x128.size (by sl_kernel_rfl) y
/-- The run at a point inside a scan writes the whole first B-gradient block. -/
theorem coverB16 (c : Dev nD) (t : Fin cfg0.N) (h : ¬startsScan (grid0.coords t)) (p : Left F) (y : S1x128x512.Idx) : ∃ pc ∈ (atB m c t h p).2.1, y ∈ pc.1.set :=
  View.cover_of_tiledL (atB m c t h p).2.1 S1x128x512.size (by sl_kernel_rfl) y
/-- The run at a point inside a scan writes the whole second B-gradient block. -/
theorem coverB17 (c : Dev nD) (t : Fin cfg0.N) (h : ¬startsScan (grid0.coords t)) (p : Left F) (y : S1x128x512.Idx) : ∃ pc ∈ (atB m c t h p).2.2.1, y ∈ pc.1.set :=
  View.cover_of_tiledL (atB m c t h p).2.2.1 S1x128x512.size (by sl_kernel_rfl) y
/-- The run at a point inside a scan writes the whole first C-gradient block. -/
theorem coverB18 (c : Dev nD) (t : Fin cfg0.N) (h : ¬startsScan (grid0.coords t)) (p : Left F) (y : S1x512x128.Idx) : ∃ pc ∈ (atB m c t h p).2.2.2.1, y ∈ pc.1.set :=
  View.cover_of_tiledL (atB m c t h p).2.2.2.1 S1x512x128.size (by sl_kernel_rfl) y
/-- The run at a point inside a scan writes the whole second C-gradient block. -/
theorem coverB19 (c : Dev nD) (t : Fin cfg0.N) (h : ¬startsScan (grid0.coords t)) (p : Left F) (y : S1x512x128.Idx) : ∃ pc ∈ (atB m c t h p).2.2.2.2.1, y ∈ pc.1.set :=
  View.cover_of_tiledL (atB m c t h p).2.2.2.2.1 S1x512x128.size (by sl_kernel_rfl) y
/-- The run at a point inside a scan writes the whole first multiplier gradient block. -/
theorem coverB20 (c : Dev nD) (t : Fin cfg0.N) (h : ¬startsScan (grid0.coords t)) (p : Left F) (y : S1x8x512.Idx) : ∃ pc ∈ (atB m c t h p).2.2.2.2.2.1, y ∈ pc.1.set :=
  View.cover_of_tiledL (atB m c t h p).2.2.2.2.2.1 S1x8x512.size (by sl_kernel_rfl) y
/-- The run at a point inside a scan writes the whole second multiplier gradient block. -/
theorem coverB21 (c : Dev nD) (t : Fin cfg0.N) (h : ¬startsScan (grid0.coords t)) (p : Left F) (y : S1x8x512.Idx) : ∃ pc ∈ (atB m c t h p).2.2.2.2.2.2.1, y ∈ pc.1.set :=
  View.cover_of_tiledL (atB m c t h p).2.2.2.2.2.2.1 S1x8x512.size (by sl_kernel_rfl) y
/-- The run at a point inside a scan writes the whole skip gradient block. -/
theorem coverB22 (c : Dev nD) (t : Fin cfg0.N) (h : ¬startsScan (grid0.coords t)) (p : Left F) (y : S1x128.Idx) : ∃ pc ∈ (atB m c t h p).2.2.2.2.2.2.2.1, y ∈ pc.1.set :=
  View.cover_of_tiledL (atB m c t h p).2.2.2.2.2.2.2.1 S1x128.size (by sl_kernel_rfl) y
/-- The run at a point inside a scan writes the whole carried real row block. -/
theorem coverB25 (c : Dev nD) (t : Fin cfg0.N) (h : ¬startsScan (grid0.coords t)) (p : Left F) (y : S1x512.Idx) : ∃ pc ∈ (atB m c t h p).2.2.2.2.2.2.2.2.1, y ∈ pc.1.set :=
  View.cover_of_tiledL (atB m c t h p).2.2.2.2.2.2.2.2.1 S1x512.size (by sl_kernel_rfl) y
/-- The run at a point inside a scan writes the whole carried imaginary row block. -/
theorem coverB26 (c : Dev nD) (t : Fin cfg0.N) (h : ¬startsScan (grid0.coords t)) (p : Left F) (y : S1x512.Idx) : ∃ pc ∈ (atB m c t h p).2.2.2.2.2.2.2.2.2.1, y ∈ pc.1.set :=
  View.cover_of_tiledL (atB m c t h p).2.2.2.2.2.2.2.2.2.1 S1x512.size (by sl_kernel_rfl) y

/-- What the body leaves at such a point: the pieces its run wrote, read back. -/
noncomputable def leftB (c : Dev nD) (t : Fin cfg0.N) (h : ¬startsScan (grid0.coords t)) (p : Left F) : Left F where
  o15 := View.read (Elt F) (Memref.whole cc0_stg13_0 : Memref sig .tc .vmem S512x128 .f32).view (View.writes (Memref.whole cc0_stg13_0 : Memref sig .tc .vmem S512x128 .f32).view (Elt F) (View.junk (Memref.whole cc0_stg13_0 : Memref sig .tc .vmem S512x128 .f32).view) (atB m c t h p).1)
  o16 := View.read (Elt F) (Memref.whole cc0_stg14_0 : Memref sig .tc .vmem S1x128x512 .f32).view (View.writes (Memref.whole cc0_stg14_0 : Memref sig .tc .vmem S1x128x512 .f32).view (Elt F) (View.junk (Memref.whole cc0_stg14_0 : Memref sig .tc .vmem S1x128x512 .f32).view) (atB m c t h p).2.1)
  o17 := View.read (Elt F) (Memref.whole cc0_stg15_0 : Memref sig .tc .vmem S1x128x512 .f32).view (View.writes (Memref.whole cc0_stg15_0 : Memref sig .tc .vmem S1x128x512 .f32).view (Elt F) (View.junk (Memref.whole cc0_stg15_0 : Memref sig .tc .vmem S1x128x512 .f32).view) (atB m c t h p).2.2.1)
  o18 := View.read (Elt F) (Memref.whole cc0_stg16_0 : Memref sig .tc .vmem S1x512x128 .f32).view (View.writes (Memref.whole cc0_stg16_0 : Memref sig .tc .vmem S1x512x128 .f32).view (Elt F) (View.junk (Memref.whole cc0_stg16_0 : Memref sig .tc .vmem S1x512x128 .f32).view) (atB m c t h p).2.2.2.1)
  o19 := View.read (Elt F) (Memref.whole cc0_stg17_0 : Memref sig .tc .vmem S1x512x128 .f32).view (View.writes (Memref.whole cc0_stg17_0 : Memref sig .tc .vmem S1x512x128 .f32).view (Elt F) (View.junk (Memref.whole cc0_stg17_0 : Memref sig .tc .vmem S1x512x128 .f32).view) (atB m c t h p).2.2.2.2.1)
  o20 := View.read (Elt F) (Memref.whole cc0_stg18_0 : Memref sig .tc .vmem S1x8x512 .f32).view (View.writes (Memref.whole cc0_stg18_0 : Memref sig .tc .vmem S1x8x512 .f32).view (Elt F) (View.junk (Memref.whole cc0_stg18_0 : Memref sig .tc .vmem S1x8x512 .f32).view) (atB m c t h p).2.2.2.2.2.1)
  o21 := View.read (Elt F) (Memref.whole cc0_stg19_0 : Memref sig .tc .vmem S1x8x512 .f32).view (View.writes (Memref.whole cc0_stg19_0 : Memref sig .tc .vmem S1x8x512 .f32).view (Elt F) (View.junk (Memref.whole cc0_stg19_0 : Memref sig .tc .vmem S1x8x512 .f32).view) (atB m c t h p).2.2.2.2.2.2.1)
  o22 := View.read (Elt F) (Memref.whole cc0_stg20_0 : Memref sig .tc .vmem S1x128 .f32).view (View.writes (Memref.whole cc0_stg20_0 : Memref sig .tc .vmem S1x128 .f32).view (Elt F) (View.junk (Memref.whole cc0_stg20_0 : Memref sig .tc .vmem S1x128 .f32).view) (atB m c t h p).2.2.2.2.2.2.2.1)
  c25 := View.read (Elt F) sc2.view (View.writes sc2.view (Elt F) (View.junk sc2.view) (atB m c t h p).2.2.2.2.2.2.2.2.1)
  c26 := View.read (Elt F) sc3.view (View.writes sc3.view (Elt F) (View.junk sc3.view) (atB m c t h p).2.2.2.2.2.2.2.2.2.1)

/-- The input gradient block, whatever it held, reads as what the point leaves. -/
theorem readA15 (c : Dev nD) (t : Fin cfg0.N) (h : startsScan (grid0.coords t)) (v : View sig .tc .vmem S512x128 .f32) (f : v.ty.Contents (Elt F)) :
    View.read (Elt F) v (v.writes (Elt F) f (atA m c t h).1) = (leftA m c t h).o15 := by
  refine (View.read_writes_of_cover v f (Memref.whole cc0_stg13_0 : Memref sig .tc .vmem S512x128 .f32).view (View.junk (Memref.whole cc0_stg13_0 : Memref sig .tc .vmem S512x128 .f32).view) (atA m c t h).1 (coverA15 m c t h)).trans ?_
  delta leftA
  dsimp only

/-- The first B-gradient block, whatever it held, reads as what the point leaves. -/
theorem readA16 (c : Dev nD) (t : Fin cfg0.N) (h : startsScan (grid0.coords t)) (v : View sig .tc .vmem S1x128x512 .f32) (f : v.ty.Contents (Elt F)) :
    View.read (Elt F) v (v.writes (Elt F) f (atA m c t h).2.1) = (leftA m c t h).o16 := by
  refine (View.read_writes_of_cover v f (Memref.whole cc0_stg14_0 : Memref sig .tc .vmem S1x128x512 .f32).view (View.junk (Memref.whole cc0_stg14_0 : Memref sig .tc .vmem S1x128x512 .f32).view) (atA m c t h).2.1 (coverA16 m c t h)).trans ?_
  delta leftA
  dsimp only

/-- The second B-gradient block, whatever it held, reads as what the point leaves. -/
theorem readA17 (c : Dev nD) (t : Fin cfg0.N) (h : startsScan (grid0.coords t)) (v : View sig .tc .vmem S1x128x512 .f32) (f : v.ty.Contents (Elt F)) :
    View.read (Elt F) v (v.writes (Elt F) f (atA m c t h).2.2.1) = (leftA m c t h).o17 := by
  refine (View.read_writes_of_cover v f (Memref.whole cc0_stg15_0 : Memref sig .tc .vmem S1x128x512 .f32).view (View.junk (Memref.whole cc0_stg15_0 : Memref sig .tc .vmem S1x128x512 .f32).view) (atA m c t h).2.2.1 (coverA17 m c t h)).trans ?_
  delta leftA
  dsimp only

/-- The first C-gradient block, whatever it held, reads as what the point leaves. -/
theorem readA18 (c : Dev nD) (t : Fin cfg0.N) (h : startsScan (grid0.coords t)) (v : View sig .tc .vmem S1x512x128 .f32) (f : v.ty.Contents (Elt F)) :
    View.read (Elt F) v (v.writes (Elt F) f (atA m c t h).2.2.2.1) = (leftA m c t h).o18 := by
  refine (View.read_writes_of_cover v f (Memref.whole cc0_stg16_0 : Memref sig .tc .vmem S1x512x128 .f32).view (View.junk (Memref.whole cc0_stg16_0 : Memref sig .tc .vmem S1x512x128 .f32).view) (atA m c t h).2.2.2.1 (coverA18 m c t h)).trans ?_
  delta leftA
  dsimp only

/-- The second C-gradient block, whatever it held, reads as what the point leaves. -/
theorem readA19 (c : Dev nD) (t : Fin cfg0.N) (h : startsScan (grid0.coords t)) (v : View sig .tc .vmem S1x512x128 .f32) (f : v.ty.Contents (Elt F)) :
    View.read (Elt F) v (v.writes (Elt F) f (atA m c t h).2.2.2.2.1) = (leftA m c t h).o19 := by
  refine (View.read_writes_of_cover v f (Memref.whole cc0_stg17_0 : Memref sig .tc .vmem S1x512x128 .f32).view (View.junk (Memref.whole cc0_stg17_0 : Memref sig .tc .vmem S1x512x128 .f32).view) (atA m c t h).2.2.2.2.1 (coverA19 m c t h)).trans ?_
  delta leftA
  dsimp only

/-- The first multiplier gradient block, whatever it held, reads as what the point leaves. -/
theorem readA20 (c : Dev nD) (t : Fin cfg0.N) (h : startsScan (grid0.coords t)) (v : View sig .tc .vmem S1x8x512 .f32) (f : v.ty.Contents (Elt F)) :
    View.read (Elt F) v (v.writes (Elt F) f (atA m c t h).2.2.2.2.2.1) = (leftA m c t h).o20 := by
  refine (View.read_writes_of_cover v f (Memref.whole cc0_stg18_0 : Memref sig .tc .vmem S1x8x512 .f32).view (View.junk (Memref.whole cc0_stg18_0 : Memref sig .tc .vmem S1x8x512 .f32).view) (atA m c t h).2.2.2.2.2.1 (coverA20 m c t h)).trans ?_
  delta leftA
  dsimp only

/-- The second multiplier gradient block, whatever it held, reads as what the point leaves. -/
theorem readA21 (c : Dev nD) (t : Fin cfg0.N) (h : startsScan (grid0.coords t)) (v : View sig .tc .vmem S1x8x512 .f32) (f : v.ty.Contents (Elt F)) :
    View.read (Elt F) v (v.writes (Elt F) f (atA m c t h).2.2.2.2.2.2.1) = (leftA m c t h).o21 := by
  refine (View.read_writes_of_cover v f (Memref.whole cc0_stg19_0 : Memref sig .tc .vmem S1x8x512 .f32).view (View.junk (Memref.whole cc0_stg19_0 : Memref sig .tc .vmem S1x8x512 .f32).view) (atA m c t h).2.2.2.2.2.2.1 (coverA21 m c t h)).trans ?_
  delta leftA
  dsimp only

/-- The skip gradient block, whatever it held, reads as what the point leaves. -/
theorem readA22 (c : Dev nD) (t : Fin cfg0.N) (h : startsScan (grid0.coords t)) (v : View sig .tc .vmem S1x128 .f32) (f : v.ty.Contents (Elt F)) :
    View.read (Elt F) v (v.writes (Elt F) f (atA m c t h).2.2.2.2.2.2.2.1) = (leftA m c t h).o22 := by
  refine (View.read_writes_of_cover v f (Memref.whole cc0_stg20_0 : Memref sig .tc .vmem S1x128 .f32).view (View.junk (Memref.whole cc0_stg20_0 : Memref sig .tc .vmem S1x128 .f32).view) (atA m c t h).2.2.2.2.2.2.2.1 (coverA22 m c t h)).trans ?_
  delta leftA
  dsimp only

/-- The carried real row block, whatever it held, reads as what the point leaves. -/
theorem readA25 (c : Dev nD) (t : Fin cfg0.N) (h : startsScan (grid0.coords t)) (v : View sig .tc .vmem S1x512 .f32) (f : v.ty.Contents (Elt F)) :
    View.read (Elt F) v (v.writes (Elt F) f (atA m c t h).2.2.2.2.2.2.2.2.1) = (leftA m c t h).c25 := by
  refine (View.read_writes_of_cover v f sc2.view (View.junk sc2.view) (atA m c t h).2.2.2.2.2.2.2.2.1 (coverA25 m c t h)).trans ?_
  delta leftA
  dsimp only

/-- The carried imaginary row block, whatever it held, reads as what the point leaves. -/
theorem readA26 (c : Dev nD) (t : Fin cfg0.N) (h : startsScan (grid0.coords t)) (v : View sig .tc .vmem S1x512 .f32) (f : v.ty.Contents (Elt F)) :
    View.read (Elt F) v (v.writes (Elt F) f (atA m c t h).2.2.2.2.2.2.2.2.2.1) = (leftA m c t h).c26 := by
  refine (View.read_writes_of_cover v f sc3.view (View.junk sc3.view) (atA m c t h).2.2.2.2.2.2.2.2.2.1 (coverA26 m c t h)).trans ?_
  delta leftA
  dsimp only

/-- The input gradient block, whatever it held, reads as what the point leaves. -/
theorem readB15 (c : Dev nD) (t : Fin cfg0.N) (h : ¬startsScan (grid0.coords t)) (p : Left F) (v : View sig .tc .vmem S512x128 .f32) (f : v.ty.Contents (Elt F)) :
    View.read (Elt F) v (v.writes (Elt F) f (atB m c t h p).1) = (leftB m c t h p).o15 := by
  refine (View.read_writes_of_cover v f (Memref.whole cc0_stg13_0 : Memref sig .tc .vmem S512x128 .f32).view (View.junk (Memref.whole cc0_stg13_0 : Memref sig .tc .vmem S512x128 .f32).view) (atB m c t h p).1 (coverB15 m c t h p)).trans ?_
  delta leftB
  dsimp only

/-- The first B-gradient block, whatever it held, reads as what the point leaves. -/
theorem readB16 (c : Dev nD) (t : Fin cfg0.N) (h : ¬startsScan (grid0.coords t)) (p : Left F) (v : View sig .tc .vmem S1x128x512 .f32) (f : v.ty.Contents (Elt F)) :
    View.read (Elt F) v (v.writes (Elt F) f (atB m c t h p).2.1) = (leftB m c t h p).o16 := by
  refine (View.read_writes_of_cover v f (Memref.whole cc0_stg14_0 : Memref sig .tc .vmem S1x128x512 .f32).view (View.junk (Memref.whole cc0_stg14_0 : Memref sig .tc .vmem S1x128x512 .f32).view) (atB m c t h p).2.1 (coverB16 m c t h p)).trans ?_
  delta leftB
  dsimp only

/-- The second B-gradient block, whatever it held, reads as what the point leaves. -/
theorem readB17 (c : Dev nD) (t : Fin cfg0.N) (h : ¬startsScan (grid0.coords t)) (p : Left F) (v : View sig .tc .vmem S1x128x512 .f32) (f : v.ty.Contents (Elt F)) :
    View.read (Elt F) v (v.writes (Elt F) f (atB m c t h p).2.2.1) = (leftB m c t h p).o17 := by
  refine (View.read_writes_of_cover v f (Memref.whole cc0_stg15_0 : Memref sig .tc .vmem S1x128x512 .f32).view (View.junk (Memref.whole cc0_stg15_0 : Memref sig .tc .vmem S1x128x512 .f32).view) (atB m c t h p).2.2.1 (coverB17 m c t h p)).trans ?_
  delta leftB
  dsimp only

/-- The first C-gradient block, whatever it held, reads as what the point leaves. -/
theorem readB18 (c : Dev nD) (t : Fin cfg0.N) (h : ¬startsScan (grid0.coords t)) (p : Left F) (v : View sig .tc .vmem S1x512x128 .f32) (f : v.ty.Contents (Elt F)) :
    View.read (Elt F) v (v.writes (Elt F) f (atB m c t h p).2.2.2.1) = (leftB m c t h p).o18 := by
  refine (View.read_writes_of_cover v f (Memref.whole cc0_stg16_0 : Memref sig .tc .vmem S1x512x128 .f32).view (View.junk (Memref.whole cc0_stg16_0 : Memref sig .tc .vmem S1x512x128 .f32).view) (atB m c t h p).2.2.2.1 (coverB18 m c t h p)).trans ?_
  delta leftB
  dsimp only

/-- The second C-gradient block, whatever it held, reads as what the point leaves. -/
theorem readB19 (c : Dev nD) (t : Fin cfg0.N) (h : ¬startsScan (grid0.coords t)) (p : Left F) (v : View sig .tc .vmem S1x512x128 .f32) (f : v.ty.Contents (Elt F)) :
    View.read (Elt F) v (v.writes (Elt F) f (atB m c t h p).2.2.2.2.1) = (leftB m c t h p).o19 := by
  refine (View.read_writes_of_cover v f (Memref.whole cc0_stg17_0 : Memref sig .tc .vmem S1x512x128 .f32).view (View.junk (Memref.whole cc0_stg17_0 : Memref sig .tc .vmem S1x512x128 .f32).view) (atB m c t h p).2.2.2.2.1 (coverB19 m c t h p)).trans ?_
  delta leftB
  dsimp only

/-- The first multiplier gradient block, whatever it held, reads as what the point leaves. -/
theorem readB20 (c : Dev nD) (t : Fin cfg0.N) (h : ¬startsScan (grid0.coords t)) (p : Left F) (v : View sig .tc .vmem S1x8x512 .f32) (f : v.ty.Contents (Elt F)) :
    View.read (Elt F) v (v.writes (Elt F) f (atB m c t h p).2.2.2.2.2.1) = (leftB m c t h p).o20 := by
  refine (View.read_writes_of_cover v f (Memref.whole cc0_stg18_0 : Memref sig .tc .vmem S1x8x512 .f32).view (View.junk (Memref.whole cc0_stg18_0 : Memref sig .tc .vmem S1x8x512 .f32).view) (atB m c t h p).2.2.2.2.2.1 (coverB20 m c t h p)).trans ?_
  delta leftB
  dsimp only

/-- The second multiplier gradient block, whatever it held, reads as what the point leaves. -/
theorem readB21 (c : Dev nD) (t : Fin cfg0.N) (h : ¬startsScan (grid0.coords t)) (p : Left F) (v : View sig .tc .vmem S1x8x512 .f32) (f : v.ty.Contents (Elt F)) :
    View.read (Elt F) v (v.writes (Elt F) f (atB m c t h p).2.2.2.2.2.2.1) = (leftB m c t h p).o21 := by
  refine (View.read_writes_of_cover v f (Memref.whole cc0_stg19_0 : Memref sig .tc .vmem S1x8x512 .f32).view (View.junk (Memref.whole cc0_stg19_0 : Memref sig .tc .vmem S1x8x512 .f32).view) (atB m c t h p).2.2.2.2.2.2.1 (coverB21 m c t h p)).trans ?_
  delta leftB
  dsimp only

/-- The skip gradient block, whatever it held, reads as what the point leaves. -/
theorem readB22 (c : Dev nD) (t : Fin cfg0.N) (h : ¬startsScan (grid0.coords t)) (p : Left F) (v : View sig .tc .vmem S1x128 .f32) (f : v.ty.Contents (Elt F)) :
    View.read (Elt F) v (v.writes (Elt F) f (atB m c t h p).2.2.2.2.2.2.2.1) = (leftB m c t h p).o22 := by
  refine (View.read_writes_of_cover v f (Memref.whole cc0_stg20_0 : Memref sig .tc .vmem S1x128 .f32).view (View.junk (Memref.whole cc0_stg20_0 : Memref sig .tc .vmem S1x128 .f32).view) (atB m c t h p).2.2.2.2.2.2.2.1 (coverB22 m c t h p)).trans ?_
  delta leftB
  dsimp only

/-- The carried real row block, whatever it held, reads as what the point leaves. -/
theorem readB25 (c : Dev nD) (t : Fin cfg0.N) (h : ¬startsScan (grid0.coords t)) (p : Left F) (v : View sig .tc .vmem S1x512 .f32) (f : v.ty.Contents (Elt F)) :
    View.read (Elt F) v (v.writes (Elt F) f (atB m c t h p).2.2.2.2.2.2.2.2.1) = (leftB m c t h p).c25 := by
  refine (View.read_writes_of_cover v f sc2.view (View.junk sc2.view) (atB m c t h p).2.2.2.2.2.2.2.2.1 (coverB25 m c t h p)).trans ?_
  delta leftB
  dsimp only

/-- The carried imaginary row block, whatever it held, reads as what the point leaves. -/
theorem readB26 (c : Dev nD) (t : Fin cfg0.N) (h : ¬startsScan (grid0.coords t)) (p : Left F) (v : View sig .tc .vmem S1x512 .f32) (f : v.ty.Contents (Elt F)) :
    View.read (Elt F) v (v.writes (Elt F) f (atB m c t h p).2.2.2.2.2.2.2.2.2.1) = (leftB m c t h p).c26 := by
  refine (View.read_writes_of_cover v f sc3.view (View.junk sc3.view) (atB m c t h p).2.2.2.2.2.2.2.2.2.1 (coverB26 m c t h p)).trans ?_
  delta leftB
  dsimp only

/-- What every point leaves, by recursion on the point. -/
noncomputable def leftAt (c : Dev nD) : (n : ℕ) → n < cfg0.N → Left F
  | 0, hn => leftA m c ⟨0, hn⟩ ((startsScan_iff ⟨0, hn⟩).mpr (Nat.zero_mod _))
  | n + 1, hn =>
    if h : (n + 1) % 8 = 0 then leftA m c ⟨n + 1, hn⟩ ((startsScan_iff ⟨n + 1, hn⟩).mpr h)
    else leftB m c ⟨n + 1, hn⟩ (fun h' => h ((startsScan_iff ⟨n + 1, hn⟩).mp h')) (leftAt c n (Nat.lt_of_succ_lt hn))

/-- At a point that opens a group's scan. -/
theorem leftAt_A (c : Dev nD) (t : Fin cfg0.N) (h : startsScan (grid0.coords t)) : leftAt m c t.val t.isLt = leftA m c t h := by
  obtain ⟨n, hn⟩ := t
  cases n with
  | zero => rfl
  | succ n => exact dif_pos ((startsScan_iff ⟨n + 1, hn⟩).mp h)

/-- At any other point. -/
theorem leftAt_B (c : Dev nD) (t : Fin cfg0.N) (h : ¬startsScan (grid0.coords t)) :
    leftAt m c t.val t.isLt = leftB m c t h (leftAt m c (t.val - 1) (Nat.lt_of_le_of_lt (Nat.sub_le _ _) t.isLt)) := by
  obtain ⟨n, hn⟩ := t
  cases n with
  | zero => exact absurd ((startsScan_iff ⟨0, hn⟩).mpr (Nat.zero_mod _)) h
  | succ n => exact dif_neg fun h' => h ((startsScan_iff ⟨n + 1, hn⟩).mpr h')

end Cert.S5Ideal.Body

end
-- ==== Proof.S5Dat.lean ====
module

public import proofs.«01_k».proof.Proof.S5Left

@[expose] public section

set_option maxRecDepth 16384

noncomputable section

namespace Cert.S5Ideal.Body

open Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: at first what the launch hands over, later the carried rows at what the
    point before left, the other scratch at anything. -/
def PhiS (c : Dev nD) : (n : ℕ) → n ≤ cfg0.N → sProp 𝕄
  | 0, _ => Pipeline.ΦA spec0 c
  | n + 1, hn => iprop(((∃ d, owns (c : Thread nD τ) sc0 fullShare d) ∗ (∃ d, owns (c : Thread nD τ) sc1 fullShare d)
      ∗ owns (c : Thread nD τ) sc2 fullShare (leftAt m c n hn).c25 ∗ owns (c : Thread nD τ) sc3 fullShare (leftAt m c n hn).c26) ∗ (∃ r, prngReg c r))

/-- At first. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(((∃ d, owns (c : Thread nD τ) sc0 fullShare d) ∗ (∃ d, owns (c : Thread nD τ) sc1 fullShare d)
      ∗ owns (c : Thread nD τ) sc2 fullShare (leftAt m c n hn).c25 ∗ owns (c : Thread nD τ) sc3 fullShare (leftAt m c n hn).c26) ∗ (∃ r, prngReg c r)) := rfl

/-- At any later position. -/
theorem PhiS_pos (c : Dev nD) (n : ℕ) (h : n ≤ cfg0.N) (hz : n ≠ 0) :
    PhiS m c n h = iprop(((∃ d, owns (c : Thread nD τ) sc0 fullShare d) ∗ (∃ d, owns (c : Thread nD τ) sc1 fullShare d)
      ∗ owns (c : Thread nD τ) sc2 fullShare (leftAt m c (n - 1) (by omega)).c25
      ∗ owns (c : Thread nD τ) sc3 fullShare (leftAt m c (n - 1) (by omega)).c26) ∗ (∃ r, prngReg c r)) := by
  cases n with
  | zero => exact absurd rfl hz
  | succ n => rfl

/-- The invariant of any position gives back what the launch handed over. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨H0, H1, H2, H3⟩, Hg⟩
    isplitl [H0 H1 H2 H3]
    · isplitl [H0]; · iexact H0
      isplitl [H1]; · iexact H1
      isplitl [H2]; · iexists _; iexact H2
      iexists _; iexact H3
    iexact Hg

/-- The pipeline's proof data: the arrays as the region finds them; after each point the inputs' blocks in place and
    the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (leftAt m c t.val t.isLt).o15
    | ⟨14, _⟩ => (leftAt m c t.val t.isLt).o16
    | ⟨15, _⟩ => (leftAt m c t.val t.isLt).o17
    | ⟨16, _⟩ => (leftAt m c t.val t.isLt).o18
    | ⟨17, _⟩ => (leftAt m c t.val t.isLt).o19
    | ⟨18, _⟩ => (leftAt m c t.val t.isLt).o20
    | ⟨19, _⟩ => (leftAt m c t.val t.isLt).o21
    | ⟨20, _⟩ => (leftAt m c t.val t.isLt).o22
    | ⟨_ + 21, h⟩ => absurd h (Nat.not_lt.mpr (Nat.le_add_left 21 _))
  Φ t := PhiS m c t.val (Nat.le_of_lt_succ t.isLt)
  q w := Pipeline.shareOf spec0 w
  owed _ := 0

/-- The proof data's arrays are the region's. -/
theorem A_eq (c : Dev nD) (w : Fin cfg0.W) : (dats m 0 c).A w = V m c (Pipeline.arrRef spec0 w) := by
  dsimp only [dats]

/-- Before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- After a point, window 0. -/
theorem after0 (c : Dev nD) (t : Fin cfg0.N) : (dats m 0 c).after 0 t = iblk m c 0 t := by dsimp only [dats]
/-- After a point, window 1. -/
theorem after1 (c : Dev nD) (t : Fin cfg0.N) : (dats m 0 c).after 1 t = iblk m c 1 t := by dsimp only [dats]
/-- After a point, window 2. -/
theorem after2 (c : Dev nD) (t : Fin cfg0.N) : (dats m 0 c).after 2 t = iblk m c 2 t := by dsimp only [dats]
/-- After a point, window 3. -/
theorem after3 (c : Dev nD) (t : Fin cfg0.N) : (dats m 0 c).after 3 t = iblk m c 3 t := by dsimp only [dats]
/-- After a point, window 4. -/
theorem after4 (c : Dev nD) (t : Fin cfg0.N) : (dats m 0 c).after 4 t = iblk m c 4 t := by dsimp only [dats]
/-- After a point, window 5. -/
theorem after5 (c : Dev nD) (t : Fin cfg0.N) : (dats m 0 c).after 5 t = iblk m c 5 t := by dsimp only [dats]
/-- After a point, window 6. -/
theorem after6 (c : Dev nD) (t : Fin cfg0.N) : (dats m 0 c).after 6 t = iblk m c 6 t := by dsimp only [dats]
/-- After a point, window 7. -/
theorem after7 (c : Dev nD) (t : Fin cfg0.N) : (dats m 0 c).after 7 t = iblk m c 7 t := by dsimp only [dats]
/-- After a point, window 8. -/
theorem after8 (c : Dev nD) (t : Fin cfg0.N) : (dats m 0 c).after 8 t = iblk m c 8 t := by dsimp only [dats]
/-- After a point, window 9. -/
theorem after9 (c : Dev nD) (t : Fin cfg0.N) : (dats m 0 c).after 9 t = iblk m c 9 t := by dsimp only [dats]
/-- After a point, window 10. -/
theorem after10 (c : Dev nD) (t : Fin cfg0.N) : (dats m 0 c).after 10 t = iblk m c 10 t := by dsimp only [dats]
/-- After a point, window 11. -/
theorem after11 (c : Dev nD) (t : Fin cfg0.N) : (dats m 0 c).after 11 t = iblk m c 11 t := by dsimp only [dats]
/-- After a point, window 12. -/
theorem after12 (c : Dev nD) (t : Fin cfg0.N) : (dats m 0 c).after 12 t = iblk m c 12 t := by dsimp only [dats]
/-- After a point, window 13. -/
theorem after13 (c : Dev nD) (t : Fin cfg0.N) : (dats m 0 c).after 13 t = (leftAt m c t.val t.isLt).o15 := by dsimp only [dats]
/-- After a point, window 14. -/
theorem after14 (c : Dev nD) (t : Fin cfg0.N) : (dats m 0 c).after 14 t = (leftAt m c t.val t.isLt).o16 := by dsimp only [dats]
/-- After a point, window 15. -/
theorem after15 (c : Dev nD) (t : Fin cfg0.N) : (dats m 0 c).after 15 t = (leftAt m c t.val t.isLt).o17 := by dsimp only [dats]
/-- After a point, window 16. -/
theorem after16 (c : Dev nD) (t : Fin cfg0.N) : (dats m 0 c).after 16 t = (leftAt m c t.val t.isLt).o18 := by dsimp only [dats]
/-- After a point, window 17. -/
theorem after17 (c : Dev nD) (t : Fin cfg0.N) : (dats m 0 c).after 17 t = (leftAt m c t.val t.isLt).o19 := by dsimp only [dats]
/-- After a point, window 18. -/
theorem after18 (c : Dev nD) (t : Fin cfg0.N) : (dats m 0 c).after 18 t = (leftAt m c t.val t.isLt).o20 := by dsimp only [dats]
/-- After a point, window 19. -/
theorem after19 (c : Dev nD) (t : Fin cfg0.N) : (dats m 0 c).after 19 t = (leftAt m c t.val t.isLt).o21 := by dsimp only [dats]
/-- After a point, window 20. -/
theorem after20 (c : Dev nD) (t : Fin cfg0.N) : (dats m 0 c).after 20 t = (leftAt m c t.val t.isLt).o22 := by dsimp only [dats]
/-- Before a point, window 0. -/
theorem before0 (c : Dev nD) (t : Fin cfg0.N) (d) : (dats m 0 c).before 0 t d = iblk m c 0 t :=
  before0_0_of m (dats m 0 c) (A_eq m c 0) (after0 m c) t d
/-- Before a point, window 1. -/
theorem before1 (c : Dev nD) (t : Fin cfg0.N) (d) : (dats m 0 c).before 1 t d = iblk m c 1 t :=
  before0_1_of m (dats m 0 c) (A_eq m c 1) (after1 m c) t d
/-- Before a point, window 2. -/
theorem before2 (c : Dev nD) (t : Fin cfg0.N) (d) : (dats m 0 c).before 2 t d = iblk m c 2 t :=
  before0_2_of m (dats m 0 c) (A_eq m c 2) (after2 m c) t d
/-- Before a point, window 3. -/
theorem before3 (c : Dev nD) (t : Fin cfg0.N) (d) : (dats m 0 c).before 3 t d = iblk m c 3 t :=
  before0_3_of m (dats m 0 c) (A_eq m c 3) (after3 m c) t d
/-- Before a point, window 4. -/
theorem before4 (c : Dev nD) (t : Fin cfg0.N) (d) : (dats m 0 c).before 4 t d = iblk m c 4 t :=
  before0_4_of m (dats m 0 c) (A_eq m c 4) (after4 m c) t d
/-- Before a point, window 5. -/
theorem before5 (c : Dev nD) (t : Fin cfg0.N) (d) : (dats m 0 c).before 5 t d = iblk m c 5 t :=
  before0_5_of m (dats m 0 c) (A_eq m c 5) (after5 m c) t d
/-- Before a point, window 6. -/
theorem before6 (c : Dev nD) (t : Fin cfg0.N) (d) : (dats m 0 c).before 6 t d = iblk m c 6 t :=
  before0_6_of m (dats m 0 c) (A_eq m c 6) (after6 m c) t d
/-- Before a point, window 7. -/
theorem before7 (c : Dev nD) (t : Fin cfg0.N) (d) : (dats m 0 c).before 7 t d = iblk m c 7 t :=
  before0_7_of m (dats m 0 c) (A_eq m c 7) (after7 m c) t d
/-- Before a point, window 8. -/
theorem before8 (c : Dev nD) (t : Fin cfg0.N) (d) : (dats m 0 c).before 8 t d = iblk m c 8 t :=
  before0_8_of m (dats m 0 c) (A_eq m c 8) (after8 m c) t d
/-- Before a point, window 9. -/
theorem before9 (c : Dev nD) (t : Fin cfg0.N) (d) : (dats m 0 c).before 9 t d = iblk m c 9 t :=
  before0_9_of m (dats m 0 c) (A_eq m c 9) (after9 m c) t d
/-- Before a point, window 10. -/
theorem before10 (c : Dev nD) (t : Fin cfg0.N) (d) : (dats m 0 c).before 10 t d = iblk m c 10 t :=
  before0_10_of m (dats m 0 c) (A_eq m c 10) (after10 m c) t d
/-- Before a point, window 11. -/
theorem before11 (c : Dev nD) (t : Fin cfg0.N) (d) : (dats m 0 c).before 11 t d = iblk m c 11 t :=
  before0_11_of m (dats m 0 c) (A_eq m c 11) (after11 m c) t d
/-- Before a point, window 12. -/
theorem before12 (c : Dev nD) (t : Fin cfg0.N) (d) : (dats m 0 c).before 12 t d = iblk m c 12 t :=
  before0_12_of m (dats m 0 c) (A_eq m c 12) (after12 m c) t d
/-- Before a point, window 14. -/
theorem before14 (c : Dev nD) (t : Fin cfg0.N) (h : ¬t.val % 8 = 0) (d) :
    (dats m 0 c).before 14 t d = (leftAt m c (t.val - 1) (Nat.lt_of_le_of_lt (Nat.sub_le _ _) t.isLt)).o16 := by
  have hf : (cfg0.win 14).flush ⟨t.val - 1, Nat.lt_of_le_of_lt (Nat.sub_le _ _) t.isLt⟩ = false := by
    rw [← Bool.not_eq_true]; intro hh; have := (flush0_14 _).mp hh; dsimp only at this; omega
  exact ((dats m 0 c).before_out_kept 14 rfl t (by omega) hf (fun _ => rfl) (fun _ _ => rfl) d).trans (after14 m c _)
/-- Before a point, window 15. -/
theorem before15 (c : Dev nD) (t : Fin cfg0.N) (h : ¬t.val % 8 = 0) (d) :
    (dats m 0 c).before 15 t d = (leftAt m c (t.val - 1) (Nat.lt_of_le_of_lt (Nat.sub_le _ _) t.isLt)).o17 := by
  have hf : (cfg0.win 15).flush ⟨t.val - 1, Nat.lt_of_le_of_lt (Nat.sub_le _ _) t.isLt⟩ = false := by
    rw [← Bool.not_eq_true]; intro hh; have := (flush0_15 _).mp hh; dsimp only at this; omega
  exact ((dats m 0 c).before_out_kept 15 rfl t (by omega) hf (fun _ => rfl) (fun _ _ => rfl) d).trans (after15 m c _)
/-- Before a point, window 16. -/
theorem before16 (c : Dev nD) (t : Fin cfg0.N) (h : ¬t.val % 8 = 0) (d) :
    (dats m 0 c).before 16 t d = (leftAt m c (t.val - 1) (Nat.lt_of_le_of_lt (Nat.sub_le _ _) t.isLt)).o18 := by
  have hf : (cfg0.win 16).flush ⟨t.val - 1, Nat.lt_of_le_of_lt (Nat.sub_le _ _) t.isLt⟩ = false := by
    rw [← Bool.not_eq_true]; intro hh; have := (flush0_16 _).mp hh; dsimp only at this; omega
  exact ((dats m 0 c).before_out_kept 16 rfl t (by omega) hf (fun _ => rfl) (fun _ _ => rfl) d).trans (after16 m c _)
/-- Before a point, window 17. -/
theorem before17 (c : Dev nD) (t : Fin cfg0.N) (h : ¬t.val % 8 = 0) (d) :
    (dats m 0 c).before 17 t d = (leftAt m c (t.val - 1) (Nat.lt_of_le_of_lt (Nat.sub_le _ _) t.isLt)).o19 := by
  have hf : (cfg0.win 17).flush ⟨t.val - 1, Nat.lt_of_le_of_lt (Nat.sub_le _ _) t.isLt⟩ = false := by
    rw [← Bool.not_eq_true]; intro hh; have := (flush0_17 _).mp hh; dsimp only at this; omega
  exact ((dats m 0 c).before_out_kept 17 rfl t (by omega) hf (fun _ => rfl) (fun _ _ => rfl) d).trans (after17 m c _)
/-- Before a point, window 18. -/
theorem before18 (c : Dev nD) (t : Fin cfg0.N) (h : ¬t.val % 8 = 0) (d) :
    (dats m 0 c).before 18 t d = (leftAt m c (t.val - 1) (Nat.lt_of_le_of_lt (Nat.sub_le _ _) t.isLt)).o20 := by
  have hf : (cfg0.win 18).flush ⟨t.val - 1, Nat.lt_of_le_of_lt (Nat.sub_le _ _) t.isLt⟩ = false := by
    rw [← Bool.not_eq_true]; intro hh; have := (flush0_18 _).mp hh; dsimp only at this; omega
  exact ((dats m 0 c).before_out_kept 18 rfl t (by omega) hf (fun _ => rfl) (fun _ _ => rfl) d).trans (after18 m c _)
/-- Before a point, window 19. -/
theorem before19 (c : Dev nD) (t : Fin cfg0.N) (h : ¬t.val % 8 = 0) (d) :
    (dats m 0 c).before 19 t d = (leftAt m c (t.val - 1) (Nat.lt_of_le_of_lt (Nat.sub_le _ _) t.isLt)).o21 := by
  have hf : (cfg0.win 19).flush ⟨t.val - 1, Nat.lt_of_le_of_lt (Nat.sub_le _ _) t.isLt⟩ = false := by
    rw [← Bool.not_eq_true]; intro hh; have := (flush0_19 _).mp hh; dsimp only at this; omega
  exact ((dats m 0 c).before_out_kept 19 rfl t (by omega) hf (fun _ => rfl) (fun _ _ => rfl) d).trans (after19 m c _)
/-- Before a point, window 20. -/
theorem before20 (c : Dev nD) (t : Fin cfg0.N) (h : ¬t.val % 8 = 0) (d) :
    (dats m 0 c).before 20 t d = (leftAt m c (t.val - 1) (Nat.lt_of_le_of_lt (Nat.sub_le _ _) t.isLt)).o22 := by
  have hf : (cfg0.win 20).flush ⟨t.val - 1, Nat.lt_of_le_of_lt (Nat.sub_le _ _) t.isLt⟩ = false := by
    rw [← Bool.not_eq_true]; intro hh; have := (flush0_20 _).mp hh; dsimp only at this; omega
  exact ((dats m 0 c).before_out_kept 20 rfl t (by omega) hf (fun _ => rfl) (fun _ _ => rfl) d).trans (after20 m c _)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

/-- What a point leaves of window 0. -/
theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
/-- What a point leaves of window 1. -/
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
/-- What a point leaves of window 2. -/
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
/-- What a point leaves of window 3. -/
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
/-- What a point leaves of window 4. -/
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
/-- What a point leaves of window 5. -/
theorem leaves5 (c : Dev nD) (t : Fin cfg0.N) : (dats m 0 c).leavesExact 5 t = owns (c : Thread nD τ) (ms5 t) fullShare ((dats m 0 c).after 5 t) := by
  unfold Dat.leavesExact; rw [show cfg0.idle 5 (grid0.coords t) = false from rfl]
/-- What a point leaves of window 6. -/
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
/-- What a point leaves of window 7. -/
theorem leaves7 (c : Dev nD) (t : Fin cfg0.N) : (dats m 0 c).leavesExact 7 t = owns (c : Thread nD τ) (ms7 t) fullShare ((dats m 0 c).after 7 t) := by
  unfold Dat.leavesExact; rw [show cfg0.idle 7 (grid0.coords t) = false from rfl]
/-- What a point leaves of window 8. -/
theorem leaves8 (c : Dev nD) (t : Fin cfg0.N) : (dats m 0 c).leavesExact 8 t = owns (c : Thread nD τ) (ms8 t) fullShare ((dats m 0 c).after 8 t) := by
  unfold Dat.leavesExact; rw [show cfg0.idle 8 (grid0.coords t) = false from rfl]
/-- What a point leaves of window 9. -/
theorem leaves9 (c : Dev nD) (t : Fin cfg0.N) : (dats m 0 c).leavesExact 9 t = owns (c : Thread nD τ) (ms9 t) fullShare ((dats m 0 c).after 9 t) := by
  unfold Dat.leavesExact; rw [show cfg0.idle 9 (grid0.coords t) = false from rfl]
/-- What a point leaves of window 10. -/
theorem leaves10 (c : Dev nD) (t : Fin cfg0.N) : (dats m 0 c).leavesExact 10 t = owns (c : Thread nD τ) (ms10 t) fullShare ((dats m 0 c).after 10 t) := by
  unfold Dat.leavesExact; rw [show cfg0.idle 10 (grid0.coords t) = false from rfl]
/-- What a point leaves of window 11. -/
theorem leaves11 (c : Dev nD) (t : Fin cfg0.N) : (dats m 0 c).leavesExact 11 t = owns (c : Thread nD τ) (ms11 t) fullShare ((dats m 0 c).after 11 t) := by
  unfold Dat.leavesExact; rw [show cfg0.idle 11 (grid0.coords t) = false from rfl]
/-- What a point leaves of window 12. -/
theorem leaves12 (c : Dev nD) (t : Fin cfg0.N) : (dats m 0 c).leavesExact 12 t = owns (c : Thread nD τ) (ms12 t) fullShare ((dats m 0 c).after 12 t) := by
  unfold Dat.leavesExact; rw [show cfg0.idle 12 (grid0.coords t) = false from rfl]
/-- What a point leaves of window 13. -/
theorem leaves13 (c : Dev nD) (t : Fin cfg0.N) : (dats m 0 c).leavesExact 13 t = owns (c : Thread nD τ) (ms13 t) fullShare ((dats m 0 c).after 13 t) := by
  unfold Dat.leavesExact; rw [show cfg0.idle 13 (grid0.coords t) = false from rfl]
/-- What a point leaves of window 14. -/
theorem leaves14 (c : Dev nD) (t : Fin cfg0.N) : (dats m 0 c).leavesExact 14 t = owns (c : Thread nD τ) (ms14 t) fullShare ((dats m 0 c).after 14 t) := by
  unfold Dat.leavesExact; rw [show cfg0.idle 14 (grid0.coords t) = false from rfl]
/-- What a point leaves of window 15. -/
theorem leaves15 (c : Dev nD) (t : Fin cfg0.N) : (dats m 0 c).leavesExact 15 t = owns (c : Thread nD τ) (ms15 t) fullShare ((dats m 0 c).after 15 t) := by
  unfold Dat.leavesExact; rw [show cfg0.idle 15 (grid0.coords t) = false from rfl]
/-- What a point leaves of window 16. -/
theorem leaves16 (c : Dev nD) (t : Fin cfg0.N) : (dats m 0 c).leavesExact 16 t = owns (c : Thread nD τ) (ms16 t) fullShare ((dats m 0 c).after 16 t) := by
  unfold Dat.leavesExact; rw [show cfg0.idle 16 (grid0.coords t) = false from rfl]
/-- What a point leaves of window 17. -/
theorem leaves17 (c : Dev nD) (t : Fin cfg0.N) : (dats m 0 c).leavesExact 17 t = owns (c : Thread nD τ) (ms17 t) fullShare ((dats m 0 c).after 17 t) := by
  unfold Dat.leavesExact; rw [show cfg0.idle 17 (grid0.coords t) = false from rfl]
/-- What a point leaves of window 18. -/
theorem leaves18 (c : Dev nD) (t : Fin cfg0.N) : (dats m 0 c).leavesExact 18 t = owns (c : Thread nD τ) (ms18 t) fullShare ((dats m 0 c).after 18 t) := by
  unfold Dat.leavesExact; rw [show cfg0.idle 18 (grid0.coords t) = false from rfl]
/-- What a point leaves of window 19. -/
theorem leaves19 (c : Dev nD) (t : Fin cfg0.N) : (dats m 0 c).leavesExact 19 t = owns (c : Thread nD τ) (ms19 t) fullShare ((dats m 0 c).after 19 t) := by
  unfold Dat.leavesExact; rw [show cfg0.idle 19 (grid0.coords t) = false from rfl]
/-- What a point leaves of window 20. -/
theorem leaves20 (c : Dev nD) (t : Fin cfg0.N) : (dats m 0 c).leavesExact 20 t = owns (c : Thread nD τ) (ms20 t) fullShare ((dats m 0 c).after 20 t) := by
  unfold Dat.leavesExact; rw [show cfg0.idle 20 (grid0.coords t) = false from rfl]

end Cert.S5Ideal.Body

end
-- ==== Proof.S5Val.lean ====
module

public import proofs.«01_k».proof.Proof.S5Sum
public import proofs.«01_k».proof.Proof.S5Dat

@[expose] public section

set_option maxRecDepth 16384

noncomputable section

namespace Cert.S5Ideal.Val

open Cert.S5Math Cert.S5Ideal.Host Cert.S5Ideal.Tile Cert.S5Ideal.Sums
open Cert.S5Ideal Cert.S5Ideal.Gen Cert.S5Ideal.Body Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The cotangent of the output. -/
abbrev aDy (c : Dev nD) : FVec Ideal S4096x2048 .f32 := m ((c : Thread nD τ).loc main_arg0)
/-- The input. -/
abbrev aU (c : Dev nD) : FVec Ideal S4096x2048 .f32 := m ((c : Thread nD τ).loc main_arg1)
/-- The eigenvalues' real parts. -/
abbrev aLr (c : Dev nD) : FVec Ideal S128x64 .f32 := m ((c : Thread nD τ).loc main_arg4)
/-- The eigenvalues' imaginary parts. -/
abbrev aLi (c : Dev nD) : FVec Ideal S128x64 .f32 := m ((c : Thread nD τ).loc main_arg5)
/-- The real matrices of `B`. -/
abbrev aBr (c : Dev nD) : FVec Ideal S128x64x16 .f32 := m ((c : Thread nD τ).loc main_arg6)
/-- The imaginary matrices of `B`. -/
abbrev aBi (c : Dev nD) : FVec Ideal S128x64x16 .f32 := m ((c : Thread nD τ).loc main_arg7)
/-- The real matrices of `C`. -/
abbrev aCr (c : Dev nD) : FVec Ideal S128x16x64 .f32 := m ((c : Thread nD τ).loc main_arg8)
/-- The imaginary matrices of `C`. -/
abbrev aCi (c : Dev nD) : FVec Ideal S128x16x64 .f32 := m ((c : Thread nD τ).loc main_arg9)
/-- The skip. -/
abbrev aD (c : Dev nD) : FVec Ideal S1x2048 .f32 := m ((c : Thread nD τ).loc main_arg10)

/-- The arrays that the scan reads hold real numbers. -/
structure Fine (c : Dev nD) : Prop where
  dy : Reals (aDy m c)
  lr : Reals (aLr m c)
  li : Reals (aLi m c)
  cr : Reals (aCr m c)
  ci : Reals (aCi m c)

/-- The scan of one state of a group. -/
def WW (c : Dev nD) (j : Fin 16) (n : Fin 512) (k : ℕ) : ℝ × ℝ :=
  W (lam (aLr m c) j n) (lam (aLi m c) j n) (dR (aDy m c) (aCr m c) (HH j n) (NN n)) (dI (aDy m c) (aCi m c) (HH j n) (NN n)) k

attribute [local irreducible] runA runB iblk

section Point
variable {m} {c : Dev nD} (hf : Fine m c) (t : Fin cfg0.N) (j : Fin 16) (hj : j.val = t.val / 8)
include hf hj

/-- The powers at a point. -/
theorem hqt (n : Fin 512) : Pows (lam (aLr m c) j n) (lam (aLi m c) j n) n (k0_pay115 (F := Ideal) (iblk m c 10 t)) (k0_pay116 (F := Ideal) (iblk m c 11 t)) :=
  hq (aLr m c) (aLi m c) hf.lr hf.li j (iblk m c 10 t) (iblk m c 11 t) (fun s n => blk10 m c t j hj s n) (fun s n => blk11 m c t j hj s n) n

/-- The real cotangents at a point. -/
theorem hDt (p : ℕ) (hp : p = 512 * (t.val % 8)) (r n : Fin 512) : k0_pay113 (F := Ideal) (iblk m c 0 t) (iblk m c 8 t) (ix2 r n) = ((dR (aDy m c) (aCr m c) (HH j n) (NN n) (p + (511 - r.val)) : ℝ) : EReal) := by
  subst hp
  exact D_at t.val j hj (aDy m c) (aCr m c) (iblk m c 0 t) (iblk m c 8 t) (fun r k ρ κ h1 h2 => blk0 m c t r k ρ κ h1 h2) (fun n l => blk8 m c t j hj n l) hf.dy hf.cr r n

/-- The imaginary cotangents at a point. -/
theorem hEt (p : ℕ) (hp : p = 512 * (t.val % 8)) (r n : Fin 512) : k0_pay114 (F := Ideal) (iblk m c 0 t) (iblk m c 9 t) (ix2 r n) = ((dI (aDy m c) (aCi m c) (HH j n) (NN n) (p + (511 - r.val)) : ℝ) : EReal) := by
  subst hp
  exact E_at t.val j hj (aDy m c) (aCi m c) (iblk m c 0 t) (iblk m c 9 t) (fun r k ρ κ h1 h2 => blk0 m c t r k ρ κ h1 h2) (fun n l => blk9 m c t j hj n l) hf.dy hf.ci r n

/-- The carry that a point opening a scan leaves. -/
theorem carryA (h : startsScan (grid0.coords t)) (h0 : t.val % 8 = 0) (n : Fin 512) :
    (leftA m c t h).c25 (ix2 0 n) = (((WW m c j n (0 + 512)).1 : ℝ) : EReal) ∧ (leftA m c t h).c26 (ix2 0 n) = (((WW m c j n (0 + 512)).2 : ℝ) : EReal) := by
  delta leftA
  dsimp only
  exact ⟨crA (hc := h) (a := lam (aLr m c) j) (b := lam (aLi m c) j) (dr := fun n => dR (aDy m c) (aCr m c) (HH j n) (NN n)) (di := fun n => dI (aDy m c) (aCi m c) (HH j n) (NN n)) (hq := hqt hf t j hj) (hD := hDt hf t j hj 0 (by omega)) (hE := hEt hf t j hj 0 (by omega)) ..,
    ciA (hc := h) (a := lam (aLr m c) j) (b := lam (aLi m c) j) (dr := fun n => dR (aDy m c) (aCr m c) (HH j n) (NN n)) (di := fun n => dI (aDy m c) (aCi m c) (HH j n) (NN n)) (hq := hqt hf t j hj) (hD := hDt hf t j hj 0 (by omega)) (hE := hEt hf t j hj 0 (by omega)) ..⟩

/-- The carry that any other point leaves, from the carry that it found. -/
theorem carryB (h : ¬startsScan (grid0.coords t)) (q : Left Ideal)
    (hr : ∀ n : Fin 512, q.c25 (ix2 0 n) = (((WW m c j n (512 * (t.val % 8))).1 : ℝ) : EReal)) (hi : ∀ n : Fin 512, q.c26 (ix2 0 n) = (((WW m c j n (512 * (t.val % 8))).2 : ℝ) : EReal)) (n : Fin 512) :
    (leftB m c t h q).c25 (ix2 0 n) = (((WW m c j n (512 * (t.val % 8) + 512)).1 : ℝ) : EReal) ∧ (leftB m c t h q).c26 (ix2 0 n) = (((WW m c j n (512 * (t.val % 8) + 512)).2 : ℝ) : EReal) := by
  delta leftB
  dsimp only
  exact ⟨crB (hc := h) (a := lam (aLr m c) j) (b := lam (aLi m c) j) (dr := fun n => dR (aDy m c) (aCr m c) (HH j n) (NN n)) (di := fun n => dI (aDy m c) (aCi m c) (HH j n) (NN n)) (hq := hqt hf t j hj) (hr := hr) (hi := hi) (hD := hDt hf t j hj _ rfl) (hE := hEt hf t j hj _ rfl) ..,
    ciB (hc := h) (a := lam (aLr m c) j) (b := lam (aLi m c) j) (dr := fun n => dR (aDy m c) (aCr m c) (HH j n) (NN n)) (di := fun n => dI (aDy m c) (aCi m c) (HH j n) (NN n)) (hq := hqt hf t j hj) (hr := hr) (hi := hi) (hD := hDt hf t j hj _ rfl) (hE := hEt hf t j hj _ rfl) ..⟩

/-- The input gradient that a point opening a scan leaves. -/
theorem gradA (h : startsScan (grid0.coords t)) (h0 : t.val % 8 = 0) (r : Fin 512) (l : Fin 128) :
    (leftA m c t h).o15 (ix2 r l) = duAt (iblk m c 0 t) (iblk m c 6 t) (iblk m c 7 t) (iblk m c 12 t) (fun n => (WW m c j n (0 + (512 - r.val))).1) (fun n => (WW m c j n (0 + (512 - r.val))).2) r l := by
  delta leftA
  dsimp only
  exact duA (hc := h) (a := lam (aLr m c) j) (b := lam (aLi m c) j) (dr := fun n => dR (aDy m c) (aCr m c) (HH j n) (NN n)) (di := fun n => dI (aDy m c) (aCi m c) (HH j n) (NN n)) (hq := hqt hf t j hj) (hD := hDt hf t j hj 0 (by omega)) (hE := hEt hf t j hj 0 (by omega)) ..

/-- The input gradient that any other point leaves, from the carry that it found. -/
theorem gradB (h : ¬startsScan (grid0.coords t)) (q : Left Ideal)
    (hr : ∀ n : Fin 512, q.c25 (ix2 0 n) = (((WW m c j n (512 * (t.val % 8))).1 : ℝ) : EReal)) (hi : ∀ n : Fin 512, q.c26 (ix2 0 n) = (((WW m c j n (512 * (t.val % 8))).2 : ℝ) : EReal)) (r : Fin 512) (l : Fin 128) :
    (leftB m c t h q).o15 (ix2 r l) = duAt (iblk m c 0 t) (iblk m c 6 t) (iblk m c 7 t) (iblk m c 12 t) (fun n => (WW m c j n (512 * (t.val % 8) + (512 - r.val))).1) (fun n => (WW m c j n (512 * (t.val % 8) + (512 - r.val))).2) r l := by
  delta leftB
  dsimp only
  exact duB (hc := h) (a := lam (aLr m c) j) (b := lam (aLi m c) j) (dr := fun n => dR (aDy m c) (aCr m c) (HH j n) (NN n)) (di := fun n => dI (aDy m c) (aCi m c) (HH j n) (NN n)) (hq := hqt hf t j hj) (hr := hr) (hi := hi) (hD := hDt hf t j hj _ rfl) (hE := hEt hf t j hj _ rfl) ..

end Point

/-- After every point the carried rows hold the recurrence's state at the rows done so far. -/
theorem carried {c : Dev nD} (hf : Fine m c) (k : ℕ) : ∀ (t : Fin cfg0.N) (j : Fin 16), t.val = k → j.val = t.val / 8 → ∀ n : Fin 512,
    (leftAt m c t.val t.isLt).c25 (ix2 0 n) = (((WW m c j n (512 * (t.val % 8) + 512)).1 : ℝ) : EReal)
    ∧ (leftAt m c t.val t.isLt).c26 (ix2 0 n) = (((WW m c j n (512 * (t.val % 8) + 512)).2 : ℝ) : EReal) := by
  induction k with
  | zero =>
    intro t j ht hj n
    have h0 : t.val % 8 = 0 := by omega
    have h : startsScan (grid0.coords t) := (startsScan_iff t).mpr h0
    rw [leftAt_A m c t h, h0]
    exact carryA hf t j hj h h0 n
  | succ k ih =>
    intro t j ht hj n
    by_cases h0 : t.val % 8 = 0
    · have h : startsScan (grid0.coords t) := (startsScan_iff t).mpr h0
      rw [leftAt_A m c t h, h0]
      exact carryA hf t j hj h h0 n
    · have h : ¬startsScan (grid0.coords t) := fun h => h0 ((startsScan_iff t).mp h)
      rw [leftAt_B m c t h]
      have H := ih ⟨t.val - 1, Nat.lt_of_le_of_lt (Nat.sub_le _ _) t.isLt⟩ j (by dsimp only; omega) (by dsimp only; omega)
      have e : 512 * ((t.val - 1) % 8) + 512 = 512 * (t.val % 8) := by omega
      dsimp only at H
      rw [e] at H
      exact carryB hf t j hj h _ (fun n => (H n).1) (fun n => (H n).2) n

/-- The input gradient after every point. -/
theorem grad {c : Dev nD} (hf : Fine m c) (t : Fin cfg0.N) (j : Fin 16) (hj : j.val = t.val / 8) (r : Fin 512) (l : Fin 128) :
    (leftAt m c t.val t.isLt).o15 (ix2 r l) = duAt (iblk m c 0 t) (iblk m c 6 t) (iblk m c 7 t) (iblk m c 12 t) (fun n => (WW m c j n (512 * (t.val % 8) + (512 - r.val))).1) (fun n => (WW m c j n (512 * (t.val % 8) + (512 - r.val))).2) r l := by
  by_cases h0 : t.val % 8 = 0
  · have h : startsScan (grid0.coords t) := (startsScan_iff t).mpr h0
    rw [leftAt_A m c t h, h0]
    exact gradA hf t j hj h h0 r l
  · have h : ¬startsScan (grid0.coords t) := fun h => h0 ((startsScan_iff t).mp h)
    rw [leftAt_B m c t h]
    have H := carried m hf (t.val - 1) ⟨t.val - 1, Nat.lt_of_le_of_lt (Nat.sub_le _ _) t.isLt⟩ j rfl (by dsimp only; omega)
    have e : 512 * ((t.val - 1) % 8) + 512 = 512 * (t.val % 8) := by omega
    dsimp only at H
    rw [e] at H
    exact gradB hf t j hj h _ (fun n => (H n).1) (fun n => (H n).2) r l

/-- The scan of one state, at a block and a state of the block. -/
def WH (c : Dev nD) (H : Fin 128) (N : Fin 64) (k : ℕ) : ℝ × ℝ :=
  W (aLr m c (ix2 H N) : EReal).toReal (aLi m c (ix2 H N) : EReal).toReal (dR (aDy m c) (aCr m c) H N) (dI (aDy m c) (aCi m c) H N) k

/-- The input's gradient at row `ρ` and column `l` of block `H`. -/
def GU (c : Dev nD) (ρ : Fin 4096) (H : Fin 128) (l : Fin 16) : EReal :=
  ((∑ n : Fin 64, (((WH m c H n (4096 - ρ.val)).1 : ℝ) : EReal) * (aBr m c (ix3 H n l) : EReal)) + ∑ n : Fin 64, (((WH m c H n (4096 - ρ.val)).2 : ℝ) : EReal) * (aBi m c (ix3 H n l) : EReal))
    + (aD m c (ix2 0 ⟨H.val * 16 + l.val, by omega⟩) : EReal) * (aDy m c (ix2 ρ ⟨H.val * 16 + l.val, by omega⟩) : EReal)

/-- The input gradient after every point, from the arguments. -/
theorem grad_at {c : Dev nD} (hf : Fine m c) (t : Fin cfg0.N) (r : Fin 512) (h : Fin 8) (l : Fin 16) (ρ : Fin 4096) (H : Fin 128) (hρ : ρ.val = 512 * (7 - t.val % 8) + r.val) (hH : H.val = t.val / 8 * 8 + h.val) :
    (leftAt m c t.val t.isLt).o15 (ix2 r ⟨h.val * 16 + l.val, by omega⟩) = GU m c ρ H l := by
  have ht : t.val < 128 := t.isLt
  have hr := r.isLt
  refine (grad m hf t ⟨t.val / 8, by omega⟩ rfl r _).trans ?_
  refine (duAt_at t.val ⟨t.val / 8, by omega⟩ rfl (aDy m c) (aBr m c) (aBi m c) (aD m c) (iblk m c 0 t) (iblk m c 6 t) (iblk m c 7 t) (iblk m c 12 t)
    (fun r k ρ κ h1 h2 => blk0 m c t r k ρ κ h1 h2) (fun l n => blk6 m c t _ rfl l n) (fun l n => blk7 m c t _ rfl l n) (fun k κ h => blk12 m c t k κ h) _ _ r h l ρ H hρ hH).trans ?_
  have e : 512 * (t.val % 8) + (512 - r.val) = 4096 - ρ.val := by omega
  have w : ∀ n : Fin 64, WW m c ⟨t.val / 8, by omega⟩ ⟨h.val * 64 + n.val, by omega⟩ (512 * (t.val % 8) + (512 - r.val)) = WH m c H n (4096 - ρ.val) := by
    intro n
    rw [e]
    unfold WW WH lam
    rw [HH_mk ⟨t.val / 8, by omega⟩ h n _ (by dsimp only; omega), NN_mk, show (⟨t.val / 8 * 8 + h.val, by omega⟩ : Fin 128) = H from Fin.ext hH.symm]
  unfold GU
  simp only [w]

/-- One row's term of the skip's gradient, zero past the last row. -/
def skipTerm (c : Dev nD) (κ : Fin 2048) (ρ : ℕ) : EReal := if h : ρ < 4096 then (aDy m c (ix2 ⟨ρ, h⟩ κ) : EReal) * (aU m c (ix2 ⟨ρ, h⟩ κ) : EReal) else 0

/-- One point's term of the skip's gradient. -/
theorem skip_blk (c : Dev nD) (t : Fin cfg0.N) (l : Fin 128) (κ : Fin 2048) (hκ : κ.val = 128 * (t.val / 8) + l.val) (X Y : FVec Ideal S512x128 .f32)
    (hX : ∀ (r : Fin 512) (ρ : Fin 4096), ρ.val = 512 * (7 - t.val % 8) + r.val → X (ix2 r l) = aDy m c (ix2 ρ κ))
    (hY : ∀ (r : Fin 512) (ρ : Fin 4096), ρ.val = 512 * (7 - t.val % 8) + r.val → Y (ix2 r l) = aU m c (ix2 ρ κ)) :
    ∑ r : Fin 512, (X (ix2 r l) : EReal) * (Y (ix2 r l) : EReal) = ∑ r : Fin 512, skipTerm m c κ (512 * (7 - t.val % 8) + r.val) :=
  Finset.sum_congr rfl fun r _ => by
    have hr := r.isLt
    have h : 512 * (7 - t.val % 8) + r.val < 4096 := by omega
    unfold skipTerm
    rw [dif_pos h, hX r ⟨_, h⟩ rfl, hY r ⟨_, h⟩ rfl]

/-- The skip's gradient that a point opening a group leaves. -/
theorem skipA (c : Dev nD) (t : Fin cfg0.N) (h : startsScan (grid0.coords t)) (l : Fin 128) (κ : Fin 2048) (hκ : κ.val = 128 * (t.val / 8) + l.val) :
    (leftA m c t h).o22 (ix2 0 l) = 0 + ∑ r : Fin 512, skipTerm m c κ (512 * (7 - t.val % 8) + r.val) := by
  have e := skip_blk m c t l κ hκ (iblk m c 0 t) (iblk m c 1 t) (fun r ρ h => blk0 m c t r l ρ κ h hκ) (fun r ρ h => blk1 m c t r l ρ κ h hκ)
  rw [← e]
  delta leftA
  dsimp only
  exact ddA (hc := h) ..

/-- The skip's gradient that any other point leaves. -/
theorem skipB (c : Dev nD) (t : Fin cfg0.N) (h : ¬startsScan (grid0.coords t)) (q : Left Ideal) (l : Fin 128) (κ : Fin 2048) (hκ : κ.val = 128 * (t.val / 8) + l.val) :
    (leftB m c t h q).o22 (ix2 0 l) = (q.o22 (ix2 0 l) : EReal) + ∑ r : Fin 512, skipTerm m c κ (512 * (7 - t.val % 8) + r.val) := by
  have e := skip_blk m c t l κ hκ (iblk m c 0 t) (iblk m c 1 t) (fun r ρ h => blk0 m c t r l ρ κ h hκ) (fun r ρ h => blk1 m c t r l ρ κ h hκ)
  rw [← e]
  delta leftB
  dsimp only
  exact ddB (hc := h) ..

/-- The skip's gradient after every point: the sum over the row blocks done so far. -/
theorem skip (c : Dev nD) (k : ℕ) : ∀ (t : Fin cfg0.N) (l : Fin 128) (κ : Fin 2048), t.val = k → κ.val = 128 * (t.val / 8) + l.val →
    (leftAt m c t.val t.isLt).o22 (ix2 0 l) = ∑ T ∈ Finset.range (t.val % 8 + 1), ∑ r : Fin 512, skipTerm m c κ (512 * (7 - T) + r.val) := by
  induction k with
  | zero =>
    intro t l κ ht hκ
    have h0 : t.val % 8 = 0 := by omega
    have h : startsScan (grid0.coords t) := (startsScan_iff t).mpr h0
    rw [leftAt_A m c t h, skipA m c t h l κ hκ, h0, zero_add, Finset.sum_range_one]
  | succ k ih =>
    intro t l κ ht hκ
    by_cases h0 : t.val % 8 = 0
    · have h : startsScan (grid0.coords t) := (startsScan_iff t).mpr h0
      rw [leftAt_A m c t h, skipA m c t h l κ hκ, h0, zero_add, Finset.sum_range_one]
    · have h : ¬startsScan (grid0.coords t) := fun h => h0 ((startsScan_iff t).mp h)
      have H := ih ⟨t.val - 1, Nat.lt_of_le_of_lt (Nat.sub_le _ _) t.isLt⟩ l κ (by dsimp only; omega) (by dsimp only; omega)
      dsimp only at H
      rw [leftAt_B m c t h, skipB m c t h _ l κ hκ, H, show (t.val - 1) % 8 + 1 = t.val % 8 by omega, Finset.sum_range_succ]

/-- The skip's gradient after a group's last point. -/
theorem skip_last (c : Dev nD) (t : Fin cfg0.N) (h7 : t.val % 8 = 7) (l : Fin 128) (κ : Fin 2048) (hκ : κ.val = 128 * (t.val / 8) + l.val) :
    (leftAt m c t.val t.isLt).o22 (ix2 0 l) = ∑ ρ : Fin 4096, (aDy m c (ix2 ρ κ) : EReal) * (aU m c (ix2 ρ κ) : EReal) := by
  rw [skip m c t.val t l κ rfl hκ, h7, sum4096]
  exact Finset.sum_congr rfl fun ρ _ => by unfold skipTerm; rw [dif_pos ρ.isLt]

/-- The block of a column. -/
def cH (x : Fin 2048) : Fin 128 := ⟨x.val / 16, by omega⟩
/-- The column inside its block. -/
def cL (x : Fin 2048) : Fin 16 := ⟨x.val % 16, by omega⟩

/-- The skip's gradient is written back only after a group's last point. -/
theorem flush20 : ∀ t : Fin cfg0.N, (cfg0.win 20).flush t = true → t.val % 8 = 7 :=
  (by decide +kernel : ∀ t : Fin grid0.N, win0_20.flush t = true → t.val % 8 = 7)

/-- After the last grid point the first result holds the input's gradient. -/
theorem final13 {c : Dev nD} (hf : Fine m c) : (dats m 0 c).arrAt 13 cfg0.N = fun y => GU m c (y 0) (cH (y 1)) (cL (y 1)) := by
  refine (dats m 0 c).arrAt_eq_of_covers 13 _ (by decide +kernel) fun t _ y => ?_
  blk_simp
  rw [after13]
  idx_vars y
  have ht : t.val < 128 := t.isLt
  have e : ((View.whole main_v125_0).slice (win0_13.rect t)).emb (ix2 y0 y1) = ix2 (⟨512 * (7 - t.val % 8) + y0.val, by omega⟩ : Fin 4096) (⟨128 * (t.val / 8) + y1.val, by omega⟩ : Fin 2048) := by
    blk_ext [idx t]
  obtain ⟨h, l, rfl⟩ := ex128 y1
  have hh := h.isLt
  have hl := l.isLt
  rw [e, grad_at m hf t y0 h l ⟨512 * (7 - t.val % 8) + y0.val, by omega⟩ ⟨t.val / 8 * 8 + h.val, by omega⟩ rfl rfl]
  refine congrArg₂ (GU m c _) (Fin.ext ?_) (Fin.ext ?_)
  · show t.val / 8 * 8 + h.val = (128 * (t.val / 8) + (h.val * 16 + l.val)) / 16
    omega
  · show l.val = (128 * (t.val / 8) + (h.val * 16 + l.val)) % 16
    omega

/-- After the last grid point the last result holds the skip's gradient. -/
theorem final20 (c : Dev nD) : (dats m 0 c).arrAt 20 cfg0.N = fun y => ∑ ρ : Fin 4096, (aDy m c (ix2 ρ (y 1)) : EReal) * (aU m c (ix2 ρ (y 1)) : EReal) := by
  refine (dats m 0 c).arrAt_eq_of_covers 20 _ (by decide +kernel) fun t hfl y => ?_
  blk_simp
  rw [after20]
  idx_vars y
  have ht : t.val < 128 := t.isLt
  have e : ((View.whole main_v125_7).slice (win0_20.rect t)).emb (ix2 y0 y1) = ix2 (0 : Fin 1) (⟨128 * (t.val / 8) + y1.val, by omega⟩ : Fin 2048) := by
    blk_ext [idx t]
  have z : y0 = 0 := Subsingleton.elim _ _
  subst z
  rw [e, skip_last m c t (flush20 t hfl) y1 ⟨128 * (t.val / 8) + y1.val, by omega⟩ rfl]
  rfl

end Cert.S5Ideal.Val

end
-- ==== Proof.S5Body.lean ====
module

public import proofs.«01_k».proof.Proof.S5Dat

@[expose] public section

set_option maxRecDepth 16384

noncomputable section

namespace Cert.S5Ideal.Body

open Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point that opens a scan. -/
theorem sound_opens (c : Dev nD) (t : Fin cfg0.N) (h : startsScan (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, after0, leaves1, after1, leaves2, after2, leaves3, after3, leaves4, after4, leaves5, after5, leaves6, after6, leaves7, after7, leaves8, after8, leaves9, after9, leaves10, after10, leaves11, after11, leaves12, after12, leaves13, after13, leaves14, after14, leaves15, after15, leaves16, after16, leaves17, after17, leaves18, after18, leaves19, after19, leaves20, after20]
  rw [leftAt_A m c t h]
  refine (sep_mono (PhiS_out m c _ _) .rfl).trans ?_
  rw [PhiA_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((atA m c t h).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [S0]; · iexact S0
  isplitl [S1]; · iexact S1
  isplitl [S2]; · iexact S2
  isplitl [S3]; · iexact S3
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, S0, S1, ⟨%e25, S2⟩, ⟨%e26, S3⟩⟩
  isplitl [S0 S1 S2 S3 Hg]
  · isplitl [S0 S1 S2 S3]
    · isplitl [S0]; · iexact S0
      isplitl [S1]; · iexact S1
      isplitl [S2]
      · unfold owns; iexists _; isplitr
        swap; · iexact S2
        ipureintro; exact readA25 m c t h _ _
      · unfold owns; iexists _; isplitr
        swap; · iexact S3
        ipureintro; exact readA26 m c t h _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact readA15 m c t h _ _
  isplitl [H14]
  · unfold owns; iexists _; isplitr
    swap; · iexact H14
    ipureintro; exact readA16 m c t h _ _
  isplitl [H15]
  · unfold owns; iexists _; isplitr
    swap; · iexact H15
    ipureintro; exact readA17 m c t h _ _
  isplitl [H16]
  · unfold owns; iexists _; isplitr
    swap; · iexact H16
    ipureintro; exact readA18 m c t h _ _
  isplitl [H17]
  · unfold owns; iexists _; isplitr
    swap; · iexact H17
    ipureintro; exact readA19 m c t h _ _
  isplitl [H18]
  · unfold owns; iexists _; isplitr
    swap; · iexact H18
    ipureintro; exact readA20 m c t h _ _
  isplitl [H19]
  · unfold owns; iexists _; isplitr
    swap; · iexact H19
    ipureintro; exact readA21 m c t h _ _
  unfold owns; iexists _; isplitr
  swap; · iexact H20
  ipureintro; exact readA22 m c t h _ _

set_option maxHeartbeats 2000000 in
/-- The body at a point inside a scan. -/
theorem sound_inside (c : Dev nD) (t : Fin cfg0.N) (h : ¬startsScan (grid0.coords t)) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, after0, leaves1, after1, leaves2, after2, leaves3, after3, leaves4, after4, leaves5, after5, leaves6, after6, leaves7, after7, leaves8, after8, leaves9, after9, leaves10, after10, leaves11, after11, leaves12, after12, leaves13, after13, leaves14, after14, leaves15, after15, leaves16, after16, leaves17, after17, leaves18, after18, leaves19, after19, leaves20, after20]
  have h8 : ¬t.val % 8 = 0 := fun h' => h ((startsScan_iff t).mpr h')
  rw [leftAt_B m c t h, PhiS_pos m c _ _ (by omega)]
  simp only [before14 m c t h8, before15 m c t h8, before16 m c t h8, before17 m c t h8, before18 m c t h8, before19 m c t h8, before20 m c t h8]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((atB m c t h _).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [S0]; · iexact S0
  isplitl [S1]; · iexact S1
  isplitl [S2]; · iexact S2
  isplitl [S3]; · iexact S3
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, S0, S1, ⟨%e25, S2⟩, ⟨%e26, S3⟩⟩
  isplitl [S0 S1 S2 S3 Hg]
  · isplitl [S0 S1 S2 S3]
    · isplitl [S0]; · iexact S0
      isplitl [S1]; · iexact S1
      isplitl [S2]
      · unfold owns; iexists _; isplitr
        swap; · iexact S2
        ipureintro; exact readB25 m c t h _ _ _
      · unfold owns; iexists _; isplitr
        swap; · iexact S3
        ipureintro; exact readB26 m c t h _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact readB15 m c t h _ _ _
  isplitl [H14]
  · unfold owns; iexists _; isplitr
    swap; · iexact H14
    ipureintro; exact readB16 m c t h _ _ _
  isplitl [H15]
  · unfold owns; iexists _; isplitr
    swap; · iexact H15
    ipureintro; exact readB17 m c t h _ _ _
  isplitl [H16]
  · unfold owns; iexists _; isplitr
    swap; · iexact H16
    ipureintro; exact readB18 m c t h _ _ _
  isplitl [H17]
  · unfold owns; iexists _; isplitr
    swap; · iexact H17
    ipureintro; exact readB19 m c t h _ _ _
  isplitl [H18]
  · unfold owns; iexists _; isplitr
    swap; · iexact H18
    ipureintro; exact readB20 m c t h _ _ _
  isplitl [H19]
  · unfold owns; iexists _; isplitr
    swap; · iexact H19
    ipureintro; exact readB21 m c t h _ _ _
  unfold owns; iexists _; isplitr
  swap; · iexact H20
  ipureintro; exact readB22 m c t h _ _ _

/-- The body at any point: by cases on whether the point opens a scan. -/
theorem sound_body (c : Dev nD) (t : Fin cfg0.N) :
    bodyPre m c t ⊢ wp frame (wpE (defs₀ (F := F)) Variants.none c none) Set.univ (bodyAt0 t) (fun _ => bodyPost m c t) := by
  by_cases h : startsScan (grid0.coords t)
  · exact sound_opens m c t h
  · exact sound_inside m c t h

/-- The row of the table is the body. -/
theorem row_body (t : Fin cfg0.N) :
    defs₀ (F := F) .tc cfg0.body (cfg0.bodyArgs t (cfg0.slots t)) = bodyAt0 t := by
  unfold defs₀; rw [Defs.onTc_tc]

/-- The body's obligation to the pipeline, at every point. -/
theorem body_ok (c : Dev nD) : BodyObligation (dats (F := F) m 0 c) (defs₀ (F := F)) Variants.none () Set.univ := fun t => by
  rw [bigSep_W0, bigSep_W0, row_body]
  exact triple_restated (sound_body m c t) rfl .rfl fun _ => .rfl

/-- The launch gives the first invariant, -/
theorem phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and the last gives it back. -/
theorem phi_out (c : Dev nD) : (dats m 0 c).Φ (Fin.last cfg0.N) ⊢ Pipeline.ΦA spec0 c := by
  rw [show (dats m 0 c).Φ (Fin.last cfg0.N) = PhiS m c cfg0.N (Nat.le_refl _) by dsimp only [dats]; rfl]
  exact PhiS_out m c _ _

set_option backward.isDefEq.respectTransparency.types false in
/-- The launch: every execution ends, with the arrays at what the proof data say, every other buffer unchanged and
    every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hin := phi_in m) (hout := phi_out m)

end Cert.S5Ideal.Body

end
-- ==== Proof.S5RefVal.lean ====
module

public import proofs.«01_k».proof.Proof.S5Math
public import proofs.«01_k».proof.Proof.Gen.S5RefIdeal.Run
public import Idealize.ShloMosaic.Lib.Pipeline.ValueKit
public import Idealize.ShloMosaic.Lib.Pointwise
public import Idealize.ShloMosaic.Lib.DynamicIndex
public import Idealize.ShloMosaic.Lib.WordCmp
public import Idealize.ShloMosaic.Lib.Tactic.CleanTypes
public import Idealize.ShloMosaic.Lib.Claim

@[expose] public section

set_option maxRecDepth 16384

noncomputable section

namespace Cert.S5RefIdeal.Val

open Cert.S5RefIdeal Cert.S5RefIdeal.Gen Idealize.ShloMosaic Idealize.ShloMosaic.TcCoe Idealize.SL.Sem
open Cert.S5Math Cert.S5RefIdeal.Value Idealize.ShloMosaic.WordCmp
open Idealize.ShloMosaic.StableHlo

variable (m : (ℓ : Loc nD τ sig) → Buf (Elt Ideal) ℓ)

/-- The cotangent of the state's real part at row `r`, block `h`, state `n`. -/
def dRe (dy : FVec Ideal S4096x2048 .f32) (cre : FVec Ideal S128x16x64 .f32) (r : Fin 4096) (h : Fin 128) (n : Fin 64) : EReal :=
  ∑ j : Fin 16, dy (ix2 r ⟨h.val * 16 + j.val, by omega⟩) * cre (ix3 h j n)

/-- The cotangent of the state's imaginary part. -/
def dIm (dy : FVec Ideal S4096x2048 .f32) (cim : FVec Ideal S128x16x64 .f32) (r : Fin 4096) (h : Fin 128) (n : Fin 64) : EReal :=
  ∑ j : Fin 16, -dy (ix2 r ⟨h.val * 16 + j.val, by omega⟩) * cim (ix3 h j n)

/-- The real cotangents as one array. -/
def DRE (dy : FVec Ideal S4096x2048 .f32) (cre : FVec Ideal S128x16x64 .f32) : FVec Ideal S4096x128x64 .f32 :=
  transpose S4096x128x64 [1, 0, 2] (Host.dotGeneral dot_S128x4096x16_S128x16x64_S128x4096x64_2_1_1_2_0_0 none
    (transpose S128x4096x16 [1, 0, 2] (shapeCast S4096x128x16 dy shapeCasts_S4096x2048_S4096x128x16) transposes_S4096x128x16_S128x4096x16_1_0_2) cre)
    transposes_S128x4096x64_S4096x128x64_1_0_2

/-- The imaginary cotangents as one array. -/
def DIM (dy : FVec Ideal S4096x2048 .f32) (cim : FVec Ideal S128x16x64 .f32) : FVec Ideal S4096x128x64 .f32 :=
  transpose S4096x128x64 [1, 0, 2] (Host.dotGeneral dot_S128x4096x16_S128x16x64_S128x4096x64_2_1_1_2_0_0 none
    (transpose S128x4096x16 [1, 0, 2] (Host.negf (shapeCast S4096x128x16 dy shapeCasts_S4096x2048_S4096x128x16)) transposes_S4096x128x16_S128x4096x16_1_0_2) cim)
    transposes_S128x4096x64_S4096x128x64_1_0_2

/-- One real cotangent. -/
theorem DRE_apply (dy : FVec Ideal S4096x2048 .f32) (cre : FVec Ideal S128x16x64 .f32) (r : Fin 4096) (h : Fin 128) (n : Fin 64) :
    DRE dy cre (ix3 r h n) = dRe dy cre r h n := by
  unfold DRE dRe
  clean_types
  pointwise

/-- One imaginary cotangent. -/
theorem DIM_apply (dy : FVec Ideal S4096x2048 .f32) (cim : FVec Ideal S128x16x64 .f32) (r : Fin 4096) (h : Fin 128) (n : Fin 64) :
    DIM dy cim (ix3 r h n) = dIm dy cim r h n := by
  unfold DIM dIm
  clean_types
  pointwise

/-- The buffers after `k` trips. -/
abbrev X (c : Dev nD) (k : ℕ) : Valuation τ sig (Elt Ideal) := STEP^[k] (entryContents preI m c)

/-- One more trip. -/
theorem X_succ (c : Dev nD) (k : ℕ) : X m c (k + 1) = STEP (X m c k) := Function.iterate_succ_apply' ..

/-- The real cotangents stay. -/
theorem X0 (c : Dev nD) (k : ℕ) : X m c k (Proc.devRef .tc main_v14_0) = DRE (m ((c.tc : Thread nD τ).loc main_arg0)) (m ((c.tc : Thread nD τ).loc main_arg8)) := by
  induction k with
  | zero =>
    simp only [X, Function.iterate_zero, id_eq, entryContents, afterL_cons, afterL_nil]
    after_reads_simp
    rfl
  | succ k ih => rw [X_succ, STEP_main_v14_0, ih]

/-- The imaginary cotangents stay. -/
theorem X1 (c : Dev nD) (k : ℕ) : X m c k (Proc.devRef .tc main_v14_1) = DIM (m ((c.tc : Thread nD τ).loc main_arg0)) (m ((c.tc : Thread nD τ).loc main_arg9)) := by
  induction k with
  | zero =>
    simp only [X, Function.iterate_zero, id_eq, entryContents, afterL_cons, afterL_nil]
    after_reads_simp
    rfl
  | succ k ih => rw [X_succ, STEP_main_v14_1, ih]

/-- The multiplier's real part stays. -/
theorem X2 (c : Dev nD) (k : ℕ) : X m c k (Proc.devRef .tc main_v14_2) = m ((c.tc : Thread nD τ).loc main_arg4) := by
  induction k with
  | zero =>
    simp only [X, Function.iterate_zero, id_eq, entryContents, afterL_cons, afterL_nil]
    after_reads_simp
    rfl
  | succ k ih => rw [X_succ, STEP_main_v14_2, ih]

/-- The multiplier's imaginary part stays. -/
theorem X3 (c : Dev nD) (k : ℕ) : X m c k (Proc.devRef .tc main_v14_3) = m ((c.tc : Thread nD τ).loc main_arg5) := by
  induction k with
  | zero =>
    simp only [X, Function.iterate_zero, id_eq, entryContents, afterL_cons, afterL_nil]
    after_reads_simp
    rfl
  | succ k ih => rw [X_succ, STEP_main_v14_3, ih]

/-- The counter. -/
theorem X4 (c : Dev nD) (k : ℕ) : X m c k (Proc.devRef .tc main_v14_4) = fun _ => BitVec.ofNat 32 k := by
  induction k with
  | zero => exact ctr_entry m c
  | succ k ih =>
    rw [X_succ, STEP_main_v14_4, step_main_v14_4, ih]
    funext i
    show BitVec.ofNat 32 k + 1#32 = BitVec.ofNat 32 (k + 1)
    rw [BitVec.ofNat_add]

/-- The row that trip `k` reads and writes. -/
theorem row (c : Dev nD) (k : ℕ) (hk : k < 4096) (i) : (res_main_while0b_v32 (X m c k) i).toInt = ((4095 - k : ℕ) : ℤ) := by
  unfold res_main_while0b_v32
  rw [X4]
  show ((4096#32 - BitVec.ofNat 32 k) - 1#32).toInt = _
  have e : (4096#32 - BitVec.ofNat 32 k) - 1#32 = BitVec.ofNat 32 (4095 - k) := by
    apply BitVec.eq_of_toNat_eq
    simp only [BitVec.toNat_sub, BitVec.toNat_ofNat]
    omega
  rw [e, Idealize.ShloMosaic.toInt_ofNat_of_lt (by omega)]

/-- The row of an array that trip `k` reads. -/
theorem slice_row (c : Dev nD) (k : ℕ) (hk : k < 4096) (x : FVec Ideal S4096x128x64 .f32) (h : Fin 128) (n : Fin 64) :
    shapeCast S128x64 (Host.dynamicSlice S1x128x64 x (fun k' => (((![res_main_while0b_v32 (X m c k), constantI S_ 32 0#32, constantI S_ 32 0#32] : Fin 3 → (⟨S_, .i32⟩ : BufTy).Contents (Elt Ideal))) k' (Shape.Idx.first h_S_)).toInt) sliceFits_S4096x128x64_S1x128x64) shapeCasts_S1x128x64_S128x64 (ix2 h n)
      = x (ix3 ⟨4095 - k, by omega⟩ h n) := by
  rw [dynamicSlice_eq_extract S1x128x64 x _ _ ![4095 - k, 0, 0] ⟨rfl, fun a => by
      fin_cases a <;> simp [Shape.size] <;> omega⟩ (fun a => by
      fin_cases a
      · exact row m c k hk _
      · rfl
      · rfl)]
  clean_types
  pointwise
  done

/-- The row of an array that trip `k` writes. -/
theorem upd_row (c : Dev nD) (k : ℕ) (hk : k < 4096) (x : FVec Ideal S4096x128x64 .f32) (u : FVec Ideal S128x64 .f32) (r : Fin 4096) (h : Fin 128) (n : Fin 64) :
    Host.dynamicUpdateSlice x (broadcastInDim S1x128x64 ![1, 2] bcast_S128x64_S1x128x64_1_2 u) (fun k' => (((![res_main_while0b_v32 (X m c k), constantI S_ 32 0#32, constantI S_ 32 0#32] : Fin 3 → (⟨S_, .i32⟩ : BufTy).Contents (Elt Ideal))) k' (Shape.Idx.first h_S_)).toInt) updateFits_S4096x128x64_S1x128x64 (ix3 r h n)
      = if r.val + k = 4095 then u (ix2 h n) else x (ix3 r h n) := by
  refine (congrFun (dynamicUpdateSlice_eq_update (u := S1x128x64) x _ _ updateFits_S4096x128x64_S1x128x64 ![4095 - k, 0, 0] ⟨rfl, fun a => by
      fin_cases a <;> simp [Shape.size] <;> omega⟩ (fun a => by
      fin_cases a
      · exact row m c k hk _
      · rfl
      · rfl)) (ix3 r h n)).trans ?_
  clean_types
  pointwise
  by_cases hr : r.val + k = 4095
  · rw [dif_pos (by omega), if_pos hr]
  · rw [dif_neg (by omega), if_neg hr]

/-- Argument 0 of the reference. -/
abbrev aDy (c : Dev nD) : FVec Ideal S4096x2048 .f32 := m ((c.tc : Thread nD τ).loc main_arg0)

/-- Argument 1 of the reference. -/
abbrev aU (c : Dev nD) : FVec Ideal S4096x2048 .f32 := m ((c.tc : Thread nD τ).loc main_arg1)

/-- Argument 4 of the reference. -/
abbrev aLr (c : Dev nD) : FVec Ideal S128x64 .f32 := m ((c.tc : Thread nD τ).loc main_arg4)

/-- Argument 5 of the reference. -/
abbrev aLi (c : Dev nD) : FVec Ideal S128x64 .f32 := m ((c.tc : Thread nD τ).loc main_arg5)

/-- Argument 6 of the reference. -/
abbrev aBr (c : Dev nD) : FVec Ideal S128x64x16 .f32 := m ((c.tc : Thread nD τ).loc main_arg6)

/-- Argument 7 of the reference. -/
abbrev aBi (c : Dev nD) : FVec Ideal S128x64x16 .f32 := m ((c.tc : Thread nD τ).loc main_arg7)

/-- Argument 8 of the reference. -/
abbrev aCr (c : Dev nD) : FVec Ideal S128x16x64 .f32 := m ((c.tc : Thread nD τ).loc main_arg8)

/-- Argument 9 of the reference. -/
abbrev aCi (c : Dev nD) : FVec Ideal S128x16x64 .f32 := m ((c.tc : Thread nD τ).loc main_arg9)

/-- Argument 10 of the reference. -/
abbrev aD (c : Dev nD) : FVec Ideal S1x2048 .f32 := m ((c.tc : Thread nD τ).loc main_arg10)

/-- The real cotangents by their distance from the last row. -/
def dr (dy : FVec Ideal S4096x2048 .f32) (cre : FVec Ideal S128x16x64 .f32) (h : Fin 128) (n : Fin 64) (k : ℕ) : EReal := dRe dy cre ⟨4095 - k, by omega⟩ h n

/-- The imaginary cotangents by their distance from the last row. -/
def di (dy : FVec Ideal S4096x2048 .f32) (cim : FVec Ideal S128x16x64 .f32) (h : Fin 128) (n : Fin 64) (k : ℕ) : EReal := dIm dy cim ⟨4095 - k, by omega⟩ h n

/-- The carry after `k` trips at block `h` and state `n`. -/
def car (c : Dev nD) (h : Fin 128) (n : Fin 64) (k : ℕ) : EReal × EReal :=
  carry (aLr m c (ix2 h n)) (aLi m c (ix2 h n))
    (dr (aDy m c) (aCr m c) h n) (di (aDy m c) (aCi m c) h n) k

/-- The real part of the state that trip `k` writes. -/
theorem v35 (c : Dev nD) (h : Fin 128) (n : Fin 64) (k : ℕ) (hk : k < 4096)
    (h5 : (X m c k (Proc.devRef .tc main_v14_5) : FVec Ideal S128x64 .f32) (ix2 h n) = (car m c h n k).1) :
    (res_main_while0b_v35 (X m c k) : FVec Ideal S128x64 .f32) (ix2 h n) = (car m c h n k).1 + dr (aDy m c) (aCr m c) h n k := by
  unfold res_main_while0b_v35
  rw [X0]
  refine (congrArg₂ (fun p q : EReal => p + q) h5 (slice_row m c k hk _ h n)).trans ?_
  rw [DRE_apply]
  rfl

/-- The imaginary part of the state that trip `k` writes. -/
theorem v36 (c : Dev nD) (h : Fin 128) (n : Fin 64) (k : ℕ) (hk : k < 4096)
    (h6 : (X m c k (Proc.devRef .tc main_v14_6) : FVec Ideal S128x64 .f32) (ix2 h n) = (car m c h n k).2) :
    (res_main_while0b_v36 (X m c k) : FVec Ideal S128x64 .f32) (ix2 h n) = (car m c h n k).2 + di (aDy m c) (aCi m c) h n k := by
  unfold res_main_while0b_v36
  rw [X1]
  refine (congrArg₂ (fun p q : EReal => p + q) h6 (slice_row m c k hk _ h n)).trans ?_
  rw [DIM_apply]
  rfl

/-- The carries after `k` trips. -/
theorem carries (c : Dev nD) (h : Fin 128) (n : Fin 64) (k : ℕ) (hk : k ≤ 4096) :
    (X m c k (Proc.devRef .tc main_v14_5) : FVec Ideal S128x64 .f32) (ix2 h n) = (car m c h n k).1
    ∧ (X m c k (Proc.devRef .tc main_v14_6) : FVec Ideal S128x64 .f32) (ix2 h n) = (car m c h n k).2 := by
  induction k with
  | zero =>
    simp only [X, Function.iterate_zero, id_eq, entryContents, afterL_cons, afterL_nil]
    after_reads_simp
    have z : (broadcastInDim S128x64 ![] bcast_S_S128x64 (constant S_ FTy.f32 0x00000000#32) : FVec Ideal S128x64 .f32) (ix2 h n) = 0 := by
      pointwise
    exact ⟨z, z⟩
  | succ k ih =>
    obtain ⟨h5, h6⟩ := ih (by omega)
    have e5 := v35 m c h n k (by omega) h5
    have e6 := v36 m c h n k (by omega) h6
    rw [X_succ, STEP_main_v14_5, STEP_main_v14_6, step_main_v14_5, step_main_v14_6, X2, X3]
    constructor
    · refine (congrArg₂ (fun p q : EReal => aLi m c (ix2 h n) * p + aLr m c (ix2 h n) * q) e6 e5).trans ?_
      unfold car; rw [carry]
    · refine (congrArg₂ (fun p q : EReal => aLr m c (ix2 h n) * p + aLi m c (ix2 h n) * -q) e6 e5).trans ?_
      unfold car; rw [carry]

/-- One entry of the real parts stored, a trip later. -/
theorem st7 (c : Dev nD) (k : ℕ) (hk : k < 4096) (r : Fin 4096) (h : Fin 128) (n : Fin 64) :
    (X m c (k + 1) (Proc.devRef .tc main_v14_7) : FVec Ideal S4096x128x64 .f32) (ix3 r h n)
      = if r.val + k = 4095 then (res_main_while0b_v35 (X m c k) : FVec Ideal S128x64 .f32) (ix2 h n)
        else (X m c k (Proc.devRef .tc main_v14_7) : FVec Ideal S4096x128x64 .f32) (ix3 r h n) := by
  rw [X_succ, STEP_main_v14_7]
  unfold step_main_v14_7
  rw [id_eq]
  exact upd_row m c k hk _ _ r h n

/-- One entry of the imaginary parts stored, a trip later. -/
theorem st8 (c : Dev nD) (k : ℕ) (hk : k < 4096) (r : Fin 4096) (h : Fin 128) (n : Fin 64) :
    (X m c (k + 1) (Proc.devRef .tc main_v14_8) : FVec Ideal S4096x128x64 .f32) (ix3 r h n)
      = if r.val + k = 4095 then (res_main_while0b_v36 (X m c k) : FVec Ideal S128x64 .f32) (ix2 h n)
        else (X m c k (Proc.devRef .tc main_v14_8) : FVec Ideal S4096x128x64 .f32) (ix3 r h n) := by
  rw [X_succ, STEP_main_v14_8]
  unfold step_main_v14_8
  rw [id_eq]
  exact upd_row m c k hk _ _ r h n

/-- The adjoint states stored after `k` trips: the last `k` rows. -/
theorem stored (c : Dev nD) (r : Fin 4096) (h : Fin 128) (n : Fin 64) (k : ℕ) (hk : k ≤ 4096) (hr : 4096 ≤ r.val + k) :
    (X m c k (Proc.devRef .tc main_v14_7) : FVec Ideal S4096x128x64 .f32) (ix3 r h n) = (car m c h n (4095 - r.val)).1 + dr (aDy m c) (aCr m c) h n (4095 - r.val)
    ∧ (X m c k (Proc.devRef .tc main_v14_8) : FVec Ideal S4096x128x64 .f32) (ix3 r h n) = (car m c h n (4095 - r.val)).2 + di (aDy m c) (aCi m c) h n (4095 - r.val) := by
  induction k with
  | zero => omega
  | succ k ih =>
    obtain ⟨h5, h6⟩ := carries m c h n k (by omega)
    have e5 := v35 m c h n k (by omega) h5
    have e6 := v36 m c h n k (by omega) h6
    rw [st7 m c k (by omega), st8 m c k (by omega)]
    by_cases hk' : r.val + k = 4095
    · rw [if_pos hk', if_pos hk', show 4095 - r.val = k by omega]
      exact ⟨e5, e6⟩
    · rw [if_neg hk', if_neg hk']
      exact ih (by omega) (by omega)

/-- The gradient with respect to the layer's input, at row `r` and column `l` of block `h`. -/
def DU (c : Dev nD) (r : Fin 4096) (h : Fin 128) (l : Fin 16) : EReal :=
  ((∑ n : Fin 64, ((car m c h n (4095 - r.val)).2 + di (aDy m c) (aCi m c) h n (4095 - r.val)) * aBi m c (ix3 h n l))
  + ∑ n : Fin 64, ((car m c h n (4095 - r.val)).1 + dr (aDy m c) (aCr m c) h n (4095 - r.val)) * aBr m c (ix3 h n l))
  + aD m c (ix2 0 ⟨h.val * 16 + l.val, by omega⟩) * aDy m c (ix2 r ⟨h.val * 16 + l.val, by omega⟩)

/-- The products that give the input's gradient from the adjoint states. -/
def OUT (gr gi : FVec Ideal S4096x128x64 .f32) (bre bim : FVec Ideal S128x64x16 .f32) (d : FVec Ideal S1x2048 .f32) (dy : FVec Ideal S4096x2048 .f32) : FVec Ideal S4096x2048 .f32 :=
  addf (shapeCast _ (addf (transpose S4096x128x16 [1, 0, 2] (Host.dotGeneral dot_S128x4096x64_S128x64x16_S128x4096x16_2_1_1_2_0_0 none (transpose S128x4096x64 [1, 0, 2] gi transposes_S4096x128x64_S128x4096x64_1_0_2) bim) transposes_S128x4096x16_S4096x128x16_1_0_2) (transpose S4096x128x16 [1, 0, 2] (Host.dotGeneral dot_S128x4096x64_S128x64x16_S128x4096x16_2_1_1_2_0_0 none (transpose S128x4096x64 [1, 0, 2] gr transposes_S4096x128x64_S128x4096x64_1_0_2) bre) transposes_S128x4096x16_S4096x128x16_1_0_2)) shapeCasts_S4096x128x16_S4096x2048) (mulf (broadcastInDim S4096x2048 ![0, 1] bcast_S1x2048_S4096x2048_0_1 d) dy)

/-- Those products at one index. -/
theorem OUT_apply (gr gi : FVec Ideal S4096x128x64 .f32) (bre bim : FVec Ideal S128x64x16 .f32) (d : FVec Ideal S1x2048 .f32) (dy : FVec Ideal S4096x2048 .f32) (r : Fin 4096) (h : Fin 128) (l : Fin 16) :
    OUT gr gi bre bim d dy (ix2 r ⟨h.val * 16 + l.val, by omega⟩)
      = ((∑ n : Fin 64, gi (ix3 r h n) * bim (ix3 h n l)) + ∑ n : Fin 64, gr (ix3 r h n) * bre (ix3 h n l))
        + d (ix2 0 ⟨h.val * 16 + l.val, by omega⟩) * dy (ix2 r ⟨h.val * 16 + l.val, by omega⟩) := by
  unfold OUT
  clean_types
  pointwise
  done

/-- The reference's first result at one index. -/
theorem out0 (c : Dev nD) (r : Fin 4096) (h : Fin 128) (l : Fin 16) :
    (out_main_v30 (X m c 4096) : FVec Ideal S4096x2048 .f32) (ix2 r ⟨h.val * 16 + l.val, by omega⟩) = DU m c r h l := by
  have e : out_main_v30 (X m c 4096) = OUT (X m c 4096 (Proc.devRef .tc main_v14_7)) (X m c 4096 (Proc.devRef .tc main_v14_8)) (aBr m c) (aBi m c) (aD m c) (aDy m c) := by
    unfold out_main_v30 OUT
    rw [show X m c 4096 (Proc.devRef .tc main_arg6) = _ from iter_main_arg6 m c 4096, show X m c 4096 (Proc.devRef .tc main_arg7) = _ from iter_main_arg7 m c 4096, show X m c 4096 (Proc.devRef .tc main_arg10) = _ from iter_main_arg10 m c 4096, show X m c 4096 (Proc.devRef .tc main_arg0) = _ from iter_main_arg0 m c 4096]
    rfl
  rw [e]
  refine (OUT_apply _ _ _ _ _ _ r h l).trans ?_
  unfold DU
  simp only [(stored m c r h _ 4096 le_rfl (by omega)).1, (stored m c r h _ 4096 le_rfl (by omega)).2]

/-- The reference's second result at one index: the sum over the rows of cotangent times input. -/
theorem out1 (c : Dev nD) (i : Fin 1) (j : Fin 2048) :
    (out_main_v29 (X m c 4096) : FVec Ideal S1x2048 .f32) (ix2 i j) = ∑ r : Fin 4096, aDy m c (ix2 r j) * aU m c (ix2 r j) := by
  unfold out_main_v29
  rw [show X m c 4096 (Proc.devRef .tc main_arg0) = _ from iter_main_arg0 m c 4096, show X m c 4096 (Proc.devRef .tc main_arg1) = _ from iter_main_arg1 m c 4096]
  clean_types
  pointwise
  done

end Cert.S5RefIdeal.Val

end
-- ==== Proof.S5Alg.lean ====
module

public import proofs.«01_k».proof.Proof.S5Val
public import proofs.«01_k».proof.Proof.S5Body
public import proofs.«01_k».proof.Proof.S5RefVal
public import proofs.«01_k».proof.Proof.Gen.Pre_finite
public import proofs.«01_k».proof.Defs

@[expose] public section

set_option maxRecDepth 16384

noncomputable section

namespace Cert.S5Ideal.Val

open Cert.S5Math Cert.S5Ideal.Host Cert.S5Ideal.Tile Cert.S5Ideal.Sums
open Cert.S5Ideal Cert.S5Ideal.Gen Cert.S5Ideal.Body Idealize.ShloMosaic Idealize.ShloMosaic.TcCoe Idealize.SL.Sem Idealize.ShloMosaic.StableHlo
open Idealize.ShloMosaic.Pipeline (Dat)

/-- A number that differs from itself by zero is real. -/
theorem real_of_sub (x : EReal) (h : x - x = 0) : ((x.toReal : ℝ) : EReal) = x := by
  induction x with
  | bot => simp at h
  | top => simp at h
  | coe r => rfl

/-- An array that differs from itself by the zero array holds real numbers. -/
theorem reals_of {s : Shape} (x : FVec Ideal s .f32) (b : (⟨0, ![]⟩ : Shape).BroadcastsInDim s (![] : Fin 0 → Fin s.rank))
    (h : cmpf .oeq (subf x x) (broadcastInDim s ![] b (constant (F := Ideal) ⟨0, ![]⟩ .f32 0x00000000#32)) = fun _ => 1#1) : Reals x := by
  intro i
  refine real_of_sub _ ?_
  have e := congrFun h i
  by_contra hne
  rw [ValueIdx.cmpf_apply, Ideal.cmpf_def] at e
  change Ideal.cmp .oeq ((x i : EReal) - (x i : EReal)) (Ideal.ofBits .f32 0x00000000#32) = 1#1 at e
  rw [Ideal.ofBits_zero_f32] at e
  simp [Ideal.cmp, hne] at e

variable (m : (ℓ : Loc nD τ sig) → Buf (Elt Ideal) ℓ) (ρ : Dev nD → PrngReg)
variable (m' : (ℓ : Loc Cert.S5RefIdeal.nD Cert.S5RefIdeal.τ Cert.S5RefIdeal.sig) → Buf (Elt Ideal) ℓ)

section Same
variable {m m'} {c : Dev nD} (hf : Fine m c)
  (h0 : Cert.S5RefIdeal.Val.aDy m' c = aDy m c) (h4 : Cert.S5RefIdeal.Val.aLr m' c = aLr m c) (h5 : Cert.S5RefIdeal.Val.aLi m' c = aLi m c)
  (h6 : Cert.S5RefIdeal.Val.aBr m' c = aBr m c) (h7 : Cert.S5RefIdeal.Val.aBi m' c = aBi m c) (h8 : Cert.S5RefIdeal.Val.aCr m' c = aCr m c) (h9 : Cert.S5RefIdeal.Val.aCi m' c = aCi m c) (h10 : Cert.S5RefIdeal.Val.aD m' c = aD m c)

include hf h0 h4 h5 h8 h9 in
/-- The reference's adjoint state is the kernel's scan, one trip on. -/
theorem state_eq (H : Fin 128) (n : Fin 64) (k : ℕ) :
    (Cert.S5RefIdeal.Val.car m' c H n k).1 + Cert.S5RefIdeal.Val.dr (Cert.S5RefIdeal.Val.aDy m' c) (Cert.S5RefIdeal.Val.aCr m' c) H n k = (((WH m c H n (k + 1)).1 : ℝ) : EReal)
    ∧ (Cert.S5RefIdeal.Val.car m' c H n k).2 + Cert.S5RefIdeal.Val.di (Cert.S5RefIdeal.Val.aDy m' c) (Cert.S5RefIdeal.Val.aCi m' c) H n k = (((WH m c H n (k + 1)).2 : ℝ) : EReal) := by
  have er : Cert.S5RefIdeal.Val.dr (aDy m c) (aCr m c) H n = fun k => ((dR (aDy m c) (aCr m c) H n k : ℝ) : EReal) := by
    funext k
    rw [dR_coe _ _ hf.dy hf.cr]
    rfl
  have ei : Cert.S5RefIdeal.Val.di (aDy m c) (aCi m c) H n = fun k => ((dI (aDy m c) (aCi m c) H n k : ℝ) : EReal) := by
    funext k
    rw [dI_coe _ _ hf.dy hf.ci]
    rfl
  have G := g_real (aLr m c (ix2 H n) : EReal).toReal (aLi m c (ix2 H n) : EReal).toReal (dR (aDy m c) (aCr m c) H n) (dI (aDy m c) (aCi m c) H n) k
  unfold Cert.S5RefIdeal.Val.car
  rw [h0, h4, h5, h8, h9, er, ei]
  unfold WH
  rw [W_succ]
  unfold gre gim at G
  rw [hf.lr, hf.li] at G
  exact G

include hf h0 h4 h5 h6 h7 h8 h9 h10 in
/-- The reference's gradient of the input is the kernel's. -/
theorem grad_eq (ρ : Fin 4096) (H : Fin 128) (l : Fin 16) : Cert.S5RefIdeal.Val.DU m' c ρ H l = GU m c ρ H l := by
  have hρ := ρ.isLt
  unfold Cert.S5RefIdeal.Val.DU GU
  simp only [(state_eq hf h0 h4 h5 h8 h9 H _ _).1, (state_eq hf h0 h4 h5 h8 h9 H _ _).2]
  rw [h6, h7, h10, h0, show 4095 - ρ.val + 1 = 4096 - ρ.val by omega]
  exact congrArg (· + _) (add_comm _ _)

/-- The reference's gradient of the skip is the kernel's. -/
theorem skip_eq {c : Dev nD} (h0 : Cert.S5RefIdeal.Val.aDy m' c = aDy m c) (h1 : Cert.S5RefIdeal.Val.aU m' c = aU m c) (κ : Fin 2048) :
    ∑ r : Fin 4096, (Cert.S5RefIdeal.Val.aDy m' c (ix2 r κ) : EReal) * (Cert.S5RefIdeal.Val.aU m' c (ix2 r κ) : EReal) = ∑ ρ : Fin 4096, (aDy m c (ix2 ρ κ) : EReal) * (aU m c (ix2 ρ κ) : EReal) := by
  rw [h0, h1]

end Same

/-- An index of the input's gradient by row, block and column of the block. -/
theorem col_split (y : S4096x2048.Idx) : y = ix2 (y 0) ⟨(cH (y 1)).val * 16 + (cL (y 1)).val, by have := (cL (y 1)).isLt; have := (cH (y 1)).isLt; omega⟩ := by
  idx_vars y
  refine congrArg (ix2 y0) (Fin.ext ?_)
  show y1.val = y1.val / 16 * 16 + y1.val % 16
  omega

/-- An index of the skip's gradient by row and column. -/
theorem row_split (y : S1x2048.Idx) : y = ix2 (y 0) (y 1) := by
  idx_vars y
  rfl

/-- The precondition says that the arrays hold real numbers. -/
theorem fine (h : Cert.Pre_S5Ideal_finite m) (c : Dev nD) : Fine m c where
  dy := reals_of _ _ (h c).1
  lr := reals_of _ _ (h c).2.1
  li := reals_of _ _ (h c).2.2.1
  cr := reals_of _ _ (h c).2.2.2.1
  ci := reals_of _ _ (h c).2.2.2.2

/-- The kernel's run, its two results named. -/
theorem run_blocks : θ_run defs (onTc (τ := τ) (main (F := Ideal))) ⟨m, fun _ => 0, ρ⟩ fun r => ∀ c : Dev nD,
      r.2.mem ((c : Thread nD τ).loc main_v125_0) = (dats m 0 c).arrAt 13 cfg0.N
      ∧ r.2.mem ((c : Thread nD τ).loc main_v125_7) = (dats m 0 c).arrAt 20 cfg0.N
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) := by
  have R := run_main (F := Ideal) m ρ
  have K := frame_of (F := Ideal) m ρ (dats m) (A_eq m) ((θ_run defs _ _).mono (fun _ h => h.1) R)
  exact (θ_run defs _ _).mono (fun r h c => ⟨(h.1.1 c).1 13, (h.1.1 c).1 20, h.2 c⟩) (θ_run_and R K)

end Cert.S5Ideal.Val

namespace Cert.S5Ideal.Body

open Cert.S5Ideal Cert.S5Ideal.Gen Idealize.ShloMosaic Idealize.ShloMosaic.TcCoe Idealize.SL.Sem

variable {F : FTy → Type} [FloatOps F] (m : (ℓ : Loc nD τ sig) → Buf (Elt F) ℓ) (ρ : Dev nD → PrngReg)

/-- The kernel runs, leaves its arguments and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) := by
  have R := run_main (F := F) m ρ
  have K := frame_of (F := F) m ρ (dats m) (A_eq m) ((θ_run defs _ _).mono (fun _ h => h.1) R)
  exact (θ_run defs _ _).mono (fun r h => ⟨h.2, h.1.2⟩) (θ_run_and R K)

/-- The frame at words, from every memory. -/
def AtWords : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0)

/-- The frame at words holds. -/
theorem atWords : AtWords := fun m ρ _ => frame (F := Bits) m ρ

end Cert.S5Ideal.Body

end
-- ==== Proof.DownVal.lean ====
module

public import proofs.«01_k».proof.Proof.Gen.DownIdeal.Value
public import proofs.«01_k».proof.Proof.Gen.DownRefIdeal.Run
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DownIdeal.Val

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at every grid point. -/
theorem idx : ∀ t : Fin cfg0.N, win0_0.index t = ![t.val / 8, 0] ∧ win0_1.index t = ![t.val % 8 / 2, 2 + t.val % 2, 0] ∧ win0_2.index t = ![t.val / 8, t.val % 8] ∧ win0_3.index t = ![t.val / 8, t.val % 8] :=
  (by decide +kernel : ∀ t : Fin grid0.N, _)

/-- The float two, the factor of a square's derivative. -/
def two : EReal := Ideal.ofBits .f32 0x40000000#32

/-- One entry of a grid point's block: the product's entry times the derivative of the squared rectifier. -/
theorem point (x : FVec Ideal S1024x2048 .bf16) (w : FVec Ideal S1x1024x2048 .bf16) (u : FVec Ideal S1024x1024 .bf16) (p q : Fin 1024) :
    out0_3 (F := Ideal) x w u (ix2 p q) = (∑ k : Fin 2048, x (ix2 p k) * w (ix3 0 q k)) * two * max (u (ix2 p q)) 0 := by
  unfold out0_3
  frame_out
  unfold k0_pay1
  pointwise
  rfl

/-- The result's entry at row `r` and column `s`. -/
def entry (d : FVec Ideal S4096x2048 .bf16) (w : FVec Ideal S4x5120x2048 .bf16) (u : FVec Ideal S4096x8192 .bf16) (r : Fin 4096) (s : Fin 8192) : EReal :=
  (∑ k : Fin 2048, d (ix2 r k) * w (ix3 (⟨s.val / 2048, by omega⟩ : Fin 4) (⟨2048 + s.val % 2048, by omega⟩ : Fin 5120) k)) * two * max (u (ix2 r s)) 0

/-- After the last grid point the result holds the cotangent of the rectifier's argument. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t _ y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val % 8) + y1.val, by omega⟩ : Fin 8192) := by
    blk_ext [idx t]
  rw [point (iblk m c 0 t) (iblk m c 1 t) (iblk m c 2 t), e]
  show _ = entry _ _ _ _ _
  unfold entry
  refine congrArg₂ (· * ·) (congrArg (· * two) (Finset.sum_congr rfl fun k _ => congrArg₂ (· * ·) ?_ ?_)) (congrArg (max · 0) ?_)
  · blk_point [iblk, V, idx t]
  · blk_point [iblk, V, idx t]
  · blk_point [iblk, V, idx t]

/-- The reference's result read at an index. -/
theorem reference (d : FVec Ideal S4096x2048 .bf16) (w : FVec Ideal S4x5120x2048 .bf16) (u : FVec Ideal S4096x8192 .bf16) (o : FVec Ideal Cert.DownRefIdeal.S4096x8192 .bf16)
    (hz : Cert.DownRefIdeal.S_.BroadcastsInDim Cert.DownRefIdeal.S4096x8192 (![] : Fin 0 → Fin 2))
    (ho : o = truncf .bf16 (select (cmpf .ogt (extf .f32 u) (broadcastInDim Cert.DownRefIdeal.S4096x8192 ![] hz (constant Cert.DownRefIdeal.S_ .f32 0x00000000#32)))
      (mulf (Host.dotGeneral Cert.DownRefIdeal.dot_S4096x2048_S8192x2048_S4096x8192_1_1_0_0_n_n none (extf .f32 d) (extf .f32 (shapeCast Cert.DownRefIdeal.S8192x2048 (extractStridedSlice Cert.DownRefIdeal.S4x2048x2048 ![0, 2048, 0] w))))
        (mulf (broadcastInDim Cert.DownRefIdeal.S4096x8192 ![] hz (constant Cert.DownRefIdeal.S_ .f32 0x40000000#32)) (maximumf (extf .f32 u) (broadcastInDim Cert.DownRefIdeal.S4096x8192 ![] hz (constant Cert.DownRefIdeal.S_ .f32 0x00000000#32)))))
      (broadcastInDim Cert.DownRefIdeal.S4096x8192 ![] hz (constant Cert.DownRefIdeal.S_ .f32 0x00000000#32)))) :
    o = fun y => entry d w u (y 0) (y 1) := by
  subst ho
  funext y
  idx_vars y
  unfold entry
  clean_types
  pointwise
  split
  · rw [mul_assoc]; rfl
  · next h => rw [max_eq_right (not_lt.mp h), mul_zero]

end Cert.DownIdeal.Val

end
-- ==== Proof.MmSum.lean ====
module

public import Idealize.ShloMosaic.Lib.Pipeline.ValueKit
public import Idealize.ShloMosaic.Lib.Pointwise

@[expose] public section

noncomputable section

namespace Cert.Mm

/-- Two zero offsets. -/
theorem z2 : (![0, 0] : Fin 2 → ℕ) = fun _ => 0 := funext fun a => by fin_cases a <;> rfl

/-- Three zero offsets. -/
theorem z3 : (![0, 0, 0] : Fin 3 → ℕ) = fun _ => 0 := funext fun a => by fin_cases a <;> rfl

/-- A place of a block of `b` places, `n` blocks in a row, is one of the `n * b` places. -/
theorem place {n b N : ℕ} (h : n * b = N) (q : Fin n) (p : Fin b) : b * q.val + p.val < N := by
  have hq := q.isLt
  have hp := p.isLt
  calc b * q.val + p.val < b * q.val + b := by omega
    _ = b * (q.val + 1) := by ring
    _ ≤ b * n := Nat.mul_le_mul_left b hq
    _ = N := by rw [← h, Nat.mul_comm]

/-- A sum over `n * b` places, block of `b` by block. -/
theorem sum_blocks {n b N : ℕ} (h : n * b = N) (f : Fin N → EReal) :
    ∑ k : Fin N, f k = ∑ q : Fin n, ∑ p : Fin b, f ⟨b * q.val + p.val, place h q p⟩ := by
  subst h
  rw [← Equiv.sum_comp (finProdFinEquiv : Fin n × Fin b ≃ Fin (n * b)), Fintype.sum_prod_type]
  refine Finset.sum_congr rfl fun q _ => Finset.sum_congr rfl fun p _ => congrArg f (Fin.ext ?_)
  show p.val + b * q.val = b * q.val + p.val
  omega

/-- A sum whose terms vanish from `n` on is the sum of its first `n` terms. -/
theorem sum_padded {n N : ℕ} (h : n ≤ N) (f : Fin N → EReal) (hz : ∀ k : Fin N, n ≤ k.val → f k = 0) :
    ∑ k : Fin N, f k = ∑ k : Fin n, f ⟨k.val, by omega⟩ := by
  obtain ⟨d, rfl⟩ := Nat.exists_eq_add_of_le h
  rw [Fin.sum_univ_add, Finset.sum_eq_zero (s := (Finset.univ : Finset (Fin d))) (fun k _ => hz _ (Nat.le_add_right n k.val)), add_zero]
  rfl

end Cert.Mm

end
-- ==== Proof.DDownVal.lean ====
module

public import proofs.«01_k».proof.Proof.Gen.DDownIdeal.Value
public import proofs.«01_k».proof.Proof.Gen.DDownRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DDownIdeal.Val

open Cert.DDownIdeal Cert.DDownIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x w : Vec F S2048x1024 .bf16) (s : Vec F S1024x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x1024) z2, View.ld_unit_zero (S := S1024x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 8, 2 + t.val / 4 % 2, t.val / 2 % 2] :=
  (by decide +kernel : ∀ t : Fin grid0.N, _)

/-- One entry of a point's product. -/
theorem pay_at (x w : FVec Ideal S2048x1024 .bf16) (p q : Fin 1024) :
    k0_pay1 (F := Ideal) x w (ix2 p q) = ∑ k : Fin 2048, x (ix2 k p) * w (ix2 k q) := by
  unfold k0_pay1
  pointwise

/-- One entry of the sum and a point's product. -/
theorem sum_at (x w : FVec Ideal S2048x1024 .bf16) (s : FVec Ideal S1024x1024 .f32) (p q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x8192 .bf16) (d : FVec Ideal S4096x2048 .bf16) (r : Fin 8192) (s : Fin 2048) (k : Fin 4096) : EReal :=
  a (ix2 k r) * d (ix2 k s)

/-- The product of one grid point as terms of the result. -/
theorem part_at (c : Dev nD) (t : Fin cfg0.N) (p q : Fin 1024) (j : Fin 2) (hj : t.val % 2 = j.val) (r : Fin 8192) (hr : r.val = 1024 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 32 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p q : Fin 1024) (r : Fin 8192) (hr : r.val = 1024 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 32 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x8192 .bf16) (d : FVec Ideal S4096x2048 .bf16) (g : FVec Ideal S4x5120x2048 .bf16) (y0 : Fin 4) (y1 : Fin 5120) (y2 : Fin 2048) : EReal :=
  if h : 2048 ≤ y1.val ∧ y1.val < 4096 then ∑ k : Fin 4096, term a d ⟨2048 * y0.val + (y1.val - 2048), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => 2 ≤ β (1 : Fin 3) ∧ β (1 : Fin 3) < 4) (by decide +kernel) (fun t hf y => ?_) (fun j hj => ?_)
  · blk_simp
    rw [after0_2]
    idx_vars y
    have ht : t.val < 32 := t.isLt
    have e : ((View.whole main_v0).slice (win0_2.rect t)).emb (ix3 y0 y1 y2) = ix3 (⟨t.val / 8, by omega⟩ : Fin 4) (⟨2048 + 1024 * (t.val / 4 % 2) + y1.val, by omega⟩ : Fin 5120) (⟨1024 * (t.val / 2 % 2) + y2.val, by omega⟩ : Fin 2048) := by
      blk_ext [idx t]
    rw [e]
    show _ = entry _ _ _ (⟨t.val / 8, by omega⟩ : Fin 4) (⟨2048 + 1024 * (t.val / 4 % 2) + y1.val, by omega⟩ : Fin 5120) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x8192 .bf16) (d : FVec Ideal S4096x2048 .bf16) (g : FVec Ideal S4x5120x2048 .bf16) (o : FVec Ideal Cert.DDownRefIdeal.S4x5120x2048 .bf16)
    (hc : Shape.Concatenates [Cert.DDownRefIdeal.S4x2048x2048, Cert.DDownRefIdeal.S4x2048x2048, Cert.DDownRefIdeal.S4x1024x2048] Cert.DDownRefIdeal.S4x5120x2048 1)
    (ho : o = concatenate Cert.DDownRefIdeal.S4x5120x2048 1 [⟨Cert.DDownRefIdeal.S4x2048x2048, extractStridedSlice Cert.DDownRefIdeal.S4x2048x2048 ![0, 0, 0] g⟩,
      ⟨Cert.DDownRefIdeal.S4x2048x2048, shapeCast Cert.DDownRefIdeal.S4x2048x2048 (truncf (F := Ideal) .bf16 (transpose Cert.DDownRefIdeal.S8192x2048 [1, 0] (Host.dotGeneral Cert.DDownRefIdeal.dot_S4096x2048_S4096x8192_S2048x8192_0_0_1_1_n_n none (extf .f32 d) (extf .f32 a))))⟩,
      ⟨Cert.DDownRefIdeal.S4x1024x2048, extractStridedSlice Cert.DDownRefIdeal.S4x1024x2048 ![0, 4096, 0] g⟩] hc) :
    o = fun y => entry a d g (y 0) (y 1) (y 2) := by
  subst ho
  funext y
  idx_vars y
  unfold entry term
  clean_types
  pointwise
  by_cases h : y1.val < 2048
  · rw [dif_pos h, dif_neg (by omega)]
  rw [dif_neg h]
  by_cases h' : y1.val - 2048 < 2048
  · rw [dif_pos h', dif_pos (by omega)]
    refine Finset.sum_congr rfl fun k _ => (mul_comm _ _).trans ?_
    exact congrArg (fun z : Fin 8192 => a (ix2 k z) * d (ix2 k y2)) (Fin.ext (by dsimp only; omega))
  · rw [dif_neg h', dif_neg (by omega)]
    exact congrArg (fun z : Fin 5120 => g (ix3 y0 z y2)) (Fin.ext (by dsimp only; omega))

end Cert.DDownIdeal.Val

end
-- ==== Proof.DUpVal.lean ====
module

public import proofs.«01_k».proof.Proof.Gen.DUpIdeal.Value
public import proofs.«01_k».proof.Proof.Gen.DUpRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DUpIdeal.Val

open Cert.DUpIdeal Cert.DUpIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x w : Vec F S2048x1024 .bf16) (s : Vec F S1024x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x1024) z2, View.ld_unit_zero (S := S1024x1024) z2]

end Cases

variable (m : (ℓ : Loc nD τ sig) → Buf (Elt Ideal) ℓ)

/-- The block index of every window at every grid point. -/
theorem idx : ∀ t : Fin cfg0.N, win0_0.index t = ![t.val % 2, t.val / 16] ∧ win0_1.index t = ![t.val % 2, t.val / 2 % 8] ∧ win0_2.index t = ![t.val / 4 % 4, t.val / 16, t.val / 2 % 2] :=
  (by decide +kernel : ∀ t : Fin grid0.N, _)

/-- One entry of a point's product. -/
theorem pay_at (x w : FVec Ideal S2048x1024 .bf16) (p q : Fin 1024) :
    k0_pay1 (F := Ideal) x w (ix2 p q) = ∑ k : Fin 2048, x (ix2 k p) * w (ix2 k q) := by
  unfold k0_pay1
  pointwise

/-- One entry of the sum and a point's product. -/
theorem sum_at (x w : FVec Ideal S2048x1024 .bf16) (s : FVec Ideal S1024x1024 .f32) (p q : Fin 1024) :
    k0_pay4 (F := Ideal) x w s (ix3 0 p q) = s (ix2 p q) + k0_pay1 (F := Ideal) x w (ix2 p q) := by
  unfold k0_pay4
  pointwise

/-- One term of the weight's gradient at row `r` and column `s`: the input's entry times the cotangent's. -/
def term (a : FVec Ideal S4096x2048 .bf16) (d : FVec Ideal S4096x8192 .bf16) (r : Fin 2048) (s : Fin 8192) (k : Fin 4096) : EReal :=
  a (ix2 k r) * d (ix2 k s)

/-- The product of one grid point as terms of the gradient. -/
theorem part_at (c : Dev nD) (t : Fin cfg0.N) (p q : Fin 1024) (j : Fin 2) (hj : t.val % 2 = j.val) (r : Fin 2048) (hr : r.val = 1024 * (t.val / 16) + p.val) (s : Fin 8192) (hs : s.val = 1024 * (t.val / 2 % 8) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 32 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p q : Fin 1024) (r : Fin 2048) (hr : r.val = 1024 * (t.val / 16) + p.val) (s : Fin 8192) (hs : s.val = 1024 * (t.val / 2 % 8) + q.val) :
    (outsAt0 m c t.val t.isLt).1 (ix3 0 p q) = ∑ k : Fin 4096, term (m ((c : Thread nD τ).loc main_arg0)) (m ((c : Thread nD τ).loc main_arg1)) r s k := by
  have ht : t.val < 32 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the gradient, its columns running over the four parts, outside what was there. -/
def entry (a : FVec Ideal S4096x2048 .bf16) (d : FVec Ideal S4096x8192 .bf16) (g : FVec Ideal S4x5120x2048 .bf16) (y0 : Fin 4) (y1 : Fin 5120) (y2 : Fin 2048) : EReal :=
  if h : y1.val < 2048 then ∑ k : Fin 4096, term a d ⟨y1.val, h⟩ ⟨2048 * y0.val + y2.val, by omega⟩ k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) < 2) (by decide +kernel) (fun t hf y => ?_) (fun j hj => ?_)
  · blk_simp
    rw [after0_2]
    idx_vars y
    have ht : t.val < 32 := t.isLt
    have e : ((View.whole main_v0).slice (win0_2.rect t)).emb (ix3 y0 y1 y2) = ix3 (⟨t.val / 4 % 4, by omega⟩ : Fin 4) (⟨1024 * (t.val / 16) + y1.val, by omega⟩ : Fin 5120) (⟨1024 * (t.val / 2 % 2) + y2.val, by omega⟩ : Fin 2048) := by
      blk_ext [idx t]
    rw [e]
    show _ = entry _ _ _ (⟨t.val / 4 % 4, by omega⟩ : Fin 4) (⟨1024 * (t.val / 16) + y1.val, by omega⟩ : Fin 5120) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ rfl _ (by dsimp only; omega)
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x8192 .bf16) (g : FVec Ideal S4x5120x2048 .bf16) (o : FVec Ideal Cert.DUpRefIdeal.S4x5120x2048 .bf16)
    (hc : Shape.Concatenates [Cert.DUpRefIdeal.S4x2048x2048, Cert.DUpRefIdeal.S4x3072x2048] Cert.DUpRefIdeal.S4x5120x2048 1)
    (ho : o = concatenate Cert.DUpRefIdeal.S4x5120x2048 1 [⟨Cert.DUpRefIdeal.S4x2048x2048, transpose Cert.DUpRefIdeal.S4x2048x2048 [1, 0, 2] (shapeCast Cert.DUpRefIdeal.S2048x4x2048
        (truncf (F := Ideal) .bf16 (transpose Cert.DUpRefIdeal.S2048x8192 [1, 0] (Host.dotGeneral Cert.DUpRefIdeal.dot_S4096x8192_S4096x2048_S8192x2048_0_0_1_1_n_n none (extf .f32 d) (extf .f32 a)))))⟩,
      ⟨Cert.DUpRefIdeal.S4x3072x2048, extractStridedSlice Cert.DUpRefIdeal.S4x3072x2048 ![0, 2048, 0] g⟩] hc) :
    o = fun y => entry a d g (y 0) (y 1) (y 2) := by
  subst ho
  funext y
  idx_vars y
  unfold entry term
  clean_types
  pointwise
  by_cases h : y1.val < 2048
  · rw [dif_pos h, dif_pos h]
    refine Finset.sum_congr rfl fun k _ => (mul_comm _ _).trans ?_
    exact congrArg (fun z : Fin 8192 => a (ix2 k ⟨y1.val, h⟩) * d (ix2 k z)) (Fin.ext (by dsimp only; omega))
  · rw [dif_neg h, dif_neg h]
    exact congrArg (fun z : Fin 5120 => g (ix3 y0 z y2)) (Fin.ext (by dsimp only; omega))

end Cert.DUpIdeal.Val

end
-- ==== Proof.UpVal.lean ====
module

public import proofs.«01_k».proof.Proof.Gen.UpIdeal.Value
public import proofs.«01_k».proof.Proof.Gen.UpRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.UpIdeal.Val

open Cert.UpIdeal Cert.UpIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x1024x2048 .bf16) (h4 : a4.IsWhole)
  (a5 : Memref sig .tc .vmem S1024x1024 .f32) (h5 : a5.IsWhole) (a6 : Memref sig .tc .vmem S1024x1024 .f32) (h6 : a6.IsWhole)
  (x : Vec F S1024x2048 .bf16) (w : Vec F S1x1024x2048 .bf16) (s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 hA hB hC x w = k0_pay1 x w := by
  unfold sout0_A_0
  rw [View.read_writes_eq_canon _ _ _ (scover0_A_0 c i a3 h3 a4 h4 a5 h5 a6 h6 hA hB hC x w)]
  unfold kernelRun0_A
  dsimp only
  rw [View.canon_unit_zero z2]
  unfold k0_pay2
  simp only [View.readAt_eq_ld, h3.read_unread, h4.read_unread, View.ld_unit_zero (S := S1024x2048) z2, View.ld_unit_zero (S := S1x1024x2048) z3, shapeCast_self]

/-- A middle point adds its product to the sum. -/
theorem next_sum (hA : ¬cond0_0 i) (hB : cond0_1 i) (hC : ¬cond0_2 i) : sout0_B_0 c i a3 h3 a4 h4 a5 h5 a6 h6 hA hB hC x w s = addf s (k0_pay1 x w) := by
  unfold sout0_B_0
  rw [View.read_writes_eq_canon _ _ _ (scover0_B_0 c i a3 h3 a4 h4 a5 h5 a6 h6 hA hB hC x w s)]
  unfold kernelRun0_B
  dsimp only
  rw [View.canon_unit_zero z2]
  unfold k0_pay3
  simp only [View.readAt_eq_ld, h3.read_unread, h4.read_unread, h6.read_unread, View.ld_unit_zero (S := S1024x2048) z2, View.ld_unit_zero (S := S1024x1024) z2, View.ld_unit_zero (S := S1x1024x2048) z3, shapeCast_self]

/-- The last point leaves the sum and its product in the result. -/
theorem last_sum (hA : ¬cond0_0 i) (hB : ¬cond0_1 i) (hC : cond0_2 i) : out0_C_2 c i a3 h3 a4 h4 a5 h5 a6 h6 hA hB hC x w s = addf s (k0_pay1 x w) := by
  unfold out0_C_2
  rw [View.read_writes_eq_canon _ _ _ (cover0_C_2 c i a3 h3 a4 h4 a5 h5 a6 h6 hA hB hC x w s)]
  unfold kernelRun0_C
  dsimp only
  rw [View.canon_unit_zero z2]
  unfold k0_pay4
  simp only [View.readAt_eq_ld, h3.read_unread, h4.read_unread, h6.read_unread, View.ld_unit_zero (S := S1024x2048) z2, View.ld_unit_zero (S := S1024x1024) z2, View.ld_unit_zero (S := S1x1024x2048) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- One entry of a point's product. -/
theorem pay_at (x : FVec Ideal S1024x2048 .bf16) (w : FVec Ideal S1x1024x2048 .bf16) (p q : Fin 1024) :
    k0_pay1 (F := Ideal) x w (ix2 p q) = ∑ k : Fin 2048, x (ix2 p k) * w (ix3 0 q k) := by
  unfold k0_pay1
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = addf (outsAt0 m c (t.val - 1) (Nat.lt_of_le_of_lt (Nat.sub_le _ _) t.isLt)).2 (part m c t) := by
  rw [outsAt0_C m c t (by omega) (by omega) h]
  dsimp only; rw [last_sum]; rfl

/-- One term of the result at row `r` and column `s`: the cotangent's entry times the weight's. -/
def term (a : FVec Ideal S4096x8192 .bf16) (w : FVec Ideal S4x5120x2048 .bf16) (r : Fin 4096) (s : Fin 2048) (k : Fin 8192) : EReal :=
  a (ix2 r k) * w (ix3 (⟨k.val / 2048, by omega⟩ : Fin 4) (⟨s.val, by omega⟩ : Fin 5120) (⟨k.val % 2048, by omega⟩ : Fin 2048))

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 2048, term (m ((c : Thread nD τ).loc main_arg0)) (m ((c : Thread nD τ).loc main_arg1)) r s ⟨2048 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = ∑ k : Fin 8192, term (m ((c : Thread nD τ).loc main_arg0)) (m ((c : Thread nD τ).loc main_arg1)) r s k := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, e2, e1, e0]
  show part m c _ (ix2 p q) + part m c _ (ix2 p q) + part m c _ (ix2 p q) + part m c _ (ix2 p q) = _
  rw [part_at m c _ p q 0 (by dsimp only; omega) r (by dsimp only; omega) s (by dsimp only; omega), part_at m c _ p q 1 (by dsimp only; omega) r (by dsimp only; omega) s (by dsimp only; omega),
    part_at m c _ p q 2 (by dsimp only; omega) r (by dsimp only; omega) s (by dsimp only; omega), part_at m c t p q 3 h r hr s hs,
    Cert.Mm.sum_blocks (n := 4) (b := 2048) rfl, Fin.sum_univ_four]

/-- After the last grid point the result holds the product over the whole inner axis. -/
theorem final (c : Dev nD) : (dats m 0 c).arrAt 2 cfg0.N
    = fun y => ∑ k : Fin 8192, term (m ((c : Thread nD τ).loc main_arg0)) (m ((c : Thread nD τ).loc main_arg1)) (y 0) (y 1) k := by
  refine (dats m 0 c).arrAt_eq_of_covers 2 _ (by decide +kernel) fun t hf y => ?_
  blk_simp
  rw [after0_2]
  idx_vars y
  have ht : t.val < 32 := t.isLt
  have e : ((View.whole main_v0).slice (win0_2.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_2 t).mp hf) y0 y1 _ rfl _ rfl

/-- The reference's product read at an index. -/
theorem reference (a : FVec Ideal S4096x8192 .bf16) (w : FVec Ideal S4x5120x2048 .bf16) (o : FVec Ideal Cert.UpRefIdeal.S4096x2048 .f32)
    (ho : o = Host.dotGeneral Cert.UpRefIdeal.dot_S4096x8192_S2048x8192_S4096x2048_1_1_0_0_n_n none (extf .f32 a) (extf .f32 (shapeCast Cert.UpRefIdeal.S2048x8192 (transpose Cert.UpRefIdeal.S2048x4x2048 [1, 0, 2] (extractStridedSlice Cert.UpRefIdeal.S4x2048x2048 ![0, 0, 0] w))))) :
    o = fun y => ∑ k : Fin 8192, term a w (y 0) (y 1) k := by
  subst ho
  funext y
  idx_vars y
  unfold term
  clean_types
  pointwise

end Cert.UpIdeal.Val

end
-- ==== Proof.InTVal.lean ====
module

public import proofs.«01_k».proof.Proof.Gen.InTIdeal.Value
public import proofs.«01_k».proof.Proof.Gen.InTRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.InTIdeal.Val

open Cert.InTIdeal Cert.InTIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x1664 .bf16) (h3 : a3.IsWhole) (a4 : Memref sig .tc .vmem S1664x1024 .bf16) (h4 : a4.IsWhole)
  (a5 : Memref sig .tc .vmem S1024x1024 .f32) (h5 : a5.IsWhole) (a6 : Memref sig .tc .vmem S1024x1024 .f32) (h6 : a6.IsWhole)
  (x : Vec F S1024x1664 .bf16) (w : Vec F S1664x1024 .bf16) (s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 hA hB hC x w = k0_pay1 x w := by
  unfold sout0_A_0
  rw [View.read_writes_eq_canon _ _ _ (scover0_A_0 c i a3 h3 a4 h4 a5 h5 a6 h6 hA hB hC x w)]
  unfold kernelRun0_A
  dsimp only
  rw [View.canon_unit_zero z2]
  unfold k0_pay2
  simp only [View.readAt_eq_ld, h3.read_unread, h4.read_unread, View.ld_unit_zero (S := S1024x1664) z2, View.ld_unit_zero (S := S1664x1024) z2, shapeCast_self]

/-- A middle point adds its product to the sum. -/
theorem next_sum (hA : ¬cond0_0 i) (hB : cond0_1 i) (hC : ¬cond0_2 i) : sout0_B_0 c i a3 h3 a4 h4 a5 h5 a6 h6 hA hB hC x w s = addf s (k0_pay1 x w) := by
  unfold sout0_B_0
  rw [View.read_writes_eq_canon _ _ _ (scover0_B_0 c i a3 h3 a4 h4 a5 h5 a6 h6 hA hB hC x w s)]
  unfold kernelRun0_B
  dsimp only
  rw [View.canon_unit_zero z2]
  unfold k0_pay3
  simp only [View.readAt_eq_ld, h3.read_unread, h4.read_unread, h6.read_unread, View.ld_unit_zero (S := S1024x1664) z2, View.ld_unit_zero (S := S1024x1024) z2, View.ld_unit_zero (S := S1664x1024) z2, shapeCast_self]

/-- The last point leaves the sum and its product in the result. -/
theorem last_sum (hA : ¬cond0_0 i) (hB : ¬cond0_1 i) (hC : cond0_2 i) : out0_C_2 c i a3 h3 a4 h4 a5 h5 a6 h6 hA hB hC x w s = addf s (k0_pay1 x w) := by
  unfold out0_C_2
  rw [View.read_writes_eq_canon _ _ _ (cover0_C_2 c i a3 h3 a4 h4 a5 h5 a6 h6 hA hB hC x w s)]
  unfold kernelRun0_C
  dsimp only
  rw [View.canon_unit_zero z2]
  unfold k0_pay4
  simp only [View.readAt_eq_ld, h3.read_unread, h4.read_unread, h6.read_unread, View.ld_unit_zero (S := S1024x1664) z2, View.ld_unit_zero (S := S1024x1024) z2, View.ld_unit_zero (S := S1664x1024) z2, shapeCast_self]

end Cases

variable (m : (ℓ : Loc nD τ sig) → Buf (Elt Ideal) ℓ)

/-- The block index of every window at every grid point. -/
theorem idx : ∀ t : Fin cfg0.N, win0_0.index t = ![t.val / 10, t.val % 5] ∧ win0_1.index t = ![t.val % 5, t.val / 5 % 2] ∧ win0_2.index t = ![t.val / 10, t.val / 5 % 2] :=
  (by decide +kernel : ∀ t : Fin grid0.N, _)

/-- One entry of a point's product. -/
theorem pay_at (x : FVec Ideal S1024x1664 .bf16) (w : FVec Ideal S1664x1024 .bf16) (p q : Fin 1024) :
    k0_pay1 (F := Ideal) x w (ix2 p q) = ∑ k : Fin 1664, x (ix2 p k) * w (ix2 k q) := by
  unfold k0_pay1
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 5 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 5 ∧ t.val % 5 ≤ 3) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 5 = 4) :
    (outsAt0 m c t.val t.isLt).1 = addf (outsAt0 m c (t.val - 1) (Nat.lt_of_le_of_lt (Nat.sub_le _ _) t.isLt)).2 (part m c t) := by
  rw [outsAt0_C m c t (by omega) (by omega) h]
  dsimp only; rw [last_sum]; rfl

/-- The weight with zero rows behind it, read at an index. -/
theorem pad_at (b : FVec Ideal S8208x2048 .bf16) (r : Fin 8320) (s : Fin 2048) :
    pad S8320x2048 ![0, 0] ![112, 0] ![0, 0] b (sitofp (F := Ideal) .bf16 (constantI S_ 32 0#32)) pads_S8208x2048_S8320x2048_01120_000 h_S_ (ix2 r s)
      = if h : r.val < 8208 then b (ix2 (⟨r.val, h⟩ : Fin 8208) s) else (0 : EReal) := by
  have e : (FloatOps.sitofp (F := Ideal) .bf16 (0#32) : EReal) = 0 := by
    show (((0#32 : BitVec 32).toInt : ℝ) : EReal) = 0
    simp
  pointwise
  rw [e]

/-- The region finds the weight with its zero rows. -/
theorem V_pad (c : Dev nD) : V m c main_v0 = pad S8320x2048 ![0, 0] ![112, 0] ![0, 0] (m ((c : Thread nD τ).loc main_arg1)) (sitofp (F := Ideal) .bf16 (constantI S_ 32 0#32)) pads_S8208x2048_S8320x2048_01120_000 h_S_ := by
  unfold V
  simp only [hostOps0, hostOps0_1, List.flatten_cons, List.flatten_nil, List.append_nil, List.cons_append, List.nil_append]
  after_results <;> rfl

/-- One term of the result at row `r` and column `s` over the padded weight's rows. -/
def wide (a : FVec Ideal S4096x8320 .bf16) (b : FVec Ideal S8320x2048 .bf16) (r : Fin 4096) (s : Fin 2048) (k : Fin 8320) : EReal :=
  a (ix2 r k) * b (ix2 k s)

/-- The product of one grid point as terms of the result. -/
theorem part_at (c : Dev nD) (t : Fin cfg0.N) (p q : Fin 1024) (j : Fin 5) (hj : t.val % 5 = j.val) (r : Fin 4096) (hr : r.val = 1024 * (t.val / 10) + p.val) (s : Fin 2048) (hs : s.val = 1024 * (t.val / 5 % 2) + q.val) :
    part m c t (ix2 p q) = ∑ k : Fin 1664, wide (m ((c : Thread nD τ).loc main_arg0)) (V m c main_v0) r s ⟨1664 * j.val + k.val, by omega⟩ := by
  have ht : t.val < 40 := t.isLt
  unfold part wide
  rw [pay_at, ← V_main_arg0 m c]
  refine Finset.sum_congr rfl fun k _ => congrArg₂ (· * ·) ?_ ?_
  · blk_point [iblk, idx t, hr, hj]
  · blk_point [iblk, idx t, hs, hj]

/-- The result's block after the last point of a row, as sums over the whole inner axis. -/
theorem last_at (c : Dev nD) (t : Fin cfg0.N) (h : t.val % 5 = 4) (p q : Fin 1024) (r : Fin 4096) (hr : r.val = 1024 * (t.val / 10) + p.val) (s : Fin 2048) (hs : s.val = 1024 * (t.val / 5 % 2) + q.val) :
    (outsAt0 m c t.val t.isLt).1 (ix2 p q) = ∑ k : Fin 8320, wide (m ((c : Thread nD τ).loc main_arg0)) (V m c main_v0) r s k := by
  have ht : t.val < 40 := t.isLt
  have e3 := run_next m c ⟨t.val - 1, by omega⟩ (by dsimp only; omega)
  have e2 := run_next m c ⟨t.val - 1 - 1, by omega⟩ (by dsimp only; omega)
  have e1 := run_next m c ⟨t.val - 1 - 1 - 1, by omega⟩ (by dsimp only; omega)
  have e0 := run_start m c ⟨t.val - 1 - 1 - 1 - 1, by omega⟩ (by dsimp only; omega)
  dsimp only at e3 e2 e1 e0
  rw [run_last m c t h, e3, e2, e1, e0]
  show part m c _ (ix2 p q) + part m c _ (ix2 p q) + part m c _ (ix2 p q) + part m c _ (ix2 p q) + part m c _ (ix2 p q) = _
  rw [part_at m c _ p q 0 (by dsimp only; omega) r (by dsimp only; omega) s (by dsimp only; omega), part_at m c _ p q 1 (by dsimp only; omega) r (by dsimp only; omega) s (by dsimp only; omega),
    part_at m c _ p q 2 (by dsimp only; omega) r (by dsimp only; omega) s (by dsimp only; omega), part_at m c _ p q 3 (by dsimp only; omega) r (by dsimp only; omega) s (by dsimp only; omega),
    part_at m c t p q 4 h r hr s hs, Cert.Mm.sum_blocks (n := 5) (b := 1664) rfl, Fin.sum_univ_five]

/-- One term of the result over the weight's own rows. -/
def term (a : FVec Ideal S4096x8320 .bf16) (w : FVec Ideal S8208x2048 .bf16) (r : Fin 4096) (s : Fin 2048) (k : Fin 8208) : EReal :=
  a (ix2 r (⟨k.val, by omega⟩ : Fin 8320)) * w (ix2 k s)

/-- The zero rows behind the weight add nothing. -/
theorem wide_sum (a : FVec Ideal S4096x8320 .bf16) (b : FVec Ideal S8208x2048 .bf16) (r : Fin 4096) (s : Fin 2048) :
    ∑ k : Fin 8320, wide a (pad S8320x2048 ![0, 0] ![112, 0] ![0, 0] b (sitofp (F := Ideal) .bf16 (constantI S_ 32 0#32)) pads_S8208x2048_S8320x2048_01120_000 h_S_) r s k = ∑ k : Fin 8208, term a b r s k := by
  rw [Cert.Mm.sum_padded (n := 8208) (by decide) _ fun k hk => by unfold wide; rw [pad_at, dif_neg (by omega), mul_zero]]
  refine Finset.sum_congr rfl fun k _ => ?_
  unfold wide term
  rw [pad_at, dif_pos k.isLt]

/-- After the last grid point the result holds the product over the weight's rows. -/
theorem final (c : Dev nD) : (dats m 0 c).arrAt 2 cfg0.N
    = fun y => ∑ k : Fin 8208, term (m ((c : Thread nD τ).loc main_arg0)) (m ((c : Thread nD τ).loc main_arg1)) (y 0) (y 1) k := by
  refine (dats m 0 c).arrAt_eq_of_covers 2 _ (by decide +kernel) fun t hf y => ?_
  blk_simp
  rw [after0_2]
  idx_vars y
  have ht : t.val < 40 := t.isLt
  have e : ((View.whole main_v1).slice (win0_2.rect t)).emb (ix2 y0 y1) = ix2 (⟨1024 * (t.val / 10) + y0.val, by omega⟩ : Fin 4096) (⟨1024 * (t.val / 5 % 2) + y1.val, by omega⟩ : Fin 2048) := by
    blk_ext [idx t]
  rw [e]
  refine (last_at m c t ((flush0_2 t).mp hf) y0 y1 (⟨1024 * (t.val / 10) + y0.val, by omega⟩ : Fin 4096) rfl (⟨1024 * (t.val / 5 % 2) + y1.val, by omega⟩ : Fin 2048) rfl).trans ?_
  rw [V_pad]
  exact wide_sum _ _ _ _

/-- The reference's product read at an index. -/
theorem reference (a : FVec Ideal S4096x8320 .bf16) (w : FVec Ideal S8208x2048 .bf16) (o : FVec Ideal Cert.InTRefIdeal.S4096x2048 .f32)
    (ho : o = Host.dotGeneral Cert.InTRefIdeal.dot_S4096x8208_S2048x8208_S4096x2048_1_1_0_0_n_n none (extf .f32 (extractStridedSlice Cert.InTRefIdeal.S4096x8208 ![0, 0] a)) (transpose Cert.InTRefIdeal.S2048x8208 [1, 0] (extf .f32 w))) :
    o = fun y => ∑ k : Fin 8208, term a w (y 0) (y 1) k := by
  subst ho
  funext y
  idx_vars y
  unfold term
  clean_types
  pointwise

end Cert.InTIdeal.Val

end
-- ==== Proof.DInVal.lean ====
module

public import proofs.«01_k».proof.Proof.Gen.DInIdeal.Value
public import proofs.«01_k».proof.Proof.Gen.DInRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DInIdeal.Val

open Cert.DInIdeal Cert.DInIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x1664 .bf16) (h3 : a3.IsWhole) (a4 : Memref sig .tc .vmem S2048x1024 .bf16) (h4 : a4.IsWhole)
  (a6 : Memref sig .tc .vmem S1664x1024 .bf16) (h6 : a6.IsWhole) (a7 : Memref sig .tc .vmem S1664x1024 .f32) (h7 : a7.IsWhole)
  (x : Vec F S2048x1664 .bf16) (w : Vec F S2048x1024 .bf16) (s : Vec F S1664x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x1664) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z2]
  simp only [View.readAt_eq_ld, h3.read_unread, h4.read_unread, h7.read_unread, View.ld_unit_zero (S := S2048x1664) z2, View.ld_unit_zero (S := S2048x1024) z2, View.ld_unit_zero (S := S1664x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- One entry of a point's product. -/
theorem pay_at (x : FVec Ideal S2048x1664 .bf16) (w : FVec Ideal S2048x1024 .bf16) (p : Fin 1664) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x1664 .bf16) (w : FVec Ideal S2048x1024 .bf16) (s : FVec Ideal S1664x1024 .f32) (p : Fin 1664) (q : Fin 1024) :
    k0_pay4 (F := Ideal) x w s (ix2 p q) = s (ix2 p q) + k0_pay1 (F := Ideal) x w (ix2 p q) := by
  unfold k0_pay4
  pointwise

/-- One term of the weight's gradient at row `r` and column `s`: the cotangent's entry times the input's. -/
def term (a : FVec Ideal S4096x8320 .bf16) (d : FVec Ideal S4096x2048 .bf16) (r : Fin 8320) (s : Fin 2048) (k : Fin 4096) : EReal :=
  a (ix2 k r) * d (ix2 k s)

/-- The product of one grid point as terms of the gradient. -/
theorem part_at (c : Dev nD) (t : Fin cfg0.N) (p : Fin 1664) (q : Fin 1024) (j : Fin 2) (hj : t.val % 2 = j.val) (r : Fin 8320) (hr : r.val = 1664 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 20 := t.isLt
  rw [pay_at]
  refine Finset.sum_congr rfl fun k _ => congrArg₂ (· * ·) ?_ ?_
  · blk_point [iblk, V, idx t, hr, hj]
  · blk_point [iblk, V, idx t, hs, hj]

/-- The result's block after the second point, as sums over the whole inner axis. -/
theorem last_at (c : Dev nD) (t : Fin cfg0.N) (h : t.val % 2 = 1) (p : Fin 1664) (q : Fin 1024) (r : Fin 8320) (hr : r.val = 1664 * (t.val / 4) + p.val) (s : Fin 2048) (hs : s.val = 1024 * (t.val / 2 % 2) + q.val) :
    (outsAt0 m c t.val t.isLt).1 (ix2 p q) = ∑ k : Fin 4096, term (m ((c : Thread nD τ).loc main_arg0)) (m ((c : Thread nD τ).loc main_arg1)) r s k := by
  have ht : t.val < 20 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- After the last grid point the result holds the weight's gradient. -/
theorem final (c : Dev nD) : (dats m 0 c).arrAt 2 cfg0.N
    = fun y => ∑ k : Fin 4096, term (m ((c : Thread nD τ).loc main_arg0)) (m ((c : Thread nD τ).loc main_arg1)) (y 0) (y 1) k := by
  refine (dats m 0 c).arrAt_eq_of_covers 2 _ (by decide +kernel) fun t hf y => ?_
  blk_simp
  rw [after0_2]
  idx_vars y
  have ht : t.val < 20 := t.isLt
  have e : ((View.whole main_v0).slice (win0_2.rect t)).emb (ix2 y0 y1) = ix2 (⟨1664 * (t.val / 4) + y0.val, by omega⟩ : Fin 8320) (⟨1024 * (t.val / 2 % 2) + y1.val, by omega⟩ : Fin 2048) := by
    blk_ext [idx t]
  rw [e]
  exact last_at m c t ((flush0_2 t).mp hf) y0 y1 _ rfl _ rfl

/-- The reference's result read at an index. -/
theorem reference (a : FVec Ideal S4096x8320 .bf16) (d : FVec Ideal S4096x2048 .bf16) (o : FVec Ideal Cert.DInRefIdeal.S8320x2048 .bf16)
    (ho : o = truncf (F := Ideal) .bf16 (transpose Cert.DInRefIdeal.S8320x2048 [1, 0] (transpose Cert.DInRefIdeal.S2048x8320 [1, 0] (Host.dotGeneral Cert.DInRefIdeal.dot_S4096x8320_S4096x2048_S8320x2048_0_0_1_1_n_n none (extf .f32 a) (extf .f32 d))))) :
    o = fun y => ∑ k : Fin 4096, term a d (y 0) (y 1) k := by
  subst ho
  funext y
  idx_vars y
  unfold term
  clean_types
  pointwise

end Cert.DInIdeal.Val

end
-- ==== Proof.UpFVal.lean ====
module

public import proofs.«01_k».proof.Proof.Gen.UpFIdeal.Value
public import proofs.«01_k».proof.Proof.Gen.UpFRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.UpFIdeal.Val

open Cert.UpFIdeal Cert.UpFIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .bf16) (h5 : a5.IsWhole) (a6 : Memref sig .tc .vmem S1024x1024 .bf16) (h6 : a6.IsWhole)
  (x : Vec F S1024x2048 .bf16) (w : Vec F S1x2048x1024 .bf16)

/-- A point leaves its product in the first result. -/
theorem first_out : out0_A_2 c i a3 h3 a4 h4 a5 h5 a6 h6 x w = k0_pay2 x w := by
  unfold out0_A_2
  rw [View.read_writes_eq_canon _ _ _ (cover0_A_2 c i a3 h3 a4 h4 a5 h5 a6 h6 x w)]
  unfold kernelRun0_A
  dsimp only
  rw [View.canon_unit_zero z2]
  simp only [View.readAt_eq_ld, h3.read_unread, h4.read_unread, View.ld_unit_zero (S := S1024x2048) z2, View.ld_unit_zero (S := S1x2048x1024) z3]

/-- A point leaves its product's squared positive part in the second result. -/
theorem second_out : out0_A_3 c i a3 h3 a4 h4 a5 h5 a6 h6 x w = k0_pay3 x w := by
  unfold out0_A_3
  rw [View.read_writes_eq_canon _ _ _ (cover0_A_3 c i a3 h3 a4 h4 a5 h5 a6 h6 x w)]
  unfold kernelRun0_A
  dsimp only
  rw [View.canon_unit_zero z2]
  simp only [View.readAt_eq_ld, h3.read_unread, h4.read_unread, View.ld_unit_zero (S := S1024x2048) z2, View.ld_unit_zero (S := S1x2048x1024) z3]

end Cases

variable (m : (ℓ : Loc nD τ sig) → Buf (Elt Ideal) ℓ)

/-- The block index of every window at every grid point. -/
theorem idx : ∀ t : Fin cfg0.N, win0_0.index t = ![t.val / 8, 0] ∧ win0_1.index t = ![t.val % 8 / 2, 0, t.val % 2] ∧ win0_2.index t = ![t.val / 8, t.val % 8] ∧ win0_3.index t = ![t.val / 8, t.val % 8] :=
  (by decide +kernel : ∀ t : Fin grid0.N, _)

/-- One entry of a point's product. -/
theorem pay_at (x : FVec Ideal S1024x2048 .bf16) (w : FVec Ideal S1x2048x1024 .bf16) (p q : Fin 1024) :
    k0_pay1 (F := Ideal) x w (ix2 p q) = ∑ k : Fin 2048, x (ix2 p k) * w (ix3 0 k q) := by
  unfold k0_pay1
  pointwise

/-- One entry of the squared positive part. -/
theorem square_at (x : FVec Ideal S1024x2048 .bf16) (w : FVec Ideal S1x2048x1024 .bf16) (p q : Fin 1024) :
    k0_pay3 (F := Ideal) x w (ix2 p q) = max (k0_pay1 (F := Ideal) x w (ix2 p q)) 0 * max (k0_pay1 (F := Ideal) x w (ix2 p q)) 0 := by
  unfold k0_pay3
  pointwise

/-- The weight's block that a point stages, read at an index. -/
theorem staged (c : Dev nD) (t : Fin cfg0.N) (k : Fin 2048) (q : Fin 1024) (s : Fin 8192) (hs : s.val = 1024 * (t.val % 8) + q.val) :
    X0_1 m c t (ix3 (0 : Fin 1) k q) = m ((c : Thread nD τ).loc main_arg1) (ix3 (⟨s.val / 2048, by omega⟩ : Fin 4) (⟨k.val, by omega⟩ : Fin 5120) (⟨s.val % 2048, by omega⟩ : Fin 2048)) := by
  have ht : t.val < 32 := t.isLt
  unfold X0_1 Pipeline.Window.fill
  rw [dif_pos (moved0_1 t _)]
  blk_point [iblk, V, idx t, hs]

/-- The product's entry at row `r` and column `s`, the columns running over the four parts of the weight. -/
def prod (a : FVec Ideal S4096x2048 .bf16) (w : FVec Ideal S4x5120x2048 .bf16) (r : Fin 4096) (s : Fin 8192) : EReal :=
  ∑ k : Fin 2048, a (ix2 r k) * w (ix3 (⟨s.val / 2048, by omega⟩ : Fin 4) (⟨k.val, by omega⟩ : Fin 5120) (⟨s.val % 2048, by omega⟩ : Fin 2048))

/-- The product of one grid point as entries of the whole product. -/
theorem part_at (c : Dev nD) (t : Fin cfg0.N) (p q : Fin 1024) (r : Fin 4096) (hr : r.val = 1024 * (t.val / 8) + p.val) (s : Fin 8192) (hs : s.val = 1024 * (t.val % 8) + q.val) :
    k0_pay1 (F := Ideal) (iblk m c 0 t) (X0_1 m c t) (ix2 p q) = prod (m ((c : Thread nD τ).loc main_arg0)) (m ((c : Thread nD τ).loc main_arg1)) r s := by
  have ht : t.val < 32 := t.isLt
  rw [pay_at]
  refine Finset.sum_congr rfl fun k _ => congrArg₂ (· * ·) ?_ (staged m c t k q s hs)
  blk_point [iblk, V, idx t, hr]

/-- After the last grid point the first result holds the product. -/
theorem final2 (c : Dev nD) : (dats m 0 c).arrAt 2 cfg0.N
    = fun y => prod (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 32 := t.isLt
  have e : ((View.whole main_v0_0).slice (win0_2.rect t)).emb (ix2 y0 y1) = ix2 (⟨1024 * (t.val / 8) + y0.val, by omega⟩ : Fin 4096) (⟨1024 * (t.val % 8) + y1.val, by omega⟩ : Fin 8192) := by
    blk_ext [idx t]
  rw [e]
  unfold outsAt0
  dsimp only
  rw [first_out]
  exact part_at m c t y0 y1 _ rfl _ rfl

/-- After the last grid point the second result holds the product's squared positive part. -/
theorem final3 (c : Dev nD) : (dats m 0 c).arrAt 3 cfg0.N
    = fun y => max (prod (m ((c : Thread nD τ).loc main_arg0)) (m ((c : Thread nD τ).loc main_arg1)) (y 0) (y 1)) 0 * max (prod (m ((c : Thread nD τ).loc main_arg0)) (m ((c : Thread nD τ).loc main_arg1)) (y 0) (y 1)) 0 := by
  refine (dats m 0 c).arrAt_eq_of_covers 3 _ (by decide +kernel) fun t _ y => ?_
  blk_simp
  rw [after0_3]
  idx_vars y
  have ht : t.val < 32 := t.isLt
  have e : ((View.whole main_v0_1).slice (win0_3.rect t)).emb (ix2 y0 y1) = ix2 (⟨1024 * (t.val / 8) + y0.val, by omega⟩ : Fin 4096) (⟨1024 * (t.val % 8) + y1.val, by omega⟩ : Fin 8192) := by
    blk_ext [idx t]
  rw [e]
  unfold outsAt0
  dsimp only
  rw [second_out, square_at, part_at m c t y0 y1 (⟨1024 * (t.val / 8) + y0.val, by omega⟩ : Fin 4096) rfl (⟨1024 * (t.val % 8) + y1.val, by omega⟩ : Fin 8192) rfl]
  rfl

/-- The reference's first result read at an index. -/
theorem reference2 (a : FVec Ideal S4096x2048 .bf16) (w : FVec Ideal S4x5120x2048 .bf16) (o : FVec Ideal Cert.UpFRefIdeal.S4096x8192 .bf16)
    (ho : o = truncf .bf16 (Host.dotGeneral Cert.UpFRefIdeal.dot_S4096x2048_S2048x8192_S4096x8192_1_0_0_1_n_n none (extf .f32 a) (extf .f32 (shapeCast Cert.UpFRefIdeal.S2048x8192 (transpose Cert.UpFRefIdeal.S2048x4x2048 [1, 0, 2] (extractStridedSlice Cert.UpFRefIdeal.S4x2048x2048 ![0, 0, 0] w)))))) :
    o = fun y => prod a w (y 0) (y 1) := by
  subst ho
  funext y
  idx_vars y
  unfold prod
  clean_types
  pointwise

/-- The reference's second result read at an index, for a product read before. -/
theorem reference3 (a : FVec Ideal S4096x2048 .bf16) (w : FVec Ideal S4x5120x2048 .bf16) (u : FVec Ideal Cert.UpFRefIdeal.S4096x8192 .f32) (o : FVec Ideal Cert.UpFRefIdeal.S4096x8192 .bf16)
    (hu : (truncf .bf16 u : FVec Ideal Cert.UpFRefIdeal.S4096x8192 .bf16) = fun y => prod a w (y 0) (y 1))
    (hz : Cert.UpFRefIdeal.S_.BroadcastsInDim Cert.UpFRefIdeal.S4096x8192 (![] : Fin 0 → Fin 2))
    (ho : o = truncf .bf16 (mulf (maximumf u (broadcastInDim Cert.UpFRefIdeal.S4096x8192 ![] hz (constant Cert.UpFRefIdeal.S_ .f32 0x00000000#32))) (maximumf u (broadcastInDim Cert.UpFRefIdeal.S4096x8192 ![] hz (constant Cert.UpFRefIdeal.S_ .f32 0x00000000#32))))) :
    o = fun y => max (prod a w (y 0) (y 1)) 0 * max (prod a w (y 0) (y 1)) 0 := by
  subst ho
  funext y
  have e : (u y : EReal) = prod a w (y 0) (y 1) := congrFun hu y
  rw [← e]
  pointwise

end Cert.UpFIdeal.Val

end
-- ==== Proof.DownFVal.lean ====
module

public import proofs.«01_k».proof.Proof.Gen.DownFIdeal.Value
public import proofs.«01_k».proof.Proof.Gen.DownFRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DownFIdeal.Val

open Cert.DownFIdeal Cert.DownFIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x2048 .bf16) (w : Vec F S1x2048x1024 .bf16) (g s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 hA hB hC x w g = k0_pay1 x w := by
  unfold sout0_A_0
  rw [View.read_writes_eq_canon _ _ _ (scover0_A_0 c i a3 h3 a4 h4 a5 h5 a6 h6 a7 h7 hA hB hC x w g)]
  unfold kernelRun0_A
  dsimp only
  rw [View.canon_unit_zero z2]
  unfold k0_pay2
  simp only [View.readAt_eq_ld, h3.read_unread, h4.read_unread, View.ld_unit_zero (S := S1024x2048) z2, View.ld_unit_zero (S := S1x2048x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 hA hB hC x w g s = addf s (k0_pay1 x w) := by
  unfold sout0_B_0
  rw [View.read_writes_eq_canon _ _ _ (scover0_B_0 c i a3 h3 a4 h4 a5 h5 a6 h6 a7 h7 hA hB hC x w g s)]
  unfold kernelRun0_B
  dsimp only
  rw [View.canon_unit_zero z2]
  unfold k0_pay3
  simp only [View.readAt_eq_ld, h3.read_unread, h4.read_unread, h5.read_unread, h7.read_unread, View.ld_unit_zero (S := S1024x2048) z2, View.ld_unit_zero (S := S1024x1024) z2, View.ld_unit_zero (S := S1x2048x1024) z3, shapeCast_self]

/-- The last point leaves the sum and its product in the result. -/
theorem last_sum (hA : ¬cond0_0 i) (hB : ¬cond0_1 i) (hC : cond0_2 i) : out0_C_3 c i a3 h3 a4 h4 a5 h5 a6 h6 a7 h7 hA hB hC x w g s = k0_pay4 x w s g := by
  unfold out0_C_3
  rw [View.read_writes_eq_canon _ _ _ (cover0_C_3 c i a3 h3 a4 h4 a5 h5 a6 h6 a7 h7 hA hB hC x w g s)]
  unfold kernelRun0_C
  dsimp only
  rw [View.canon_unit_zero z2]
  simp only [View.readAt_eq_ld, h3.read_unread, h4.read_unread, h5.read_unread, h7.read_unread, View.ld_unit_zero (S := S1024x2048) z2, View.ld_unit_zero (S := S1024x1024) z2, View.ld_unit_zero (S := S1x2048x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 1, t.val / 4 % 2] ∧ win0_2.index t = ![t.val / 8, t.val / 4 % 2] ∧ win0_3.index t = ![t.val / 8, t.val / 4 % 2] :=
  (by decide +kernel : ∀ t : Fin grid0.N, _)

/-- One entry of a point's product. -/
theorem pay_at (x : FVec Ideal S1024x2048 .bf16) (w : FVec Ideal S1x2048x1024 .bf16) (p q : Fin 1024) :
    k0_pay1 (F := Ideal) x w (ix2 p q) = ∑ k : Fin 2048, x (ix2 p k) * w (ix3 0 k q) := by
  unfold k0_pay1
  pointwise

/-- One entry of the sum, a point's product and the residual. -/
theorem sum_at (x : FVec Ideal S1024x2048 .bf16) (w : FVec Ideal S1x2048x1024 .bf16) (s g : FVec Ideal S1024x1024 .f32) (p q : Fin 1024) :
    k0_pay4 (F := Ideal) x w s g (ix2 p q) = s (ix2 p q) + k0_pay1 (F := Ideal) x w (ix2 p q) + g (ix2 p q) := by
  unfold k0_pay4
  pointwise

/-- The weight's block that a point stages, read at an index. -/
theorem staged (c : Dev nD) (t : Fin cfg0.N) (k : Fin 2048) (q : Fin 1024) (s : Fin 2048) (hs : s.val = 1024 * (t.val / 4 % 2) + q.val) :
    X0_1 m c t (ix3 (0 : Fin 1) k q) = m ((c : Thread nD τ).loc main_arg1) (ix3 (⟨t.val % 4, by omega⟩ : Fin 4) (⟨2048 + k.val, by omega⟩ : Fin 5120) s) := by
  have ht : t.val < 32 := t.isLt
  unfold X0_1 Pipeline.Window.fill
  rw [dif_pos (moved0_1 t _)]
  blk_point [iblk, V, idx t, hs]

/-- The product of one grid point, from the two blocks it stages. -/
def part (c : Dev nD) (t : Fin cfg0.N) : FVec Ideal S1024x1024 .f32 := k0_pay1 (F := Ideal) (iblk m c 0 t) (X0_1 m c t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = k0_pay4 (F := Ideal) (iblk m c 0 t) (X0_1 m c t) (outsAt0 m c (t.val - 1) (Nat.lt_of_le_of_lt (Nat.sub_le _ _) t.isLt)).2 (iblk m c 2 t) := by
  rw [outsAt0_C m c t (by omega) (by omega) h]
  dsimp only; rw [last_sum]

/-- One term of the product at row `r` and column `s`: the activation's entry times the weight's. -/
def term (a : FVec Ideal S4096x8192 .bf16) (w : FVec Ideal S4x5120x2048 .bf16) (r : Fin 4096) (s : Fin 2048) (k : Fin 8192) : EReal :=
  a (ix2 r k) * w (ix3 (⟨k.val / 2048, by omega⟩ : Fin 4) (⟨2048 + k.val % 2048, by omega⟩ : Fin 5120) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 2048, term (m ((c : Thread nD τ).loc main_arg0)) (m ((c : Thread nD τ).loc main_arg1)) r s ⟨2048 * j.val + k.val, by omega⟩ := by
  have ht : t.val < 32 := t.isLt
  unfold part
  rw [pay_at]
  refine Finset.sum_congr rfl fun k _ => congrArg₂ (· * ·) ?_ ((staged m c t k q s hs).trans (congrArg₂ (fun (x : Fin 4) (y : Fin 5120) => m ((c : Thread nD τ).loc main_arg1) (ix3 x y s)) (Fin.ext ?_) (Fin.ext ?_)))
  · blk_point [iblk, V, idx t, hr, hj]
  · dsimp only; omega
  · dsimp only; omega

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = (∑ k : Fin 8192, term (m ((c : Thread nD τ).loc main_arg0)) (m ((c : Thread nD τ).loc main_arg1)) r s k) + m ((c : Thread nD τ).loc main_arg2) (ix2 r s) := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, sum_at, e2, e1, e0]
  refine congrArg₂ (· + ·) ?_ ?_
  · show part m c _ (ix2 p q) + part m c _ (ix2 p q) + part m c _ (ix2 p q) + part m c _ (ix2 p q) = _
    rw [part_at m c _ p q 0 (by dsimp only; omega) r (by dsimp only; omega) s (by dsimp only; omega), part_at m c _ p q 1 (by dsimp only; omega) r (by dsimp only; omega) s (by dsimp only; omega),
      part_at m c _ p q 2 (by dsimp only; omega) r (by dsimp only; omega) s (by dsimp only; omega), part_at m c t p q 3 h r hr s hs,
      Cert.Mm.sum_blocks (n := 4) (b := 2048) rfl, Fin.sum_univ_four]
  · blk_point [iblk, V, idx t, hr, hs]

/-- The entry of the result: the product over the whole inner axis and the residual. -/
def entry (a : FVec Ideal S4096x8192 .bf16) (w : FVec Ideal S4x5120x2048 .bf16) (g : FVec Ideal S4096x2048 .f32) (r : Fin 4096) (s : Fin 2048) : EReal :=
  (∑ k : Fin 8192, term a w r s k) + g (ix2 r s)

/-- After the last grid point the result holds the product over the whole inner axis and the residual. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_3 t).mp hf) y0 y1 _ rfl _ rfl

/-- The reference's result read at an index. -/
theorem reference (a : FVec Ideal S4096x8192 .bf16) (w : FVec Ideal S4x5120x2048 .bf16) (g : FVec Ideal S4096x2048 .f32) (o : FVec Ideal Cert.DownFRefIdeal.S4096x2048 .f32)
    (ho : o = addf g (Host.dotGeneral Cert.DownFRefIdeal.dot_S4096x8192_S8192x2048_S4096x2048_1_0_0_1_n_n none (extf .f32 a) (extf .f32 (shapeCast Cert.DownFRefIdeal.S8192x2048 (extractStridedSlice Cert.DownFRefIdeal.S4x2048x2048 ![0, 2048, 0] w))))) :
    o = fun y => entry a w g (y 0) (y 1) := by
  subst ho
  funext y
  idx_vars y
  unfold entry term
  clean_types
  pointwise
  exact add_comm _ _

end Cert.DownFIdeal.Val

end
-- ==== Proof.InPVal.lean ====
module

public import proofs.«01_k».proof.Proof.Gen.InPIdeal.Value
public import proofs.«01_k».proof.Proof.Gen.InPRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.InPIdeal.Val

open Cert.InPIdeal Cert.InPIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

/-- One entry of a grid point's block. -/
theorem point (x : FVec Ideal S1024x2048 .bf16) (w : FVec Ideal S1664x2048 .bf16) (p : Fin 1024) (q : Fin 1664) :
    out0_2 (F := Ideal) x w (ix2 p q) = ∑ k : Fin 2048, x (ix2 p k) * w (ix2 q k) := by
  unfold out0_2
  frame_out
  unfold k0_pay1
  pointwise

/-- The weight with zero rows behind it, read at an index. -/
theorem pad_at (b : FVec Ideal S8208x2048 .bf16) (r : Fin 8320) (s : Fin 2048) :
    pad S8320x2048 ![0, 0] ![112, 0] ![0, 0] b (sitofp (F := Ideal) .bf16 (constantI S_ 32 0#32)) pads_S8208x2048_S8320x2048_01120_000 h_S_ (ix2 r s)
      = if h : r.val < 8208 then b (ix2 (⟨r.val, h⟩ : Fin 8208) s) else (0 : EReal) := by
  have e : (FloatOps.sitofp (F := Ideal) .bf16 (0#32) : EReal) = 0 := by
    show (((0#32 : BitVec 32).toInt : ℝ) : EReal) = 0
    simp
  pointwise
  rw [e]

/-- The region finds the weight with its zero rows. -/
theorem V_pad (c : Dev nD) : V m c main_v0 = pad S8320x2048 ![0, 0] ![112, 0] ![0, 0] (m ((c : Thread nD τ).loc main_arg1)) (sitofp (F := Ideal) .bf16 (constantI S_ 32 0#32)) pads_S8208x2048_S8320x2048_01120_000 h_S_ := by
  unfold V
  simp only [hostOps0, hostOps0_1, List.flatten_cons, List.flatten_nil, List.append_nil, List.cons_append, List.nil_append]
  after_results <;> rfl

/-- The entry at row `r` and column `s`: a product in the weight's columns, zero behind them. -/
def entry (a : FVec Ideal S4096x2048 .bf16) (b : FVec Ideal S8208x2048 .bf16) (r : Fin 4096) (s : Fin 8320) : EReal :=
  if h : s.val < 8208 then ∑ k : Fin 2048, a (ix2 r k) * b (ix2 (⟨s.val, h⟩ : Fin 8208) k) else 0

/-- A product with the padded weight is such an entry. -/
theorem wide_sum (a : FVec Ideal S4096x2048 .bf16) (b : FVec Ideal S8208x2048 .bf16) (r : Fin 4096) (s : Fin 8320) :
    ∑ k : Fin 2048, (a (ix2 r k) : EReal) * (pad S8320x2048 ![0, 0] ![112, 0] ![0, 0] b (sitofp (F := Ideal) .bf16 (constantI S_ 32 0#32)) pads_S8208x2048_S8320x2048_01120_000 h_S_ (ix2 s k) : EReal) = entry a b r s := by
  unfold entry
  by_cases h : s.val < 8208
  · rw [dif_pos h]
    exact Finset.sum_congr rfl fun k _ => by rw [pad_at, dif_pos h]
  · rw [dif_neg h]
    exact Finset.sum_eq_zero fun k _ => by rw [pad_at, dif_neg h, mul_zero]

/-- After the last grid point the result holds the projection and its zero columns. -/
theorem final (c : Dev nD) : (dats m 0 c).arrAt 2 cfg0.N
    = fun y => entry (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 20 := t.isLt
  have e : ((View.whole main_v1).slice (win0_2.rect t)).emb (ix2 y0 y1) = ix2 (⟨1024 * (t.val / 5) + y0.val, by omega⟩ : Fin 4096) (⟨1664 * (t.val % 5) + y1.val, by omega⟩ : Fin 8320) := by
    blk_ext [idx t]
  rw [point (iblk m c 0 t) (iblk m c 1 t), e]
  refine Eq.trans ?_ (wide_sum _ _ (⟨1024 * (t.val / 5) + y0.val, by omega⟩ : Fin 4096) (⟨1664 * (t.val % 5) + y1.val, by omega⟩ : Fin 8320))
  rw [← V_pad m c, ← V_main_arg0 m c]
  show (_ : EReal) = (_ : EReal)
  refine Finset.sum_congr rfl fun k _ => congrArg₂ (· * ·) ?_ ?_
  · blk_point [iblk, idx t]
  · blk_point [iblk, idx t]

/-- The reference's result read at an index. -/
theorem reference (a : FVec Ideal S4096x2048 .bf16) (b : FVec Ideal S8208x2048 .bf16) (o : FVec Ideal Cert.InPRefIdeal.S4096x8320 .f32)
    (hz : Cert.InPRefIdeal.S_.BroadcastsInDim Cert.InPRefIdeal.S4096x112 (![] : Fin 0 → Fin 2))
    (hc : Shape.Concatenates [Cert.InPRefIdeal.S4096x8208, Cert.InPRefIdeal.S4096x112] Cert.InPRefIdeal.S4096x8320 1)
    (ho : o = concatenate Cert.InPRefIdeal.S4096x8320 1 [⟨Cert.InPRefIdeal.S4096x8208, Host.dotGeneral Cert.InPRefIdeal.dot_S4096x2048_S2048x8208_S4096x8208_1_0_0_1_n_n none (extf .f32 a) (transpose Cert.InPRefIdeal.S2048x8208 [1, 0] (extf .f32 b))⟩,
      ⟨Cert.InPRefIdeal.S4096x112, broadcastInDim Cert.InPRefIdeal.S4096x112 ![] hz (constant Cert.InPRefIdeal.S_ .f32 0x00000000#32)⟩] hc) :
    o = fun y => entry a b (y 0) (y 1) := by
  subst ho
  funext y
  idx_vars y
  unfold entry
  clean_types
  pointwise

end Cert.InPIdeal.Val

end
-- ==== Proof.DownLVal.lean ====
module

public import proofs.«01_k».proof.Proof.Gen.DownLIdeal.Value
public import proofs.«01_k».proof.Proof.Gen.DownLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DownLIdeal.Val

open Cert.DownLIdeal Cert.DownLIdeal.Gen Idealize.ShloMosaic Idealize.ShloMosaic.TcCoe Idealize.SL.Sem
open Idealize.ShloMosaic.Pipeline (Dat)

section Cases

variable {F : FTy → Type} [FloatOps F]
variable (c : Dev nD) (i : grid0.Coords) (a3 : Memref sig .tc .vmem S1024x2048 .bf16) (h3 : a3.IsWhole) (a4 : Memref sig .tc .vmem S1x1024x2048 .bf16) (h4 : a4.IsWhole)
  (a5 : Memref sig .tc .vmem S1024x1024 .bf16) (h5 : a5.IsWhole) (a6 : Memref sig .tc .vmem S1024x1024 .bf16) (h6 : a6.IsWhole)
  (x : Vec F S1024x2048 .bf16) (w : Vec F S1x1024x2048 .bf16) (u : Vec F S1024x1024 .bf16)

/-- A point leaves its block in the result. -/
theorem block_out : out0_A_3 c i a3 h3 a4 h4 a5 h5 a6 h6 x w u = k0_pay1 x w u := by
  unfold out0_A_3
  rw [View.read_writes_eq_canon _ _ _ (cover0_A_3 c i a3 h3 a4 h4 a5 h5 a6 h6 x w u)]
  unfold kernelRun0_A
  dsimp only
  rw [View.canon_unit_zero Cert.Mm.z2]
  simp only [View.readAt_eq_ld, h3.read_unread, h4.read_unread, h5.read_unread, View.ld_unit_zero (S := S1024x2048) Cert.Mm.z2, View.ld_unit_zero (S := S1024x1024) Cert.Mm.z2, View.ld_unit_zero (S := S1x1024x2048) Cert.Mm.z3]

end Cases

variable (m : (ℓ : Loc nD τ sig) → Buf (Elt Ideal) ℓ)

/-- The block index of every window at every grid point. -/
theorem idx : ∀ t : Fin cfg0.N, win0_0.index t = ![t.val / 8, 0] ∧ win0_1.index t = ![t.val % 8 / 2, 2 + t.val % 2, 0] ∧ win0_2.index t = ![t.val / 8, t.val % 8] ∧ win0_3.index t = ![t.val / 8, t.val % 8] :=
  (by decide +kernel : ∀ t : Fin grid0.N, _)

/-- The float two, the factor of a square's derivative. -/
def two : EReal := Ideal.ofBits .f32 0x40000000#32

/-- One entry of a grid point's block: the product's entry times the derivative of the squared rectifier. -/
theorem point (x : FVec Ideal S1024x2048 .bf16) (w : FVec Ideal S1x1024x2048 .bf16) (u : FVec Ideal S1024x1024 .bf16) (p q : Fin 1024) :
    k0_pay1 (F := Ideal) x w u (ix2 p q) = (∑ k : Fin 2048, x (ix2 p k) * w (ix3 0 q k)) * two * max (u (ix2 p q)) 0 := by
  unfold k0_pay1
  pointwise
  rfl

/-- The result's entry at row `r` and column `s`. -/
def entry (d : FVec Ideal S4096x2048 .bf16) (w : FVec Ideal S4x5632x2048 .bf16) (u : FVec Ideal S4096x8192 .bf16) (r : Fin 4096) (s : Fin 8192) : EReal :=
  (∑ k : Fin 2048, d (ix2 r k) * w (ix3 (⟨s.val / 2048, by omega⟩ : Fin 4) (⟨2048 + s.val % 2048, by omega⟩ : Fin 5632) k)) * two * max (u (ix2 r s)) 0

/-- After the last grid point the result holds the cotangent of the rectifier's argument. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t _ y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val % 8) + y1.val, by omega⟩ : Fin 8192) := by
    blk_ext [idx t]
  unfold outsAt0
  rw [block_out, e]
  refine (point (iblk m c 0 t) (X0_1 m c t) (iblk m c 2 t) y0 y1).trans ?_
  show _ = entry _ _ _ _ _
  unfold entry
  refine congrArg₂ (· * ·) (congrArg (· * two) (Finset.sum_congr rfl fun k _ => congrArg₂ (· * ·) ?_ ?_)) (congrArg (max · 0) ?_)
  · blk_point [iblk, V, idx t]
  · unfold X0_1 Pipeline.Window.fill
    rw [dif_pos (moved0_1 t _)]
    blk_point [iblk, V, idx t]
  · blk_point [iblk, V, idx t]

/-- The reference's result read at an index. -/
theorem reference (d : FVec Ideal S4096x2048 .bf16) (w : FVec Ideal S4x5632x2048 .bf16) (u : FVec Ideal S4096x8192 .bf16) (o : FVec Ideal Cert.DownLRefIdeal.S4096x8192 .bf16)
    (hz : Cert.DownLRefIdeal.S_.BroadcastsInDim Cert.DownLRefIdeal.S4096x8192 (![] : Fin 0 → Fin 2))
    (ho : o = truncf .bf16 (select (cmpf .ogt (extf .f32 u) (broadcastInDim Cert.DownLRefIdeal.S4096x8192 ![] hz (constant Cert.DownLRefIdeal.S_ .f32 0x00000000#32)))
      (mulf (Host.dotGeneral Cert.DownLRefIdeal.dot_S4096x2048_S8192x2048_S4096x8192_1_1_0_0_n_n none (extf .f32 d) (extf .f32 (shapeCast Cert.DownLRefIdeal.S8192x2048 (extractStridedSlice Cert.DownLRefIdeal.S4x2048x2048 ![0, 2048, 0] w))))
        (mulf (broadcastInDim Cert.DownLRefIdeal.S4096x8192 ![] hz (constant Cert.DownLRefIdeal.S_ .f32 0x40000000#32)) (maximumf (extf .f32 u) (broadcastInDim Cert.DownLRefIdeal.S4096x8192 ![] hz (constant Cert.DownLRefIdeal.S_ .f32 0x00000000#32)))))
      (broadcastInDim Cert.DownLRefIdeal.S4096x8192 ![] hz (constant Cert.DownLRefIdeal.S_ .f32 0x00000000#32)))) :
    o = fun y => entry d w u (y 0) (y 1) := by
  subst ho
  funext y
  idx_vars y
  unfold entry
  clean_types
  pointwise
  split
  · rw [mul_assoc]; rfl
  · next h => rw [max_eq_right (not_lt.mp h), mul_zero]

end Cert.DownLIdeal.Val

end
-- ==== Proof.DDownLVal.lean ====
module

public import proofs.«01_k».proof.Proof.Gen.DDownLIdeal.Value
public import proofs.«01_k».proof.Proof.Gen.DDownLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DDownLIdeal.Val

open Cert.DDownLIdeal Cert.DDownLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x w : Vec F S2048x1024 .bf16) (s : Vec F S1024x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x1024) z2, View.ld_unit_zero (S := S1024x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 8, 2 + t.val / 4 % 2, t.val / 2 % 2] :=
  (by decide +kernel : ∀ t : Fin grid0.N, _)

/-- One entry of a point's product. -/
theorem pay_at (x w : FVec Ideal S2048x1024 .bf16) (p q : Fin 1024) :
    k0_pay1 (F := Ideal) x w (ix2 p q) = ∑ k : Fin 2048, x (ix2 k p) * w (ix2 k q) := by
  unfold k0_pay1
  pointwise

/-- One entry of the sum and a point's product. -/
theorem sum_at (x w : FVec Ideal S2048x1024 .bf16) (s : FVec Ideal S1024x1024 .f32) (p q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x8192 .bf16) (d : FVec Ideal S4096x2048 .bf16) (r : Fin 8192) (s : Fin 2048) (k : Fin 4096) : EReal :=
  a (ix2 k r) * d (ix2 k s)

/-- The product of one grid point as terms of the result. -/
theorem part_at (c : Dev nD) (t : Fin cfg0.N) (p q : Fin 1024) (j : Fin 2) (hj : t.val % 2 = j.val) (r : Fin 8192) (hr : r.val = 1024 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 32 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p q : Fin 1024) (r : Fin 8192) (hr : r.val = 1024 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 32 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x8192 .bf16) (d : FVec Ideal S4096x2048 .bf16) (g : FVec Ideal S4x5632x2048 .bf16) (y0 : Fin 4) (y1 : Fin 5632) (y2 : Fin 2048) : EReal :=
  if h : 2048 ≤ y1.val ∧ y1.val < 4096 then ∑ k : Fin 4096, term a d ⟨2048 * y0.val + (y1.val - 2048), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => 2 ≤ β (1 : Fin 3) ∧ β (1 : Fin 3) < 4) (by decide +kernel) (fun t hf y => ?_) (fun j hj => ?_)
  · blk_simp
    rw [after0_2]
    have ht : t.val < 32 := t.isLt
    have b0 : (y 0).val < 1 := Nat.lt_of_lt_of_le (y 0).isLt ((cfg0.win 2).xsize_le _ 0)
    have b1 : (y 1).val < 1024 := Nat.lt_of_lt_of_le (y 1).isLt ((cfg0.win 2).xsize_le _ 1)
    have b2 : (y 2).val < 1024 := Nat.lt_of_lt_of_le (y 2).isLt ((cfg0.win 2).xsize_le _ 2)
    have z : (cfg0.win 2).xinj (cfg0.grid.coords t) y = (ix3 (0 : Fin 1) (⟨(y 1).val, b1⟩ : Fin 1024) (⟨(y 2).val, b2⟩ : Fin 1024) : S1x1024x1024.Idx) :=
      funext fun | 0 => Fin.ext (by show (y 0).val = 0; omega) | 1 => rfl | 2 => rfl
    have e0 : (win0_2.blk t).view.emb y 0 = (⟨t.val / 8, by omega⟩ : Fin 4) := Fin.ext (by
      show win0_2.index t 0 * 1 + 1 * (y 0).val = t.val / 8
      rw [(idx t).2.2]; show t.val / 8 * 1 + 1 * (y 0).val = t.val / 8; omega)
    have e1 : (win0_2.blk t).view.emb y 1 = (⟨2048 + 1024 * (t.val / 4 % 2) + (y 1).val, by omega⟩ : Fin 5632) := Fin.ext (by
      show win0_2.index t 1 * 1024 + 1 * (y 1).val = 2048 + 1024 * (t.val / 4 % 2) + (y 1).val
      rw [(idx t).2.2]; show (2 + t.val / 4 % 2) * 1024 + 1 * (y 1).val = 2048 + 1024 * (t.val / 4 % 2) + (y 1).val; omega)
    have e2 : (win0_2.blk t).view.emb y 2 = (⟨1024 * (t.val / 2 % 2) + (y 2).val, by omega⟩ : Fin 2048) := Fin.ext (by
      show win0_2.index t 2 * 1024 + 1 * (y 2).val = 1024 * (t.val / 2 % 2) + (y 2).val
      rw [(idx t).2.2]; show t.val / 2 % 2 * 1024 + 1 * (y 2).val = 1024 * (t.val / 2 % 2) + (y 2).val; omega)
    rw [e0, e1, e2]
    refine (congrArg (outsAt0 m c t.val t.isLt).1 z).trans ?_
    unfold entry
    rw [dif_pos (by dsimp only; omega)]
    exact last_at m c t ((flush0_2 t).mp hf) ⟨(y 1).val, b1⟩ ⟨(y 2).val, b2⟩ _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x8192 .bf16) (d : FVec Ideal S4096x2048 .bf16) (g : FVec Ideal S4x5632x2048 .bf16) (o : FVec Ideal Cert.DDownLRefIdeal.S4x5632x2048 .bf16)
    (hc : Shape.Concatenates [Cert.DDownLRefIdeal.S4x2048x2048, Cert.DDownLRefIdeal.S4x2048x2048, Cert.DDownLRefIdeal.S4x1536x2048] Cert.DDownLRefIdeal.S4x5632x2048 1)
    (ho : o = concatenate Cert.DDownLRefIdeal.S4x5632x2048 1 [⟨Cert.DDownLRefIdeal.S4x2048x2048, extractStridedSlice Cert.DDownLRefIdeal.S4x2048x2048 ![0, 0, 0] g⟩,
      ⟨Cert.DDownLRefIdeal.S4x2048x2048, shapeCast Cert.DDownLRefIdeal.S4x2048x2048 (truncf (F := Ideal) .bf16 (transpose Cert.DDownLRefIdeal.S8192x2048 [1, 0] (Host.dotGeneral Cert.DDownLRefIdeal.dot_S4096x2048_S4096x8192_S2048x8192_0_0_1_1_n_n none (extf .f32 d) (extf .f32 a))))⟩,
      ⟨Cert.DDownLRefIdeal.S4x1536x2048, extractStridedSlice Cert.DDownLRefIdeal.S4x1536x2048 ![0, 4096, 0] g⟩] hc) :
    o = fun y => entry a d g (y 0) (y 1) (y 2) := by
  subst ho
  funext y
  idx_vars y
  unfold entry term
  clean_types
  pointwise
  by_cases h : y1.val < 2048
  · rw [dif_pos h, dif_neg (by omega)]
  rw [dif_neg h]
  by_cases h' : y1.val - 2048 < 2048
  · rw [dif_pos h', dif_pos (by omega)]
    refine Finset.sum_congr rfl fun k _ => (mul_comm _ _).trans ?_
    exact congrArg (fun z : Fin 8192 => a (ix2 k z) * d (ix2 k y2)) (Fin.ext (by dsimp only; omega))
  · rw [dif_neg h', dif_neg (by omega)]
    exact congrArg (fun z : Fin 5632 => g (ix3 y0 z y2)) (Fin.ext (by dsimp only; omega))

end Cert.DDownLIdeal.Val

end
-- ==== Proof.DUpLVal.lean ====
module

public import proofs.«01_k».proof.Proof.Gen.DUpLIdeal.Value
public import proofs.«01_k».proof.Proof.Gen.DUpLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DUpLIdeal.Val

open Cert.DUpLIdeal Cert.DUpLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x w : Vec F S2048x1024 .bf16) (s : Vec F S1024x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x1024) z2, View.ld_unit_zero (S := S1024x1024) z2]

end Cases

variable (m : (ℓ : Loc nD τ sig) → Buf (Elt Ideal) ℓ)

/-- The block index of every window at every grid point. -/
theorem idx : ∀ t : Fin cfg0.N, win0_0.index t = ![t.val % 2, t.val / 16] ∧ win0_1.index t = ![t.val % 2, t.val / 2 % 8] ∧ win0_2.index t = ![t.val / 4 % 4, t.val / 16, t.val / 2 % 2] :=
  (by decide +kernel : ∀ t : Fin grid0.N, _)

/-- One entry of a point's product. -/
theorem pay_at (x w : FVec Ideal S2048x1024 .bf16) (p q : Fin 1024) :
    k0_pay1 (F := Ideal) x w (ix2 p q) = ∑ k : Fin 2048, x (ix2 k p) * w (ix2 k q) := by
  unfold k0_pay1
  pointwise

/-- One entry of the sum and a point's product. -/
theorem sum_at (x w : FVec Ideal S2048x1024 .bf16) (s : FVec Ideal S1024x1024 .f32) (p q : Fin 1024) :
    k0_pay4 (F := Ideal) x w s (ix3 0 p q) = s (ix2 p q) + k0_pay1 (F := Ideal) x w (ix2 p q) := by
  unfold k0_pay4
  pointwise

/-- One term of the weight's gradient at row `r` and column `s`: the input's entry times the cotangent's. -/
def term (a : FVec Ideal S4096x2048 .bf16) (d : FVec Ideal S4096x8192 .bf16) (r : Fin 2048) (s : Fin 8192) (k : Fin 4096) : EReal :=
  a (ix2 k r) * d (ix2 k s)

/-- The product of one grid point as terms of the gradient. -/
theorem part_at (c : Dev nD) (t : Fin cfg0.N) (p q : Fin 1024) (j : Fin 2) (hj : t.val % 2 = j.val) (r : Fin 2048) (hr : r.val = 1024 * (t.val / 16) + p.val) (s : Fin 8192) (hs : s.val = 1024 * (t.val / 2 % 8) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 32 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p q : Fin 1024) (r : Fin 2048) (hr : r.val = 1024 * (t.val / 16) + p.val) (s : Fin 8192) (hs : s.val = 1024 * (t.val / 2 % 8) + q.val) :
    (outsAt0 m c t.val t.isLt).1 (ix3 0 p q) = ∑ k : Fin 4096, term (m ((c : Thread nD τ).loc main_arg0)) (m ((c : Thread nD τ).loc main_arg1)) r s k := by
  have ht : t.val < 32 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the gradient, its columns running over the four parts, outside what was there. -/
def entry (a : FVec Ideal S4096x2048 .bf16) (d : FVec Ideal S4096x8192 .bf16) (g : FVec Ideal S4x5632x2048 .bf16) (y0 : Fin 4) (y1 : Fin 5632) (y2 : Fin 2048) : EReal :=
  if h : y1.val < 2048 then ∑ k : Fin 4096, term a d ⟨y1.val, h⟩ ⟨2048 * y0.val + y2.val, by omega⟩ k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) < 2) (by decide +kernel) (fun t hf y => ?_) (fun j hj => ?_)
  · blk_simp
    rw [after0_2]
    have ht : t.val < 32 := t.isLt
    have b0 : (y 0).val < 1 := Nat.lt_of_lt_of_le (y 0).isLt ((cfg0.win 2).xsize_le _ 0)
    have b1 : (y 1).val < 1024 := Nat.lt_of_lt_of_le (y 1).isLt ((cfg0.win 2).xsize_le _ 1)
    have b2 : (y 2).val < 1024 := Nat.lt_of_lt_of_le (y 2).isLt ((cfg0.win 2).xsize_le _ 2)
    have z : (cfg0.win 2).xinj (cfg0.grid.coords t) y = (ix3 (0 : Fin 1) (⟨(y 1).val, b1⟩ : Fin 1024) (⟨(y 2).val, b2⟩ : Fin 1024) : S1x1024x1024.Idx) :=
      funext fun | 0 => Fin.ext (by show (y 0).val = 0; omega) | 1 => rfl | 2 => rfl
    have e0 : (win0_2.blk t).view.emb y 0 = (⟨t.val / 4 % 4, by omega⟩ : Fin 4) := Fin.ext (by
      show win0_2.index t 0 * 1 + 1 * (y 0).val = t.val / 4 % 4
      rw [(idx t).2.2]; show t.val / 4 % 4 * 1 + 1 * (y 0).val = t.val / 4 % 4; omega)
    have e1 : (win0_2.blk t).view.emb y 1 = (⟨1024 * (t.val / 16) + (y 1).val, by omega⟩ : Fin 5632) := Fin.ext (by
      show win0_2.index t 1 * 1024 + 1 * (y 1).val = 1024 * (t.val / 16) + (y 1).val
      rw [(idx t).2.2]; show t.val / 16 * 1024 + 1 * (y 1).val = 1024 * (t.val / 16) + (y 1).val; omega)
    have e2 : (win0_2.blk t).view.emb y 2 = (⟨1024 * (t.val / 2 % 2) + (y 2).val, by omega⟩ : Fin 2048) := Fin.ext (by
      show win0_2.index t 2 * 1024 + 1 * (y 2).val = 1024 * (t.val / 2 % 2) + (y 2).val
      rw [(idx t).2.2]; show t.val / 2 % 2 * 1024 + 1 * (y 2).val = 1024 * (t.val / 2 % 2) + (y 2).val; omega)
    rw [e0, e1, e2]
    refine (congrArg (outsAt0 m c t.val t.isLt).1 z).trans ?_
    unfold entry
    rw [dif_pos (by dsimp only; omega)]
    exact last_at m c t ((flush0_2 t).mp hf) ⟨(y 1).val, b1⟩ ⟨(y 2).val, b2⟩ _ rfl _ (by dsimp only; omega)
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x8192 .bf16) (g : FVec Ideal S4x5632x2048 .bf16) (o : FVec Ideal Cert.DUpLRefIdeal.S4x5632x2048 .bf16)
    (hc : Shape.Concatenates [Cert.DUpLRefIdeal.S4x2048x2048, Cert.DUpLRefIdeal.S4x3584x2048] Cert.DUpLRefIdeal.S4x5632x2048 1)
    (ho : o = concatenate Cert.DUpLRefIdeal.S4x5632x2048 1 [⟨Cert.DUpLRefIdeal.S4x2048x2048, transpose Cert.DUpLRefIdeal.S4x2048x2048 [1, 0, 2] (shapeCast Cert.DUpLRefIdeal.S2048x4x2048
        (truncf (F := Ideal) .bf16 (transpose Cert.DUpLRefIdeal.S2048x8192 [1, 0] (Host.dotGeneral Cert.DUpLRefIdeal.dot_S4096x8192_S4096x2048_S8192x2048_0_0_1_1_n_n none (extf .f32 d) (extf .f32 a)))))⟩,
      ⟨Cert.DUpLRefIdeal.S4x3584x2048, extractStridedSlice Cert.DUpLRefIdeal.S4x3584x2048 ![0, 2048, 0] g⟩] hc) :
    o = fun y => entry a d g (y 0) (y 1) (y 2) := by
  subst ho
  funext y
  idx_vars y
  unfold entry term
  clean_types
  pointwise
  by_cases h : y1.val < 2048
  · rw [dif_pos h, dif_pos h]
    refine Finset.sum_congr rfl fun k _ => (mul_comm _ _).trans ?_
    exact congrArg (fun z : Fin 8192 => a (ix2 k ⟨y1.val, h⟩) * d (ix2 k z)) (Fin.ext (by dsimp only; omega))
  · rw [dif_neg h, dif_neg h]
    exact congrArg (fun z : Fin 5632 => g (ix3 y0 z y2)) (Fin.ext (by dsimp only; omega))

end Cert.DUpLIdeal.Val

end
-- ==== Proof.UpLVal.lean ====
module

public import proofs.«01_k».proof.Proof.Gen.UpLIdeal.Value
public import proofs.«01_k».proof.Proof.Gen.UpLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.UpLIdeal.Val

open Cert.UpLIdeal Cert.UpLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x1024x2048 .bf16) (h4 : a4.IsWhole)
  (a5 : Memref sig .tc .vmem S1024x1024 .f32) (h5 : a5.IsWhole) (a6 : Memref sig .tc .vmem S1024x1024 .f32) (h6 : a6.IsWhole)
  (x : Vec F S1024x2048 .bf16) (w : Vec F S1x1024x2048 .bf16) (s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 hA hB hC x w = k0_pay1 x w := by
  unfold sout0_A_0
  rw [View.read_writes_eq_canon _ _ _ (scover0_A_0 c i a3 h3 a4 h4 a5 h5 a6 h6 hA hB hC x w)]
  unfold kernelRun0_A
  dsimp only
  rw [View.canon_unit_zero z2]
  unfold k0_pay2
  simp only [View.readAt_eq_ld, h3.read_unread, h4.read_unread, View.ld_unit_zero (S := S1024x2048) z2, View.ld_unit_zero (S := S1x1024x2048) z3, shapeCast_self]

/-- A middle point adds its product to the sum. -/
theorem next_sum (hA : ¬cond0_0 i) (hB : cond0_1 i) (hC : ¬cond0_2 i) : sout0_B_0 c i a3 h3 a4 h4 a5 h5 a6 h6 hA hB hC x w s = addf s (k0_pay1 x w) := by
  unfold sout0_B_0
  rw [View.read_writes_eq_canon _ _ _ (scover0_B_0 c i a3 h3 a4 h4 a5 h5 a6 h6 hA hB hC x w s)]
  unfold kernelRun0_B
  dsimp only
  rw [View.canon_unit_zero z2]
  unfold k0_pay3
  simp only [View.readAt_eq_ld, h3.read_unread, h4.read_unread, h6.read_unread, View.ld_unit_zero (S := S1024x2048) z2, View.ld_unit_zero (S := S1024x1024) z2, View.ld_unit_zero (S := S1x1024x2048) z3, shapeCast_self]

/-- The last point leaves the sum and its product in the result. -/
theorem last_sum (hA : ¬cond0_0 i) (hB : ¬cond0_1 i) (hC : cond0_2 i) : out0_C_2 c i a3 h3 a4 h4 a5 h5 a6 h6 hA hB hC x w s = addf s (k0_pay1 x w) := by
  unfold out0_C_2
  rw [View.read_writes_eq_canon _ _ _ (cover0_C_2 c i a3 h3 a4 h4 a5 h5 a6 h6 hA hB hC x w s)]
  unfold kernelRun0_C
  dsimp only
  rw [View.canon_unit_zero z2]
  unfold k0_pay4
  simp only [View.readAt_eq_ld, h3.read_unread, h4.read_unread, h6.read_unread, View.ld_unit_zero (S := S1024x2048) z2, View.ld_unit_zero (S := S1024x1024) z2, View.ld_unit_zero (S := S1x1024x2048) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- One entry of a point's product. -/
theorem pay_at (x : FVec Ideal S1024x2048 .bf16) (w : FVec Ideal S1x1024x2048 .bf16) (p q : Fin 1024) :
    k0_pay1 (F := Ideal) x w (ix2 p q) = ∑ k : Fin 2048, x (ix2 p k) * w (ix3 0 q k) := by
  unfold k0_pay1
  pointwise

/-- The weight's block that a point stages, read at an index. -/
theorem staged (c : Dev nD) (t : Fin cfg0.N) (q : Fin 1024) (k : Fin 2048) (s : Fin 2048) (hs : s.val = 1024 * (t.val / 4 % 2) + q.val) :
    X0_1 m c t (ix3 (0 : Fin 1) q k) = m ((c : Thread nD τ).loc main_arg1) (ix3 (⟨t.val % 4, by omega⟩ : Fin 4) (⟨s.val, by omega⟩ : Fin 5632) k) := by
  have ht : t.val < 32 := t.isLt
  unfold X0_1 Pipeline.Window.fill
  rw [dif_pos (moved0_1 t _)]
  blk_point [iblk, V, idx t, hs]

/-- The product of one grid point, from the two blocks it stages. -/
def part (c : Dev nD) (t : Fin cfg0.N) : FVec Ideal S1024x1024 .f32 := k0_pay1 (F := Ideal) (iblk m c 0 t) (X0_1 m c t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = addf (outsAt0 m c (t.val - 1) (Nat.lt_of_le_of_lt (Nat.sub_le _ _) t.isLt)).2 (part m c t) := by
  rw [outsAt0_C m c t (by omega) (by omega) h]
  dsimp only; rw [last_sum]; rfl

/-- One term of the result at row `r` and column `s`: the cotangent's entry times the weight's. -/
def term (a : FVec Ideal S4096x8192 .bf16) (w : FVec Ideal S4x5632x2048 .bf16) (r : Fin 4096) (s : Fin 2048) (k : Fin 8192) : EReal :=
  a (ix2 r k) * w (ix3 (⟨k.val / 2048, by omega⟩ : Fin 4) (⟨s.val, by omega⟩ : Fin 5632) (⟨k.val % 2048, by omega⟩ : Fin 2048))

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 2048, term (m ((c : Thread nD τ).loc main_arg0)) (m ((c : Thread nD τ).loc main_arg1)) r s ⟨2048 * j.val + k.val, by omega⟩ := by
  have ht : t.val < 32 := t.isLt
  unfold part
  rw [pay_at]
  refine Finset.sum_congr rfl fun k _ => congrArg₂ (· * ·) ?_ ((staged m c t q k s hs).trans (congrArg₂ (fun (x : Fin 4) (y : Fin 2048) => m ((c : Thread nD τ).loc main_arg1) (ix3 x (⟨s.val, by omega⟩ : Fin 5632) y)) (Fin.ext ?_) (Fin.ext ?_)))
  · blk_point [iblk, V, idx t, hr, hj]
  · dsimp only; omega
  · dsimp only; omega

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = ∑ k : Fin 8192, term (m ((c : Thread nD τ).loc main_arg0)) (m ((c : Thread nD τ).loc main_arg1)) r s k := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, e2, e1, e0]
  show part m c _ (ix2 p q) + part m c _ (ix2 p q) + part m c _ (ix2 p q) + part m c _ (ix2 p q) = _
  rw [part_at m c _ p q 0 (by dsimp only; omega) r (by dsimp only; omega) s (by dsimp only; omega), part_at m c _ p q 1 (by dsimp only; omega) r (by dsimp only; omega) s (by dsimp only; omega),
    part_at m c _ p q 2 (by dsimp only; omega) r (by dsimp only; omega) s (by dsimp only; omega), part_at m c t p q 3 h r hr s hs,
    Cert.Mm.sum_blocks (n := 4) (b := 2048) rfl, Fin.sum_univ_four]

/-- After the last grid point the result holds the product over the whole inner axis. -/
theorem final (c : Dev nD) : (dats m 0 c).arrAt 2 cfg0.N
    = fun y => ∑ k : Fin 8192, term (m ((c : Thread nD τ).loc main_arg0)) (m ((c : Thread nD τ).loc main_arg1)) (y 0) (y 1) k := by
  refine (dats m 0 c).arrAt_eq_of_covers 2 _ (by decide +kernel) fun t hf y => ?_
  blk_simp
  rw [after0_2]
  idx_vars y
  have ht : t.val < 32 := t.isLt
  have e : ((View.whole main_v0).slice (win0_2.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_2 t).mp hf) y0 y1 _ rfl _ rfl

/-- The reference's product read at an index. -/
theorem reference (a : FVec Ideal S4096x8192 .bf16) (w : FVec Ideal S4x5632x2048 .bf16) (o : FVec Ideal Cert.UpLRefIdeal.S4096x2048 .f32)
    (ho : o = Host.dotGeneral Cert.UpLRefIdeal.dot_S4096x8192_S2048x8192_S4096x2048_1_1_0_0_n_n none (extf .f32 a) (extf .f32 (shapeCast Cert.UpLRefIdeal.S2048x8192 (transpose Cert.UpLRefIdeal.S2048x4x2048 [1, 0, 2] (extractStridedSlice Cert.UpLRefIdeal.S4x2048x2048 ![0, 0, 0] w))))) :
    o = fun y => ∑ k : Fin 8192, term a w (y 0) (y 1) k := by
  subst ho
  funext y
  idx_vars y
  unfold term
  clean_types
  pointwise

end Cert.UpLIdeal.Val

end
-- ==== Proof.UpFLVal.lean ====
module

public import proofs.«01_k».proof.Proof.Gen.UpFLIdeal.Value
public import proofs.«01_k».proof.Proof.Gen.UpFLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.UpFLIdeal.Val

open Cert.UpFLIdeal Cert.UpFLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .bf16) (h5 : a5.IsWhole) (a6 : Memref sig .tc .vmem S1024x1024 .bf16) (h6 : a6.IsWhole)
  (x : Vec F S1024x2048 .bf16) (w : Vec F S1x2048x1024 .bf16)

/-- A point leaves its product in the first result. -/
theorem first_out : out0_A_2 c i a3 h3 a4 h4 a5 h5 a6 h6 x w = k0_pay2 x w := by
  unfold out0_A_2
  rw [View.read_writes_eq_canon _ _ _ (cover0_A_2 c i a3 h3 a4 h4 a5 h5 a6 h6 x w)]
  unfold kernelRun0_A
  dsimp only
  rw [View.canon_unit_zero z2]
  simp only [View.readAt_eq_ld, h3.read_unread, h4.read_unread, View.ld_unit_zero (S := S1024x2048) z2, View.ld_unit_zero (S := S1x2048x1024) z3]

/-- A point leaves its product's squared positive part in the second result. -/
theorem second_out : out0_A_3 c i a3 h3 a4 h4 a5 h5 a6 h6 x w = k0_pay3 x w := by
  unfold out0_A_3
  rw [View.read_writes_eq_canon _ _ _ (cover0_A_3 c i a3 h3 a4 h4 a5 h5 a6 h6 x w)]
  unfold kernelRun0_A
  dsimp only
  rw [View.canon_unit_zero z2]
  simp only [View.readAt_eq_ld, h3.read_unread, h4.read_unread, View.ld_unit_zero (S := S1024x2048) z2, View.ld_unit_zero (S := S1x2048x1024) z3]

end Cases

variable (m : (ℓ : Loc nD τ sig) → Buf (Elt Ideal) ℓ)

/-- The block index of every window at every grid point. -/
theorem idx : ∀ t : Fin cfg0.N, win0_0.index t = ![t.val / 8, 0] ∧ win0_1.index t = ![t.val % 8 / 2, 0, t.val % 2] ∧ win0_2.index t = ![t.val / 8, t.val % 8] ∧ win0_3.index t = ![t.val / 8, t.val % 8] :=
  (by decide +kernel : ∀ t : Fin grid0.N, _)

/-- One entry of a point's product. -/
theorem pay_at (x : FVec Ideal S1024x2048 .bf16) (w : FVec Ideal S1x2048x1024 .bf16) (p q : Fin 1024) :
    k0_pay1 (F := Ideal) x w (ix2 p q) = ∑ k : Fin 2048, x (ix2 p k) * w (ix3 0 k q) := by
  unfold k0_pay1
  pointwise

/-- One entry of the squared positive part. -/
theorem square_at (x : FVec Ideal S1024x2048 .bf16) (w : FVec Ideal S1x2048x1024 .bf16) (p q : Fin 1024) :
    k0_pay3 (F := Ideal) x w (ix2 p q) = max (k0_pay1 (F := Ideal) x w (ix2 p q)) 0 * max (k0_pay1 (F := Ideal) x w (ix2 p q)) 0 := by
  unfold k0_pay3
  pointwise

/-- The weight's block that a point stages, read at an index. -/
theorem staged (c : Dev nD) (t : Fin cfg0.N) (k : Fin 2048) (q : Fin 1024) (s : Fin 8192) (hs : s.val = 1024 * (t.val % 8) + q.val) :
    X0_1 m c t (ix3 (0 : Fin 1) k q) = m ((c : Thread nD τ).loc main_arg1) (ix3 (⟨s.val / 2048, by omega⟩ : Fin 4) (⟨k.val, by omega⟩ : Fin 5632) (⟨s.val % 2048, by omega⟩ : Fin 2048)) := by
  have ht : t.val < 32 := t.isLt
  unfold X0_1 Pipeline.Window.fill
  rw [dif_pos (moved0_1 t _)]
  blk_point [iblk, V, idx t, hs]

/-- The product's entry at row `r` and column `s`, the columns running over the four parts of the weight. -/
def prod (a : FVec Ideal S4096x2048 .bf16) (w : FVec Ideal S4x5632x2048 .bf16) (r : Fin 4096) (s : Fin 8192) : EReal :=
  ∑ k : Fin 2048, a (ix2 r k) * w (ix3 (⟨s.val / 2048, by omega⟩ : Fin 4) (⟨k.val, by omega⟩ : Fin 5632) (⟨s.val % 2048, by omega⟩ : Fin 2048))

/-- The product of one grid point as entries of the whole product. -/
theorem part_at (c : Dev nD) (t : Fin cfg0.N) (p q : Fin 1024) (r : Fin 4096) (hr : r.val = 1024 * (t.val / 8) + p.val) (s : Fin 8192) (hs : s.val = 1024 * (t.val % 8) + q.val) :
    k0_pay1 (F := Ideal) (iblk m c 0 t) (X0_1 m c t) (ix2 p q) = prod (m ((c : Thread nD τ).loc main_arg0)) (m ((c : Thread nD τ).loc main_arg1)) r s := by
  have ht : t.val < 32 := t.isLt
  rw [pay_at]
  refine Finset.sum_congr rfl fun k _ => congrArg₂ (· * ·) ?_ (staged m c t k q s hs)
  blk_point [iblk, V, idx t, hr]

/-- After the last grid point the first result holds the product. -/
theorem final2 (c : Dev nD) : (dats m 0 c).arrAt 2 cfg0.N
    = fun y => prod (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 32 := t.isLt
  have e : ((View.whole main_v0_0).slice (win0_2.rect t)).emb (ix2 y0 y1) = ix2 (⟨1024 * (t.val / 8) + y0.val, by omega⟩ : Fin 4096) (⟨1024 * (t.val % 8) + y1.val, by omega⟩ : Fin 8192) := by
    blk_ext [idx t]
  rw [e]
  unfold outsAt0
  dsimp only
  rw [first_out]
  exact part_at m c t y0 y1 _ rfl _ rfl

/-- After the last grid point the second result holds the product's squared positive part. -/
theorem final3 (c : Dev nD) : (dats m 0 c).arrAt 3 cfg0.N
    = fun y => max (prod (m ((c : Thread nD τ).loc main_arg0)) (m ((c : Thread nD τ).loc main_arg1)) (y 0) (y 1)) 0 * max (prod (m ((c : Thread nD τ).loc main_arg0)) (m ((c : Thread nD τ).loc main_arg1)) (y 0) (y 1)) 0 := by
  refine (dats m 0 c).arrAt_eq_of_covers 3 _ (by decide +kernel) fun t _ y => ?_
  blk_simp
  rw [after0_3]
  idx_vars y
  have ht : t.val < 32 := t.isLt
  have e : ((View.whole main_v0_1).slice (win0_3.rect t)).emb (ix2 y0 y1) = ix2 (⟨1024 * (t.val / 8) + y0.val, by omega⟩ : Fin 4096) (⟨1024 * (t.val % 8) + y1.val, by omega⟩ : Fin 8192) := by
    blk_ext [idx t]
  rw [e]
  unfold outsAt0
  dsimp only
  rw [second_out, square_at, part_at m c t y0 y1 (⟨1024 * (t.val / 8) + y0.val, by omega⟩ : Fin 4096) rfl (⟨1024 * (t.val % 8) + y1.val, by omega⟩ : Fin 8192) rfl]
  rfl

/-- The reference's first result read at an index. -/
theorem reference2 (a : FVec Ideal S4096x2048 .bf16) (w : FVec Ideal S4x5632x2048 .bf16) (o : FVec Ideal Cert.UpFLRefIdeal.S4096x8192 .bf16)
    (ho : o = truncf .bf16 (Host.dotGeneral Cert.UpFLRefIdeal.dot_S4096x2048_S2048x8192_S4096x8192_1_0_0_1_n_n none (extf .f32 a) (extf .f32 (shapeCast Cert.UpFLRefIdeal.S2048x8192 (transpose Cert.UpFLRefIdeal.S2048x4x2048 [1, 0, 2] (extractStridedSlice Cert.UpFLRefIdeal.S4x2048x2048 ![0, 0, 0] w)))))) :
    o = fun y => prod a w (y 0) (y 1) := by
  subst ho
  funext y
  idx_vars y
  unfold prod
  clean_types
  pointwise

/-- The reference's second result read at an index, for a product read before. -/
theorem reference3 (a : FVec Ideal S4096x2048 .bf16) (w : FVec Ideal S4x5632x2048 .bf16) (u : FVec Ideal Cert.UpFLRefIdeal.S4096x8192 .f32) (o : FVec Ideal Cert.UpFLRefIdeal.S4096x8192 .bf16)
    (hu : (truncf .bf16 u : FVec Ideal Cert.UpFLRefIdeal.S4096x8192 .bf16) = fun y => prod a w (y 0) (y 1))
    (hz : Cert.UpFLRefIdeal.S_.BroadcastsInDim Cert.UpFLRefIdeal.S4096x8192 (![] : Fin 0 → Fin 2))
    (ho : o = truncf .bf16 (mulf (maximumf u (broadcastInDim Cert.UpFLRefIdeal.S4096x8192 ![] hz (constant Cert.UpFLRefIdeal.S_ .f32 0x00000000#32))) (maximumf u (broadcastInDim Cert.UpFLRefIdeal.S4096x8192 ![] hz (constant Cert.UpFLRefIdeal.S_ .f32 0x00000000#32))))) :
    o = fun y => max (prod a w (y 0) (y 1)) 0 * max (prod a w (y 0) (y 1)) 0 := by
  subst ho
  funext y
  have e : (u y : EReal) = prod a w (y 0) (y 1) := congrFun hu y
  rw [← e]
  pointwise

end Cert.UpFLIdeal.Val

end
-- ==== Proof.DownFLVal.lean ====
module

public import proofs.«01_k».proof.Proof.Gen.DownFLIdeal.Value
public import proofs.«01_k».proof.Proof.Gen.DownFLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DownFLIdeal.Val

open Cert.DownFLIdeal Cert.DownFLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x2048 .bf16) (h3 : a3.IsWhole) (a4 : Memref sig .tc .vmem S1x2048x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x2048 .bf16) (w : Vec F S1x2048x1024 .bf16) (g s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 hA hB hC x w g = k0_pay1 x w := by
  unfold sout0_A_0
  rw [View.read_writes_eq_canon _ _ _ (scover0_A_0 c i a3 h3 a4 h4 a5 h5 a6 h6 a7 h7 hA hB hC x w g)]
  unfold kernelRun0_A
  dsimp only
  rw [View.canon_unit_zero z2]
  unfold k0_pay2
  simp only [View.readAt_eq_ld, h3.read_unread, h4.read_unread, View.ld_unit_zero (S := S1024x2048) z2, View.ld_unit_zero (S := S1x2048x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 hA hB hC x w g s = addf s (k0_pay1 x w) := by
  unfold sout0_B_0
  rw [View.read_writes_eq_canon _ _ _ (scover0_B_0 c i a3 h3 a4 h4 a5 h5 a6 h6 a7 h7 hA hB hC x w g s)]
  unfold kernelRun0_B
  dsimp only
  rw [View.canon_unit_zero z2]
  unfold k0_pay3
  simp only [View.readAt_eq_ld, h3.read_unread, h4.read_unread, h5.read_unread, h7.read_unread, View.ld_unit_zero (S := S1024x2048) z2, View.ld_unit_zero (S := S1024x1024) z2, View.ld_unit_zero (S := S1x2048x1024) z3, shapeCast_self]

/-- The last point leaves the sum and its product in the result. -/
theorem last_sum (hA : ¬cond0_0 i) (hB : ¬cond0_1 i) (hC : cond0_2 i) : out0_C_3 c i a3 h3 a4 h4 a5 h5 a6 h6 a7 h7 hA hB hC x w g s = k0_pay4 x w s g := by
  unfold out0_C_3
  rw [View.read_writes_eq_canon _ _ _ (cover0_C_3 c i a3 h3 a4 h4 a5 h5 a6 h6 a7 h7 hA hB hC x w g s)]
  unfold kernelRun0_C
  dsimp only
  rw [View.canon_unit_zero z2]
  simp only [View.readAt_eq_ld, h3.read_unread, h4.read_unread, h5.read_unread, h7.read_unread, View.ld_unit_zero (S := S1024x2048) z2, View.ld_unit_zero (S := S1024x1024) z2, View.ld_unit_zero (S := S1x2048x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 1, t.val / 4 % 2] ∧ win0_2.index t = ![t.val / 8, t.val / 4 % 2] ∧ win0_3.index t = ![t.val / 8, t.val / 4 % 2] :=
  (by decide +kernel : ∀ t : Fin grid0.N, _)

/-- One entry of a point's product. -/
theorem pay_at (x : FVec Ideal S1024x2048 .bf16) (w : FVec Ideal S1x2048x1024 .bf16) (p q : Fin 1024) :
    k0_pay1 (F := Ideal) x w (ix2 p q) = ∑ k : Fin 2048, x (ix2 p k) * w (ix3 0 k q) := by
  unfold k0_pay1
  pointwise

/-- One entry of the sum, a point's product and the residual. -/
theorem sum_at (x : FVec Ideal S1024x2048 .bf16) (w : FVec Ideal S1x2048x1024 .bf16) (s g : FVec Ideal S1024x1024 .f32) (p q : Fin 1024) :
    k0_pay4 (F := Ideal) x w s g (ix2 p q) = s (ix2 p q) + k0_pay1 (F := Ideal) x w (ix2 p q) + g (ix2 p q) := by
  unfold k0_pay4
  pointwise

/-- The weight's block that a point stages, read at an index. -/
theorem staged (c : Dev nD) (t : Fin cfg0.N) (k : Fin 2048) (q : Fin 1024) (s : Fin 2048) (hs : s.val = 1024 * (t.val / 4 % 2) + q.val) :
    X0_1 m c t (ix3 (0 : Fin 1) k q) = m ((c : Thread nD τ).loc main_arg1) (ix3 (⟨t.val % 4, by omega⟩ : Fin 4) (⟨2048 + k.val, by omega⟩ : Fin 5632) s) := by
  have ht : t.val < 32 := t.isLt
  unfold X0_1 Pipeline.Window.fill
  rw [dif_pos (moved0_1 t _)]
  blk_point [iblk, V, idx t, hs]

/-- The product of one grid point, from the two blocks it stages. -/
def part (c : Dev nD) (t : Fin cfg0.N) : FVec Ideal S1024x1024 .f32 := k0_pay1 (F := Ideal) (iblk m c 0 t) (X0_1 m c t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = k0_pay4 (F := Ideal) (iblk m c 0 t) (X0_1 m c t) (outsAt0 m c (t.val - 1) (Nat.lt_of_le_of_lt (Nat.sub_le _ _) t.isLt)).2 (iblk m c 2 t) := by
  rw [outsAt0_C m c t (by omega) (by omega) h]
  dsimp only; rw [last_sum]

/-- One term of the product at row `r` and column `s`: the activation's entry times the weight's. -/
def term (a : FVec Ideal S4096x8192 .bf16) (w : FVec Ideal S4x5632x2048 .bf16) (r : Fin 4096) (s : Fin 2048) (k : Fin 8192) : EReal :=
  a (ix2 r k) * w (ix3 (⟨k.val / 2048, by omega⟩ : Fin 4) (⟨2048 + k.val % 2048, by omega⟩ : Fin 5632) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 2048, term (m ((c : Thread nD τ).loc main_arg0)) (m ((c : Thread nD τ).loc main_arg1)) r s ⟨2048 * j.val + k.val, by omega⟩ := by
  have ht : t.val < 32 := t.isLt
  unfold part
  rw [pay_at]
  refine Finset.sum_congr rfl fun k _ => congrArg₂ (· * ·) ?_ ((staged m c t k q s hs).trans (congrArg₂ (fun (x : Fin 4) (y : Fin 5632) => m ((c : Thread nD τ).loc main_arg1) (ix3 x y s)) (Fin.ext ?_) (Fin.ext ?_)))
  · blk_point [iblk, V, idx t, hr, hj]
  · dsimp only; omega
  · dsimp only; omega

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = (∑ k : Fin 8192, term (m ((c : Thread nD τ).loc main_arg0)) (m ((c : Thread nD τ).loc main_arg1)) r s k) + m ((c : Thread nD τ).loc main_arg2) (ix2 r s) := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, sum_at, e2, e1, e0]
  refine congrArg₂ (· + ·) ?_ ?_
  · show part m c _ (ix2 p q) + part m c _ (ix2 p q) + part m c _ (ix2 p q) + part m c _ (ix2 p q) = _
    rw [part_at m c _ p q 0 (by dsimp only; omega) r (by dsimp only; omega) s (by dsimp only; omega), part_at m c _ p q 1 (by dsimp only; omega) r (by dsimp only; omega) s (by dsimp only; omega),
      part_at m c _ p q 2 (by dsimp only; omega) r (by dsimp only; omega) s (by dsimp only; omega), part_at m c t p q 3 h r hr s hs,
      Cert.Mm.sum_blocks (n := 4) (b := 2048) rfl, Fin.sum_univ_four]
  · blk_point [iblk, V, idx t, hr, hs]

/-- The entry of the result: the product over the whole inner axis and the residual. -/
def entry (a : FVec Ideal S4096x8192 .bf16) (w : FVec Ideal S4x5632x2048 .bf16) (g : FVec Ideal S4096x2048 .f32) (r : Fin 4096) (s : Fin 2048) : EReal :=
  (∑ k : Fin 8192, term a w r s k) + g (ix2 r s)

/-- After the last grid point the result holds the product over the whole inner axis and the residual. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_3 t).mp hf) y0 y1 _ rfl _ rfl

/-- The reference's result read at an index. -/
theorem reference (a : FVec Ideal S4096x8192 .bf16) (w : FVec Ideal S4x5632x2048 .bf16) (g : FVec Ideal S4096x2048 .f32) (o : FVec Ideal Cert.DownFLRefIdeal.S4096x2048 .f32)
    (ho : o = addf g (Host.dotGeneral Cert.DownFLRefIdeal.dot_S4096x8192_S8192x2048_S4096x2048_1_0_0_1_n_n none (extf .f32 a) (extf .f32 (shapeCast Cert.DownFLRefIdeal.S8192x2048 (extractStridedSlice Cert.DownFLRefIdeal.S4x2048x2048 ![0, 2048, 0] w))))) :
    o = fun y => entry a w g (y 0) (y 1) := by
  subst ho
  funext y
  idx_vars y
  unfold entry term
  clean_types
  pointwise
  exact add_comm _ _

end Cert.DownFLIdeal.Val

end
-- ==== Proof.OutEVal.lean ====
module

public import proofs.«01_k».proof.Proof.Gen.OutEIdeal.Value
public import proofs.«01_k».proof.Proof.Gen.OutERefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.OutEIdeal.Val

open Cert.OutEIdeal Cert.OutEIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x512 .bf16) (h3 : a3.IsWhole) (a4 : Memref sig .tc .vmem S1x512x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x512 .bf16) (w : Vec F S1x512x1024 .bf16) (g s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 hA hB hC x w g = k0_pay1 x w := by
  unfold sout0_A_0
  rw [View.read_writes_eq_canon _ _ _ (scover0_A_0 c i a3 h3 a4 h4 a5 h5 a6 h6 a7 h7 hA hB hC x w g)]
  unfold kernelRun0_A
  dsimp only
  rw [View.canon_unit_zero z2]
  unfold k0_pay2
  simp only [View.readAt_eq_ld, h3.read_unread, h4.read_unread, View.ld_unit_zero (S := S1024x512) z2, View.ld_unit_zero (S := S1x512x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 hA hB hC x w g s = addf s (k0_pay1 x w) := by
  unfold sout0_B_0
  rw [View.read_writes_eq_canon _ _ _ (scover0_B_0 c i a3 h3 a4 h4 a5 h5 a6 h6 a7 h7 hA hB hC x w g s)]
  unfold kernelRun0_B
  dsimp only
  rw [View.canon_unit_zero z2]
  unfold k0_pay3
  simp only [View.readAt_eq_ld, h3.read_unread, h4.read_unread, h5.read_unread, h7.read_unread, View.ld_unit_zero (S := S1024x512) z2, View.ld_unit_zero (S := S1024x1024) z2, View.ld_unit_zero (S := S1x512x1024) z3, shapeCast_self]

/-- The last point leaves the sum and its product in the result. -/
theorem last_sum (hA : ¬cond0_0 i) (hB : ¬cond0_1 i) (hC : cond0_2 i) : out0_C_3 c i a3 h3 a4 h4 a5 h5 a6 h6 a7 h7 hA hB hC x w g s = k0_pay4 x w s g := by
  unfold out0_C_3
  rw [View.read_writes_eq_canon _ _ _ (cover0_C_3 c i a3 h3 a4 h4 a5 h5 a6 h6 a7 h7 hA hB hC x w g s)]
  unfold kernelRun0_C
  dsimp only
  rw [View.canon_unit_zero z2]
  simp only [View.readAt_eq_ld, h3.read_unread, h4.read_unread, h5.read_unread, h7.read_unread, View.ld_unit_zero (S := S1024x512) z2, View.ld_unit_zero (S := S1024x1024) z2, View.ld_unit_zero (S := S1x512x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 9, t.val / 4 % 2] ∧ win0_2.index t = ![t.val / 8, t.val / 4 % 2] ∧ win0_3.index t = ![t.val / 8, t.val / 4 % 2] :=
  (by decide +kernel : ∀ t : Fin grid0.N, _)

/-- One entry of a point's product. -/
theorem pay_at (x : FVec Ideal S1024x512 .bf16) (w : FVec Ideal S1x512x1024 .bf16) (p q : Fin 1024) :
    k0_pay1 (F := Ideal) x w (ix2 p q) = ∑ k : Fin 512, x (ix2 p k) * w (ix3 0 k q) := by
  unfold k0_pay1
  pointwise

/-- One entry of the sum, a point's product and the residual. -/
theorem sum_at (x : FVec Ideal S1024x512 .bf16) (w : FVec Ideal S1x512x1024 .bf16) (s g : FVec Ideal S1024x1024 .f32) (p q : Fin 1024) :
    k0_pay4 (F := Ideal) x w s g (ix2 p q) = s (ix2 p q) + k0_pay1 (F := Ideal) x w (ix2 p q) + g (ix2 p q) := by
  unfold k0_pay4
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = k0_pay4 (F := Ideal) (iblk m c 0 t) (iblk m c 1 t) (outsAt0 m c (t.val - 1) (Nat.lt_of_le_of_lt (Nat.sub_le _ _) t.isLt)).2 (iblk m c 2 t) := by
  rw [outsAt0_C m c t (by omega) (by omega) h]
  dsimp only; rw [last_sum]

/-- One term of the product at row `r` and column `s`: the activation's entry times the weight's. -/
def term (a : FVec Ideal S4096x2048 .bf16) (w : FVec Ideal S4x5120x2048 .bf16) (r : Fin 4096) (s : Fin 2048) (k : Fin 2048) : EReal :=
  a (ix2 r k) * w (ix3 (⟨k.val / 512, by omega⟩ : Fin 4) (⟨4608 + k.val % 512, by omega⟩ : Fin 5120) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 512, term (m ((c : Thread nD τ).loc main_arg0)) (m ((c : Thread nD τ).loc main_arg1)) r s ⟨512 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = (∑ k : Fin 2048, term (m ((c : Thread nD τ).loc main_arg0)) (m ((c : Thread nD τ).loc main_arg1)) r s k) + m ((c : Thread nD τ).loc main_arg2) (ix2 r s) := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, sum_at, e2, e1, e0]
  refine congrArg₂ (· + ·) ?_ ?_
  · show part m c _ (ix2 p q) + part m c _ (ix2 p q) + part m c _ (ix2 p q) + part m c _ (ix2 p q) = _
    rw [part_at m c _ p q 0 (by dsimp only; omega) r (by dsimp only; omega) s (by dsimp only; omega), part_at m c _ p q 1 (by dsimp only; omega) r (by dsimp only; omega) s (by dsimp only; omega),
      part_at m c _ p q 2 (by dsimp only; omega) r (by dsimp only; omega) s (by dsimp only; omega), part_at m c t p q 3 h r hr s hs,
      Cert.Mm.sum_blocks (n := 4) (b := 512) rfl, Fin.sum_univ_four]
  · blk_point [iblk, V, idx t, hr, hs]

/-- The entry of the result: the product over the whole inner axis and the residual. -/
def entry (a : FVec Ideal S4096x2048 .bf16) (w : FVec Ideal S4x5120x2048 .bf16) (g : FVec Ideal S4096x2048 .f32) (r : Fin 4096) (s : Fin 2048) : EReal :=
  (∑ k : Fin 2048, term a w r s k) + g (ix2 r s)

/-- After the last grid point the result holds the product over the whole inner axis and the residual. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_3 t).mp hf) y0 y1 _ rfl _ rfl

/-- The reference's result read at an index. -/
theorem reference (a : FVec Ideal S4096x2048 .bf16) (w : FVec Ideal S4x5120x2048 .bf16) (g : FVec Ideal S4096x2048 .f32) (o : FVec Ideal Cert.OutERefIdeal.S4096x2048 .f32)
    (ho : o = addf g (Host.dotGeneral Cert.OutERefIdeal.dot_S4096x2048_S2048x2048_S4096x2048_1_0_0_1_n_n none (extf .f32 a) (extf .f32 (shapeCast Cert.OutERefIdeal.S2048x2048 (extractStridedSlice Cert.OutERefIdeal.S4x512x2048 ![0, 4608, 0] w))))) :
    o = fun y => entry a w g (y 0) (y 1) := by
  subst ho
  funext y
  idx_vars y
  unfold entry term
  clean_types
  pointwise
  exact add_comm _ _

end Cert.OutEIdeal.Val

end
-- ==== Proof.OutOVal.lean ====
module

public import proofs.«01_k».proof.Proof.Gen.OutOIdeal.Value
public import proofs.«01_k».proof.Proof.Gen.OutORefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.OutOIdeal.Val

open Cert.OutOIdeal Cert.OutOIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x512 .bf16) (h3 : a3.IsWhole) (a4 : Memref sig .tc .vmem S1x512x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x512 .bf16) (w : Vec F S1x512x1024 .bf16) (g s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 hA hB hC x w g = k0_pay1 x w := by
  unfold sout0_A_0
  rw [View.read_writes_eq_canon _ _ _ (scover0_A_0 c i a3 h3 a4 h4 a5 h5 a6 h6 a7 h7 hA hB hC x w g)]
  unfold kernelRun0_A
  dsimp only
  rw [View.canon_unit_zero z2]
  unfold k0_pay2
  simp only [View.readAt_eq_ld, h3.read_unread, h4.read_unread, View.ld_unit_zero (S := S1024x512) z2, View.ld_unit_zero (S := S1x512x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 hA hB hC x w g s = addf s (k0_pay1 x w) := by
  unfold sout0_B_0
  rw [View.read_writes_eq_canon _ _ _ (scover0_B_0 c i a3 h3 a4 h4 a5 h5 a6 h6 a7 h7 hA hB hC x w g s)]
  unfold kernelRun0_B
  dsimp only
  rw [View.canon_unit_zero z2]
  unfold k0_pay3
  simp only [View.readAt_eq_ld, h3.read_unread, h4.read_unread, h5.read_unread, h7.read_unread, View.ld_unit_zero (S := S1024x512) z2, View.ld_unit_zero (S := S1024x1024) z2, View.ld_unit_zero (S := S1x512x1024) z3, shapeCast_self]

/-- The last point leaves the sum and its product in the result. -/
theorem last_sum (hA : ¬cond0_0 i) (hB : ¬cond0_1 i) (hC : cond0_2 i) : out0_C_3 c i a3 h3 a4 h4 a5 h5 a6 h6 a7 h7 hA hB hC x w g s = k0_pay4 x w s g := by
  unfold out0_C_3
  rw [View.read_writes_eq_canon _ _ _ (cover0_C_3 c i a3 h3 a4 h4 a5 h5 a6 h6 a7 h7 hA hB hC x w g s)]
  unfold kernelRun0_C
  dsimp only
  rw [View.canon_unit_zero z2]
  simp only [View.readAt_eq_ld, h3.read_unread, h4.read_unread, h5.read_unread, h7.read_unread, View.ld_unit_zero (S := S1024x512) z2, View.ld_unit_zero (S := S1024x1024) z2, View.ld_unit_zero (S := S1x512x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 10, t.val / 4 % 2] ∧ win0_2.index t = ![t.val / 8, t.val / 4 % 2] ∧ win0_3.index t = ![t.val / 8, t.val / 4 % 2] :=
  (by decide +kernel : ∀ t : Fin grid0.N, _)

/-- One entry of a point's product. -/
theorem pay_at (x : FVec Ideal S1024x512 .bf16) (w : FVec Ideal S1x512x1024 .bf16) (p q : Fin 1024) :
    k0_pay1 (F := Ideal) x w (ix2 p q) = ∑ k : Fin 512, x (ix2 p k) * w (ix3 0 k q) := by
  unfold k0_pay1
  pointwise

/-- One entry of the sum, a point's product and the residual. -/
theorem sum_at (x : FVec Ideal S1024x512 .bf16) (w : FVec Ideal S1x512x1024 .bf16) (s g : FVec Ideal S1024x1024 .f32) (p q : Fin 1024) :
    k0_pay4 (F := Ideal) x w s g (ix2 p q) = s (ix2 p q) + k0_pay1 (F := Ideal) x w (ix2 p q) + g (ix2 p q) := by
  unfold k0_pay4
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2 = addf (outsAt0 m c (t.val - 1) (Nat.lt_of_le_of_lt (Nat.sub_le _ _) t.isLt)).2 (part m c t) := by
  rw [outsAt0_B m c t (by omega) h (by omega)]
  dsimp only; rw [next_sum]; rfl

/-- The result's block after the last point of a row. -/
theorem run_last (c : Dev nD) (t : Fin cfg0.N) (h : t.val % 4 = 3) :
    (outsAt0 m c t.val t.isLt).1 = k0_pay4 (F := Ideal) (iblk m c 0 t) (iblk m c 1 t) (outsAt0 m c (t.val - 1) (Nat.lt_of_le_of_lt (Nat.sub_le _ _) t.isLt)).2 (iblk m c 2 t) := by
  rw [outsAt0_C m c t (by omega) (by omega) h]
  dsimp only; rw [last_sum]

/-- One term of the product at row `r` and column `s`: the activation's entry times the weight's. -/
def term (a : FVec Ideal S4096x2048 .bf16) (w : FVec Ideal S4x5632x2048 .bf16) (r : Fin 4096) (s : Fin 2048) (k : Fin 2048) : EReal :=
  a (ix2 r k) * w (ix3 (⟨k.val / 512, by omega⟩ : Fin 4) (⟨5120 + k.val % 512, by omega⟩ : Fin 5632) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 512, term (m ((c : Thread nD τ).loc main_arg0)) (m ((c : Thread nD τ).loc main_arg1)) r s ⟨512 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The result's block after the last point of a row, as sums over the whole inner axis. -/
theorem last_at (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = (∑ k : Fin 2048, term (m ((c : Thread nD τ).loc main_arg0)) (m ((c : Thread nD τ).loc main_arg1)) r s k) + m ((c : Thread nD τ).loc main_arg2) (ix2 r s) := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [run_last m c t h, sum_at, e2, e1, e0]
  refine congrArg₂ (· + ·) ?_ ?_
  · show part m c _ (ix2 p q) + part m c _ (ix2 p q) + part m c _ (ix2 p q) + part m c _ (ix2 p q) = _
    rw [part_at m c _ p q 0 (by dsimp only; omega) r (by dsimp only; omega) s (by dsimp only; omega), part_at m c _ p q 1 (by dsimp only; omega) r (by dsimp only; omega) s (by dsimp only; omega),
      part_at m c _ p q 2 (by dsimp only; omega) r (by dsimp only; omega) s (by dsimp only; omega), part_at m c t p q 3 h r hr s hs,
      Cert.Mm.sum_blocks (n := 4) (b := 512) rfl, Fin.sum_univ_four]
  · blk_point [iblk, V, idx t, hr, hs]

/-- The entry of the result: the product over the whole inner axis and the residual. -/
def entry (a : FVec Ideal S4096x2048 .bf16) (w : FVec Ideal S4x5632x2048 .bf16) (g : FVec Ideal S4096x2048 .f32) (r : Fin 4096) (s : Fin 2048) : EReal :=
  (∑ k : Fin 2048, term a w r s k) + g (ix2 r s)

/-- After the last grid point the result holds the product over the whole inner axis and the residual. -/
theorem final (c : Dev nD) : (dats m 0 c).arrAt 3 cfg0.N
    = fun y => entry (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have ht : t.val < 32 := t.isLt
  have e : ((View.whole main_v0).slice (win0_3.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact last_at m c t ((flush0_3 t).mp hf) y0 y1 _ rfl _ rfl

/-- The reference's result read at an index. -/
theorem reference (a : FVec Ideal S4096x2048 .bf16) (w : FVec Ideal S4x5632x2048 .bf16) (g : FVec Ideal S4096x2048 .f32) (o : FVec Ideal Cert.OutORefIdeal.S4096x2048 .f32)
    (ho : o = addf g (Host.dotGeneral Cert.OutORefIdeal.dot_S4096x2048_S2048x2048_S4096x2048_1_0_0_1_n_n none (extf .f32 a) (extf .f32 (shapeCast Cert.OutORefIdeal.S2048x2048 (extractStridedSlice Cert.OutORefIdeal.S4x512x2048 ![0, 5120, 0] w))))) :
    o = fun y => entry a w g (y 0) (y 1) := by
  subst ho
  funext y
  idx_vars y
  unfold entry term
  clean_types
  pointwise
  exact add_comm _ _

end Cert.OutOIdeal.Val

end
-- ==== Proof.OutETVal.lean ====
module

public import proofs.«01_k».proof.Proof.Gen.OutETIdeal.Value
public import proofs.«01_k».proof.Proof.Gen.OutETRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.OutETIdeal.Val

open Cert.OutETIdeal Cert.OutETIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 4, 0] ∧ win0_1.index t = ![t.val % 4, 9, 0] ∧ win0_2.index t = ![t.val / 4, t.val % 4] :=
  (by decide +kernel : ∀ t : Fin grid0.N, _)

/-- One entry of a grid point's block. -/
theorem point (x : FVec Ideal S1024x2048 .bf16) (w : FVec Ideal S1x512x2048 .bf16) (p : Fin 1024) (q : Fin 512) :
    out0_2 (F := Ideal) x w (ix2 p q) = ∑ k : Fin 2048, x (ix2 p k) * w (ix3 0 q k) := by
  unfold out0_2
  frame_out
  unfold k0_pay1
  pointwise

/-- The entry at row `r` and column `s`: the cotangent's row times the weight's row, the four slabs one behind the other. -/
def entry (d : FVec Ideal S4096x2048 .bf16) (w : FVec Ideal S4x5120x2048 .bf16) (r : Fin 4096) (s : Fin 2048) : EReal :=
  ∑ k : Fin 2048, d (ix2 r k) * w (ix3 (⟨s.val / 512, by omega⟩ : Fin 4) (⟨4608 + s.val % 512, by omega⟩ : Fin 5120) k)

/-- After the last grid point the result holds the product with the transposed weight. -/
theorem final (c : Dev nD) : (dats m 0 c).arrAt 2 cfg0.N
    = fun y => entry (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 16 := t.isLt
  have e : ((View.whole main_v0).slice (win0_2.rect t)).emb (ix2 y0 y1) = ix2 (⟨1024 * (t.val / 4) + y0.val, by omega⟩ : Fin 4096) (⟨512 * (t.val % 4) + y1.val, by omega⟩ : Fin 2048) := by
    blk_ext [idx t]
  rw [point (iblk m c 0 t) (iblk m c 1 t), e]
  unfold entry
  show (_ : EReal) = (_ : EReal)
  refine Finset.sum_congr rfl fun k _ => congrArg₂ (· * ·) ?_ ?_
  · blk_point [iblk, V, idx t]
  · blk_point [iblk, V, idx t]

/-- The reference's result read at an index. -/
theorem reference (d : FVec Ideal S4096x2048 .bf16) (w : FVec Ideal S4x5120x2048 .bf16) (o : FVec Ideal Cert.OutETRefIdeal.S4096x2048 .f32)
    (ho : o = Host.dotGeneral Cert.OutETRefIdeal.dot_S4096x2048_S2048x2048_S4096x2048_1_1_0_0_n_n none (extf .f32 d) (extf .f32 (shapeCast Cert.OutETRefIdeal.S2048x2048 (extractStridedSlice Cert.OutETRefIdeal.S4x512x2048 ![0, 4608, 0] w)))) :
    o = fun y => entry d w (y 0) (y 1) := by
  subst ho
  funext y
  idx_vars y
  unfold entry
  clean_types
  pointwise

end Cert.OutETIdeal.Val

end
-- ==== Proof.OutOTVal.lean ====
module

public import proofs.«01_k».proof.Proof.Gen.OutOTIdeal.Value
public import proofs.«01_k».proof.Proof.Gen.OutOTRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.OutOTIdeal.Val

open Cert.OutOTIdeal Cert.OutOTIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 4, 0] ∧ win0_1.index t = ![t.val % 4, 10, 0] ∧ win0_2.index t = ![t.val / 4, t.val % 4] :=
  (by decide +kernel : ∀ t : Fin grid0.N, _)

/-- One entry of a grid point's block. -/
theorem point (x : FVec Ideal S1024x2048 .bf16) (w : FVec Ideal S1x512x2048 .bf16) (p : Fin 1024) (q : Fin 512) :
    out0_2 (F := Ideal) x w (ix2 p q) = ∑ k : Fin 2048, x (ix2 p k) * w (ix3 0 q k) := by
  unfold out0_2
  frame_out
  unfold k0_pay1
  pointwise

/-- The entry at row `r` and column `s`: the cotangent's row times the weight's row, the four slabs one behind the other. -/
def entry (d : FVec Ideal S4096x2048 .bf16) (w : FVec Ideal S4x5632x2048 .bf16) (r : Fin 4096) (s : Fin 2048) : EReal :=
  ∑ k : Fin 2048, d (ix2 r k) * w (ix3 (⟨s.val / 512, by omega⟩ : Fin 4) (⟨5120 + s.val % 512, by omega⟩ : Fin 5632) k)

/-- After the last grid point the result holds the product with the transposed weight. -/
theorem final (c : Dev nD) : (dats m 0 c).arrAt 2 cfg0.N
    = fun y => entry (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 16 := t.isLt
  have e : ((View.whole main_v0).slice (win0_2.rect t)).emb (ix2 y0 y1) = ix2 (⟨1024 * (t.val / 4) + y0.val, by omega⟩ : Fin 4096) (⟨512 * (t.val % 4) + y1.val, by omega⟩ : Fin 2048) := by
    blk_ext [idx t]
  rw [point (iblk m c 0 t) (iblk m c 1 t), e]
  unfold entry
  show (_ : EReal) = (_ : EReal)
  refine Finset.sum_congr rfl fun k _ => congrArg₂ (· * ·) ?_ ?_
  · blk_point [iblk, V, idx t]
  · blk_point [iblk, V, idx t]

/-- The reference's result read at an index. -/
theorem reference (d : FVec Ideal S4096x2048 .bf16) (w : FVec Ideal S4x5632x2048 .bf16) (o : FVec Ideal Cert.OutOTRefIdeal.S4096x2048 .f32)
    (ho : o = Host.dotGeneral Cert.OutOTRefIdeal.dot_S4096x2048_S2048x2048_S4096x2048_1_1_0_0_n_n none (extf .f32 d) (extf .f32 (shapeCast Cert.OutOTRefIdeal.S2048x2048 (extractStridedSlice Cert.OutOTRefIdeal.S4x512x2048 ![0, 5120, 0] w)))) :
    o = fun y => entry d w (y 0) (y 1) := by
  subst ho
  funext y
  idx_vars y
  unfold entry
  clean_types
  pointwise

end Cert.OutOTIdeal.Val

end
-- ==== Proof.GateTVal.lean ====
module

public import proofs.«01_k».proof.Proof.Gen.GateTIdeal.Value
public import proofs.«01_k».proof.Proof.Gen.GateTRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GateTIdeal.Val

open Cert.GateTIdeal Cert.GateTIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 4, 0] ∧ win0_1.index t = ![t.val % 4, 8, 0] ∧ win0_2.index t = ![t.val / 4, t.val % 4] :=
  (by decide +kernel : ∀ t : Fin grid0.N, _)

/-- One entry of a grid point's block. -/
theorem point (x : FVec Ideal S1024x2048 .bf16) (w : FVec Ideal S1x512x2048 .bf16) (p : Fin 1024) (q : Fin 512) :
    out0_2 (F := Ideal) x w (ix2 p q) = ∑ k : Fin 2048, x (ix2 p k) * w (ix3 0 q k) := by
  unfold out0_2
  frame_out
  unfold k0_pay1
  pointwise

/-- The entry at row `r` and column `s`: the cotangent's row times the weight's row, the four slabs one behind the other. -/
def entry (d : FVec Ideal S4096x2048 .bf16) (w : FVec Ideal S4x5120x2048 .bf16) (r : Fin 4096) (s : Fin 2048) : EReal :=
  ∑ k : Fin 2048, d (ix2 r k) * w (ix3 (⟨s.val / 512, by omega⟩ : Fin 4) (⟨4096 + s.val % 512, by omega⟩ : Fin 5120) k)

/-- After the last grid point the result holds the product with the transposed weight. -/
theorem final (c : Dev nD) : (dats m 0 c).arrAt 2 cfg0.N
    = fun y => entry (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 16 := t.isLt
  have e : ((View.whole main_v0).slice (win0_2.rect t)).emb (ix2 y0 y1) = ix2 (⟨1024 * (t.val / 4) + y0.val, by omega⟩ : Fin 4096) (⟨512 * (t.val % 4) + y1.val, by omega⟩ : Fin 2048) := by
    blk_ext [idx t]
  rw [point (iblk m c 0 t) (iblk m c 1 t), e]
  unfold entry
  show (_ : EReal) = (_ : EReal)
  refine Finset.sum_congr rfl fun k _ => congrArg₂ (· * ·) ?_ ?_
  · blk_point [iblk, V, idx t]
  · blk_point [iblk, V, idx t]

/-- The reference's result read at an index. -/
theorem reference (d : FVec Ideal S4096x2048 .bf16) (w : FVec Ideal S4x5120x2048 .bf16) (o : FVec Ideal Cert.GateTRefIdeal.S4096x2048 .f32)
    (ho : o = Host.dotGeneral Cert.GateTRefIdeal.dot_S4096x2048_S2048x2048_S4096x2048_1_1_0_0_n_n none (extf .f32 d) (extf .f32 (shapeCast Cert.GateTRefIdeal.S2048x2048 (extractStridedSlice Cert.GateTRefIdeal.S4x512x2048 ![0, 4096, 0] w)))) :
    o = fun y => entry d w (y 0) (y 1) := by
  subst ho
  funext y
  idx_vars y
  unfold entry
  clean_types
  pointwise

end Cert.GateTIdeal.Val

end
-- ==== Proof.GateLTVal.lean ====
module

public import proofs.«01_k».proof.Proof.Gen.GateLTIdeal.Value
public import proofs.«01_k».proof.Proof.Gen.GateLTRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GateLTIdeal.Val

open Cert.GateLTIdeal Cert.GateLTIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 4, 0] ∧ win0_1.index t = ![t.val % 4, 8, 0] ∧ win0_2.index t = ![t.val / 4, t.val % 4] :=
  (by decide +kernel : ∀ t : Fin grid0.N, _)

/-- One entry of a grid point's block. -/
theorem point (x : FVec Ideal S1024x2048 .bf16) (w : FVec Ideal S1x512x2048 .bf16) (p : Fin 1024) (q : Fin 512) :
    out0_2 (F := Ideal) x w (ix2 p q) = ∑ k : Fin 2048, x (ix2 p k) * w (ix3 0 q k) := by
  unfold out0_2
  frame_out
  unfold k0_pay1
  pointwise

/-- The entry at row `r` and column `s`: the cotangent's row times the weight's row, the four slabs one behind the other. -/
def entry (d : FVec Ideal S4096x2048 .bf16) (w : FVec Ideal S4x5632x2048 .bf16) (r : Fin 4096) (s : Fin 2048) : EReal :=
  ∑ k : Fin 2048, d (ix2 r k) * w (ix3 (⟨s.val / 512, by omega⟩ : Fin 4) (⟨4096 + s.val % 512, by omega⟩ : Fin 5632) k)

/-- After the last grid point the result holds the product with the transposed weight. -/
theorem final (c : Dev nD) : (dats m 0 c).arrAt 2 cfg0.N
    = fun y => entry (m ((c : Thread nD τ).loc main_arg0)) (m ((c : Thread nD τ).loc main_arg1)) (y 0) (y 1) := by
  refine (dats m 0 c).arrAt_eq_of_covers 2 _ (by decide +kernel) fun t _ y => ?_
  blk_simp
  rw [after0_2]
  idx_vars y
  have ht : t.val < 16 := t.isLt
  have e : ((View.whole main_v0).slice (win0_2.rect t)).emb (ix2 y0 y1) = ix2 (⟨1024 * (t.val / 4) + y0.val, by omega⟩ : Fin 4096) (⟨512 * (t.val % 4) + y1.val, by omega⟩ : Fin 2048) := by
    blk_ext [idx t]
  rw [point (iblk m c 0 t) (iblk m c 1 t), e]
  unfold entry
  show (_ : EReal) = (_ : EReal)
  refine Finset.sum_congr rfl fun k _ => congrArg₂ (· * ·) ?_ ?_
  · blk_point [iblk, V, idx t]
  · blk_point [iblk, V, idx t]

/-- The reference's result read at an index. -/
theorem reference (d : FVec Ideal S4096x2048 .bf16) (w : FVec Ideal S4x5632x2048 .bf16) (o : FVec Ideal Cert.GateLTRefIdeal.S4096x2048 .f32)
    (ho : o = Host.dotGeneral Cert.GateLTRefIdeal.dot_S4096x2048_S2048x2048_S4096x2048_1_1_0_0_n_n none (extf .f32 d) (extf .f32 (shapeCast Cert.GateLTRefIdeal.S2048x2048 (extractStridedSlice Cert.GateLTRefIdeal.S4x512x2048 ![0, 4096, 0] w)))) :
    o = fun y => entry d w (y 0) (y 1) := by
  subst ho
  funext y
  idx_vars y
  unfold entry
  clean_types
  pointwise

end Cert.GateLTIdeal.Val

end
-- ==== Proof.DOutEVal.lean ====
module

public import proofs.«01_k».proof.Proof.Gen.DOutEIdeal.Value
public import proofs.«01_k».proof.Proof.Gen.DOutERefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DOutEIdeal.Val

open Cert.DOutEIdeal Cert.DOutEIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a6 : Memref sig .tc .vmem S1x512x1024 .bf16) (h6 : a6.IsWhole) (a7 : Memref sig .tc .vmem S512x1024 .f32) (h7 : a7.IsWhole)
  (x : Vec F S2048x512 .bf16) (w : Vec F S2048x1024 .bf16) (s : Vec F S512x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x512) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x512) z2, View.ld_unit_zero (S := S2048x1024) z2, View.ld_unit_zero (S := S512x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, 9, t.val / 2 % 2] :=
  (by decide +kernel : ∀ t : Fin grid0.N, _)

/-- One entry of a point's product. -/
theorem pay_at (x : FVec Ideal S2048x512 .bf16) (w : FVec Ideal S2048x1024 .bf16) (p : Fin 512) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x512 .bf16) (w : FVec Ideal S2048x1024 .bf16) (s : FVec Ideal S512x1024 .f32) (p : Fin 512) (q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x2048 .bf16) (d : FVec Ideal S4096x2048 .bf16) (r : Fin 2048) (s : Fin 2048) (k : Fin 4096) : EReal :=
  a (ix2 k r) * d (ix2 k s)

/-- The product of one grid point as terms of the result. -/
theorem part_at (c : Dev nD) (t : Fin cfg0.N) (p : Fin 512) (q : Fin 1024) (j : Fin 2) (hj : t.val % 2 = j.val) (r : Fin 2048) (hr : r.val = 512 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 16 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p : Fin 512) (q : Fin 1024) (r : Fin 2048) (hr : r.val = 512 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 16 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x2048 .bf16) (d : FVec Ideal S4096x2048 .bf16) (g : FVec Ideal S4x5120x2048 .bf16) (y0 : Fin 4) (y1 : Fin 5120) (y2 : Fin 2048) : EReal :=
  if h : 4608 ≤ y1.val ∧ y1.val < 5120 then ∑ k : Fin 4096, term a d ⟨512 * y0.val + (y1.val - 4608), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) = 9) (by decide +kernel) (fun t hf y => ?_) (fun j hj => ?_)
  · blk_simp
    rw [after0_2]
    idx_vars y
    have ht : t.val < 16 := t.isLt
    have e : ((View.whole main_v0).slice (win0_2.rect t)).emb (ix3 y0 y1 y2) = ix3 (⟨t.val / 4, by omega⟩ : Fin 4) (⟨4608 + y1.val, by omega⟩ : Fin 5120) (⟨1024 * (t.val / 2 % 2) + y2.val, by omega⟩ : Fin 2048) := by
      blk_ext [idx t]
    rw [e]
    show _ = entry _ _ _ (⟨t.val / 4, by omega⟩ : Fin 4) (⟨4608 + y1.val, by omega⟩ : Fin 5120) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x2048 .bf16) (g : FVec Ideal S4x5120x2048 .bf16) (o : FVec Ideal Cert.DOutERefIdeal.S4x5120x2048 .bf16)
    (hc : Shape.Concatenates [Cert.DOutERefIdeal.S4x4608x2048, Cert.DOutERefIdeal.S4x512x2048] Cert.DOutERefIdeal.S4x5120x2048 1)
    (ho : o = concatenate Cert.DOutERefIdeal.S4x5120x2048 1 [⟨Cert.DOutERefIdeal.S4x4608x2048, extractStridedSlice Cert.DOutERefIdeal.S4x4608x2048 ![0, 0, 0] g⟩,
      ⟨Cert.DOutERefIdeal.S4x512x2048, shapeCast Cert.DOutERefIdeal.S4x512x2048 (truncf (F := Ideal) .bf16 (transpose Cert.DOutERefIdeal.S2048x2048 [1, 0] (Host.dotGeneral Cert.DOutERefIdeal.dot_S4096x2048_S4096x2048_S2048x2048_0_0_1_1_n_n none (extf .f32 d) (extf .f32 a))))⟩] hc) :
    o = fun y => entry a d g (y 0) (y 1) (y 2) := by
  subst ho
  funext y
  idx_vars y
  unfold entry term
  clean_types
  pointwise
  by_cases h : y1.val < 4608
  · rw [dif_pos h, dif_neg (by omega)]
  rw [dif_neg h]
  rw [dif_pos (by omega)]
  refine Finset.sum_congr rfl fun k _ => (mul_comm _ _).trans ?_
  exact congrArg (fun z : Fin 2048 => a (ix2 k z) * d (ix2 k y2)) (Fin.ext (by dsimp only; omega))

end Cert.DOutEIdeal.Val

end
-- ==== Proof.DOutOVal.lean ====
module

public import proofs.«01_k».proof.Proof.Gen.DOutOIdeal.Value
public import proofs.«01_k».proof.Proof.Gen.DOutORefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DOutOIdeal.Val

open Cert.DOutOIdeal Cert.DOutOIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a6 : Memref sig .tc .vmem S1x512x1024 .bf16) (h6 : a6.IsWhole) (a7 : Memref sig .tc .vmem S512x1024 .f32) (h7 : a7.IsWhole)
  (x : Vec F S2048x512 .bf16) (w : Vec F S2048x1024 .bf16) (s : Vec F S512x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x512) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x512) z2, View.ld_unit_zero (S := S2048x1024) z2, View.ld_unit_zero (S := S512x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, 10, t.val / 2 % 2] :=
  (by decide +kernel : ∀ t : Fin grid0.N, _)

/-- One entry of a point's product. -/
theorem pay_at (x : FVec Ideal S2048x512 .bf16) (w : FVec Ideal S2048x1024 .bf16) (p : Fin 512) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x512 .bf16) (w : FVec Ideal S2048x1024 .bf16) (s : FVec Ideal S512x1024 .f32) (p : Fin 512) (q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x2048 .bf16) (d : FVec Ideal S4096x2048 .bf16) (r : Fin 2048) (s : Fin 2048) (k : Fin 4096) : EReal :=
  a (ix2 k r) * d (ix2 k s)

/-- The product of one grid point as terms of the result. -/
theorem part_at (c : Dev nD) (t : Fin cfg0.N) (p : Fin 512) (q : Fin 1024) (j : Fin 2) (hj : t.val % 2 = j.val) (r : Fin 2048) (hr : r.val = 512 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 16 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p : Fin 512) (q : Fin 1024) (r : Fin 2048) (hr : r.val = 512 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 16 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x2048 .bf16) (d : FVec Ideal S4096x2048 .bf16) (g : FVec Ideal S4x5632x2048 .bf16) (y0 : Fin 4) (y1 : Fin 5632) (y2 : Fin 2048) : EReal :=
  if h : 5120 ≤ y1.val ∧ y1.val < 5632 then ∑ k : Fin 4096, term a d ⟨512 * y0.val + (y1.val - 5120), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) = 10) (by decide +kernel) (fun t hf y => ?_) (fun j hj => ?_)
  · blk_simp
    rw [after0_2]
    idx_vars y
    have ht : t.val < 16 := t.isLt
    have e : ((View.whole main_v0).slice (win0_2.rect t)).emb (ix3 y0 y1 y2) = ix3 (⟨t.val / 4, by omega⟩ : Fin 4) (⟨5120 + y1.val, by omega⟩ : Fin 5632) (⟨1024 * (t.val / 2 % 2) + y2.val, by omega⟩ : Fin 2048) := by
      blk_ext [idx t]
    rw [e]
    show _ = entry _ _ _ (⟨t.val / 4, by omega⟩ : Fin 4) (⟨5120 + y1.val, by omega⟩ : Fin 5632) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x2048 .bf16) (g : FVec Ideal S4x5632x2048 .bf16) (o : FVec Ideal Cert.DOutORefIdeal.S4x5632x2048 .bf16)
    (hc : Shape.Concatenates [Cert.DOutORefIdeal.S4x5120x2048, Cert.DOutORefIdeal.S4x512x2048] Cert.DOutORefIdeal.S4x5632x2048 1)
    (ho : o = concatenate Cert.DOutORefIdeal.S4x5632x2048 1 [⟨Cert.DOutORefIdeal.S4x5120x2048, extractStridedSlice Cert.DOutORefIdeal.S4x5120x2048 ![0, 0, 0] g⟩,
      ⟨Cert.DOutORefIdeal.S4x512x2048, shapeCast Cert.DOutORefIdeal.S4x512x2048 (truncf (F := Ideal) .bf16 (transpose Cert.DOutORefIdeal.S2048x2048 [1, 0] (Host.dotGeneral Cert.DOutORefIdeal.dot_S4096x2048_S4096x2048_S2048x2048_0_0_1_1_n_n none (extf .f32 d) (extf .f32 a))))⟩] hc) :
    o = fun y => entry a d g (y 0) (y 1) (y 2) := by
  subst ho
  funext y
  idx_vars y
  unfold entry term
  clean_types
  pointwise
  by_cases h : y1.val < 5120
  · rw [dif_pos h, dif_neg (by omega)]
  rw [dif_neg h]
  rw [dif_pos (by omega)]
  refine Finset.sum_congr rfl fun k _ => (mul_comm _ _).trans ?_
  exact congrArg (fun z : Fin 2048 => a (ix2 k z) * d (ix2 k y2)) (Fin.ext (by dsimp only; omega))

end Cert.DOutOIdeal.Val

end
-- ==== Proof.DGluVal.lean ====
module

public import proofs.«01_k».proof.Proof.Gen.DGluIdeal.Value
public import proofs.«01_k».proof.Proof.Gen.DGluRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DGluIdeal.Val

open Cert.DGluIdeal Cert.DGluIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a6 : Memref sig .tc .vmem S1x512x1024 .bf16) (h6 : a6.IsWhole) (a7 : Memref sig .tc .vmem S512x1024 .f32) (h7 : a7.IsWhole)
  (x : Vec F S2048x512 .bf16) (w : Vec F S2048x1024 .bf16) (s : Vec F S512x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x512) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x512) z2, View.ld_unit_zero (S := S2048x1024) z2, View.ld_unit_zero (S := S512x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, 9, t.val / 2 % 2] :=
  (by decide +kernel : ∀ t : Fin grid0.N, _)

/-- One entry of a point's product. -/
theorem pay_at (x : FVec Ideal S2048x512 .bf16) (w : FVec Ideal S2048x1024 .bf16) (p : Fin 512) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x512 .bf16) (w : FVec Ideal S2048x1024 .bf16) (s : FVec Ideal S512x1024 .f32) (p : Fin 512) (q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x2048 .bf16) (d : FVec Ideal S4096x2048 .bf16) (r : Fin 2048) (s : Fin 2048) (k : Fin 4096) : EReal :=
  a (ix2 k r) * d (ix2 k s)

/-- The product of one grid point as terms of the result. -/
theorem part_at (c : Dev nD) (t : Fin cfg0.N) (p : Fin 512) (q : Fin 1024) (j : Fin 2) (hj : t.val % 2 = j.val) (r : Fin 2048) (hr : r.val = 512 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 16 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p : Fin 512) (q : Fin 1024) (r : Fin 2048) (hr : r.val = 512 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 16 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x2048 .bf16) (d : FVec Ideal S4096x2048 .bf16) (g : FVec Ideal S4x5632x2048 .bf16) (y0 : Fin 4) (y1 : Fin 5632) (y2 : Fin 2048) : EReal :=
  if h : 4608 ≤ y1.val ∧ y1.val < 5120 then ∑ k : Fin 4096, term a d ⟨512 * y0.val + (y1.val - 4608), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) = 9) (by decide +kernel) (fun t hf y => ?_) (fun j hj => ?_)
  · blk_simp
    rw [after0_2]
    idx_vars y
    have ht : t.val < 16 := t.isLt
    have e : ((View.whole main_v0).slice (win0_2.rect t)).emb (ix3 y0 y1 y2) = ix3 (⟨t.val / 4, by omega⟩ : Fin 4) (⟨4608 + y1.val, by omega⟩ : Fin 5632) (⟨1024 * (t.val / 2 % 2) + y2.val, by omega⟩ : Fin 2048) := by
      blk_ext [idx t]
    rw [e]
    show _ = entry _ _ _ (⟨t.val / 4, by omega⟩ : Fin 4) (⟨4608 + y1.val, by omega⟩ : Fin 5632) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x2048 .bf16) (g : FVec Ideal S4x5632x2048 .bf16) (o : FVec Ideal Cert.DGluRefIdeal.S4x5632x2048 .bf16)
    (hc : Shape.Concatenates [Cert.DGluRefIdeal.S4x4608x2048, Cert.DGluRefIdeal.S4x512x2048, Cert.DGluRefIdeal.S4x512x2048] Cert.DGluRefIdeal.S4x5632x2048 1)
    (ho : o = concatenate Cert.DGluRefIdeal.S4x5632x2048 1 [⟨Cert.DGluRefIdeal.S4x4608x2048, extractStridedSlice Cert.DGluRefIdeal.S4x4608x2048 ![0, 0, 0] g⟩,
      ⟨Cert.DGluRefIdeal.S4x512x2048, shapeCast Cert.DGluRefIdeal.S4x512x2048 (truncf (F := Ideal) .bf16 (transpose Cert.DGluRefIdeal.S2048x2048 [1, 0] (Host.dotGeneral Cert.DGluRefIdeal.dot_S4096x2048_S4096x2048_S2048x2048_0_0_1_1_n_n none (extf .f32 d) (extf .f32 a))))⟩,
      ⟨Cert.DGluRefIdeal.S4x512x2048, extractStridedSlice Cert.DGluRefIdeal.S4x512x2048 ![0, 5120, 0] g⟩] hc) :
    o = fun y => entry a d g (y 0) (y 1) (y 2) := by
  subst ho
  funext y
  idx_vars y
  unfold entry term
  clean_types
  pointwise
  by_cases h : y1.val < 4608
  · rw [dif_pos h, dif_neg (by omega)]
  rw [dif_neg h]
  by_cases h' : y1.val - 4608 < 512
  · rw [dif_pos h', dif_pos (by omega)]
    refine Finset.sum_congr rfl fun k _ => (mul_comm _ _).trans ?_
    exact congrArg (fun z : Fin 2048 => a (ix2 k z) * d (ix2 k y2)) (Fin.ext (by dsimp only; omega))
  · rw [dif_neg h', dif_neg (by omega)]
    exact congrArg (fun z : Fin 5632 => g (ix3 y0 z y2)) (Fin.ext (by dsimp only; omega))

end Cert.DGluIdeal.Val

end
-- ==== Proof.DGateVal.lean ====
module

public import proofs.«01_k».proof.Proof.Gen.DGateIdeal.Value
public import proofs.«01_k».proof.Proof.Gen.DGateRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DGateIdeal.Val

open Cert.DGateIdeal Cert.DGateIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a6 : Memref sig .tc .vmem S1x512x1024 .bf16) (h6 : a6.IsWhole) (a7 : Memref sig .tc .vmem S512x1024 .f32) (h7 : a7.IsWhole)
  (x : Vec F S2048x512 .bf16) (w : Vec F S2048x1024 .bf16) (s : Vec F S512x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x512) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x512) z2, View.ld_unit_zero (S := S2048x1024) z2, View.ld_unit_zero (S := S512x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, 8, t.val / 2 % 2] :=
  (by decide +kernel : ∀ t : Fin grid0.N, _)

/-- One entry of a point's product. -/
theorem pay_at (x : FVec Ideal S2048x512 .bf16) (w : FVec Ideal S2048x1024 .bf16) (p : Fin 512) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x512 .bf16) (w : FVec Ideal S2048x1024 .bf16) (s : FVec Ideal S512x1024 .f32) (p : Fin 512) (q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x2048 .bf16) (d : FVec Ideal S4096x2048 .bf16) (r : Fin 2048) (s : Fin 2048) (k : Fin 4096) : EReal :=
  a (ix2 k r) * d (ix2 k s)

/-- The product of one grid point as terms of the result. -/
theorem part_at (c : Dev nD) (t : Fin cfg0.N) (p : Fin 512) (q : Fin 1024) (j : Fin 2) (hj : t.val % 2 = j.val) (r : Fin 2048) (hr : r.val = 512 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 16 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p : Fin 512) (q : Fin 1024) (r : Fin 2048) (hr : r.val = 512 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 16 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x2048 .bf16) (d : FVec Ideal S4096x2048 .bf16) (g : FVec Ideal S4x5120x2048 .bf16) (y0 : Fin 4) (y1 : Fin 5120) (y2 : Fin 2048) : EReal :=
  if h : 4096 ≤ y1.val ∧ y1.val < 4608 then ∑ k : Fin 4096, term a d ⟨512 * y0.val + (y1.val - 4096), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) = 8) (by decide +kernel) (fun t hf y => ?_) (fun j hj => ?_)
  · blk_simp
    rw [after0_2]
    idx_vars y
    have ht : t.val < 16 := t.isLt
    have e : ((View.whole main_v0).slice (win0_2.rect t)).emb (ix3 y0 y1 y2) = ix3 (⟨t.val / 4, by omega⟩ : Fin 4) (⟨4096 + y1.val, by omega⟩ : Fin 5120) (⟨1024 * (t.val / 2 % 2) + y2.val, by omega⟩ : Fin 2048) := by
      blk_ext [idx t]
    rw [e]
    show _ = entry _ _ _ (⟨t.val / 4, by omega⟩ : Fin 4) (⟨4096 + y1.val, by omega⟩ : Fin 5120) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x2048 .bf16) (g : FVec Ideal S4x5120x2048 .bf16) (o : FVec Ideal Cert.DGateRefIdeal.S4x5120x2048 .bf16)
    (hc : Shape.Concatenates [Cert.DGateRefIdeal.S4x4096x2048, Cert.DGateRefIdeal.S4x512x2048, Cert.DGateRefIdeal.S4x512x2048] Cert.DGateRefIdeal.S4x5120x2048 1)
    (ho : o = concatenate Cert.DGateRefIdeal.S4x5120x2048 1 [⟨Cert.DGateRefIdeal.S4x4096x2048, extractStridedSlice Cert.DGateRefIdeal.S4x4096x2048 ![0, 0, 0] g⟩,
      ⟨Cert.DGateRefIdeal.S4x512x2048, shapeCast Cert.DGateRefIdeal.S4x512x2048 (truncf (F := Ideal) .bf16 (transpose Cert.DGateRefIdeal.S2048x2048 [1, 0] (Host.dotGeneral Cert.DGateRefIdeal.dot_S4096x2048_S4096x2048_S2048x2048_0_0_1_1_n_n none (extf .f32 d) (extf .f32 a))))⟩,
      ⟨Cert.DGateRefIdeal.S4x512x2048, extractStridedSlice Cert.DGateRefIdeal.S4x512x2048 ![0, 4608, 0] g⟩] hc) :
    o = fun y => entry a d g (y 0) (y 1) (y 2) := by
  subst ho
  funext y
  idx_vars y
  unfold entry term
  clean_types
  pointwise
  by_cases h : y1.val < 4096
  · rw [dif_pos h, dif_neg (by omega)]
  rw [dif_neg h]
  by_cases h' : y1.val - 4096 < 512
  · rw [dif_pos h', dif_pos (by omega)]
    refine Finset.sum_congr rfl fun k _ => (mul_comm _ _).trans ?_
    exact congrArg (fun z : Fin 2048 => a (ix2 k z) * d (ix2 k y2)) (Fin.ext (by dsimp only; omega))
  · rw [dif_neg h', dif_neg (by omega)]
    exact congrArg (fun z : Fin 5120 => g (ix3 y0 z y2)) (Fin.ext (by dsimp only; omega))

end Cert.DGateIdeal.Val

end
-- ==== Proof.DGateLVal.lean ====
module

public import proofs.«01_k».proof.Proof.Gen.DGateLIdeal.Value
public import proofs.«01_k».proof.Proof.Gen.DGateLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.DGateLIdeal.Val

open Cert.DGateLIdeal Cert.DGateLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S2048x512 .bf16) (h3 : a3.IsWhole) (a4 : Memref sig .tc .vmem S2048x1024 .bf16) (h4 : a4.IsWhole)
  (a6 : Memref sig .tc .vmem S1x512x1024 .bf16) (h6 : a6.IsWhole) (a7 : Memref sig .tc .vmem S512x1024 .f32) (h7 : a7.IsWhole)
  (x : Vec F S2048x512 .bf16) (w : Vec F S2048x1024 .bf16) (s : Vec F S512x1024 .f32)

/-- The first of a block's two points leaves its product in the sum. -/
theorem start_sum (hA : cond0_0 i) (hB : ¬cond0_1 i) (hC : ¬cond0_2 i) : sout0_A_0 c i a3 h3 a4 h4 a6 h6 a7 h7 hA hB hC x w = k0_pay1 x w := by
  unfold sout0_A_0
  rw [View.read_writes_eq_canon _ _ _ (scover0_A_0 c i a3 h3 a4 h4 a6 h6 a7 h7 hA hB hC x w)]
  unfold kernelRun0_A
  dsimp only
  rw [View.canon_unit_zero z2]
  unfold k0_pay2
  simp only [View.readAt_eq_ld, h3.read_unread, h4.read_unread, View.ld_unit_zero (S := S2048x512) z2, View.ld_unit_zero (S := S2048x1024) z2, shapeCast_self]

/-- The second point leaves the sum and its product in the result. -/
theorem last_sum (hA : ¬cond0_0 i) (hB : ¬cond0_1 i) (hC : cond0_2 i) : out0_B_2 c i a3 h3 a4 h4 a6 h6 a7 h7 hA hB hC x w s = k0_pay4 x w s := by
  unfold out0_B_2
  rw [View.read_writes_eq_canon _ _ _ (cover0_B_2 c i a3 h3 a4 h4 a6 h6 a7 h7 hA hB hC x w s)]
  unfold kernelRun0_B
  dsimp only
  rw [View.canon_unit_zero z3]
  simp only [View.readAt_eq_ld, h3.read_unread, h4.read_unread, h7.read_unread, View.ld_unit_zero (S := S2048x512) z2, View.ld_unit_zero (S := S2048x1024) z2, View.ld_unit_zero (S := S512x1024) z2]

end Cases

variable (m : (ℓ : Loc nD τ sig) → Buf (Elt Ideal) ℓ)

/-- The block index of every window at every grid point. -/
theorem idx : ∀ t : Fin cfg0.N, win0_0.index t = ![t.val % 2, t.val / 4] ∧ win0_1.index t = ![t.val % 2, t.val / 2 % 2] ∧ win0_2.index t = ![t.val / 4, 8, t.val / 2 % 2] :=
  (by decide +kernel : ∀ t : Fin grid0.N, _)

/-- One entry of a point's product. -/
theorem pay_at (x : FVec Ideal S2048x512 .bf16) (w : FVec Ideal S2048x1024 .bf16) (p : Fin 512) (q : Fin 1024) :
    k0_pay1 (F := Ideal) x w (ix2 p q) = ∑ k : Fin 2048, x (ix2 k p) * w (ix2 k q) := by
  unfold k0_pay1
  pointwise

/-- One entry of the sum and a point's product. -/
theorem sum_at (x : FVec Ideal S2048x512 .bf16) (w : FVec Ideal S2048x1024 .bf16) (s : FVec Ideal S512x1024 .f32) (p : Fin 512) (q : Fin 1024) :
    k0_pay4 (F := Ideal) x w s (ix3 0 p q) = s (ix2 p q) + k0_pay1 (F := Ideal) x w (ix2 p q) := by
  unfold k0_pay4
  pointwise

/-- One term of the result at row `r` and column `s`: the activation's entry times the cotangent's. -/
def term (a : FVec Ideal S4096x2048 .bf16) (d : FVec Ideal S4096x2048 .bf16) (r : Fin 2048) (s : Fin 2048) (k : Fin 4096) : EReal :=
  a (ix2 k r) * d (ix2 k s)

/-- The product of one grid point as terms of the result. -/
theorem part_at (c : Dev nD) (t : Fin cfg0.N) (p : Fin 512) (q : Fin 1024) (j : Fin 2) (hj : t.val % 2 = j.val) (r : Fin 2048) (hr : r.val = 512 * (t.val / 4) + p.val) (s : Fin 2048) (hs : s.val = 1024 * (t.val / 2 % 2) + q.val) :
    k0_pay1 (F := Ideal) (iblk m c 0 t) (iblk m c 1 t) (ix2 p q) = ∑ k : Fin 2048, term (m ((c : Thread nD τ).loc main_arg0)) (m ((c : Thread nD τ).loc main_arg1)) r s ⟨2048 * j.val + k.val, by omega⟩ := by
  have ht : t.val < 16 := t.isLt
  rw [pay_at, ← V_main_arg0 m c, ← V_main_arg1 m c]
  refine Finset.sum_congr rfl fun k _ => congrArg₂ (· * ·) ?_ ?_
  · blk_point [iblk, idx t, hr, hj]
  · blk_point [iblk, idx t, hs, hj]

/-- The result's block after the second point, as sums over the whole inner axis. -/
theorem last_at (c : Dev nD) (t : Fin cfg0.N) (h : t.val % 2 = 1) (p : Fin 512) (q : Fin 1024) (r : Fin 2048) (hr : r.val = 512 * (t.val / 4) + p.val) (s : Fin 2048) (hs : s.val = 1024 * (t.val / 2 % 2) + q.val) :
    (outsAt0 m c t.val t.isLt).1 (ix3 0 p q) = ∑ k : Fin 4096, term (m ((c : Thread nD τ).loc main_arg0)) (m ((c : Thread nD τ).loc main_arg1)) r s k := by
  have ht : t.val < 16 := t.isLt
  have e0 := outsAt0_A m c ⟨t.val - 1, by omega⟩ (by dsimp only; omega) (by dsimp only; omega)
  dsimp only at e0
  rw [outsAt0_B m c t (by omega) h]
  dsimp only
  rw [last_sum, sum_at, e0]
  dsimp only
  rw [start_sum, part_at m c _ p q 0 (by dsimp only; omega) r (by dsimp only; omega) s (by dsimp only; omega), part_at m c t p q 1 h r hr s hs,
    Cert.Mm.sum_blocks (n := 2) (b := 2048) rfl, Fin.sum_univ_two]

/-- The entry of the result at an index: inside the weight's rows the product over the whole inner axis, outside what was there. -/
def entry (a : FVec Ideal S4096x2048 .bf16) (d : FVec Ideal S4096x2048 .bf16) (g : FVec Ideal S4x5632x2048 .bf16) (y0 : Fin 4) (y1 : Fin 5632) (y2 : Fin 2048) : EReal :=
  if h : 4096 ≤ y1.val ∧ y1.val < 4608 then ∑ k : Fin 4096, term a d ⟨512 * y0.val + (y1.val - 4096), by omega⟩ y2 k else g (ix3 y0 y1 y2)

/-- After the last grid point the result holds the weight's gradient in its rows, and its old contents elsewhere. -/
theorem final (c : Dev nD) : (dats m 0 c).arrAt 2 cfg0.N
    = fun y => entry (m ((c : Thread nD τ).loc main_arg0)) (m ((c : Thread nD τ).loc main_arg1)) (m ((c : Thread nD τ).loc main_arg2)) (y 0) (y 1) (y 2) := by
  refine (dats m 0 c).arrAt_eq_of_coversWhere_of_agree 2 _ (fun β => β (1 : Fin 3) = 8) (by decide +kernel) (fun t hf y => ?_) (fun j hj => ?_)
  · blk_simp
    rw [after0_2]
    idx_vars y
    have ht : t.val < 16 := t.isLt
    have e : ((View.whole main_v0).slice (win0_2.rect t)).emb (ix3 y0 y1 y2) = ix3 (⟨t.val / 4, by omega⟩ : Fin 4) (⟨4096 + y1.val, by omega⟩ : Fin 5632) (⟨1024 * (t.val / 2 % 2) + y2.val, by omega⟩ : Fin 2048) := by
      blk_ext [idx t]
    rw [e]
    show _ = entry _ _ _ (⟨t.val / 4, by omega⟩ : Fin 4) (⟨4096 + y1.val, by omega⟩ : Fin 5632) (⟨1024 * (t.val / 2 % 2) + y2.val, by omega⟩ : Fin 2048)
    unfold entry
    rw [dif_pos (by dsimp only; omega)]
    obtain rfl : y0 = 0 := Subsingleton.elim _ _
    exact last_at m c t ((flush0_2 t).mp hf) y1 y2 _ (by dsimp only; omega) _ rfl
  · rw [A_eq]
    idx_vars j
    blk_simp [Pipeline.Window.cell_apply] at hj ⊢
    show V m c main_v0 (ix3 j0 j1 j2) = entry _ _ _ j0 j1 j2
    unfold entry
    rw [dif_neg (by omega)]
    have e : V m c main_v0 = m ((c : Thread nD τ).loc main_arg2) := by
      unfold_abbrev_sides
      after_results <;> rfl
    rw [e]

/-- The reference's result read at an index. -/
theorem reference (a : FVec Ideal S4096x2048 .bf16) (d : FVec Ideal S4096x2048 .bf16) (g : FVec Ideal S4x5632x2048 .bf16) (o : FVec Ideal Cert.DGateLRefIdeal.S4x5632x2048 .bf16)
    (hc : Shape.Concatenates [Cert.DGateLRefIdeal.S4x4096x2048, Cert.DGateLRefIdeal.S4x512x2048, Cert.DGateLRefIdeal.S4x1024x2048] Cert.DGateLRefIdeal.S4x5632x2048 1)
    (ho : o = concatenate Cert.DGateLRefIdeal.S4x5632x2048 1 [⟨Cert.DGateLRefIdeal.S4x4096x2048, extractStridedSlice Cert.DGateLRefIdeal.S4x4096x2048 ![0, 0, 0] g⟩,
      ⟨Cert.DGateLRefIdeal.S4x512x2048, shapeCast Cert.DGateLRefIdeal.S4x512x2048 (truncf (F := Ideal) .bf16 (transpose Cert.DGateLRefIdeal.S2048x2048 [1, 0] (Host.dotGeneral Cert.DGateLRefIdeal.dot_S4096x2048_S4096x2048_S2048x2048_0_0_1_1_n_n none (extf .f32 d) (extf .f32 a))))⟩,
      ⟨Cert.DGateLRefIdeal.S4x1024x2048, extractStridedSlice Cert.DGateLRefIdeal.S4x1024x2048 ![0, 4608, 0] g⟩] hc) :
    o = fun y => entry a d g (y 0) (y 1) (y 2) := by
  subst ho
  funext y
  idx_vars y
  unfold entry term
  clean_types
  pointwise
  by_cases h : y1.val < 4096
  · rw [dif_pos h, dif_neg (by omega)]
  rw [dif_neg h]
  by_cases h' : y1.val - 4096 < 512
  · rw [dif_pos h', dif_pos (by omega)]
    refine Finset.sum_congr rfl fun k _ => (mul_comm _ _).trans ?_
    exact congrArg (fun z : Fin 2048 => a (ix2 k z) * d (ix2 k y2)) (Fin.ext (by dsimp only; omega))
  · rw [dif_neg h', dif_neg (by omega)]
    exact congrArg (fun z : Fin 5632 => g (ix3 y0 z y2)) (Fin.ext (by dsimp only; omega))

end Cert.DGateLIdeal.Val

end
-- ==== Proof.GateVal.lean ====
module

public import proofs.«01_k».proof.Proof.Gen.GateIdeal.Value
public import proofs.«01_k».proof.Proof.Gen.GateRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GateIdeal.Val

open Cert.GateIdeal Cert.GateIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x512 .bf16) (h3 : a3.IsWhole) (a4 : Memref sig .tc .vmem S1x512x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .f32) (h9 : a9.IsWhole)
  (x : Vec F S1024x512 .bf16) (w : Vec F S1x512x1024 .bf16) (g u s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 a8 h8 a9 h9 hA hB hC x w g u = k0_pay1 x w := by
  unfold sout0_A_0
  rw [View.read_writes_eq_canon _ _ _ (scover0_A_0 c i a3 h3 a4 h4 a5 h5 a6 h6 a7 h7 a8 h8 a9 h9 hA hB hC x w g u)]
  unfold kernelRun0_A
  dsimp only
  rw [View.canon_unit_zero z2]
  unfold k0_pay2
  simp only [View.readAt_eq_ld, h3.read_unread, h4.read_unread, View.ld_unit_zero (S := S1024x512) z2, View.ld_unit_zero (S := S1x512x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 a8 h8 a9 h9 hA hB hC x w g u s = addf s (k0_pay1 x w) := by
  unfold sout0_B_0
  rw [View.read_writes_eq_canon _ _ _ (scover0_B_0 c i a3 h3 a4 h4 a5 h5 a6 h6 a7 h7 a8 h8 a9 h9 hA hB hC x w g u s)]
  unfold kernelRun0_B
  dsimp only
  rw [View.canon_unit_zero z2]
  unfold k0_pay3
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

/-- The last point leaves the gated entries in the first result. -/
theorem last_first (hA : ¬cond0_0 i) (hB : ¬cond0_1 i) (hC : cond0_2 i) : out0_C_4 c i a3 h3 a4 h4 a5 h5 a6 h6 a7 h7 a8 h8 a9 h9 hA hB hC x w g u s = k0_pay5 x w s g u := by
  unfold out0_C_4
  rw [View.read_writes_eq_canon _ _ _ (cover0_C_4 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

/-- The last point leaves the gate before its sigmoid in the second result. -/
theorem last_second (hA : ¬cond0_0 i) (hB : ¬cond0_1 i) (hC : cond0_2 i) : out0_C_5 c i a3 h3 a4 h4 a5 h5 a6 h6 a7 h7 a8 h8 a9 h9 hA hB hC x w g u s = k0_pay4 x w s := by
  unfold out0_C_5
  rw [View.read_writes_eq_canon _ _ _ (cover0_C_5 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 8, t.val / 4 % 2] ∧ win0_2.index t = ![t.val / 8, t.val / 4 % 2] ∧ win0_3.index t = ![t.val / 8, t.val / 4 % 2] ∧ win0_4.index t = ![t.val / 8, t.val / 4 % 2] ∧ win0_5.index t = ![t.val / 8, t.val / 4 % 2] :=
  (by decide +kernel : ∀ t : Fin grid0.N, _)

/-- One entry of a point's product. -/
theorem pay_at (x : FVec Ideal S1024x512 .bf16) (w : FVec Ideal S1x512x1024 .bf16) (p q : Fin 1024) :
    k0_pay1 (F := Ideal) x w (ix2 p q) = ∑ k : Fin 512, x (ix2 p k) * w (ix3 0 k q) := by
  unfold k0_pay1
  pointwise

/-- One entry of the gate before its sigmoid: the sum and a point's product. -/
theorem pre_at (x : FVec Ideal S1024x512 .bf16) (w : FVec Ideal S1x512x1024 .bf16) (s : FVec Ideal S1024x1024 .f32) (p q : Fin 1024) :
    k0_pay4 (F := Ideal) x w s (ix2 p q) = s (ix2 p q) + k0_pay1 (F := Ideal) x w (ix2 p q) := by
  unfold k0_pay4
  pointwise

/-- One gated entry: the residual and the other factor times the gate's sigmoid. -/
theorem gate_at (x : FVec Ideal S1024x512 .bf16) (w : FVec Ideal S1x512x1024 .bf16) (s g u : FVec Ideal S1024x1024 .f32) (p q : Fin 1024) :
    k0_pay5 (F := Ideal) x w s g u (ix2 p q) = (g (ix2 p q) : EReal) + Ideal.logistic (k0_pay4 (F := Ideal) x w s (ix2 p q)) * u (ix2 p q) := by
  unfold k0_pay5
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2.2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2.2 = addf (outsAt0 m c (t.val - 1) (Nat.lt_of_le_of_lt (Nat.sub_le _ _) t.isLt)).2.2 (part m c t) := by
  rw [outsAt0_B m c t (by omega) h (by omega)]
  dsimp only; rw [next_sum]; rfl

/-- The two results' blocks after the last point of a row. -/
theorem run_last (c : Dev nD) (t : Fin cfg0.N) (h : t.val % 4 = 3) :
    (outsAt0 m c t.val t.isLt).1 = k0_pay5 (F := Ideal) (iblk m c 0 t) (iblk m c 1 t) (outsAt0 m c (t.val - 1) (Nat.lt_of_le_of_lt (Nat.sub_le _ _) t.isLt)).2.2 (iblk m c 2 t) (iblk m c 3 t)
      ∧ (outsAt0 m c t.val t.isLt).2.1 = k0_pay4 (F := Ideal) (iblk m c 0 t) (iblk m c 1 t) (outsAt0 m c (t.val - 1) (Nat.lt_of_le_of_lt (Nat.sub_le _ _) t.isLt)).2.2 := by
  rw [outsAt0_C m c t (by omega) (by omega) h]
  dsimp only; exact ⟨last_first .., last_second ..⟩

/-- One term of the product at row `r` and column `s`: the activation's entry times the weight's. -/
def term (a : FVec Ideal S4096x2048 .bf16) (w : FVec Ideal S4x5120x2048 .bf16) (r : Fin 4096) (s : Fin 2048) (k : Fin 2048) : EReal :=
  a (ix2 r k) * w (ix3 (⟨k.val / 512, by omega⟩ : Fin 4) (⟨4096 + k.val % 512, by omega⟩ : Fin 5120) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 512, term (m ((c : Thread nD τ).loc main_arg0)) (m ((c : Thread nD τ).loc main_arg1)) r s ⟨512 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The gate before its sigmoid at row `r` and column `s`. -/
def pre (a : FVec Ideal S4096x2048 .bf16) (w : FVec Ideal S4x5120x2048 .bf16)  (r : Fin 4096) (s : Fin 2048) : EReal :=
  ∑ k : Fin 2048, term a w r s k

/-- The gated entry at row `r` and column `s`. -/
def entry (a : FVec Ideal S4096x2048 .bf16) (w : FVec Ideal S4x5120x2048 .bf16) (g u : FVec Ideal S4096x2048 .f32) (r : Fin 4096) (s : Fin 2048) : EReal :=
  (g (ix2 r s) : EReal) + Ideal.logistic (pre a w r s) * u (ix2 r s)

/-- The second result's block after the last point of a row, as sums over the whole inner axis. -/
theorem pre_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).2.1 (ix2 p q) = pre (m ((c : Thread nD τ).loc main_arg0)) (m ((c : Thread nD τ).loc main_arg1)) r s := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [(run_last m c t h).2, pre_at, e2, e1, e0]
  unfold pre
  show part m c _ (ix2 p q) + part m c _ (ix2 p q) + part m c _ (ix2 p q) + part m c _ (ix2 p q) = _
  rw [part_at m c _ p q 0 (by dsimp only; omega) r (by dsimp only; omega) s (by dsimp only; omega), part_at m c _ p q 1 (by dsimp only; omega) r (by dsimp only; omega) s (by dsimp only; omega),
    part_at m c _ p q 2 (by dsimp only; omega) r (by dsimp only; omega) s (by dsimp only; omega), part_at m c t p q 3 h r hr s hs,
    Cert.Mm.sum_blocks (n := 4) (b := 512) rfl, Fin.sum_univ_four]

/-- The first result's block after the last point of a row. -/
theorem gate_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = entry (m ((c : Thread nD τ).loc main_arg0)) (m ((c : Thread nD τ).loc main_arg1)) (m ((c : Thread nD τ).loc main_arg2)) (m ((c : Thread nD τ).loc main_arg3)) r s := by
  have ht : t.val < 32 := t.isLt
  have e := pre_last m c t h p q r hr s hs
  rw [(run_last m c t h).2] at e
  rw [(run_last m c t h).1, gate_at]
  unfold entry
  refine congrArg₂ (· + ·) ?_ (congrArg₂ (· * ·) ?_ ?_)
  · blk_point [iblk, V, idx t, hr, hs]
  · exact congrArg Ideal.logistic e
  · blk_point [iblk, V, idx t, hr, hs]

/-- After the last grid point the first result holds the gated entries. -/
theorem final (c : Dev nD) : (dats m 0 c).arrAt 4 cfg0.N
    = fun y => entry (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 4 _ (by decide +kernel) fun t hf y => ?_
  blk_simp
  rw [after0_4]
  idx_vars y
  have ht : t.val < 32 := t.isLt
  have e : ((View.whole main_v0_0).slice (win0_4.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact gate_last m c t ((flush0_4 t).mp hf) y0 y1 _ rfl _ rfl

/-- After the last grid point the second result holds the gate before its sigmoid. -/
theorem final2 (c : Dev nD) : (dats m 0 c).arrAt 5 cfg0.N
    = fun y => pre (m ((c : Thread nD τ).loc main_arg0)) (m ((c : Thread nD τ).loc main_arg1)) (y 0) (y 1) := by
  refine (dats m 0 c).arrAt_eq_of_covers 5 _ (by decide +kernel) fun t hf y => ?_
  blk_simp
  rw [after0_5]
  idx_vars y
  have ht : t.val < 32 := t.isLt
  have e : ((View.whole main_v0_1).slice (win0_5.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact pre_last m c t ((flush0_5 t).mp hf) y0 y1 _ rfl _ rfl

/-- The reference's second result read at an index. -/
theorem reference2 (a : FVec Ideal S4096x2048 .bf16) (w : FVec Ideal S4x5120x2048 .bf16)  (o : FVec Ideal Cert.GateRefIdeal.S4096x2048 .f32)

    (ho : o = Host.dotGeneral Cert.GateRefIdeal.dot_S4096x2048_S2048x2048_S4096x2048_1_0_0_1_n_n none (extf .f32 a) (extf .f32 (shapeCast Cert.GateRefIdeal.S2048x2048 (extractStridedSlice Cert.GateRefIdeal.S4x512x2048 ![0, 4096, 0] w)))) :
    o = fun y => pre a w (y 0) (y 1) := by
  subst ho
  funext y
  idx_vars y
  unfold pre term
  clean_types
  pointwise

/-- The reference's first result read at an index. -/
theorem reference (a : FVec Ideal S4096x2048 .bf16) (w : FVec Ideal S4x5120x2048 .bf16) (g u : FVec Ideal S4096x2048 .f32) (o : FVec Ideal Cert.GateRefIdeal.S4096x2048 .f32)
    (hz : Cert.GateRefIdeal.S_.BroadcastsInDim Cert.GateRefIdeal.S4096x2048 (![] : Fin 0 → Fin 2))
    (ho : o = addf g (mulf (Host.divf (broadcastInDim Cert.GateRefIdeal.S4096x2048 ![] hz (constant Cert.GateRefIdeal.S_ .f32 0x3F800000#32)) (addf (broadcastInDim Cert.GateRefIdeal.S4096x2048 ![] hz (constant Cert.GateRefIdeal.S_ .f32 0x3F800000#32)) (Host.exp (Host.negf (Host.dotGeneral Cert.GateRefIdeal.dot_S4096x2048_S2048x2048_S4096x2048_1_0_0_1_n_n none (extf .f32 a) (extf .f32 (shapeCast Cert.GateRefIdeal.S2048x2048 (extractStridedSlice Cert.GateRefIdeal.S4x512x2048 ![0, 4096, 0] w)))))))) u)) :
    o = fun y => entry a w g u (y 0) (y 1) := by
  subst ho
  rw [reference2 a w _ rfl]
  funext y
  idx_vars y
  unfold entry
  clean_types
  pointwise
  rfl

end Cert.GateIdeal.Val

end
-- ==== Proof.GateLVal.lean ====
module

public import proofs.«01_k».proof.Proof.Gen.GateLIdeal.Value
public import proofs.«01_k».proof.Proof.Gen.GateLRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GateLIdeal.Val

open Cert.GateLIdeal Cert.GateLIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x512 .bf16) (h3 : a3.IsWhole) (a4 : Memref sig .tc .vmem S1x512x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .f32) (h9 : a9.IsWhole)
  (x : Vec F S1024x512 .bf16) (w : Vec F S1x512x1024 .bf16) (g u s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 a8 h8 a9 h9 hA hB hC x w g u = k0_pay1 x w := by
  unfold sout0_A_0
  rw [View.read_writes_eq_canon _ _ _ (scover0_A_0 c i a3 h3 a4 h4 a5 h5 a6 h6 a7 h7 a8 h8 a9 h9 hA hB hC x w g u)]
  unfold kernelRun0_A
  dsimp only
  rw [View.canon_unit_zero z2]
  unfold k0_pay2
  simp only [View.readAt_eq_ld, h3.read_unread, h4.read_unread, View.ld_unit_zero (S := S1024x512) z2, View.ld_unit_zero (S := S1x512x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 a8 h8 a9 h9 hA hB hC x w g u s = addf s (k0_pay1 x w) := by
  unfold sout0_B_0
  rw [View.read_writes_eq_canon _ _ _ (scover0_B_0 c i a3 h3 a4 h4 a5 h5 a6 h6 a7 h7 a8 h8 a9 h9 hA hB hC x w g u s)]
  unfold kernelRun0_B
  dsimp only
  rw [View.canon_unit_zero z2]
  unfold k0_pay3
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

/-- The last point leaves the gated entries in the first result. -/
theorem last_first (hA : ¬cond0_0 i) (hB : ¬cond0_1 i) (hC : cond0_2 i) : out0_C_4 c i a3 h3 a4 h4 a5 h5 a6 h6 a7 h7 a8 h8 a9 h9 hA hB hC x w g u s = k0_pay5 x w s g u := by
  unfold out0_C_4
  rw [View.read_writes_eq_canon _ _ _ (cover0_C_4 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

/-- The last point leaves the gate before its sigmoid in the second result. -/
theorem last_second (hA : ¬cond0_0 i) (hB : ¬cond0_1 i) (hC : cond0_2 i) : out0_C_5 c i a3 h3 a4 h4 a5 h5 a6 h6 a7 h7 a8 h8 a9 h9 hA hB hC x w g u s = k0_pay4 x w s := by
  unfold out0_C_5
  rw [View.read_writes_eq_canon _ _ _ (cover0_C_5 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1024x512) z2, View.ld_unit_zero (S := S1024x1024) z2, View.ld_unit_zero (S := S1x512x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 8, t.val / 4 % 2] ∧ win0_2.index t = ![t.val / 8, t.val / 4 % 2] ∧ win0_3.index t = ![t.val / 8, t.val / 4 % 2] ∧ win0_4.index t = ![t.val / 8, t.val / 4 % 2] ∧ win0_5.index t = ![t.val / 8, t.val / 4 % 2] :=
  (by decide +kernel : ∀ t : Fin grid0.N, _)

/-- One entry of a point's product. -/
theorem pay_at (x : FVec Ideal S1024x512 .bf16) (w : FVec Ideal S1x512x1024 .bf16) (p q : Fin 1024) :
    k0_pay1 (F := Ideal) x w (ix2 p q) = ∑ k : Fin 512, x (ix2 p k) * w (ix3 0 k q) := by
  unfold k0_pay1
  pointwise

/-- One entry of the gate before its sigmoid: the sum and a point's product. -/
theorem pre_at (x : FVec Ideal S1024x512 .bf16) (w : FVec Ideal S1x512x1024 .bf16) (s : FVec Ideal S1024x1024 .f32) (p q : Fin 1024) :
    k0_pay4 (F := Ideal) x w s (ix2 p q) = s (ix2 p q) + k0_pay1 (F := Ideal) x w (ix2 p q) := by
  unfold k0_pay4
  pointwise

/-- One gated entry: the residual and the other factor times the gate's sigmoid. -/
theorem gate_at (x : FVec Ideal S1024x512 .bf16) (w : FVec Ideal S1x512x1024 .bf16) (s g u : FVec Ideal S1024x1024 .f32) (p q : Fin 1024) :
    k0_pay5 (F := Ideal) x w s g u (ix2 p q) = (g (ix2 p q) : EReal) + Ideal.logistic (k0_pay4 (F := Ideal) x w s (ix2 p q)) * u (ix2 p q) := by
  unfold k0_pay5
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2.2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2.2 = addf (outsAt0 m c (t.val - 1) (Nat.lt_of_le_of_lt (Nat.sub_le _ _) t.isLt)).2.2 (part m c t) := by
  rw [outsAt0_B m c t (by omega) h (by omega)]
  dsimp only; rw [next_sum]; rfl

/-- The two results' blocks after the last point of a row. -/
theorem run_last (c : Dev nD) (t : Fin cfg0.N) (h : t.val % 4 = 3) :
    (outsAt0 m c t.val t.isLt).1 = k0_pay5 (F := Ideal) (iblk m c 0 t) (iblk m c 1 t) (outsAt0 m c (t.val - 1) (Nat.lt_of_le_of_lt (Nat.sub_le _ _) t.isLt)).2.2 (iblk m c 2 t) (iblk m c 3 t)
      ∧ (outsAt0 m c t.val t.isLt).2.1 = k0_pay4 (F := Ideal) (iblk m c 0 t) (iblk m c 1 t) (outsAt0 m c (t.val - 1) (Nat.lt_of_le_of_lt (Nat.sub_le _ _) t.isLt)).2.2 := by
  rw [outsAt0_C m c t (by omega) (by omega) h]
  dsimp only; exact ⟨last_first .., last_second ..⟩

/-- One term of the product at row `r` and column `s`: the activation's entry times the weight's. -/
def term (a : FVec Ideal S4096x2048 .bf16) (w : FVec Ideal S4x5632x2048 .bf16) (r : Fin 4096) (s : Fin 2048) (k : Fin 2048) : EReal :=
  a (ix2 r k) * w (ix3 (⟨k.val / 512, by omega⟩ : Fin 4) (⟨4096 + k.val % 512, by omega⟩ : Fin 5632) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 512, term (m ((c : Thread nD τ).loc main_arg0)) (m ((c : Thread nD τ).loc main_arg1)) r s ⟨512 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The gate before its sigmoid at row `r` and column `s`. -/
def pre (a : FVec Ideal S4096x2048 .bf16) (w : FVec Ideal S4x5632x2048 .bf16)  (r : Fin 4096) (s : Fin 2048) : EReal :=
  ∑ k : Fin 2048, term a w r s k

/-- The gated entry at row `r` and column `s`. -/
def entry (a : FVec Ideal S4096x2048 .bf16) (w : FVec Ideal S4x5632x2048 .bf16) (g u : FVec Ideal S4096x2048 .f32) (r : Fin 4096) (s : Fin 2048) : EReal :=
  (g (ix2 r s) : EReal) + Ideal.logistic (pre a w r s) * u (ix2 r s)

/-- The second result's block after the last point of a row, as sums over the whole inner axis. -/
theorem pre_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).2.1 (ix2 p q) = pre (m ((c : Thread nD τ).loc main_arg0)) (m ((c : Thread nD τ).loc main_arg1)) r s := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [(run_last m c t h).2, pre_at, e2, e1, e0]
  unfold pre
  show part m c _ (ix2 p q) + part m c _ (ix2 p q) + part m c _ (ix2 p q) + part m c _ (ix2 p q) = _
  rw [part_at m c _ p q 0 (by dsimp only; omega) r (by dsimp only; omega) s (by dsimp only; omega), part_at m c _ p q 1 (by dsimp only; omega) r (by dsimp only; omega) s (by dsimp only; omega),
    part_at m c _ p q 2 (by dsimp only; omega) r (by dsimp only; omega) s (by dsimp only; omega), part_at m c t p q 3 h r hr s hs,
    Cert.Mm.sum_blocks (n := 4) (b := 512) rfl, Fin.sum_univ_four]

/-- The first result's block after the last point of a row. -/
theorem gate_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = entry (m ((c : Thread nD τ).loc main_arg0)) (m ((c : Thread nD τ).loc main_arg1)) (m ((c : Thread nD τ).loc main_arg2)) (m ((c : Thread nD τ).loc main_arg3)) r s := by
  have ht : t.val < 32 := t.isLt
  have e := pre_last m c t h p q r hr s hs
  rw [(run_last m c t h).2] at e
  rw [(run_last m c t h).1, gate_at]
  unfold entry
  refine congrArg₂ (· + ·) ?_ (congrArg₂ (· * ·) ?_ ?_)
  · blk_point [iblk, V, idx t, hr, hs]
  · exact congrArg Ideal.logistic e
  · blk_point [iblk, V, idx t, hr, hs]

/-- After the last grid point the first result holds the gated entries. -/
theorem final (c : Dev nD) : (dats m 0 c).arrAt 4 cfg0.N
    = fun y => entry (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 4 _ (by decide +kernel) fun t hf y => ?_
  blk_simp
  rw [after0_4]
  idx_vars y
  have ht : t.val < 32 := t.isLt
  have e : ((View.whole main_v0_0).slice (win0_4.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact gate_last m c t ((flush0_4 t).mp hf) y0 y1 _ rfl _ rfl

/-- After the last grid point the second result holds the gate before its sigmoid. -/
theorem final2 (c : Dev nD) : (dats m 0 c).arrAt 5 cfg0.N
    = fun y => pre (m ((c : Thread nD τ).loc main_arg0)) (m ((c : Thread nD τ).loc main_arg1)) (y 0) (y 1) := by
  refine (dats m 0 c).arrAt_eq_of_covers 5 _ (by decide +kernel) fun t hf y => ?_
  blk_simp
  rw [after0_5]
  idx_vars y
  have ht : t.val < 32 := t.isLt
  have e : ((View.whole main_v0_1).slice (win0_5.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact pre_last m c t ((flush0_5 t).mp hf) y0 y1 _ rfl _ rfl

/-- The reference's second result read at an index. -/
theorem reference2 (a : FVec Ideal S4096x2048 .bf16) (w : FVec Ideal S4x5632x2048 .bf16)  (o : FVec Ideal Cert.GateLRefIdeal.S4096x2048 .f32)

    (ho : o = Host.dotGeneral Cert.GateLRefIdeal.dot_S4096x2048_S2048x2048_S4096x2048_1_0_0_1_n_n none (extf .f32 a) (extf .f32 (shapeCast Cert.GateLRefIdeal.S2048x2048 (extractStridedSlice Cert.GateLRefIdeal.S4x512x2048 ![0, 4096, 0] w)))) :
    o = fun y => pre a w (y 0) (y 1) := by
  subst ho
  funext y
  idx_vars y
  unfold pre term
  clean_types
  pointwise

/-- The reference's first result read at an index. -/
theorem reference (a : FVec Ideal S4096x2048 .bf16) (w : FVec Ideal S4x5632x2048 .bf16) (g u : FVec Ideal S4096x2048 .f32) (o : FVec Ideal Cert.GateLRefIdeal.S4096x2048 .f32)
    (hz : Cert.GateLRefIdeal.S_.BroadcastsInDim Cert.GateLRefIdeal.S4096x2048 (![] : Fin 0 → Fin 2))
    (ho : o = addf g (mulf (Host.divf (broadcastInDim Cert.GateLRefIdeal.S4096x2048 ![] hz (constant Cert.GateLRefIdeal.S_ .f32 0x3F800000#32)) (addf (broadcastInDim Cert.GateLRefIdeal.S4096x2048 ![] hz (constant Cert.GateLRefIdeal.S_ .f32 0x3F800000#32)) (Host.exp (Host.negf (Host.dotGeneral Cert.GateLRefIdeal.dot_S4096x2048_S2048x2048_S4096x2048_1_0_0_1_n_n none (extf .f32 a) (extf .f32 (shapeCast Cert.GateLRefIdeal.S2048x2048 (extractStridedSlice Cert.GateLRefIdeal.S4x512x2048 ![0, 4096, 0] w)))))))) u)) :
    o = fun y => entry a w g u (y 0) (y 1) := by
  subst ho
  rw [reference2 a w _ rfl]
  funext y
  idx_vars y
  unfold entry
  clean_types
  pointwise
  rfl

end Cert.GateLIdeal.Val

end
-- ==== Proof.GluVal.lean ====
module

public import proofs.«01_k».proof.Proof.Gen.GluIdeal.Value
public import proofs.«01_k».proof.Proof.Gen.GluRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GluIdeal.Val

open Cert.GluIdeal Cert.GluIdeal.Gen Idealize.ShloMosaic Idealize.ShloMosaic.TcCoe Idealize.SL.Sem
open Idealize.ShloMosaic.Pipeline (Dat)
open Cert.Mm (z2 z3)

section Cases

variable {F : FTy → Type} [FloatOps F]
variable (c : Dev nD) (i : grid0.Coords) (a3 : Memref sig .tc .vmem S1024x512 .bf16) (h3 : a3.IsWhole) (a4 : Memref sig .tc .vmem S1x512x1024 .bf16) (h4 : a4.IsWhole)
  (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole)
  (a8 : Memref sig .tc .vmem S1024x1024 .f32) (h8 : a8.IsWhole) (a9 : Memref sig .tc .vmem S1024x1024 .f32) (h9 : a9.IsWhole)
  (x : Vec F S1024x512 .bf16) (w : Vec F S1x512x1024 .bf16) (g : Vec F S1024x1024 .bf16) (u : Vec F S1x1024 .f32) (s : Vec F S1024x1024 .f32)

/-- The first point of a row of products leaves its own product in the sum. -/
theorem start_sum (hA : cond0_0 i) (hB : ¬cond0_1 i) (hC : ¬cond0_2 i) : sout0_A_0 c i a3 h3 a4 h4 a5 h5 a6 h6 a7 h7 a8 h8 a9 h9 hA hB hC x w g u = k0_pay1 x w := by
  unfold sout0_A_0
  rw [View.read_writes_eq_canon _ _ _ (scover0_A_0 c i a3 h3 a4 h4 a5 h5 a6 h6 a7 h7 a8 h8 a9 h9 hA hB hC x w g u)]
  unfold kernelRun0_A
  dsimp only
  rw [View.canon_unit_zero z2]
  unfold k0_pay2
  simp only [View.readAt_eq_ld, h3.read_unread, h4.read_unread, View.ld_unit_zero (S := S1024x512) z2, View.ld_unit_zero (S := S1x512x1024) z3, shapeCast_self]

/-- A middle point adds its product to the sum. -/
theorem next_sum (hA : ¬cond0_0 i) (hB : cond0_1 i) (hC : ¬cond0_2 i) : sout0_B_0 c i a3 h3 a4 h4 a5 h5 a6 h6 a7 h7 a8 h8 a9 h9 hA hB hC x w g u s = addf s (k0_pay1 x w) := by
  unfold sout0_B_0
  rw [View.read_writes_eq_canon _ _ _ (scover0_B_0 c i a3 h3 a4 h4 a5 h5 a6 h6 a7 h7 a8 h8 a9 h9 hA hB hC x w g u s)]
  unfold kernelRun0_B
  dsimp only
  rw [View.canon_unit_zero z2]
  unfold k0_pay3
  simp only [View.readAt_eq_ld, h3.read_unread, h4.read_unread, h5.read_unread, h6.read_unread, h9.read_unread, View.ld_unit_zero (S := S1x1024) z2, View.ld_unit_zero (S := S1024x512) z2, View.ld_unit_zero (S := S1024x1024) z2, View.ld_unit_zero (S := S1x512x1024) z3, shapeCast_self]

/-- The last point leaves the gated entries in the first result. -/
theorem last_first (hA : ¬cond0_0 i) (hB : ¬cond0_1 i) (hC : cond0_2 i) : out0_C_4 c i a3 h3 a4 h4 a5 h5 a6 h6 a7 h7 a8 h8 a9 h9 hA hB hC x w g u s = k0_pay6 x w s g u := by
  unfold out0_C_4
  rw [View.read_writes_eq_canon _ _ _ (cover0_C_4 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1x1024) z2, View.ld_unit_zero (S := S1024x512) z2, View.ld_unit_zero (S := S1024x1024) z2, View.ld_unit_zero (S := S1x512x1024) z3, shapeCast_self]

/-- The last point leaves the gate before its sigmoid in the second result. -/
theorem last_second (hA : ¬cond0_0 i) (hB : ¬cond0_1 i) (hC : cond0_2 i) : out0_C_5 c i a3 h3 a4 h4 a5 h5 a6 h6 a7 h7 a8 h8 a9 h9 hA hB hC x w g u s = k0_pay5 x w s u := by
  unfold out0_C_5
  rw [View.read_writes_eq_canon _ _ _ (cover0_C_5 c i a3 h3 a4 h4 a5 h5 a6 h6 a7 h7 a8 h8 a9 h9 hA hB hC x w g u s)]
  unfold kernelRun0_C
  dsimp only
  rw [View.canon_unit_zero z2]
  simp only [View.readAt_eq_ld, h3.read_unread, h4.read_unread, h5.read_unread, h6.read_unread, h9.read_unread, View.ld_unit_zero (S := S1x1024) z2, View.ld_unit_zero (S := S1024x512) z2, View.ld_unit_zero (S := S1024x1024) z2, View.ld_unit_zero (S := S1x512x1024) z3, shapeCast_self]

end Cases

variable (m : (ℓ : Loc nD τ sig) → Buf (Elt Ideal) ℓ)

/-- The block index of every window at every grid point. -/
theorem idx : ∀ t : Fin cfg0.N, win0_0.index t = ![t.val / 8, t.val % 4] ∧ win0_1.index t = ![t.val % 4, 9, t.val / 4 % 2] ∧ win0_2.index t = ![t.val / 8, t.val / 4 % 2] ∧ win0_3.index t = ![0, t.val / 4 % 2] ∧ win0_4.index t = ![t.val / 8, t.val / 4 % 2] ∧ win0_5.index t = ![t.val / 8, t.val / 4 % 2] :=
  (by decide +kernel : ∀ t : Fin grid0.N, _)

/-- One entry of a point's product. -/
theorem pay_at (x : FVec Ideal S1024x512 .bf16) (w : FVec Ideal S1x512x1024 .bf16) (p q : Fin 1024) :
    k0_pay1 (F := Ideal) x w (ix2 p q) = ∑ k : Fin 512, x (ix2 p k) * w (ix3 0 k q) := by
  unfold k0_pay1
  pointwise

/-- One entry of the gate before its sigmoid: the sum, a point's product and the bias. -/
theorem pre_at (x : FVec Ideal S1024x512 .bf16) (w : FVec Ideal S1x512x1024 .bf16) (s : FVec Ideal S1024x1024 .f32) (u : FVec Ideal S1x1024 .f32) (p q : Fin 1024) :
    k0_pay5 (F := Ideal) x w s u (ix2 p q) = s (ix2 p q) + k0_pay1 (F := Ideal) x w (ix2 p q) + u (ix2 0 q) := by
  unfold k0_pay5 k0_pay4
  pointwise

/-- One gated entry: the activation times the gate's sigmoid. -/
theorem gate_at (x : FVec Ideal S1024x512 .bf16) (w : FVec Ideal S1x512x1024 .bf16) (s : FVec Ideal S1024x1024 .f32) (g : FVec Ideal S1024x1024 .bf16) (u : FVec Ideal S1x1024 .f32) (p q : Fin 1024) :
    k0_pay6 (F := Ideal) x w s g u (ix2 p q) = (g (ix2 p q) : EReal) * Ideal.logistic (k0_pay5 (F := Ideal) x w s u (ix2 p q)) := by
  unfold k0_pay6 k0_pay5
  pointwise

/-- The product of one grid point, from the two blocks it stages. -/
def part (c : Dev nD) (t : Fin cfg0.N) : FVec Ideal S1024x1024 .f32 := k0_pay1 (F := Ideal) (iblk m c 0 t) (iblk m c 1 t)

/-- The running sum after the first point of a row of products. -/
theorem run_start (c : Dev nD) (t : Fin cfg0.N) (h : t.val % 4 = 0) : (outsAt0 m c t.val t.isLt).2.2 = part m c t := by
  rw [outsAt0_A m c t h (by omega) (by omega)]
  dsimp only; rw [start_sum]; rfl

/-- The running sum after a middle point. -/
theorem run_next (c : Dev nD) (t : Fin cfg0.N) (h : 1 ≤ t.val % 4 ∧ t.val % 4 ≤ 2) :
    (outsAt0 m c t.val t.isLt).2.2 = addf (outsAt0 m c (t.val - 1) (Nat.lt_of_le_of_lt (Nat.sub_le _ _) t.isLt)).2.2 (part m c t) := by
  rw [outsAt0_B m c t (by omega) h (by omega)]
  dsimp only; rw [next_sum]; rfl

/-- The two results' blocks after the last point of a row. -/
theorem run_last (c : Dev nD) (t : Fin cfg0.N) (h : t.val % 4 = 3) :
    (outsAt0 m c t.val t.isLt).1 = k0_pay6 (F := Ideal) (iblk m c 0 t) (iblk m c 1 t) (outsAt0 m c (t.val - 1) (Nat.lt_of_le_of_lt (Nat.sub_le _ _) t.isLt)).2.2 (iblk m c 2 t) (iblk m c 3 t)
      ∧ (outsAt0 m c t.val t.isLt).2.1 = k0_pay5 (F := Ideal) (iblk m c 0 t) (iblk m c 1 t) (outsAt0 m c (t.val - 1) (Nat.lt_of_le_of_lt (Nat.sub_le _ _) t.isLt)).2.2 (iblk m c 3 t) := by
  rw [outsAt0_C m c t (by omega) (by omega) h]
  dsimp only; exact ⟨last_first .., last_second ..⟩

/-- One term of the product at row `r` and column `s`: the activation's entry times the weight's. -/
def term (a : FVec Ideal S4096x2048 .bf16) (w : FVec Ideal S4x5632x2048 .bf16) (r : Fin 4096) (s : Fin 2048) (k : Fin 2048) : EReal :=
  a (ix2 r k) * w (ix3 (⟨k.val / 512, by omega⟩ : Fin 4) (⟨4608 + k.val % 512, by omega⟩ : Fin 5632) s)

/-- The product of one grid point as terms of the result. -/
theorem part_at (c : Dev nD) (t : Fin cfg0.N) (p q : Fin 1024) (j : Fin 4) (hj : t.val % 4 = j.val) (r : Fin 4096) (hr : r.val = 1024 * (t.val / 8) + p.val) (s : Fin 2048) (hs : s.val = 1024 * (t.val / 4 % 2) + q.val) :
    part m c t (ix2 p q) = ∑ k : Fin 512, term (m ((c : Thread nD τ).loc main_arg0)) (m ((c : Thread nD τ).loc main_arg1)) r s ⟨512 * j.val + k.val, by omega⟩ := by
  have ht : t.val < 32 := t.isLt
  unfold part
  rw [pay_at]
  refine Finset.sum_congr rfl fun k _ => congrArg₂ (· * ·) ?_ ?_
  · blk_point [iblk, V, idx t, hr, hj]
  · blk_point [iblk, V, idx t, hs, hj]

/-- The gate before its sigmoid at row `r` and column `s`. -/
def pre (a : FVec Ideal S4096x2048 .bf16) (w : FVec Ideal S4x5632x2048 .bf16) (u : FVec Ideal S1x2048 .f32) (r : Fin 4096) (s : Fin 2048) : EReal :=
  (∑ k : Fin 2048, term a w r s k) + u (ix2 0 s)

/-- The gated entry at row `r` and column `s`. -/
def entry (a : FVec Ideal S4096x2048 .bf16) (w : FVec Ideal S4x5632x2048 .bf16) (g : FVec Ideal S4096x2048 .bf16) (u : FVec Ideal S1x2048 .f32) (r : Fin 4096) (s : Fin 2048) : EReal :=
  (g (ix2 r s) : EReal) * Ideal.logistic (pre a w u r s)

/-- The second result's block after the last point of a row, as sums over the whole inner axis. -/
theorem pre_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).2.1 (ix2 p q) = pre (m ((c : Thread nD τ).loc main_arg0)) (m ((c : Thread nD τ).loc main_arg1)) (m ((c : Thread nD τ).loc main_arg2)) r s := by
  have ht : t.val < 32 := t.isLt
  have e2 := run_next m c ⟨t.val - 1, by omega⟩ (by dsimp only; omega)
  have e1 := run_next m c ⟨t.val - 1 - 1, by omega⟩ (by dsimp only; omega)
  have e0 := run_start m c ⟨t.val - 1 - 1 - 1, by omega⟩ (by dsimp only; omega)
  dsimp only at e2 e1 e0
  rw [(run_last m c t h).2, pre_at, e2, e1, e0]
  unfold pre
  refine congrArg₂ (· + ·) ?_ ?_
  · show part m c _ (ix2 p q) + part m c _ (ix2 p q) + part m c _ (ix2 p q) + part m c _ (ix2 p q) = _
    rw [part_at m c _ p q 0 (by dsimp only; omega) r (by dsimp only; omega) s (by dsimp only; omega), part_at m c _ p q 1 (by dsimp only; omega) r (by dsimp only; omega) s (by dsimp only; omega),
      part_at m c _ p q 2 (by dsimp only; omega) r (by dsimp only; omega) s (by dsimp only; omega), part_at m c t p q 3 h r hr s hs,
      Cert.Mm.sum_blocks (n := 4) (b := 512) rfl, Fin.sum_univ_four]
  · blk_point [iblk, V, idx t, hs]

/-- The first result's block after the last point of a row. -/
theorem gate_last (c : Dev nD) (t : Fin cfg0.N) (h : t.val % 4 = 3) (p q : Fin 1024) (r : Fin 4096) (hr : r.val = 1024 * (t.val / 8) + p.val) (s : Fin 2048) (hs : s.val = 1024 * (t.val / 4 % 2) + q.val) :
    (outsAt0 m c t.val t.isLt).1 (ix2 p q) = entry (m ((c : Thread nD τ).loc main_arg0)) (m ((c : Thread nD τ).loc main_arg1)) (m ((c : Thread nD τ).loc main_arg0)) (m ((c : Thread nD τ).loc main_arg2)) r s := by
  have ht : t.val < 32 := t.isLt
  have e := pre_last m c t h p q r hr s hs
  rw [(run_last m c t h).2] at e
  rw [(run_last m c t h).1, gate_at]
  unfold entry
  refine congrArg₂ (· * ·) ?_ ?_
  · blk_point [iblk, V, idx t, hr, hs]
  · exact congrArg Ideal.logistic e

/-- After the last grid point the first result holds the gated entries. -/
theorem final (c : Dev nD) : (dats m 0 c).arrAt 4 cfg0.N
    = fun y => entry (m ((c : Thread nD τ).loc main_arg0)) (m ((c : Thread nD τ).loc main_arg1)) (m ((c : Thread nD τ).loc main_arg0)) (m ((c : Thread nD τ).loc main_arg2)) (y 0) (y 1) := by
  refine (dats m 0 c).arrAt_eq_of_covers 4 _ (by decide +kernel) fun t hf y => ?_
  blk_simp
  rw [after0_4]
  idx_vars y
  have ht : t.val < 32 := t.isLt
  have e : ((View.whole main_v0_0).slice (win0_4.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact gate_last m c t ((flush0_4 t).mp hf) y0 y1 _ rfl _ rfl

/-- After the last grid point the second result holds the gate before its sigmoid. -/
theorem final2 (c : Dev nD) : (dats m 0 c).arrAt 5 cfg0.N
    = fun y => pre (m ((c : Thread nD τ).loc main_arg0)) (m ((c : Thread nD τ).loc main_arg1)) (m ((c : Thread nD τ).loc main_arg2)) (y 0) (y 1) := by
  refine (dats m 0 c).arrAt_eq_of_covers 5 _ (by decide +kernel) fun t hf y => ?_
  blk_simp
  rw [after0_5]
  idx_vars y
  have ht : t.val < 32 := t.isLt
  have e : ((View.whole main_v0_1).slice (win0_5.rect t)).emb (ix2 y0 y1) = ix2 (⟨1024 * (t.val / 8) + y0.val, by omega⟩ : Fin 4096) (⟨1024 * (t.val / 4 % 2) + y1.val, by omega⟩ : Fin 2048) := by
    blk_ext [idx t]
  rw [e]
  exact pre_last m c t ((flush0_5 t).mp hf) y0 y1 _ rfl _ rfl

/-- The reference's second result read at an index. -/
theorem reference2 (a : FVec Ideal S4096x2048 .bf16) (w : FVec Ideal S4x5632x2048 .bf16) (u : FVec Ideal S1x2048 .f32) (o : FVec Ideal Cert.GluRefIdeal.S4096x2048 .f32)
    (hu : Cert.GluRefIdeal.S1x2048.BroadcastsInDim Cert.GluRefIdeal.S4096x2048 ![0, 1])
    (ho : o = addf (Host.dotGeneral Cert.GluRefIdeal.dot_S4096x2048_S2048x2048_S4096x2048_1_0_0_1_n_n none (extf .f32 a) (extf .f32 (shapeCast Cert.GluRefIdeal.S2048x2048 (extractStridedSlice Cert.GluRefIdeal.S4x512x2048 ![0, 4608, 0] w)))) (broadcastInDim Cert.GluRefIdeal.S4096x2048 ![0, 1] hu u)) :
    o = fun y => pre a w u (y 0) (y 1) := by
  subst ho
  funext y
  idx_vars y
  unfold pre term
  clean_types
  pointwise

/-- The reference's first result read at an index. -/
theorem reference (a : FVec Ideal S4096x2048 .bf16) (w : FVec Ideal S4x5632x2048 .bf16) (g : FVec Ideal S4096x2048 .bf16) (u : FVec Ideal S1x2048 .f32) (o : FVec Ideal Cert.GluRefIdeal.S4096x2048 .bf16)
    (hz : Cert.GluRefIdeal.S_.BroadcastsInDim Cert.GluRefIdeal.S4096x2048 (![] : Fin 0 → Fin 2))
    (hu : Cert.GluRefIdeal.S1x2048.BroadcastsInDim Cert.GluRefIdeal.S4096x2048 ![0, 1])
    (ho : o = truncf .bf16 (mulf (extf .f32 g) (Host.divf (broadcastInDim Cert.GluRefIdeal.S4096x2048 ![] hz (constant Cert.GluRefIdeal.S_ .f32 0x3F800000#32)) (addf (broadcastInDim Cert.GluRefIdeal.S4096x2048 ![] hz (constant Cert.GluRefIdeal.S_ .f32 0x3F800000#32)) (Host.exp (Host.negf (addf (Host.dotGeneral Cert.GluRefIdeal.dot_S4096x2048_S2048x2048_S4096x2048_1_0_0_1_n_n none (extf .f32 a) (extf .f32 (shapeCast Cert.GluRefIdeal.S2048x2048 (extractStridedSlice Cert.GluRefIdeal.S4x512x2048 ![0, 4608, 0] w)))) (broadcastInDim Cert.GluRefIdeal.S4096x2048 ![0, 1] hu u)))))))) :
    o = fun y => entry a w g u (y 0) (y 1) := by
  subst ho
  rw [reference2 a w u _ hu rfl]
  funext y
  idx_vars y
  unfold entry
  clean_types
  pointwise
  rfl

end Cert.GluIdeal.Val

end
-- ==== Proof.GluTVal.lean ====
module

public import proofs.«01_k».proof.Proof.Gen.GluTIdeal.Value
public import proofs.«01_k».proof.Proof.Gen.GluTRefIdeal.Run
public import proofs.«01_k».proof.Proof.MmSum
public import Idealize.ShloMosaic.Lib.Pipeline.ValueKit
public import Idealize.ShloMosaic.Lib.Pointwise
public import Idealize.ShloMosaic.Lib.Tactic.CleanTypes
public import Idealize.ShloMosaic.Lib.Claim

@[expose] public section

set_option maxRecDepth 16384

noncomputable section

namespace Cert.GluTIdeal.Val

open Cert.GluTIdeal Cert.GluTIdeal.Gen Idealize.ShloMosaic Idealize.ShloMosaic.TcCoe Idealize.SL.Sem
open Idealize.ShloMosaic.Pipeline (Dat)
open Cert.Mm (z2 z3)

variable (m : (ℓ : Loc nD τ sig) → Buf (Elt Ideal) ℓ)

/-- The block index of every window at every grid point. -/
theorem idx : ∀ t : Fin cfg0.N, win0_0.index t = ![t.val / 4, 0] ∧ win0_1.index t = ![t.val % 4, 9, 0] ∧ win0_2.index t = ![t.val / 4, t.val % 4] ∧ win0_3.index t = ![t.val / 4, t.val % 4] ∧ win0_4.index t = ![t.val / 4, t.val % 4] :=
  (by decide +kernel : ∀ t : Fin grid0.N, _)

/-- The hyperbolic tangent of the smooth gate's cubic polynomial at `y`. -/
def inner (y : EReal) : EReal :=
  Ideal.tanh (Ideal.ofBits .f32 0x3F4C422A#32 * (y + Ideal.ofBits .f32 0x3D372713#32 * (y * (y * y))))

/-- The part of the cotangent that reaches the polynomial: half of `y` times `z`, times one less the tangent's square, scaled. -/
def side (z y : EReal) : EReal :=
  Ideal.ofBits .f32 0x3F4C422A#32 * (Ideal.ofBits .f32 0x3F000000#32 * (y * z) * ((1 + inner y) * (1 - inner y)))

/-- The smooth gate's cotangent at `y` for the cotangent `z`. -/
def back (z y : EReal) : EReal :=
  z * (Ideal.ofBits .f32 0x3F000000#32 * (1 + inner y)) + side z y + Ideal.ofBits .f32 0x3D372713#32 * side z y * (Ideal.ofBits .f32 0x40400000#32 * (y * y))

/-- One entry of a grid point's block. -/
theorem point (x : FVec Ideal S1024x2048 .bf16) (w : FVec Ideal S1x512x2048 .bf16) (g u : FVec Ideal S1024x512 .f32) (p : Fin 1024) (q : Fin 512) :
    out0_4 (F := Ideal) x w g u (ix2 p q) = back ((∑ k : Fin 2048, x (ix2 p k) * w (ix3 0 q k)) + g (ix2 p q)) (u (ix2 p q)) := by
  unfold out0_4
  frame_out
  unfold k0_pay1 k0_pay2 k0_pay6 k0_pay7 k0_pay5 k0_pay4 k0_pay3 back side inner
  pointwise

/-- The product with the transposed weight and the cotangent that came along, at row `r` and column `s`. -/
def pre (a : FVec Ideal S4096x2048 .bf16) (w : FVec Ideal S4x5632x2048 .bf16) (g : FVec Ideal S4096x2048 .f32) (r : Fin 4096) (s : Fin 2048) : EReal :=
  (∑ k : Fin 2048, a (ix2 r k) * w (ix3 (⟨s.val / 512, by omega⟩ : Fin 4) (⟨4608 + s.val % 512, by omega⟩ : Fin 5632) k)) + g (ix2 r s)

/-- The entry at row `r` and column `s`. -/
def entry (a : FVec Ideal S4096x2048 .bf16) (w : FVec Ideal S4x5632x2048 .bf16) (g u : FVec Ideal S4096x2048 .f32) (r : Fin 4096) (s : Fin 2048) : EReal :=
  back (pre a w g r s) (u (ix2 r s))

/-- After the last grid point the result holds the smooth gate's cotangent. -/
theorem final (c : Dev nD) : (dats m 0 c).arrAt 4 cfg0.N
    = fun y => entry (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 4 _ (by decide +kernel) fun t _ y => ?_
  blk_simp
  rw [after0_4]
  idx_vars y
  have ht : t.val < 16 := t.isLt
  have e : ((View.whole main_v0).slice (win0_4.rect t)).emb (ix2 y0 y1) = ix2 (⟨1024 * (t.val / 4) + y0.val, by omega⟩ : Fin 4096) (⟨512 * (t.val % 4) + y1.val, by omega⟩ : Fin 2048) := by
    blk_ext [idx t]
  rw [point (iblk m c 0 t) (iblk m c 1 t) (iblk m c 2 t) (iblk m c 3 t), e]
  unfold entry pre
  refine congrArg₂ back (congrArg₂ (· + ·) (Finset.sum_congr rfl fun k _ => congrArg₂ (· * ·) ?_ ?_) ?_) ?_
  · blk_point [iblk, V, idx t]
  · blk_point [iblk, V, idx t]
  · blk_point [iblk, V, idx t]
  · blk_point [iblk, V, idx t]

/-- The reference's result read at an index; `z`, `t` and `s` name its shared terms. -/
theorem reference (a : FVec Ideal S4096x2048 .bf16) (w : FVec Ideal S4x5632x2048 .bf16) (g u : FVec Ideal S4096x2048 .f32) (z t s o : FVec Ideal Cert.GluTRefIdeal.S4096x2048 .f32)
    (hk : Cert.GluTRefIdeal.S_.BroadcastsInDim Cert.GluTRefIdeal.S4096x2048 (![] : Fin 0 → Fin 2))
    (hz : z = addf g (Host.dotGeneral Cert.GluTRefIdeal.dot_S4096x2048_S2048x2048_S4096x2048_1_1_0_0_n_n none (extf .f32 a) (extf .f32 (shapeCast Cert.GluTRefIdeal.S2048x2048 (extractStridedSlice Cert.GluTRefIdeal.S4x512x2048 ![0, 4608, 0] w)))))
    (ht : t = Host.tanh (mulf (broadcastInDim Cert.GluTRefIdeal.S4096x2048 ![] hk (constant Cert.GluTRefIdeal.S_ .f32 0x3F4C422A#32)) (addf u (mulf (broadcastInDim Cert.GluTRefIdeal.S4096x2048 ![] hk (constant Cert.GluTRefIdeal.S_ .f32 0x3D372713#32)) (mulf (mulf u u) u)))))
    (hs : s = mulf (broadcastInDim Cert.GluTRefIdeal.S4096x2048 ![] hk (constant Cert.GluTRefIdeal.S_ .f32 0x3F4C422A#32)) (mulf (mulf (broadcastInDim Cert.GluTRefIdeal.S4096x2048 ![] hk (constant Cert.GluTRefIdeal.S_ .f32 0x3F000000#32)) (mulf u z)) (mulf (addf (broadcastInDim Cert.GluTRefIdeal.S4096x2048 ![] hk (constant Cert.GluTRefIdeal.S_ .f32 0x3F800000#32)) t) (subf (broadcastInDim Cert.GluTRefIdeal.S4096x2048 ![] hk (constant Cert.GluTRefIdeal.S_ .f32 0x3F800000#32)) t))))
    (ho : o = addf (addf (mulf z (mulf (broadcastInDim Cert.GluTRefIdeal.S4096x2048 ![] hk (constant Cert.GluTRefIdeal.S_ .f32 0x3F000000#32)) (addf (broadcastInDim Cert.GluTRefIdeal.S4096x2048 ![] hk (constant Cert.GluTRefIdeal.S_ .f32 0x3F800000#32)) t))) s) (mulf (mulf (broadcastInDim Cert.GluTRefIdeal.S4096x2048 ![] hk (constant Cert.GluTRefIdeal.S_ .f32 0x3D372713#32)) s) (mulf (broadcastInDim Cert.GluTRefIdeal.S4096x2048 ![] hk (constant Cert.GluTRefIdeal.S_ .f32 0x40400000#32)) (mulf u u)))) :
    o = fun y => entry a w g u (y 0) (y 1) := by
  have ez : ∀ (i : Fin 4096) (j : Fin 2048), z (ix2 i j) = pre a w g i j := fun i j => by
    rw [hz]
    unfold pre
    clean_types
    pointwise
    exact add_comm _ _
  have et : ∀ (i : Fin 4096) (j : Fin 2048), t (ix2 i j) = inner (u (ix2 i j)) := fun i j => by
    rw [ht]
    unfold inner
    clean_types
    pointwise
    rw [mul_comm (u (ix2 i j) * u (ix2 i j)) (u (ix2 i j))]
  have es : ∀ (i : Fin 4096) (j : Fin 2048), s (ix2 i j) = side (pre a w g i j) (u (ix2 i j)) := fun i j => by
    rw [hs]
    unfold side
    rw [← ez i j, ← et i j]
    clean_types
    pointwise
  rw [ho]
  funext y
  idx_vars y
  unfold entry back
  show _ = pre a w g y0 y1 * (Ideal.ofBits .f32 0x3F000000#32 * (1 + inner (u (ix2 y0 y1)))) + side (pre a w g y0 y1) (u (ix2 y0 y1)) + Ideal.ofBits .f32 0x3D372713#32 * side (pre a w g y0 y1) (u (ix2 y0 y1)) * (Ideal.ofBits .f32 0x40400000#32 * (u (ix2 y0 y1) * u (ix2 y0 y1)))
  rw [← es y0 y1, ← ez y0 y1, ← et y0 y1]
  clean_types
  pointwise

end Cert.GluTIdeal.Val

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.S5
public import proofs.«01_k».proof.Proof.Gen.S5.Skeleton
public import proofs.«01_k».proof.Proof.Gen.S5.Launch
public import proofs.«01_k».proof.Proof.Gen.S5.Points
public import proofs.«01_k».proof.Proof.Gen.S5.Loops
public import proofs.«01_k».proof.Proof.Gen.S5.Frame
public import proofs.«01_k».proof.Proof.Gen.S5Ideal
public import proofs.«01_k».proof.Proof.Gen.S5Ideal.Skeleton
public import proofs.«01_k».proof.Proof.Gen.S5Ideal.Launch
public import proofs.«01_k».proof.Proof.Gen.S5Ideal.Points
public import proofs.«01_k».proof.Proof.Gen.S5Ideal.Loops
public import proofs.«01_k».proof.Proof.Gen.S5Ideal.Frame
public import proofs.«01_k».proof.Proof.Gen.Pre_finite
public import proofs.«01_k».proof.Proof.Gen.S5RefIdeal
public import proofs.«01_k».proof.Proof.Gen.S5RefIdeal.Run
public import proofs.«01_k».proof.Proof.Gen.ConvIdeal.Value
public import proofs.«01_k».proof.Proof.Gen.ConvRefIdeal.Run
public import proofs.«01_k».proof.Proof.ConvRefVal
public import proofs.«01_k».proof.Proof.S5Alg
public import proofs.«01_k».proof.Proof.Gen.Down
public import proofs.«01_k».proof.Proof.Gen.Down.Frame
public import proofs.«01_k».proof.Proof.Gen.DownIdeal.Value
public import proofs.«01_k».proof.Proof.Gen.DownRefIdeal.Run
public import proofs.«01_k».proof.Proof.Gen.DDown
public import proofs.«01_k».proof.Proof.Gen.DDown.Frame
public import proofs.«01_k».proof.Proof.Gen.DDownIdeal.Value
public import proofs.«01_k».proof.Proof.Gen.DDownRefIdeal.Run
public import proofs.«01_k».proof.Proof.Gen.DUp
public import proofs.«01_k».proof.Proof.Gen.DUp.Frame
public import proofs.«01_k».proof.Proof.Gen.DUpIdeal.Value
public import proofs.«01_k».proof.Proof.Gen.DUpRefIdeal.Run
public import proofs.«01_k».proof.Proof.Gen.Up
public import proofs.«01_k».proof.Proof.Gen.Up.Frame
public import proofs.«01_k».proof.Proof.Gen.UpIdeal.Value
public import proofs.«01_k».proof.Proof.Gen.UpRefIdeal.Run
public import proofs.«01_k».proof.Proof.Gen.InT
public import proofs.«01_k».proof.Proof.Gen.InT.Frame
public import proofs.«01_k».proof.Proof.Gen.InTIdeal.Value
public import proofs.«01_k».proof.Proof.Gen.InTRefIdeal.Run
public import proofs.«01_k».proof.Proof.Gen.DIn
public import proofs.«01_k».proof.Proof.Gen.DIn.Frame
public import proofs.«01_k».proof.Proof.Gen.DInIdeal.Value
public import proofs.«01_k».proof.Proof.Gen.DInRefIdeal.Run
public import proofs.«01_k».proof.Proof.Gen.UpF
public import proofs.«01_k».proof.Proof.Gen.UpF.Frame
public import proofs.«01_k».proof.Proof.Gen.UpFIdeal.Value
public import proofs.«01_k».proof.Proof.Gen.UpFRefIdeal.Run
public import proofs.«01_k».proof.Proof.Gen.DownF
public import proofs.«01_k».proof.Proof.Gen.DownF.Frame
public import proofs.«01_k».proof.Proof.Gen.DownFIdeal.Value
public import proofs.«01_k».proof.Proof.Gen.DownFRefIdeal.Run
public import proofs.«01_k».proof.Proof.Gen.InP
public import proofs.«01_k».proof.Proof.Gen.InP.Frame
public import proofs.«01_k».proof.Proof.Gen.InPIdeal.Value
public import proofs.«01_k».proof.Proof.Gen.InPRefIdeal.Run
public import proofs.«01_k».proof.Proof.Gen.DownL
public import proofs.«01_k».proof.Proof.Gen.DownL.Frame
public import proofs.«01_k».proof.Proof.Gen.DownLIdeal.Value
public import proofs.«01_k».proof.Proof.Gen.DownLRefIdeal.Run
public import proofs.«01_k».proof.Proof.Gen.DDownL
public import proofs.«01_k».proof.Proof.Gen.DDownL.Frame
public import proofs.«01_k».proof.Proof.Gen.DDownLIdeal.Value
public import proofs.«01_k».proof.Proof.Gen.DDownLRefIdeal.Run
public import proofs.«01_k».proof.Proof.Gen.DUpL
public import proofs.«01_k».proof.Proof.Gen.DUpL.Frame
public import proofs.«01_k».proof.Proof.Gen.DUpLIdeal.Value
public import proofs.«01_k».proof.Proof.Gen.DUpLRefIdeal.Run
public import proofs.«01_k».proof.Proof.Gen.UpL
public import proofs.«01_k».proof.Proof.Gen.UpL.Frame
public import proofs.«01_k».proof.Proof.Gen.UpLIdeal.Value
public import proofs.«01_k».proof.Proof.Gen.UpLRefIdeal.Run
public import proofs.«01_k».proof.Proof.Gen.UpFL
public import proofs.«01_k».proof.Proof.Gen.UpFL.Frame
public import proofs.«01_k».proof.Proof.Gen.UpFLIdeal.Value
public import proofs.«01_k».proof.Proof.Gen.UpFLRefIdeal.Run
public import proofs.«01_k».proof.Proof.Gen.DownFL
public import proofs.«01_k».proof.Proof.Gen.DownFL.Frame
public import proofs.«01_k».proof.Proof.Gen.DownFLIdeal.Value
public import proofs.«01_k».proof.Proof.Gen.DownFLRefIdeal.Run
public import proofs.«01_k».proof.Proof.Gen.OutE
public import proofs.«01_k».proof.Proof.Gen.OutE.Frame
public import proofs.«01_k».proof.Proof.Gen.OutEIdeal.Value
public import proofs.«01_k».proof.Proof.Gen.OutERefIdeal.Run
public import proofs.«01_k».proof.Proof.Gen.OutO
public import proofs.«01_k».proof.Proof.Gen.OutO.Frame
public import proofs.«01_k».proof.Proof.Gen.OutOIdeal.Value
public import proofs.«01_k».proof.Proof.Gen.OutORefIdeal.Run
public import proofs.«01_k».proof.Proof.Gen.OutET
public import proofs.«01_k».proof.Proof.Gen.OutET.Frame
public import proofs.«01_k».proof.Proof.Gen.OutETIdeal.Value
public import proofs.«01_k».proof.Proof.Gen.OutETRefIdeal.Run
public import proofs.«01_k».proof.Proof.Gen.OutOT
public import proofs.«01_k».proof.Proof.Gen.OutOT.Frame
public import proofs.«01_k».proof.Proof.Gen.OutOTIdeal.Value
public import proofs.«01_k».proof.Proof.Gen.OutOTRefIdeal.Run
public import proofs.«01_k».proof.Proof.Gen.GateT
public import proofs.«01_k».proof.Proof.Gen.GateT.Frame
public import proofs.«01_k».proof.Proof.Gen.GateTIdeal.Value
public import proofs.«01_k».proof.Proof.Gen.GateTRefIdeal.Run
public import proofs.«01_k».proof.Proof.Gen.GateLT
public import proofs.«01_k».proof.Proof.Gen.GateLT.Frame
public import proofs.«01_k».proof.Proof.Gen.GateLTIdeal.Value
public import proofs.«01_k».proof.Proof.Gen.GateLTRefIdeal.Run
public import proofs.«01_k».proof.Proof.Gen.DOutE
public import proofs.«01_k».proof.Proof.Gen.DOutE.Frame
public import proofs.«01_k».proof.Proof.Gen.DOutEIdeal.Value
public import proofs.«01_k».proof.Proof.Gen.DOutERefIdeal.Run
public import proofs.«01_k».proof.Proof.Gen.DOutO
public import proofs.«01_k».proof.Proof.Gen.DOutO.Frame
public import proofs.«01_k».proof.Proof.Gen.DOutOIdeal.Value
public import proofs.«01_k».proof.Proof.Gen.DOutORefIdeal.Run
public import proofs.«01_k».proof.Proof.Gen.DGlu
public import proofs.«01_k».proof.Proof.Gen.DGlu.Frame
public import proofs.«01_k».proof.Proof.Gen.DGluIdeal.Value
public import proofs.«01_k».proof.Proof.Gen.DGluRefIdeal.Run
public import proofs.«01_k».proof.Proof.Gen.DGate
public import proofs.«01_k».proof.Proof.Gen.DGate.Frame
public import proofs.«01_k».proof.Proof.Gen.DGateIdeal.Value
public import proofs.«01_k».proof.Proof.Gen.DGateRefIdeal.Run
public import proofs.«01_k».proof.Proof.Gen.DGateL
public import proofs.«01_k».proof.Proof.Gen.DGateL.Frame
public import proofs.«01_k».proof.Proof.Gen.DGateLIdeal.Value
public import proofs.«01_k».proof.Proof.Gen.DGateLRefIdeal.Run
public import proofs.«01_k».proof.Proof.Gen.Gate
public import proofs.«01_k».proof.Proof.Gen.Gate.Frame
public import proofs.«01_k».proof.Proof.Gen.GateIdeal.Value
public import proofs.«01_k».proof.Proof.Gen.GateRefIdeal.Run
public import proofs.«01_k».proof.Proof.Gen.GateL
public import proofs.«01_k».proof.Proof.Gen.GateL.Frame
public import proofs.«01_k».proof.Proof.Gen.GateLIdeal.Value
public import proofs.«01_k».proof.Proof.Gen.GateLRefIdeal.Run
public import proofs.«01_k».proof.Proof.Gen.Glu
public import proofs.«01_k».proof.Proof.Gen.Glu.Frame
public import proofs.«01_k».proof.Proof.Gen.GluIdeal.Value
public import proofs.«01_k».proof.Proof.Gen.GluRefIdeal.Run
public import proofs.«01_k».proof.Proof.Gen.GluT
public import proofs.«01_k».proof.Proof.Gen.GluT.Frame
public import proofs.«01_k».proof.Proof.Gen.GluTIdeal.Value
public import proofs.«01_k».proof.Proof.Gen.GluTRefIdeal.Run
public import proofs.«01_k».proof.Proof.DownVal
public import proofs.«01_k».proof.Proof.DDownVal
public import proofs.«01_k».proof.Proof.DUpVal
public import proofs.«01_k».proof.Proof.UpVal
public import proofs.«01_k».proof.Proof.InTVal
public import proofs.«01_k».proof.Proof.DInVal
public import proofs.«01_k».proof.Proof.UpFVal
public import proofs.«01_k».proof.Proof.DownFVal
public import proofs.«01_k».proof.Proof.InPVal
public import proofs.«01_k».proof.Proof.DownLVal
public import proofs.«01_k».proof.Proof.DDownLVal
public import proofs.«01_k».proof.Proof.DUpLVal
public import proofs.«01_k».proof.Proof.UpLVal
public import proofs.«01_k».proof.Proof.UpFLVal
public import proofs.«01_k».proof.Proof.DownFLVal
public import proofs.«01_k».proof.Proof.OutEVal
public import proofs.«01_k».proof.Proof.OutOVal
public import proofs.«01_k».proof.Proof.OutETVal
public import proofs.«01_k».proof.Proof.OutOTVal
public import proofs.«01_k».proof.Proof.GateTVal
public import proofs.«01_k».proof.Proof.GateLTVal
public import proofs.«01_k».proof.Proof.DOutEVal
public import proofs.«01_k».proof.Proof.DOutOVal
public import proofs.«01_k».proof.Proof.DGluVal
public import proofs.«01_k».proof.Proof.DGateVal
public import proofs.«01_k».proof.Proof.DGateLVal
public import proofs.«01_k».proof.Proof.GateVal
public import proofs.«01_k».proof.Proof.GateLVal
public import proofs.«01_k».proof.Proof.GluVal
public import proofs.«01_k».proof.Proof.GluTVal
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Conv

/-- The reference of the convolution's gradient runs and leaves its arguments and the counters. -/
theorem frame_ConvRefIdeal : Cert.quiescent_ConvRefIdeal (hConvRefIdeal := Cert.ConvRefIdeal.Gen.facts) := by
  intro m g _
  hlo_run
  all_goals first
    | exact sem_eq_zero_of_no_sems (sig := Cert.ConvRefIdeal.sig) rfl _
    | exact fun _ => ⟨trivial, trivial, trivial, trivial, trivial⟩

set_option maxHeartbeats 1000000 in
/-- The kernel of the convolution's gradient and its reference end with equal results. -/
theorem alg_Conv : Cert.algebraic_ConvIdeal_ConvRefIdeal (hConvIdeal := Cert.ConvIdeal.Gen.facts) (hConvRefIdeal := Cert.ConvRefIdeal.Gen.facts) := by
  pair_intro
  · run_from Cert.ConvIdeal.Value.run_blocks m g
  · run_from Cert.ConvRefIdeal.Value.run m' g'
    · rw [Cert.ConvIdeal.Val.final5 m c]
      funext y
      refine (Cert.ConvRefIdeal.Val.out0 m' c y).trans ?_
      obtain ⟨h0, h1, h2, h3, h4⟩ := hagree c
      rw [h0, h1, h2, h3, h4]
    · rw [Cert.ConvIdeal.Val.final6 m c]
      funext y
      refine (Cert.ConvRefIdeal.Val.out1 m' c y).trans ?_
      obtain ⟨h0, h1, h2, h3, h4⟩ := hagree c
      rw [h0, h1, h2, h3, h4]

/-- The frame of the word program is the frame at words of the idealized program, which has the same text. -/
theorem same_S5 : Cert.S5Ideal.Body.AtWords = Cert.quiescent_S5 (hS5 := Cert.S5.Gen.facts) := by sl_kernel_rfl

/-- The word program of the scan's gradient runs, leaves its arguments and the counters. -/
theorem frame_S5 : Cert.quiescent_S5 (hS5 := Cert.S5.Gen.facts) := same_S5.mp Cert.S5Ideal.Body.atWords

/-- The idealized program of the scan's gradient runs, leaves its arguments and the counters. -/
theorem frame_S5Ideal : Cert.quiescent_S5Ideal (hS5Ideal := Cert.S5Ideal.Gen.facts) :=
  fun m ρ _ => Cert.S5Ideal.Body.frame (F := Ideal) m ρ

/-- The same from memories that the precondition admits. -/
theorem frame_S5Ideal_finite : Cert.quiescent_S5Ideal_pre_finite (hS5Ideal := Cert.S5Ideal.Gen.facts) (hPre_finite := Cert.Pre_finite.Gen.facts) :=
  fun m ρ _ => Cert.S5Ideal.Body.frame (F := Ideal) m ρ

/-- The reference of the scan's gradient runs and leaves its arguments and the counters. -/
theorem frame_S5RefIdeal : Cert.quiescent_S5RefIdeal (hS5RefIdeal := Cert.S5RefIdeal.Gen.facts) :=
  fun m g _ => (θ_run Cert.S5RefIdeal.defs _ _).mono (fun _ h => ⟨fun c => (h c).2.2, sem_eq_zero_of_no_sems (sig := Cert.S5RefIdeal.sig) rfl _⟩) (Cert.S5RefIdeal.Value.run m g)

/-- The same from memories that the precondition admits. -/
theorem frame_S5RefIdeal_finite : Cert.quiescent_S5RefIdeal_pre_finite (hS5RefIdeal := Cert.S5RefIdeal.Gen.facts) (hPre_finite := Cert.Pre_finite.Gen.facts) :=
  fun m g _ => frame_S5RefIdeal m g trivial

set_option maxHeartbeats 1000000 in
/-- The kernel of the scan's gradient and its reference end with equal results. -/
theorem alg_S5 : Cert.algebraic_S5Ideal_S5RefIdeal_pre_finite (hS5Ideal := Cert.S5Ideal.Gen.facts) (hS5RefIdeal := Cert.S5RefIdeal.Gen.facts) (hPre_finite := Cert.Pre_finite.Gen.facts) := by
  intro m g m' g' hpre hagree
  refine ⟨fun c => (Cert.S5Ideal.Body.dats m 0 c).arrAt 13 Cert.S5Ideal.cfg0.N, fun c => (Cert.S5Ideal.Body.dats m 0 c).arrAt 20 Cert.S5Ideal.cfg0.N, Cert.S5Ideal.Val.run_blocks m g,
    (θ_run Cert.S5RefIdeal.defs _ _).mono (fun r h c => ⟨(h c).1.trans ?_, (h c).2.1.trans ?_, (h c).2.2⟩) (Cert.S5RefIdeal.Value.run m' g')⟩
  · obtain ⟨h0, h1, h2, h3, h4, h5, h6, h7, h8, h9, h10⟩ := hagree c
    refine Eq.trans ?_ (Cert.S5Ideal.Val.final13 m (Cert.S5Ideal.Val.fine m hpre c)).symm
    funext y
    refine Eq.trans ?_ (Cert.S5Ideal.Val.grad_eq (Cert.S5Ideal.Val.fine m hpre c) h0 h4 h5 h6 h7 h8 h9 h10 (y 0) (Cert.S5Ideal.Val.cH (y 1)) (Cert.S5Ideal.Val.cL (y 1)))
    exact (congrArg _ (Cert.S5Ideal.Val.col_split y)).trans (Cert.S5RefIdeal.Val.out0 m' c (y 0) (Cert.S5Ideal.Val.cH (y 1)) (Cert.S5Ideal.Val.cL (y 1)))
  · obtain ⟨h0, h1, h2, h3, h4, h5, h6, h7, h8, h9, h10⟩ := hagree c
    refine Eq.trans ?_ (Cert.S5Ideal.Val.final20 m c).symm
    funext y
    refine (congrArg _ (Cert.S5Ideal.Val.row_split y)).trans ((Cert.S5RefIdeal.Val.out1 m' c (y 0) (y 1)).trans ?_)
    exact Cert.S5Ideal.Val.skip_eq h0 h1 (y 1)

/-- The reference of the cotangent's product with the down weight and the activation's derivative runs and leaves its arguments and the counters. -/
theorem frame_DownRefIdeal : Cert.quiescent_DownRefIdeal (hDownRefIdeal := Cert.DownRefIdeal.Gen.facts) :=
  fun m g _ => (θ_run Cert.DownRefIdeal.defs _ _).mono (fun _ h => ⟨fun c => (h c).2, sem_eq_zero_of_no_sems (sig := Cert.DownRefIdeal.sig) rfl _⟩) (Cert.DownRefIdeal.Value.run m g)

set_option maxHeartbeats 1000000 in
/-- The kernel of the cotangent's product with the down weight and the activation's derivative and its reference end with equal results. -/
theorem alg_Down : Cert.algebraic_DownIdeal_DownRefIdeal (hDownIdeal := Cert.DownIdeal.Gen.facts) (hDownRefIdeal := Cert.DownRefIdeal.Gen.facts) := by
  pair_intro
  · run_from Cert.DownIdeal.Value.run_blocks m g
  · run_from Cert.DownRefIdeal.Value.run m' g'
    · refine Eq.trans ?_ (Cert.DownIdeal.Val.final m c).symm
      exact Cert.DownIdeal.Val.reference _ _ _ _ _ rfl

/-- The reference of the down weight's gradient runs and leaves its arguments and the counters. -/
theorem frame_DDownRefIdeal : Cert.quiescent_DDownRefIdeal (hDDownRefIdeal := Cert.DDownRefIdeal.Gen.facts) :=
  fun m g _ => (θ_run Cert.DDownRefIdeal.defs _ _).mono (fun _ h => ⟨fun c => (h c).2, sem_eq_zero_of_no_sems (sig := Cert.DDownRefIdeal.sig) rfl _⟩) (Cert.DDownRefIdeal.Value.run m g)

set_option maxHeartbeats 1000000 in
/-- The kernel of the down weight's gradient and its reference end with equal results. -/
theorem alg_DDown : Cert.algebraic_DDownIdeal_DDownRefIdeal (hDDownIdeal := Cert.DDownIdeal.Gen.facts) (hDDownRefIdeal := Cert.DDownRefIdeal.Gen.facts) := by
  pair_intro
  · run_from Cert.DDownIdeal.Value.run_blocks m g
  · run_from Cert.DDownRefIdeal.Value.run m' g'
    · refine Eq.trans ?_ (Cert.DDownIdeal.Val.final m c).symm
      exact (Cert.DDownIdeal.Val.reference _ _ _ _ _ rfl).trans (congrArg (fun (b : FVec Ideal Cert.DDownIdeal.S4x5120x2048 .bf16) (y : Cert.DDownIdeal.S4x5120x2048.Idx) =>
        Cert.DDownIdeal.Val.entry (m ((c.tc : Thread Cert.DDownIdeal.nD Cert.DDownIdeal.τ).loc Cert.DDownIdeal.main_arg0)) (m ((c.tc : Thread Cert.DDownIdeal.nD Cert.DDownIdeal.τ).loc Cert.DDownIdeal.main_arg1)) b (y 0) (y 1) (y 2)) (hagree c).2.2)

/-- The reference of the up weight's gradient runs and leaves its arguments and the counters. -/
theorem frame_DUpRefIdeal : Cert.quiescent_DUpRefIdeal (hDUpRefIdeal := Cert.DUpRefIdeal.Gen.facts) :=
  fun m g _ => (θ_run Cert.DUpRefIdeal.defs _ _).mono (fun _ h => ⟨fun c => (h c).2, sem_eq_zero_of_no_sems (sig := Cert.DUpRefIdeal.sig) rfl _⟩) (Cert.DUpRefIdeal.Value.run m g)

set_option maxHeartbeats 1000000 in
/-- The kernel of the up weight's gradient and its reference end with equal results. -/
theorem alg_DUp : Cert.algebraic_DUpIdeal_DUpRefIdeal (hDUpIdeal := Cert.DUpIdeal.Gen.facts) (hDUpRefIdeal := Cert.DUpRefIdeal.Gen.facts) := by
  pair_intro
  · run_from Cert.DUpIdeal.Value.run_blocks m g
  · run_from Cert.DUpRefIdeal.Value.run m' g'
    · refine Eq.trans ?_ (Cert.DUpIdeal.Val.final m c).symm
      exact (Cert.DUpIdeal.Val.reference _ _ _ _ _ rfl).trans (congrArg (fun (b : FVec Ideal Cert.DUpIdeal.S4x5120x2048 .bf16) (y : Cert.DUpIdeal.S4x5120x2048.Idx) =>
        Cert.DUpIdeal.Val.entry (m ((c.tc : Thread Cert.DUpIdeal.nD Cert.DUpIdeal.τ).loc Cert.DUpIdeal.main_arg0)) (m ((c.tc : Thread Cert.DUpIdeal.nD Cert.DUpIdeal.τ).loc Cert.DUpIdeal.main_arg1)) b (y 0) (y 1) (y 2)) (hagree c).2.2)

/-- The reference of the cotangent's product with the up weight runs and leaves its arguments and the counters. -/
theorem frame_UpRefIdeal : Cert.quiescent_UpRefIdeal (hUpRefIdeal := Cert.UpRefIdeal.Gen.facts) :=
  fun m g _ => (θ_run Cert.UpRefIdeal.defs _ _).mono (fun _ h => ⟨fun c => (h c).2, sem_eq_zero_of_no_sems (sig := Cert.UpRefIdeal.sig) rfl _⟩) (Cert.UpRefIdeal.Value.run m g)

set_option maxHeartbeats 1000000 in
/-- The kernel of the cotangent's product with the up weight and its reference end with equal results. -/
theorem alg_Up : Cert.algebraic_UpIdeal_UpRefIdeal (hUpIdeal := Cert.UpIdeal.Gen.facts) (hUpRefIdeal := Cert.UpRefIdeal.Gen.facts) := by
  pair_intro
  · run_from Cert.UpIdeal.Value.run_blocks m g
  · run_from Cert.UpRefIdeal.Value.run m' g'
    · refine Eq.trans ?_ (Cert.UpIdeal.Val.final m c).symm
      exact Cert.UpIdeal.Val.reference _ _ _ rfl

/-- The reference of the cotangent's product with the projection's weight runs and leaves its arguments and the counters. -/
theorem frame_InTRefIdeal : Cert.quiescent_InTRefIdeal (hInTRefIdeal := Cert.InTRefIdeal.Gen.facts) :=
  fun m g _ => (θ_run Cert.InTRefIdeal.defs _ _).mono (fun _ h => ⟨fun c => (h c).2, sem_eq_zero_of_no_sems (sig := Cert.InTRefIdeal.sig) rfl _⟩) (Cert.InTRefIdeal.Value.run m g)

set_option maxHeartbeats 1000000 in
/-- The kernel of the cotangent's product with the projection's weight and its reference end with equal results. -/
theorem alg_InT : Cert.algebraic_InTIdeal_InTRefIdeal (hInTIdeal := Cert.InTIdeal.Gen.facts) (hInTRefIdeal := Cert.InTRefIdeal.Gen.facts) := by
  pair_intro
  · run_from Cert.InTIdeal.Value.run_blocks m g
  · run_from Cert.InTRefIdeal.Value.run m' g'
    · refine Eq.trans ?_ (Cert.InTIdeal.Val.final m c).symm
      exact Cert.InTIdeal.Val.reference _ _ _ rfl

/-- The reference of the projection weight's gradient runs and leaves its arguments and the counters. -/
theorem frame_DInRefIdeal : Cert.quiescent_DInRefIdeal (hDInRefIdeal := Cert.DInRefIdeal.Gen.facts) :=
  fun m g _ => (θ_run Cert.DInRefIdeal.defs _ _).mono (fun _ h => ⟨fun c => (h c).2, sem_eq_zero_of_no_sems (sig := Cert.DInRefIdeal.sig) rfl _⟩) (Cert.DInRefIdeal.Value.run m g)

set_option maxHeartbeats 1000000 in
/-- The kernel of the projection weight's gradient and its reference end with equal results. -/
theorem alg_DIn : Cert.algebraic_DInIdeal_DInRefIdeal (hDInIdeal := Cert.DInIdeal.Gen.facts) (hDInRefIdeal := Cert.DInRefIdeal.Gen.facts) := by
  pair_intro
  · run_from Cert.DInIdeal.Value.run_blocks m g
  · run_from Cert.DInRefIdeal.Value.run m' g'
    · refine Eq.trans ?_ (Cert.DInIdeal.Val.final m c).symm
      exact Cert.DInIdeal.Val.reference _ _ _ rfl

/-- The reference of the product with the up weight and its squared positive part runs and leaves its arguments and the counters. -/
theorem frame_UpFRefIdeal : Cert.quiescent_UpFRefIdeal (hUpFRefIdeal := Cert.UpFRefIdeal.Gen.facts) :=
  fun m g _ => (θ_run Cert.UpFRefIdeal.defs _ _).mono (fun _ h => ⟨fun c => (h c).2.2, sem_eq_zero_of_no_sems (sig := Cert.UpFRefIdeal.sig) rfl _⟩) (Cert.UpFRefIdeal.Value.run m g)

set_option maxHeartbeats 1000000 in
/-- The kernel of the product with the up weight and its squared positive part and its reference end with equal results. -/
theorem alg_UpF : Cert.algebraic_UpFIdeal_UpFRefIdeal (hUpFIdeal := Cert.UpFIdeal.Gen.facts) (hUpFRefIdeal := Cert.UpFRefIdeal.Gen.facts) := by
  pair_intro
  · run_from Cert.UpFIdeal.Value.run_blocks m g
  · run_from Cert.UpFRefIdeal.Value.run m' g'
    · refine Eq.trans ?_ (Cert.UpFIdeal.Val.final2 m c).symm
      exact Cert.UpFIdeal.Val.reference2 _ _ _ rfl
    · refine Eq.trans ?_ (Cert.UpFIdeal.Val.final3 m c).symm
      exact Cert.UpFIdeal.Val.reference3 _ _ _ _ (Cert.UpFIdeal.Val.reference2 _ _ _ rfl) _ rfl

/-- The reference of the activation's product with the down weight and the residual runs and leaves its arguments and the counters. -/
theorem frame_DownFRefIdeal : Cert.quiescent_DownFRefIdeal (hDownFRefIdeal := Cert.DownFRefIdeal.Gen.facts) :=
  fun m g _ => (θ_run Cert.DownFRefIdeal.defs _ _).mono (fun _ h => ⟨fun c => (h c).2, sem_eq_zero_of_no_sems (sig := Cert.DownFRefIdeal.sig) rfl _⟩) (Cert.DownFRefIdeal.Value.run m g)

set_option maxHeartbeats 1000000 in
/-- The kernel of the activation's product with the down weight and the residual and its reference end with equal results. -/
theorem alg_DownF : Cert.algebraic_DownFIdeal_DownFRefIdeal (hDownFIdeal := Cert.DownFIdeal.Gen.facts) (hDownFRefIdeal := Cert.DownFRefIdeal.Gen.facts) := by
  pair_intro
  · run_from Cert.DownFIdeal.Value.run_blocks m g
  · run_from Cert.DownFRefIdeal.Value.run m' g'
    · refine Eq.trans ?_ (Cert.DownFIdeal.Val.final m c).symm
      exact Cert.DownFIdeal.Val.reference _ _ _ _ rfl

/-- The reference of the product with the projection's weight runs and leaves its arguments and the counters. -/
theorem frame_InPRefIdeal : Cert.quiescent_InPRefIdeal (hInPRefIdeal := Cert.InPRefIdeal.Gen.facts) :=
  fun m g _ => (θ_run Cert.InPRefIdeal.defs _ _).mono (fun _ h => ⟨fun c => (h c).2, sem_eq_zero_of_no_sems (sig := Cert.InPRefIdeal.sig) rfl _⟩) (Cert.InPRefIdeal.Value.run m g)

set_option maxHeartbeats 1000000 in
/-- The kernel of the product with the projection's weight and its reference end with equal results. -/
theorem alg_InP : Cert.algebraic_InPIdeal_InPRefIdeal (hInPIdeal := Cert.InPIdeal.Gen.facts) (hInPRefIdeal := Cert.InPRefIdeal.Gen.facts) := by
  pair_intro
  · run_from Cert.InPIdeal.Value.run_blocks m g
  · run_from Cert.InPRefIdeal.Value.run m' g'
    · refine Eq.trans ?_ (Cert.InPIdeal.Val.final m c).symm
      exact Cert.InPIdeal.Val.reference _ _ _ _ _ rfl

/-- The reference of the later layer's cotangent's product with the down weight and the activation's derivative runs and leaves its arguments and the counters. -/
theorem frame_DownLRefIdeal : Cert.quiescent_DownLRefIdeal (hDownLRefIdeal := Cert.DownLRefIdeal.Gen.facts) :=
  fun m g _ => (θ_run Cert.DownLRefIdeal.defs _ _).mono (fun _ h => ⟨fun c => (h c).2, sem_eq_zero_of_no_sems (sig := Cert.DownLRefIdeal.sig) rfl _⟩) (Cert.DownLRefIdeal.Value.run m g)

set_option maxHeartbeats 1000000 in
/-- The kernel of the later layer's cotangent's product with the down weight and the activation's derivative and its reference end with equal results. -/
theorem alg_DownL : Cert.algebraic_DownLIdeal_DownLRefIdeal (hDownLIdeal := Cert.DownLIdeal.Gen.facts) (hDownLRefIdeal := Cert.DownLRefIdeal.Gen.facts) := by
  pair_intro
  · run_from Cert.DownLIdeal.Value.run_blocks m g
  · run_from Cert.DownLRefIdeal.Value.run m' g'
    · refine Eq.trans ?_ (Cert.DownLIdeal.Val.final m c).symm
      exact Cert.DownLIdeal.Val.reference _ _ _ _ _ rfl

/-- The reference of the later layer's down weight's gradient runs and leaves its arguments and the counters. -/
theorem frame_DDownLRefIdeal : Cert.quiescent_DDownLRefIdeal (hDDownLRefIdeal := Cert.DDownLRefIdeal.Gen.facts) :=
  fun m g _ => (θ_run Cert.DDownLRefIdeal.defs _ _).mono (fun _ h => ⟨fun c => (h c).2, sem_eq_zero_of_no_sems (sig := Cert.DDownLRefIdeal.sig) rfl _⟩) (Cert.DDownLRefIdeal.Value.run m g)

set_option maxHeartbeats 1000000 in
/-- The kernel of the later layer's down weight's gradient and its reference end with equal results. -/
theorem alg_DDownL : Cert.algebraic_DDownLIdeal_DDownLRefIdeal (hDDownLIdeal := Cert.DDownLIdeal.Gen.facts) (hDDownLRefIdeal := Cert.DDownLRefIdeal.Gen.facts) := by
  pair_intro
  · run_from Cert.DDownLIdeal.Value.run_blocks m g
  · run_from Cert.DDownLRefIdeal.Value.run m' g'
    · refine Eq.trans ?_ (Cert.DDownLIdeal.Val.final m c).symm
      exact (Cert.DDownLIdeal.Val.reference _ _ _ _ _ rfl).trans (congrArg (fun (b : FVec Ideal Cert.DDownLIdeal.S4x5632x2048 .bf16) (y : Cert.DDownLIdeal.S4x5632x2048.Idx) =>
        Cert.DDownLIdeal.Val.entry (m ((c.tc : Thread Cert.DDownLIdeal.nD Cert.DDownLIdeal.τ).loc Cert.DDownLIdeal.main_arg0)) (m ((c.tc : Thread Cert.DDownLIdeal.nD Cert.DDownLIdeal.τ).loc Cert.DDownLIdeal.main_arg1)) b (y 0) (y 1) (y 2)) (hagree c).2.2)

/-- The reference of the later layer's up weight's gradient runs and leaves its arguments and the counters. -/
theorem frame_DUpLRefIdeal : Cert.quiescent_DUpLRefIdeal (hDUpLRefIdeal := Cert.DUpLRefIdeal.Gen.facts) :=
  fun m g _ => (θ_run Cert.DUpLRefIdeal.defs _ _).mono (fun _ h => ⟨fun c => (h c).2, sem_eq_zero_of_no_sems (sig := Cert.DUpLRefIdeal.sig) rfl _⟩) (Cert.DUpLRefIdeal.Value.run m g)

set_option maxHeartbeats 1000000 in
/-- The kernel of the later layer's up weight's gradient and its reference end with equal results. -/
theorem alg_DUpL : Cert.algebraic_DUpLIdeal_DUpLRefIdeal (hDUpLIdeal := Cert.DUpLIdeal.Gen.facts) (hDUpLRefIdeal := Cert.DUpLRefIdeal.Gen.facts) := by
  pair_intro
  · run_from Cert.DUpLIdeal.Value.run_blocks m g
  · run_from Cert.DUpLRefIdeal.Value.run m' g'
    · refine Eq.trans ?_ (Cert.DUpLIdeal.Val.final m c).symm
      exact (Cert.DUpLIdeal.Val.reference _ _ _ _ _ rfl).trans (congrArg (fun (b : FVec Ideal Cert.DUpLIdeal.S4x5632x2048 .bf16) (y : Cert.DUpLIdeal.S4x5632x2048.Idx) =>
        Cert.DUpLIdeal.Val.entry (m ((c.tc : Thread Cert.DUpLIdeal.nD Cert.DUpLIdeal.τ).loc Cert.DUpLIdeal.main_arg0)) (m ((c.tc : Thread Cert.DUpLIdeal.nD Cert.DUpLIdeal.τ).loc Cert.DUpLIdeal.main_arg1)) b (y 0) (y 1) (y 2)) (hagree c).2.2)

/-- The reference of the later layer's cotangent's product with the up weight runs and leaves its arguments and the counters. -/
theorem frame_UpLRefIdeal : Cert.quiescent_UpLRefIdeal (hUpLRefIdeal := Cert.UpLRefIdeal.Gen.facts) :=
  fun m g _ => (θ_run Cert.UpLRefIdeal.defs _ _).mono (fun _ h => ⟨fun c => (h c).2, sem_eq_zero_of_no_sems (sig := Cert.UpLRefIdeal.sig) rfl _⟩) (Cert.UpLRefIdeal.Value.run m g)

set_option maxHeartbeats 1000000 in
/-- The kernel of the later layer's cotangent's product with the up weight and its reference end with equal results. -/
theorem alg_UpL : Cert.algebraic_UpLIdeal_UpLRefIdeal (hUpLIdeal := Cert.UpLIdeal.Gen.facts) (hUpLRefIdeal := Cert.UpLRefIdeal.Gen.facts) := by
  pair_intro
  · run_from Cert.UpLIdeal.Value.run_blocks m g
  · run_from Cert.UpLRefIdeal.Value.run m' g'
    · refine Eq.trans ?_ (Cert.UpLIdeal.Val.final m c).symm
      exact Cert.UpLIdeal.Val.reference _ _ _ rfl

/-- The reference of the later layer's product with the up weight and its squared positive part runs and leaves its arguments and the counters. -/
theorem frame_UpFLRefIdeal : Cert.quiescent_UpFLRefIdeal (hUpFLRefIdeal := Cert.UpFLRefIdeal.Gen.facts) :=
  fun m g _ => (θ_run Cert.UpFLRefIdeal.defs _ _).mono (fun _ h => ⟨fun c => (h c).2.2, sem_eq_zero_of_no_sems (sig := Cert.UpFLRefIdeal.sig) rfl _⟩) (Cert.UpFLRefIdeal.Value.run m g)

set_option maxHeartbeats 1000000 in
/-- The kernel of the later layer's product with the up weight and its squared positive part and its reference end with equal results. -/
theorem alg_UpFL : Cert.algebraic_UpFLIdeal_UpFLRefIdeal (hUpFLIdeal := Cert.UpFLIdeal.Gen.facts) (hUpFLRefIdeal := Cert.UpFLRefIdeal.Gen.facts) := by
  pair_intro
  · run_from Cert.UpFLIdeal.Value.run_blocks m g
  · run_from Cert.UpFLRefIdeal.Value.run m' g'
    · refine Eq.trans ?_ (Cert.UpFLIdeal.Val.final2 m c).symm
      exact Cert.UpFLIdeal.Val.reference2 _ _ _ rfl
    · refine Eq.trans ?_ (Cert.UpFLIdeal.Val.final3 m c).symm
      exact Cert.UpFLIdeal.Val.reference3 _ _ _ _ (Cert.UpFLIdeal.Val.reference2 _ _ _ rfl) _ rfl

/-- The reference of the later layer's activation's product with the down weight and the residual runs and leaves its arguments and the counters. -/
theorem frame_DownFLRefIdeal : Cert.quiescent_DownFLRefIdeal (hDownFLRefIdeal := Cert.DownFLRefIdeal.Gen.facts) :=
  fun m g _ => (θ_run Cert.DownFLRefIdeal.defs _ _).mono (fun _ h => ⟨fun c => (h c).2, sem_eq_zero_of_no_sems (sig := Cert.DownFLRefIdeal.sig) rfl _⟩) (Cert.DownFLRefIdeal.Value.run m g)

set_option maxHeartbeats 1000000 in
/-- The kernel of the later layer's activation's product with the down weight and the residual and its reference end with equal results. -/
theorem alg_DownFL : Cert.algebraic_DownFLIdeal_DownFLRefIdeal (hDownFLIdeal := Cert.DownFLIdeal.Gen.facts) (hDownFLRefIdeal := Cert.DownFLRefIdeal.Gen.facts) := by
  pair_intro
  · run_from Cert.DownFLIdeal.Value.run_blocks m g
  · run_from Cert.DownFLRefIdeal.Value.run m' g'
    · refine Eq.trans ?_ (Cert.DownFLIdeal.Val.final m c).symm
      exact Cert.DownFLIdeal.Val.reference _ _ _ _ rfl

/-- The reference of the mixer's product with its output weight and the residual runs and leaves its arguments and the counters. -/
theorem frame_OutERefIdeal : Cert.quiescent_OutERefIdeal (hOutERefIdeal := Cert.OutERefIdeal.Gen.facts) :=
  fun m g _ => (θ_run Cert.OutERefIdeal.defs _ _).mono (fun _ h => ⟨fun c => (h c).2, sem_eq_zero_of_no_sems (sig := Cert.OutERefIdeal.sig) rfl _⟩) (Cert.OutERefIdeal.Value.run m g)

set_option maxHeartbeats 1000000 in
/-- The kernel of the mixer's product with its output weight and the residual and its reference end with equal results. -/
theorem alg_OutE : Cert.algebraic_OutEIdeal_OutERefIdeal (hOutEIdeal := Cert.OutEIdeal.Gen.facts) (hOutERefIdeal := Cert.OutERefIdeal.Gen.facts) := by
  pair_intro
  · run_from Cert.OutEIdeal.Value.run_blocks m g
  · run_from Cert.OutERefIdeal.Value.run m' g'
    · refine Eq.trans ?_ (Cert.OutEIdeal.Val.final m c).symm
      exact Cert.OutEIdeal.Val.reference _ _ _ _ rfl

/-- The reference of the later mixer's product with its output weight and the residual runs and leaves its arguments and the counters. -/
theorem frame_OutORefIdeal : Cert.quiescent_OutORefIdeal (hOutORefIdeal := Cert.OutORefIdeal.Gen.facts) :=
  fun m g _ => (θ_run Cert.OutORefIdeal.defs _ _).mono (fun _ h => ⟨fun c => (h c).2, sem_eq_zero_of_no_sems (sig := Cert.OutORefIdeal.sig) rfl _⟩) (Cert.OutORefIdeal.Value.run m g)

set_option maxHeartbeats 1000000 in
/-- The kernel of the later mixer's product with its output weight and the residual and its reference end with equal results. -/
theorem alg_OutO : Cert.algebraic_OutOIdeal_OutORefIdeal (hOutOIdeal := Cert.OutOIdeal.Gen.facts) (hOutORefIdeal := Cert.OutORefIdeal.Gen.facts) := by
  pair_intro
  · run_from Cert.OutOIdeal.Value.run_blocks m g
  · run_from Cert.OutORefIdeal.Value.run m' g'
    · refine Eq.trans ?_ (Cert.OutOIdeal.Val.final m c).symm
      exact Cert.OutOIdeal.Val.reference _ _ _ _ rfl

/-- The reference of the cotangent's product with the output weight runs and leaves its arguments and the counters. -/
theorem frame_OutETRefIdeal : Cert.quiescent_OutETRefIdeal (hOutETRefIdeal := Cert.OutETRefIdeal.Gen.facts) :=
  fun m g _ => (θ_run Cert.OutETRefIdeal.defs _ _).mono (fun _ h => ⟨fun c => (h c).2, sem_eq_zero_of_no_sems (sig := Cert.OutETRefIdeal.sig) rfl _⟩) (Cert.OutETRefIdeal.Value.run m g)

set_option maxHeartbeats 1000000 in
/-- The kernel of the cotangent's product with the output weight and its reference end with equal results. -/
theorem alg_OutET : Cert.algebraic_OutETIdeal_OutETRefIdeal (hOutETIdeal := Cert.OutETIdeal.Gen.facts) (hOutETRefIdeal := Cert.OutETRefIdeal.Gen.facts) := by
  pair_intro
  · run_from Cert.OutETIdeal.Value.run_blocks m g
  · run_from Cert.OutETRefIdeal.Value.run m' g'
    · refine Eq.trans ?_ (Cert.OutETIdeal.Val.final m c).symm
      exact Cert.OutETIdeal.Val.reference _ _ _ rfl

/-- The reference of the cotangent's product with the later output weight runs and leaves its arguments and the counters. -/
theorem frame_OutOTRefIdeal : Cert.quiescent_OutOTRefIdeal (hOutOTRefIdeal := Cert.OutOTRefIdeal.Gen.facts) :=
  fun m g _ => (θ_run Cert.OutOTRefIdeal.defs _ _).mono (fun _ h => ⟨fun c => (h c).2, sem_eq_zero_of_no_sems (sig := Cert.OutOTRefIdeal.sig) rfl _⟩) (Cert.OutOTRefIdeal.Value.run m g)

set_option maxHeartbeats 1000000 in
/-- The kernel of the cotangent's product with the later output weight and its reference end with equal results. -/
theorem alg_OutOT : Cert.algebraic_OutOTIdeal_OutOTRefIdeal (hOutOTIdeal := Cert.OutOTIdeal.Gen.facts) (hOutOTRefIdeal := Cert.OutOTRefIdeal.Gen.facts) := by
  pair_intro
  · run_from Cert.OutOTIdeal.Value.run_blocks m g
  · run_from Cert.OutOTRefIdeal.Value.run m' g'
    · refine Eq.trans ?_ (Cert.OutOTIdeal.Val.final m c).symm
      exact Cert.OutOTIdeal.Val.reference _ _ _ rfl

/-- The reference of the cotangent's product with the gate's weight runs and leaves its arguments and the counters. -/
theorem frame_GateTRefIdeal : Cert.quiescent_GateTRefIdeal (hGateTRefIdeal := Cert.GateTRefIdeal.Gen.facts) :=
  fun m g _ => (θ_run Cert.GateTRefIdeal.defs _ _).mono (fun _ h => ⟨fun c => (h c).2, sem_eq_zero_of_no_sems (sig := Cert.GateTRefIdeal.sig) rfl _⟩) (Cert.GateTRefIdeal.Value.run m g)

set_option maxHeartbeats 1000000 in
/-- The kernel of the cotangent's product with the gate's weight and its reference end with equal results. -/
theorem alg_GateT : Cert.algebraic_GateTIdeal_GateTRefIdeal (hGateTIdeal := Cert.GateTIdeal.Gen.facts) (hGateTRefIdeal := Cert.GateTRefIdeal.Gen.facts) := by
  pair_intro
  · run_from Cert.GateTIdeal.Value.run_blocks m g
  · run_from Cert.GateTRefIdeal.Value.run m' g'
    · refine Eq.trans ?_ (Cert.GateTIdeal.Val.final m c).symm
      exact Cert.GateTIdeal.Val.reference _ _ _ rfl

/-- The reference of the cotangent's product with the later gate's weight runs and leaves its arguments and the counters. -/
theorem frame_GateLTRefIdeal : Cert.quiescent_GateLTRefIdeal (hGateLTRefIdeal := Cert.GateLTRefIdeal.Gen.facts) :=
  fun m g _ => (θ_run Cert.GateLTRefIdeal.defs _ _).mono (fun _ h => ⟨fun c => (h c).2, sem_eq_zero_of_no_sems (sig := Cert.GateLTRefIdeal.sig) rfl _⟩) (Cert.GateLTRefIdeal.Value.run m g)

set_option maxHeartbeats 1000000 in
/-- The kernel of the cotangent's product with the later gate's weight and its reference end with equal results. -/
theorem alg_GateLT : Cert.algebraic_GateLTIdeal_GateLTRefIdeal (hGateLTIdeal := Cert.GateLTIdeal.Gen.facts) (hGateLTRefIdeal := Cert.GateLTRefIdeal.Gen.facts) := by
  pair_intro
  · run_from Cert.GateLTIdeal.Value.run_blocks m g
  · run_from Cert.GateLTRefIdeal.Value.run m' g'
    · refine Eq.trans ?_ (Cert.GateLTIdeal.Val.final m c).symm
      exact Cert.GateLTIdeal.Val.reference _ _ _ rfl

/-- The reference of the output weight's gradient runs and leaves its arguments and the counters. -/
theorem frame_DOutERefIdeal : Cert.quiescent_DOutERefIdeal (hDOutERefIdeal := Cert.DOutERefIdeal.Gen.facts) :=
  fun m g _ => (θ_run Cert.DOutERefIdeal.defs _ _).mono (fun _ h => ⟨fun c => (h c).2, sem_eq_zero_of_no_sems (sig := Cert.DOutERefIdeal.sig) rfl _⟩) (Cert.DOutERefIdeal.Value.run m g)

set_option maxHeartbeats 1000000 in
/-- The kernel of the output weight's gradient and its reference end with equal results. -/
theorem alg_DOutE : Cert.algebraic_DOutEIdeal_DOutERefIdeal (hDOutEIdeal := Cert.DOutEIdeal.Gen.facts) (hDOutERefIdeal := Cert.DOutERefIdeal.Gen.facts) := by
  pair_intro
  · run_from Cert.DOutEIdeal.Value.run_blocks m g
  · run_from Cert.DOutERefIdeal.Value.run m' g'
    · refine Eq.trans ?_ (Cert.DOutEIdeal.Val.final m c).symm
      exact (Cert.DOutEIdeal.Val.reference _ _ _ _ _ rfl).trans (congrArg (fun (b : FVec Ideal Cert.DOutEIdeal.S4x5120x2048 .bf16) (y : Cert.DOutEIdeal.S4x5120x2048.Idx) =>
        Cert.DOutEIdeal.Val.entry (m ((c.tc : Thread Cert.DOutEIdeal.nD Cert.DOutEIdeal.τ).loc Cert.DOutEIdeal.main_arg0)) (m ((c.tc : Thread Cert.DOutEIdeal.nD Cert.DOutEIdeal.τ).loc Cert.DOutEIdeal.main_arg1)) b (y 0) (y 1) (y 2)) (hagree c).2.2)

/-- The reference of the later output weight's gradient runs and leaves its arguments and the counters. -/
theorem frame_DOutORefIdeal : Cert.quiescent_DOutORefIdeal (hDOutORefIdeal := Cert.DOutORefIdeal.Gen.facts) :=
  fun m g _ => (θ_run Cert.DOutORefIdeal.defs _ _).mono (fun _ h => ⟨fun c => (h c).2, sem_eq_zero_of_no_sems (sig := Cert.DOutORefIdeal.sig) rfl _⟩) (Cert.DOutORefIdeal.Value.run m g)

set_option maxHeartbeats 1000000 in
/-- The kernel of the later output weight's gradient and its reference end with equal results. -/
theorem alg_DOutO : Cert.algebraic_DOutOIdeal_DOutORefIdeal (hDOutOIdeal := Cert.DOutOIdeal.Gen.facts) (hDOutORefIdeal := Cert.DOutORefIdeal.Gen.facts) := by
  pair_intro
  · run_from Cert.DOutOIdeal.Value.run_blocks m g
  · run_from Cert.DOutORefIdeal.Value.run m' g'
    · refine Eq.trans ?_ (Cert.DOutOIdeal.Val.final m c).symm
      exact (Cert.DOutOIdeal.Val.reference _ _ _ _ _ rfl).trans (congrArg (fun (b : FVec Ideal Cert.DOutOIdeal.S4x5632x2048 .bf16) (y : Cert.DOutOIdeal.S4x5632x2048.Idx) =>
        Cert.DOutOIdeal.Val.entry (m ((c.tc : Thread Cert.DOutOIdeal.nD Cert.DOutOIdeal.τ).loc Cert.DOutOIdeal.main_arg0)) (m ((c.tc : Thread Cert.DOutOIdeal.nD Cert.DOutOIdeal.τ).loc Cert.DOutOIdeal.main_arg1)) b (y 0) (y 1) (y 2)) (hagree c).2.2)

/-- The reference of the glu weight's gradient runs and leaves its arguments and the counters. -/
theorem frame_DGluRefIdeal : Cert.quiescent_DGluRefIdeal (hDGluRefIdeal := Cert.DGluRefIdeal.Gen.facts) :=
  fun m g _ => (θ_run Cert.DGluRefIdeal.defs _ _).mono (fun _ h => ⟨fun c => (h c).2, sem_eq_zero_of_no_sems (sig := Cert.DGluRefIdeal.sig) rfl _⟩) (Cert.DGluRefIdeal.Value.run m g)

set_option maxHeartbeats 1000000 in
/-- The kernel of the glu weight's gradient and its reference end with equal results. -/
theorem alg_DGlu : Cert.algebraic_DGluIdeal_DGluRefIdeal (hDGluIdeal := Cert.DGluIdeal.Gen.facts) (hDGluRefIdeal := Cert.DGluRefIdeal.Gen.facts) := by
  pair_intro
  · run_from Cert.DGluIdeal.Value.run_blocks m g
  · run_from Cert.DGluRefIdeal.Value.run m' g'
    · refine Eq.trans ?_ (Cert.DGluIdeal.Val.final m c).symm
      exact (Cert.DGluIdeal.Val.reference _ _ _ _ _ rfl).trans (congrArg (fun (b : FVec Ideal Cert.DGluIdeal.S4x5632x2048 .bf16) (y : Cert.DGluIdeal.S4x5632x2048.Idx) =>
        Cert.DGluIdeal.Val.entry (m ((c.tc : Thread Cert.DGluIdeal.nD Cert.DGluIdeal.τ).loc Cert.DGluIdeal.main_arg0)) (m ((c.tc : Thread Cert.DGluIdeal.nD Cert.DGluIdeal.τ).loc Cert.DGluIdeal.main_arg1)) b (y 0) (y 1) (y 2)) (hagree c).2.2)

/-- The reference of the gate weight's gradient runs and leaves its arguments and the counters. -/
theorem frame_DGateRefIdeal : Cert.quiescent_DGateRefIdeal (hDGateRefIdeal := Cert.DGateRefIdeal.Gen.facts) :=
  fun m g _ => (θ_run Cert.DGateRefIdeal.defs _ _).mono (fun _ h => ⟨fun c => (h c).2, sem_eq_zero_of_no_sems (sig := Cert.DGateRefIdeal.sig) rfl _⟩) (Cert.DGateRefIdeal.Value.run m g)

set_option maxHeartbeats 1000000 in
/-- The kernel of the gate weight's gradient and its reference end with equal results. -/
theorem alg_DGate : Cert.algebraic_DGateIdeal_DGateRefIdeal (hDGateIdeal := Cert.DGateIdeal.Gen.facts) (hDGateRefIdeal := Cert.DGateRefIdeal.Gen.facts) := by
  pair_intro
  · run_from Cert.DGateIdeal.Value.run_blocks m g
  · run_from Cert.DGateRefIdeal.Value.run m' g'
    · refine Eq.trans ?_ (Cert.DGateIdeal.Val.final m c).symm
      exact (Cert.DGateIdeal.Val.reference _ _ _ _ _ rfl).trans (congrArg (fun (b : FVec Ideal Cert.DGateIdeal.S4x5120x2048 .bf16) (y : Cert.DGateIdeal.S4x5120x2048.Idx) =>
        Cert.DGateIdeal.Val.entry (m ((c.tc : Thread Cert.DGateIdeal.nD Cert.DGateIdeal.τ).loc Cert.DGateIdeal.main_arg0)) (m ((c.tc : Thread Cert.DGateIdeal.nD Cert.DGateIdeal.τ).loc Cert.DGateIdeal.main_arg1)) b (y 0) (y 1) (y 2)) (hagree c).2.2)

/-- The reference of the later gate weight's gradient runs and leaves its arguments and the counters. -/
theorem frame_DGateLRefIdeal : Cert.quiescent_DGateLRefIdeal (hDGateLRefIdeal := Cert.DGateLRefIdeal.Gen.facts) :=
  fun m g _ => (θ_run Cert.DGateLRefIdeal.defs _ _).mono (fun _ h => ⟨fun c => (h c).2, sem_eq_zero_of_no_sems (sig := Cert.DGateLRefIdeal.sig) rfl _⟩) (Cert.DGateLRefIdeal.Value.run m g)

set_option maxHeartbeats 1000000 in
/-- The kernel of the later gate weight's gradient and its reference end with equal results. -/
theorem alg_DGateL : Cert.algebraic_DGateLIdeal_DGateLRefIdeal (hDGateLIdeal := Cert.DGateLIdeal.Gen.facts) (hDGateLRefIdeal := Cert.DGateLRefIdeal.Gen.facts) := by
  pair_intro
  · run_from Cert.DGateLIdeal.Value.run_blocks m g
  · run_from Cert.DGateLRefIdeal.Value.run m' g'
    · refine Eq.trans ?_ (Cert.DGateLIdeal.Val.final m c).symm
      exact (Cert.DGateLIdeal.Val.reference _ _ _ _ _ rfl).trans (congrArg (fun (b : FVec Ideal Cert.DGateLIdeal.S4x5632x2048 .bf16) (y : Cert.DGateLIdeal.S4x5632x2048.Idx) =>
        Cert.DGateLIdeal.Val.entry (m ((c.tc : Thread Cert.DGateLIdeal.nD Cert.DGateLIdeal.τ).loc Cert.DGateLIdeal.main_arg0)) (m ((c.tc : Thread Cert.DGateLIdeal.nD Cert.DGateLIdeal.τ).loc Cert.DGateLIdeal.main_arg1)) b (y 0) (y 1) (y 2)) (hagree c).2.2)

/-- The reference of the gated embedding and its gate runs and leaves its arguments and the counters. -/
theorem frame_GateRefIdeal : Cert.quiescent_GateRefIdeal (hGateRefIdeal := Cert.GateRefIdeal.Gen.facts) :=
  fun m g _ => (θ_run Cert.GateRefIdeal.defs _ _).mono (fun _ h => ⟨fun c => (h c).2.2, sem_eq_zero_of_no_sems (sig := Cert.GateRefIdeal.sig) rfl _⟩) (Cert.GateRefIdeal.Value.run m g)

set_option maxHeartbeats 1000000 in
/-- The kernel of the gated embedding and its gate and its reference end with equal results. -/
theorem alg_Gate : Cert.algebraic_GateIdeal_GateRefIdeal (hGateIdeal := Cert.GateIdeal.Gen.facts) (hGateRefIdeal := Cert.GateRefIdeal.Gen.facts) := by
  pair_intro
  · run_from Cert.GateIdeal.Value.run_blocks m g
  · run_from Cert.GateRefIdeal.Value.run m' g'
    · refine Eq.trans ?_ (Cert.GateIdeal.Val.final m c).symm
      exact Cert.GateIdeal.Val.reference _ _ _ _ _ _ rfl
    · refine Eq.trans ?_ (Cert.GateIdeal.Val.final2 m c).symm
      exact Cert.GateIdeal.Val.reference2 _ _ _ rfl

/-- The reference of the later gated embedding and its gate runs and leaves its arguments and the counters. -/
theorem frame_GateLRefIdeal : Cert.quiescent_GateLRefIdeal (hGateLRefIdeal := Cert.GateLRefIdeal.Gen.facts) :=
  fun m g _ => (θ_run Cert.GateLRefIdeal.defs _ _).mono (fun _ h => ⟨fun c => (h c).2.2, sem_eq_zero_of_no_sems (sig := Cert.GateLRefIdeal.sig) rfl _⟩) (Cert.GateLRefIdeal.Value.run m g)

set_option maxHeartbeats 1000000 in
/-- The kernel of the later gated embedding and its gate and its reference end with equal results. -/
theorem alg_GateL : Cert.algebraic_GateLIdeal_GateLRefIdeal (hGateLIdeal := Cert.GateLIdeal.Gen.facts) (hGateLRefIdeal := Cert.GateLRefIdeal.Gen.facts) := by
  pair_intro
  · run_from Cert.GateLIdeal.Value.run_blocks m g
  · run_from Cert.GateLRefIdeal.Value.run m' g'
    · refine Eq.trans ?_ (Cert.GateLIdeal.Val.final m c).symm
      exact Cert.GateLIdeal.Val.reference _ _ _ _ _ _ rfl
    · refine Eq.trans ?_ (Cert.GateLIdeal.Val.final2 m c).symm
      exact Cert.GateLIdeal.Val.reference2 _ _ _ rfl

/-- The reference of the glu's product and its gate runs and leaves its arguments and the counters. -/
theorem frame_GluRefIdeal : Cert.quiescent_GluRefIdeal (hGluRefIdeal := Cert.GluRefIdeal.Gen.facts) :=
  fun m g _ => (θ_run Cert.GluRefIdeal.defs _ _).mono (fun _ h => ⟨fun c => (h c).2.2, sem_eq_zero_of_no_sems (sig := Cert.GluRefIdeal.sig) rfl _⟩) (Cert.GluRefIdeal.Value.run m g)

set_option maxHeartbeats 1000000 in
/-- The kernel of the glu's product and its gate and its reference end with equal results. -/
theorem alg_Glu : Cert.algebraic_GluIdeal_GluRefIdeal (hGluIdeal := Cert.GluIdeal.Gen.facts) (hGluRefIdeal := Cert.GluRefIdeal.Gen.facts) := by
  pair_intro
  · run_from Cert.GluIdeal.Value.run_blocks m g
  · run_from Cert.GluRefIdeal.Value.run m' g'
    · refine Eq.trans ?_ (Cert.GluIdeal.Val.final m c).symm
      exact Cert.GluIdeal.Val.reference _ _ _ _ _ _ _ rfl
    · refine Eq.trans ?_ (Cert.GluIdeal.Val.final2 m c).symm
      exact Cert.GluIdeal.Val.reference2 _ _ _ _ _ rfl

/-- The reference of the smooth gate's cotangent runs and leaves its arguments and the counters. -/
theorem frame_GluTRefIdeal : Cert.quiescent_GluTRefIdeal (hGluTRefIdeal := Cert.GluTRefIdeal.Gen.facts) :=
  fun m g _ => (θ_run Cert.GluTRefIdeal.defs _ _).mono (fun _ h => ⟨fun c => (h c).2, sem_eq_zero_of_no_sems (sig := Cert.GluTRefIdeal.sig) rfl _⟩) (Cert.GluTRefIdeal.Value.run m g)

set_option maxHeartbeats 1000000 in
/-- The kernel of the smooth gate's cotangent and its reference end with equal results. -/
theorem alg_GluT : Cert.algebraic_GluTIdeal_GluTRefIdeal (hGluTIdeal := Cert.GluTIdeal.Gen.facts) (hGluTRefIdeal := Cert.GluTRefIdeal.Gen.facts) := by
  pair_intro
  · run_from Cert.GluTIdeal.Value.run_blocks m g
  · run_from Cert.GluTRefIdeal.Value.run m' g'
    · refine Eq.trans ?_ (Cert.GluTIdeal.Val.final m c).symm
      exact (Cert.GluTIdeal.Val.reference _ _ _ _ _ _ _ _ _ rfl rfl rfl rfl : Cert.GluTRefIdeal.Value.res_main_v39 m' c = _).trans
        (congr (congr (congr (congrArg (fun (a : FVec Ideal Cert.GluTIdeal.S4096x2048 .bf16) (w : FVec Ideal Cert.GluTIdeal.S4x5632x2048 .bf16) (g u : FVec Ideal Cert.GluTIdeal.S4096x2048 .f32) (y : Cert.GluTIdeal.S4096x2048.Idx) =>
          Cert.GluTIdeal.Val.entry a w g u (y 0) (y 1)) (hagree c).1) (hagree c).2.1) (hagree c).2.2.1) (hagree c).2.2.2)

/-- The claims about the gradients of the short convolution and of the scan, and about the products of the feed-forwards, of the projections, of glu and of the gates with their gradients. -/
theorem claim : Cert.Claim := ⟨Cert.Conv.Gen.facts, Cert.ConvIdeal.Gen.facts, Cert.ConvRefIdeal.Gen.facts, Cert.S5.Gen.facts, Cert.S5Ideal.Gen.facts, Cert.S5RefIdeal.Gen.facts,
  Cert.Down.Gen.facts, Cert.DownIdeal.Gen.facts, Cert.DownRefIdeal.Gen.facts,
  Cert.DDown.Gen.facts, Cert.DDownIdeal.Gen.facts, Cert.DDownRefIdeal.Gen.facts,
  Cert.DUp.Gen.facts, Cert.DUpIdeal.Gen.facts, Cert.DUpRefIdeal.Gen.facts,
  Cert.Up.Gen.facts, Cert.UpIdeal.Gen.facts, Cert.UpRefIdeal.Gen.facts,
  Cert.InT.Gen.facts, Cert.InTIdeal.Gen.facts, Cert.InTRefIdeal.Gen.facts,
  Cert.DIn.Gen.facts, Cert.DInIdeal.Gen.facts, Cert.DInRefIdeal.Gen.facts,
  Cert.UpF.Gen.facts, Cert.UpFIdeal.Gen.facts, Cert.UpFRefIdeal.Gen.facts,
  Cert.DownF.Gen.facts, Cert.DownFIdeal.Gen.facts, Cert.DownFRefIdeal.Gen.facts,
  Cert.InP.Gen.facts, Cert.InPIdeal.Gen.facts, Cert.InPRefIdeal.Gen.facts,
  Cert.DownL.Gen.facts, Cert.DownLIdeal.Gen.facts, Cert.DownLRefIdeal.Gen.facts,
  Cert.DDownL.Gen.facts, Cert.DDownLIdeal.Gen.facts, Cert.DDownLRefIdeal.Gen.facts,
  Cert.DUpL.Gen.facts, Cert.DUpLIdeal.Gen.facts, Cert.DUpLRefIdeal.Gen.facts,
  Cert.UpL.Gen.facts, Cert.UpLIdeal.Gen.facts, Cert.UpLRefIdeal.Gen.facts,
  Cert.UpFL.Gen.facts, Cert.UpFLIdeal.Gen.facts, Cert.UpFLRefIdeal.Gen.facts,
  Cert.DownFL.Gen.facts, Cert.DownFLIdeal.Gen.facts, Cert.DownFLRefIdeal.Gen.facts,
  Cert.OutE.Gen.facts, Cert.OutEIdeal.Gen.facts, Cert.OutERefIdeal.Gen.facts,
  Cert.OutO.Gen.facts, Cert.OutOIdeal.Gen.facts, Cert.OutORefIdeal.Gen.facts,
  Cert.OutET.Gen.facts, Cert.OutETIdeal.Gen.facts, Cert.OutETRefIdeal.Gen.facts,
  Cert.OutOT.Gen.facts, Cert.OutOTIdeal.Gen.facts, Cert.OutOTRefIdeal.Gen.facts,
  Cert.GateT.Gen.facts, Cert.GateTIdeal.Gen.facts, Cert.GateTRefIdeal.Gen.facts,
  Cert.GateLT.Gen.facts, Cert.GateLTIdeal.Gen.facts, Cert.GateLTRefIdeal.Gen.facts,
  Cert.DOutE.Gen.facts, Cert.DOutEIdeal.Gen.facts, Cert.DOutERefIdeal.Gen.facts,
  Cert.DOutO.Gen.facts, Cert.DOutOIdeal.Gen.facts, Cert.DOutORefIdeal.Gen.facts,
  Cert.DGlu.Gen.facts, Cert.DGluIdeal.Gen.facts, Cert.DGluRefIdeal.Gen.facts,
  Cert.DGate.Gen.facts, Cert.DGateIdeal.Gen.facts, Cert.DGateRefIdeal.Gen.facts,
  Cert.DGateL.Gen.facts, Cert.DGateLIdeal.Gen.facts, Cert.DGateLRefIdeal.Gen.facts,
  Cert.Gate.Gen.facts, Cert.GateIdeal.Gen.facts, Cert.GateRefIdeal.Gen.facts,
  Cert.GateL.Gen.facts, Cert.GateLIdeal.Gen.facts, Cert.GateLRefIdeal.Gen.facts,
  Cert.Glu.Gen.facts, Cert.GluIdeal.Gen.facts, Cert.GluRefIdeal.Gen.facts,
  Cert.GluT.Gen.facts, Cert.GluTIdeal.Gen.facts, Cert.GluTRefIdeal.Gen.facts,
  Cert.Pre_finite.Gen.facts,
  fun m ρ _ => Cert.Conv.Gen.frame m ρ, fun m ρ _ => Cert.ConvIdeal.Gen.frame m ρ, frame_ConvRefIdeal,
  frame_S5, frame_S5Ideal, frame_S5Ideal_finite, frame_S5RefIdeal, frame_S5RefIdeal_finite,
  fun m ρ _ => Cert.Down.Gen.frame m ρ, fun m ρ _ => Cert.DownIdeal.Gen.frame m ρ, frame_DownRefIdeal,
  fun m ρ _ => Cert.DDown.Gen.frame m ρ, fun m ρ _ => Cert.DDownIdeal.Gen.frame m ρ, frame_DDownRefIdeal,
  fun m ρ _ => Cert.DUp.Gen.frame m ρ, fun m ρ _ => Cert.DUpIdeal.Gen.frame m ρ, frame_DUpRefIdeal,
  fun m ρ _ => Cert.Up.Gen.frame m ρ, fun m ρ _ => Cert.UpIdeal.Gen.frame m ρ, frame_UpRefIdeal,
  fun m ρ _ => Cert.InT.Gen.frame m ρ, fun m ρ _ => Cert.InTIdeal.Gen.frame m ρ, frame_InTRefIdeal,
  fun m ρ _ => Cert.DIn.Gen.frame m ρ, fun m ρ _ => Cert.DInIdeal.Gen.frame m ρ, frame_DInRefIdeal,
  fun m ρ _ => Cert.UpF.Gen.frame m ρ, fun m ρ _ => Cert.UpFIdeal.Gen.frame m ρ, frame_UpFRefIdeal,
  fun m ρ _ => Cert.DownF.Gen.frame m ρ, fun m ρ _ => Cert.DownFIdeal.Gen.frame m ρ, frame_DownFRefIdeal,
  fun m ρ _ => Cert.InP.Gen.frame m ρ, fun m ρ _ => Cert.InPIdeal.Gen.frame m ρ, frame_InPRefIdeal,
  fun m ρ _ => Cert.DownL.Gen.frame m ρ, fun m ρ _ => Cert.DownLIdeal.Gen.frame m ρ, frame_DownLRefIdeal,
  fun m ρ _ => Cert.DDownL.Gen.frame m ρ, fun m ρ _ => Cert.DDownLIdeal.Gen.frame m ρ, frame_DDownLRefIdeal,
  fun m ρ _ => Cert.DUpL.Gen.frame m ρ, fun m ρ _ => Cert.DUpLIdeal.Gen.frame m ρ, frame_DUpLRefIdeal,
  fun m ρ _ => Cert.UpL.Gen.frame m ρ, fun m ρ _ => Cert.UpLIdeal.Gen.frame m ρ, frame_UpLRefIdeal,
  fun m ρ _ => Cert.UpFL.Gen.frame m ρ, fun m ρ _ => Cert.UpFLIdeal.Gen.frame m ρ, frame_UpFLRefIdeal,
  fun m ρ _ => Cert.DownFL.Gen.frame m ρ, fun m ρ _ => Cert.DownFLIdeal.Gen.frame m ρ, frame_DownFLRefIdeal,
  fun m ρ _ => Cert.OutE.Gen.frame m ρ, fun m ρ _ => Cert.OutEIdeal.Gen.frame m ρ, frame_OutERefIdeal,
  fun m ρ _ => Cert.OutO.Gen.frame m ρ, fun m ρ _ => Cert.OutOIdeal.Gen.frame m ρ, frame_OutORefIdeal,
  fun m ρ _ => Cert.OutET.Gen.frame m ρ, fun m ρ _ => Cert.OutETIdeal.Gen.frame m ρ, frame_OutETRefIdeal,
  fun m ρ _ => Cert.OutOT.Gen.frame m ρ, fun m ρ _ => Cert.OutOTIdeal.Gen.frame m ρ, frame_OutOTRefIdeal,
  fun m ρ _ => Cert.GateT.Gen.frame m ρ, fun m ρ _ => Cert.GateTIdeal.Gen.frame m ρ, frame_GateTRefIdeal,
  fun m ρ _ => Cert.GateLT.Gen.frame m ρ, fun m ρ _ => Cert.GateLTIdeal.Gen.frame m ρ, frame_GateLTRefIdeal,
  fun m ρ _ => Cert.DOutE.Gen.frame m ρ, fun m ρ _ => Cert.DOutEIdeal.Gen.frame m ρ, frame_DOutERefIdeal,
  fun m ρ _ => Cert.DOutO.Gen.frame m ρ, fun m ρ _ => Cert.DOutOIdeal.Gen.frame m ρ, frame_DOutORefIdeal,
  fun m ρ _ => Cert.DGlu.Gen.frame m ρ, fun m ρ _ => Cert.DGluIdeal.Gen.frame m ρ, frame_DGluRefIdeal,
  fun m ρ _ => Cert.DGate.Gen.frame m ρ, fun m ρ _ => Cert.DGateIdeal.Gen.frame m ρ, frame_DGateRefIdeal,
  fun m ρ _ => Cert.DGateL.Gen.frame m ρ, fun m ρ _ => Cert.DGateLIdeal.Gen.frame m ρ, frame_DGateLRefIdeal,
  fun m ρ _ => Cert.Gate.Gen.frame m ρ, fun m ρ _ => Cert.GateIdeal.Gen.frame m ρ, frame_GateRefIdeal,
  fun m ρ _ => Cert.GateL.Gen.frame m ρ, fun m ρ _ => Cert.GateLIdeal.Gen.frame m ρ, frame_GateLRefIdeal,
  fun m ρ _ => Cert.Glu.Gen.frame m ρ, fun m ρ _ => Cert.GluIdeal.Gen.frame m ρ, frame_GluRefIdeal,
  fun m ρ _ => Cert.GluT.Gen.frame m ρ, fun m ρ _ => Cert.GluTIdeal.Gen.frame m ρ, frame_GluTRefIdeal,
  trivial, alg_Conv, trivial, alg_S5, trivial, alg_Down, trivial, alg_DDown, trivial, alg_DUp, trivial, alg_Up, trivial, alg_InT, trivial, alg_DIn, trivial, alg_UpF, trivial, alg_DownF, trivial, alg_InP, trivial, alg_DownL, trivial, alg_DDownL, trivial, alg_DUpL, trivial, alg_UpL, trivial, alg_UpFL, trivial, alg_DownFL, trivial, alg_OutE, trivial, alg_OutO, trivial, alg_OutET, trivial, alg_OutOT, trivial, alg_GateT, trivial, alg_GateLT, trivial, alg_DOutE, trivial, alg_DOutO, trivial, alg_DGlu, trivial, alg_DGate, trivial, alg_DGateL, trivial, alg_Gate, trivial, alg_GateL, trivial, alg_Glu, trivial, alg_GluT⟩

end Cert.Proof

end
